-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_InDa (m : (ℓ : Loc Cert.InDa.nD Cert.InDa.τ Cert.InDa.sig) → Buf (Elt Bits) ℓ) : Prop :=
  True

def Pre_InDaIdeal (m : (ℓ : Loc Cert.InDaIdeal.nD Cert.InDaIdeal.τ Cert.InDaIdeal.sig) → Buf (Elt Ideal) ℓ) : Prop :=
  True

def Pre_InDaRefIdeal (m : (ℓ : Loc Cert.InDaRefIdeal.nD Cert.InDaRefIdeal.τ Cert.InDaRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_GateDa (m : (ℓ : Loc Cert.GateDa.nD Cert.GateDa.τ Cert.GateDa.sig) → Buf (Elt Bits) ℓ) : Prop :=
  True

def Pre_GateDaIdeal (m : (ℓ : Loc Cert.GateDaIdeal.nD Cert.GateDaIdeal.τ Cert.GateDaIdeal.sig) → Buf (Elt Ideal) ℓ) : Prop :=
  True

def Pre_GateDaRefIdeal (m : (ℓ : Loc Cert.GateDaRefIdeal.nD Cert.GateDaRefIdeal.τ Cert.GateDaRefIdeal.sig) → Buf (Elt Ideal) ℓ) : Prop :=
  True

def Pre_GateDw (m : (ℓ : Loc Cert.GateDw.nD Cert.GateDw.τ Cert.GateDw.sig) → Buf (Elt Bits) ℓ) : Prop :=
  True

def Pre_GateDwIdeal (m : (ℓ : Loc Cert.GateDwIdeal.nD Cert.GateDwIdeal.τ Cert.GateDwIdeal.sig) → Buf (Elt Ideal) ℓ) : Prop :=
  True

def Pre_GateDwRefIdeal (m : (ℓ : Loc Cert.GateDwRefIdeal.nD Cert.GateDwRefIdeal.τ Cert.GateDwRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_DownDa (m : (ℓ : Loc Cert.DownDa.nD Cert.DownDa.τ Cert.DownDa.sig) → Buf (Elt Bits) ℓ) : Prop :=
  True

def Pre_DownDaIdeal (m : (ℓ : Loc Cert.DownDaIdeal.nD Cert.DownDaIdeal.τ Cert.DownDaIdeal.sig) → Buf (Elt Ideal) ℓ) : Prop :=
  True

def Pre_DownDaRefIdeal (m : (ℓ : Loc Cert.DownDaRefIdeal.nD Cert.DownDaRefIdeal.τ Cert.DownDaRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_OutDa (m : (ℓ : Loc Cert.OutDa.nD Cert.OutDa.τ Cert.OutDa.sig) → Buf (Elt Bits) ℓ) : Prop :=
  True

def Pre_OutDaIdeal (m : (ℓ : Loc Cert.OutDaIdeal.nD Cert.OutDaIdeal.τ Cert.OutDaIdeal.sig) → Buf (Elt Ideal) ℓ) : Prop :=
  True

def Pre_OutDaRefIdeal (m : (ℓ : Loc Cert.OutDaRefIdeal.nD Cert.OutDaRefIdeal.τ Cert.OutDaRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_BranchFwd (m : (ℓ : Loc Cert.BranchFwd.nD Cert.BranchFwd.τ Cert.BranchFwd.sig) → Buf (Elt Bits) ℓ) : Prop :=
  True

def Pre_BranchFwdIdeal (m : (ℓ : Loc Cert.BranchFwdIdeal.nD Cert.BranchFwdIdeal.τ Cert.BranchFwdIdeal.sig) → Buf (Elt Ideal) ℓ) : Prop :=
  True

def Pre_BranchFwdRefIdeal (m : (ℓ : Loc Cert.BranchFwdRefIdeal.nD Cert.BranchFwdRefIdeal.τ Cert.BranchFwdRefIdeal.sig) → Buf (Elt Ideal) ℓ) : Prop :=
  True

def Pre_BranchDa (m : (ℓ : Loc Cert.BranchDa.nD Cert.BranchDa.τ Cert.BranchDa.sig) → Buf (Elt Bits) ℓ) : Prop :=
  True

def Pre_BranchDaIdeal (m : (ℓ : Loc Cert.BranchDaIdeal.nD Cert.BranchDaIdeal.τ Cert.BranchDaIdeal.sig) → Buf (Elt Ideal) ℓ) : Prop :=
  True

def Pre_BranchDaRefIdeal (m : (ℓ : Loc Cert.BranchDaRefIdeal.nD Cert.BranchDaRefIdeal.τ Cert.BranchDaRefIdeal.sig) → Buf (Elt Ideal) ℓ) : Prop :=
  True

def Pre_BranchDw (m : (ℓ : Loc Cert.BranchDw.nD Cert.BranchDw.τ Cert.BranchDw.sig) → Buf (Elt Bits) ℓ) : Prop :=
  True

def Pre_BranchDwIdeal (m : (ℓ : Loc Cert.BranchDwIdeal.nD Cert.BranchDwIdeal.τ Cert.BranchDwIdeal.sig) → Buf (Elt Ideal) ℓ) : Prop :=
  True

def Pre_BranchDwRefIdeal (m : (ℓ : Loc Cert.BranchDwRefIdeal.nD Cert.BranchDwRefIdeal.τ Cert.BranchDwRefIdeal.sig) → Buf (Elt Ideal) ℓ) : Prop :=
  True

def Pre_UqFwd (m : (ℓ : Loc Cert.UqFwd.nD Cert.UqFwd.τ Cert.UqFwd.sig) → Buf (Elt Bits) ℓ) : Prop :=
  True

def Pre_UqFwdIdeal (m : (ℓ : Loc Cert.UqFwdIdeal.nD Cert.UqFwdIdeal.τ Cert.UqFwdIdeal.sig) → Buf (Elt Ideal) ℓ) : Prop :=
  True

def Pre_UqFwdRefIdeal (m : (ℓ : Loc Cert.UqFwdRefIdeal.nD Cert.UqFwdRefIdeal.τ Cert.UqFwdRefIdeal.sig) → Buf (Elt Ideal) ℓ) : Prop :=
  True

def Pre_UqDa (m : (ℓ : Loc Cert.UqDa.nD Cert.UqDa.τ Cert.UqDa.sig) → Buf (Elt Bits) ℓ) : Prop :=
  True

def Pre_UqDaIdeal (m : (ℓ : Loc Cert.UqDaIdeal.nD Cert.UqDaIdeal.τ Cert.UqDaIdeal.sig) → Buf (Elt Ideal) ℓ) : Prop :=
  True

def Pre_UqDaRefIdeal (m : (ℓ : Loc Cert.UqDaRefIdeal.nD Cert.UqDaRefIdeal.τ Cert.UqDaRefIdeal.sig) → Buf (Elt Ideal) ℓ) : Prop :=
  True

def Pre_UqDw (m : (ℓ : Loc Cert.UqDw.nD Cert.UqDw.τ Cert.UqDw.sig) → Buf (Elt Bits) ℓ) : Prop :=
  True

def Pre_UqDwIdeal (m : (ℓ : Loc Cert.UqDwIdeal.nD Cert.UqDwIdeal.τ Cert.UqDwIdeal.sig) → Buf (Elt Ideal) ℓ) : Prop :=
  True

def Pre_UqDwRefIdeal (m : (ℓ : Loc Cert.UqDwRefIdeal.nD Cert.UqDwRefIdeal.τ Cert.UqDwRefIdeal.sig) → Buf (Elt Ideal) ℓ) : Prop :=
  True

def Pre_UkvFwd (m : (ℓ : Loc Cert.UkvFwd.nD Cert.UkvFwd.τ Cert.UkvFwd.sig) → Buf (Elt Bits) ℓ) : Prop :=
  True

def Pre_UkvFwdIdeal (m : (ℓ : Loc Cert.UkvFwdIdeal.nD Cert.UkvFwdIdeal.τ Cert.UkvFwdIdeal.sig) → Buf (Elt Ideal) ℓ) : Prop :=
  True

def Pre_UkvFwdRefIdeal (m : (ℓ : Loc Cert.UkvFwdRefIdeal.nD Cert.UkvFwdRefIdeal.τ Cert.UkvFwdRefIdeal.sig) → Buf (Elt Ideal) ℓ) : Prop :=
  True

def Pre_UkvDa (m : (ℓ : Loc Cert.UkvDa.nD Cert.UkvDa.τ Cert.UkvDa.sig) → Buf (Elt Bits) ℓ) : Prop :=
  True

def Pre_UkvDaIdeal (m : (ℓ : Loc Cert.UkvDaIdeal.nD Cert.UkvDaIdeal.τ Cert.UkvDaIdeal.sig) → Buf (Elt Ideal) ℓ) : Prop :=
  True

def Pre_UkvDaRefIdeal (m : (ℓ : Loc Cert.UkvDaRefIdeal.nD Cert.UkvDaRefIdeal.τ Cert.UkvDaRefIdeal.sig) → Buf (Elt Ideal) ℓ) : Prop :=
  True

def Pre_UkvDw (m : (ℓ : Loc Cert.UkvDw.nD Cert.UkvDw.τ Cert.UkvDw.sig) → Buf (Elt Bits) ℓ) : Prop :=
  True

def Pre_UkvDwIdeal (m : (ℓ : Loc Cert.UkvDwIdeal.nD Cert.UkvDwIdeal.τ Cert.UkvDwIdeal.sig) → Buf (Elt Ideal) ℓ) : Prop :=
  True

def Pre_UkvDwRefIdeal (m : (ℓ : Loc Cert.UkvDwRefIdeal.nD Cert.UkvDwRefIdeal.τ Cert.UkvDwRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamUq (m : (ℓ : Loc Cert.AdamUq.nD Cert.AdamUq.τ Cert.AdamUq.sig) → Buf (Elt Bits) ℓ) : Prop :=
  True

def Pre_AdamUqIdeal (m : (ℓ : Loc Cert.AdamUqIdeal.nD Cert.AdamUqIdeal.τ Cert.AdamUqIdeal.sig) → Buf (Elt Ideal) ℓ) : Prop :=
  True

def Pre_AdamUqRefIdeal (m : (ℓ : Loc Cert.AdamUqRefIdeal.nD Cert.AdamUqRefIdeal.τ Cert.AdamUqRefIdeal.sig) → Buf (Elt Ideal) ℓ) : Prop :=
  True

def Pre_AdamUkv (m : (ℓ : Loc Cert.AdamUkv.nD Cert.AdamUkv.τ Cert.AdamUkv.sig) → Buf (Elt Bits) ℓ) : Prop :=
  True

def Pre_AdamUkvIdeal (m : (ℓ : Loc Cert.AdamUkvIdeal.nD Cert.AdamUkvIdeal.τ Cert.AdamUkvIdeal.sig) → Buf (Elt Ideal) ℓ) : Prop :=
  True

def Pre_AdamUkvRefIdeal (m : (ℓ : Loc Cert.AdamUkvRefIdeal.nD Cert.AdamUkvRefIdeal.τ Cert.AdamUkvRefIdeal.sig) → Buf (Elt Ideal) ℓ) : Prop :=
  True

def Pre_AdamLru (m : (ℓ : Loc Cert.AdamLru.nD Cert.AdamLru.τ Cert.AdamLru.sig) → Buf (Elt Bits) ℓ) : Prop :=
  True

def Pre_AdamLruIdeal (m : (ℓ : Loc Cert.AdamLruIdeal.nD Cert.AdamLruIdeal.τ Cert.AdamLruIdeal.sig) → Buf (Elt Ideal) ℓ) : Prop :=
  True

def Pre_AdamLruRefIdeal (m : (ℓ : Loc Cert.AdamLruRefIdeal.nD Cert.AdamLruRefIdeal.τ Cert.AdamLruRefIdeal.sig) → Buf (Elt Ideal) ℓ) : Prop :=
  True

def Pre_AdamGdn (m : (ℓ : Loc Cert.AdamGdn.nD Cert.AdamGdn.τ Cert.AdamGdn.sig) → Buf (Elt Bits) ℓ) : Prop :=
  True

def Pre_AdamGdnIdeal (m : (ℓ : Loc Cert.AdamGdnIdeal.nD Cert.AdamGdnIdeal.τ Cert.AdamGdnIdeal.sig) → Buf (Elt Ideal) ℓ) : Prop :=
  True

def Pre_AdamGdnRefIdeal (m : (ℓ : Loc Cert.AdamGdnRefIdeal.nD Cert.AdamGdnRefIdeal.τ Cert.AdamGdnRefIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_AdamBranchRefIdeal (m : (ℓ : Loc Cert.AdamBranchRefIdeal.nD Cert.AdamBranchRefIdeal.τ Cert.AdamBranchRefIdeal.sig) → Buf (Elt Ideal) ℓ) : Prop :=
  True

def Pre_AdamBias (m : (ℓ : Loc Cert.AdamBias.nD Cert.AdamBias.τ Cert.AdamBias.sig) → Buf (Elt Bits) ℓ) : Prop :=
  True

def Pre_AdamBiasIdeal (m : (ℓ : Loc Cert.AdamBiasIdeal.nD Cert.AdamBiasIdeal.τ Cert.AdamBiasIdeal.sig) → Buf (Elt Ideal) ℓ) : Prop :=
  True

def Pre_AdamBiasRefIdeal (m : (ℓ : Loc Cert.AdamBiasRefIdeal.nD Cert.AdamBiasRefIdeal.τ Cert.AdamBiasRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamRep (m : (ℓ : Loc Cert.AdamRep.nD Cert.AdamRep.τ Cert.AdamRep.sig) → Buf (Elt Bits) ℓ) : Prop :=
  True

def Pre_AdamRepIdeal (m : (ℓ : Loc Cert.AdamRepIdeal.nD Cert.AdamRepIdeal.τ Cert.AdamRepIdeal.sig) → Buf (Elt Ideal) ℓ) : Prop :=
  True

def Pre_AdamRepRefIdeal (m : (ℓ : Loc Cert.AdamRepRefIdeal.nD Cert.AdamRepRefIdeal.τ Cert.AdamRepRefIdeal.sig) → Buf (Elt Ideal) ℓ) : Prop :=
  True

def Pre_RepSum (m : (ℓ : Loc Cert.RepSum.nD Cert.RepSum.τ Cert.RepSum.sig) → Buf (Elt Bits) ℓ) : Prop :=
  True

def Pre_RepSumIdeal (m : (ℓ : Loc Cert.RepSumIdeal.nD Cert.RepSumIdeal.τ Cert.RepSumIdeal.sig) → Buf (Elt Ideal) ℓ) : Prop :=
  True

def Pre_RepSumRefIdeal (m : (ℓ : Loc Cert.RepSumRefIdeal.nD Cert.RepSumRefIdeal.τ Cert.RepSumRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_LoraFwd (m : (ℓ : Loc Cert.LoraFwd.nD Cert.LoraFwd.τ Cert.LoraFwd.sig) → Buf (Elt Bits) ℓ) : Prop :=
  True

def Pre_LoraFwdIdeal (m : (ℓ : Loc Cert.LoraFwdIdeal.nD Cert.LoraFwdIdeal.τ Cert.LoraFwdIdeal.sig) → Buf (Elt Ideal) ℓ) : Prop :=
  True

def Pre_LoraFwdRefIdeal (m : (ℓ : Loc Cert.LoraFwdRefIdeal.nD Cert.LoraFwdRefIdeal.τ Cert.LoraFwdRefIdeal.sig) → Buf (Elt Ideal) ℓ) : Prop :=
  True

def Pre_LoraBwd (m : (ℓ : Loc Cert.LoraBwd.nD Cert.LoraBwd.τ Cert.LoraBwd.sig) → Buf (Elt Bits) ℓ) : Prop :=
  True

def Pre_LoraBwdIdeal (m : (ℓ : Loc Cert.LoraBwdIdeal.nD Cert.LoraBwdIdeal.τ Cert.LoraBwdIdeal.sig) → Buf (Elt Ideal) ℓ) : Prop :=
  True

def Pre_LoraBwdRefIdeal (m : (ℓ : Loc Cert.LoraBwdRefIdeal.nD Cert.LoraBwdRefIdeal.τ Cert.LoraBwdRefIdeal.sig) → Buf (Elt Ideal) ℓ) : Prop :=
  True

def Pre_SwigluFwd (m : (ℓ : Loc Cert.SwigluFwd.nD Cert.SwigluFwd.τ Cert.SwigluFwd.sig) → Buf (Elt Bits) ℓ) : Prop :=
  True

def Pre_SwigluFwdIdeal (m : (ℓ : Loc Cert.SwigluFwdIdeal.nD Cert.SwigluFwdIdeal.τ Cert.SwigluFwdIdeal.sig) → Buf (Elt Ideal) ℓ) : Prop :=
  True

def Pre_SwigluFwdRefIdeal (m : (ℓ : Loc Cert.SwigluFwdRefIdeal.nD Cert.SwigluFwdRefIdeal.τ Cert.SwigluFwdRefIdeal.sig) → Buf (Elt Ideal) ℓ) : Prop :=
  True

def Pre_SwigluBwd (m : (ℓ : Loc Cert.SwigluBwd.nD Cert.SwigluBwd.τ Cert.SwigluBwd.sig) → Buf (Elt Bits) ℓ) : Prop :=
  True

def Pre_SwigluBwdIdeal (m : (ℓ : Loc Cert.SwigluBwdIdeal.nD Cert.SwigluBwdIdeal.τ Cert.SwigluBwdIdeal.sig) → Buf (Elt Ideal) ℓ) : Prop :=
  True

def Pre_SwigluBwdRefIdeal (m : (ℓ : Loc Cert.SwigluBwdRefIdeal.nD Cert.SwigluBwdRefIdeal.τ Cert.SwigluBwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_LruOutFwd (m : (ℓ : Loc Cert.LruOutFwd.nD Cert.LruOutFwd.τ Cert.LruOutFwd.sig) → Buf (Elt Bits) ℓ) : Prop :=
  True

def Pre_LruOutFwdIdeal (m : (ℓ : Loc Cert.LruOutFwdIdeal.nD Cert.LruOutFwdIdeal.τ Cert.LruOutFwdIdeal.sig) → Buf (Elt Ideal) ℓ) : Prop :=
  True

def Pre_LruOutFwdRefIdeal (m : (ℓ : Loc Cert.LruOutFwdRefIdeal.nD Cert.LruOutFwdRefIdeal.τ Cert.LruOutFwdRefIdeal.sig) → Buf (Elt Ideal) ℓ) : Prop :=
  True

def Pre_LruOutBwd (m : (ℓ : Loc Cert.LruOutBwd.nD Cert.LruOutBwd.τ Cert.LruOutBwd.sig) → Buf (Elt Bits) ℓ) : Prop :=
  True

def Pre_LruOutBwdIdeal (m : (ℓ : Loc Cert.LruOutBwdIdeal.nD Cert.LruOutBwdIdeal.τ Cert.LruOutBwdIdeal.sig) → Buf (Elt Ideal) ℓ) : Prop :=
  True

def Pre_LruOutBwdRefIdeal (m : (ℓ : Loc Cert.LruOutBwdRefIdeal.nD Cert.LruOutBwdRefIdeal.τ Cert.LruOutBwdRefIdeal.sig) → Buf (Elt Ideal) ℓ) : Prop :=
  True

def Pre_GdnPreFwd (m : (ℓ : Loc Cert.GdnPreFwd.nD Cert.GdnPreFwd.τ Cert.GdnPreFwd.sig) → Buf (Elt Bits) ℓ) : Prop :=
  True

def Pre_GdnPreFwdIdeal (m : (ℓ : Loc Cert.GdnPreFwdIdeal.nD Cert.GdnPreFwdIdeal.τ Cert.GdnPreFwdIdeal.sig) → Buf (Elt Ideal) ℓ) : Prop :=
  True

def Pre_GdnPreFwdRefIdeal (m : (ℓ : Loc Cert.GdnPreFwdRefIdeal.nD Cert.GdnPreFwdRefIdeal.τ Cert.GdnPreFwdRefIdeal.sig) → Buf (Elt Ideal) ℓ) : Prop :=
  True

def Pre_GdnPreBwd (m : (ℓ : Loc Cert.GdnPreBwd.nD Cert.GdnPreBwd.τ Cert.GdnPreBwd.sig) → Buf (Elt Bits) ℓ) : Prop :=
  True

def Pre_GdnPreBwdIdeal (m : (ℓ : Loc Cert.GdnPreBwdIdeal.nD Cert.GdnPreBwdIdeal.τ Cert.GdnPreBwdIdeal.sig) → Buf (Elt Ideal) ℓ) : Prop :=
  True

def Pre_GdnPreBwdRefIdeal (m : (ℓ : Loc Cert.GdnPreBwdRefIdeal.nD Cert.GdnPreBwdRefIdeal.τ Cert.GdnPreBwdRefIdeal.sig) → Buf (Elt Ideal) ℓ) : Prop :=
  True

def Pre_GdnPostFwd (m : (ℓ : Loc Cert.GdnPostFwd.nD Cert.GdnPostFwd.τ Cert.GdnPostFwd.sig) → Buf (Elt Bits) ℓ) : Prop :=
  True

def Pre_GdnPostFwdIdeal (m : (ℓ : Loc Cert.GdnPostFwdIdeal.nD Cert.GdnPostFwdIdeal.τ Cert.GdnPostFwdIdeal.sig) → Buf (Elt Ideal) ℓ) : Prop :=
  True

def Pre_GdnPostFwdRefIdeal (m : (ℓ : Loc Cert.GdnPostFwdRefIdeal.nD Cert.GdnPostFwdRefIdeal.τ Cert.GdnPostFwdRefIdeal.sig) → Buf (Elt Ideal) ℓ) : Prop :=
  True

def Pre_GdnPostBwd (m : (ℓ : Loc Cert.GdnPostBwd.nD Cert.GdnPostBwd.τ Cert.GdnPostBwd.sig) → Buf (Elt Bits) ℓ) : Prop :=
  True

def Pre_GdnPostBwdIdeal (m : (ℓ : Loc Cert.GdnPostBwdIdeal.nD Cert.GdnPostBwdIdeal.τ Cert.GdnPostBwdIdeal.sig) → Buf (Elt Ideal) ℓ) : Prop :=
  True

def Pre_GdnPostBwdRefIdeal (m : (ℓ : Loc Cert.GdnPostBwdRefIdeal.nD Cert.GdnPostBwdRefIdeal.τ Cert.GdnPostBwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def quiescent_InDa [hInDa : Cert.InDa.Facts] : Prop :=
  ∀ (m : (ℓ : Loc Cert.InDa.nD Cert.InDa.τ Cert.InDa.sig) → Buf (Elt Bits) ℓ) (g : Dev Cert.InDa.nD → PrngReg), Pre_InDa m →
    θ_run (Cert.InDa.defs (F := Bits)) (onTc (τ := Cert.InDa.τ) (Cert.InDa.main (F := Bits))) ⟨m, fun _ => 0, g⟩ (fun r => (∀ c : Dev Cert.InDa.nD,
      r.2.mem ((c.tc : Thread Cert.InDa.nD Cert.InDa.τ).loc Cert.InDa.main_arg0) = m ((c.tc : Thread Cert.InDa.nD Cert.InDa.τ).loc Cert.InDa.main_arg0)
      ∧ r.2.mem ((c.tc : Thread Cert.InDa.nD Cert.InDa.τ).loc Cert.InDa.main_arg1) = m ((c.tc : Thread Cert.InDa.nD Cert.InDa.τ).loc Cert.InDa.main_arg1)
      ∧ r.2.mem ((c.tc : Thread Cert.InDa.nD Cert.InDa.τ).loc Cert.InDa.main_arg2) = m ((c.tc : Thread Cert.InDa.nD Cert.InDa.τ).loc Cert.InDa.main_arg2))
      ∧ r.2.sem = fun _ => 0)

def quiescent_InDaIdeal [hInDaIdeal : Cert.InDaIdeal.Facts] : Prop :=
  ∀ (m : (ℓ : Loc Cert.InDaIdeal.nD Cert.InDaIdeal.τ Cert.InDaIdeal.sig) → Buf (Elt Ideal) ℓ) (g : Dev Cert.InDaIdeal.nD → PrngReg), Pre_InDaIdeal m →
    θ_run (Cert.InDaIdeal.defs (F := Ideal)) (onTc (τ := Cert.InDaIdeal.τ) (Cert.InDaIdeal.main (F := Ideal))) ⟨m, fun _ => 0, g⟩ (fun r => (∀ c : Dev Cert.InDaIdeal.nD,
      r.2.mem ((c.tc : Thread Cert.InDaIdeal.nD Cert.InDaIdeal.τ).loc Cert.InDaIdeal.main_arg0) = m ((c.tc : Thread Cert.InDaIdeal.nD Cert.InDaIdeal.τ).loc Cert.InDaIdeal.main_arg0)
      ∧ r.2.mem ((c.tc : Thread Cert.InDaIdeal.nD Cert.InDaIdeal.τ).loc Cert.InDaIdeal.main_arg1) = m ((c.tc : Thread Cert.InDaIdeal.nD Cert.InDaIdeal.τ).loc Cert.InDaIdeal.main_arg1)
      ∧ r.2.mem ((c.tc : Thread Cert.InDaIdeal.nD Cert.InDaIdeal.τ).loc Cert.InDaIdeal.main_arg2) = m ((c.tc : Thread Cert.InDaIdeal.nD Cert.InDaIdeal.τ).loc Cert.InDaIdeal.main_arg2))
      ∧ r.2.sem = fun _ => 0)

def quiescent_InDaRefIdeal [hInDaRefIdeal : Cert.InDaRefIdeal.Facts] : Prop :=
  ∀ (m : (ℓ : Loc Cert.InDaRefIdeal.nD Cert.InDaRefIdeal.τ Cert.InDaRefIdeal.sig) → Buf (Elt Ideal) ℓ) (g : Dev Cert.InDaRefIdeal.nD → PrngReg), Pre_InDaRefIdeal m →
    θ_run (Cert.InDaRefIdeal.defs (F := Ideal)) (onTc (τ := Cert.InDaRefIdeal.τ) (Cert.InDaRefIdeal.main (F := Ideal))) ⟨m, fun _ => 0, g⟩ (fun r => (∀ c : Dev Cert.InDaRefIdeal.nD,
      r.2.mem ((c.tc : Thread Cert.InDaRefIdeal.nD Cert.InDaRefIdeal.τ).loc Cert.InDaRefIdeal.main_arg0) = m ((c.tc : Thread Cert.InDaRefIdeal.nD Cert.InDaRefIdeal.τ).loc Cert.InDaRefIdeal.main_arg0)
      ∧ r.2.mem ((c.tc : Thread Cert.InDaRefIdeal.nD Cert.InDaRefIdeal.τ).loc Cert.InDaRefIdeal.main_arg1) = m ((c.tc : Thread Cert.InDaRefIdeal.nD Cert.InDaRefIdeal.τ).loc Cert.InDaRefIdeal.main_arg1)
      ∧ r.2.mem ((c.tc : Thread Cert.InDaRefIdeal.nD Cert.InDaRefIdeal.τ).loc Cert.InDaRefIdeal.main_arg2) = m ((c.tc : Thread Cert.InDaRefIdeal.nD Cert.InDaRefIdeal.τ).loc Cert.InDaRefIdeal.main_arg2))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1)
      ∧ r.2.mem ((c.tc : Thread Cert.InDw.nD Cert.InDw.τ).loc Cert.InDw.main_arg2) = m ((c.tc : Thread Cert.InDw.nD Cert.InDw.τ).loc Cert.InDw.main_arg2))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
      ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1)
      ∧ r.2.mem ((c.tc : Thread Cert.InDwRefIdeal.nD Cert.InDwRefIdeal.τ).loc Cert.InDwRefIdeal.main_arg2) = m ((c.tc : Thread Cert.InDwRefIdeal.nD Cert.InDwRefIdeal.τ).loc Cert.InDwRefIdeal.main_arg2))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1))
      ∧ r.2.sem = fun _ => 0)

def quiescent_GateDa [hGateDa : Cert.GateDa.Facts] : Prop :=
  ∀ (m : (ℓ : Loc Cert.GateDa.nD Cert.GateDa.τ Cert.GateDa.sig) → Buf (Elt Bits) ℓ) (g : Dev Cert.GateDa.nD → PrngReg), Pre_GateDa m →
    θ_run (Cert.GateDa.defs (F := Bits)) (onTc (τ := Cert.GateDa.τ) (Cert.GateDa.main (F := Bits))) ⟨m, fun _ => 0, g⟩ (fun r => (∀ c : Dev Cert.GateDa.nD,
      r.2.mem ((c.tc : Thread Cert.GateDa.nD Cert.GateDa.τ).loc Cert.GateDa.main_arg0) = m ((c.tc : Thread Cert.GateDa.nD Cert.GateDa.τ).loc Cert.GateDa.main_arg0)
      ∧ r.2.mem ((c.tc : Thread Cert.GateDa.nD Cert.GateDa.τ).loc Cert.GateDa.main_arg1) = m ((c.tc : Thread Cert.GateDa.nD Cert.GateDa.τ).loc Cert.GateDa.main_arg1)
      ∧ r.2.mem ((c.tc : Thread Cert.GateDa.nD Cert.GateDa.τ).loc Cert.GateDa.main_arg2) = m ((c.tc : Thread Cert.GateDa.nD Cert.GateDa.τ).loc Cert.GateDa.main_arg2))
      ∧ r.2.sem = fun _ => 0)

def quiescent_GateDaIdeal [hGateDaIdeal : Cert.GateDaIdeal.Facts] : Prop :=
  ∀ (m : (ℓ : Loc Cert.GateDaIdeal.nD Cert.GateDaIdeal.τ Cert.GateDaIdeal.sig) → Buf (Elt Ideal) ℓ) (g : Dev Cert.GateDaIdeal.nD → PrngReg), Pre_GateDaIdeal m →
    θ_run (Cert.GateDaIdeal.defs (F := Ideal)) (onTc (τ := Cert.GateDaIdeal.τ) (Cert.GateDaIdeal.main (F := Ideal))) ⟨m, fun _ => 0, g⟩ (fun r => (∀ c : Dev Cert.GateDaIdeal.nD,
      r.2.mem ((c.tc : Thread Cert.GateDaIdeal.nD Cert.GateDaIdeal.τ).loc Cert.GateDaIdeal.main_arg0) = m ((c.tc : Thread Cert.GateDaIdeal.nD Cert.GateDaIdeal.τ).loc Cert.GateDaIdeal.main_arg0)
      ∧ r.2.mem ((c.tc : Thread Cert.GateDaIdeal.nD Cert.GateDaIdeal.τ).loc Cert.GateDaIdeal.main_arg1) = m ((c.tc : Thread Cert.GateDaIdeal.nD Cert.GateDaIdeal.τ).loc Cert.GateDaIdeal.main_arg1)
      ∧ r.2.mem ((c.tc : Thread Cert.GateDaIdeal.nD Cert.GateDaIdeal.τ).loc Cert.GateDaIdeal.main_arg2) = m ((c.tc : Thread Cert.GateDaIdeal.nD Cert.GateDaIdeal.τ).loc Cert.GateDaIdeal.main_arg2))
      ∧ r.2.sem = fun _ => 0)

def quiescent_GateDaRefIdeal [hGateDaRefIdeal : Cert.GateDaRefIdeal.Facts] : Prop :=
  ∀ (m : (ℓ : Loc Cert.GateDaRefIdeal.nD Cert.GateDaRefIdeal.τ Cert.GateDaRefIdeal.sig) → Buf (Elt Ideal) ℓ) (g : Dev Cert.GateDaRefIdeal.nD → PrngReg), Pre_GateDaRefIdeal m →
    θ_run (Cert.GateDaRefIdeal.defs (F := Ideal)) (onTc (τ := Cert.GateDaRefIdeal.τ) (Cert.GateDaRefIdeal.main (F := Ideal))) ⟨m, fun _ => 0, g⟩ (fun r => (∀ c : Dev Cert.GateDaRefIdeal.nD,
      r.2.mem ((c.tc : Thread Cert.GateDaRefIdeal.nD Cert.GateDaRefIdeal.τ).loc Cert.GateDaRefIdeal.main_arg0) = m ((c.tc : Thread Cert.GateDaRefIdeal.nD Cert.GateDaRefIdeal.τ).loc Cert.GateDaRefIdeal.main_arg0)
      ∧ r.2.mem ((c.tc : Thread Cert.GateDaRefIdeal.nD Cert.GateDaRefIdeal.τ).loc Cert.GateDaRefIdeal.main_arg1) = m ((c.tc : Thread Cert.GateDaRefIdeal.nD Cert.GateDaRefIdeal.τ).loc Cert.GateDaRefIdeal.main_arg1)
      ∧ r.2.mem ((c.tc : Thread Cert.GateDaRefIdeal.nD Cert.GateDaRefIdeal.τ).loc Cert.GateDaRefIdeal.main_arg2) = m ((c.tc : Thread Cert.GateDaRefIdeal.nD Cert.GateDaRefIdeal.τ).loc Cert.GateDaRefIdeal.main_arg2))
      ∧ r.2.sem = fun _ => 0)

def quiescent_GateDw [hGateDw : Cert.GateDw.Facts] : Prop :=
  ∀ (m : (ℓ : Loc Cert.GateDw.nD Cert.GateDw.τ Cert.GateDw.sig) → Buf (Elt Bits) ℓ) (g : Dev Cert.GateDw.nD → PrngReg), Pre_GateDw m →
    θ_run (Cert.GateDw.defs (F := Bits)) (onTc (τ := Cert.GateDw.τ) (Cert.GateDw.main (F := Bits))) ⟨m, fun _ => 0, g⟩ (fun r => (∀ c : Dev Cert.GateDw.nD,
      r.2.mem ((c.tc : Thread Cert.GateDw.nD Cert.GateDw.τ).loc Cert.GateDw.main_arg0) = m ((c.tc : Thread Cert.GateDw.nD Cert.GateDw.τ).loc Cert.GateDw.main_arg0)
      ∧ r.2.mem ((c.tc : Thread Cert.GateDw.nD Cert.GateDw.τ).loc Cert.GateDw.main_arg1) = m ((c.tc : Thread Cert.GateDw.nD Cert.GateDw.τ).loc Cert.GateDw.main_arg1)
      ∧ r.2.mem ((c.tc : Thread Cert.GateDw.nD Cert.GateDw.τ).loc Cert.GateDw.main_arg2) = m ((c.tc : Thread Cert.GateDw.nD Cert.GateDw.τ).loc Cert.GateDw.main_arg2))
      ∧ r.2.sem = fun _ => 0)

def quiescent_GateDwIdeal [hGateDwIdeal : Cert.GateDwIdeal.Facts] : Prop :=
  ∀ (m : (ℓ : Loc Cert.GateDwIdeal.nD Cert.GateDwIdeal.τ Cert.GateDwIdeal.sig) → Buf (Elt Ideal) ℓ) (g : Dev Cert.GateDwIdeal.nD → PrngReg), Pre_GateDwIdeal m →
    θ_run (Cert.GateDwIdeal.defs (F := Ideal)) (onTc (τ := Cert.GateDwIdeal.τ) (Cert.GateDwIdeal.main (F := Ideal))) ⟨m, fun _ => 0, g⟩ (fun r => (∀ c : Dev Cert.GateDwIdeal.nD,
      r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
      ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1)
      ∧ r.2.mem ((c.tc : Thread Cert.GateDwIdeal.nD Cert.GateDwIdeal.τ).loc Cert.GateDwIdeal.main_arg2) = m ((c.tc : Thread Cert.GateDwIdeal.nD Cert.GateDwIdeal.τ).loc Cert.GateDwIdeal.main_arg2))
      ∧ r.2.sem = fun _ => 0)

def quiescent_GateDwRefIdeal [hGateDwRefIdeal : Cert.GateDwRefIdeal.Facts] : Prop :=
  ∀ (m : (ℓ : Loc Cert.GateDwRefIdeal.nD Cert.GateDwRefIdeal.τ Cert.GateDwRefIdeal.sig) → Buf (Elt Ideal) ℓ) (g : Dev Cert.GateDwRefIdeal.nD → PrngReg), Pre_GateDwRefIdeal m →
    θ_run (Cert.GateDwRefIdeal.defs (F := Ideal)) (onTc (τ := Cert.GateDwRefIdeal.τ) (Cert.GateDwRefIdeal.main (F := Ideal))) ⟨m, fun _ => 0, g⟩ (fun r => (∀ c : Dev Cert.GateDwRefIdeal.nD,
      r.2.mem ((c.tc : Thread Cert.GateDwRefIdeal.nD Cert.GateDwRefIdeal.τ).loc Cert.GateDwRefIdeal.main_arg0) = m ((c.tc : Thread Cert.GateDwRefIdeal.nD Cert.GateDwRefIdeal.τ).loc Cert.GateDwRefIdeal.main_arg0)
      ∧ r.2.mem ((c.tc : Thread Cert.GateDwRefIdeal.nD Cert.GateDwRefIdeal.τ).loc Cert.GateDwRefIdeal.main_arg1) = m ((c.tc : Thread Cert.GateDwRefIdeal.nD Cert.GateDwRefIdeal.τ).loc Cert.GateDwRefIdeal.main_arg1)
      ∧ r.2.mem ((c.tc : Thread Cert.GateDwRefIdeal.nD Cert.GateDwRefIdeal.τ).loc Cert.GateDwRefIdeal.main_arg2) = m ((c.tc : Thread Cert.GateDwRefIdeal.nD Cert.GateDwRefIdeal.τ).loc Cert.GateDwRefIdeal.main_arg2))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1))
      ∧ r.2.sem = fun _ => 0)

def quiescent_DownDa [hDownDa : Cert.DownDa.Facts] : Prop :=
  ∀ (m : (ℓ : Loc Cert.DownDa.nD Cert.DownDa.τ Cert.DownDa.sig) → Buf (Elt Bits) ℓ) (g : Dev Cert.DownDa.nD → PrngReg), Pre_DownDa m →
    θ_run (Cert.DownDa.defs (F := Bits)) (onTc (τ := Cert.DownDa.τ) (Cert.DownDa.main (F := Bits))) ⟨m, fun _ => 0, g⟩ (fun r => (∀ c : Dev Cert.DownDa.nD,
      r.2.mem ((c.tc : Thread Cert.DownDa.nD Cert.DownDa.τ).loc Cert.DownDa.main_arg0) = m ((c.tc : Thread Cert.DownDa.nD Cert.DownDa.τ).loc Cert.DownDa.main_arg0)
      ∧ r.2.mem ((c.tc : Thread Cert.DownDa.nD Cert.DownDa.τ).loc Cert.DownDa.main_arg1) = m ((c.tc : Thread Cert.DownDa.nD Cert.DownDa.τ).loc Cert.DownDa.main_arg1)
      ∧ r.2.mem ((c.tc : Thread Cert.DownDa.nD Cert.DownDa.τ).loc Cert.DownDa.main_arg2) = m ((c.tc : Thread Cert.DownDa.nD Cert.DownDa.τ).loc Cert.DownDa.main_arg2))
      ∧ r.2.sem = fun _ => 0)

def quiescent_DownDaIdeal [hDownDaIdeal : Cert.DownDaIdeal.Facts] : Prop :=
  ∀ (m : (ℓ : Loc Cert.DownDaIdeal.nD Cert.DownDaIdeal.τ Cert.DownDaIdeal.sig) → Buf (Elt Ideal) ℓ) (g : Dev Cert.DownDaIdeal.nD → PrngReg), Pre_DownDaIdeal m →
    θ_run (Cert.DownDaIdeal.defs (F := Ideal)) (onTc (τ := Cert.DownDaIdeal.τ) (Cert.DownDaIdeal.main (F := Ideal))) ⟨m, fun _ => 0, g⟩ (fun r => (∀ c : Dev Cert.DownDaIdeal.nD,
      r.2.mem ((c.tc : Thread Cert.DownDaIdeal.nD Cert.DownDaIdeal.τ).loc Cert.DownDaIdeal.main_arg0) = m ((c.tc : Thread Cert.DownDaIdeal.nD Cert.DownDaIdeal.τ).loc Cert.DownDaIdeal.main_arg0)
      ∧ r.2.mem ((c.tc : Thread Cert.DownDaIdeal.nD Cert.DownDaIdeal.τ).loc Cert.DownDaIdeal.main_arg1) = m ((c.tc : Thread Cert.DownDaIdeal.nD Cert.DownDaIdeal.τ).loc Cert.DownDaIdeal.main_arg1)
      ∧ r.2.mem ((c.tc : Thread Cert.DownDaIdeal.nD Cert.DownDaIdeal.τ).loc Cert.DownDaIdeal.main_arg2) = m ((c.tc : Thread Cert.DownDaIdeal.nD Cert.DownDaIdeal.τ).loc Cert.DownDaIdeal.main_arg2))
      ∧ r.2.sem = fun _ => 0)

def quiescent_DownDaRefIdeal [hDownDaRefIdeal : Cert.DownDaRefIdeal.Facts] : Prop :=
  ∀ (m : (ℓ : Loc Cert.DownDaRefIdeal.nD Cert.DownDaRefIdeal.τ Cert.DownDaRefIdeal.sig) → Buf (Elt Ideal) ℓ) (g : Dev Cert.DownDaRefIdeal.nD → PrngReg), Pre_DownDaRefIdeal m →
    θ_run (Cert.DownDaRefIdeal.defs (F := Ideal)) (onTc (τ := Cert.DownDaRefIdeal.τ) (Cert.DownDaRefIdeal.main (F := Ideal))) ⟨m, fun _ => 0, g⟩ (fun r => (∀ c : Dev Cert.DownDaRefIdeal.nD,
      r.2.mem ((c.tc : Thread Cert.DownDaRefIdeal.nD Cert.DownDaRefIdeal.τ).loc Cert.DownDaRefIdeal.main_arg0) = m ((c.tc : Thread Cert.DownDaRefIdeal.nD Cert.DownDaRefIdeal.τ).loc Cert.DownDaRefIdeal.main_arg0)
      ∧ r.2.mem ((c.tc : Thread Cert.DownDaRefIdeal.nD Cert.DownDaRefIdeal.τ).loc Cert.DownDaRefIdeal.main_arg1) = m ((c.tc : Thread Cert.DownDaRefIdeal.nD Cert.DownDaRefIdeal.τ).loc Cert.DownDaRefIdeal.main_arg1)
      ∧ r.2.mem ((c.tc : Thread Cert.DownDaRefIdeal.nD Cert.DownDaRefIdeal.τ).loc Cert.DownDaRefIdeal.main_arg2) = m ((c.tc : Thread Cert.DownDaRefIdeal.nD Cert.DownDaRefIdeal.τ).loc Cert.DownDaRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1)
      ∧ r.2.mem ((c.tc : Thread Cert.DownDwRefIdeal.nD Cert.DownDwRefIdeal.τ).loc Cert.DownDwRefIdeal.main_arg2) = m ((c.tc : Thread Cert.DownDwRefIdeal.nD Cert.DownDwRefIdeal.τ).loc Cert.DownDwRefIdeal.main_arg2))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1))
      ∧ r.2.sem = fun _ => 0)

def quiescent_OutDa [hOutDa : Cert.OutDa.Facts] : Prop :=
  ∀ (m : (ℓ : Loc Cert.OutDa.nD Cert.OutDa.τ Cert.OutDa.sig) → Buf (Elt Bits) ℓ) (g : Dev Cert.OutDa.nD → PrngReg), Pre_OutDa m →
    θ_run (Cert.OutDa.defs (F := Bits)) (onTc (τ := Cert.OutDa.τ) (Cert.OutDa.main (F := Bits))) ⟨m, fun _ => 0, g⟩ (fun r => (∀ c : Dev Cert.OutDa.nD,
      r.2.mem ((c.tc : Thread Cert.OutDa.nD Cert.OutDa.τ).loc Cert.OutDa.main_arg0) = m ((c.tc : Thread Cert.OutDa.nD Cert.OutDa.τ).loc Cert.OutDa.main_arg0)
      ∧ r.2.mem ((c.tc : Thread Cert.OutDa.nD Cert.OutDa.τ).loc Cert.OutDa.main_arg1) = m ((c.tc : Thread Cert.OutDa.nD Cert.OutDa.τ).loc Cert.OutDa.main_arg1)
      ∧ r.2.mem ((c.tc : Thread Cert.OutDa.nD Cert.OutDa.τ).loc Cert.OutDa.main_arg2) = m ((c.tc : Thread Cert.OutDa.nD Cert.OutDa.τ).loc Cert.OutDa.main_arg2))
      ∧ r.2.sem = fun _ => 0)

def quiescent_OutDaIdeal [hOutDaIdeal : Cert.OutDaIdeal.Facts] : Prop :=
  ∀ (m : (ℓ : Loc Cert.OutDaIdeal.nD Cert.OutDaIdeal.τ Cert.OutDaIdeal.sig) → Buf (Elt Ideal) ℓ) (g : Dev Cert.OutDaIdeal.nD → PrngReg), Pre_OutDaIdeal m →
    θ_run (Cert.OutDaIdeal.defs (F := Ideal)) (onTc (τ := Cert.OutDaIdeal.τ) (Cert.OutDaIdeal.main (F := Ideal))) ⟨m, fun _ => 0, g⟩ (fun r => (∀ c : Dev Cert.OutDaIdeal.nD,
      r.2.mem ((c.tc : Thread Cert.OutDaIdeal.nD Cert.OutDaIdeal.τ).loc Cert.OutDaIdeal.main_arg0) = m ((c.tc : Thread Cert.OutDaIdeal.nD Cert.OutDaIdeal.τ).loc Cert.OutDaIdeal.main_arg0)
      ∧ r.2.mem ((c.tc : Thread Cert.OutDaIdeal.nD Cert.OutDaIdeal.τ).loc Cert.OutDaIdeal.main_arg1) = m ((c.tc : Thread Cert.OutDaIdeal.nD Cert.OutDaIdeal.τ).loc Cert.OutDaIdeal.main_arg1)
      ∧ r.2.mem ((c.tc : Thread Cert.OutDaIdeal.nD Cert.OutDaIdeal.τ).loc Cert.OutDaIdeal.main_arg2) = m ((c.tc : Thread Cert.OutDaIdeal.nD Cert.OutDaIdeal.τ).loc Cert.OutDaIdeal.main_arg2))
      ∧ r.2.sem = fun _ => 0)

def quiescent_OutDaRefIdeal [hOutDaRefIdeal : Cert.OutDaRefIdeal.Facts] : Prop :=
  ∀ (m : (ℓ : Loc Cert.OutDaRefIdeal.nD Cert.OutDaRefIdeal.τ Cert.OutDaRefIdeal.sig) → Buf (Elt Ideal) ℓ) (g : Dev Cert.OutDaRefIdeal.nD → PrngReg), Pre_OutDaRefIdeal m →
    θ_run (Cert.OutDaRefIdeal.defs (F := Ideal)) (onTc (τ := Cert.OutDaRefIdeal.τ) (Cert.OutDaRefIdeal.main (F := Ideal))) ⟨m, fun _ => 0, g⟩ (fun r => (∀ c : Dev Cert.OutDaRefIdeal.nD,
      r.2.mem ((c.tc : Thread Cert.OutDaRefIdeal.nD Cert.OutDaRefIdeal.τ).loc Cert.OutDaRefIdeal.main_arg0) = m ((c.tc : Thread Cert.OutDaRefIdeal.nD Cert.OutDaRefIdeal.τ).loc Cert.OutDaRefIdeal.main_arg0)
      ∧ r.2.mem ((c.tc : Thread Cert.OutDaRefIdeal.nD Cert.OutDaRefIdeal.τ).loc Cert.OutDaRefIdeal.main_arg1) = m ((c.tc : Thread Cert.OutDaRefIdeal.nD Cert.OutDaRefIdeal.τ).loc Cert.OutDaRefIdeal.main_arg1)
      ∧ r.2.mem ((c.tc : Thread Cert.OutDaRefIdeal.nD Cert.OutDaRefIdeal.τ).loc Cert.OutDaRefIdeal.main_arg2) = m ((c.tc : Thread Cert.OutDaRefIdeal.nD Cert.OutDaRefIdeal.τ).loc Cert.OutDaRefIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1)
      ∧ r.2.mem ((c.tc : Thread Cert.OutDwRefIdeal.nD Cert.OutDwRefIdeal.τ).loc Cert.OutDwRefIdeal.main_arg2) = m ((c.tc : Thread Cert.OutDwRefIdeal.nD Cert.OutDwRefIdeal.τ).loc Cert.OutDwRefIdeal.main_arg2))
      ∧ r.2.sem = fun _ => 0)

def quiescent_BranchFwd [hBranchFwd : Cert.BranchFwd.Facts] : Prop :=
  ∀ (m : (ℓ : Loc Cert.BranchFwd.nD Cert.BranchFwd.τ Cert.BranchFwd.sig) → Buf (Elt Bits) ℓ) (g : Dev Cert.BranchFwd.nD → PrngReg), Pre_BranchFwd m →
    θ_run (Cert.BranchFwd.defs (F := Bits)) (onTc (τ := Cert.BranchFwd.τ) (Cert.BranchFwd.main (F := Bits))) ⟨m, fun _ => 0, g⟩ (fun r => (∀ c : Dev Cert.BranchFwd.nD,
      r.2.mem ((c.tc : Thread Cert.BranchFwd.nD Cert.BranchFwd.τ).loc Cert.BranchFwd.main_arg0) = m ((c.tc : Thread Cert.BranchFwd.nD Cert.BranchFwd.τ).loc Cert.BranchFwd.main_arg0)
      ∧ r.2.mem ((c.tc : Thread Cert.BranchFwd.nD Cert.BranchFwd.τ).loc Cert.BranchFwd.main_arg1) = m ((c.tc : Thread Cert.BranchFwd.nD Cert.BranchFwd.τ).loc Cert.BranchFwd.main_arg1))
      ∧ r.2.sem = fun _ => 0)

def quiescent_BranchFwdIdeal [hBranchFwdIdeal : Cert.BranchFwdIdeal.Facts] : Prop :=
  ∀ (m : (ℓ : Loc Cert.BranchFwdIdeal.nD Cert.BranchFwdIdeal.τ Cert.BranchFwdIdeal.sig) → Buf (Elt Ideal) ℓ) (g : Dev Cert.BranchFwdIdeal.nD → PrngReg), Pre_BranchFwdIdeal m →
    θ_run (Cert.BranchFwdIdeal.defs (F := Ideal)) (onTc (τ := Cert.BranchFwdIdeal.τ) (Cert.BranchFwdIdeal.main (F := Ideal))) ⟨m, fun _ => 0, g⟩ (fun r => (∀ c : Dev Cert.BranchFwdIdeal.nD,
      r.2.mem ((c.tc : Thread Cert.BranchFwdIdeal.nD Cert.BranchFwdIdeal.τ).loc Cert.BranchFwdIdeal.main_arg0) = m ((c.tc : Thread Cert.BranchFwdIdeal.nD Cert.BranchFwdIdeal.τ).loc Cert.BranchFwdIdeal.main_arg0)
      ∧ r.2.mem ((c.tc : Thread Cert.BranchFwdIdeal.nD Cert.BranchFwdIdeal.τ).loc Cert.BranchFwdIdeal.main_arg1) = m ((c.tc : Thread Cert.BranchFwdIdeal.nD Cert.BranchFwdIdeal.τ).loc Cert.BranchFwdIdeal.main_arg1))
      ∧ r.2.sem = fun _ => 0)

def quiescent_BranchFwdRefIdeal [hBranchFwdRefIdeal : Cert.BranchFwdRefIdeal.Facts] : Prop :=
  ∀ (m : (ℓ : Loc Cert.BranchFwdRefIdeal.nD Cert.BranchFwdRefIdeal.τ Cert.BranchFwdRefIdeal.sig) → Buf (Elt Ideal) ℓ) (g : Dev Cert.BranchFwdRefIdeal.nD → PrngReg), Pre_BranchFwdRefIdeal m →
    θ_run (Cert.BranchFwdRefIdeal.defs (F := Ideal)) (onTc (τ := Cert.BranchFwdRefIdeal.τ) (Cert.BranchFwdRefIdeal.main (F := Ideal))) ⟨m, fun _ => 0, g⟩ (fun r => (∀ c : Dev Cert.BranchFwdRefIdeal.nD,
      r.2.mem ((c.tc : Thread Cert.BranchFwdRefIdeal.nD Cert.BranchFwdRefIdeal.τ).loc Cert.BranchFwdRefIdeal.main_arg0) = m ((c.tc : Thread Cert.BranchFwdRefIdeal.nD Cert.BranchFwdRefIdeal.τ).loc Cert.BranchFwdRefIdeal.main_arg0)
      ∧ r.2.mem ((c.tc : Thread Cert.BranchFwdRefIdeal.nD Cert.BranchFwdRefIdeal.τ).loc Cert.BranchFwdRefIdeal.main_arg1) = m ((c.tc : Thread Cert.BranchFwdRefIdeal.nD Cert.BranchFwdRefIdeal.τ).loc Cert.BranchFwdRefIdeal.main_arg1))
      ∧ r.2.sem = fun _ => 0)

def quiescent_BranchDa [hBranchDa : Cert.BranchDa.Facts] : Prop :=
  ∀ (m : (ℓ : Loc Cert.BranchDa.nD Cert.BranchDa.τ Cert.BranchDa.sig) → Buf (Elt Bits) ℓ) (g : Dev Cert.BranchDa.nD → PrngReg), Pre_BranchDa m →
    θ_run (Cert.BranchDa.defs (F := Bits)) (onTc (τ := Cert.BranchDa.τ) (Cert.BranchDa.main (F := Bits))) ⟨m, fun _ => 0, g⟩ (fun r => (∀ c : Dev Cert.BranchDa.nD,
      r.2.mem ((c.tc : Thread Cert.BranchDa.nD Cert.BranchDa.τ).loc Cert.BranchDa.main_arg0) = m ((c.tc : Thread Cert.BranchDa.nD Cert.BranchDa.τ).loc Cert.BranchDa.main_arg0)
      ∧ r.2.mem ((c.tc : Thread Cert.BranchDa.nD Cert.BranchDa.τ).loc Cert.BranchDa.main_arg1) = m ((c.tc : Thread Cert.BranchDa.nD Cert.BranchDa.τ).loc Cert.BranchDa.main_arg1)
      ∧ r.2.mem ((c.tc : Thread Cert.BranchDa.nD Cert.BranchDa.τ).loc Cert.BranchDa.main_arg2) = m ((c.tc : Thread Cert.BranchDa.nD Cert.BranchDa.τ).loc Cert.BranchDa.main_arg2))
      ∧ r.2.sem = fun _ => 0)

def quiescent_BranchDaIdeal [hBranchDaIdeal : Cert.BranchDaIdeal.Facts] : Prop :=
  ∀ (m : (ℓ : Loc Cert.BranchDaIdeal.nD Cert.BranchDaIdeal.τ Cert.BranchDaIdeal.sig) → Buf (Elt Ideal) ℓ) (g : Dev Cert.BranchDaIdeal.nD → PrngReg), Pre_BranchDaIdeal m →
    θ_run (Cert.BranchDaIdeal.defs (F := Ideal)) (onTc (τ := Cert.BranchDaIdeal.τ) (Cert.BranchDaIdeal.main (F := Ideal))) ⟨m, fun _ => 0, g⟩ (fun r => (∀ c : Dev Cert.BranchDaIdeal.nD,
      r.2.mem ((c.tc : Thread Cert.BranchDaIdeal.nD Cert.BranchDaIdeal.τ).loc Cert.BranchDaIdeal.main_arg0) = m ((c.tc : Thread Cert.BranchDaIdeal.nD Cert.BranchDaIdeal.τ).loc Cert.BranchDaIdeal.main_arg0)
      ∧ r.2.mem ((c.tc : Thread Cert.BranchDaIdeal.nD Cert.BranchDaIdeal.τ).loc Cert.BranchDaIdeal.main_arg1) = m ((c.tc : Thread Cert.BranchDaIdeal.nD Cert.BranchDaIdeal.τ).loc Cert.BranchDaIdeal.main_arg1)
      ∧ r.2.mem ((c.tc : Thread Cert.BranchDaIdeal.nD Cert.BranchDaIdeal.τ).loc Cert.BranchDaIdeal.main_arg2) = m ((c.tc : Thread Cert.BranchDaIdeal.nD Cert.BranchDaIdeal.τ).loc Cert.BranchDaIdeal.main_arg2))
      ∧ r.2.sem = fun _ => 0)

def quiescent_BranchDaRefIdeal [hBranchDaRefIdeal : Cert.BranchDaRefIdeal.Facts] : Prop :=
  ∀ (m : (ℓ : Loc Cert.BranchDaRefIdeal.nD Cert.BranchDaRefIdeal.τ Cert.BranchDaRefIdeal.sig) → Buf (Elt Ideal) ℓ) (g : Dev Cert.BranchDaRefIdeal.nD → PrngReg), Pre_BranchDaRefIdeal m →
    θ_run (Cert.BranchDaRefIdeal.defs (F := Ideal)) (onTc (τ := Cert.BranchDaRefIdeal.τ) (Cert.BranchDaRefIdeal.main (F := Ideal))) ⟨m, fun _ => 0, g⟩ (fun r => (∀ c : Dev Cert.BranchDaRefIdeal.nD,
      r.2.mem ((c.tc : Thread Cert.BranchDaRefIdeal.nD Cert.BranchDaRefIdeal.τ).loc Cert.BranchDaRefIdeal.main_arg0) = m ((c.tc : Thread Cert.BranchDaRefIdeal.nD Cert.BranchDaRefIdeal.τ).loc Cert.BranchDaRefIdeal.main_arg0)
      ∧ r.2.mem ((c.tc : Thread Cert.BranchDaRefIdeal.nD Cert.BranchDaRefIdeal.τ).loc Cert.BranchDaRefIdeal.main_arg1) = m ((c.tc : Thread Cert.BranchDaRefIdeal.nD Cert.BranchDaRefIdeal.τ).loc Cert.BranchDaRefIdeal.main_arg1)
      ∧ r.2.mem ((c.tc : Thread Cert.BranchDaRefIdeal.nD Cert.BranchDaRefIdeal.τ).loc Cert.BranchDaRefIdeal.main_arg2) = m ((c.tc : Thread Cert.BranchDaRefIdeal.nD Cert.BranchDaRefIdeal.τ).loc Cert.BranchDaRefIdeal.main_arg2))
      ∧ r.2.sem = fun _ => 0)

def quiescent_BranchDw [hBranchDw : Cert.BranchDw.Facts] : Prop :=
  ∀ (m : (ℓ : Loc Cert.BranchDw.nD Cert.BranchDw.τ Cert.BranchDw.sig) → Buf (Elt Bits) ℓ) (g : Dev Cert.BranchDw.nD → PrngReg), Pre_BranchDw m →
    θ_run (Cert.BranchDw.defs (F := Bits)) (onTc (τ := Cert.BranchDw.τ) (Cert.BranchDw.main (F := Bits))) ⟨m, fun _ => 0, g⟩ (fun r => (∀ c : Dev Cert.BranchDw.nD,
      r.2.mem ((c.tc : Thread Cert.BranchDw.nD Cert.BranchDw.τ).loc Cert.BranchDw.main_arg0) = m ((c.tc : Thread Cert.BranchDw.nD Cert.BranchDw.τ).loc Cert.BranchDw.main_arg0)
      ∧ r.2.mem ((c.tc : Thread Cert.BranchDw.nD Cert.BranchDw.τ).loc Cert.BranchDw.main_arg1) = m ((c.tc : Thread Cert.BranchDw.nD Cert.BranchDw.τ).loc Cert.BranchDw.main_arg1)
      ∧ r.2.mem ((c.tc : Thread Cert.BranchDw.nD Cert.BranchDw.τ).loc Cert.BranchDw.main_arg2) = m ((c.tc : Thread Cert.BranchDw.nD Cert.BranchDw.τ).loc Cert.BranchDw.main_arg2))
      ∧ r.2.sem = fun _ => 0)

def quiescent_BranchDwIdeal [hBranchDwIdeal : Cert.BranchDwIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg), Pre_BranchDwIdeal m →
    θ_run (Cert.BranchDwIdeal.defs (F := Ideal)) (onTc (τ := Cert.BranchDwIdeal.τ) (Cert.BranchDwIdeal.main (F := Ideal))) ⟨m, fun _ => 0, g⟩ (fun r => (∀ c : Dev Cert.BranchDwIdeal.nD,
      r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
      ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1)
      ∧ r.2.mem ((c.tc : Thread Cert.BranchDwIdeal.nD Cert.BranchDwIdeal.τ).loc Cert.BranchDwIdeal.main_arg2) = m ((c.tc : Thread Cert.BranchDwIdeal.nD Cert.BranchDwIdeal.τ).loc Cert.BranchDwIdeal.main_arg2))
      ∧ r.2.sem = fun _ => 0)

def quiescent_BranchDwRefIdeal [hBranchDwRefIdeal : Cert.BranchDwRefIdeal.Facts] : Prop :=
  ∀ (m : (ℓ : Loc Cert.BranchDwRefIdeal.nD Cert.BranchDwRefIdeal.τ Cert.BranchDwRefIdeal.sig) → Buf (Elt Ideal) ℓ) (g : Dev Cert.BranchDwRefIdeal.nD → PrngReg), Pre_BranchDwRefIdeal m →
    θ_run (Cert.BranchDwRefIdeal.defs (F := Ideal)) (onTc (τ := Cert.BranchDwRefIdeal.τ) (Cert.BranchDwRefIdeal.main (F := Ideal))) ⟨m, fun _ => 0, g⟩ (fun r => (∀ c : Dev Cert.BranchDwRefIdeal.nD,
      r.2.mem ((c.tc : Thread Cert.BranchDwRefIdeal.nD Cert.BranchDwRefIdeal.τ).loc Cert.BranchDwRefIdeal.main_arg0) = m ((c.tc : Thread Cert.BranchDwRefIdeal.nD Cert.BranchDwRefIdeal.τ).loc Cert.BranchDwRefIdeal.main_arg0)
      ∧ r.2.mem ((c.tc : Thread Cert.BranchDwRefIdeal.nD Cert.BranchDwRefIdeal.τ).loc Cert.BranchDwRefIdeal.main_arg1) = m ((c.tc : Thread Cert.BranchDwRefIdeal.nD Cert.BranchDwRefIdeal.τ).loc Cert.BranchDwRefIdeal.main_arg1)
      ∧ r.2.mem ((c.tc : Thread Cert.BranchDwRefIdeal.nD Cert.BranchDwRefIdeal.τ).loc Cert.BranchDwRefIdeal.main_arg2) = m ((c.tc : Thread Cert.BranchDwRefIdeal.nD Cert.BranchDwRefIdeal.τ).loc Cert.BranchDwRefIdeal.main_arg2))
      ∧ r.2.sem = fun _ => 0)

def quiescent_UqFwd [hUqFwd : Cert.UqFwd.Facts] : Prop :=
  ∀ (m : (ℓ : Loc Cert.UqFwd.nD Cert.UqFwd.τ Cert.UqFwd.sig) → Buf (Elt Bits) ℓ) (g : Dev Cert.UqFwd.nD → PrngReg), Pre_UqFwd m →
    θ_run (Cert.UqFwd.defs (F := Bits)) (onTc (τ := Cert.UqFwd.τ) (Cert.UqFwd.main (F := Bits))) ⟨m, fun _ => 0, g⟩ (fun r => (∀ c : Dev Cert.UqFwd.nD,
      r.2.mem ((c.tc : Thread Cert.UqFwd.nD Cert.UqFwd.τ).loc Cert.UqFwd.main_arg0) = m ((c.tc : Thread Cert.UqFwd.nD Cert.UqFwd.τ).loc Cert.UqFwd.main_arg0)
      ∧ r.2.mem ((c.tc : Thread Cert.UqFwd.nD Cert.UqFwd.τ).loc Cert.UqFwd.main_arg1) = m ((c.tc : Thread Cert.UqFwd.nD Cert.UqFwd.τ).loc Cert.UqFwd.main_arg1))
      ∧ r.2.sem = fun _ => 0)

def quiescent_UqFwdIdeal [hUqFwdIdeal : Cert.UqFwdIdeal.Facts] : Prop :=
  ∀ (m : (ℓ : Loc Cert.UqFwdIdeal.nD Cert.UqFwdIdeal.τ Cert.UqFwdIdeal.sig) → Buf (Elt Ideal) ℓ) (g : Dev Cert.UqFwdIdeal.nD → PrngReg), Pre_UqFwdIdeal m →
    θ_run (Cert.UqFwdIdeal.defs (F := Ideal)) (onTc (τ := Cert.UqFwdIdeal.τ) (Cert.UqFwdIdeal.main (F := Ideal))) ⟨m, fun _ => 0, g⟩ (fun r => (∀ c : Dev Cert.UqFwdIdeal.nD,
      r.2.mem ((c.tc : Thread Cert.UqFwdIdeal.nD Cert.UqFwdIdeal.τ).loc Cert.UqFwdIdeal.main_arg0) = m ((c.tc : Thread Cert.UqFwdIdeal.nD Cert.UqFwdIdeal.τ).loc Cert.UqFwdIdeal.main_arg0)
      ∧ r.2.mem ((c.tc : Thread Cert.UqFwdIdeal.nD Cert.UqFwdIdeal.τ).loc Cert.UqFwdIdeal.main_arg1) = m ((c.tc : Thread Cert.UqFwdIdeal.nD Cert.UqFwdIdeal.τ).loc Cert.UqFwdIdeal.main_arg1))
      ∧ r.2.sem = fun _ => 0)

def quiescent_UqFwdRefIdeal [hUqFwdRefIdeal : Cert.UqFwdRefIdeal.Facts] : Prop :=
  ∀ (m : (ℓ : Loc Cert.UqFwdRefIdeal.nD Cert.UqFwdRefIdeal.τ Cert.UqFwdRefIdeal.sig) → Buf (Elt Ideal) ℓ) (g : Dev Cert.UqFwdRefIdeal.nD → PrngReg), Pre_UqFwdRefIdeal m →
    θ_run (Cert.UqFwdRefIdeal.defs (F := Ideal)) (onTc (τ := Cert.UqFwdRefIdeal.τ) (Cert.UqFwdRefIdeal.main (F := Ideal))) ⟨m, fun _ => 0, g⟩ (fun r => (∀ c : Dev Cert.UqFwdRefIdeal.nD,
      r.2.mem ((c.tc : Thread Cert.UqFwdRefIdeal.nD Cert.UqFwdRefIdeal.τ).loc Cert.UqFwdRefIdeal.main_arg0) = m ((c.tc : Thread Cert.UqFwdRefIdeal.nD Cert.UqFwdRefIdeal.τ).loc Cert.UqFwdRefIdeal.main_arg0)
      ∧ r.2.mem ((c.tc : Thread Cert.UqFwdRefIdeal.nD Cert.UqFwdRefIdeal.τ).loc Cert.UqFwdRefIdeal.main_arg1) = m ((c.tc : Thread Cert.UqFwdRefIdeal.nD Cert.UqFwdRefIdeal.τ).loc Cert.UqFwdRefIdeal.main_arg1))
      ∧ r.2.sem = fun _ => 0)

def quiescent_UqDa [hUqDa : Cert.UqDa.Facts] : Prop :=
  ∀ (m : (ℓ : Loc Cert.UqDa.nD Cert.UqDa.τ Cert.UqDa.sig) → Buf (Elt Bits) ℓ) (g : Dev Cert.UqDa.nD → PrngReg), Pre_UqDa m →
    θ_run (Cert.UqDa.defs (F := Bits)) (onTc (τ := Cert.UqDa.τ) (Cert.UqDa.main (F := Bits))) ⟨m, fun _ => 0, g⟩ (fun r => (∀ c : Dev Cert.UqDa.nD,
      r.2.mem ((c.tc : Thread Cert.UqDa.nD Cert.UqDa.τ).loc Cert.UqDa.main_arg0) = m ((c.tc : Thread Cert.UqDa.nD Cert.UqDa.τ).loc Cert.UqDa.main_arg0)
      ∧ r.2.mem ((c.tc : Thread Cert.UqDa.nD Cert.UqDa.τ).loc Cert.UqDa.main_arg1) = m ((c.tc : Thread Cert.UqDa.nD Cert.UqDa.τ).loc Cert.UqDa.main_arg1)
      ∧ r.2.mem ((c.tc : Thread Cert.UqDa.nD Cert.UqDa.τ).loc Cert.UqDa.main_arg2) = m ((c.tc : Thread Cert.UqDa.nD Cert.UqDa.τ).loc Cert.UqDa.main_arg2))
      ∧ r.2.sem = fun _ => 0)

def quiescent_UqDaIdeal [hUqDaIdeal : Cert.UqDaIdeal.Facts] : Prop :=
  ∀ (m : (ℓ : Loc Cert.UqDaIdeal.nD Cert.UqDaIdeal.τ Cert.UqDaIdeal.sig) → Buf (Elt Ideal) ℓ) (g : Dev Cert.UqDaIdeal.nD → PrngReg), Pre_UqDaIdeal m →
    θ_run (Cert.UqDaIdeal.defs (F := Ideal)) (onTc (τ := Cert.UqDaIdeal.τ) (Cert.UqDaIdeal.main (F := Ideal))) ⟨m, fun _ => 0, g⟩ (fun r => (∀ c : Dev Cert.UqDaIdeal.nD,
      r.2.mem ((c.tc : Thread Cert.UqDaIdeal.nD Cert.UqDaIdeal.τ).loc Cert.UqDaIdeal.main_arg0) = m ((c.tc : Thread Cert.UqDaIdeal.nD Cert.UqDaIdeal.τ).loc Cert.UqDaIdeal.main_arg0)
      ∧ r.2.mem ((c.tc : Thread Cert.UqDaIdeal.nD Cert.UqDaIdeal.τ).loc Cert.UqDaIdeal.main_arg1) = m ((c.tc : Thread Cert.UqDaIdeal.nD Cert.UqDaIdeal.τ).loc Cert.UqDaIdeal.main_arg1)
      ∧ r.2.mem ((c.tc : Thread Cert.UqDaIdeal.nD Cert.UqDaIdeal.τ).loc Cert.UqDaIdeal.main_arg2) = m ((c.tc : Thread Cert.UqDaIdeal.nD Cert.UqDaIdeal.τ).loc Cert.UqDaIdeal.main_arg2))
      ∧ r.2.sem = fun _ => 0)

def quiescent_UqDaRefIdeal [hUqDaRefIdeal : Cert.UqDaRefIdeal.Facts] : Prop :=
  ∀ (m : (ℓ : Loc Cert.UqDaRefIdeal.nD Cert.UqDaRefIdeal.τ Cert.UqDaRefIdeal.sig) → Buf (Elt Ideal) ℓ) (g : Dev Cert.UqDaRefIdeal.nD → PrngReg), Pre_UqDaRefIdeal m →
    θ_run (Cert.UqDaRefIdeal.defs (F := Ideal)) (onTc (τ := Cert.UqDaRefIdeal.τ) (Cert.UqDaRefIdeal.main (F := Ideal))) ⟨m, fun _ => 0, g⟩ (fun r => (∀ c : Dev Cert.UqDaRefIdeal.nD,
      r.2.mem ((c.tc : Thread Cert.UqDaRefIdeal.nD Cert.UqDaRefIdeal.τ).loc Cert.UqDaRefIdeal.main_arg0) = m ((c.tc : Thread Cert.UqDaRefIdeal.nD Cert.UqDaRefIdeal.τ).loc Cert.UqDaRefIdeal.main_arg0)
      ∧ r.2.mem ((c.tc : Thread Cert.UqDaRefIdeal.nD Cert.UqDaRefIdeal.τ).loc Cert.UqDaRefIdeal.main_arg1) = m ((c.tc : Thread Cert.UqDaRefIdeal.nD Cert.UqDaRefIdeal.τ).loc Cert.UqDaRefIdeal.main_arg1)
      ∧ r.2.mem ((c.tc : Thread Cert.UqDaRefIdeal.nD Cert.UqDaRefIdeal.τ).loc Cert.UqDaRefIdeal.main_arg2) = m ((c.tc : Thread Cert.UqDaRefIdeal.nD Cert.UqDaRefIdeal.τ).loc Cert.UqDaRefIdeal.main_arg2))
      ∧ r.2.sem = fun _ => 0)

def quiescent_UqDw [hUqDw : Cert.UqDw.Facts] : Prop :=
  ∀ (m : (ℓ : Loc Cert.UqDw.nD Cert.UqDw.τ Cert.UqDw.sig) → Buf (Elt Bits) ℓ) (g : Dev Cert.UqDw.nD → PrngReg), Pre_UqDw m →
    θ_run (Cert.UqDw.defs (F := Bits)) (onTc (τ := Cert.UqDw.τ) (Cert.UqDw.main (F := Bits))) ⟨m, fun _ => 0, g⟩ (fun r => (∀ c : Dev Cert.UqDw.nD,
      r.2.mem ((c.tc : Thread Cert.UqDw.nD Cert.UqDw.τ).loc Cert.UqDw.main_arg0) = m ((c.tc : Thread Cert.UqDw.nD Cert.UqDw.τ).loc Cert.UqDw.main_arg0)
      ∧ r.2.mem ((c.tc : Thread Cert.UqDw.nD Cert.UqDw.τ).loc Cert.UqDw.main_arg1) = m ((c.tc : Thread Cert.UqDw.nD Cert.UqDw.τ).loc Cert.UqDw.main_arg1)
      ∧ r.2.mem ((c.tc : Thread Cert.UqDw.nD Cert.UqDw.τ).loc Cert.UqDw.main_arg2) = m ((c.tc : Thread Cert.UqDw.nD Cert.UqDw.τ).loc Cert.UqDw.main_arg2))
      ∧ r.2.sem = fun _ => 0)

def quiescent_UqDwIdeal [hUqDwIdeal : Cert.UqDwIdeal.Facts] : Prop :=
  ∀ (m : (ℓ : Loc Cert.UqDwIdeal.nD Cert.UqDwIdeal.τ Cert.UqDwIdeal.sig) → Buf (Elt Ideal) ℓ) (g : Dev Cert.UqDwIdeal.nD → PrngReg), Pre_UqDwIdeal m →
    θ_run (Cert.UqDwIdeal.defs (F := Ideal)) (onTc (τ := Cert.UqDwIdeal.τ) (Cert.UqDwIdeal.main (F := Ideal))) ⟨m, fun _ => 0, g⟩ (fun r => (∀ c : Dev Cert.UqDwIdeal.nD,
      r.2.mem ((c.tc : Thread Cert.UqDwIdeal.nD Cert.UqDwIdeal.τ).loc Cert.UqDwIdeal.main_arg0) = m ((c.tc : Thread Cert.UqDwIdeal.nD Cert.UqDwIdeal.τ).loc Cert.UqDwIdeal.main_arg0)
      ∧ r.2.mem ((c.tc : Thread Cert.UqDwIdeal.nD Cert.UqDwIdeal.τ).loc Cert.UqDwIdeal.main_arg1) = m ((c.tc : Thread Cert.UqDwIdeal.nD Cert.UqDwIdeal.τ).loc Cert.UqDwIdeal.main_arg1)
      ∧ r.2.mem ((c.tc : Thread Cert.UqDwIdeal.nD Cert.UqDwIdeal.τ).loc Cert.UqDwIdeal.main_arg2) = m ((c.tc : Thread Cert.UqDwIdeal.nD Cert.UqDwIdeal.τ).loc Cert.UqDwIdeal.main_arg2))
      ∧ r.2.sem = fun _ => 0)

def quiescent_UqDwRefIdeal [hUqDwRefIdeal : Cert.UqDwRefIdeal.Facts] : Prop :=
  ∀ (m : (ℓ : Loc Cert.UqDwRefIdeal.nD Cert.UqDwRefIdeal.τ Cert.UqDwRefIdeal.sig) → Buf (Elt Ideal) ℓ) (g : Dev Cert.UqDwRefIdeal.nD → PrngReg), Pre_UqDwRefIdeal m →
    θ_run (Cert.UqDwRefIdeal.defs (F := Ideal)) (onTc (τ := Cert.UqDwRefIdeal.τ) (Cert.UqDwRefIdeal.main (F := Ideal))) ⟨m, fun _ => 0, g⟩ (fun r => (∀ c : Dev Cert.UqDwRefIdeal.nD,
      r.2.mem ((c.tc : Thread Cert.UqDwRefIdeal.nD Cert.UqDwRefIdeal.τ).loc Cert.UqDwRefIdeal.main_arg0) = m ((c.tc : Thread Cert.UqDwRefIdeal.nD Cert.UqDwRefIdeal.τ).loc Cert.UqDwRefIdeal.main_arg0)
      ∧ r.2.mem ((c.tc : Thread Cert.UqDwRefIdeal.nD Cert.UqDwRefIdeal.τ).loc Cert.UqDwRefIdeal.main_arg1) = m ((c.tc : Thread Cert.UqDwRefIdeal.nD Cert.UqDwRefIdeal.τ).loc Cert.UqDwRefIdeal.main_arg1)
      ∧ r.2.mem ((c.tc : Thread Cert.UqDwRefIdeal.nD Cert.UqDwRefIdeal.τ).loc Cert.UqDwRefIdeal.main_arg2) = m ((c.tc : Thread Cert.UqDwRefIdeal.nD Cert.UqDwRefIdeal.τ).loc Cert.UqDwRefIdeal.main_arg2))
      ∧ r.2.sem = fun _ => 0)

def quiescent_UkvFwd [hUkvFwd : Cert.UkvFwd.Facts] : Prop :=
  ∀ (m : (ℓ : Loc Cert.UkvFwd.nD Cert.UkvFwd.τ Cert.UkvFwd.sig) → Buf (Elt Bits) ℓ) (g : Dev Cert.UkvFwd.nD → PrngReg), Pre_UkvFwd m →
    θ_run (Cert.UkvFwd.defs (F := Bits)) (onTc (τ := Cert.UkvFwd.τ) (Cert.UkvFwd.main (F := Bits))) ⟨m, fun _ => 0, g⟩ (fun r => (∀ c : Dev Cert.UkvFwd.nD,
      r.2.mem ((c.tc : Thread Cert.UkvFwd.nD Cert.UkvFwd.τ).loc Cert.UkvFwd.main_arg0) = m ((c.tc : Thread Cert.UkvFwd.nD Cert.UkvFwd.τ).loc Cert.UkvFwd.main_arg0)
      ∧ r.2.mem ((c.tc : Thread Cert.UkvFwd.nD Cert.UkvFwd.τ).loc Cert.UkvFwd.main_arg1) = m ((c.tc : Thread Cert.UkvFwd.nD Cert.UkvFwd.τ).loc Cert.UkvFwd.main_arg1))
      ∧ r.2.sem = fun _ => 0)

def quiescent_UkvFwdIdeal [hUkvFwdIdeal : Cert.UkvFwdIdeal.Facts] : Prop :=
  ∀ (m : (ℓ : Loc Cert.UkvFwdIdeal.nD Cert.UkvFwdIdeal.τ Cert.UkvFwdIdeal.sig) → Buf (Elt Ideal) ℓ) (g : Dev Cert.UkvFwdIdeal.nD → PrngReg), Pre_UkvFwdIdeal m →
    θ_run (Cert.UkvFwdIdeal.defs (F := Ideal)) (onTc (τ := Cert.UkvFwdIdeal.τ) (Cert.UkvFwdIdeal.main (F := Ideal))) ⟨m, fun _ => 0, g⟩ (fun r => (∀ c : Dev Cert.UkvFwdIdeal.nD,
      r.2.mem ((c.tc : Thread Cert.UkvFwdIdeal.nD Cert.UkvFwdIdeal.τ).loc Cert.UkvFwdIdeal.main_arg0) = m ((c.tc : Thread Cert.UkvFwdIdeal.nD Cert.UkvFwdIdeal.τ).loc Cert.UkvFwdIdeal.main_arg0)
      ∧ r.2.mem ((c.tc : Thread Cert.UkvFwdIdeal.nD Cert.UkvFwdIdeal.τ).loc Cert.UkvFwdIdeal.main_arg1) = m ((c.tc : Thread Cert.UkvFwdIdeal.nD Cert.UkvFwdIdeal.τ).loc Cert.UkvFwdIdeal.main_arg1))
      ∧ r.2.sem = fun _ => 0)

def quiescent_UkvFwdRefIdeal [hUkvFwdRefIdeal : Cert.UkvFwdRefIdeal.Facts] : Prop :=
  ∀ (m : (ℓ : Loc Cert.UkvFwdRefIdeal.nD Cert.UkvFwdRefIdeal.τ Cert.UkvFwdRefIdeal.sig) → Buf (Elt Ideal) ℓ) (g : Dev Cert.UkvFwdRefIdeal.nD → PrngReg), Pre_UkvFwdRefIdeal m →
    θ_run (Cert.UkvFwdRefIdeal.defs (F := Ideal)) (onTc (τ := Cert.UkvFwdRefIdeal.τ) (Cert.UkvFwdRefIdeal.main (F := Ideal))) ⟨m, fun _ => 0, g⟩ (fun r => (∀ c : Dev Cert.UkvFwdRefIdeal.nD,
      r.2.mem ((c.tc : Thread Cert.UkvFwdRefIdeal.nD Cert.UkvFwdRefIdeal.τ).loc Cert.UkvFwdRefIdeal.main_arg0) = m ((c.tc : Thread Cert.UkvFwdRefIdeal.nD Cert.UkvFwdRefIdeal.τ).loc Cert.UkvFwdRefIdeal.main_arg0)
      ∧ r.2.mem ((c.tc : Thread Cert.UkvFwdRefIdeal.nD Cert.UkvFwdRefIdeal.τ).loc Cert.UkvFwdRefIdeal.main_arg1) = m ((c.tc : Thread Cert.UkvFwdRefIdeal.nD Cert.UkvFwdRefIdeal.τ).loc Cert.UkvFwdRefIdeal.main_arg1))
      ∧ r.2.sem = fun _ => 0)

def quiescent_UkvDa [hUkvDa : Cert.UkvDa.Facts] : Prop :=
  ∀ (m : (ℓ : Loc Cert.UkvDa.nD Cert.UkvDa.τ Cert.UkvDa.sig) → Buf (Elt Bits) ℓ) (g : Dev Cert.UkvDa.nD → PrngReg), Pre_UkvDa m →
    θ_run (Cert.UkvDa.defs (F := Bits)) (onTc (τ := Cert.UkvDa.τ) (Cert.UkvDa.main (F := Bits))) ⟨m, fun _ => 0, g⟩ (fun r => (∀ c : Dev Cert.UkvDa.nD,
      r.2.mem ((c.tc : Thread Cert.UkvDa.nD Cert.UkvDa.τ).loc Cert.UkvDa.main_arg0) = m ((c.tc : Thread Cert.UkvDa.nD Cert.UkvDa.τ).loc Cert.UkvDa.main_arg0)
      ∧ r.2.mem ((c.tc : Thread Cert.UkvDa.nD Cert.UkvDa.τ).loc Cert.UkvDa.main_arg1) = m ((c.tc : Thread Cert.UkvDa.nD Cert.UkvDa.τ).loc Cert.UkvDa.main_arg1)
      ∧ r.2.mem ((c.tc : Thread Cert.UkvDa.nD Cert.UkvDa.τ).loc Cert.UkvDa.main_arg2) = m ((c.tc : Thread Cert.UkvDa.nD Cert.UkvDa.τ).loc Cert.UkvDa.main_arg2))
      ∧ r.2.sem = fun _ => 0)

def quiescent_UkvDaIdeal [hUkvDaIdeal : Cert.UkvDaIdeal.Facts] : Prop :=
  ∀ (m : (ℓ : Loc Cert.UkvDaIdeal.nD Cert.UkvDaIdeal.τ Cert.UkvDaIdeal.sig) → Buf (Elt Ideal) ℓ) (g : Dev Cert.UkvDaIdeal.nD → PrngReg), Pre_UkvDaIdeal m →
    θ_run (Cert.UkvDaIdeal.defs (F := Ideal)) (onTc (τ := Cert.UkvDaIdeal.τ) (Cert.UkvDaIdeal.main (F := Ideal))) ⟨m, fun _ => 0, g⟩ (fun r => (∀ c : Dev Cert.UkvDaIdeal.nD,
      r.2.mem ((c.tc : Thread Cert.UkvDaIdeal.nD Cert.UkvDaIdeal.τ).loc Cert.UkvDaIdeal.main_arg0) = m ((c.tc : Thread Cert.UkvDaIdeal.nD Cert.UkvDaIdeal.τ).loc Cert.UkvDaIdeal.main_arg0)
      ∧ r.2.mem ((c.tc : Thread Cert.UkvDaIdeal.nD Cert.UkvDaIdeal.τ).loc Cert.UkvDaIdeal.main_arg1) = m ((c.tc : Thread Cert.UkvDaIdeal.nD Cert.UkvDaIdeal.τ).loc Cert.UkvDaIdeal.main_arg1)
      ∧ r.2.mem ((c.tc : Thread Cert.UkvDaIdeal.nD Cert.UkvDaIdeal.τ).loc Cert.UkvDaIdeal.main_arg2) = m ((c.tc : Thread Cert.UkvDaIdeal.nD Cert.UkvDaIdeal.τ).loc Cert.UkvDaIdeal.main_arg2))
      ∧ r.2.sem = fun _ => 0)

def quiescent_UkvDaRefIdeal [hUkvDaRefIdeal : Cert.UkvDaRefIdeal.Facts] : Prop :=
  ∀ (m : (ℓ : Loc Cert.UkvDaRefIdeal.nD Cert.UkvDaRefIdeal.τ Cert.UkvDaRefIdeal.sig) → Buf (Elt Ideal) ℓ) (g : Dev Cert.UkvDaRefIdeal.nD → PrngReg), Pre_UkvDaRefIdeal m →
    θ_run (Cert.UkvDaRefIdeal.defs (F := Ideal)) (onTc (τ := Cert.UkvDaRefIdeal.τ) (Cert.UkvDaRefIdeal.main (F := Ideal))) ⟨m, fun _ => 0, g⟩ (fun r => (∀ c : Dev Cert.UkvDaRefIdeal.nD,
      r.2.mem ((c.tc : Thread Cert.UkvDaRefIdeal.nD Cert.UkvDaRefIdeal.τ).loc Cert.UkvDaRefIdeal.main_arg0) = m ((c.tc : Thread Cert.UkvDaRefIdeal.nD Cert.UkvDaRefIdeal.τ).loc Cert.UkvDaRefIdeal.main_arg0)
      ∧ r.2.mem ((c.tc : Thread Cert.UkvDaRefIdeal.nD Cert.UkvDaRefIdeal.τ).loc Cert.UkvDaRefIdeal.main_arg1) = m ((c.tc : Thread Cert.UkvDaRefIdeal.nD Cert.UkvDaRefIdeal.τ).loc Cert.UkvDaRefIdeal.main_arg1)
      ∧ r.2.mem ((c.tc : Thread Cert.UkvDaRefIdeal.nD Cert.UkvDaRefIdeal.τ).loc Cert.UkvDaRefIdeal.main_arg2) = m ((c.tc : Thread Cert.UkvDaRefIdeal.nD Cert.UkvDaRefIdeal.τ).loc Cert.UkvDaRefIdeal.main_arg2))
      ∧ r.2.sem = fun _ => 0)

def quiescent_UkvDw [hUkvDw : Cert.UkvDw.Facts] : Prop :=
  ∀ (m : (ℓ : Loc Cert.UkvDw.nD Cert.UkvDw.τ Cert.UkvDw.sig) → Buf (Elt Bits) ℓ) (g : Dev Cert.UkvDw.nD → PrngReg), Pre_UkvDw m →
    θ_run (Cert.UkvDw.defs (F := Bits)) (onTc (τ := Cert.UkvDw.τ) (Cert.UkvDw.main (F := Bits))) ⟨m, fun _ => 0, g⟩ (fun r => (∀ c : Dev Cert.UkvDw.nD,
      r.2.mem ((c.tc : Thread Cert.UkvDw.nD Cert.UkvDw.τ).loc Cert.UkvDw.main_arg0) = m ((c.tc : Thread Cert.UkvDw.nD Cert.UkvDw.τ).loc Cert.UkvDw.main_arg0)
      ∧ r.2.mem ((c.tc : Thread Cert.UkvDw.nD Cert.UkvDw.τ).loc Cert.UkvDw.main_arg1) = m ((c.tc : Thread Cert.UkvDw.nD Cert.UkvDw.τ).loc Cert.UkvDw.main_arg1)
      ∧ r.2.mem ((c.tc : Thread Cert.UkvDw.nD Cert.UkvDw.τ).loc Cert.UkvDw.main_arg2) = m ((c.tc : Thread Cert.UkvDw.nD Cert.UkvDw.τ).loc Cert.UkvDw.main_arg2))
      ∧ r.2.sem = fun _ => 0)

def quiescent_UkvDwIdeal [hUkvDwIdeal : Cert.UkvDwIdeal.Facts] : Prop :=
  ∀ (m : (ℓ : Loc Cert.UkvDwIdeal.nD Cert.UkvDwIdeal.τ Cert.UkvDwIdeal.sig) → Buf (Elt Ideal) ℓ) (g : Dev Cert.UkvDwIdeal.nD → PrngReg), Pre_UkvDwIdeal m →
    θ_run (Cert.UkvDwIdeal.defs (F := Ideal)) (onTc (τ := Cert.UkvDwIdeal.τ) (Cert.UkvDwIdeal.main (F := Ideal))) ⟨m, fun _ => 0, g⟩ (fun r => (∀ c : Dev Cert.UkvDwIdeal.nD,
      r.2.mem ((c.tc : Thread Cert.UkvDwIdeal.nD Cert.UkvDwIdeal.τ).loc Cert.UkvDwIdeal.main_arg0) = m ((c.tc : Thread Cert.UkvDwIdeal.nD Cert.UkvDwIdeal.τ).loc Cert.UkvDwIdeal.main_arg0)
      ∧ r.2.mem ((c.tc : Thread Cert.UkvDwIdeal.nD Cert.UkvDwIdeal.τ).loc Cert.UkvDwIdeal.main_arg1) = m ((c.tc : Thread Cert.UkvDwIdeal.nD Cert.UkvDwIdeal.τ).loc Cert.UkvDwIdeal.main_arg1)
      ∧ r.2.mem ((c.tc : Thread Cert.UkvDwIdeal.nD Cert.UkvDwIdeal.τ).loc Cert.UkvDwIdeal.main_arg2) = m ((c.tc : Thread Cert.UkvDwIdeal.nD Cert.UkvDwIdeal.τ).loc Cert.UkvDwIdeal.main_arg2))
      ∧ r.2.sem = fun _ => 0)

def quiescent_UkvDwRefIdeal [hUkvDwRefIdeal : Cert.UkvDwRefIdeal.Facts] : Prop :=
  ∀ (m : (ℓ : Loc Cert.UkvDwRefIdeal.nD Cert.UkvDwRefIdeal.τ Cert.UkvDwRefIdeal.sig) → Buf (Elt Ideal) ℓ) (g : Dev Cert.UkvDwRefIdeal.nD → PrngReg), Pre_UkvDwRefIdeal m →
    θ_run (Cert.UkvDwRefIdeal.defs (F := Ideal)) (onTc (τ := Cert.UkvDwRefIdeal.τ) (Cert.UkvDwRefIdeal.main (F := Ideal))) ⟨m, fun _ => 0, g⟩ (fun r => (∀ c : Dev Cert.UkvDwRefIdeal.nD,
      r.2.mem ((c.tc : Thread Cert.UkvDwRefIdeal.nD Cert.UkvDwRefIdeal.τ).loc Cert.UkvDwRefIdeal.main_arg0) = m ((c.tc : Thread Cert.UkvDwRefIdeal.nD Cert.UkvDwRefIdeal.τ).loc Cert.UkvDwRefIdeal.main_arg0)
      ∧ r.2.mem ((c.tc : Thread Cert.UkvDwRefIdeal.nD Cert.UkvDwRefIdeal.τ).loc Cert.UkvDwRefIdeal.main_arg1) = m ((c.tc : Thread Cert.UkvDwRefIdeal.nD Cert.UkvDwRefIdeal.τ).loc Cert.UkvDwRefIdeal.main_arg1)
      ∧ r.2.mem ((c.tc : Thread Cert.UkvDwRefIdeal.nD Cert.UkvDwRefIdeal.τ).loc Cert.UkvDwRefIdeal.main_arg2) = m ((c.tc : Thread Cert.UkvDwRefIdeal.nD Cert.UkvDwRefIdeal.τ).loc Cert.UkvDwRefIdeal.main_arg2))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamUq [hAdamUq : Cert.AdamUq.Facts] : Prop :=
  ∀ (m : (ℓ : Loc Cert.AdamUq.nD Cert.AdamUq.τ Cert.AdamUq.sig) → Buf (Elt Bits) ℓ) (g : Dev Cert.AdamUq.nD → PrngReg), Pre_AdamUq m →
    θ_run (Cert.AdamUq.defs (F := Bits)) (onTc (τ := Cert.AdamUq.τ) (Cert.AdamUq.main (F := Bits))) ⟨m, fun _ => 0, g⟩ (fun r => (∀ c : Dev Cert.AdamUq.nD,
      r.2.mem ((c.tc : Thread Cert.AdamUq.nD Cert.AdamUq.τ).loc Cert.AdamUq.main_arg0) = m ((c.tc : Thread Cert.AdamUq.nD Cert.AdamUq.τ).loc Cert.AdamUq.main_arg0)
      ∧ r.2.mem ((c.tc : Thread Cert.AdamUq.nD Cert.AdamUq.τ).loc Cert.AdamUq.main_arg1) = m ((c.tc : Thread Cert.AdamUq.nD Cert.AdamUq.τ).loc Cert.AdamUq.main_arg1)
      ∧ r.2.mem ((c.tc : Thread Cert.AdamUq.nD Cert.AdamUq.τ).loc Cert.AdamUq.main_arg2) = m ((c.tc : Thread Cert.AdamUq.nD Cert.AdamUq.τ).loc Cert.AdamUq.main_arg2)
      ∧ r.2.mem ((c.tc : Thread Cert.AdamUq.nD Cert.AdamUq.τ).loc Cert.AdamUq.main_arg3) = m ((c.tc : Thread Cert.AdamUq.nD Cert.AdamUq.τ).loc Cert.AdamUq.main_arg3))
      ∧ r.2.sem = fun _ => 0)

def quiescent_AdamUqIdeal [hAdamUqIdeal : Cert.AdamUqIdeal.Facts] : Prop :=
  ∀ (m : (ℓ : Loc Cert.AdamUqIdeal.nD Cert.AdamUqIdeal.τ Cert.AdamUqIdeal.sig) → Buf (Elt Ideal) ℓ) (g : Dev Cert.AdamUqIdeal.nD → PrngReg), Pre_AdamUqIdeal m →
    θ_run (Cert.AdamUqIdeal.defs (F := Ideal)) (onTc (τ := Cert.AdamUqIdeal.τ) (Cert.AdamUqIdeal.main (F := Ideal))) ⟨m, fun _ => 0, g⟩ (fun r => (∀ c : Dev Cert.AdamUqIdeal.nD,
      r.2.mem ((c.tc : Thread Cert.AdamUqIdeal.nD Cert.AdamUqIdeal.τ).loc Cert.AdamUqIdeal.main_arg0) = m ((c.tc : Thread Cert.AdamUqIdeal.nD Cert.AdamUqIdeal.τ).loc Cert.AdamUqIdeal.main_arg0)
      ∧ r.2.mem ((c.tc : Thread Cert.AdamUqIdeal.nD Cert.AdamUqIdeal.τ).loc Cert.AdamUqIdeal.main_arg1) = m ((c.tc : Thread Cert.AdamUqIdeal.nD Cert.AdamUqIdeal.τ).loc Cert.AdamUqIdeal.main_arg1)
      ∧ r.2.mem ((c.tc : Thread Cert.AdamUqIdeal.nD Cert.AdamUqIdeal.τ).loc Cert.AdamUqIdeal.main_arg2) = m ((c.tc : Thread Cert.AdamUqIdeal.nD Cert.AdamUqIdeal.τ).loc Cert.AdamUqIdeal.main_arg2)
      ∧ r.2.mem ((c.tc : Thread Cert.AdamUqIdeal.nD Cert.AdamUqIdeal.τ).loc Cert.AdamUqIdeal.main_arg3) = m ((c.tc : Thread Cert.AdamUqIdeal.nD Cert.AdamUqIdeal.τ).loc Cert.AdamUqIdeal.main_arg3))
      ∧ r.2.sem = fun _ => 0)

def quiescent_AdamUqRefIdeal [hAdamUqRefIdeal : Cert.AdamUqRefIdeal.Facts] : Prop :=
  ∀ (m : (ℓ : Loc Cert.AdamUqRefIdeal.nD Cert.AdamUqRefIdeal.τ Cert.AdamUqRefIdeal.sig) → Buf (Elt Ideal) ℓ) (g : Dev Cert.AdamUqRefIdeal.nD → PrngReg), Pre_AdamUqRefIdeal m →
    θ_run (Cert.AdamUqRefIdeal.defs (F := Ideal)) (onTc (τ := Cert.AdamUqRefIdeal.τ) (Cert.AdamUqRefIdeal.main (F := Ideal))) ⟨m, fun _ => 0, g⟩ (fun r => (∀ c : Dev Cert.AdamUqRefIdeal.nD,
      r.2.mem ((c.tc : Thread Cert.AdamUqRefIdeal.nD Cert.AdamUqRefIdeal.τ).loc Cert.AdamUqRefIdeal.main_arg0) = m ((c.tc : Thread Cert.AdamUqRefIdeal.nD Cert.AdamUqRefIdeal.τ).loc Cert.AdamUqRefIdeal.main_arg0)
      ∧ r.2.mem ((c.tc : Thread Cert.AdamUqRefIdeal.nD Cert.AdamUqRefIdeal.τ).loc Cert.AdamUqRefIdeal.main_arg1) = m ((c.tc : Thread Cert.AdamUqRefIdeal.nD Cert.AdamUqRefIdeal.τ).loc Cert.AdamUqRefIdeal.main_arg1)
      ∧ r.2.mem ((c.tc : Thread Cert.AdamUqRefIdeal.nD Cert.AdamUqRefIdeal.τ).loc Cert.AdamUqRefIdeal.main_arg2) = m ((c.tc : Thread Cert.AdamUqRefIdeal.nD Cert.AdamUqRefIdeal.τ).loc Cert.AdamUqRefIdeal.main_arg2)
      ∧ r.2.mem ((c.tc : Thread Cert.AdamUqRefIdeal.nD Cert.AdamUqRefIdeal.τ).loc Cert.AdamUqRefIdeal.main_arg3) = m ((c.tc : Thread Cert.AdamUqRefIdeal.nD Cert.AdamUqRefIdeal.τ).loc Cert.AdamUqRefIdeal.main_arg3))
      ∧ r.2.sem = fun _ => 0)

def quiescent_AdamUkv [hAdamUkv : Cert.AdamUkv.Facts] : Prop :=
  ∀ (m : (ℓ : Loc Cert.AdamUkv.nD Cert.AdamUkv.τ Cert.AdamUkv.sig) → Buf (Elt Bits) ℓ) (g : Dev Cert.AdamUkv.nD → PrngReg), Pre_AdamUkv m →
    θ_run (Cert.AdamUkv.defs (F := Bits)) (onTc (τ := Cert.AdamUkv.τ) (Cert.AdamUkv.main (F := Bits))) ⟨m, fun _ => 0, g⟩ (fun r => (∀ c : Dev Cert.AdamUkv.nD,
      r.2.mem ((c.tc : Thread Cert.AdamUkv.nD Cert.AdamUkv.τ).loc Cert.AdamUkv.main_arg0) = m ((c.tc : Thread Cert.AdamUkv.nD Cert.AdamUkv.τ).loc Cert.AdamUkv.main_arg0)
      ∧ r.2.mem ((c.tc : Thread Cert.AdamUkv.nD Cert.AdamUkv.τ).loc Cert.AdamUkv.main_arg1) = m ((c.tc : Thread Cert.AdamUkv.nD Cert.AdamUkv.τ).loc Cert.AdamUkv.main_arg1)
      ∧ r.2.mem ((c.tc : Thread Cert.AdamUkv.nD Cert.AdamUkv.τ).loc Cert.AdamUkv.main_arg2) = m ((c.tc : Thread Cert.AdamUkv.nD Cert.AdamUkv.τ).loc Cert.AdamUkv.main_arg2)
      ∧ r.2.mem ((c.tc : Thread Cert.AdamUkv.nD Cert.AdamUkv.τ).loc Cert.AdamUkv.main_arg3) = m ((c.tc : Thread Cert.AdamUkv.nD Cert.AdamUkv.τ).loc Cert.AdamUkv.main_arg3))
      ∧ r.2.sem = fun _ => 0)

def quiescent_AdamUkvIdeal [hAdamUkvIdeal : Cert.AdamUkvIdeal.Facts] : Prop :=
  ∀ (m : (ℓ : Loc Cert.AdamUkvIdeal.nD Cert.AdamUkvIdeal.τ Cert.AdamUkvIdeal.sig) → Buf (Elt Ideal) ℓ) (g : Dev Cert.AdamUkvIdeal.nD → PrngReg), Pre_AdamUkvIdeal m →
    θ_run (Cert.AdamUkvIdeal.defs (F := Ideal)) (onTc (τ := Cert.AdamUkvIdeal.τ) (Cert.AdamUkvIdeal.main (F := Ideal))) ⟨m, fun _ => 0, g⟩ (fun r => (∀ c : Dev Cert.AdamUkvIdeal.nD,
      r.2.mem ((c.tc : Thread Cert.AdamUkvIdeal.nD Cert.AdamUkvIdeal.τ).loc Cert.AdamUkvIdeal.main_arg0) = m ((c.tc : Thread Cert.AdamUkvIdeal.nD Cert.AdamUkvIdeal.τ).loc Cert.AdamUkvIdeal.main_arg0)
      ∧ r.2.mem ((c.tc : Thread Cert.AdamUkvIdeal.nD Cert.AdamUkvIdeal.τ).loc Cert.AdamUkvIdeal.main_arg1) = m ((c.tc : Thread Cert.AdamUkvIdeal.nD Cert.AdamUkvIdeal.τ).loc Cert.AdamUkvIdeal.main_arg1)
      ∧ r.2.mem ((c.tc : Thread Cert.AdamUkvIdeal.nD Cert.AdamUkvIdeal.τ).loc Cert.AdamUkvIdeal.main_arg2) = m ((c.tc : Thread Cert.AdamUkvIdeal.nD Cert.AdamUkvIdeal.τ).loc Cert.AdamUkvIdeal.main_arg2)
      ∧ r.2.mem ((c.tc : Thread Cert.AdamUkvIdeal.nD Cert.AdamUkvIdeal.τ).loc Cert.AdamUkvIdeal.main_arg3) = m ((c.tc : Thread Cert.AdamUkvIdeal.nD Cert.AdamUkvIdeal.τ).loc Cert.AdamUkvIdeal.main_arg3))
      ∧ r.2.sem = fun _ => 0)

def quiescent_AdamUkvRefIdeal [hAdamUkvRefIdeal : Cert.AdamUkvRefIdeal.Facts] : Prop :=
  ∀ (m : (ℓ : Loc Cert.AdamUkvRefIdeal.nD Cert.AdamUkvRefIdeal.τ Cert.AdamUkvRefIdeal.sig) → Buf (Elt Ideal) ℓ) (g : Dev Cert.AdamUkvRefIdeal.nD → PrngReg), Pre_AdamUkvRefIdeal m →
    θ_run (Cert.AdamUkvRefIdeal.defs (F := Ideal)) (onTc (τ := Cert.AdamUkvRefIdeal.τ) (Cert.AdamUkvRefIdeal.main (F := Ideal))) ⟨m, fun _ => 0, g⟩ (fun r => (∀ c : Dev Cert.AdamUkvRefIdeal.nD,
      r.2.mem ((c.tc : Thread Cert.AdamUkvRefIdeal.nD Cert.AdamUkvRefIdeal.τ).loc Cert.AdamUkvRefIdeal.main_arg0) = m ((c.tc : Thread Cert.AdamUkvRefIdeal.nD Cert.AdamUkvRefIdeal.τ).loc Cert.AdamUkvRefIdeal.main_arg0)
      ∧ r.2.mem ((c.tc : Thread Cert.AdamUkvRefIdeal.nD Cert.AdamUkvRefIdeal.τ).loc Cert.AdamUkvRefIdeal.main_arg1) = m ((c.tc : Thread Cert.AdamUkvRefIdeal.nD Cert.AdamUkvRefIdeal.τ).loc Cert.AdamUkvRefIdeal.main_arg1)
      ∧ r.2.mem ((c.tc : Thread Cert.AdamUkvRefIdeal.nD Cert.AdamUkvRefIdeal.τ).loc Cert.AdamUkvRefIdeal.main_arg2) = m ((c.tc : Thread Cert.AdamUkvRefIdeal.nD Cert.AdamUkvRefIdeal.τ).loc Cert.AdamUkvRefIdeal.main_arg2)
      ∧ r.2.mem ((c.tc : Thread Cert.AdamUkvRefIdeal.nD Cert.AdamUkvRefIdeal.τ).loc Cert.AdamUkvRefIdeal.main_arg3) = m ((c.tc : Thread Cert.AdamUkvRefIdeal.nD Cert.AdamUkvRefIdeal.τ).loc Cert.AdamUkvRefIdeal.main_arg3))
      ∧ r.2.sem = fun _ => 0)

def quiescent_AdamLru [hAdamLru : Cert.AdamLru.Facts] : Prop :=
  ∀ (m : (ℓ : Loc Cert.AdamLru.nD Cert.AdamLru.τ Cert.AdamLru.sig) → Buf (Elt Bits) ℓ) (g : Dev Cert.AdamLru.nD → PrngReg), Pre_AdamLru m →
    θ_run (Cert.AdamLru.defs (F := Bits)) (onTc (τ := Cert.AdamLru.τ) (Cert.AdamLru.main (F := Bits))) ⟨m, fun _ => 0, g⟩ (fun r => (∀ c : Dev Cert.AdamLru.nD,
      r.2.mem ((c.tc : Thread Cert.AdamLru.nD Cert.AdamLru.τ).loc Cert.AdamLru.main_arg0) = m ((c.tc : Thread Cert.AdamLru.nD Cert.AdamLru.τ).loc Cert.AdamLru.main_arg0)
      ∧ r.2.mem ((c.tc : Thread Cert.AdamLru.nD Cert.AdamLru.τ).loc Cert.AdamLru.main_arg1) = m ((c.tc : Thread Cert.AdamLru.nD Cert.AdamLru.τ).loc Cert.AdamLru.main_arg1)
      ∧ r.2.mem ((c.tc : Thread Cert.AdamLru.nD Cert.AdamLru.τ).loc Cert.AdamLru.main_arg2) = m ((c.tc : Thread Cert.AdamLru.nD Cert.AdamLru.τ).loc Cert.AdamLru.main_arg2)
      ∧ r.2.mem ((c.tc : Thread Cert.AdamLru.nD Cert.AdamLru.τ).loc Cert.AdamLru.main_arg3) = m ((c.tc : Thread Cert.AdamLru.nD Cert.AdamLru.τ).loc Cert.AdamLru.main_arg3))
      ∧ r.2.sem = fun _ => 0)

def quiescent_AdamLruIdeal [hAdamLruIdeal : Cert.AdamLruIdeal.Facts] : Prop :=
  ∀ (m : (ℓ : Loc Cert.AdamLruIdeal.nD Cert.AdamLruIdeal.τ Cert.AdamLruIdeal.sig) → Buf (Elt Ideal) ℓ) (g : Dev Cert.AdamLruIdeal.nD → PrngReg), Pre_AdamLruIdeal m →
    θ_run (Cert.AdamLruIdeal.defs (F := Ideal)) (onTc (τ := Cert.AdamLruIdeal.τ) (Cert.AdamLruIdeal.main (F := Ideal))) ⟨m, fun _ => 0, g⟩ (fun r => (∀ c : Dev Cert.AdamLruIdeal.nD,
      r.2.mem ((c.tc : Thread Cert.AdamLruIdeal.nD Cert.AdamLruIdeal.τ).loc Cert.AdamLruIdeal.main_arg0) = m ((c.tc : Thread Cert.AdamLruIdeal.nD Cert.AdamLruIdeal.τ).loc Cert.AdamLruIdeal.main_arg0)
      ∧ r.2.mem ((c.tc : Thread Cert.AdamLruIdeal.nD Cert.AdamLruIdeal.τ).loc Cert.AdamLruIdeal.main_arg1) = m ((c.tc : Thread Cert.AdamLruIdeal.nD Cert.AdamLruIdeal.τ).loc Cert.AdamLruIdeal.main_arg1)
      ∧ r.2.mem ((c.tc : Thread Cert.AdamLruIdeal.nD Cert.AdamLruIdeal.τ).loc Cert.AdamLruIdeal.main_arg2) = m ((c.tc : Thread Cert.AdamLruIdeal.nD Cert.AdamLruIdeal.τ).loc Cert.AdamLruIdeal.main_arg2)
      ∧ r.2.mem ((c.tc : Thread Cert.AdamLruIdeal.nD Cert.AdamLruIdeal.τ).loc Cert.AdamLruIdeal.main_arg3) = m ((c.tc : Thread Cert.AdamLruIdeal.nD Cert.AdamLruIdeal.τ).loc Cert.AdamLruIdeal.main_arg3))
      ∧ r.2.sem = fun _ => 0)

def quiescent_AdamLruRefIdeal [hAdamLruRefIdeal : Cert.AdamLruRefIdeal.Facts] : Prop :=
  ∀ (m : (ℓ : Loc Cert.AdamLruRefIdeal.nD Cert.AdamLruRefIdeal.τ Cert.AdamLruRefIdeal.sig) → Buf (Elt Ideal) ℓ) (g : Dev Cert.AdamLruRefIdeal.nD → PrngReg), Pre_AdamLruRefIdeal m →
    θ_run (Cert.AdamLruRefIdeal.defs (F := Ideal)) (onTc (τ := Cert.AdamLruRefIdeal.τ) (Cert.AdamLruRefIdeal.main (F := Ideal))) ⟨m, fun _ => 0, g⟩ (fun r => (∀ c : Dev Cert.AdamLruRefIdeal.nD,
      r.2.mem ((c.tc : Thread Cert.AdamLruRefIdeal.nD Cert.AdamLruRefIdeal.τ).loc Cert.AdamLruRefIdeal.main_arg0) = m ((c.tc : Thread Cert.AdamLruRefIdeal.nD Cert.AdamLruRefIdeal.τ).loc Cert.AdamLruRefIdeal.main_arg0)
      ∧ r.2.mem ((c.tc : Thread Cert.AdamLruRefIdeal.nD Cert.AdamLruRefIdeal.τ).loc Cert.AdamLruRefIdeal.main_arg1) = m ((c.tc : Thread Cert.AdamLruRefIdeal.nD Cert.AdamLruRefIdeal.τ).loc Cert.AdamLruRefIdeal.main_arg1)
      ∧ r.2.mem ((c.tc : Thread Cert.AdamLruRefIdeal.nD Cert.AdamLruRefIdeal.τ).loc Cert.AdamLruRefIdeal.main_arg2) = m ((c.tc : Thread Cert.AdamLruRefIdeal.nD Cert.AdamLruRefIdeal.τ).loc Cert.AdamLruRefIdeal.main_arg2)
      ∧ r.2.mem ((c.tc : Thread Cert.AdamLruRefIdeal.nD Cert.AdamLruRefIdeal.τ).loc Cert.AdamLruRefIdeal.main_arg3) = m ((c.tc : Thread Cert.AdamLruRefIdeal.nD Cert.AdamLruRefIdeal.τ).loc Cert.AdamLruRefIdeal.main_arg3))
      ∧ r.2.sem = fun _ => 0)

def quiescent_AdamGdn [hAdamGdn : Cert.AdamGdn.Facts] : Prop :=
  ∀ (m : (ℓ : Loc Cert.AdamGdn.nD Cert.AdamGdn.τ Cert.AdamGdn.sig) → Buf (Elt Bits) ℓ) (g : Dev Cert.AdamGdn.nD → PrngReg), Pre_AdamGdn m →
    θ_run (Cert.AdamGdn.defs (F := Bits)) (onTc (τ := Cert.AdamGdn.τ) (Cert.AdamGdn.main (F := Bits))) ⟨m, fun _ => 0, g⟩ (fun r => (∀ c : Dev Cert.AdamGdn.nD,
      r.2.mem ((c.tc : Thread Cert.AdamGdn.nD Cert.AdamGdn.τ).loc Cert.AdamGdn.main_arg0) = m ((c.tc : Thread Cert.AdamGdn.nD Cert.AdamGdn.τ).loc Cert.AdamGdn.main_arg0)
      ∧ r.2.mem ((c.tc : Thread Cert.AdamGdn.nD Cert.AdamGdn.τ).loc Cert.AdamGdn.main_arg1) = m ((c.tc : Thread Cert.AdamGdn.nD Cert.AdamGdn.τ).loc Cert.AdamGdn.main_arg1)
      ∧ r.2.mem ((c.tc : Thread Cert.AdamGdn.nD Cert.AdamGdn.τ).loc Cert.AdamGdn.main_arg2) = m ((c.tc : Thread Cert.AdamGdn.nD Cert.AdamGdn.τ).loc Cert.AdamGdn.main_arg2)
      ∧ r.2.mem ((c.tc : Thread Cert.AdamGdn.nD Cert.AdamGdn.τ).loc Cert.AdamGdn.main_arg3) = m ((c.tc : Thread Cert.AdamGdn.nD Cert.AdamGdn.τ).loc Cert.AdamGdn.main_arg3))
      ∧ r.2.sem = fun _ => 0)

def quiescent_AdamGdnIdeal [hAdamGdnIdeal : Cert.AdamGdnIdeal.Facts] : Prop :=
  ∀ (m : (ℓ : Loc Cert.AdamGdnIdeal.nD Cert.AdamGdnIdeal.τ Cert.AdamGdnIdeal.sig) → Buf (Elt Ideal) ℓ) (g : Dev Cert.AdamGdnIdeal.nD → PrngReg), Pre_AdamGdnIdeal m →
    θ_run (Cert.AdamGdnIdeal.defs (F := Ideal)) (onTc (τ := Cert.AdamGdnIdeal.τ) (Cert.AdamGdnIdeal.main (F := Ideal))) ⟨m, fun _ => 0, g⟩ (fun r => (∀ c : Dev Cert.AdamGdnIdeal.nD,
      r.2.mem ((c.tc : Thread Cert.AdamGdnIdeal.nD Cert.AdamGdnIdeal.τ).loc Cert.AdamGdnIdeal.main_arg0) = m ((c.tc : Thread Cert.AdamGdnIdeal.nD Cert.AdamGdnIdeal.τ).loc Cert.AdamGdnIdeal.main_arg0)
      ∧ r.2.mem ((c.tc : Thread Cert.AdamGdnIdeal.nD Cert.AdamGdnIdeal.τ).loc Cert.AdamGdnIdeal.main_arg1) = m ((c.tc : Thread Cert.AdamGdnIdeal.nD Cert.AdamGdnIdeal.τ).loc Cert.AdamGdnIdeal.main_arg1)
      ∧ r.2.mem ((c.tc : Thread Cert.AdamGdnIdeal.nD Cert.AdamGdnIdeal.τ).loc Cert.AdamGdnIdeal.main_arg2) = m ((c.tc : Thread Cert.AdamGdnIdeal.nD Cert.AdamGdnIdeal.τ).loc Cert.AdamGdnIdeal.main_arg2)
      ∧ r.2.mem ((c.tc : Thread Cert.AdamGdnIdeal.nD Cert.AdamGdnIdeal.τ).loc Cert.AdamGdnIdeal.main_arg3) = m ((c.tc : Thread Cert.AdamGdnIdeal.nD Cert.AdamGdnIdeal.τ).loc Cert.AdamGdnIdeal.main_arg3))
      ∧ r.2.sem = fun _ => 0)

def quiescent_AdamGdnRefIdeal [hAdamGdnRefIdeal : Cert.AdamGdnRefIdeal.Facts] : Prop :=
  ∀ (m : (ℓ : Loc Cert.AdamGdnRefIdeal.nD Cert.AdamGdnRefIdeal.τ Cert.AdamGdnRefIdeal.sig) → Buf (Elt Ideal) ℓ) (g : Dev Cert.AdamGdnRefIdeal.nD → PrngReg), Pre_AdamGdnRefIdeal m →
    θ_run (Cert.AdamGdnRefIdeal.defs (F := Ideal)) (onTc (τ := Cert.AdamGdnRefIdeal.τ) (Cert.AdamGdnRefIdeal.main (F := Ideal))) ⟨m, fun _ => 0, g⟩ (fun r => (∀ c : Dev Cert.AdamGdnRefIdeal.nD,
      r.2.mem ((c.tc : Thread Cert.AdamGdnRefIdeal.nD Cert.AdamGdnRefIdeal.τ).loc Cert.AdamGdnRefIdeal.main_arg0) = m ((c.tc : Thread Cert.AdamGdnRefIdeal.nD Cert.AdamGdnRefIdeal.τ).loc Cert.AdamGdnRefIdeal.main_arg0)
      ∧ r.2.mem ((c.tc : Thread Cert.AdamGdnRefIdeal.nD Cert.AdamGdnRefIdeal.τ).loc Cert.AdamGdnRefIdeal.main_arg1) = m ((c.tc : Thread Cert.AdamGdnRefIdeal.nD Cert.AdamGdnRefIdeal.τ).loc Cert.AdamGdnRefIdeal.main_arg1)
      ∧ r.2.mem ((c.tc : Thread Cert.AdamGdnRefIdeal.nD Cert.AdamGdnRefIdeal.τ).loc Cert.AdamGdnRefIdeal.main_arg2) = m ((c.tc : Thread Cert.AdamGdnRefIdeal.nD Cert.AdamGdnRefIdeal.τ).loc Cert.AdamGdnRefIdeal.main_arg2)
      ∧ r.2.mem ((c.tc : Thread Cert.AdamGdnRefIdeal.nD Cert.AdamGdnRefIdeal.τ).loc Cert.AdamGdnRefIdeal.main_arg3) = m ((c.tc : Thread Cert.AdamGdnRefIdeal.nD Cert.AdamGdnRefIdeal.τ).loc Cert.AdamGdnRefIdeal.main_arg3))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ r.2.sem = fun _ => 0)

def quiescent_AdamBranchRefIdeal [hAdamBranchRefIdeal : Cert.AdamBranchRefIdeal.Facts] : Prop :=
  ∀ (m : (ℓ : Loc Cert.AdamBranchRefIdeal.nD Cert.AdamBranchRefIdeal.τ Cert.AdamBranchRefIdeal.sig) → Buf (Elt Ideal) ℓ) (g : Dev Cert.AdamBranchRefIdeal.nD → PrngReg), Pre_AdamBranchRefIdeal m →
    θ_run (Cert.AdamBranchRefIdeal.defs (F := Ideal)) (onTc (τ := Cert.AdamBranchRefIdeal.τ) (Cert.AdamBranchRefIdeal.main (F := Ideal))) ⟨m, fun _ => 0, g⟩ (fun r => (∀ c : Dev Cert.AdamBranchRefIdeal.nD,
      r.2.mem ((c.tc : Thread Cert.AdamBranchRefIdeal.nD Cert.AdamBranchRefIdeal.τ).loc Cert.AdamBranchRefIdeal.main_arg0) = m ((c.tc : Thread Cert.AdamBranchRefIdeal.nD Cert.AdamBranchRefIdeal.τ).loc Cert.AdamBranchRefIdeal.main_arg0)
      ∧ r.2.mem ((c.tc : Thread Cert.AdamBranchRefIdeal.nD Cert.AdamBranchRefIdeal.τ).loc Cert.AdamBranchRefIdeal.main_arg1) = m ((c.tc : Thread Cert.AdamBranchRefIdeal.nD Cert.AdamBranchRefIdeal.τ).loc Cert.AdamBranchRefIdeal.main_arg1)
      ∧ r.2.mem ((c.tc : Thread Cert.AdamBranchRefIdeal.nD Cert.AdamBranchRefIdeal.τ).loc Cert.AdamBranchRefIdeal.main_arg2) = m ((c.tc : Thread Cert.AdamBranchRefIdeal.nD Cert.AdamBranchRefIdeal.τ).loc Cert.AdamBranchRefIdeal.main_arg2)
      ∧ r.2.mem ((c.tc : Thread Cert.AdamBranchRefIdeal.nD Cert.AdamBranchRefIdeal.τ).loc Cert.AdamBranchRefIdeal.main_arg3) = m ((c.tc : Thread Cert.AdamBranchRefIdeal.nD Cert.AdamBranchRefIdeal.τ).loc Cert.AdamBranchRefIdeal.main_arg3))
      ∧ r.2.sem = fun _ => 0)

def quiescent_AdamBias [hAdamBias : Cert.AdamBias.Facts] : Prop :=
  ∀ (m : (ℓ : Loc Cert.AdamBias.nD Cert.AdamBias.τ Cert.AdamBias.sig) → Buf (Elt Bits) ℓ) (g : Dev Cert.AdamBias.nD → PrngReg), Pre_AdamBias m →
    θ_run (Cert.AdamBias.defs (F := Bits)) (onTc (τ := Cert.AdamBias.τ) (Cert.AdamBias.main (F := Bits))) ⟨m, fun _ => 0, g⟩ (fun r => (∀ c : Dev Cert.AdamBias.nD,
      r.2.mem ((c.tc : Thread Cert.AdamBias.nD Cert.AdamBias.τ).loc Cert.AdamBias.main_arg0) = m ((c.tc : Thread Cert.AdamBias.nD Cert.AdamBias.τ).loc Cert.AdamBias.main_arg0)
      ∧ r.2.mem ((c.tc : Thread Cert.AdamBias.nD Cert.AdamBias.τ).loc Cert.AdamBias.main_arg1) = m ((c.tc : Thread Cert.AdamBias.nD Cert.AdamBias.τ).loc Cert.AdamBias.main_arg1)
      ∧ r.2.mem ((c.tc : Thread Cert.AdamBias.nD Cert.AdamBias.τ).loc Cert.AdamBias.main_arg2) = m ((c.tc : Thread Cert.AdamBias.nD Cert.AdamBias.τ).loc Cert.AdamBias.main_arg2)
      ∧ r.2.mem ((c.tc : Thread Cert.AdamBias.nD Cert.AdamBias.τ).loc Cert.AdamBias.main_arg3) = m ((c.tc : Thread Cert.AdamBias.nD Cert.AdamBias.τ).loc Cert.AdamBias.main_arg3))
      ∧ r.2.sem = fun _ => 0)

def quiescent_AdamBiasIdeal [hAdamBiasIdeal : Cert.AdamBiasIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg), Pre_AdamBiasIdeal m →
    θ_run (Cert.AdamBiasIdeal.defs (F := Ideal)) (onTc (τ := Cert.AdamBiasIdeal.τ) (Cert.AdamBiasIdeal.main (F := Ideal))) ⟨m, fun _ => 0, g⟩ (fun r => (∀ c : Dev Cert.AdamBiasIdeal.nD,
      r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
      ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
      ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
      ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ r.2.sem = fun _ => 0)

def quiescent_AdamBiasRefIdeal [hAdamBiasRefIdeal : Cert.AdamBiasRefIdeal.Facts] : Prop :=
  ∀ (m : (ℓ : Loc Cert.AdamBiasRefIdeal.nD Cert.AdamBiasRefIdeal.τ Cert.AdamBiasRefIdeal.sig) → Buf (Elt Ideal) ℓ) (g : Dev Cert.AdamBiasRefIdeal.nD → PrngReg), Pre_AdamBiasRefIdeal m →
    θ_run (Cert.AdamBiasRefIdeal.defs (F := Ideal)) (onTc (τ := Cert.AdamBiasRefIdeal.τ) (Cert.AdamBiasRefIdeal.main (F := Ideal))) ⟨m, fun _ => 0, g⟩ (fun r => (∀ c : Dev Cert.AdamBiasRefIdeal.nD,
      r.2.mem ((c.tc : Thread Cert.AdamBiasRefIdeal.nD Cert.AdamBiasRefIdeal.τ).loc Cert.AdamBiasRefIdeal.main_arg0) = m ((c.tc : Thread Cert.AdamBiasRefIdeal.nD Cert.AdamBiasRefIdeal.τ).loc Cert.AdamBiasRefIdeal.main_arg0)
      ∧ r.2.mem ((c.tc : Thread Cert.AdamBiasRefIdeal.nD Cert.AdamBiasRefIdeal.τ).loc Cert.AdamBiasRefIdeal.main_arg1) = m ((c.tc : Thread Cert.AdamBiasRefIdeal.nD Cert.AdamBiasRefIdeal.τ).loc Cert.AdamBiasRefIdeal.main_arg1)
      ∧ r.2.mem ((c.tc : Thread Cert.AdamBiasRefIdeal.nD Cert.AdamBiasRefIdeal.τ).loc Cert.AdamBiasRefIdeal.main_arg2) = m ((c.tc : Thread Cert.AdamBiasRefIdeal.nD Cert.AdamBiasRefIdeal.τ).loc Cert.AdamBiasRefIdeal.main_arg2)
      ∧ r.2.mem ((c.tc : Thread Cert.AdamBiasRefIdeal.nD Cert.AdamBiasRefIdeal.τ).loc Cert.AdamBiasRefIdeal.main_arg3) = m ((c.tc : Thread Cert.AdamBiasRefIdeal.nD Cert.AdamBiasRefIdeal.τ).loc Cert.AdamBiasRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamRep [hAdamRep : Cert.AdamRep.Facts] : Prop :=
  ∀ (m : (ℓ : Loc Cert.AdamRep.nD Cert.AdamRep.τ Cert.AdamRep.sig) → Buf (Elt Bits) ℓ) (g : Dev Cert.AdamRep.nD → PrngReg), Pre_AdamRep m →
    θ_run (Cert.AdamRep.defs (F := Bits)) (onTc (τ := Cert.AdamRep.τ) (Cert.AdamRep.main (F := Bits))) ⟨m, fun _ => 0, g⟩ (fun r => (∀ c : Dev Cert.AdamRep.nD,
      r.2.mem ((c.tc : Thread Cert.AdamRep.nD Cert.AdamRep.τ).loc Cert.AdamRep.main_arg0) = m ((c.tc : Thread Cert.AdamRep.nD Cert.AdamRep.τ).loc Cert.AdamRep.main_arg0)
      ∧ r.2.mem ((c.tc : Thread Cert.AdamRep.nD Cert.AdamRep.τ).loc Cert.AdamRep.main_arg1) = m ((c.tc : Thread Cert.AdamRep.nD Cert.AdamRep.τ).loc Cert.AdamRep.main_arg1)
      ∧ r.2.mem ((c.tc : Thread Cert.AdamRep.nD Cert.AdamRep.τ).loc Cert.AdamRep.main_arg2) = m ((c.tc : Thread Cert.AdamRep.nD Cert.AdamRep.τ).loc Cert.AdamRep.main_arg2)
      ∧ r.2.mem ((c.tc : Thread Cert.AdamRep.nD Cert.AdamRep.τ).loc Cert.AdamRep.main_arg3) = m ((c.tc : Thread Cert.AdamRep.nD Cert.AdamRep.τ).loc Cert.AdamRep.main_arg3))
      ∧ r.2.sem = fun _ => 0)

def quiescent_AdamRepIdeal [hAdamRepIdeal : Cert.AdamRepIdeal.Facts] : Prop :=
  ∀ (m : (ℓ : Loc Cert.AdamRepIdeal.nD Cert.AdamRepIdeal.τ Cert.AdamRepIdeal.sig) → Buf (Elt Ideal) ℓ) (g : Dev Cert.AdamRepIdeal.nD → PrngReg), Pre_AdamRepIdeal m →
    θ_run (Cert.AdamRepIdeal.defs (F := Ideal)) (onTc (τ := Cert.AdamRepIdeal.τ) (Cert.AdamRepIdeal.main (F := Ideal))) ⟨m, fun _ => 0, g⟩ (fun r => (∀ c : Dev Cert.AdamRepIdeal.nD,
      r.2.mem ((c.tc : Thread Cert.AdamRepIdeal.nD Cert.AdamRepIdeal.τ).loc Cert.AdamRepIdeal.main_arg0) = m ((c.tc : Thread Cert.AdamRepIdeal.nD Cert.AdamRepIdeal.τ).loc Cert.AdamRepIdeal.main_arg0)
      ∧ r.2.mem ((c.tc : Thread Cert.AdamRepIdeal.nD Cert.AdamRepIdeal.τ).loc Cert.AdamRepIdeal.main_arg1) = m ((c.tc : Thread Cert.AdamRepIdeal.nD Cert.AdamRepIdeal.τ).loc Cert.AdamRepIdeal.main_arg1)
      ∧ r.2.mem ((c.tc : Thread Cert.AdamRepIdeal.nD Cert.AdamRepIdeal.τ).loc Cert.AdamRepIdeal.main_arg2) = m ((c.tc : Thread Cert.AdamRepIdeal.nD Cert.AdamRepIdeal.τ).loc Cert.AdamRepIdeal.main_arg2)
      ∧ r.2.mem ((c.tc : Thread Cert.AdamRepIdeal.nD Cert.AdamRepIdeal.τ).loc Cert.AdamRepIdeal.main_arg3) = m ((c.tc : Thread Cert.AdamRepIdeal.nD Cert.AdamRepIdeal.τ).loc Cert.AdamRepIdeal.main_arg3))
      ∧ r.2.sem = fun _ => 0)

def quiescent_AdamRepRefIdeal [hAdamRepRefIdeal : Cert.AdamRepRefIdeal.Facts] : Prop :=
  ∀ (m : (ℓ : Loc Cert.AdamRepRefIdeal.nD Cert.AdamRepRefIdeal.τ Cert.AdamRepRefIdeal.sig) → Buf (Elt Ideal) ℓ) (g : Dev Cert.AdamRepRefIdeal.nD → PrngReg), Pre_AdamRepRefIdeal m →
    θ_run (Cert.AdamRepRefIdeal.defs (F := Ideal)) (onTc (τ := Cert.AdamRepRefIdeal.τ) (Cert.AdamRepRefIdeal.main (F := Ideal))) ⟨m, fun _ => 0, g⟩ (fun r => (∀ c : Dev Cert.AdamRepRefIdeal.nD,
      r.2.mem ((c.tc : Thread Cert.AdamRepRefIdeal.nD Cert.AdamRepRefIdeal.τ).loc Cert.AdamRepRefIdeal.main_arg0) = m ((c.tc : Thread Cert.AdamRepRefIdeal.nD Cert.AdamRepRefIdeal.τ).loc Cert.AdamRepRefIdeal.main_arg0)
      ∧ r.2.mem ((c.tc : Thread Cert.AdamRepRefIdeal.nD Cert.AdamRepRefIdeal.τ).loc Cert.AdamRepRefIdeal.main_arg1) = m ((c.tc : Thread Cert.AdamRepRefIdeal.nD Cert.AdamRepRefIdeal.τ).loc Cert.AdamRepRefIdeal.main_arg1)
      ∧ r.2.mem ((c.tc : Thread Cert.AdamRepRefIdeal.nD Cert.AdamRepRefIdeal.τ).loc Cert.AdamRepRefIdeal.main_arg2) = m ((c.tc : Thread Cert.AdamRepRefIdeal.nD Cert.AdamRepRefIdeal.τ).loc Cert.AdamRepRefIdeal.main_arg2)
      ∧ r.2.mem ((c.tc : Thread Cert.AdamRepRefIdeal.nD Cert.AdamRepRefIdeal.τ).loc Cert.AdamRepRefIdeal.main_arg3) = m ((c.tc : Thread Cert.AdamRepRefIdeal.nD Cert.AdamRepRefIdeal.τ).loc Cert.AdamRepRefIdeal.main_arg3))
      ∧ r.2.sem = fun _ => 0)

def quiescent_RepSum [hRepSum : Cert.RepSum.Facts] : Prop :=
  ∀ (m : (ℓ : Loc Cert.RepSum.nD Cert.RepSum.τ Cert.RepSum.sig) → Buf (Elt Bits) ℓ) (g : Dev Cert.RepSum.nD → PrngReg), Pre_RepSum m →
    θ_run (Cert.RepSum.defs (F := Bits)) (onTc (τ := Cert.RepSum.τ) (Cert.RepSum.main (F := Bits))) ⟨m, fun _ => 0, g⟩ (fun r => (∀ c : Dev Cert.RepSum.nD,
      r.2.mem ((c.tc : Thread Cert.RepSum.nD Cert.RepSum.τ).loc Cert.RepSum.main_arg0) = m ((c.tc : Thread Cert.RepSum.nD Cert.RepSum.τ).loc Cert.RepSum.main_arg0))
      ∧ r.2.sem = fun _ => 0)

def quiescent_RepSumIdeal [hRepSumIdeal : Cert.RepSumIdeal.Facts] : Prop :=
  ∀ (m : (ℓ : Loc Cert.RepSumIdeal.nD Cert.RepSumIdeal.τ Cert.RepSumIdeal.sig) → Buf (Elt Ideal) ℓ) (g : Dev Cert.RepSumIdeal.nD → PrngReg), Pre_RepSumIdeal m →
    θ_run (Cert.RepSumIdeal.defs (F := Ideal)) (onTc (τ := Cert.RepSumIdeal.τ) (Cert.RepSumIdeal.main (F := Ideal))) ⟨m, fun _ => 0, g⟩ (fun r => (∀ c : Dev Cert.RepSumIdeal.nD,
      r.2.mem ((c.tc : Thread Cert.RepSumIdeal.nD Cert.RepSumIdeal.τ).loc Cert.RepSumIdeal.main_arg0) = m ((c.tc : Thread Cert.RepSumIdeal.nD Cert.RepSumIdeal.τ).loc Cert.RepSumIdeal.main_arg0))
      ∧ r.2.sem = fun _ => 0)

def quiescent_RepSumRefIdeal [hRepSumRefIdeal : Cert.RepSumRefIdeal.Facts] : Prop :=
  ∀ (m : (ℓ : Loc Cert.RepSumRefIdeal.nD Cert.RepSumRefIdeal.τ Cert.RepSumRefIdeal.sig) → Buf (Elt Ideal) ℓ) (g : Dev Cert.RepSumRefIdeal.nD → PrngReg), Pre_RepSumRefIdeal m →
    θ_run (Cert.RepSumRefIdeal.defs (F := Ideal)) (onTc (τ := Cert.RepSumRefIdeal.τ) (Cert.RepSumRefIdeal.main (F := Ideal))) ⟨m, fun _ => 0, g⟩ (fun r => (∀ c : Dev Cert.RepSumRefIdeal.nD,
      r.2.mem ((c.tc : Thread Cert.RepSumRefIdeal.nD Cert.RepSumRefIdeal.τ).loc Cert.RepSumRefIdeal.main_arg0) = m ((c.tc : Thread Cert.RepSumRefIdeal.nD Cert.RepSumRefIdeal.τ).loc Cert.RepSumRefIdeal.main_arg0))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2))
      ∧ r.2.sem = fun _ => 0)

def quiescent_LoraFwd [hLoraFwd : Cert.LoraFwd.Facts] : Prop :=
  ∀ (m : (ℓ : Loc Cert.LoraFwd.nD Cert.LoraFwd.τ Cert.LoraFwd.sig) → Buf (Elt Bits) ℓ) (g : Dev Cert.LoraFwd.nD → PrngReg), Pre_LoraFwd m →
    θ_run (Cert.LoraFwd.defs (F := Bits)) (onTc (τ := Cert.LoraFwd.τ) (Cert.LoraFwd.main (F := Bits))) ⟨m, fun _ => 0, g⟩ (fun r => (∀ c : Dev Cert.LoraFwd.nD,
      r.2.mem ((c.tc : Thread Cert.LoraFwd.nD Cert.LoraFwd.τ).loc Cert.LoraFwd.main_arg0) = m ((c.tc : Thread Cert.LoraFwd.nD Cert.LoraFwd.τ).loc Cert.LoraFwd.main_arg0)
      ∧ r.2.mem ((c.tc : Thread Cert.LoraFwd.nD Cert.LoraFwd.τ).loc Cert.LoraFwd.main_arg1) = m ((c.tc : Thread Cert.LoraFwd.nD Cert.LoraFwd.τ).loc Cert.LoraFwd.main_arg1))
      ∧ r.2.sem = fun _ => 0)

def quiescent_LoraFwdIdeal [hLoraFwdIdeal : Cert.LoraFwdIdeal.Facts] : Prop :=
  ∀ (m : (ℓ : Loc Cert.LoraFwdIdeal.nD Cert.LoraFwdIdeal.τ Cert.LoraFwdIdeal.sig) → Buf (Elt Ideal) ℓ) (g : Dev Cert.LoraFwdIdeal.nD → PrngReg), Pre_LoraFwdIdeal m →
    θ_run (Cert.LoraFwdIdeal.defs (F := Ideal)) (onTc (τ := Cert.LoraFwdIdeal.τ) (Cert.LoraFwdIdeal.main (F := Ideal))) ⟨m, fun _ => 0, g⟩ (fun r => (∀ c : Dev Cert.LoraFwdIdeal.nD,
      r.2.mem ((c.tc : Thread Cert.LoraFwdIdeal.nD Cert.LoraFwdIdeal.τ).loc Cert.LoraFwdIdeal.main_arg0) = m ((c.tc : Thread Cert.LoraFwdIdeal.nD Cert.LoraFwdIdeal.τ).loc Cert.LoraFwdIdeal.main_arg0)
      ∧ r.2.mem ((c.tc : Thread Cert.LoraFwdIdeal.nD Cert.LoraFwdIdeal.τ).loc Cert.LoraFwdIdeal.main_arg1) = m ((c.tc : Thread Cert.LoraFwdIdeal.nD Cert.LoraFwdIdeal.τ).loc Cert.LoraFwdIdeal.main_arg1))
      ∧ r.2.sem = fun _ => 0)

def quiescent_LoraFwdRefIdeal [hLoraFwdRefIdeal : Cert.LoraFwdRefIdeal.Facts] : Prop :=
  ∀ (m : (ℓ : Loc Cert.LoraFwdRefIdeal.nD Cert.LoraFwdRefIdeal.τ Cert.LoraFwdRefIdeal.sig) → Buf (Elt Ideal) ℓ) (g : Dev Cert.LoraFwdRefIdeal.nD → PrngReg), Pre_LoraFwdRefIdeal m →
    θ_run (Cert.LoraFwdRefIdeal.defs (F := Ideal)) (onTc (τ := Cert.LoraFwdRefIdeal.τ) (Cert.LoraFwdRefIdeal.main (F := Ideal))) ⟨m, fun _ => 0, g⟩ (fun r => (∀ c : Dev Cert.LoraFwdRefIdeal.nD,
      r.2.mem ((c.tc : Thread Cert.LoraFwdRefIdeal.nD Cert.LoraFwdRefIdeal.τ).loc Cert.LoraFwdRefIdeal.main_arg0) = m ((c.tc : Thread Cert.LoraFwdRefIdeal.nD Cert.LoraFwdRefIdeal.τ).loc Cert.LoraFwdRefIdeal.main_arg0)
      ∧ r.2.mem ((c.tc : Thread Cert.LoraFwdRefIdeal.nD Cert.LoraFwdRefIdeal.τ).loc Cert.LoraFwdRefIdeal.main_arg1) = m ((c.tc : Thread Cert.LoraFwdRefIdeal.nD Cert.LoraFwdRefIdeal.τ).loc Cert.LoraFwdRefIdeal.main_arg1))
      ∧ r.2.sem = fun _ => 0)

def quiescent_LoraBwd [hLoraBwd : Cert.LoraBwd.Facts] : Prop :=
  ∀ (m : (ℓ : Loc Cert.LoraBwd.nD Cert.LoraBwd.τ Cert.LoraBwd.sig) → Buf (Elt Bits) ℓ) (g : Dev Cert.LoraBwd.nD → PrngReg), Pre_LoraBwd m →
    θ_run (Cert.LoraBwd.defs (F := Bits)) (onTc (τ := Cert.LoraBwd.τ) (Cert.LoraBwd.main (F := Bits))) ⟨m, fun _ => 0, g⟩ (fun r => (∀ c : Dev Cert.LoraBwd.nD,
      r.2.mem ((c.tc : Thread Cert.LoraBwd.nD Cert.LoraBwd.τ).loc Cert.LoraBwd.main_arg0) = m ((c.tc : Thread Cert.LoraBwd.nD Cert.LoraBwd.τ).loc Cert.LoraBwd.main_arg0)
      ∧ r.2.mem ((c.tc : Thread Cert.LoraBwd.nD Cert.LoraBwd.τ).loc Cert.LoraBwd.main_arg1) = m ((c.tc : Thread Cert.LoraBwd.nD Cert.LoraBwd.τ).loc Cert.LoraBwd.main_arg1)
      ∧ r.2.mem ((c.tc : Thread Cert.LoraBwd.nD Cert.LoraBwd.τ).loc Cert.LoraBwd.main_arg2) = m ((c.tc : Thread Cert.LoraBwd.nD Cert.LoraBwd.τ).loc Cert.LoraBwd.main_arg2))
      ∧ r.2.sem = fun _ => 0)

def quiescent_LoraBwdIdeal [hLoraBwdIdeal : Cert.LoraBwdIdeal.Facts] : Prop :=
  ∀ (m : (ℓ : Loc Cert.LoraBwdIdeal.nD Cert.LoraBwdIdeal.τ Cert.LoraBwdIdeal.sig) → Buf (Elt Ideal) ℓ) (g : Dev Cert.LoraBwdIdeal.nD → PrngReg), Pre_LoraBwdIdeal m →
    θ_run (Cert.LoraBwdIdeal.defs (F := Ideal)) (onTc (τ := Cert.LoraBwdIdeal.τ) (Cert.LoraBwdIdeal.main (F := Ideal))) ⟨m, fun _ => 0, g⟩ (fun r => (∀ c : Dev Cert.LoraBwdIdeal.nD,
      r.2.mem ((c.tc : Thread Cert.LoraBwdIdeal.nD Cert.LoraBwdIdeal.τ).loc Cert.LoraBwdIdeal.main_arg0) = m ((c.tc : Thread Cert.LoraBwdIdeal.nD Cert.LoraBwdIdeal.τ).loc Cert.LoraBwdIdeal.main_arg0)
      ∧ r.2.mem ((c.tc : Thread Cert.LoraBwdIdeal.nD Cert.LoraBwdIdeal.τ).loc Cert.LoraBwdIdeal.main_arg1) = m ((c.tc : Thread Cert.LoraBwdIdeal.nD Cert.LoraBwdIdeal.τ).loc Cert.LoraBwdIdeal.main_arg1)
      ∧ r.2.mem ((c.tc : Thread Cert.LoraBwdIdeal.nD Cert.LoraBwdIdeal.τ).loc Cert.LoraBwdIdeal.main_arg2) = m ((c.tc : Thread Cert.LoraBwdIdeal.nD Cert.LoraBwdIdeal.τ).loc Cert.LoraBwdIdeal.main_arg2))
      ∧ r.2.sem = fun _ => 0)

def quiescent_LoraBwdRefIdeal [hLoraBwdRefIdeal : Cert.LoraBwdRefIdeal.Facts] : Prop :=
  ∀ (m : (ℓ : Loc Cert.LoraBwdRefIdeal.nD Cert.LoraBwdRefIdeal.τ Cert.LoraBwdRefIdeal.sig) → Buf (Elt Ideal) ℓ) (g : Dev Cert.LoraBwdRefIdeal.nD → PrngReg), Pre_LoraBwdRefIdeal m →
    θ_run (Cert.LoraBwdRefIdeal.defs (F := Ideal)) (onTc (τ := Cert.LoraBwdRefIdeal.τ) (Cert.LoraBwdRefIdeal.main (F := Ideal))) ⟨m, fun _ => 0, g⟩ (fun r => (∀ c : Dev Cert.LoraBwdRefIdeal.nD,
      r.2.mem ((c.tc : Thread Cert.LoraBwdRefIdeal.nD Cert.LoraBwdRefIdeal.τ).loc Cert.LoraBwdRefIdeal.main_arg0) = m ((c.tc : Thread Cert.LoraBwdRefIdeal.nD Cert.LoraBwdRefIdeal.τ).loc Cert.LoraBwdRefIdeal.main_arg0)
      ∧ r.2.mem ((c.tc : Thread Cert.LoraBwdRefIdeal.nD Cert.LoraBwdRefIdeal.τ).loc Cert.LoraBwdRefIdeal.main_arg1) = m ((c.tc : Thread Cert.LoraBwdRefIdeal.nD Cert.LoraBwdRefIdeal.τ).loc Cert.LoraBwdRefIdeal.main_arg1)
      ∧ r.2.mem ((c.tc : Thread Cert.LoraBwdRefIdeal.nD Cert.LoraBwdRefIdeal.τ).loc Cert.LoraBwdRefIdeal.main_arg2) = m ((c.tc : Thread Cert.LoraBwdRefIdeal.nD Cert.LoraBwdRefIdeal.τ).loc Cert.LoraBwdRefIdeal.main_arg2))
      ∧ r.2.sem = fun _ => 0)

def quiescent_SwigluFwd [hSwigluFwd : Cert.SwigluFwd.Facts] : Prop :=
  ∀ (m : (ℓ : Loc Cert.SwigluFwd.nD Cert.SwigluFwd.τ Cert.SwigluFwd.sig) → Buf (Elt Bits) ℓ) (g : Dev Cert.SwigluFwd.nD → PrngReg), Pre_SwigluFwd m →
    θ_run (Cert.SwigluFwd.defs (F := Bits)) (onTc (τ := Cert.SwigluFwd.τ) (Cert.SwigluFwd.main (F := Bits))) ⟨m, fun _ => 0, g⟩ (fun r => (∀ c : Dev Cert.SwigluFwd.nD,
      r.2.mem ((c.tc : Thread Cert.SwigluFwd.nD Cert.SwigluFwd.τ).loc Cert.SwigluFwd.main_arg0) = m ((c.tc : Thread Cert.SwigluFwd.nD Cert.SwigluFwd.τ).loc Cert.SwigluFwd.main_arg0)
      ∧ r.2.mem ((c.tc : Thread Cert.SwigluFwd.nD Cert.SwigluFwd.τ).loc Cert.SwigluFwd.main_arg1) = m ((c.tc : Thread Cert.SwigluFwd.nD Cert.SwigluFwd.τ).loc Cert.SwigluFwd.main_arg1))
      ∧ r.2.sem = fun _ => 0)

def quiescent_SwigluFwdIdeal [hSwigluFwdIdeal : Cert.SwigluFwdIdeal.Facts] : Prop :=
  ∀ (m : (ℓ : Loc Cert.SwigluFwdIdeal.nD Cert.SwigluFwdIdeal.τ Cert.SwigluFwdIdeal.sig) → Buf (Elt Ideal) ℓ) (g : Dev Cert.SwigluFwdIdeal.nD → PrngReg), Pre_SwigluFwdIdeal m →
    θ_run (Cert.SwigluFwdIdeal.defs (F := Ideal)) (onTc (τ := Cert.SwigluFwdIdeal.τ) (Cert.SwigluFwdIdeal.main (F := Ideal))) ⟨m, fun _ => 0, g⟩ (fun r => (∀ c : Dev Cert.SwigluFwdIdeal.nD,
      r.2.mem ((c.tc : Thread Cert.SwigluFwdIdeal.nD Cert.SwigluFwdIdeal.τ).loc Cert.SwigluFwdIdeal.main_arg0) = m ((c.tc : Thread Cert.SwigluFwdIdeal.nD Cert.SwigluFwdIdeal.τ).loc Cert.SwigluFwdIdeal.main_arg0)
      ∧ r.2.mem ((c.tc : Thread Cert.SwigluFwdIdeal.nD Cert.SwigluFwdIdeal.τ).loc Cert.SwigluFwdIdeal.main_arg1) = m ((c.tc : Thread Cert.SwigluFwdIdeal.nD Cert.SwigluFwdIdeal.τ).loc Cert.SwigluFwdIdeal.main_arg1))
      ∧ r.2.sem = fun _ => 0)

def quiescent_SwigluFwdRefIdeal [hSwigluFwdRefIdeal : Cert.SwigluFwdRefIdeal.Facts] : Prop :=
  ∀ (m : (ℓ : Loc Cert.SwigluFwdRefIdeal.nD Cert.SwigluFwdRefIdeal.τ Cert.SwigluFwdRefIdeal.sig) → Buf (Elt Ideal) ℓ) (g : Dev Cert.SwigluFwdRefIdeal.nD → PrngReg), Pre_SwigluFwdRefIdeal m →
    θ_run (Cert.SwigluFwdRefIdeal.defs (F := Ideal)) (onTc (τ := Cert.SwigluFwdRefIdeal.τ) (Cert.SwigluFwdRefIdeal.main (F := Ideal))) ⟨m, fun _ => 0, g⟩ (fun r => (∀ c : Dev Cert.SwigluFwdRefIdeal.nD,
      r.2.mem ((c.tc : Thread Cert.SwigluFwdRefIdeal.nD Cert.SwigluFwdRefIdeal.τ).loc Cert.SwigluFwdRefIdeal.main_arg0) = m ((c.tc : Thread Cert.SwigluFwdRefIdeal.nD Cert.SwigluFwdRefIdeal.τ).loc Cert.SwigluFwdRefIdeal.main_arg0)
      ∧ r.2.mem ((c.tc : Thread Cert.SwigluFwdRefIdeal.nD Cert.SwigluFwdRefIdeal.τ).loc Cert.SwigluFwdRefIdeal.main_arg1) = m ((c.tc : Thread Cert.SwigluFwdRefIdeal.nD Cert.SwigluFwdRefIdeal.τ).loc Cert.SwigluFwdRefIdeal.main_arg1))
      ∧ r.2.sem = fun _ => 0)

def quiescent_SwigluBwd [hSwigluBwd : Cert.SwigluBwd.Facts] : Prop :=
  ∀ (m : (ℓ : Loc Cert.SwigluBwd.nD Cert.SwigluBwd.τ Cert.SwigluBwd.sig) → Buf (Elt Bits) ℓ) (g : Dev Cert.SwigluBwd.nD → PrngReg), Pre_SwigluBwd m →
    θ_run (Cert.SwigluBwd.defs (F := Bits)) (onTc (τ := Cert.SwigluBwd.τ) (Cert.SwigluBwd.main (F := Bits))) ⟨m, fun _ => 0, g⟩ (fun r => (∀ c : Dev Cert.SwigluBwd.nD,
      r.2.mem ((c.tc : Thread Cert.SwigluBwd.nD Cert.SwigluBwd.τ).loc Cert.SwigluBwd.main_arg0) = m ((c.tc : Thread Cert.SwigluBwd.nD Cert.SwigluBwd.τ).loc Cert.SwigluBwd.main_arg0)
      ∧ r.2.mem ((c.tc : Thread Cert.SwigluBwd.nD Cert.SwigluBwd.τ).loc Cert.SwigluBwd.main_arg1) = m ((c.tc : Thread Cert.SwigluBwd.nD Cert.SwigluBwd.τ).loc Cert.SwigluBwd.main_arg1)
      ∧ r.2.mem ((c.tc : Thread Cert.SwigluBwd.nD Cert.SwigluBwd.τ).loc Cert.SwigluBwd.main_arg2) = m ((c.tc : Thread Cert.SwigluBwd.nD Cert.SwigluBwd.τ).loc Cert.SwigluBwd.main_arg2))
      ∧ r.2.sem = fun _ => 0)

def quiescent_SwigluBwdIdeal [hSwigluBwdIdeal : Cert.SwigluBwdIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
      ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2))
      ∧ r.2.sem = fun _ => 0)

def quiescent_SwigluBwdRefIdeal [hSwigluBwdRefIdeal : Cert.SwigluBwdRefIdeal.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1)
      ∧ r.2.mem ((c.tc : Thread Cert.SwigluBwdRefIdeal.nD Cert.SwigluBwdRefIdeal.τ).loc Cert.SwigluBwdRefIdeal.main_arg2) = m ((c.tc : Thread Cert.SwigluBwdRefIdeal.nD Cert.SwigluBwdRefIdeal.τ).loc Cert.SwigluBwdRefIdeal.main_arg2))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5)
      ∧ r.2.mem ((c.tc : Thread Cert.MergeBwd.nD Cert.MergeBwd.τ).loc Cert.MergeBwd.main_arg6) = m ((c.tc : Thread Cert.MergeBwd.nD Cert.MergeBwd.τ).loc Cert.MergeBwd.main_arg6)
      ∧ r.2.mem ((c.tc : Thread Cert.MergeBwd.nD Cert.MergeBwd.τ).loc Cert.MergeBwd.main_arg7) = m ((c.tc : Thread Cert.MergeBwd.nD Cert.MergeBwd.τ).loc Cert.MergeBwd.main_arg7))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
      ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5)
      ∧ r.2.mem ((c.tc : Thread Cert.MergeBwdRefIdeal.nD Cert.MergeBwdRefIdeal.τ).loc Cert.MergeBwdRefIdeal.main_arg6) = m ((c.tc : Thread Cert.MergeBwdRefIdeal.nD Cert.MergeBwdRefIdeal.τ).loc Cert.MergeBwdRefIdeal.main_arg6)
      ∧ r.2.mem ((c.tc : Thread Cert.MergeBwdRefIdeal.nD Cert.MergeBwdRefIdeal.τ).loc Cert.MergeBwdRefIdeal.main_arg7) = m ((c.tc : Thread Cert.MergeBwdRefIdeal.nD Cert.MergeBwdRefIdeal.τ).loc Cert.MergeBwdRefIdeal.main_arg7))
      ∧ r.2.sem = fun _ => 0)

def quiescent_LruOutFwd [hLruOutFwd : Cert.LruOutFwd.Facts] : Prop :=
  ∀ (m : (ℓ : Loc Cert.LruOutFwd.nD Cert.LruOutFwd.τ Cert.LruOutFwd.sig) → Buf (Elt Bits) ℓ) (g : Dev Cert.LruOutFwd.nD → PrngReg), Pre_LruOutFwd m →
    θ_run (Cert.LruOutFwd.defs (F := Bits)) (onTc (τ := Cert.LruOutFwd.τ) (Cert.LruOutFwd.main (F := Bits))) ⟨m, fun _ => 0, g⟩ (fun r => (∀ c : Dev Cert.LruOutFwd.nD,
      r.2.mem ((c.tc : Thread Cert.LruOutFwd.nD Cert.LruOutFwd.τ).loc Cert.LruOutFwd.main_arg0) = m ((c.tc : Thread Cert.LruOutFwd.nD Cert.LruOutFwd.τ).loc Cert.LruOutFwd.main_arg0)
      ∧ r.2.mem ((c.tc : Thread Cert.LruOutFwd.nD Cert.LruOutFwd.τ).loc Cert.LruOutFwd.main_arg1) = m ((c.tc : Thread Cert.LruOutFwd.nD Cert.LruOutFwd.τ).loc Cert.LruOutFwd.main_arg1))
      ∧ r.2.sem = fun _ => 0)

def quiescent_LruOutFwdIdeal [hLruOutFwdIdeal : Cert.LruOutFwdIdeal.Facts] : Prop :=
  ∀ (m : (ℓ : Loc Cert.LruOutFwdIdeal.nD Cert.LruOutFwdIdeal.τ Cert.LruOutFwdIdeal.sig) → Buf (Elt Ideal) ℓ) (g : Dev Cert.LruOutFwdIdeal.nD → PrngReg), Pre_LruOutFwdIdeal m →
    θ_run (Cert.LruOutFwdIdeal.defs (F := Ideal)) (onTc (τ := Cert.LruOutFwdIdeal.τ) (Cert.LruOutFwdIdeal.main (F := Ideal))) ⟨m, fun _ => 0, g⟩ (fun r => (∀ c : Dev Cert.LruOutFwdIdeal.nD,
      r.2.mem ((c.tc : Thread Cert.LruOutFwdIdeal.nD Cert.LruOutFwdIdeal.τ).loc Cert.LruOutFwdIdeal.main_arg0) = m ((c.tc : Thread Cert.LruOutFwdIdeal.nD Cert.LruOutFwdIdeal.τ).loc Cert.LruOutFwdIdeal.main_arg0)
      ∧ r.2.mem ((c.tc : Thread Cert.LruOutFwdIdeal.nD Cert.LruOutFwdIdeal.τ).loc Cert.LruOutFwdIdeal.main_arg1) = m ((c.tc : Thread Cert.LruOutFwdIdeal.nD Cert.LruOutFwdIdeal.τ).loc Cert.LruOutFwdIdeal.main_arg1))
      ∧ r.2.sem = fun _ => 0)

def quiescent_LruOutFwdRefIdeal [hLruOutFwdRefIdeal : Cert.LruOutFwdRefIdeal.Facts] : Prop :=
  ∀ (m : (ℓ : Loc Cert.LruOutFwdRefIdeal.nD Cert.LruOutFwdRefIdeal.τ Cert.LruOutFwdRefIdeal.sig) → Buf (Elt Ideal) ℓ) (g : Dev Cert.LruOutFwdRefIdeal.nD → PrngReg), Pre_LruOutFwdRefIdeal m →
    θ_run (Cert.LruOutFwdRefIdeal.defs (F := Ideal)) (onTc (τ := Cert.LruOutFwdRefIdeal.τ) (Cert.LruOutFwdRefIdeal.main (F := Ideal))) ⟨m, fun _ => 0, g⟩ (fun r => (∀ c : Dev Cert.LruOutFwdRefIdeal.nD,
      r.2.mem ((c.tc : Thread Cert.LruOutFwdRefIdeal.nD Cert.LruOutFwdRefIdeal.τ).loc Cert.LruOutFwdRefIdeal.main_arg0) = m ((c.tc : Thread Cert.LruOutFwdRefIdeal.nD Cert.LruOutFwdRefIdeal.τ).loc Cert.LruOutFwdRefIdeal.main_arg0)
      ∧ r.2.mem ((c.tc : Thread Cert.LruOutFwdRefIdeal.nD Cert.LruOutFwdRefIdeal.τ).loc Cert.LruOutFwdRefIdeal.main_arg1) = m ((c.tc : Thread Cert.LruOutFwdRefIdeal.nD Cert.LruOutFwdRefIdeal.τ).loc Cert.LruOutFwdRefIdeal.main_arg1))
      ∧ r.2.sem = fun _ => 0)

def quiescent_LruOutBwd [hLruOutBwd : Cert.LruOutBwd.Facts] : Prop :=
  ∀ (m : (ℓ : Loc Cert.LruOutBwd.nD Cert.LruOutBwd.τ Cert.LruOutBwd.sig) → Buf (Elt Bits) ℓ) (g : Dev Cert.LruOutBwd.nD → PrngReg), Pre_LruOutBwd m →
    θ_run (Cert.LruOutBwd.defs (F := Bits)) (onTc (τ := Cert.LruOutBwd.τ) (Cert.LruOutBwd.main (F := Bits))) ⟨m, fun _ => 0, g⟩ (fun r => (∀ c : Dev Cert.LruOutBwd.nD,
      r.2.mem ((c.tc : Thread Cert.LruOutBwd.nD Cert.LruOutBwd.τ).loc Cert.LruOutBwd.main_arg0) = m ((c.tc : Thread Cert.LruOutBwd.nD Cert.LruOutBwd.τ).loc Cert.LruOutBwd.main_arg0)
      ∧ r.2.mem ((c.tc : Thread Cert.LruOutBwd.nD Cert.LruOutBwd.τ).loc Cert.LruOutBwd.main_arg1) = m ((c.tc : Thread Cert.LruOutBwd.nD Cert.LruOutBwd.τ).loc Cert.LruOutBwd.main_arg1)
      ∧ r.2.mem ((c.tc : Thread Cert.LruOutBwd.nD Cert.LruOutBwd.τ).loc Cert.LruOutBwd.main_arg2) = m ((c.tc : Thread Cert.LruOutBwd.nD Cert.LruOutBwd.τ).loc Cert.LruOutBwd.main_arg2))
      ∧ r.2.sem = fun _ => 0)

def quiescent_LruOutBwdIdeal [hLruOutBwdIdeal : Cert.LruOutBwdIdeal.Facts] : Prop :=
  ∀ (m : (ℓ : Loc Cert.LruOutBwdIdeal.nD Cert.LruOutBwdIdeal.τ Cert.LruOutBwdIdeal.sig) → Buf (Elt Ideal) ℓ) (g : Dev Cert.LruOutBwdIdeal.nD → PrngReg), Pre_LruOutBwdIdeal m →
    θ_run (Cert.LruOutBwdIdeal.defs (F := Ideal)) (onTc (τ := Cert.LruOutBwdIdeal.τ) (Cert.LruOutBwdIdeal.main (F := Ideal))) ⟨m, fun _ => 0, g⟩ (fun r => (∀ c : Dev Cert.LruOutBwdIdeal.nD,
      r.2.mem ((c.tc : Thread Cert.LruOutBwdIdeal.nD Cert.LruOutBwdIdeal.τ).loc Cert.LruOutBwdIdeal.main_arg0) = m ((c.tc : Thread Cert.LruOutBwdIdeal.nD Cert.LruOutBwdIdeal.τ).loc Cert.LruOutBwdIdeal.main_arg0)
      ∧ r.2.mem ((c.tc : Thread Cert.LruOutBwdIdeal.nD Cert.LruOutBwdIdeal.τ).loc Cert.LruOutBwdIdeal.main_arg1) = m ((c.tc : Thread Cert.LruOutBwdIdeal.nD Cert.LruOutBwdIdeal.τ).loc Cert.LruOutBwdIdeal.main_arg1)
      ∧ r.2.mem ((c.tc : Thread Cert.LruOutBwdIdeal.nD Cert.LruOutBwdIdeal.τ).loc Cert.LruOutBwdIdeal.main_arg2) = m ((c.tc : Thread Cert.LruOutBwdIdeal.nD Cert.LruOutBwdIdeal.τ).loc Cert.LruOutBwdIdeal.main_arg2))
      ∧ r.2.sem = fun _ => 0)

def quiescent_LruOutBwdRefIdeal [hLruOutBwdRefIdeal : Cert.LruOutBwdRefIdeal.Facts] : Prop :=
  ∀ (m : (ℓ : Loc Cert.LruOutBwdRefIdeal.nD Cert.LruOutBwdRefIdeal.τ Cert.LruOutBwdRefIdeal.sig) → Buf (Elt Ideal) ℓ) (g : Dev Cert.LruOutBwdRefIdeal.nD → PrngReg), Pre_LruOutBwdRefIdeal m →
    θ_run (Cert.LruOutBwdRefIdeal.defs (F := Ideal)) (onTc (τ := Cert.LruOutBwdRefIdeal.τ) (Cert.LruOutBwdRefIdeal.main (F := Ideal))) ⟨m, fun _ => 0, g⟩ (fun r => (∀ c : Dev Cert.LruOutBwdRefIdeal.nD,
      r.2.mem ((c.tc : Thread Cert.LruOutBwdRefIdeal.nD Cert.LruOutBwdRefIdeal.τ).loc Cert.LruOutBwdRefIdeal.main_arg0) = m ((c.tc : Thread Cert.LruOutBwdRefIdeal.nD Cert.LruOutBwdRefIdeal.τ).loc Cert.LruOutBwdRefIdeal.main_arg0)
      ∧ r.2.mem ((c.tc : Thread Cert.LruOutBwdRefIdeal.nD Cert.LruOutBwdRefIdeal.τ).loc Cert.LruOutBwdRefIdeal.main_arg1) = m ((c.tc : Thread Cert.LruOutBwdRefIdeal.nD Cert.LruOutBwdRefIdeal.τ).loc Cert.LruOutBwdRefIdeal.main_arg1)
      ∧ r.2.mem ((c.tc : Thread Cert.LruOutBwdRefIdeal.nD Cert.LruOutBwdRefIdeal.τ).loc Cert.LruOutBwdRefIdeal.main_arg2) = m ((c.tc : Thread Cert.LruOutBwdRefIdeal.nD Cert.LruOutBwdRefIdeal.τ).loc Cert.LruOutBwdRefIdeal.main_arg2))
      ∧ r.2.sem = fun _ => 0)

def quiescent_GdnPreFwd [hGdnPreFwd : Cert.GdnPreFwd.Facts] : Prop :=
  ∀ (m : (ℓ : Loc Cert.GdnPreFwd.nD Cert.GdnPreFwd.τ Cert.GdnPreFwd.sig) → Buf (Elt Bits) ℓ) (g : Dev Cert.GdnPreFwd.nD → PrngReg), Pre_GdnPreFwd m →
    θ_run (Cert.GdnPreFwd.defs (F := Bits)) (onTc (τ := Cert.GdnPreFwd.τ) (Cert.GdnPreFwd.main (F := Bits))) ⟨m, fun _ => 0, g⟩ (fun r => (∀ c : Dev Cert.GdnPreFwd.nD,
      r.2.mem ((c.tc : Thread Cert.GdnPreFwd.nD Cert.GdnPreFwd.τ).loc Cert.GdnPreFwd.main_arg0) = m ((c.tc : Thread Cert.GdnPreFwd.nD Cert.GdnPreFwd.τ).loc Cert.GdnPreFwd.main_arg0)
      ∧ r.2.mem ((c.tc : Thread Cert.GdnPreFwd.nD Cert.GdnPreFwd.τ).loc Cert.GdnPreFwd.main_arg1) = m ((c.tc : Thread Cert.GdnPreFwd.nD Cert.GdnPreFwd.τ).loc Cert.GdnPreFwd.main_arg1)
      ∧ r.2.mem ((c.tc : Thread Cert.GdnPreFwd.nD Cert.GdnPreFwd.τ).loc Cert.GdnPreFwd.main_arg2) = m ((c.tc : Thread Cert.GdnPreFwd.nD Cert.GdnPreFwd.τ).loc Cert.GdnPreFwd.main_arg2))
      ∧ r.2.sem = fun _ => 0)

def quiescent_GdnPreFwdIdeal [hGdnPreFwdIdeal : Cert.GdnPreFwdIdeal.Facts] : Prop :=
  ∀ (m : (ℓ : Loc Cert.GdnPreFwdIdeal.nD Cert.GdnPreFwdIdeal.τ Cert.GdnPreFwdIdeal.sig) → Buf (Elt Ideal) ℓ) (g : Dev Cert.GdnPreFwdIdeal.nD → PrngReg), Pre_GdnPreFwdIdeal m →
    θ_run (Cert.GdnPreFwdIdeal.defs (F := Ideal)) (onTc (τ := Cert.GdnPreFwdIdeal.τ) (Cert.GdnPreFwdIdeal.main (F := Ideal))) ⟨m, fun _ => 0, g⟩ (fun r => (∀ c : Dev Cert.GdnPreFwdIdeal.nD,
      r.2.mem ((c.tc : Thread Cert.GdnPreFwdIdeal.nD Cert.GdnPreFwdIdeal.τ).loc Cert.GdnPreFwdIdeal.main_arg0) = m ((c.tc : Thread Cert.GdnPreFwdIdeal.nD Cert.GdnPreFwdIdeal.τ).loc Cert.GdnPreFwdIdeal.main_arg0)
      ∧ r.2.mem ((c.tc : Thread Cert.GdnPreFwdIdeal.nD Cert.GdnPreFwdIdeal.τ).loc Cert.GdnPreFwdIdeal.main_arg1) = m ((c.tc : Thread Cert.GdnPreFwdIdeal.nD Cert.GdnPreFwdIdeal.τ).loc Cert.GdnPreFwdIdeal.main_arg1)
      ∧ r.2.mem ((c.tc : Thread Cert.GdnPreFwdIdeal.nD Cert.GdnPreFwdIdeal.τ).loc Cert.GdnPreFwdIdeal.main_arg2) = m ((c.tc : Thread Cert.GdnPreFwdIdeal.nD Cert.GdnPreFwdIdeal.τ).loc Cert.GdnPreFwdIdeal.main_arg2))
      ∧ r.2.sem = fun _ => 0)

def quiescent_GdnPreFwdRefIdeal [hGdnPreFwdRefIdeal : Cert.GdnPreFwdRefIdeal.Facts] : Prop :=
  ∀ (m : (ℓ : Loc Cert.GdnPreFwdRefIdeal.nD Cert.GdnPreFwdRefIdeal.τ Cert.GdnPreFwdRefIdeal.sig) → Buf (Elt Ideal) ℓ) (g : Dev Cert.GdnPreFwdRefIdeal.nD → PrngReg), Pre_GdnPreFwdRefIdeal m →
    θ_run (Cert.GdnPreFwdRefIdeal.defs (F := Ideal)) (onTc (τ := Cert.GdnPreFwdRefIdeal.τ) (Cert.GdnPreFwdRefIdeal.main (F := Ideal))) ⟨m, fun _ => 0, g⟩ (fun r => (∀ c : Dev Cert.GdnPreFwdRefIdeal.nD,
      r.2.mem ((c.tc : Thread Cert.GdnPreFwdRefIdeal.nD Cert.GdnPreFwdRefIdeal.τ).loc Cert.GdnPreFwdRefIdeal.main_arg0) = m ((c.tc : Thread Cert.GdnPreFwdRefIdeal.nD Cert.GdnPreFwdRefIdeal.τ).loc Cert.GdnPreFwdRefIdeal.main_arg0)
      ∧ r.2.mem ((c.tc : Thread Cert.GdnPreFwdRefIdeal.nD Cert.GdnPreFwdRefIdeal.τ).loc Cert.GdnPreFwdRefIdeal.main_arg1) = m ((c.tc : Thread Cert.GdnPreFwdRefIdeal.nD Cert.GdnPreFwdRefIdeal.τ).loc Cert.GdnPreFwdRefIdeal.main_arg1)
      ∧ r.2.mem ((c.tc : Thread Cert.GdnPreFwdRefIdeal.nD Cert.GdnPreFwdRefIdeal.τ).loc Cert.GdnPreFwdRefIdeal.main_arg2) = m ((c.tc : Thread Cert.GdnPreFwdRefIdeal.nD Cert.GdnPreFwdRefIdeal.τ).loc Cert.GdnPreFwdRefIdeal.main_arg2))
      ∧ r.2.sem = fun _ => 0)

def quiescent_GdnPreBwd [hGdnPreBwd : Cert.GdnPreBwd.Facts] : Prop :=
  ∀ (m : (ℓ : Loc Cert.GdnPreBwd.nD Cert.GdnPreBwd.τ Cert.GdnPreBwd.sig) → Buf (Elt Bits) ℓ) (g : Dev Cert.GdnPreBwd.nD → PrngReg), Pre_GdnPreBwd m →
    θ_run (Cert.GdnPreBwd.defs (F := Bits)) (onTc (τ := Cert.GdnPreBwd.τ) (Cert.GdnPreBwd.main (F := Bits))) ⟨m, fun _ => 0, g⟩ (fun r => (∀ c : Dev Cert.GdnPreBwd.nD,
      r.2.mem ((c.tc : Thread Cert.GdnPreBwd.nD Cert.GdnPreBwd.τ).loc Cert.GdnPreBwd.main_arg0) = m ((c.tc : Thread Cert.GdnPreBwd.nD Cert.GdnPreBwd.τ).loc Cert.GdnPreBwd.main_arg0)
      ∧ r.2.mem ((c.tc : Thread Cert.GdnPreBwd.nD Cert.GdnPreBwd.τ).loc Cert.GdnPreBwd.main_arg1) = m ((c.tc : Thread Cert.GdnPreBwd.nD Cert.GdnPreBwd.τ).loc Cert.GdnPreBwd.main_arg1)
      ∧ r.2.mem ((c.tc : Thread Cert.GdnPreBwd.nD Cert.GdnPreBwd.τ).loc Cert.GdnPreBwd.main_arg2) = m ((c.tc : Thread Cert.GdnPreBwd.nD Cert.GdnPreBwd.τ).loc Cert.GdnPreBwd.main_arg2)
      ∧ r.2.mem ((c.tc : Thread Cert.GdnPreBwd.nD Cert.GdnPreBwd.τ).loc Cert.GdnPreBwd.main_arg3) = m ((c.tc : Thread Cert.GdnPreBwd.nD Cert.GdnPreBwd.τ).loc Cert.GdnPreBwd.main_arg3)
      ∧ r.2.mem ((c.tc : Thread Cert.GdnPreBwd.nD Cert.GdnPreBwd.τ).loc Cert.GdnPreBwd.main_arg4) = m ((c.tc : Thread Cert.GdnPreBwd.nD Cert.GdnPreBwd.τ).loc Cert.GdnPreBwd.main_arg4)
      ∧ r.2.mem ((c.tc : Thread Cert.GdnPreBwd.nD Cert.GdnPreBwd.τ).loc Cert.GdnPreBwd.main_arg5) = m ((c.tc : Thread Cert.GdnPreBwd.nD Cert.GdnPreBwd.τ).loc Cert.GdnPreBwd.main_arg5))
      ∧ r.2.sem = fun _ => 0)

def quiescent_GdnPreBwdIdeal [hGdnPreBwdIdeal : Cert.GdnPreBwdIdeal.Facts] : Prop :=
  ∀ (m : (ℓ : Loc Cert.GdnPreBwdIdeal.nD Cert.GdnPreBwdIdeal.τ Cert.GdnPreBwdIdeal.sig) → Buf (Elt Ideal) ℓ) (g : Dev Cert.GdnPreBwdIdeal.nD → PrngReg), Pre_GdnPreBwdIdeal m →
    θ_run (Cert.GdnPreBwdIdeal.defs (F := Ideal)) (onTc (τ := Cert.GdnPreBwdIdeal.τ) (Cert.GdnPreBwdIdeal.main (F := Ideal))) ⟨m, fun _ => 0, g⟩ (fun r => (∀ c : Dev Cert.GdnPreBwdIdeal.nD,
      r.2.mem ((c.tc : Thread Cert.GdnPreBwdIdeal.nD Cert.GdnPreBwdIdeal.τ).loc Cert.GdnPreBwdIdeal.main_arg0) = m ((c.tc : Thread Cert.GdnPreBwdIdeal.nD Cert.GdnPreBwdIdeal.τ).loc Cert.GdnPreBwdIdeal.main_arg0)
      ∧ r.2.mem ((c.tc : Thread Cert.GdnPreBwdIdeal.nD Cert.GdnPreBwdIdeal.τ).loc Cert.GdnPreBwdIdeal.main_arg1) = m ((c.tc : Thread Cert.GdnPreBwdIdeal.nD Cert.GdnPreBwdIdeal.τ).loc Cert.GdnPreBwdIdeal.main_arg1)
      ∧ r.2.mem ((c.tc : Thread Cert.GdnPreBwdIdeal.nD Cert.GdnPreBwdIdeal.τ).loc Cert.GdnPreBwdIdeal.main_arg2) = m ((c.tc : Thread Cert.GdnPreBwdIdeal.nD Cert.GdnPreBwdIdeal.τ).loc Cert.GdnPreBwdIdeal.main_arg2)
      ∧ r.2.mem ((c.tc : Thread Cert.GdnPreBwdIdeal.nD Cert.GdnPreBwdIdeal.τ).loc Cert.GdnPreBwdIdeal.main_arg3) = m ((c.tc : Thread Cert.GdnPreBwdIdeal.nD Cert.GdnPreBwdIdeal.τ).loc Cert.GdnPreBwdIdeal.main_arg3)
      ∧ r.2.mem ((c.tc : Thread Cert.GdnPreBwdIdeal.nD Cert.GdnPreBwdIdeal.τ).loc Cert.GdnPreBwdIdeal.main_arg4) = m ((c.tc : Thread Cert.GdnPreBwdIdeal.nD Cert.GdnPreBwdIdeal.τ).loc Cert.GdnPreBwdIdeal.main_arg4)
      ∧ r.2.mem ((c.tc : Thread Cert.GdnPreBwdIdeal.nD Cert.GdnPreBwdIdeal.τ).loc Cert.GdnPreBwdIdeal.main_arg5) = m ((c.tc : Thread Cert.GdnPreBwdIdeal.nD Cert.GdnPreBwdIdeal.τ).loc Cert.GdnPreBwdIdeal.main_arg5))
      ∧ r.2.sem = fun _ => 0)

def quiescent_GdnPreBwdRefIdeal [hGdnPreBwdRefIdeal : Cert.GdnPreBwdRefIdeal.Facts] : Prop :=
  ∀ (m : (ℓ : Loc Cert.GdnPreBwdRefIdeal.nD Cert.GdnPreBwdRefIdeal.τ Cert.GdnPreBwdRefIdeal.sig) → Buf (Elt Ideal) ℓ) (g : Dev Cert.GdnPreBwdRefIdeal.nD → PrngReg), Pre_GdnPreBwdRefIdeal m →
    θ_run (Cert.GdnPreBwdRefIdeal.defs (F := Ideal)) (onTc (τ := Cert.GdnPreBwdRefIdeal.τ) (Cert.GdnPreBwdRefIdeal.main (F := Ideal))) ⟨m, fun _ => 0, g⟩ (fun r => (∀ c : Dev Cert.GdnPreBwdRefIdeal.nD,
      r.2.mem ((c.tc : Thread Cert.GdnPreBwdRefIdeal.nD Cert.GdnPreBwdRefIdeal.τ).loc Cert.GdnPreBwdRefIdeal.main_arg0) = m ((c.tc : Thread Cert.GdnPreBwdRefIdeal.nD Cert.GdnPreBwdRefIdeal.τ).loc Cert.GdnPreBwdRefIdeal.main_arg0)
      ∧ r.2.mem ((c.tc : Thread Cert.GdnPreBwdRefIdeal.nD Cert.GdnPreBwdRefIdeal.τ).loc Cert.GdnPreBwdRefIdeal.main_arg1) = m ((c.tc : Thread Cert.GdnPreBwdRefIdeal.nD Cert.GdnPreBwdRefIdeal.τ).loc Cert.GdnPreBwdRefIdeal.main_arg1)
      ∧ r.2.mem ((c.tc : Thread Cert.GdnPreBwdRefIdeal.nD Cert.GdnPreBwdRefIdeal.τ).loc Cert.GdnPreBwdRefIdeal.main_arg2) = m ((c.tc : Thread Cert.GdnPreBwdRefIdeal.nD Cert.GdnPreBwdRefIdeal.τ).loc Cert.GdnPreBwdRefIdeal.main_arg2)
      ∧ r.2.mem ((c.tc : Thread Cert.GdnPreBwdRefIdeal.nD Cert.GdnPreBwdRefIdeal.τ).loc Cert.GdnPreBwdRefIdeal.main_arg3) = m ((c.tc : Thread Cert.GdnPreBwdRefIdeal.nD Cert.GdnPreBwdRefIdeal.τ).loc Cert.GdnPreBwdRefIdeal.main_arg3)
      ∧ r.2.mem ((c.tc : Thread Cert.GdnPreBwdRefIdeal.nD Cert.GdnPreBwdRefIdeal.τ).loc Cert.GdnPreBwdRefIdeal.main_arg4) = m ((c.tc : Thread Cert.GdnPreBwdRefIdeal.nD Cert.GdnPreBwdRefIdeal.τ).loc Cert.GdnPreBwdRefIdeal.main_arg4)
      ∧ r.2.mem ((c.tc : Thread Cert.GdnPreBwdRefIdeal.nD Cert.GdnPreBwdRefIdeal.τ).loc Cert.GdnPreBwdRefIdeal.main_arg5) = m ((c.tc : Thread Cert.GdnPreBwdRefIdeal.nD Cert.GdnPreBwdRefIdeal.τ).loc Cert.GdnPreBwdRefIdeal.main_arg5))
      ∧ r.2.sem = fun _ => 0)

def quiescent_GdnPostFwd [hGdnPostFwd : Cert.GdnPostFwd.Facts] : Prop :=
  ∀ (m : (ℓ : Loc Cert.GdnPostFwd.nD Cert.GdnPostFwd.τ Cert.GdnPostFwd.sig) → Buf (Elt Bits) ℓ) (g : Dev Cert.GdnPostFwd.nD → PrngReg), Pre_GdnPostFwd m →
    θ_run (Cert.GdnPostFwd.defs (F := Bits)) (onTc (τ := Cert.GdnPostFwd.τ) (Cert.GdnPostFwd.main (F := Bits))) ⟨m, fun _ => 0, g⟩ (fun r => (∀ c : Dev Cert.GdnPostFwd.nD,
      r.2.mem ((c.tc : Thread Cert.GdnPostFwd.nD Cert.GdnPostFwd.τ).loc Cert.GdnPostFwd.main_arg0) = m ((c.tc : Thread Cert.GdnPostFwd.nD Cert.GdnPostFwd.τ).loc Cert.GdnPostFwd.main_arg0)
      ∧ r.2.mem ((c.tc : Thread Cert.GdnPostFwd.nD Cert.GdnPostFwd.τ).loc Cert.GdnPostFwd.main_arg1) = m ((c.tc : Thread Cert.GdnPostFwd.nD Cert.GdnPostFwd.τ).loc Cert.GdnPostFwd.main_arg1)
      ∧ r.2.mem ((c.tc : Thread Cert.GdnPostFwd.nD Cert.GdnPostFwd.τ).loc Cert.GdnPostFwd.main_arg2) = m ((c.tc : Thread Cert.GdnPostFwd.nD Cert.GdnPostFwd.τ).loc Cert.GdnPostFwd.main_arg2))
      ∧ r.2.sem = fun _ => 0)

def quiescent_GdnPostFwdIdeal [hGdnPostFwdIdeal : Cert.GdnPostFwdIdeal.Facts] : Prop :=
  ∀ (m : (ℓ : Loc Cert.GdnPostFwdIdeal.nD Cert.GdnPostFwdIdeal.τ Cert.GdnPostFwdIdeal.sig) → Buf (Elt Ideal) ℓ) (g : Dev Cert.GdnPostFwdIdeal.nD → PrngReg), Pre_GdnPostFwdIdeal m →
    θ_run (Cert.GdnPostFwdIdeal.defs (F := Ideal)) (onTc (τ := Cert.GdnPostFwdIdeal.τ) (Cert.GdnPostFwdIdeal.main (F := Ideal))) ⟨m, fun _ => 0, g⟩ (fun r => (∀ c : Dev Cert.GdnPostFwdIdeal.nD,
      r.2.mem ((c.tc : Thread Cert.GdnPostFwdIdeal.nD Cert.GdnPostFwdIdeal.τ).loc Cert.GdnPostFwdIdeal.main_arg0) = m ((c.tc : Thread Cert.GdnPostFwdIdeal.nD Cert.GdnPostFwdIdeal.τ).loc Cert.GdnPostFwdIdeal.main_arg0)
      ∧ r.2.mem ((c.tc : Thread Cert.GdnPostFwdIdeal.nD Cert.GdnPostFwdIdeal.τ).loc Cert.GdnPostFwdIdeal.main_arg1) = m ((c.tc : Thread Cert.GdnPostFwdIdeal.nD Cert.GdnPostFwdIdeal.τ).loc Cert.GdnPostFwdIdeal.main_arg1)
      ∧ r.2.mem ((c.tc : Thread Cert.GdnPostFwdIdeal.nD Cert.GdnPostFwdIdeal.τ).loc Cert.GdnPostFwdIdeal.main_arg2) = m ((c.tc : Thread Cert.GdnPostFwdIdeal.nD Cert.GdnPostFwdIdeal.τ).loc Cert.GdnPostFwdIdeal.main_arg2))
      ∧ r.2.sem = fun _ => 0)

def quiescent_GdnPostFwdRefIdeal [hGdnPostFwdRefIdeal : Cert.GdnPostFwdRefIdeal.Facts] : Prop :=
  ∀ (m : (ℓ : Loc Cert.GdnPostFwdRefIdeal.nD Cert.GdnPostFwdRefIdeal.τ Cert.GdnPostFwdRefIdeal.sig) → Buf (Elt Ideal) ℓ) (g : Dev Cert.GdnPostFwdRefIdeal.nD → PrngReg), Pre_GdnPostFwdRefIdeal m →
    θ_run (Cert.GdnPostFwdRefIdeal.defs (F := Ideal)) (onTc (τ := Cert.GdnPostFwdRefIdeal.τ) (Cert.GdnPostFwdRefIdeal.main (F := Ideal))) ⟨m, fun _ => 0, g⟩ (fun r => (∀ c : Dev Cert.GdnPostFwdRefIdeal.nD,
      r.2.mem ((c.tc : Thread Cert.GdnPostFwdRefIdeal.nD Cert.GdnPostFwdRefIdeal.τ).loc Cert.GdnPostFwdRefIdeal.main_arg0) = m ((c.tc : Thread Cert.GdnPostFwdRefIdeal.nD Cert.GdnPostFwdRefIdeal.τ).loc Cert.GdnPostFwdRefIdeal.main_arg0)
      ∧ r.2.mem ((c.tc : Thread Cert.GdnPostFwdRefIdeal.nD Cert.GdnPostFwdRefIdeal.τ).loc Cert.GdnPostFwdRefIdeal.main_arg1) = m ((c.tc : Thread Cert.GdnPostFwdRefIdeal.nD Cert.GdnPostFwdRefIdeal.τ).loc Cert.GdnPostFwdRefIdeal.main_arg1)
      ∧ r.2.mem ((c.tc : Thread Cert.GdnPostFwdRefIdeal.nD Cert.GdnPostFwdRefIdeal.τ).loc Cert.GdnPostFwdRefIdeal.main_arg2) = m ((c.tc : Thread Cert.GdnPostFwdRefIdeal.nD Cert.GdnPostFwdRefIdeal.τ).loc Cert.GdnPostFwdRefIdeal.main_arg2))
      ∧ r.2.sem = fun _ => 0)

def quiescent_GdnPostBwd [hGdnPostBwd : Cert.GdnPostBwd.Facts] : Prop :=
  ∀ (m : (ℓ : Loc Cert.GdnPostBwd.nD Cert.GdnPostBwd.τ Cert.GdnPostBwd.sig) → Buf (Elt Bits) ℓ) (g : Dev Cert.GdnPostBwd.nD → PrngReg), Pre_GdnPostBwd m →
    θ_run (Cert.GdnPostBwd.defs (F := Bits)) (onTc (τ := Cert.GdnPostBwd.τ) (Cert.GdnPostBwd.main (F := Bits))) ⟨m, fun _ => 0, g⟩ (fun r => (∀ c : Dev Cert.GdnPostBwd.nD,
      r.2.mem ((c.tc : Thread Cert.GdnPostBwd.nD Cert.GdnPostBwd.τ).loc Cert.GdnPostBwd.main_arg0) = m ((c.tc : Thread Cert.GdnPostBwd.nD Cert.GdnPostBwd.τ).loc Cert.GdnPostBwd.main_arg0)
      ∧ r.2.mem ((c.tc : Thread Cert.GdnPostBwd.nD Cert.GdnPostBwd.τ).loc Cert.GdnPostBwd.main_arg1) = m ((c.tc : Thread Cert.GdnPostBwd.nD Cert.GdnPostBwd.τ).loc Cert.GdnPostBwd.main_arg1)
      ∧ r.2.mem ((c.tc : Thread Cert.GdnPostBwd.nD Cert.GdnPostBwd.τ).loc Cert.GdnPostBwd.main_arg2) = m ((c.tc : Thread Cert.GdnPostBwd.nD Cert.GdnPostBwd.τ).loc Cert.GdnPostBwd.main_arg2)
      ∧ r.2.mem ((c.tc : Thread Cert.GdnPostBwd.nD Cert.GdnPostBwd.τ).loc Cert.GdnPostBwd.main_arg3) = m ((c.tc : Thread Cert.GdnPostBwd.nD Cert.GdnPostBwd.τ).loc Cert.GdnPostBwd.main_arg3))
      ∧ r.2.sem = fun _ => 0)

def quiescent_GdnPostBwdIdeal [hGdnPostBwdIdeal : Cert.GdnPostBwdIdeal.Facts] : Prop :=
  ∀ (m : (ℓ : Loc Cert.GdnPostBwdIdeal.nD Cert.GdnPostBwdIdeal.τ Cert.GdnPostBwdIdeal.sig) → Buf (Elt Ideal) ℓ) (g : Dev Cert.GdnPostBwdIdeal.nD → PrngReg), Pre_GdnPostBwdIdeal m →
    θ_run (Cert.GdnPostBwdIdeal.defs (F := Ideal)) (onTc (τ := Cert.GdnPostBwdIdeal.τ) (Cert.GdnPostBwdIdeal.main (F := Ideal))) ⟨m, fun _ => 0, g⟩ (fun r => (∀ c : Dev Cert.GdnPostBwdIdeal.nD,
      r.2.mem ((c.tc : Thread Cert.GdnPostBwdIdeal.nD Cert.GdnPostBwdIdeal.τ).loc Cert.GdnPostBwdIdeal.main_arg0) = m ((c.tc : Thread Cert.GdnPostBwdIdeal.nD Cert.GdnPostBwdIdeal.τ).loc Cert.GdnPostBwdIdeal.main_arg0)
      ∧ r.2.mem ((c.tc : Thread Cert.GdnPostBwdIdeal.nD Cert.GdnPostBwdIdeal.τ).loc Cert.GdnPostBwdIdeal.main_arg1) = m ((c.tc : Thread Cert.GdnPostBwdIdeal.nD Cert.GdnPostBwdIdeal.τ).loc Cert.GdnPostBwdIdeal.main_arg1)
      ∧ r.2.mem ((c.tc : Thread Cert.GdnPostBwdIdeal.nD Cert.GdnPostBwdIdeal.τ).loc Cert.GdnPostBwdIdeal.main_arg2) = m ((c.tc : Thread Cert.GdnPostBwdIdeal.nD Cert.GdnPostBwdIdeal.τ).loc Cert.GdnPostBwdIdeal.main_arg2)
      ∧ r.2.mem ((c.tc : Thread Cert.GdnPostBwdIdeal.nD Cert.GdnPostBwdIdeal.τ).loc Cert.GdnPostBwdIdeal.main_arg3) = m ((c.tc : Thread Cert.GdnPostBwdIdeal.nD Cert.GdnPostBwdIdeal.τ).loc Cert.GdnPostBwdIdeal.main_arg3))
      ∧ r.2.sem = fun _ => 0)

def quiescent_GdnPostBwdRefIdeal [hGdnPostBwdRefIdeal : Cert.GdnPostBwdRefIdeal.Facts] : Prop :=
  ∀ (m : (ℓ : Loc Cert.GdnPostBwdRefIdeal.nD Cert.GdnPostBwdRefIdeal.τ Cert.GdnPostBwdRefIdeal.sig) → Buf (Elt Ideal) ℓ) (g : Dev Cert.GdnPostBwdRefIdeal.nD → PrngReg), Pre_GdnPostBwdRefIdeal m →
    θ_run (Cert.GdnPostBwdRefIdeal.defs (F := Ideal)) (onTc (τ := Cert.GdnPostBwdRefIdeal.τ) (Cert.GdnPostBwdRefIdeal.main (F := Ideal))) ⟨m, fun _ => 0, g⟩ (fun r => (∀ c : Dev Cert.GdnPostBwdRefIdeal.nD,
      r.2.mem ((c.tc : Thread Cert.GdnPostBwdRefIdeal.nD Cert.GdnPostBwdRefIdeal.τ).loc Cert.GdnPostBwdRefIdeal.main_arg0) = m ((c.tc : Thread Cert.GdnPostBwdRefIdeal.nD Cert.GdnPostBwdRefIdeal.τ).loc Cert.GdnPostBwdRefIdeal.main_arg0)
      ∧ r.2.mem ((c.tc : Thread Cert.GdnPostBwdRefIdeal.nD Cert.GdnPostBwdRefIdeal.τ).loc Cert.GdnPostBwdRefIdeal.main_arg1) = m ((c.tc : Thread Cert.GdnPostBwdRefIdeal.nD Cert.GdnPostBwdRefIdeal.τ).loc Cert.GdnPostBwdRefIdeal.main_arg1)
      ∧ r.2.mem ((c.tc : Thread Cert.GdnPostBwdRefIdeal.nD Cert.GdnPostBwdRefIdeal.τ).loc Cert.GdnPostBwdRefIdeal.main_arg2) = m ((c.tc : Thread Cert.GdnPostBwdRefIdeal.nD Cert.GdnPostBwdRefIdeal.τ).loc Cert.GdnPostBwdRefIdeal.main_arg2)
      ∧ r.2.mem ((c.tc : Thread Cert.GdnPostBwdRefIdeal.nD Cert.GdnPostBwdRefIdeal.τ).loc Cert.GdnPostBwdRefIdeal.main_arg3) = m ((c.tc : Thread Cert.GdnPostBwdRefIdeal.nD Cert.GdnPostBwdRefIdeal.τ).loc Cert.GdnPostBwdRefIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v55_0)) (v1 : (c : Dev Cert.KernelIdeal.nD) → Buf (Elt Ideal) ((c.tc : Thread Cert.KernelIdeal.nD Cert.KernelIdeal.τ).loc Cert.KernelIdeal.main_v55_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55_0) = v0 c
          ∧ r.2.mem ((c.tc : Thread Cert.KernelIdeal.nD Cert.KernelIdeal.τ).loc Cert.KernelIdeal.main_v55_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v0)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v1) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def algebraic_InDaIdeal_InDaRefIdeal [hInDaIdeal : Cert.InDaIdeal.Facts] [hInDaRefIdeal : Cert.InDaRefIdeal.Facts] : Prop :=
  ∀ (m : (ℓ : Loc Cert.InDaIdeal.nD Cert.InDaIdeal.τ Cert.InDaIdeal.sig) → Buf (Elt Ideal) ℓ) (g : Dev Cert.InDaIdeal.nD → PrngReg)
    (m' : (ℓ : Loc Cert.InDaRefIdeal.nD Cert.InDaRefIdeal.τ Cert.InDaRefIdeal.sig) → Buf (Elt Ideal) ℓ) (g' : Dev Cert.InDaRefIdeal.nD → PrngReg), Pre_InDaIdeal m →
    (∀ c : Dev Cert.InDaIdeal.nD,
      m' ((c.tc : Thread Cert.InDaRefIdeal.nD Cert.InDaRefIdeal.τ).loc Cert.InDaRefIdeal.main_arg0) = m ((c.tc : Thread Cert.InDaIdeal.nD Cert.InDaIdeal.τ).loc Cert.InDaIdeal.main_arg0)
      ∧ m' ((c.tc : Thread Cert.InDaRefIdeal.nD Cert.InDaRefIdeal.τ).loc Cert.InDaRefIdeal.main_arg1) = m ((c.tc : Thread Cert.InDaIdeal.nD Cert.InDaIdeal.τ).loc Cert.InDaIdeal.main_arg1)
      ∧ m' ((c.tc : Thread Cert.InDaRefIdeal.nD Cert.InDaRefIdeal.τ).loc Cert.InDaRefIdeal.main_arg2) = m ((c.tc : Thread Cert.InDaIdeal.nD Cert.InDaIdeal.τ).loc Cert.InDaIdeal.main_arg2)) →
    ∃ (v0 : (c : Dev Cert.InDaIdeal.nD) → Buf (Elt Ideal) ((c.tc : Thread Cert.InDaIdeal.nD Cert.InDaIdeal.τ).loc Cert.InDaIdeal.main_v0)),
      θ_run (Cert.InDaIdeal.defs (F := Ideal)) (onTc (τ := Cert.InDaIdeal.τ) (Cert.InDaIdeal.main (F := Ideal))) ⟨m, fun _ => 0, g⟩ (fun r => ∀ c : Dev Cert.InDaIdeal.nD,
          r.2.mem ((c.tc : Thread Cert.InDaIdeal.nD Cert.InDaIdeal.τ).loc Cert.InDaIdeal.main_v0) = v0 c
          ∧ r.2.mem ((c.tc : Thread Cert.InDaIdeal.nD Cert.InDaIdeal.τ).loc Cert.InDaIdeal.main_arg0) = m ((c.tc : Thread Cert.InDaIdeal.nD Cert.InDaIdeal.τ).loc Cert.InDaIdeal.main_arg0)
          ∧ r.2.mem ((c.tc : Thread Cert.InDaIdeal.nD Cert.InDaIdeal.τ).loc Cert.InDaIdeal.main_arg1) = m ((c.tc : Thread Cert.InDaIdeal.nD Cert.InDaIdeal.τ).loc Cert.InDaIdeal.main_arg1)
          ∧ r.2.mem ((c.tc : Thread Cert.InDaIdeal.nD Cert.InDaIdeal.τ).loc Cert.InDaIdeal.main_arg2) = m ((c.tc : Thread Cert.InDaIdeal.nD Cert.InDaIdeal.τ).loc Cert.InDaIdeal.main_arg2))
      ∧ θ_run (Cert.InDaRefIdeal.defs (F := Ideal)) (onTc (τ := Cert.InDaRefIdeal.τ) (Cert.InDaRefIdeal.main (F := Ideal))) ⟨m', fun _ => 0, g'⟩ (fun r => ∀ c : Dev Cert.InDaRefIdeal.nD,
          r.2.mem ((c.tc : Thread Cert.InDaRefIdeal.nD Cert.InDaRefIdeal.τ).loc Cert.InDaRefIdeal.main_v4) = v0 c
          ∧ r.2.mem ((c.tc : Thread Cert.InDaRefIdeal.nD Cert.InDaRefIdeal.τ).loc Cert.InDaRefIdeal.main_arg0) = m' ((c.tc : Thread Cert.InDaRefIdeal.nD Cert.InDaRefIdeal.τ).loc Cert.InDaRefIdeal.main_arg0)
          ∧ r.2.mem ((c.tc : Thread Cert.InDaRefIdeal.nD Cert.InDaRefIdeal.τ).loc Cert.InDaRefIdeal.main_arg1) = m' ((c.tc : Thread Cert.InDaRefIdeal.nD Cert.InDaRefIdeal.τ).loc Cert.InDaRefIdeal.main_arg1)
          ∧ r.2.mem ((c.tc : Thread Cert.InDaRefIdeal.nD Cert.InDaRefIdeal.τ).loc Cert.InDaRefIdeal.main_arg2) = m' ((c.tc : Thread Cert.InDaRefIdeal.nD Cert.InDaRefIdeal.τ).loc Cert.InDaRefIdeal.main_arg2))

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)
      ∧ m' ((c.tc : Thread Cert.InDwRefIdeal.nD Cert.InDwRefIdeal.τ).loc Cert.InDwRefIdeal.main_arg2) = m ((c.tc : Thread Cert.InDwIdeal.nD Cert.InDwIdeal.τ).loc Cert.InDwIdeal.main_arg2)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
          ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v5) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1)
          ∧ r.2.mem ((c.tc : Thread Cert.InDwRefIdeal.nD Cert.InDwRefIdeal.τ).loc Cert.InDwRefIdeal.main_arg2) = m' ((c.tc : Thread Cert.InDwRefIdeal.nD Cert.InDwRefIdeal.τ).loc Cert.InDwRefIdeal.main_arg2))

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)) →
    ∃ (v0 : (c : Dev Cert.GateFwdIdeal.nD) → Buf (Elt Ideal) ((c.tc : Thread Cert.GateFwdIdeal.nD Cert.GateFwdIdeal.τ).loc Cert.GateFwdIdeal.main_v0)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v0) = v0 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v1) = v0 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1))

def algebraic_GateDaIdeal_GateDaRefIdeal [hGateDaIdeal : Cert.GateDaIdeal.Facts] [hGateDaRefIdeal : Cert.GateDaRefIdeal.Facts] : Prop :=
  ∀ (m : (ℓ : Loc Cert.GateDaIdeal.nD Cert.GateDaIdeal.τ Cert.GateDaIdeal.sig) → Buf (Elt Ideal) ℓ) (g : Dev Cert.GateDaIdeal.nD → PrngReg)
    (m' : (ℓ : Loc Cert.GateDaRefIdeal.nD Cert.GateDaRefIdeal.τ Cert.GateDaRefIdeal.sig) → Buf (Elt Ideal) ℓ) (g' : Dev Cert.GateDaRefIdeal.nD → PrngReg), Pre_GateDaIdeal m →
    (∀ c : Dev Cert.GateDaIdeal.nD,
      m' ((c.tc : Thread Cert.GateDaRefIdeal.nD Cert.GateDaRefIdeal.τ).loc Cert.GateDaRefIdeal.main_arg0) = m ((c.tc : Thread Cert.GateDaIdeal.nD Cert.GateDaIdeal.τ).loc Cert.GateDaIdeal.main_arg0)
      ∧ m' ((c.tc : Thread Cert.GateDaRefIdeal.nD Cert.GateDaRefIdeal.τ).loc Cert.GateDaRefIdeal.main_arg1) = m ((c.tc : Thread Cert.GateDaIdeal.nD Cert.GateDaIdeal.τ).loc Cert.GateDaIdeal.main_arg1)
      ∧ m' ((c.tc : Thread Cert.GateDaRefIdeal.nD Cert.GateDaRefIdeal.τ).loc Cert.GateDaRefIdeal.main_arg2) = m ((c.tc : Thread Cert.GateDaIdeal.nD Cert.GateDaIdeal.τ).loc Cert.GateDaIdeal.main_arg2)) →
    ∃ (v0 : (c : Dev Cert.GateDaIdeal.nD) → Buf (Elt Ideal) ((c.tc : Thread Cert.GateDaIdeal.nD Cert.GateDaIdeal.τ).loc Cert.GateDaIdeal.main_v0)),
      θ_run (Cert.GateDaIdeal.defs (F := Ideal)) (onTc (τ := Cert.GateDaIdeal.τ) (Cert.GateDaIdeal.main (F := Ideal))) ⟨m, fun _ => 0, g⟩ (fun r => ∀ c : Dev Cert.GateDaIdeal.nD,
          r.2.mem ((c.tc : Thread Cert.GateDaIdeal.nD Cert.GateDaIdeal.τ).loc Cert.GateDaIdeal.main_v0) = v0 c
          ∧ r.2.mem ((c.tc : Thread Cert.GateDaIdeal.nD Cert.GateDaIdeal.τ).loc Cert.GateDaIdeal.main_arg0) = m ((c.tc : Thread Cert.GateDaIdeal.nD Cert.GateDaIdeal.τ).loc Cert.GateDaIdeal.main_arg0)
          ∧ r.2.mem ((c.tc : Thread Cert.GateDaIdeal.nD Cert.GateDaIdeal.τ).loc Cert.GateDaIdeal.main_arg1) = m ((c.tc : Thread Cert.GateDaIdeal.nD Cert.GateDaIdeal.τ).loc Cert.GateDaIdeal.main_arg1)
          ∧ r.2.mem ((c.tc : Thread Cert.GateDaIdeal.nD Cert.GateDaIdeal.τ).loc Cert.GateDaIdeal.main_arg2) = m ((c.tc : Thread Cert.GateDaIdeal.nD Cert.GateDaIdeal.τ).loc Cert.GateDaIdeal.main_arg2))
      ∧ θ_run (Cert.GateDaRefIdeal.defs (F := Ideal)) (onTc (τ := Cert.GateDaRefIdeal.τ) (Cert.GateDaRefIdeal.main (F := Ideal))) ⟨m', fun _ => 0, g'⟩ (fun r => ∀ c : Dev Cert.GateDaRefIdeal.nD,
          r.2.mem ((c.tc : Thread Cert.GateDaRefIdeal.nD Cert.GateDaRefIdeal.τ).loc Cert.GateDaRefIdeal.main_v4) = v0 c
          ∧ r.2.mem ((c.tc : Thread Cert.GateDaRefIdeal.nD Cert.GateDaRefIdeal.τ).loc Cert.GateDaRefIdeal.main_arg0) = m' ((c.tc : Thread Cert.GateDaRefIdeal.nD Cert.GateDaRefIdeal.τ).loc Cert.GateDaRefIdeal.main_arg0)
          ∧ r.2.mem ((c.tc : Thread Cert.GateDaRefIdeal.nD Cert.GateDaRefIdeal.τ).loc Cert.GateDaRefIdeal.main_arg1) = m' ((c.tc : Thread Cert.GateDaRefIdeal.nD Cert.GateDaRefIdeal.τ).loc Cert.GateDaRefIdeal.main_arg1)
          ∧ r.2.mem ((c.tc : Thread Cert.GateDaRefIdeal.nD Cert.GateDaRefIdeal.τ).loc Cert.GateDaRefIdeal.main_arg2) = m' ((c.tc : Thread Cert.GateDaRefIdeal.nD Cert.GateDaRefIdeal.τ).loc Cert.GateDaRefIdeal.main_arg2))

def algebraic_GateDwIdeal_GateDwRefIdeal [hGateDwIdeal : Cert.GateDwIdeal.Facts] [hGateDwRefIdeal : Cert.GateDwRefIdeal.Facts] : Prop :=
  ∀ (m : (ℓ : Loc Cert.GateDwIdeal.nD Cert.GateDwIdeal.τ Cert.GateDwIdeal.sig) → Buf (Elt Ideal) ℓ) (g : Dev Cert.GateDwIdeal.nD → PrngReg)
    (m' : (ℓ : Loc Cert.GateDwRefIdeal.nD Cert.GateDwRefIdeal.τ Cert.GateDwRefIdeal.sig) → Buf (Elt Ideal) ℓ) (g' : Dev Cert.GateDwRefIdeal.nD → PrngReg), Pre_GateDwIdeal m →
    (∀ c : Dev Cert.GateDwIdeal.nD,
      m' ((c.tc : Thread Cert.GateDwRefIdeal.nD Cert.GateDwRefIdeal.τ).loc Cert.GateDwRefIdeal.main_arg0) = m ((c.tc : Thread Cert.GateDwIdeal.nD Cert.GateDwIdeal.τ).loc Cert.GateDwIdeal.main_arg0)
      ∧ m' ((c.tc : Thread Cert.GateDwRefIdeal.nD Cert.GateDwRefIdeal.τ).loc Cert.GateDwRefIdeal.main_arg1) = m ((c.tc : Thread Cert.GateDwIdeal.nD Cert.GateDwIdeal.τ).loc Cert.GateDwIdeal.main_arg1)
      ∧ m' ((c.tc : Thread Cert.GateDwRefIdeal.nD Cert.GateDwRefIdeal.τ).loc Cert.GateDwRefIdeal.main_arg2) = m ((c.tc : Thread Cert.GateDwIdeal.nD Cert.GateDwIdeal.τ).loc Cert.GateDwIdeal.main_arg2)) →
    ∃ (v0 : (c : Dev Cert.GateDwIdeal.nD) → Buf (Elt Ideal) ((c.tc : Thread Cert.GateDwIdeal.nD Cert.GateDwIdeal.τ).loc Cert.GateDwIdeal.main_v0)),
      θ_run (Cert.GateDwIdeal.defs (F := Ideal)) (onTc (τ := Cert.GateDwIdeal.τ) (Cert.GateDwIdeal.main (F := Ideal))) ⟨m, fun _ => 0, g⟩ (fun r => ∀ c : Dev Cert.GateDwIdeal.nD,
          r.2.mem ((c.tc : Thread Cert.GateDwIdeal.nD Cert.GateDwIdeal.τ).loc Cert.GateDwIdeal.main_v0) = v0 c
          ∧ r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
          ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1)
          ∧ r.2.mem ((c.tc : Thread Cert.GateDwIdeal.nD Cert.GateDwIdeal.τ).loc Cert.GateDwIdeal.main_arg2) = m ((c.tc : Thread Cert.GateDwIdeal.nD Cert.GateDwIdeal.τ).loc Cert.GateDwIdeal.main_arg2))
      ∧ θ_run (Cert.GateDwRefIdeal.defs (F := Ideal)) (onTc (τ := Cert.GateDwRefIdeal.τ) (Cert.GateDwRefIdeal.main (F := Ideal))) ⟨m', fun _ => 0, g'⟩ (fun r => ∀ c : Dev Cert.GateDwRefIdeal.nD,
          r.2.mem ((c.tc : Thread Cert.GateDwRefIdeal.nD Cert.GateDwRefIdeal.τ).loc Cert.GateDwRefIdeal.main_v5) = v0 c
          ∧ r.2.mem ((c.tc : Thread Cert.GateDwRefIdeal.nD Cert.GateDwRefIdeal.τ).loc Cert.GateDwRefIdeal.main_arg0) = m' ((c.tc : Thread Cert.GateDwRefIdeal.nD Cert.GateDwRefIdeal.τ).loc Cert.GateDwRefIdeal.main_arg0)
          ∧ r.2.mem ((c.tc : Thread Cert.GateDwRefIdeal.nD Cert.GateDwRefIdeal.τ).loc Cert.GateDwRefIdeal.main_arg1) = m' ((c.tc : Thread Cert.GateDwRefIdeal.nD Cert.GateDwRefIdeal.τ).loc Cert.GateDwRefIdeal.main_arg1)
          ∧ r.2.mem ((c.tc : Thread Cert.GateDwRefIdeal.nD Cert.GateDwRefIdeal.τ).loc Cert.GateDwRefIdeal.main_arg2) = m' ((c.tc : Thread Cert.GateDwRefIdeal.nD Cert.GateDwRefIdeal.τ).loc Cert.GateDwRefIdeal.main_arg2))

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)) →
    ∃ (v0 : (c : Dev Cert.DownFwdIdeal.nD) → Buf (Elt Ideal) ((c.tc : Thread Cert.DownFwdIdeal.nD Cert.DownFwdIdeal.τ).loc Cert.DownFwdIdeal.main_v0)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v1) = v0 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1))

def algebraic_DownDaIdeal_DownDaRefIdeal [hDownDaIdeal : Cert.DownDaIdeal.Facts] [hDownDaRefIdeal : Cert.DownDaRefIdeal.Facts] : Prop :=
  ∀ (m : (ℓ : Loc Cert.DownDaIdeal.nD Cert.DownDaIdeal.τ Cert.DownDaIdeal.sig) → Buf (Elt Ideal) ℓ) (g : Dev Cert.DownDaIdeal.nD → PrngReg)
    (m' : (ℓ : Loc Cert.DownDaRefIdeal.nD Cert.DownDaRefIdeal.τ Cert.DownDaRefIdeal.sig) → Buf (Elt Ideal) ℓ) (g' : Dev Cert.DownDaRefIdeal.nD → PrngReg), Pre_DownDaIdeal m →
    (∀ c : Dev Cert.DownDaIdeal.nD,
      m' ((c.tc : Thread Cert.DownDaRefIdeal.nD Cert.DownDaRefIdeal.τ).loc Cert.DownDaRefIdeal.main_arg0) = m ((c.tc : Thread Cert.DownDaIdeal.nD Cert.DownDaIdeal.τ).loc Cert.DownDaIdeal.main_arg0)
      ∧ m' ((c.tc : Thread Cert.DownDaRefIdeal.nD Cert.DownDaRefIdeal.τ).loc Cert.DownDaRefIdeal.main_arg1) = m ((c.tc : Thread Cert.DownDaIdeal.nD Cert.DownDaIdeal.τ).loc Cert.DownDaIdeal.main_arg1)
      ∧ m' ((c.tc : Thread Cert.DownDaRefIdeal.nD Cert.DownDaRefIdeal.τ).loc Cert.DownDaRefIdeal.main_arg2) = m ((c.tc : Thread Cert.DownDaIdeal.nD Cert.DownDaIdeal.τ).loc Cert.DownDaIdeal.main_arg2)) →
    ∃ (v0 : (c : Dev Cert.DownDaIdeal.nD) → Buf (Elt Ideal) ((c.tc : Thread Cert.DownDaIdeal.nD Cert.DownDaIdeal.τ).loc Cert.DownDaIdeal.main_v0)),
      θ_run (Cert.DownDaIdeal.defs (F := Ideal)) (onTc (τ := Cert.DownDaIdeal.τ) (Cert.DownDaIdeal.main (F := Ideal))) ⟨m, fun _ => 0, g⟩ (fun r => ∀ c : Dev Cert.DownDaIdeal.nD,
          r.2.mem ((c.tc : Thread Cert.DownDaIdeal.nD Cert.DownDaIdeal.τ).loc Cert.DownDaIdeal.main_v0) = v0 c
          ∧ r.2.mem ((c.tc : Thread Cert.DownDaIdeal.nD Cert.DownDaIdeal.τ).loc Cert.DownDaIdeal.main_arg0) = m ((c.tc : Thread Cert.DownDaIdeal.nD Cert.DownDaIdeal.τ).loc Cert.DownDaIdeal.main_arg0)
          ∧ r.2.mem ((c.tc : Thread Cert.DownDaIdeal.nD Cert.DownDaIdeal.τ).loc Cert.DownDaIdeal.main_arg1) = m ((c.tc : Thread Cert.DownDaIdeal.nD Cert.DownDaIdeal.τ).loc Cert.DownDaIdeal.main_arg1)
          ∧ r.2.mem ((c.tc : Thread Cert.DownDaIdeal.nD Cert.DownDaIdeal.τ).loc Cert.DownDaIdeal.main_arg2) = m ((c.tc : Thread Cert.DownDaIdeal.nD Cert.DownDaIdeal.τ).loc Cert.DownDaIdeal.main_arg2))
      ∧ θ_run (Cert.DownDaRefIdeal.defs (F := Ideal)) (onTc (τ := Cert.DownDaRefIdeal.τ) (Cert.DownDaRefIdeal.main (F := Ideal))) ⟨m', fun _ => 0, g'⟩ (fun r => ∀ c : Dev Cert.DownDaRefIdeal.nD,
          r.2.mem ((c.tc : Thread Cert.DownDaRefIdeal.nD Cert.DownDaRefIdeal.τ).loc Cert.DownDaRefIdeal.main_v4) = v0 c
          ∧ r.2.mem ((c.tc : Thread Cert.DownDaRefIdeal.nD Cert.DownDaRefIdeal.τ).loc Cert.DownDaRefIdeal.main_arg0) = m' ((c.tc : Thread Cert.DownDaRefIdeal.nD Cert.DownDaRefIdeal.τ).loc Cert.DownDaRefIdeal.main_arg0)
          ∧ r.2.mem ((c.tc : Thread Cert.DownDaRefIdeal.nD Cert.DownDaRefIdeal.τ).loc Cert.DownDaRefIdeal.main_arg1) = m' ((c.tc : Thread Cert.DownDaRefIdeal.nD Cert.DownDaRefIdeal.τ).loc Cert.DownDaRefIdeal.main_arg1)
          ∧ r.2.mem ((c.tc : Thread Cert.DownDaRefIdeal.nD Cert.DownDaRefIdeal.τ).loc Cert.DownDaRefIdeal.main_arg2) = m' ((c.tc : Thread Cert.DownDaRefIdeal.nD Cert.DownDaRefIdeal.τ).loc Cert.DownDaRefIdeal.main_arg2))

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)
      ∧ m' ((c.tc : Thread Cert.DownDwRefIdeal.nD Cert.DownDwRefIdeal.τ).loc Cert.DownDwRefIdeal.main_arg2) = m ((c.tc : Thread Cert.DownDwIdeal.nD Cert.DownDwIdeal.τ).loc Cert.DownDwIdeal.main_arg2)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v5) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1)
          ∧ r.2.mem ((c.tc : Thread Cert.DownDwRefIdeal.nD Cert.DownDwRefIdeal.τ).loc Cert.DownDwRefIdeal.main_arg2) = m' ((c.tc : Thread Cert.DownDwRefIdeal.nD Cert.DownDwRefIdeal.τ).loc Cert.DownDwRefIdeal.main_arg2))

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)) →
    ∃ (v0 : (c : Dev Cert.OutFwdIdeal.nD) → Buf (Elt Ideal) ((c.tc : Thread Cert.OutFwdIdeal.nD Cert.OutFwdIdeal.τ).loc Cert.OutFwdIdeal.main_v0)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v1) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1))

def algebraic_OutDaIdeal_OutDaRefIdeal [hOutDaIdeal : Cert.OutDaIdeal.Facts] [hOutDaRefIdeal : Cert.OutDaRefIdeal.Facts] : Prop :=
  ∀ (m : (ℓ : Loc Cert.OutDaIdeal.nD Cert.OutDaIdeal.τ Cert.OutDaIdeal.sig) → Buf (Elt Ideal) ℓ) (g : Dev Cert.OutDaIdeal.nD → PrngReg)
    (m' : (ℓ : Loc Cert.OutDaRefIdeal.nD Cert.OutDaRefIdeal.τ Cert.OutDaRefIdeal.sig) → Buf (Elt Ideal) ℓ) (g' : Dev Cert.OutDaRefIdeal.nD → PrngReg), Pre_OutDaIdeal m →
    (∀ c : Dev Cert.OutDaIdeal.nD,
      m' ((c.tc : Thread Cert.OutDaRefIdeal.nD Cert.OutDaRefIdeal.τ).loc Cert.OutDaRefIdeal.main_arg0) = m ((c.tc : Thread Cert.OutDaIdeal.nD Cert.OutDaIdeal.τ).loc Cert.OutDaIdeal.main_arg0)
      ∧ m' ((c.tc : Thread Cert.OutDaRefIdeal.nD Cert.OutDaRefIdeal.τ).loc Cert.OutDaRefIdeal.main_arg1) = m ((c.tc : Thread Cert.OutDaIdeal.nD Cert.OutDaIdeal.τ).loc Cert.OutDaIdeal.main_arg1)
      ∧ m' ((c.tc : Thread Cert.OutDaRefIdeal.nD Cert.OutDaRefIdeal.τ).loc Cert.OutDaRefIdeal.main_arg2) = m ((c.tc : Thread Cert.OutDaIdeal.nD Cert.OutDaIdeal.τ).loc Cert.OutDaIdeal.main_arg2)) →
    ∃ (v0 : (c : Dev Cert.OutDaIdeal.nD) → Buf (Elt Ideal) ((c.tc : Thread Cert.OutDaIdeal.nD Cert.OutDaIdeal.τ).loc Cert.OutDaIdeal.main_v0)),
      θ_run (Cert.OutDaIdeal.defs (F := Ideal)) (onTc (τ := Cert.OutDaIdeal.τ) (Cert.OutDaIdeal.main (F := Ideal))) ⟨m, fun _ => 0, g⟩ (fun r => ∀ c : Dev Cert.OutDaIdeal.nD,
          r.2.mem ((c.tc : Thread Cert.OutDaIdeal.nD Cert.OutDaIdeal.τ).loc Cert.OutDaIdeal.main_v0) = v0 c
          ∧ r.2.mem ((c.tc : Thread Cert.OutDaIdeal.nD Cert.OutDaIdeal.τ).loc Cert.OutDaIdeal.main_arg0) = m ((c.tc : Thread Cert.OutDaIdeal.nD Cert.OutDaIdeal.τ).loc Cert.OutDaIdeal.main_arg0)
          ∧ r.2.mem ((c.tc : Thread Cert.OutDaIdeal.nD Cert.OutDaIdeal.τ).loc Cert.OutDaIdeal.main_arg1) = m ((c.tc : Thread Cert.OutDaIdeal.nD Cert.OutDaIdeal.τ).loc Cert.OutDaIdeal.main_arg1)
          ∧ r.2.mem ((c.tc : Thread Cert.OutDaIdeal.nD Cert.OutDaIdeal.τ).loc Cert.OutDaIdeal.main_arg2) = m ((c.tc : Thread Cert.OutDaIdeal.nD Cert.OutDaIdeal.τ).loc Cert.OutDaIdeal.main_arg2))
      ∧ θ_run (Cert.OutDaRefIdeal.defs (F := Ideal)) (onTc (τ := Cert.OutDaRefIdeal.τ) (Cert.OutDaRefIdeal.main (F := Ideal))) ⟨m', fun _ => 0, g'⟩ (fun r => ∀ c : Dev Cert.OutDaRefIdeal.nD,
          r.2.mem ((c.tc : Thread Cert.OutDaRefIdeal.nD Cert.OutDaRefIdeal.τ).loc Cert.OutDaRefIdeal.main_v4) = v0 c
          ∧ r.2.mem ((c.tc : Thread Cert.OutDaRefIdeal.nD Cert.OutDaRefIdeal.τ).loc Cert.OutDaRefIdeal.main_arg0) = m' ((c.tc : Thread Cert.OutDaRefIdeal.nD Cert.OutDaRefIdeal.τ).loc Cert.OutDaRefIdeal.main_arg0)
          ∧ r.2.mem ((c.tc : Thread Cert.OutDaRefIdeal.nD Cert.OutDaRefIdeal.τ).loc Cert.OutDaRefIdeal.main_arg1) = m' ((c.tc : Thread Cert.OutDaRefIdeal.nD Cert.OutDaRefIdeal.τ).loc Cert.OutDaRefIdeal.main_arg1)
          ∧ r.2.mem ((c.tc : Thread Cert.OutDaRefIdeal.nD Cert.OutDaRefIdeal.τ).loc Cert.OutDaRefIdeal.main_arg2) = m' ((c.tc : Thread Cert.OutDaRefIdeal.nD Cert.OutDaRefIdeal.τ).loc Cert.OutDaRefIdeal.main_arg2))

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)
      ∧ m' ((c.tc : Thread Cert.OutDwRefIdeal.nD Cert.OutDwRefIdeal.τ).loc Cert.OutDwRefIdeal.main_arg2) = m ((c.tc : Thread Cert.OutDwIdeal.nD Cert.OutDwIdeal.τ).loc Cert.OutDwIdeal.main_arg2)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v5) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1)
          ∧ r.2.mem ((c.tc : Thread Cert.OutDwRefIdeal.nD Cert.OutDwRefIdeal.τ).loc Cert.OutDwRefIdeal.main_arg2) = m' ((c.tc : Thread Cert.OutDwRefIdeal.nD Cert.OutDwRefIdeal.τ).loc Cert.OutDwRefIdeal.main_arg2))

def algebraic_BranchFwdIdeal_BranchFwdRefIdeal [hBranchFwdIdeal : Cert.BranchFwdIdeal.Facts] [hBranchFwdRefIdeal : Cert.BranchFwdRefIdeal.Facts] : Prop :=
  ∀ (m : (ℓ : Loc Cert.BranchFwdIdeal.nD Cert.BranchFwdIdeal.τ Cert.BranchFwdIdeal.sig) → Buf (Elt Ideal) ℓ) (g : Dev Cert.BranchFwdIdeal.nD → PrngReg)
    (m' : (ℓ : Loc Cert.BranchFwdRefIdeal.nD Cert.BranchFwdRefIdeal.τ Cert.BranchFwdRefIdeal.sig) → Buf (Elt Ideal) ℓ) (g' : Dev Cert.BranchFwdRefIdeal.nD → PrngReg), Pre_BranchFwdIdeal m →
    (∀ c : Dev Cert.BranchFwdIdeal.nD,
      m' ((c.tc : Thread Cert.BranchFwdRefIdeal.nD Cert.BranchFwdRefIdeal.τ).loc Cert.BranchFwdRefIdeal.main_arg0) = m ((c.tc : Thread Cert.BranchFwdIdeal.nD Cert.BranchFwdIdeal.τ).loc Cert.BranchFwdIdeal.main_arg0)
      ∧ m' ((c.tc : Thread Cert.BranchFwdRefIdeal.nD Cert.BranchFwdRefIdeal.τ).loc Cert.BranchFwdRefIdeal.main_arg1) = m ((c.tc : Thread Cert.BranchFwdIdeal.nD Cert.BranchFwdIdeal.τ).loc Cert.BranchFwdIdeal.main_arg1)) →
    ∃ (v0 : (c : Dev Cert.BranchFwdIdeal.nD) → Buf (Elt Ideal) ((c.tc : Thread Cert.BranchFwdIdeal.nD Cert.BranchFwdIdeal.τ).loc Cert.BranchFwdIdeal.main_v0)),
      θ_run (Cert.BranchFwdIdeal.defs (F := Ideal)) (onTc (τ := Cert.BranchFwdIdeal.τ) (Cert.BranchFwdIdeal.main (F := Ideal))) ⟨m, fun _ => 0, g⟩ (fun r => ∀ c : Dev Cert.BranchFwdIdeal.nD,
          r.2.mem ((c.tc : Thread Cert.BranchFwdIdeal.nD Cert.BranchFwdIdeal.τ).loc Cert.BranchFwdIdeal.main_v0) = v0 c
          ∧ r.2.mem ((c.tc : Thread Cert.BranchFwdIdeal.nD Cert.BranchFwdIdeal.τ).loc Cert.BranchFwdIdeal.main_arg0) = m ((c.tc : Thread Cert.BranchFwdIdeal.nD Cert.BranchFwdIdeal.τ).loc Cert.BranchFwdIdeal.main_arg0)
          ∧ r.2.mem ((c.tc : Thread Cert.BranchFwdIdeal.nD Cert.BranchFwdIdeal.τ).loc Cert.BranchFwdIdeal.main_arg1) = m ((c.tc : Thread Cert.BranchFwdIdeal.nD Cert.BranchFwdIdeal.τ).loc Cert.BranchFwdIdeal.main_arg1))
      ∧ θ_run (Cert.BranchFwdRefIdeal.defs (F := Ideal)) (onTc (τ := Cert.BranchFwdRefIdeal.τ) (Cert.BranchFwdRefIdeal.main (F := Ideal))) ⟨m', fun _ => 0, g'⟩ (fun r => ∀ c : Dev Cert.BranchFwdRefIdeal.nD,
          r.2.mem ((c.tc : Thread Cert.BranchFwdRefIdeal.nD Cert.BranchFwdRefIdeal.τ).loc Cert.BranchFwdRefIdeal.main_v1) = v0 c
          ∧ r.2.mem ((c.tc : Thread Cert.BranchFwdRefIdeal.nD Cert.BranchFwdRefIdeal.τ).loc Cert.BranchFwdRefIdeal.main_arg0) = m' ((c.tc : Thread Cert.BranchFwdRefIdeal.nD Cert.BranchFwdRefIdeal.τ).loc Cert.BranchFwdRefIdeal.main_arg0)
          ∧ r.2.mem ((c.tc : Thread Cert.BranchFwdRefIdeal.nD Cert.BranchFwdRefIdeal.τ).loc Cert.BranchFwdRefIdeal.main_arg1) = m' ((c.tc : Thread Cert.BranchFwdRefIdeal.nD Cert.BranchFwdRefIdeal.τ).loc Cert.BranchFwdRefIdeal.main_arg1))

def algebraic_BranchDaIdeal_BranchDaRefIdeal [hBranchDaIdeal : Cert.BranchDaIdeal.Facts] [hBranchDaRefIdeal : Cert.BranchDaRefIdeal.Facts] : Prop :=
  ∀ (m : (ℓ : Loc Cert.BranchDaIdeal.nD Cert.BranchDaIdeal.τ Cert.BranchDaIdeal.sig) → Buf (Elt Ideal) ℓ) (g : Dev Cert.BranchDaIdeal.nD → PrngReg)
    (m' : (ℓ : Loc Cert.BranchDaRefIdeal.nD Cert.BranchDaRefIdeal.τ Cert.BranchDaRefIdeal.sig) → Buf (Elt Ideal) ℓ) (g' : Dev Cert.BranchDaRefIdeal.nD → PrngReg), Pre_BranchDaIdeal m →
    (∀ c : Dev Cert.BranchDaIdeal.nD,
      m' ((c.tc : Thread Cert.BranchDaRefIdeal.nD Cert.BranchDaRefIdeal.τ).loc Cert.BranchDaRefIdeal.main_arg0) = m ((c.tc : Thread Cert.BranchDaIdeal.nD Cert.BranchDaIdeal.τ).loc Cert.BranchDaIdeal.main_arg0)
      ∧ m' ((c.tc : Thread Cert.BranchDaRefIdeal.nD Cert.BranchDaRefIdeal.τ).loc Cert.BranchDaRefIdeal.main_arg1) = m ((c.tc : Thread Cert.BranchDaIdeal.nD Cert.BranchDaIdeal.τ).loc Cert.BranchDaIdeal.main_arg1)
      ∧ m' ((c.tc : Thread Cert.BranchDaRefIdeal.nD Cert.BranchDaRefIdeal.τ).loc Cert.BranchDaRefIdeal.main_arg2) = m ((c.tc : Thread Cert.BranchDaIdeal.nD Cert.BranchDaIdeal.τ).loc Cert.BranchDaIdeal.main_arg2)) →
    ∃ (v0 : (c : Dev Cert.BranchDaIdeal.nD) → Buf (Elt Ideal) ((c.tc : Thread Cert.BranchDaIdeal.nD Cert.BranchDaIdeal.τ).loc Cert.BranchDaIdeal.main_v0)),
      θ_run (Cert.BranchDaIdeal.defs (F := Ideal)) (onTc (τ := Cert.BranchDaIdeal.τ) (Cert.BranchDaIdeal.main (F := Ideal))) ⟨m, fun _ => 0, g⟩ (fun r => ∀ c : Dev Cert.BranchDaIdeal.nD,
          r.2.mem ((c.tc : Thread Cert.BranchDaIdeal.nD Cert.BranchDaIdeal.τ).loc Cert.BranchDaIdeal.main_v0) = v0 c
          ∧ r.2.mem ((c.tc : Thread Cert.BranchDaIdeal.nD Cert.BranchDaIdeal.τ).loc Cert.BranchDaIdeal.main_arg0) = m ((c.tc : Thread Cert.BranchDaIdeal.nD Cert.BranchDaIdeal.τ).loc Cert.BranchDaIdeal.main_arg0)
          ∧ r.2.mem ((c.tc : Thread Cert.BranchDaIdeal.nD Cert.BranchDaIdeal.τ).loc Cert.BranchDaIdeal.main_arg1) = m ((c.tc : Thread Cert.BranchDaIdeal.nD Cert.BranchDaIdeal.τ).loc Cert.BranchDaIdeal.main_arg1)
          ∧ r.2.mem ((c.tc : Thread Cert.BranchDaIdeal.nD Cert.BranchDaIdeal.τ).loc Cert.BranchDaIdeal.main_arg2) = m ((c.tc : Thread Cert.BranchDaIdeal.nD Cert.BranchDaIdeal.τ).loc Cert.BranchDaIdeal.main_arg2))
      ∧ θ_run (Cert.BranchDaRefIdeal.defs (F := Ideal)) (onTc (τ := Cert.BranchDaRefIdeal.τ) (Cert.BranchDaRefIdeal.main (F := Ideal))) ⟨m', fun _ => 0, g'⟩ (fun r => ∀ c : Dev Cert.BranchDaRefIdeal.nD,
          r.2.mem ((c.tc : Thread Cert.BranchDaRefIdeal.nD Cert.BranchDaRefIdeal.τ).loc Cert.BranchDaRefIdeal.main_v4) = v0 c
          ∧ r.2.mem ((c.tc : Thread Cert.BranchDaRefIdeal.nD Cert.BranchDaRefIdeal.τ).loc Cert.BranchDaRefIdeal.main_arg0) = m' ((c.tc : Thread Cert.BranchDaRefIdeal.nD Cert.BranchDaRefIdeal.τ).loc Cert.BranchDaRefIdeal.main_arg0)
          ∧ r.2.mem ((c.tc : Thread Cert.BranchDaRefIdeal.nD Cert.BranchDaRefIdeal.τ).loc Cert.BranchDaRefIdeal.main_arg1) = m' ((c.tc : Thread Cert.BranchDaRefIdeal.nD Cert.BranchDaRefIdeal.τ).loc Cert.BranchDaRefIdeal.main_arg1)
          ∧ r.2.mem ((c.tc : Thread Cert.BranchDaRefIdeal.nD Cert.BranchDaRefIdeal.τ).loc Cert.BranchDaRefIdeal.main_arg2) = m' ((c.tc : Thread Cert.BranchDaRefIdeal.nD Cert.BranchDaRefIdeal.τ).loc Cert.BranchDaRefIdeal.main_arg2))

def algebraic_BranchDwIdeal_BranchDwRefIdeal [hBranchDwIdeal : Cert.BranchDwIdeal.Facts] [hBranchDwRefIdeal : Cert.BranchDwRefIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg)
    (m' : (ℓ : Loc Cert.BranchDwRefIdeal.nD Cert.BranchDwRefIdeal.τ Cert.BranchDwRefIdeal.sig) → Buf (Elt Ideal) ℓ) (g' : Dev Cert.BranchDwRefIdeal.nD → PrngReg), Pre_BranchDwIdeal m →
    (∀ c : Dev Cert.BranchDwIdeal.nD,
      m' ((c.tc : Thread Cert.BranchDwRefIdeal.nD Cert.BranchDwRefIdeal.τ).loc Cert.BranchDwRefIdeal.main_arg0) = m ((c.tc : Thread Cert.BranchDwIdeal.nD Cert.BranchDwIdeal.τ).loc Cert.BranchDwIdeal.main_arg0)
      ∧ m' ((c.tc : Thread Cert.BranchDwRefIdeal.nD Cert.BranchDwRefIdeal.τ).loc Cert.BranchDwRefIdeal.main_arg1) = m ((c.tc : Thread Cert.BranchDwIdeal.nD Cert.BranchDwIdeal.τ).loc Cert.BranchDwIdeal.main_arg1)
      ∧ m' ((c.tc : Thread Cert.BranchDwRefIdeal.nD Cert.BranchDwRefIdeal.τ).loc Cert.BranchDwRefIdeal.main_arg2) = m ((c.tc : Thread Cert.BranchDwIdeal.nD Cert.BranchDwIdeal.τ).loc Cert.BranchDwIdeal.main_arg2)) →
    ∃ (v0 : (c : Dev Cert.BranchDwIdeal.nD) → Buf (Elt Ideal) ((c.tc : Thread Cert.BranchDwIdeal.nD Cert.BranchDwIdeal.τ).loc Cert.BranchDwIdeal.main_v0)),
      θ_run (Cert.BranchDwIdeal.defs (F := Ideal)) (onTc (τ := Cert.BranchDwIdeal.τ) (Cert.BranchDwIdeal.main (F := Ideal))) ⟨m, fun _ => 0, g⟩ (fun r => ∀ c : Dev Cert.BranchDwIdeal.nD,
          r.2.mem ((c.tc : Thread Cert.BranchDwIdeal.nD Cert.BranchDwIdeal.τ).loc Cert.BranchDwIdeal.main_v0) = v0 c
          ∧ r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
          ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1)
          ∧ r.2.mem ((c.tc : Thread Cert.BranchDwIdeal.nD Cert.BranchDwIdeal.τ).loc Cert.BranchDwIdeal.main_arg2) = m ((c.tc : Thread Cert.BranchDwIdeal.nD Cert.BranchDwIdeal.τ).loc Cert.BranchDwIdeal.main_arg2))
      ∧ θ_run (Cert.BranchDwRefIdeal.defs (F := Ideal)) (onTc (τ := Cert.BranchDwRefIdeal.τ) (Cert.BranchDwRefIdeal.main (F := Ideal))) ⟨m', fun _ => 0, g'⟩ (fun r => ∀ c : Dev Cert.BranchDwRefIdeal.nD,
          r.2.mem ((c.tc : Thread Cert.BranchDwRefIdeal.nD Cert.BranchDwRefIdeal.τ).loc Cert.BranchDwRefIdeal.main_v5) = v0 c
          ∧ r.2.mem ((c.tc : Thread Cert.BranchDwRefIdeal.nD Cert.BranchDwRefIdeal.τ).loc Cert.BranchDwRefIdeal.main_arg0) = m' ((c.tc : Thread Cert.BranchDwRefIdeal.nD Cert.BranchDwRefIdeal.τ).loc Cert.BranchDwRefIdeal.main_arg0)
          ∧ r.2.mem ((c.tc : Thread Cert.BranchDwRefIdeal.nD Cert.BranchDwRefIdeal.τ).loc Cert.BranchDwRefIdeal.main_arg1) = m' ((c.tc : Thread Cert.BranchDwRefIdeal.nD Cert.BranchDwRefIdeal.τ).loc Cert.BranchDwRefIdeal.main_arg1)
          ∧ r.2.mem ((c.tc : Thread Cert.BranchDwRefIdeal.nD Cert.BranchDwRefIdeal.τ).loc Cert.BranchDwRefIdeal.main_arg2) = m' ((c.tc : Thread Cert.BranchDwRefIdeal.nD Cert.BranchDwRefIdeal.τ).loc Cert.BranchDwRefIdeal.main_arg2))

def algebraic_UqFwdIdeal_UqFwdRefIdeal [hUqFwdIdeal : Cert.UqFwdIdeal.Facts] [hUqFwdRefIdeal : Cert.UqFwdRefIdeal.Facts] : Prop :=
  ∀ (m : (ℓ : Loc Cert.UqFwdIdeal.nD Cert.UqFwdIdeal.τ Cert.UqFwdIdeal.sig) → Buf (Elt Ideal) ℓ) (g : Dev Cert.UqFwdIdeal.nD → PrngReg)
    (m' : (ℓ : Loc Cert.UqFwdRefIdeal.nD Cert.UqFwdRefIdeal.τ Cert.UqFwdRefIdeal.sig) → Buf (Elt Ideal) ℓ) (g' : Dev Cert.UqFwdRefIdeal.nD → PrngReg), Pre_UqFwdIdeal m →
    (∀ c : Dev Cert.UqFwdIdeal.nD,
      m' ((c.tc : Thread Cert.UqFwdRefIdeal.nD Cert.UqFwdRefIdeal.τ).loc Cert.UqFwdRefIdeal.main_arg0) = m ((c.tc : Thread Cert.UqFwdIdeal.nD Cert.UqFwdIdeal.τ).loc Cert.UqFwdIdeal.main_arg0)
      ∧ m' ((c.tc : Thread Cert.UqFwdRefIdeal.nD Cert.UqFwdRefIdeal.τ).loc Cert.UqFwdRefIdeal.main_arg1) = m ((c.tc : Thread Cert.UqFwdIdeal.nD Cert.UqFwdIdeal.τ).loc Cert.UqFwdIdeal.main_arg1)) →
    ∃ (v0 : (c : Dev Cert.UqFwdIdeal.nD) → Buf (Elt Ideal) ((c.tc : Thread Cert.UqFwdIdeal.nD Cert.UqFwdIdeal.τ).loc Cert.UqFwdIdeal.main_v0)),
      θ_run (Cert.UqFwdIdeal.defs (F := Ideal)) (onTc (τ := Cert.UqFwdIdeal.τ) (Cert.UqFwdIdeal.main (F := Ideal))) ⟨m, fun _ => 0, g⟩ (fun r => ∀ c : Dev Cert.UqFwdIdeal.nD,
          r.2.mem ((c.tc : Thread Cert.UqFwdIdeal.nD Cert.UqFwdIdeal.τ).loc Cert.UqFwdIdeal.main_v0) = v0 c
          ∧ r.2.mem ((c.tc : Thread Cert.UqFwdIdeal.nD Cert.UqFwdIdeal.τ).loc Cert.UqFwdIdeal.main_arg0) = m ((c.tc : Thread Cert.UqFwdIdeal.nD Cert.UqFwdIdeal.τ).loc Cert.UqFwdIdeal.main_arg0)
          ∧ r.2.mem ((c.tc : Thread Cert.UqFwdIdeal.nD Cert.UqFwdIdeal.τ).loc Cert.UqFwdIdeal.main_arg1) = m ((c.tc : Thread Cert.UqFwdIdeal.nD Cert.UqFwdIdeal.τ).loc Cert.UqFwdIdeal.main_arg1))
      ∧ θ_run (Cert.UqFwdRefIdeal.defs (F := Ideal)) (onTc (τ := Cert.UqFwdRefIdeal.τ) (Cert.UqFwdRefIdeal.main (F := Ideal))) ⟨m', fun _ => 0, g'⟩ (fun r => ∀ c : Dev Cert.UqFwdRefIdeal.nD,
          r.2.mem ((c.tc : Thread Cert.UqFwdRefIdeal.nD Cert.UqFwdRefIdeal.τ).loc Cert.UqFwdRefIdeal.main_v1) = v0 c
          ∧ r.2.mem ((c.tc : Thread Cert.UqFwdRefIdeal.nD Cert.UqFwdRefIdeal.τ).loc Cert.UqFwdRefIdeal.main_arg0) = m' ((c.tc : Thread Cert.UqFwdRefIdeal.nD Cert.UqFwdRefIdeal.τ).loc Cert.UqFwdRefIdeal.main_arg0)
          ∧ r.2.mem ((c.tc : Thread Cert.UqFwdRefIdeal.nD Cert.UqFwdRefIdeal.τ).loc Cert.UqFwdRefIdeal.main_arg1) = m' ((c.tc : Thread Cert.UqFwdRefIdeal.nD Cert.UqFwdRefIdeal.τ).loc Cert.UqFwdRefIdeal.main_arg1))

def algebraic_UqDaIdeal_UqDaRefIdeal [hUqDaIdeal : Cert.UqDaIdeal.Facts] [hUqDaRefIdeal : Cert.UqDaRefIdeal.Facts] : Prop :=
  ∀ (m : (ℓ : Loc Cert.UqDaIdeal.nD Cert.UqDaIdeal.τ Cert.UqDaIdeal.sig) → Buf (Elt Ideal) ℓ) (g : Dev Cert.UqDaIdeal.nD → PrngReg)
    (m' : (ℓ : Loc Cert.UqDaRefIdeal.nD Cert.UqDaRefIdeal.τ Cert.UqDaRefIdeal.sig) → Buf (Elt Ideal) ℓ) (g' : Dev Cert.UqDaRefIdeal.nD → PrngReg), Pre_UqDaIdeal m →
    (∀ c : Dev Cert.UqDaIdeal.nD,
      m' ((c.tc : Thread Cert.UqDaRefIdeal.nD Cert.UqDaRefIdeal.τ).loc Cert.UqDaRefIdeal.main_arg0) = m ((c.tc : Thread Cert.UqDaIdeal.nD Cert.UqDaIdeal.τ).loc Cert.UqDaIdeal.main_arg0)
      ∧ m' ((c.tc : Thread Cert.UqDaRefIdeal.nD Cert.UqDaRefIdeal.τ).loc Cert.UqDaRefIdeal.main_arg1) = m ((c.tc : Thread Cert.UqDaIdeal.nD Cert.UqDaIdeal.τ).loc Cert.UqDaIdeal.main_arg1)
      ∧ m' ((c.tc : Thread Cert.UqDaRefIdeal.nD Cert.UqDaRefIdeal.τ).loc Cert.UqDaRefIdeal.main_arg2) = m ((c.tc : Thread Cert.UqDaIdeal.nD Cert.UqDaIdeal.τ).loc Cert.UqDaIdeal.main_arg2)) →
    ∃ (v0 : (c : Dev Cert.UqDaIdeal.nD) → Buf (Elt Ideal) ((c.tc : Thread Cert.UqDaIdeal.nD Cert.UqDaIdeal.τ).loc Cert.UqDaIdeal.main_v0)),
      θ_run (Cert.UqDaIdeal.defs (F := Ideal)) (onTc (τ := Cert.UqDaIdeal.τ) (Cert.UqDaIdeal.main (F := Ideal))) ⟨m, fun _ => 0, g⟩ (fun r => ∀ c : Dev Cert.UqDaIdeal.nD,
          r.2.mem ((c.tc : Thread Cert.UqDaIdeal.nD Cert.UqDaIdeal.τ).loc Cert.UqDaIdeal.main_v0) = v0 c
          ∧ r.2.mem ((c.tc : Thread Cert.UqDaIdeal.nD Cert.UqDaIdeal.τ).loc Cert.UqDaIdeal.main_arg0) = m ((c.tc : Thread Cert.UqDaIdeal.nD Cert.UqDaIdeal.τ).loc Cert.UqDaIdeal.main_arg0)
          ∧ r.2.mem ((c.tc : Thread Cert.UqDaIdeal.nD Cert.UqDaIdeal.τ).loc Cert.UqDaIdeal.main_arg1) = m ((c.tc : Thread Cert.UqDaIdeal.nD Cert.UqDaIdeal.τ).loc Cert.UqDaIdeal.main_arg1)
          ∧ r.2.mem ((c.tc : Thread Cert.UqDaIdeal.nD Cert.UqDaIdeal.τ).loc Cert.UqDaIdeal.main_arg2) = m ((c.tc : Thread Cert.UqDaIdeal.nD Cert.UqDaIdeal.τ).loc Cert.UqDaIdeal.main_arg2))
      ∧ θ_run (Cert.UqDaRefIdeal.defs (F := Ideal)) (onTc (τ := Cert.UqDaRefIdeal.τ) (Cert.UqDaRefIdeal.main (F := Ideal))) ⟨m', fun _ => 0, g'⟩ (fun r => ∀ c : Dev Cert.UqDaRefIdeal.nD,
          r.2.mem ((c.tc : Thread Cert.UqDaRefIdeal.nD Cert.UqDaRefIdeal.τ).loc Cert.UqDaRefIdeal.main_v4) = v0 c
          ∧ r.2.mem ((c.tc : Thread Cert.UqDaRefIdeal.nD Cert.UqDaRefIdeal.τ).loc Cert.UqDaRefIdeal.main_arg0) = m' ((c.tc : Thread Cert.UqDaRefIdeal.nD Cert.UqDaRefIdeal.τ).loc Cert.UqDaRefIdeal.main_arg0)
          ∧ r.2.mem ((c.tc : Thread Cert.UqDaRefIdeal.nD Cert.UqDaRefIdeal.τ).loc Cert.UqDaRefIdeal.main_arg1) = m' ((c.tc : Thread Cert.UqDaRefIdeal.nD Cert.UqDaRefIdeal.τ).loc Cert.UqDaRefIdeal.main_arg1)
          ∧ r.2.mem ((c.tc : Thread Cert.UqDaRefIdeal.nD Cert.UqDaRefIdeal.τ).loc Cert.UqDaRefIdeal.main_arg2) = m' ((c.tc : Thread Cert.UqDaRefIdeal.nD Cert.UqDaRefIdeal.τ).loc Cert.UqDaRefIdeal.main_arg2))

def algebraic_UqDwIdeal_UqDwRefIdeal [hUqDwIdeal : Cert.UqDwIdeal.Facts] [hUqDwRefIdeal : Cert.UqDwRefIdeal.Facts] : Prop :=
  ∀ (m : (ℓ : Loc Cert.UqDwIdeal.nD Cert.UqDwIdeal.τ Cert.UqDwIdeal.sig) → Buf (Elt Ideal) ℓ) (g : Dev Cert.UqDwIdeal.nD → PrngReg)
    (m' : (ℓ : Loc Cert.UqDwRefIdeal.nD Cert.UqDwRefIdeal.τ Cert.UqDwRefIdeal.sig) → Buf (Elt Ideal) ℓ) (g' : Dev Cert.UqDwRefIdeal.nD → PrngReg), Pre_UqDwIdeal m →
    (∀ c : Dev Cert.UqDwIdeal.nD,
      m' ((c.tc : Thread Cert.UqDwRefIdeal.nD Cert.UqDwRefIdeal.τ).loc Cert.UqDwRefIdeal.main_arg0) = m ((c.tc : Thread Cert.UqDwIdeal.nD Cert.UqDwIdeal.τ).loc Cert.UqDwIdeal.main_arg0)
      ∧ m' ((c.tc : Thread Cert.UqDwRefIdeal.nD Cert.UqDwRefIdeal.τ).loc Cert.UqDwRefIdeal.main_arg1) = m ((c.tc : Thread Cert.UqDwIdeal.nD Cert.UqDwIdeal.τ).loc Cert.UqDwIdeal.main_arg1)
      ∧ m' ((c.tc : Thread Cert.UqDwRefIdeal.nD Cert.UqDwRefIdeal.τ).loc Cert.UqDwRefIdeal.main_arg2) = m ((c.tc : Thread Cert.UqDwIdeal.nD Cert.UqDwIdeal.τ).loc Cert.UqDwIdeal.main_arg2)) →
    ∃ (v0 : (c : Dev Cert.UqDwIdeal.nD) → Buf (Elt Ideal) ((c.tc : Thread Cert.UqDwIdeal.nD Cert.UqDwIdeal.τ).loc Cert.UqDwIdeal.main_v0)),
      θ_run (Cert.UqDwIdeal.defs (F := Ideal)) (onTc (τ := Cert.UqDwIdeal.τ) (Cert.UqDwIdeal.main (F := Ideal))) ⟨m, fun _ => 0, g⟩ (fun r => ∀ c : Dev Cert.UqDwIdeal.nD,
          r.2.mem ((c.tc : Thread Cert.UqDwIdeal.nD Cert.UqDwIdeal.τ).loc Cert.UqDwIdeal.main_v0) = v0 c
          ∧ r.2.mem ((c.tc : Thread Cert.UqDwIdeal.nD Cert.UqDwIdeal.τ).loc Cert.UqDwIdeal.main_arg0) = m ((c.tc : Thread Cert.UqDwIdeal.nD Cert.UqDwIdeal.τ).loc Cert.UqDwIdeal.main_arg0)
          ∧ r.2.mem ((c.tc : Thread Cert.UqDwIdeal.nD Cert.UqDwIdeal.τ).loc Cert.UqDwIdeal.main_arg1) = m ((c.tc : Thread Cert.UqDwIdeal.nD Cert.UqDwIdeal.τ).loc Cert.UqDwIdeal.main_arg1)
          ∧ r.2.mem ((c.tc : Thread Cert.UqDwIdeal.nD Cert.UqDwIdeal.τ).loc Cert.UqDwIdeal.main_arg2) = m ((c.tc : Thread Cert.UqDwIdeal.nD Cert.UqDwIdeal.τ).loc Cert.UqDwIdeal.main_arg2))
      ∧ θ_run (Cert.UqDwRefIdeal.defs (F := Ideal)) (onTc (τ := Cert.UqDwRefIdeal.τ) (Cert.UqDwRefIdeal.main (F := Ideal))) ⟨m', fun _ => 0, g'⟩ (fun r => ∀ c : Dev Cert.UqDwRefIdeal.nD,
          r.2.mem ((c.tc : Thread Cert.UqDwRefIdeal.nD Cert.UqDwRefIdeal.τ).loc Cert.UqDwRefIdeal.main_v5) = v0 c
          ∧ r.2.mem ((c.tc : Thread Cert.UqDwRefIdeal.nD Cert.UqDwRefIdeal.τ).loc Cert.UqDwRefIdeal.main_arg0) = m' ((c.tc : Thread Cert.UqDwRefIdeal.nD Cert.UqDwRefIdeal.τ).loc Cert.UqDwRefIdeal.main_arg0)
          ∧ r.2.mem ((c.tc : Thread Cert.UqDwRefIdeal.nD Cert.UqDwRefIdeal.τ).loc Cert.UqDwRefIdeal.main_arg1) = m' ((c.tc : Thread Cert.UqDwRefIdeal.nD Cert.UqDwRefIdeal.τ).loc Cert.UqDwRefIdeal.main_arg1)
          ∧ r.2.mem ((c.tc : Thread Cert.UqDwRefIdeal.nD Cert.UqDwRefIdeal.τ).loc Cert.UqDwRefIdeal.main_arg2) = m' ((c.tc : Thread Cert.UqDwRefIdeal.nD Cert.UqDwRefIdeal.τ).loc Cert.UqDwRefIdeal.main_arg2))

def algebraic_UkvFwdIdeal_UkvFwdRefIdeal [hUkvFwdIdeal : Cert.UkvFwdIdeal.Facts] [hUkvFwdRefIdeal : Cert.UkvFwdRefIdeal.Facts] : Prop :=
  ∀ (m : (ℓ : Loc Cert.UkvFwdIdeal.nD Cert.UkvFwdIdeal.τ Cert.UkvFwdIdeal.sig) → Buf (Elt Ideal) ℓ) (g : Dev Cert.UkvFwdIdeal.nD → PrngReg)
    (m' : (ℓ : Loc Cert.UkvFwdRefIdeal.nD Cert.UkvFwdRefIdeal.τ Cert.UkvFwdRefIdeal.sig) → Buf (Elt Ideal) ℓ) (g' : Dev Cert.UkvFwdRefIdeal.nD → PrngReg), Pre_UkvFwdIdeal m →
    (∀ c : Dev Cert.UkvFwdIdeal.nD,
      m' ((c.tc : Thread Cert.UkvFwdRefIdeal.nD Cert.UkvFwdRefIdeal.τ).loc Cert.UkvFwdRefIdeal.main_arg0) = m ((c.tc : Thread Cert.UkvFwdIdeal.nD Cert.UkvFwdIdeal.τ).loc Cert.UkvFwdIdeal.main_arg0)
      ∧ m' ((c.tc : Thread Cert.UkvFwdRefIdeal.nD Cert.UkvFwdRefIdeal.τ).loc Cert.UkvFwdRefIdeal.main_arg1) = m ((c.tc : Thread Cert.UkvFwdIdeal.nD Cert.UkvFwdIdeal.τ).loc Cert.UkvFwdIdeal.main_arg1)) →
    ∃ (v0 : (c : Dev Cert.UkvFwdIdeal.nD) → Buf (Elt Ideal) ((c.tc : Thread Cert.UkvFwdIdeal.nD Cert.UkvFwdIdeal.τ).loc Cert.UkvFwdIdeal.main_v0)),
      θ_run (Cert.UkvFwdIdeal.defs (F := Ideal)) (onTc (τ := Cert.UkvFwdIdeal.τ) (Cert.UkvFwdIdeal.main (F := Ideal))) ⟨m, fun _ => 0, g⟩ (fun r => ∀ c : Dev Cert.UkvFwdIdeal.nD,
          r.2.mem ((c.tc : Thread Cert.UkvFwdIdeal.nD Cert.UkvFwdIdeal.τ).loc Cert.UkvFwdIdeal.main_v0) = v0 c
          ∧ r.2.mem ((c.tc : Thread Cert.UkvFwdIdeal.nD Cert.UkvFwdIdeal.τ).loc Cert.UkvFwdIdeal.main_arg0) = m ((c.tc : Thread Cert.UkvFwdIdeal.nD Cert.UkvFwdIdeal.τ).loc Cert.UkvFwdIdeal.main_arg0)
          ∧ r.2.mem ((c.tc : Thread Cert.UkvFwdIdeal.nD Cert.UkvFwdIdeal.τ).loc Cert.UkvFwdIdeal.main_arg1) = m ((c.tc : Thread Cert.UkvFwdIdeal.nD Cert.UkvFwdIdeal.τ).loc Cert.UkvFwdIdeal.main_arg1))
      ∧ θ_run (Cert.UkvFwdRefIdeal.defs (F := Ideal)) (onTc (τ := Cert.UkvFwdRefIdeal.τ) (Cert.UkvFwdRefIdeal.main (F := Ideal))) ⟨m', fun _ => 0, g'⟩ (fun r => ∀ c : Dev Cert.UkvFwdRefIdeal.nD,
          r.2.mem ((c.tc : Thread Cert.UkvFwdRefIdeal.nD Cert.UkvFwdRefIdeal.τ).loc Cert.UkvFwdRefIdeal.main_v1) = v0 c
          ∧ r.2.mem ((c.tc : Thread Cert.UkvFwdRefIdeal.nD Cert.UkvFwdRefIdeal.τ).loc Cert.UkvFwdRefIdeal.main_arg0) = m' ((c.tc : Thread Cert.UkvFwdRefIdeal.nD Cert.UkvFwdRefIdeal.τ).loc Cert.UkvFwdRefIdeal.main_arg0)
          ∧ r.2.mem ((c.tc : Thread Cert.UkvFwdRefIdeal.nD Cert.UkvFwdRefIdeal.τ).loc Cert.UkvFwdRefIdeal.main_arg1) = m' ((c.tc : Thread Cert.UkvFwdRefIdeal.nD Cert.UkvFwdRefIdeal.τ).loc Cert.UkvFwdRefIdeal.main_arg1))

def algebraic_UkvDaIdeal_UkvDaRefIdeal [hUkvDaIdeal : Cert.UkvDaIdeal.Facts] [hUkvDaRefIdeal : Cert.UkvDaRefIdeal.Facts] : Prop :=
  ∀ (m : (ℓ : Loc Cert.UkvDaIdeal.nD Cert.UkvDaIdeal.τ Cert.UkvDaIdeal.sig) → Buf (Elt Ideal) ℓ) (g : Dev Cert.UkvDaIdeal.nD → PrngReg)
    (m' : (ℓ : Loc Cert.UkvDaRefIdeal.nD Cert.UkvDaRefIdeal.τ Cert.UkvDaRefIdeal.sig) → Buf (Elt Ideal) ℓ) (g' : Dev Cert.UkvDaRefIdeal.nD → PrngReg), Pre_UkvDaIdeal m →
    (∀ c : Dev Cert.UkvDaIdeal.nD,
      m' ((c.tc : Thread Cert.UkvDaRefIdeal.nD Cert.UkvDaRefIdeal.τ).loc Cert.UkvDaRefIdeal.main_arg0) = m ((c.tc : Thread Cert.UkvDaIdeal.nD Cert.UkvDaIdeal.τ).loc Cert.UkvDaIdeal.main_arg0)
      ∧ m' ((c.tc : Thread Cert.UkvDaRefIdeal.nD Cert.UkvDaRefIdeal.τ).loc Cert.UkvDaRefIdeal.main_arg1) = m ((c.tc : Thread Cert.UkvDaIdeal.nD Cert.UkvDaIdeal.τ).loc Cert.UkvDaIdeal.main_arg1)
      ∧ m' ((c.tc : Thread Cert.UkvDaRefIdeal.nD Cert.UkvDaRefIdeal.τ).loc Cert.UkvDaRefIdeal.main_arg2) = m ((c.tc : Thread Cert.UkvDaIdeal.nD Cert.UkvDaIdeal.τ).loc Cert.UkvDaIdeal.main_arg2)) →
    ∃ (v0 : (c : Dev Cert.UkvDaIdeal.nD) → Buf (Elt Ideal) ((c.tc : Thread Cert.UkvDaIdeal.nD Cert.UkvDaIdeal.τ).loc Cert.UkvDaIdeal.main_v0)),
      θ_run (Cert.UkvDaIdeal.defs (F := Ideal)) (onTc (τ := Cert.UkvDaIdeal.τ) (Cert.UkvDaIdeal.main (F := Ideal))) ⟨m, fun _ => 0, g⟩ (fun r => ∀ c : Dev Cert.UkvDaIdeal.nD,
          r.2.mem ((c.tc : Thread Cert.UkvDaIdeal.nD Cert.UkvDaIdeal.τ).loc Cert.UkvDaIdeal.main_v0) = v0 c
          ∧ r.2.mem ((c.tc : Thread Cert.UkvDaIdeal.nD Cert.UkvDaIdeal.τ).loc Cert.UkvDaIdeal.main_arg0) = m ((c.tc : Thread Cert.UkvDaIdeal.nD Cert.UkvDaIdeal.τ).loc Cert.UkvDaIdeal.main_arg0)
          ∧ r.2.mem ((c.tc : Thread Cert.UkvDaIdeal.nD Cert.UkvDaIdeal.τ).loc Cert.UkvDaIdeal.main_arg1) = m ((c.tc : Thread Cert.UkvDaIdeal.nD Cert.UkvDaIdeal.τ).loc Cert.UkvDaIdeal.main_arg1)
          ∧ r.2.mem ((c.tc : Thread Cert.UkvDaIdeal.nD Cert.UkvDaIdeal.τ).loc Cert.UkvDaIdeal.main_arg2) = m ((c.tc : Thread Cert.UkvDaIdeal.nD Cert.UkvDaIdeal.τ).loc Cert.UkvDaIdeal.main_arg2))
      ∧ θ_run (Cert.UkvDaRefIdeal.defs (F := Ideal)) (onTc (τ := Cert.UkvDaRefIdeal.τ) (Cert.UkvDaRefIdeal.main (F := Ideal))) ⟨m', fun _ => 0, g'⟩ (fun r => ∀ c : Dev Cert.UkvDaRefIdeal.nD,
          r.2.mem ((c.tc : Thread Cert.UkvDaRefIdeal.nD Cert.UkvDaRefIdeal.τ).loc Cert.UkvDaRefIdeal.main_v4) = v0 c
          ∧ r.2.mem ((c.tc : Thread Cert.UkvDaRefIdeal.nD Cert.UkvDaRefIdeal.τ).loc Cert.UkvDaRefIdeal.main_arg0) = m' ((c.tc : Thread Cert.UkvDaRefIdeal.nD Cert.UkvDaRefIdeal.τ).loc Cert.UkvDaRefIdeal.main_arg0)
          ∧ r.2.mem ((c.tc : Thread Cert.UkvDaRefIdeal.nD Cert.UkvDaRefIdeal.τ).loc Cert.UkvDaRefIdeal.main_arg1) = m' ((c.tc : Thread Cert.UkvDaRefIdeal.nD Cert.UkvDaRefIdeal.τ).loc Cert.UkvDaRefIdeal.main_arg1)
          ∧ r.2.mem ((c.tc : Thread Cert.UkvDaRefIdeal.nD Cert.UkvDaRefIdeal.τ).loc Cert.UkvDaRefIdeal.main_arg2) = m' ((c.tc : Thread Cert.UkvDaRefIdeal.nD Cert.UkvDaRefIdeal.τ).loc Cert.UkvDaRefIdeal.main_arg2))

def algebraic_UkvDwIdeal_UkvDwRefIdeal [hUkvDwIdeal : Cert.UkvDwIdeal.Facts] [hUkvDwRefIdeal : Cert.UkvDwRefIdeal.Facts] : Prop :=
  ∀ (m : (ℓ : Loc Cert.UkvDwIdeal.nD Cert.UkvDwIdeal.τ Cert.UkvDwIdeal.sig) → Buf (Elt Ideal) ℓ) (g : Dev Cert.UkvDwIdeal.nD → PrngReg)
    (m' : (ℓ : Loc Cert.UkvDwRefIdeal.nD Cert.UkvDwRefIdeal.τ Cert.UkvDwRefIdeal.sig) → Buf (Elt Ideal) ℓ) (g' : Dev Cert.UkvDwRefIdeal.nD → PrngReg), Pre_UkvDwIdeal m →
    (∀ c : Dev Cert.UkvDwIdeal.nD,
      m' ((c.tc : Thread Cert.UkvDwRefIdeal.nD Cert.UkvDwRefIdeal.τ).loc Cert.UkvDwRefIdeal.main_arg0) = m ((c.tc : Thread Cert.UkvDwIdeal.nD Cert.UkvDwIdeal.τ).loc Cert.UkvDwIdeal.main_arg0)
      ∧ m' ((c.tc : Thread Cert.UkvDwRefIdeal.nD Cert.UkvDwRefIdeal.τ).loc Cert.UkvDwRefIdeal.main_arg1) = m ((c.tc : Thread Cert.UkvDwIdeal.nD Cert.UkvDwIdeal.τ).loc Cert.UkvDwIdeal.main_arg1)
      ∧ m' ((c.tc : Thread Cert.UkvDwRefIdeal.nD Cert.UkvDwRefIdeal.τ).loc Cert.UkvDwRefIdeal.main_arg2) = m ((c.tc : Thread Cert.UkvDwIdeal.nD Cert.UkvDwIdeal.τ).loc Cert.UkvDwIdeal.main_arg2)) →
    ∃ (v0 : (c : Dev Cert.UkvDwIdeal.nD) → Buf (Elt Ideal) ((c.tc : Thread Cert.UkvDwIdeal.nD Cert.UkvDwIdeal.τ).loc Cert.UkvDwIdeal.main_v0)),
      θ_run (Cert.UkvDwIdeal.defs (F := Ideal)) (onTc (τ := Cert.UkvDwIdeal.τ) (Cert.UkvDwIdeal.main (F := Ideal))) ⟨m, fun _ => 0, g⟩ (fun r => ∀ c : Dev Cert.UkvDwIdeal.nD,
          r.2.mem ((c.tc : Thread Cert.UkvDwIdeal.nD Cert.UkvDwIdeal.τ).loc Cert.UkvDwIdeal.main_v0) = v0 c
          ∧ r.2.mem ((c.tc : Thread Cert.UkvDwIdeal.nD Cert.UkvDwIdeal.τ).loc Cert.UkvDwIdeal.main_arg0) = m ((c.tc : Thread Cert.UkvDwIdeal.nD Cert.UkvDwIdeal.τ).loc Cert.UkvDwIdeal.main_arg0)
          ∧ r.2.mem ((c.tc : Thread Cert.UkvDwIdeal.nD Cert.UkvDwIdeal.τ).loc Cert.UkvDwIdeal.main_arg1) = m ((c.tc : Thread Cert.UkvDwIdeal.nD Cert.UkvDwIdeal.τ).loc Cert.UkvDwIdeal.main_arg1)
          ∧ r.2.mem ((c.tc : Thread Cert.UkvDwIdeal.nD Cert.UkvDwIdeal.τ).loc Cert.UkvDwIdeal.main_arg2) = m ((c.tc : Thread Cert.UkvDwIdeal.nD Cert.UkvDwIdeal.τ).loc Cert.UkvDwIdeal.main_arg2))
      ∧ θ_run (Cert.UkvDwRefIdeal.defs (F := Ideal)) (onTc (τ := Cert.UkvDwRefIdeal.τ) (Cert.UkvDwRefIdeal.main (F := Ideal))) ⟨m', fun _ => 0, g'⟩ (fun r => ∀ c : Dev Cert.UkvDwRefIdeal.nD,
          r.2.mem ((c.tc : Thread Cert.UkvDwRefIdeal.nD Cert.UkvDwRefIdeal.τ).loc Cert.UkvDwRefIdeal.main_v5) = v0 c
          ∧ r.2.mem ((c.tc : Thread Cert.UkvDwRefIdeal.nD Cert.UkvDwRefIdeal.τ).loc Cert.UkvDwRefIdeal.main_arg0) = m' ((c.tc : Thread Cert.UkvDwRefIdeal.nD Cert.UkvDwRefIdeal.τ).loc Cert.UkvDwRefIdeal.main_arg0)
          ∧ r.2.mem ((c.tc : Thread Cert.UkvDwRefIdeal.nD Cert.UkvDwRefIdeal.τ).loc Cert.UkvDwRefIdeal.main_arg1) = m' ((c.tc : Thread Cert.UkvDwRefIdeal.nD Cert.UkvDwRefIdeal.τ).loc Cert.UkvDwRefIdeal.main_arg1)
          ∧ r.2.mem ((c.tc : Thread Cert.UkvDwRefIdeal.nD Cert.UkvDwRefIdeal.τ).loc Cert.UkvDwRefIdeal.main_arg2) = m' ((c.tc : Thread Cert.UkvDwRefIdeal.nD Cert.UkvDwRefIdeal.τ).loc Cert.UkvDwRefIdeal.main_arg2))

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v4_0)) (v1 : (c : Dev Cert.AdamInIdeal.nD) → Buf (Elt Ideal) ((c.tc : Thread Cert.AdamInIdeal.nD Cert.AdamInIdeal.τ).loc Cert.AdamInIdeal.main_v4_1)) (v2 : (c : Dev Cert.AdamInIdeal.nD) → Buf (Elt Ideal) ((c.tc : Thread Cert.AdamInIdeal.nD Cert.AdamInIdeal.τ).loc Cert.AdamInIdeal.main_v4_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v4_0) = v0 c
          ∧ r.2.mem ((c.tc : Thread Cert.AdamInIdeal.nD Cert.AdamInIdeal.τ).loc Cert.AdamInIdeal.main_v4_1) = v1 c
          ∧ r.2.mem ((c.tc : Thread Cert.AdamInIdeal.nD Cert.AdamInIdeal.τ).loc Cert.AdamInIdeal.main_v4_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v24) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v26) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def algebraic_AdamUqIdeal_AdamUqRefIdeal [hAdamUqIdeal : Cert.AdamUqIdeal.Facts] [hAdamUqRefIdeal : Cert.AdamUqRefIdeal.Facts] : Prop :=
  ∀ (m : (ℓ : Loc Cert.AdamUqIdeal.nD Cert.AdamUqIdeal.τ Cert.AdamUqIdeal.sig) → Buf (Elt Ideal) ℓ) (g : Dev Cert.AdamUqIdeal.nD → PrngReg)
    (m' : (ℓ : Loc Cert.AdamUqRefIdeal.nD Cert.AdamUqRefIdeal.τ Cert.AdamUqRefIdeal.sig) → Buf (Elt Ideal) ℓ) (g' : Dev Cert.AdamUqRefIdeal.nD → PrngReg), Pre_AdamUqIdeal m →
    (∀ c : Dev Cert.AdamUqIdeal.nD,
      m' ((c.tc : Thread Cert.AdamUqRefIdeal.nD Cert.AdamUqRefIdeal.τ).loc Cert.AdamUqRefIdeal.main_arg0) = m ((c.tc : Thread Cert.AdamUqIdeal.nD Cert.AdamUqIdeal.τ).loc Cert.AdamUqIdeal.main_arg0)
      ∧ m' ((c.tc : Thread Cert.AdamUqRefIdeal.nD Cert.AdamUqRefIdeal.τ).loc Cert.AdamUqRefIdeal.main_arg1) = m ((c.tc : Thread Cert.AdamUqIdeal.nD Cert.AdamUqIdeal.τ).loc Cert.AdamUqIdeal.main_arg1)
      ∧ m' ((c.tc : Thread Cert.AdamUqRefIdeal.nD Cert.AdamUqRefIdeal.τ).loc Cert.AdamUqRefIdeal.main_arg2) = m ((c.tc : Thread Cert.AdamUqIdeal.nD Cert.AdamUqIdeal.τ).loc Cert.AdamUqIdeal.main_arg2)
      ∧ m' ((c.tc : Thread Cert.AdamUqRefIdeal.nD Cert.AdamUqRefIdeal.τ).loc Cert.AdamUqRefIdeal.main_arg3) = m ((c.tc : Thread Cert.AdamUqIdeal.nD Cert.AdamUqIdeal.τ).loc Cert.AdamUqIdeal.main_arg3)) →
    ∃ (v0 : (c : Dev Cert.AdamUqIdeal.nD) → Buf (Elt Ideal) ((c.tc : Thread Cert.AdamUqIdeal.nD Cert.AdamUqIdeal.τ).loc Cert.AdamUqIdeal.main_v4_0)) (v1 : (c : Dev Cert.AdamUqIdeal.nD) → Buf (Elt Ideal) ((c.tc : Thread Cert.AdamUqIdeal.nD Cert.AdamUqIdeal.τ).loc Cert.AdamUqIdeal.main_v4_1)) (v2 : (c : Dev Cert.AdamUqIdeal.nD) → Buf (Elt Ideal) ((c.tc : Thread Cert.AdamUqIdeal.nD Cert.AdamUqIdeal.τ).loc Cert.AdamUqIdeal.main_v4_2)),
      θ_run (Cert.AdamUqIdeal.defs (F := Ideal)) (onTc (τ := Cert.AdamUqIdeal.τ) (Cert.AdamUqIdeal.main (F := Ideal))) ⟨m, fun _ => 0, g⟩ (fun r => ∀ c : Dev Cert.AdamUqIdeal.nD,
          r.2.mem ((c.tc : Thread Cert.AdamUqIdeal.nD Cert.AdamUqIdeal.τ).loc Cert.AdamUqIdeal.main_v4_0) = v0 c
          ∧ r.2.mem ((c.tc : Thread Cert.AdamUqIdeal.nD Cert.AdamUqIdeal.τ).loc Cert.AdamUqIdeal.main_v4_1) = v1 c
          ∧ r.2.mem ((c.tc : Thread Cert.AdamUqIdeal.nD Cert.AdamUqIdeal.τ).loc Cert.AdamUqIdeal.main_v4_2) = v2 c
          ∧ r.2.mem ((c.tc : Thread Cert.AdamUqIdeal.nD Cert.AdamUqIdeal.τ).loc Cert.AdamUqIdeal.main_arg0) = m ((c.tc : Thread Cert.AdamUqIdeal.nD Cert.AdamUqIdeal.τ).loc Cert.AdamUqIdeal.main_arg0)
          ∧ r.2.mem ((c.tc : Thread Cert.AdamUqIdeal.nD Cert.AdamUqIdeal.τ).loc Cert.AdamUqIdeal.main_arg1) = m ((c.tc : Thread Cert.AdamUqIdeal.nD Cert.AdamUqIdeal.τ).loc Cert.AdamUqIdeal.main_arg1)
          ∧ r.2.mem ((c.tc : Thread Cert.AdamUqIdeal.nD Cert.AdamUqIdeal.τ).loc Cert.AdamUqIdeal.main_arg2) = m ((c.tc : Thread Cert.AdamUqIdeal.nD Cert.AdamUqIdeal.τ).loc Cert.AdamUqIdeal.main_arg2)
          ∧ r.2.mem ((c.tc : Thread Cert.AdamUqIdeal.nD Cert.AdamUqIdeal.τ).loc Cert.AdamUqIdeal.main_arg3) = m ((c.tc : Thread Cert.AdamUqIdeal.nD Cert.AdamUqIdeal.τ).loc Cert.AdamUqIdeal.main_arg3))
      ∧ θ_run (Cert.AdamUqRefIdeal.defs (F := Ideal)) (onTc (τ := Cert.AdamUqRefIdeal.τ) (Cert.AdamUqRefIdeal.main (F := Ideal))) ⟨m', fun _ => 0, g'⟩ (fun r => ∀ c : Dev Cert.AdamUqRefIdeal.nD,
          r.2.mem ((c.tc : Thread Cert.AdamUqRefIdeal.nD Cert.AdamUqRefIdeal.τ).loc Cert.AdamUqRefIdeal.main_v24) = v0 c
          ∧ r.2.mem ((c.tc : Thread Cert.AdamUqRefIdeal.nD Cert.AdamUqRefIdeal.τ).loc Cert.AdamUqRefIdeal.main_v25) = v1 c
          ∧ r.2.mem ((c.tc : Thread Cert.AdamUqRefIdeal.nD Cert.AdamUqRefIdeal.τ).loc Cert.AdamUqRefIdeal.main_v26) = v2 c
          ∧ r.2.mem ((c.tc : Thread Cert.AdamUqRefIdeal.nD Cert.AdamUqRefIdeal.τ).loc Cert.AdamUqRefIdeal.main_arg0) = m' ((c.tc : Thread Cert.AdamUqRefIdeal.nD Cert.AdamUqRefIdeal.τ).loc Cert.AdamUqRefIdeal.main_arg0)
          ∧ r.2.mem ((c.tc : Thread Cert.AdamUqRefIdeal.nD Cert.AdamUqRefIdeal.τ).loc Cert.AdamUqRefIdeal.main_arg1) = m' ((c.tc : Thread Cert.AdamUqRefIdeal.nD Cert.AdamUqRefIdeal.τ).loc Cert.AdamUqRefIdeal.main_arg1)
          ∧ r.2.mem ((c.tc : Thread Cert.AdamUqRefIdeal.nD Cert.AdamUqRefIdeal.τ).loc Cert.AdamUqRefIdeal.main_arg2) = m' ((c.tc : Thread Cert.AdamUqRefIdeal.nD Cert.AdamUqRefIdeal.τ).loc Cert.AdamUqRefIdeal.main_arg2)
          ∧ r.2.mem ((c.tc : Thread Cert.AdamUqRefIdeal.nD Cert.AdamUqRefIdeal.τ).loc Cert.AdamUqRefIdeal.main_arg3) = m' ((c.tc : Thread Cert.AdamUqRefIdeal.nD Cert.AdamUqRefIdeal.τ).loc Cert.AdamUqRefIdeal.main_arg3))

def algebraic_AdamUkvIdeal_AdamUkvRefIdeal [hAdamUkvIdeal : Cert.AdamUkvIdeal.Facts] [hAdamUkvRefIdeal : Cert.AdamUkvRefIdeal.Facts] : Prop :=
  ∀ (m : (ℓ : Loc Cert.AdamUkvIdeal.nD Cert.AdamUkvIdeal.τ Cert.AdamUkvIdeal.sig) → Buf (Elt Ideal) ℓ) (g : Dev Cert.AdamUkvIdeal.nD → PrngReg)
    (m' : (ℓ : Loc Cert.AdamUkvRefIdeal.nD Cert.AdamUkvRefIdeal.τ Cert.AdamUkvRefIdeal.sig) → Buf (Elt Ideal) ℓ) (g' : Dev Cert.AdamUkvRefIdeal.nD → PrngReg), Pre_AdamUkvIdeal m →
    (∀ c : Dev Cert.AdamUkvIdeal.nD,
      m' ((c.tc : Thread Cert.AdamUkvRefIdeal.nD Cert.AdamUkvRefIdeal.τ).loc Cert.AdamUkvRefIdeal.main_arg0) = m ((c.tc : Thread Cert.AdamUkvIdeal.nD Cert.AdamUkvIdeal.τ).loc Cert.AdamUkvIdeal.main_arg0)
      ∧ m' ((c.tc : Thread Cert.AdamUkvRefIdeal.nD Cert.AdamUkvRefIdeal.τ).loc Cert.AdamUkvRefIdeal.main_arg1) = m ((c.tc : Thread Cert.AdamUkvIdeal.nD Cert.AdamUkvIdeal.τ).loc Cert.AdamUkvIdeal.main_arg1)
      ∧ m' ((c.tc : Thread Cert.AdamUkvRefIdeal.nD Cert.AdamUkvRefIdeal.τ).loc Cert.AdamUkvRefIdeal.main_arg2) = m ((c.tc : Thread Cert.AdamUkvIdeal.nD Cert.AdamUkvIdeal.τ).loc Cert.AdamUkvIdeal.main_arg2)
      ∧ m' ((c.tc : Thread Cert.AdamUkvRefIdeal.nD Cert.AdamUkvRefIdeal.τ).loc Cert.AdamUkvRefIdeal.main_arg3) = m ((c.tc : Thread Cert.AdamUkvIdeal.nD Cert.AdamUkvIdeal.τ).loc Cert.AdamUkvIdeal.main_arg3)) →
    ∃ (v0 : (c : Dev Cert.AdamUkvIdeal.nD) → Buf (Elt Ideal) ((c.tc : Thread Cert.AdamUkvIdeal.nD Cert.AdamUkvIdeal.τ).loc Cert.AdamUkvIdeal.main_v4_0)) (v1 : (c : Dev Cert.AdamUkvIdeal.nD) → Buf (Elt Ideal) ((c.tc : Thread Cert.AdamUkvIdeal.nD Cert.AdamUkvIdeal.τ).loc Cert.AdamUkvIdeal.main_v4_1)) (v2 : (c : Dev Cert.AdamUkvIdeal.nD) → Buf (Elt Ideal) ((c.tc : Thread Cert.AdamUkvIdeal.nD Cert.AdamUkvIdeal.τ).loc Cert.AdamUkvIdeal.main_v4_2)),
      θ_run (Cert.AdamUkvIdeal.defs (F := Ideal)) (onTc (τ := Cert.AdamUkvIdeal.τ) (Cert.AdamUkvIdeal.main (F := Ideal))) ⟨m, fun _ => 0, g⟩ (fun r => ∀ c : Dev Cert.AdamUkvIdeal.nD,
          r.2.mem ((c.tc : Thread Cert.AdamUkvIdeal.nD Cert.AdamUkvIdeal.τ).loc Cert.AdamUkvIdeal.main_v4_0) = v0 c
          ∧ r.2.mem ((c.tc : Thread Cert.AdamUkvIdeal.nD Cert.AdamUkvIdeal.τ).loc Cert.AdamUkvIdeal.main_v4_1) = v1 c
          ∧ r.2.mem ((c.tc : Thread Cert.AdamUkvIdeal.nD Cert.AdamUkvIdeal.τ).loc Cert.AdamUkvIdeal.main_v4_2) = v2 c
          ∧ r.2.mem ((c.tc : Thread Cert.AdamUkvIdeal.nD Cert.AdamUkvIdeal.τ).loc Cert.AdamUkvIdeal.main_arg0) = m ((c.tc : Thread Cert.AdamUkvIdeal.nD Cert.AdamUkvIdeal.τ).loc Cert.AdamUkvIdeal.main_arg0)
          ∧ r.2.mem ((c.tc : Thread Cert.AdamUkvIdeal.nD Cert.AdamUkvIdeal.τ).loc Cert.AdamUkvIdeal.main_arg1) = m ((c.tc : Thread Cert.AdamUkvIdeal.nD Cert.AdamUkvIdeal.τ).loc Cert.AdamUkvIdeal.main_arg1)
          ∧ r.2.mem ((c.tc : Thread Cert.AdamUkvIdeal.nD Cert.AdamUkvIdeal.τ).loc Cert.AdamUkvIdeal.main_arg2) = m ((c.tc : Thread Cert.AdamUkvIdeal.nD Cert.AdamUkvIdeal.τ).loc Cert.AdamUkvIdeal.main_arg2)
          ∧ r.2.mem ((c.tc : Thread Cert.AdamUkvIdeal.nD Cert.AdamUkvIdeal.τ).loc Cert.AdamUkvIdeal.main_arg3) = m ((c.tc : Thread Cert.AdamUkvIdeal.nD Cert.AdamUkvIdeal.τ).loc Cert.AdamUkvIdeal.main_arg3))
      ∧ θ_run (Cert.AdamUkvRefIdeal.defs (F := Ideal)) (onTc (τ := Cert.AdamUkvRefIdeal.τ) (Cert.AdamUkvRefIdeal.main (F := Ideal))) ⟨m', fun _ => 0, g'⟩ (fun r => ∀ c : Dev Cert.AdamUkvRefIdeal.nD,
          r.2.mem ((c.tc : Thread Cert.AdamUkvRefIdeal.nD Cert.AdamUkvRefIdeal.τ).loc Cert.AdamUkvRefIdeal.main_v24) = v0 c
          ∧ r.2.mem ((c.tc : Thread Cert.AdamUkvRefIdeal.nD Cert.AdamUkvRefIdeal.τ).loc Cert.AdamUkvRefIdeal.main_v25) = v1 c
          ∧ r.2.mem ((c.tc : Thread Cert.AdamUkvRefIdeal.nD Cert.AdamUkvRefIdeal.τ).loc Cert.AdamUkvRefIdeal.main_v26) = v2 c
          ∧ r.2.mem ((c.tc : Thread Cert.AdamUkvRefIdeal.nD Cert.AdamUkvRefIdeal.τ).loc Cert.AdamUkvRefIdeal.main_arg0) = m' ((c.tc : Thread Cert.AdamUkvRefIdeal.nD Cert.AdamUkvRefIdeal.τ).loc Cert.AdamUkvRefIdeal.main_arg0)
          ∧ r.2.mem ((c.tc : Thread Cert.AdamUkvRefIdeal.nD Cert.AdamUkvRefIdeal.τ).loc Cert.AdamUkvRefIdeal.main_arg1) = m' ((c.tc : Thread Cert.AdamUkvRefIdeal.nD Cert.AdamUkvRefIdeal.τ).loc Cert.AdamUkvRefIdeal.main_arg1)
          ∧ r.2.mem ((c.tc : Thread Cert.AdamUkvRefIdeal.nD Cert.AdamUkvRefIdeal.τ).loc Cert.AdamUkvRefIdeal.main_arg2) = m' ((c.tc : Thread Cert.AdamUkvRefIdeal.nD Cert.AdamUkvRefIdeal.τ).loc Cert.AdamUkvRefIdeal.main_arg2)
          ∧ r.2.mem ((c.tc : Thread Cert.AdamUkvRefIdeal.nD Cert.AdamUkvRefIdeal.τ).loc Cert.AdamUkvRefIdeal.main_arg3) = m' ((c.tc : Thread Cert.AdamUkvRefIdeal.nD Cert.AdamUkvRefIdeal.τ).loc Cert.AdamUkvRefIdeal.main_arg3))

def algebraic_AdamLruIdeal_AdamLruRefIdeal [hAdamLruIdeal : Cert.AdamLruIdeal.Facts] [hAdamLruRefIdeal : Cert.AdamLruRefIdeal.Facts] : Prop :=
  ∀ (m : (ℓ : Loc Cert.AdamLruIdeal.nD Cert.AdamLruIdeal.τ Cert.AdamLruIdeal.sig) → Buf (Elt Ideal) ℓ) (g : Dev Cert.AdamLruIdeal.nD → PrngReg)
    (m' : (ℓ : Loc Cert.AdamLruRefIdeal.nD Cert.AdamLruRefIdeal.τ Cert.AdamLruRefIdeal.sig) → Buf (Elt Ideal) ℓ) (g' : Dev Cert.AdamLruRefIdeal.nD → PrngReg), Pre_AdamLruIdeal m →
    (∀ c : Dev Cert.AdamLruIdeal.nD,
      m' ((c.tc : Thread Cert.AdamLruRefIdeal.nD Cert.AdamLruRefIdeal.τ).loc Cert.AdamLruRefIdeal.main_arg0) = m ((c.tc : Thread Cert.AdamLruIdeal.nD Cert.AdamLruIdeal.τ).loc Cert.AdamLruIdeal.main_arg0)
      ∧ m' ((c.tc : Thread Cert.AdamLruRefIdeal.nD Cert.AdamLruRefIdeal.τ).loc Cert.AdamLruRefIdeal.main_arg1) = m ((c.tc : Thread Cert.AdamLruIdeal.nD Cert.AdamLruIdeal.τ).loc Cert.AdamLruIdeal.main_arg1)
      ∧ m' ((c.tc : Thread Cert.AdamLruRefIdeal.nD Cert.AdamLruRefIdeal.τ).loc Cert.AdamLruRefIdeal.main_arg2) = m ((c.tc : Thread Cert.AdamLruIdeal.nD Cert.AdamLruIdeal.τ).loc Cert.AdamLruIdeal.main_arg2)
      ∧ m' ((c.tc : Thread Cert.AdamLruRefIdeal.nD Cert.AdamLruRefIdeal.τ).loc Cert.AdamLruRefIdeal.main_arg3) = m ((c.tc : Thread Cert.AdamLruIdeal.nD Cert.AdamLruIdeal.τ).loc Cert.AdamLruIdeal.main_arg3)) →
    ∃ (v0 : (c : Dev Cert.AdamLruIdeal.nD) → Buf (Elt Ideal) ((c.tc : Thread Cert.AdamLruIdeal.nD Cert.AdamLruIdeal.τ).loc Cert.AdamLruIdeal.main_v4_0)) (v1 : (c : Dev Cert.AdamLruIdeal.nD) → Buf (Elt Ideal) ((c.tc : Thread Cert.AdamLruIdeal.nD Cert.AdamLruIdeal.τ).loc Cert.AdamLruIdeal.main_v4_1)) (v2 : (c : Dev Cert.AdamLruIdeal.nD) → Buf (Elt Ideal) ((c.tc : Thread Cert.AdamLruIdeal.nD Cert.AdamLruIdeal.τ).loc Cert.AdamLruIdeal.main_v4_2)),
      θ_run (Cert.AdamLruIdeal.defs (F := Ideal)) (onTc (τ := Cert.AdamLruIdeal.τ) (Cert.AdamLruIdeal.main (F := Ideal))) ⟨m, fun _ => 0, g⟩ (fun r => ∀ c : Dev Cert.AdamLruIdeal.nD,
          r.2.mem ((c.tc : Thread Cert.AdamLruIdeal.nD Cert.AdamLruIdeal.τ).loc Cert.AdamLruIdeal.main_v4_0) = v0 c
          ∧ r.2.mem ((c.tc : Thread Cert.AdamLruIdeal.nD Cert.AdamLruIdeal.τ).loc Cert.AdamLruIdeal.main_v4_1) = v1 c
          ∧ r.2.mem ((c.tc : Thread Cert.AdamLruIdeal.nD Cert.AdamLruIdeal.τ).loc Cert.AdamLruIdeal.main_v4_2) = v2 c
          ∧ r.2.mem ((c.tc : Thread Cert.AdamLruIdeal.nD Cert.AdamLruIdeal.τ).loc Cert.AdamLruIdeal.main_arg0) = m ((c.tc : Thread Cert.AdamLruIdeal.nD Cert.AdamLruIdeal.τ).loc Cert.AdamLruIdeal.main_arg0)
          ∧ r.2.mem ((c.tc : Thread Cert.AdamLruIdeal.nD Cert.AdamLruIdeal.τ).loc Cert.AdamLruIdeal.main_arg1) = m ((c.tc : Thread Cert.AdamLruIdeal.nD Cert.AdamLruIdeal.τ).loc Cert.AdamLruIdeal.main_arg1)
          ∧ r.2.mem ((c.tc : Thread Cert.AdamLruIdeal.nD Cert.AdamLruIdeal.τ).loc Cert.AdamLruIdeal.main_arg2) = m ((c.tc : Thread Cert.AdamLruIdeal.nD Cert.AdamLruIdeal.τ).loc Cert.AdamLruIdeal.main_arg2)
          ∧ r.2.mem ((c.tc : Thread Cert.AdamLruIdeal.nD Cert.AdamLruIdeal.τ).loc Cert.AdamLruIdeal.main_arg3) = m ((c.tc : Thread Cert.AdamLruIdeal.nD Cert.AdamLruIdeal.τ).loc Cert.AdamLruIdeal.main_arg3))
      ∧ θ_run (Cert.AdamLruRefIdeal.defs (F := Ideal)) (onTc (τ := Cert.AdamLruRefIdeal.τ) (Cert.AdamLruRefIdeal.main (F := Ideal))) ⟨m', fun _ => 0, g'⟩ (fun r => ∀ c : Dev Cert.AdamLruRefIdeal.nD,
          r.2.mem ((c.tc : Thread Cert.AdamLruRefIdeal.nD Cert.AdamLruRefIdeal.τ).loc Cert.AdamLruRefIdeal.main_v24) = v0 c
          ∧ r.2.mem ((c.tc : Thread Cert.AdamLruRefIdeal.nD Cert.AdamLruRefIdeal.τ).loc Cert.AdamLruRefIdeal.main_v25) = v1 c
          ∧ r.2.mem ((c.tc : Thread Cert.AdamLruRefIdeal.nD Cert.AdamLruRefIdeal.τ).loc Cert.AdamLruRefIdeal.main_v26) = v2 c
          ∧ r.2.mem ((c.tc : Thread Cert.AdamLruRefIdeal.nD Cert.AdamLruRefIdeal.τ).loc Cert.AdamLruRefIdeal.main_arg0) = m' ((c.tc : Thread Cert.AdamLruRefIdeal.nD Cert.AdamLruRefIdeal.τ).loc Cert.AdamLruRefIdeal.main_arg0)
          ∧ r.2.mem ((c.tc : Thread Cert.AdamLruRefIdeal.nD Cert.AdamLruRefIdeal.τ).loc Cert.AdamLruRefIdeal.main_arg1) = m' ((c.tc : Thread Cert.AdamLruRefIdeal.nD Cert.AdamLruRefIdeal.τ).loc Cert.AdamLruRefIdeal.main_arg1)
          ∧ r.2.mem ((c.tc : Thread Cert.AdamLruRefIdeal.nD Cert.AdamLruRefIdeal.τ).loc Cert.AdamLruRefIdeal.main_arg2) = m' ((c.tc : Thread Cert.AdamLruRefIdeal.nD Cert.AdamLruRefIdeal.τ).loc Cert.AdamLruRefIdeal.main_arg2)
          ∧ r.2.mem ((c.tc : Thread Cert.AdamLruRefIdeal.nD Cert.AdamLruRefIdeal.τ).loc Cert.AdamLruRefIdeal.main_arg3) = m' ((c.tc : Thread Cert.AdamLruRefIdeal.nD Cert.AdamLruRefIdeal.τ).loc Cert.AdamLruRefIdeal.main_arg3))

def algebraic_AdamGdnIdeal_AdamGdnRefIdeal [hAdamGdnIdeal : Cert.AdamGdnIdeal.Facts] [hAdamGdnRefIdeal : Cert.AdamGdnRefIdeal.Facts] : Prop :=
  ∀ (m : (ℓ : Loc Cert.AdamGdnIdeal.nD Cert.AdamGdnIdeal.τ Cert.AdamGdnIdeal.sig) → Buf (Elt Ideal) ℓ) (g : Dev Cert.AdamGdnIdeal.nD → PrngReg)
    (m' : (ℓ : Loc Cert.AdamGdnRefIdeal.nD Cert.AdamGdnRefIdeal.τ Cert.AdamGdnRefIdeal.sig) → Buf (Elt Ideal) ℓ) (g' : Dev Cert.AdamGdnRefIdeal.nD → PrngReg), Pre_AdamGdnIdeal m →
    (∀ c : Dev Cert.AdamGdnIdeal.nD,
      m' ((c.tc : Thread Cert.AdamGdnRefIdeal.nD Cert.AdamGdnRefIdeal.τ).loc Cert.AdamGdnRefIdeal.main_arg0) = m ((c.tc : Thread Cert.AdamGdnIdeal.nD Cert.AdamGdnIdeal.τ).loc Cert.AdamGdnIdeal.main_arg0)
      ∧ m' ((c.tc : Thread Cert.AdamGdnRefIdeal.nD Cert.AdamGdnRefIdeal.τ).loc Cert.AdamGdnRefIdeal.main_arg1) = m ((c.tc : Thread Cert.AdamGdnIdeal.nD Cert.AdamGdnIdeal.τ).loc Cert.AdamGdnIdeal.main_arg1)
      ∧ m' ((c.tc : Thread Cert.AdamGdnRefIdeal.nD Cert.AdamGdnRefIdeal.τ).loc Cert.AdamGdnRefIdeal.main_arg2) = m ((c.tc : Thread Cert.AdamGdnIdeal.nD Cert.AdamGdnIdeal.τ).loc Cert.AdamGdnIdeal.main_arg2)
      ∧ m' ((c.tc : Thread Cert.AdamGdnRefIdeal.nD Cert.AdamGdnRefIdeal.τ).loc Cert.AdamGdnRefIdeal.main_arg3) = m ((c.tc : Thread Cert.AdamGdnIdeal.nD Cert.AdamGdnIdeal.τ).loc Cert.AdamGdnIdeal.main_arg3)) →
    ∃ (v0 : (c : Dev Cert.AdamGdnIdeal.nD) → Buf (Elt Ideal) ((c.tc : Thread Cert.AdamGdnIdeal.nD Cert.AdamGdnIdeal.τ).loc Cert.AdamGdnIdeal.main_v4_0)) (v1 : (c : Dev Cert.AdamGdnIdeal.nD) → Buf (Elt Ideal) ((c.tc : Thread Cert.AdamGdnIdeal.nD Cert.AdamGdnIdeal.τ).loc Cert.AdamGdnIdeal.main_v4_1)) (v2 : (c : Dev Cert.AdamGdnIdeal.nD) → Buf (Elt Ideal) ((c.tc : Thread Cert.AdamGdnIdeal.nD Cert.AdamGdnIdeal.τ).loc Cert.AdamGdnIdeal.main_v4_2)),
      θ_run (Cert.AdamGdnIdeal.defs (F := Ideal)) (onTc (τ := Cert.AdamGdnIdeal.τ) (Cert.AdamGdnIdeal.main (F := Ideal))) ⟨m, fun _ => 0, g⟩ (fun r => ∀ c : Dev Cert.AdamGdnIdeal.nD,
          r.2.mem ((c.tc : Thread Cert.AdamGdnIdeal.nD Cert.AdamGdnIdeal.τ).loc Cert.AdamGdnIdeal.main_v4_0) = v0 c
          ∧ r.2.mem ((c.tc : Thread Cert.AdamGdnIdeal.nD Cert.AdamGdnIdeal.τ).loc Cert.AdamGdnIdeal.main_v4_1) = v1 c
          ∧ r.2.mem ((c.tc : Thread Cert.AdamGdnIdeal.nD Cert.AdamGdnIdeal.τ).loc Cert.AdamGdnIdeal.main_v4_2) = v2 c
          ∧ r.2.mem ((c.tc : Thread Cert.AdamGdnIdeal.nD Cert.AdamGdnIdeal.τ).loc Cert.AdamGdnIdeal.main_arg0) = m ((c.tc : Thread Cert.AdamGdnIdeal.nD Cert.AdamGdnIdeal.τ).loc Cert.AdamGdnIdeal.main_arg0)
          ∧ r.2.mem ((c.tc : Thread Cert.AdamGdnIdeal.nD Cert.AdamGdnIdeal.τ).loc Cert.AdamGdnIdeal.main_arg1) = m ((c.tc : Thread Cert.AdamGdnIdeal.nD Cert.AdamGdnIdeal.τ).loc Cert.AdamGdnIdeal.main_arg1)
          ∧ r.2.mem ((c.tc : Thread Cert.AdamGdnIdeal.nD Cert.AdamGdnIdeal.τ).loc Cert.AdamGdnIdeal.main_arg2) = m ((c.tc : Thread Cert.AdamGdnIdeal.nD Cert.AdamGdnIdeal.τ).loc Cert.AdamGdnIdeal.main_arg2)
          ∧ r.2.mem ((c.tc : Thread Cert.AdamGdnIdeal.nD Cert.AdamGdnIdeal.τ).loc Cert.AdamGdnIdeal.main_arg3) = m ((c.tc : Thread Cert.AdamGdnIdeal.nD Cert.AdamGdnIdeal.τ).loc Cert.AdamGdnIdeal.main_arg3))
      ∧ θ_run (Cert.AdamGdnRefIdeal.defs (F := Ideal)) (onTc (τ := Cert.AdamGdnRefIdeal.τ) (Cert.AdamGdnRefIdeal.main (F := Ideal))) ⟨m', fun _ => 0, g'⟩ (fun r => ∀ c : Dev Cert.AdamGdnRefIdeal.nD,
          r.2.mem ((c.tc : Thread Cert.AdamGdnRefIdeal.nD Cert.AdamGdnRefIdeal.τ).loc Cert.AdamGdnRefIdeal.main_v24) = v0 c
          ∧ r.2.mem ((c.tc : Thread Cert.AdamGdnRefIdeal.nD Cert.AdamGdnRefIdeal.τ).loc Cert.AdamGdnRefIdeal.main_v25) = v1 c
          ∧ r.2.mem ((c.tc : Thread Cert.AdamGdnRefIdeal.nD Cert.AdamGdnRefIdeal.τ).loc Cert.AdamGdnRefIdeal.main_v26) = v2 c
          ∧ r.2.mem ((c.tc : Thread Cert.AdamGdnRefIdeal.nD Cert.AdamGdnRefIdeal.τ).loc Cert.AdamGdnRefIdeal.main_arg0) = m' ((c.tc : Thread Cert.AdamGdnRefIdeal.nD Cert.AdamGdnRefIdeal.τ).loc Cert.AdamGdnRefIdeal.main_arg0)
          ∧ r.2.mem ((c.tc : Thread Cert.AdamGdnRefIdeal.nD Cert.AdamGdnRefIdeal.τ).loc Cert.AdamGdnRefIdeal.main_arg1) = m' ((c.tc : Thread Cert.AdamGdnRefIdeal.nD Cert.AdamGdnRefIdeal.τ).loc Cert.AdamGdnRefIdeal.main_arg1)
          ∧ r.2.mem ((c.tc : Thread Cert.AdamGdnRefIdeal.nD Cert.AdamGdnRefIdeal.τ).loc Cert.AdamGdnRefIdeal.main_arg2) = m' ((c.tc : Thread Cert.AdamGdnRefIdeal.nD Cert.AdamGdnRefIdeal.τ).loc Cert.AdamGdnRefIdeal.main_arg2)
          ∧ r.2.mem ((c.tc : Thread Cert.AdamGdnRefIdeal.nD Cert.AdamGdnRefIdeal.τ).loc Cert.AdamGdnRefIdeal.main_arg3) = m' ((c.tc : Thread Cert.AdamGdnRefIdeal.nD Cert.AdamGdnRefIdeal.τ).loc Cert.AdamGdnRefIdeal.main_arg3))

def algebraic_AdamBranchIdeal_AdamBranchRefIdeal [hAdamBranchIdeal : Cert.AdamBranchIdeal.Facts] [hAdamBranchRefIdeal : Cert.AdamBranchRefIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.AdamBranchRefIdeal.nD Cert.AdamBranchRefIdeal.τ Cert.AdamBranchRefIdeal.sig) → Buf (Elt Ideal) ℓ) (g' : Dev Cert.AdamBranchRefIdeal.nD → PrngReg), Pre_AdamBranchIdeal m →
    (∀ c : Dev Cert.AdamBranchIdeal.nD,
      m' ((c.tc : Thread Cert.AdamBranchRefIdeal.nD Cert.AdamBranchRefIdeal.τ).loc Cert.AdamBranchRefIdeal.main_arg0) = m ((c.tc : Thread Cert.AdamBranchIdeal.nD Cert.AdamBranchIdeal.τ).loc Cert.AdamBranchIdeal.main_arg0)
      ∧ m' ((c.tc : Thread Cert.AdamBranchRefIdeal.nD Cert.AdamBranchRefIdeal.τ).loc Cert.AdamBranchRefIdeal.main_arg1) = m ((c.tc : Thread Cert.AdamBranchIdeal.nD Cert.AdamBranchIdeal.τ).loc Cert.AdamBranchIdeal.main_arg1)
      ∧ m' ((c.tc : Thread Cert.AdamBranchRefIdeal.nD Cert.AdamBranchRefIdeal.τ).loc Cert.AdamBranchRefIdeal.main_arg2) = m ((c.tc : Thread Cert.AdamBranchIdeal.nD Cert.AdamBranchIdeal.τ).loc Cert.AdamBranchIdeal.main_arg2)
      ∧ m' ((c.tc : Thread Cert.AdamBranchRefIdeal.nD Cert.AdamBranchRefIdeal.τ).loc Cert.AdamBranchRefIdeal.main_arg3) = m ((c.tc : Thread Cert.AdamBranchIdeal.nD Cert.AdamBranchIdeal.τ).loc Cert.AdamBranchIdeal.main_arg3)) →
    ∃ (v0 : (c : Dev Cert.AdamBranchIdeal.nD) → Buf (Elt Ideal) ((c.tc : Thread Cert.AdamBranchIdeal.nD Cert.AdamBranchIdeal.τ).loc Cert.AdamBranchIdeal.main_v4_0)) (v1 : (c : Dev Cert.AdamBranchIdeal.nD) → Buf (Elt Ideal) ((c.tc : Thread Cert.AdamBranchIdeal.nD Cert.AdamBranchIdeal.τ).loc Cert.AdamBranchIdeal.main_v4_1)) (v2 : (c : Dev Cert.AdamBranchIdeal.nD) → Buf (Elt Ideal) ((c.tc : Thread Cert.AdamBranchIdeal.nD Cert.AdamBranchIdeal.τ).loc Cert.AdamBranchIdeal.main_v4_2)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v4_0) = v0 c
          ∧ r.2.mem ((c.tc : Thread Cert.AdamBranchIdeal.nD Cert.AdamBranchIdeal.τ).loc Cert.AdamBranchIdeal.main_v4_1) = v1 c
          ∧ r.2.mem ((c.tc : Thread Cert.AdamBranchIdeal.nD Cert.AdamBranchIdeal.τ).loc Cert.AdamBranchIdeal.main_v4_2) = v2 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ θ_run (Cert.AdamBranchRefIdeal.defs (F := Ideal)) (onTc (τ := Cert.AdamBranchRefIdeal.τ) (Cert.AdamBranchRefIdeal.main (F := Ideal))) ⟨m', fun _ => 0, g'⟩ (fun r => ∀ c : Dev Cert.AdamBranchRefIdeal.nD,
          r.2.mem ((c.tc : Thread Cert.AdamBranchRefIdeal.nD Cert.AdamBranchRefIdeal.τ).loc Cert.AdamBranchRefIdeal.main_v24) = v0 c
          ∧ r.2.mem ((c.tc : Thread Cert.AdamBranchRefIdeal.nD Cert.AdamBranchRefIdeal.τ).loc Cert.AdamBranchRefIdeal.main_v25) = v1 c
          ∧ r.2.mem ((c.tc : Thread Cert.AdamBranchRefIdeal.nD Cert.AdamBranchRefIdeal.τ).loc Cert.AdamBranchRefIdeal.main_v26) = v2 c
          ∧ r.2.mem ((c.tc : Thread Cert.AdamBranchRefIdeal.nD Cert.AdamBranchRefIdeal.τ).loc Cert.AdamBranchRefIdeal.main_arg0) = m' ((c.tc : Thread Cert.AdamBranchRefIdeal.nD Cert.AdamBranchRefIdeal.τ).loc Cert.AdamBranchRefIdeal.main_arg0)
          ∧ r.2.mem ((c.tc : Thread Cert.AdamBranchRefIdeal.nD Cert.AdamBranchRefIdeal.τ).loc Cert.AdamBranchRefIdeal.main_arg1) = m' ((c.tc : Thread Cert.AdamBranchRefIdeal.nD Cert.AdamBranchRefIdeal.τ).loc Cert.AdamBranchRefIdeal.main_arg1)
          ∧ r.2.mem ((c.tc : Thread Cert.AdamBranchRefIdeal.nD Cert.AdamBranchRefIdeal.τ).loc Cert.AdamBranchRefIdeal.main_arg2) = m' ((c.tc : Thread Cert.AdamBranchRefIdeal.nD Cert.AdamBranchRefIdeal.τ).loc Cert.AdamBranchRefIdeal.main_arg2)
          ∧ r.2.mem ((c.tc : Thread Cert.AdamBranchRefIdeal.nD Cert.AdamBranchRefIdeal.τ).loc Cert.AdamBranchRefIdeal.main_arg3) = m' ((c.tc : Thread Cert.AdamBranchRefIdeal.nD Cert.AdamBranchRefIdeal.τ).loc Cert.AdamBranchRefIdeal.main_arg3))

def algebraic_AdamBiasIdeal_AdamBiasRefIdeal [hAdamBiasIdeal : Cert.AdamBiasIdeal.Facts] [hAdamBiasRefIdeal : Cert.AdamBiasRefIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg)
    (m' : (ℓ : Loc Cert.AdamBiasRefIdeal.nD Cert.AdamBiasRefIdeal.τ Cert.AdamBiasRefIdeal.sig) → Buf (Elt Ideal) ℓ) (g' : Dev Cert.AdamBiasRefIdeal.nD → PrngReg), Pre_AdamBiasIdeal m →
    (∀ c : Dev Cert.AdamBiasIdeal.nD,
      m' ((c.tc : Thread Cert.AdamBiasRefIdeal.nD Cert.AdamBiasRefIdeal.τ).loc Cert.AdamBiasRefIdeal.main_arg0) = m ((c.tc : Thread Cert.AdamBiasIdeal.nD Cert.AdamBiasIdeal.τ).loc Cert.AdamBiasIdeal.main_arg0)
      ∧ m' ((c.tc : Thread Cert.AdamBiasRefIdeal.nD Cert.AdamBiasRefIdeal.τ).loc Cert.AdamBiasRefIdeal.main_arg1) = m ((c.tc : Thread Cert.AdamBiasIdeal.nD Cert.AdamBiasIdeal.τ).loc Cert.AdamBiasIdeal.main_arg1)
      ∧ m' ((c.tc : Thread Cert.AdamBiasRefIdeal.nD Cert.AdamBiasRefIdeal.τ).loc Cert.AdamBiasRefIdeal.main_arg2) = m ((c.tc : Thread Cert.AdamBiasIdeal.nD Cert.AdamBiasIdeal.τ).loc Cert.AdamBiasIdeal.main_arg2)
      ∧ m' ((c.tc : Thread Cert.AdamBiasRefIdeal.nD Cert.AdamBiasRefIdeal.τ).loc Cert.AdamBiasRefIdeal.main_arg3) = m ((c.tc : Thread Cert.AdamBiasIdeal.nD Cert.AdamBiasIdeal.τ).loc Cert.AdamBiasIdeal.main_arg3)) →
    ∃ (v0 : (c : Dev Cert.AdamBiasIdeal.nD) → Buf (Elt Ideal) ((c.tc : Thread Cert.AdamBiasIdeal.nD Cert.AdamBiasIdeal.τ).loc Cert.AdamBiasIdeal.main_v4_0)) (v1 : (c : Dev Cert.AdamBiasIdeal.nD) → Buf (Elt Ideal) ((c.tc : Thread Cert.AdamBiasIdeal.nD Cert.AdamBiasIdeal.τ).loc Cert.AdamBiasIdeal.main_v4_1)) (v2 : (c : Dev Cert.AdamBiasIdeal.nD) → Buf (Elt Ideal) ((c.tc : Thread Cert.AdamBiasIdeal.nD Cert.AdamBiasIdeal.τ).loc Cert.AdamBiasIdeal.main_v4_2)),
      θ_run (Cert.AdamBiasIdeal.defs (F := Ideal)) (onTc (τ := Cert.AdamBiasIdeal.τ) (Cert.AdamBiasIdeal.main (F := Ideal))) ⟨m, fun _ => 0, g⟩ (fun r => ∀ c : Dev Cert.AdamBiasIdeal.nD,
          r.2.mem ((c.tc : Thread Cert.AdamBiasIdeal.nD Cert.AdamBiasIdeal.τ).loc Cert.AdamBiasIdeal.main_v4_0) = v0 c
          ∧ r.2.mem ((c.tc : Thread Cert.AdamBiasIdeal.nD Cert.AdamBiasIdeal.τ).loc Cert.AdamBiasIdeal.main_v4_1) = v1 c
          ∧ r.2.mem ((c.tc : Thread Cert.AdamBiasIdeal.nD Cert.AdamBiasIdeal.τ).loc Cert.AdamBiasIdeal.main_v4_2) = v2 c
          ∧ r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
          ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
          ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
          ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ θ_run (Cert.AdamBiasRefIdeal.defs (F := Ideal)) (onTc (τ := Cert.AdamBiasRefIdeal.τ) (Cert.AdamBiasRefIdeal.main (F := Ideal))) ⟨m', fun _ => 0, g'⟩ (fun r => ∀ c : Dev Cert.AdamBiasRefIdeal.nD,
          r.2.mem ((c.tc : Thread Cert.AdamBiasRefIdeal.nD Cert.AdamBiasRefIdeal.τ).loc Cert.AdamBiasRefIdeal.main_v24) = v0 c
          ∧ r.2.mem ((c.tc : Thread Cert.AdamBiasRefIdeal.nD Cert.AdamBiasRefIdeal.τ).loc Cert.AdamBiasRefIdeal.main_v25) = v1 c
          ∧ r.2.mem ((c.tc : Thread Cert.AdamBiasRefIdeal.nD Cert.AdamBiasRefIdeal.τ).loc Cert.AdamBiasRefIdeal.main_v26) = v2 c
          ∧ r.2.mem ((c.tc : Thread Cert.AdamBiasRefIdeal.nD Cert.AdamBiasRefIdeal.τ).loc Cert.AdamBiasRefIdeal.main_arg0) = m' ((c.tc : Thread Cert.AdamBiasRefIdeal.nD Cert.AdamBiasRefIdeal.τ).loc Cert.AdamBiasRefIdeal.main_arg0)
          ∧ r.2.mem ((c.tc : Thread Cert.AdamBiasRefIdeal.nD Cert.AdamBiasRefIdeal.τ).loc Cert.AdamBiasRefIdeal.main_arg1) = m' ((c.tc : Thread Cert.AdamBiasRefIdeal.nD Cert.AdamBiasRefIdeal.τ).loc Cert.AdamBiasRefIdeal.main_arg1)
          ∧ r.2.mem ((c.tc : Thread Cert.AdamBiasRefIdeal.nD Cert.AdamBiasRefIdeal.τ).loc Cert.AdamBiasRefIdeal.main_arg2) = m' ((c.tc : Thread Cert.AdamBiasRefIdeal.nD Cert.AdamBiasRefIdeal.τ).loc Cert.AdamBiasRefIdeal.main_arg2)
          ∧ r.2.mem ((c.tc : Thread Cert.AdamBiasRefIdeal.nD Cert.AdamBiasRefIdeal.τ).loc Cert.AdamBiasRefIdeal.main_arg3) = m' ((c.tc : Thread Cert.AdamBiasRefIdeal.nD Cert.AdamBiasRefIdeal.τ).loc Cert.AdamBiasRefIdeal.main_arg3))

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v4_0)) (v1 : (c : Dev Cert.AdamOutIdeal.nD) → Buf (Elt Ideal) ((c.tc : Thread Cert.AdamOutIdeal.nD Cert.AdamOutIdeal.τ).loc Cert.AdamOutIdeal.main_v4_1)) (v2 : (c : Dev Cert.AdamOutIdeal.nD) → Buf (Elt Ideal) ((c.tc : Thread Cert.AdamOutIdeal.nD Cert.AdamOutIdeal.τ).loc Cert.AdamOutIdeal.main_v4_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v4_0) = v0 c
          ∧ r.2.mem ((c.tc : Thread Cert.AdamOutIdeal.nD Cert.AdamOutIdeal.τ).loc Cert.AdamOutIdeal.main_v4_1) = v1 c
          ∧ r.2.mem ((c.tc : Thread Cert.AdamOutIdeal.nD Cert.AdamOutIdeal.τ).loc Cert.AdamOutIdeal.main_v4_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v24) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v26) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v4_0)) (v1 : (c : Dev Cert.AdamGateIdeal.nD) → Buf (Elt Ideal) ((c.tc : Thread Cert.AdamGateIdeal.nD Cert.AdamGateIdeal.τ).loc Cert.AdamGateIdeal.main_v4_1)) (v2 : (c : Dev Cert.AdamGateIdeal.nD) → Buf (Elt Ideal) ((c.tc : Thread Cert.AdamGateIdeal.nD Cert.AdamGateIdeal.τ).loc Cert.AdamGateIdeal.main_v4_2)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v4_0) = v0 c
          ∧ r.2.mem ((c.tc : Thread Cert.AdamGateIdeal.nD Cert.AdamGateIdeal.τ).loc Cert.AdamGateIdeal.main_v4_1) = v1 c
          ∧ r.2.mem ((c.tc : Thread Cert.AdamGateIdeal.nD Cert.AdamGateIdeal.τ).loc Cert.AdamGateIdeal.main_v4_2) = v2 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v24) = v0 c
          ∧ r.2.mem ((c.tc : Thread Cert.AdamGateRefIdeal.nD Cert.AdamGateRefIdeal.τ).loc Cert.AdamGateRefIdeal.main_v25) = v1 c
          ∧ r.2.mem ((c.tc : Thread Cert.AdamGateRefIdeal.nD Cert.AdamGateRefIdeal.τ).loc Cert.AdamGateRefIdeal.main_v26) = v2 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3))

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v4_0)) (v1 : (c : Dev Cert.AdamDownIdeal.nD) → Buf (Elt Ideal) ((c.tc : Thread Cert.AdamDownIdeal.nD Cert.AdamDownIdeal.τ).loc Cert.AdamDownIdeal.main_v4_1)) (v2 : (c : Dev Cert.AdamDownIdeal.nD) → Buf (Elt Ideal) ((c.tc : Thread Cert.AdamDownIdeal.nD Cert.AdamDownIdeal.τ).loc Cert.AdamDownIdeal.main_v4_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v4_0) = v0 c
          ∧ r.2.mem ((c.tc : Thread Cert.AdamDownIdeal.nD Cert.AdamDownIdeal.τ).loc Cert.AdamDownIdeal.main_v4_1) = v1 c
          ∧ r.2.mem ((c.tc : Thread Cert.AdamDownIdeal.nD Cert.AdamDownIdeal.τ).loc Cert.AdamDownIdeal.main_v4_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v24) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v26) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def algebraic_AdamRepIdeal_AdamRepRefIdeal [hAdamRepIdeal : Cert.AdamRepIdeal.Facts] [hAdamRepRefIdeal : Cert.AdamRepRefIdeal.Facts] : Prop :=
  ∀ (m : (ℓ : Loc Cert.AdamRepIdeal.nD Cert.AdamRepIdeal.τ Cert.AdamRepIdeal.sig) → Buf (Elt Ideal) ℓ) (g : Dev Cert.AdamRepIdeal.nD → PrngReg)
    (m' : (ℓ : Loc Cert.AdamRepRefIdeal.nD Cert.AdamRepRefIdeal.τ Cert.AdamRepRefIdeal.sig) → Buf (Elt Ideal) ℓ) (g' : Dev Cert.AdamRepRefIdeal.nD → PrngReg), Pre_AdamRepIdeal m →
    (∀ c : Dev Cert.AdamRepIdeal.nD,
      m' ((c.tc : Thread Cert.AdamRepRefIdeal.nD Cert.AdamRepRefIdeal.τ).loc Cert.AdamRepRefIdeal.main_arg0) = m ((c.tc : Thread Cert.AdamRepIdeal.nD Cert.AdamRepIdeal.τ).loc Cert.AdamRepIdeal.main_arg0)
      ∧ m' ((c.tc : Thread Cert.AdamRepRefIdeal.nD Cert.AdamRepRefIdeal.τ).loc Cert.AdamRepRefIdeal.main_arg1) = m ((c.tc : Thread Cert.AdamRepIdeal.nD Cert.AdamRepIdeal.τ).loc Cert.AdamRepIdeal.main_arg1)
      ∧ m' ((c.tc : Thread Cert.AdamRepRefIdeal.nD Cert.AdamRepRefIdeal.τ).loc Cert.AdamRepRefIdeal.main_arg2) = m ((c.tc : Thread Cert.AdamRepIdeal.nD Cert.AdamRepIdeal.τ).loc Cert.AdamRepIdeal.main_arg2)
      ∧ m' ((c.tc : Thread Cert.AdamRepRefIdeal.nD Cert.AdamRepRefIdeal.τ).loc Cert.AdamRepRefIdeal.main_arg3) = m ((c.tc : Thread Cert.AdamRepIdeal.nD Cert.AdamRepIdeal.τ).loc Cert.AdamRepIdeal.main_arg3)) →
    ∃ (v0 : (c : Dev Cert.AdamRepIdeal.nD) → Buf (Elt Ideal) ((c.tc : Thread Cert.AdamRepIdeal.nD Cert.AdamRepIdeal.τ).loc Cert.AdamRepIdeal.main_v0_0)) (v1 : (c : Dev Cert.AdamRepIdeal.nD) → Buf (Elt Ideal) ((c.tc : Thread Cert.AdamRepIdeal.nD Cert.AdamRepIdeal.τ).loc Cert.AdamRepIdeal.main_v0_1)) (v2 : (c : Dev Cert.AdamRepIdeal.nD) → Buf (Elt Ideal) ((c.tc : Thread Cert.AdamRepIdeal.nD Cert.AdamRepIdeal.τ).loc Cert.AdamRepIdeal.main_v0_2)),
      θ_run (Cert.AdamRepIdeal.defs (F := Ideal)) (onTc (τ := Cert.AdamRepIdeal.τ) (Cert.AdamRepIdeal.main (F := Ideal))) ⟨m, fun _ => 0, g⟩ (fun r => ∀ c : Dev Cert.AdamRepIdeal.nD,
          r.2.mem ((c.tc : Thread Cert.AdamRepIdeal.nD Cert.AdamRepIdeal.τ).loc Cert.AdamRepIdeal.main_v0_0) = v0 c
          ∧ r.2.mem ((c.tc : Thread Cert.AdamRepIdeal.nD Cert.AdamRepIdeal.τ).loc Cert.AdamRepIdeal.main_v0_1) = v1 c
          ∧ r.2.mem ((c.tc : Thread Cert.AdamRepIdeal.nD Cert.AdamRepIdeal.τ).loc Cert.AdamRepIdeal.main_v0_2) = v2 c
          ∧ r.2.mem ((c.tc : Thread Cert.AdamRepIdeal.nD Cert.AdamRepIdeal.τ).loc Cert.AdamRepIdeal.main_arg0) = m ((c.tc : Thread Cert.AdamRepIdeal.nD Cert.AdamRepIdeal.τ).loc Cert.AdamRepIdeal.main_arg0)
          ∧ r.2.mem ((c.tc : Thread Cert.AdamRepIdeal.nD Cert.AdamRepIdeal.τ).loc Cert.AdamRepIdeal.main_arg1) = m ((c.tc : Thread Cert.AdamRepIdeal.nD Cert.AdamRepIdeal.τ).loc Cert.AdamRepIdeal.main_arg1)
          ∧ r.2.mem ((c.tc : Thread Cert.AdamRepIdeal.nD Cert.AdamRepIdeal.τ).loc Cert.AdamRepIdeal.main_arg2) = m ((c.tc : Thread Cert.AdamRepIdeal.nD Cert.AdamRepIdeal.τ).loc Cert.AdamRepIdeal.main_arg2)
          ∧ r.2.mem ((c.tc : Thread Cert.AdamRepIdeal.nD Cert.AdamRepIdeal.τ).loc Cert.AdamRepIdeal.main_arg3) = m ((c.tc : Thread Cert.AdamRepIdeal.nD Cert.AdamRepIdeal.τ).loc Cert.AdamRepIdeal.main_arg3))
      ∧ θ_run (Cert.AdamRepRefIdeal.defs (F := Ideal)) (onTc (τ := Cert.AdamRepRefIdeal.τ) (Cert.AdamRepRefIdeal.main (F := Ideal))) ⟨m', fun _ => 0, g'⟩ (fun r => ∀ c : Dev Cert.AdamRepRefIdeal.nD,
          r.2.mem ((c.tc : Thread Cert.AdamRepRefIdeal.nD Cert.AdamRepRefIdeal.τ).loc Cert.AdamRepRefIdeal.main_v23) = v0 c
          ∧ r.2.mem ((c.tc : Thread Cert.AdamRepRefIdeal.nD Cert.AdamRepRefIdeal.τ).loc Cert.AdamRepRefIdeal.main_v4) = v1 c
          ∧ r.2.mem ((c.tc : Thread Cert.AdamRepRefIdeal.nD Cert.AdamRepRefIdeal.τ).loc Cert.AdamRepRefIdeal.main_v10) = v2 c
          ∧ r.2.mem ((c.tc : Thread Cert.AdamRepRefIdeal.nD Cert.AdamRepRefIdeal.τ).loc Cert.AdamRepRefIdeal.main_arg0) = m' ((c.tc : Thread Cert.AdamRepRefIdeal.nD Cert.AdamRepRefIdeal.τ).loc Cert.AdamRepRefIdeal.main_arg0)
          ∧ r.2.mem ((c.tc : Thread Cert.AdamRepRefIdeal.nD Cert.AdamRepRefIdeal.τ).loc Cert.AdamRepRefIdeal.main_arg1) = m' ((c.tc : Thread Cert.AdamRepRefIdeal.nD Cert.AdamRepRefIdeal.τ).loc Cert.AdamRepRefIdeal.main_arg1)
          ∧ r.2.mem ((c.tc : Thread Cert.AdamRepRefIdeal.nD Cert.AdamRepRefIdeal.τ).loc Cert.AdamRepRefIdeal.main_arg2) = m' ((c.tc : Thread Cert.AdamRepRefIdeal.nD Cert.AdamRepRefIdeal.τ).loc Cert.AdamRepRefIdeal.main_arg2)
          ∧ r.2.mem ((c.tc : Thread Cert.AdamRepRefIdeal.nD Cert.AdamRepRefIdeal.τ).loc Cert.AdamRepRefIdeal.main_arg3) = m' ((c.tc : Thread Cert.AdamRepRefIdeal.nD Cert.AdamRepRefIdeal.τ).loc Cert.AdamRepRefIdeal.main_arg3))

def algebraic_RepSumIdeal_RepSumRefIdeal [hRepSumIdeal : Cert.RepSumIdeal.Facts] [hRepSumRefIdeal : Cert.RepSumRefIdeal.Facts] : Prop :=
  ∀ (m : (ℓ : Loc Cert.RepSumIdeal.nD Cert.RepSumIdeal.τ Cert.RepSumIdeal.sig) → Buf (Elt Ideal) ℓ) (g : Dev Cert.RepSumIdeal.nD → PrngReg)
    (m' : (ℓ : Loc Cert.RepSumRefIdeal.nD Cert.RepSumRefIdeal.τ Cert.RepSumRefIdeal.sig) → Buf (Elt Ideal) ℓ) (g' : Dev Cert.RepSumRefIdeal.nD → PrngReg), Pre_RepSumIdeal m →
    (∀ c : Dev Cert.RepSumIdeal.nD,
      m' ((c.tc : Thread Cert.RepSumRefIdeal.nD Cert.RepSumRefIdeal.τ).loc Cert.RepSumRefIdeal.main_arg0) = m ((c.tc : Thread Cert.RepSumIdeal.nD Cert.RepSumIdeal.τ).loc Cert.RepSumIdeal.main_arg0)) →
    ∃ (v0 : (c : Dev Cert.RepSumIdeal.nD) → Buf (Elt Ideal) ((c.tc : Thread Cert.RepSumIdeal.nD Cert.RepSumIdeal.τ).loc Cert.RepSumIdeal.main_v16)),
      θ_run (Cert.RepSumIdeal.defs (F := Ideal)) (onTc (τ := Cert.RepSumIdeal.τ) (Cert.RepSumIdeal.main (F := Ideal))) ⟨m, fun _ => 0, g⟩ (fun r => ∀ c : Dev Cert.RepSumIdeal.nD,
          r.2.mem ((c.tc : Thread Cert.RepSumIdeal.nD Cert.RepSumIdeal.τ).loc Cert.RepSumIdeal.main_v16) = v0 c
          ∧ r.2.mem ((c.tc : Thread Cert.RepSumIdeal.nD Cert.RepSumIdeal.τ).loc Cert.RepSumIdeal.main_arg0) = m ((c.tc : Thread Cert.RepSumIdeal.nD Cert.RepSumIdeal.τ).loc Cert.RepSumIdeal.main_arg0))
      ∧ θ_run (Cert.RepSumRefIdeal.defs (F := Ideal)) (onTc (τ := Cert.RepSumRefIdeal.τ) (Cert.RepSumRefIdeal.main (F := Ideal))) ⟨m', fun _ => 0, g'⟩ (fun r => ∀ c : Dev Cert.RepSumRefIdeal.nD,
          r.2.mem ((c.tc : Thread Cert.RepSumRefIdeal.nD Cert.RepSumRefIdeal.τ).loc Cert.RepSumRefIdeal.main_v0) = v0 c
          ∧ r.2.mem ((c.tc : Thread Cert.RepSumRefIdeal.nD Cert.RepSumRefIdeal.τ).loc Cert.RepSumRefIdeal.main_arg0) = m' ((c.tc : Thread Cert.RepSumRefIdeal.nD Cert.RepSumRefIdeal.τ).loc Cert.RepSumRefIdeal.main_arg0))

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v1) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v12) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)) →
    ∃ (v0 : (c : Dev Cert.NormBwdIdeal.nD) → Buf (Elt Ideal) ((c.tc : Thread Cert.NormBwdIdeal.nD Cert.NormBwdIdeal.τ).loc Cert.NormBwdIdeal.main_v1_0)) (v1 : (c : Dev Cert.NormBwdIdeal.nD) → Buf (Elt Ideal) ((c.tc : Thread Cert.NormBwdIdeal.nD Cert.NormBwdIdeal.τ).loc Cert.NormBwdIdeal.main_v1_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v1_0) = v0 c
          ∧ r.2.mem ((c.tc : Thread Cert.NormBwdIdeal.nD Cert.NormBwdIdeal.τ).loc Cert.NormBwdIdeal.main_v1_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v35) = v0 c
          ∧ r.2.mem ((c.tc : Thread Cert.NormBwdRefIdeal.nD Cert.NormBwdRefIdeal.τ).loc Cert.NormBwdRefIdeal.main_v36) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2))

def algebraic_LoraFwdIdeal_LoraFwdRefIdeal [hLoraFwdIdeal : Cert.LoraFwdIdeal.Facts] [hLoraFwdRefIdeal : Cert.LoraFwdRefIdeal.Facts] : Prop :=
  ∀ (m : (ℓ : Loc Cert.LoraFwdIdeal.nD Cert.LoraFwdIdeal.τ Cert.LoraFwdIdeal.sig) → Buf (Elt Ideal) ℓ) (g : Dev Cert.LoraFwdIdeal.nD → PrngReg)
    (m' : (ℓ : Loc Cert.LoraFwdRefIdeal.nD Cert.LoraFwdRefIdeal.τ Cert.LoraFwdRefIdeal.sig) → Buf (Elt Ideal) ℓ) (g' : Dev Cert.LoraFwdRefIdeal.nD → PrngReg), Pre_LoraFwdIdeal m →
    (∀ c : Dev Cert.LoraFwdIdeal.nD,
      m' ((c.tc : Thread Cert.LoraFwdRefIdeal.nD Cert.LoraFwdRefIdeal.τ).loc Cert.LoraFwdRefIdeal.main_arg0) = m ((c.tc : Thread Cert.LoraFwdIdeal.nD Cert.LoraFwdIdeal.τ).loc Cert.LoraFwdIdeal.main_arg0)
      ∧ m' ((c.tc : Thread Cert.LoraFwdRefIdeal.nD Cert.LoraFwdRefIdeal.τ).loc Cert.LoraFwdRefIdeal.main_arg1) = m ((c.tc : Thread Cert.LoraFwdIdeal.nD Cert.LoraFwdIdeal.τ).loc Cert.LoraFwdIdeal.main_arg1)) →
    ∃ (v0 : (c : Dev Cert.LoraFwdIdeal.nD) → Buf (Elt Ideal) ((c.tc : Thread Cert.LoraFwdIdeal.nD Cert.LoraFwdIdeal.τ).loc Cert.LoraFwdIdeal.main_v1)),
      θ_run (Cert.LoraFwdIdeal.defs (F := Ideal)) (onTc (τ := Cert.LoraFwdIdeal.τ) (Cert.LoraFwdIdeal.main (F := Ideal))) ⟨m, fun _ => 0, g⟩ (fun r => ∀ c : Dev Cert.LoraFwdIdeal.nD,
          r.2.mem ((c.tc : Thread Cert.LoraFwdIdeal.nD Cert.LoraFwdIdeal.τ).loc Cert.LoraFwdIdeal.main_v1) = v0 c
          ∧ r.2.mem ((c.tc : Thread Cert.LoraFwdIdeal.nD Cert.LoraFwdIdeal.τ).loc Cert.LoraFwdIdeal.main_arg0) = m ((c.tc : Thread Cert.LoraFwdIdeal.nD Cert.LoraFwdIdeal.τ).loc Cert.LoraFwdIdeal.main_arg0)
          ∧ r.2.mem ((c.tc : Thread Cert.LoraFwdIdeal.nD Cert.LoraFwdIdeal.τ).loc Cert.LoraFwdIdeal.main_arg1) = m ((c.tc : Thread Cert.LoraFwdIdeal.nD Cert.LoraFwdIdeal.τ).loc Cert.LoraFwdIdeal.main_arg1))
      ∧ θ_run (Cert.LoraFwdRefIdeal.defs (F := Ideal)) (onTc (τ := Cert.LoraFwdRefIdeal.τ) (Cert.LoraFwdRefIdeal.main (F := Ideal))) ⟨m', fun _ => 0, g'⟩ (fun r => ∀ c : Dev Cert.LoraFwdRefIdeal.nD,
          r.2.mem ((c.tc : Thread Cert.LoraFwdRefIdeal.nD Cert.LoraFwdRefIdeal.τ).loc Cert.LoraFwdRefIdeal.main_v12) = v0 c
          ∧ r.2.mem ((c.tc : Thread Cert.LoraFwdRefIdeal.nD Cert.LoraFwdRefIdeal.τ).loc Cert.LoraFwdRefIdeal.main_arg0) = m' ((c.tc : Thread Cert.LoraFwdRefIdeal.nD Cert.LoraFwdRefIdeal.τ).loc Cert.LoraFwdRefIdeal.main_arg0)
          ∧ r.2.mem ((c.tc : Thread Cert.LoraFwdRefIdeal.nD Cert.LoraFwdRefIdeal.τ).loc Cert.LoraFwdRefIdeal.main_arg1) = m' ((c.tc : Thread Cert.LoraFwdRefIdeal.nD Cert.LoraFwdRefIdeal.τ).loc Cert.LoraFwdRefIdeal.main_arg1))

def algebraic_LoraBwdIdeal_LoraBwdRefIdeal [hLoraBwdIdeal : Cert.LoraBwdIdeal.Facts] [hLoraBwdRefIdeal : Cert.LoraBwdRefIdeal.Facts] : Prop :=
  ∀ (m : (ℓ : Loc Cert.LoraBwdIdeal.nD Cert.LoraBwdIdeal.τ Cert.LoraBwdIdeal.sig) → Buf (Elt Ideal) ℓ) (g : Dev Cert.LoraBwdIdeal.nD → PrngReg)
    (m' : (ℓ : Loc Cert.LoraBwdRefIdeal.nD Cert.LoraBwdRefIdeal.τ Cert.LoraBwdRefIdeal.sig) → Buf (Elt Ideal) ℓ) (g' : Dev Cert.LoraBwdRefIdeal.nD → PrngReg), Pre_LoraBwdIdeal m →
    (∀ c : Dev Cert.LoraBwdIdeal.nD,
      m' ((c.tc : Thread Cert.LoraBwdRefIdeal.nD Cert.LoraBwdRefIdeal.τ).loc Cert.LoraBwdRefIdeal.main_arg0) = m ((c.tc : Thread Cert.LoraBwdIdeal.nD Cert.LoraBwdIdeal.τ).loc Cert.LoraBwdIdeal.main_arg0)
      ∧ m' ((c.tc : Thread Cert.LoraBwdRefIdeal.nD Cert.LoraBwdRefIdeal.τ).loc Cert.LoraBwdRefIdeal.main_arg1) = m ((c.tc : Thread Cert.LoraBwdIdeal.nD Cert.LoraBwdIdeal.τ).loc Cert.LoraBwdIdeal.main_arg1)
      ∧ m' ((c.tc : Thread Cert.LoraBwdRefIdeal.nD Cert.LoraBwdRefIdeal.τ).loc Cert.LoraBwdRefIdeal.main_arg2) = m ((c.tc : Thread Cert.LoraBwdIdeal.nD Cert.LoraBwdIdeal.τ).loc Cert.LoraBwdIdeal.main_arg2)) →
    ∃ (v0 : (c : Dev Cert.LoraBwdIdeal.nD) → Buf (Elt Ideal) ((c.tc : Thread Cert.LoraBwdIdeal.nD Cert.LoraBwdIdeal.τ).loc Cert.LoraBwdIdeal.main_v1_0)) (v1 : (c : Dev Cert.LoraBwdIdeal.nD) → Buf (Elt Ideal) ((c.tc : Thread Cert.LoraBwdIdeal.nD Cert.LoraBwdIdeal.τ).loc Cert.LoraBwdIdeal.main_v1_1)),
      θ_run (Cert.LoraBwdIdeal.defs (F := Ideal)) (onTc (τ := Cert.LoraBwdIdeal.τ) (Cert.LoraBwdIdeal.main (F := Ideal))) ⟨m, fun _ => 0, g⟩ (fun r => ∀ c : Dev Cert.LoraBwdIdeal.nD,
          r.2.mem ((c.tc : Thread Cert.LoraBwdIdeal.nD Cert.LoraBwdIdeal.τ).loc Cert.LoraBwdIdeal.main_v1_0) = v0 c
          ∧ r.2.mem ((c.tc : Thread Cert.LoraBwdIdeal.nD Cert.LoraBwdIdeal.τ).loc Cert.LoraBwdIdeal.main_v1_1) = v1 c
          ∧ r.2.mem ((c.tc : Thread Cert.LoraBwdIdeal.nD Cert.LoraBwdIdeal.τ).loc Cert.LoraBwdIdeal.main_arg0) = m ((c.tc : Thread Cert.LoraBwdIdeal.nD Cert.LoraBwdIdeal.τ).loc Cert.LoraBwdIdeal.main_arg0)
          ∧ r.2.mem ((c.tc : Thread Cert.LoraBwdIdeal.nD Cert.LoraBwdIdeal.τ).loc Cert.LoraBwdIdeal.main_arg1) = m ((c.tc : Thread Cert.LoraBwdIdeal.nD Cert.LoraBwdIdeal.τ).loc Cert.LoraBwdIdeal.main_arg1)
          ∧ r.2.mem ((c.tc : Thread Cert.LoraBwdIdeal.nD Cert.LoraBwdIdeal.τ).loc Cert.LoraBwdIdeal.main_arg2) = m ((c.tc : Thread Cert.LoraBwdIdeal.nD Cert.LoraBwdIdeal.τ).loc Cert.LoraBwdIdeal.main_arg2))
      ∧ θ_run (Cert.LoraBwdRefIdeal.defs (F := Ideal)) (onTc (τ := Cert.LoraBwdRefIdeal.τ) (Cert.LoraBwdRefIdeal.main (F := Ideal))) ⟨m', fun _ => 0, g'⟩ (fun r => ∀ c : Dev Cert.LoraBwdRefIdeal.nD,
          r.2.mem ((c.tc : Thread Cert.LoraBwdRefIdeal.nD Cert.LoraBwdRefIdeal.τ).loc Cert.LoraBwdRefIdeal.main_v35) = v0 c
          ∧ r.2.mem ((c.tc : Thread Cert.LoraBwdRefIdeal.nD Cert.LoraBwdRefIdeal.τ).loc Cert.LoraBwdRefIdeal.main_v36) = v1 c
          ∧ r.2.mem ((c.tc : Thread Cert.LoraBwdRefIdeal.nD Cert.LoraBwdRefIdeal.τ).loc Cert.LoraBwdRefIdeal.main_arg0) = m' ((c.tc : Thread Cert.LoraBwdRefIdeal.nD Cert.LoraBwdRefIdeal.τ).loc Cert.LoraBwdRefIdeal.main_arg0)
          ∧ r.2.mem ((c.tc : Thread Cert.LoraBwdRefIdeal.nD Cert.LoraBwdRefIdeal.τ).loc Cert.LoraBwdRefIdeal.main_arg1) = m' ((c.tc : Thread Cert.LoraBwdRefIdeal.nD Cert.LoraBwdRefIdeal.τ).loc Cert.LoraBwdRefIdeal.main_arg1)
          ∧ r.2.mem ((c.tc : Thread Cert.LoraBwdRefIdeal.nD Cert.LoraBwdRefIdeal.τ).loc Cert.LoraBwdRefIdeal.main_arg2) = m' ((c.tc : Thread Cert.LoraBwdRefIdeal.nD Cert.LoraBwdRefIdeal.τ).loc Cert.LoraBwdRefIdeal.main_arg2))

def algebraic_SwigluFwdIdeal_SwigluFwdRefIdeal [hSwigluFwdIdeal : Cert.SwigluFwdIdeal.Facts] [hSwigluFwdRefIdeal : Cert.SwigluFwdRefIdeal.Facts] : Prop :=
  ∀ (m : (ℓ : Loc Cert.SwigluFwdIdeal.nD Cert.SwigluFwdIdeal.τ Cert.SwigluFwdIdeal.sig) → Buf (Elt Ideal) ℓ) (g : Dev Cert.SwigluFwdIdeal.nD → PrngReg)
    (m' : (ℓ : Loc Cert.SwigluFwdRefIdeal.nD Cert.SwigluFwdRefIdeal.τ Cert.SwigluFwdRefIdeal.sig) → Buf (Elt Ideal) ℓ) (g' : Dev Cert.SwigluFwdRefIdeal.nD → PrngReg), Pre_SwigluFwdIdeal m →
    (∀ c : Dev Cert.SwigluFwdIdeal.nD,
      m' ((c.tc : Thread Cert.SwigluFwdRefIdeal.nD Cert.SwigluFwdRefIdeal.τ).loc Cert.SwigluFwdRefIdeal.main_arg0) = m ((c.tc : Thread Cert.SwigluFwdIdeal.nD Cert.SwigluFwdIdeal.τ).loc Cert.SwigluFwdIdeal.main_arg0)
      ∧ m' ((c.tc : Thread Cert.SwigluFwdRefIdeal.nD Cert.SwigluFwdRefIdeal.τ).loc Cert.SwigluFwdRefIdeal.main_arg1) = m ((c.tc : Thread Cert.SwigluFwdIdeal.nD Cert.SwigluFwdIdeal.τ).loc Cert.SwigluFwdIdeal.main_arg1)) →
    ∃ (v0 : (c : Dev Cert.SwigluFwdIdeal.nD) → Buf (Elt Ideal) ((c.tc : Thread Cert.SwigluFwdIdeal.nD Cert.SwigluFwdIdeal.τ).loc Cert.SwigluFwdIdeal.main_v0)),
      θ_run (Cert.SwigluFwdIdeal.defs (F := Ideal)) (onTc (τ := Cert.SwigluFwdIdeal.τ) (Cert.SwigluFwdIdeal.main (F := Ideal))) ⟨m, fun _ => 0, g⟩ (fun r => ∀ c : Dev Cert.SwigluFwdIdeal.nD,
          r.2.mem ((c.tc : Thread Cert.SwigluFwdIdeal.nD Cert.SwigluFwdIdeal.τ).loc Cert.SwigluFwdIdeal.main_v0) = v0 c
          ∧ r.2.mem ((c.tc : Thread Cert.SwigluFwdIdeal.nD Cert.SwigluFwdIdeal.τ).loc Cert.SwigluFwdIdeal.main_arg0) = m ((c.tc : Thread Cert.SwigluFwdIdeal.nD Cert.SwigluFwdIdeal.τ).loc Cert.SwigluFwdIdeal.main_arg0)
          ∧ r.2.mem ((c.tc : Thread Cert.SwigluFwdIdeal.nD Cert.SwigluFwdIdeal.τ).loc Cert.SwigluFwdIdeal.main_arg1) = m ((c.tc : Thread Cert.SwigluFwdIdeal.nD Cert.SwigluFwdIdeal.τ).loc Cert.SwigluFwdIdeal.main_arg1))
      ∧ θ_run (Cert.SwigluFwdRefIdeal.defs (F := Ideal)) (onTc (τ := Cert.SwigluFwdRefIdeal.τ) (Cert.SwigluFwdRefIdeal.main (F := Ideal))) ⟨m', fun _ => 0, g'⟩ (fun r => ∀ c : Dev Cert.SwigluFwdRefIdeal.nD,
          r.2.mem ((c.tc : Thread Cert.SwigluFwdRefIdeal.nD Cert.SwigluFwdRefIdeal.τ).loc Cert.SwigluFwdRefIdeal.main_v1) = v0 c
          ∧ r.2.mem ((c.tc : Thread Cert.SwigluFwdRefIdeal.nD Cert.SwigluFwdRefIdeal.τ).loc Cert.SwigluFwdRefIdeal.main_arg0) = m' ((c.tc : Thread Cert.SwigluFwdRefIdeal.nD Cert.SwigluFwdRefIdeal.τ).loc Cert.SwigluFwdRefIdeal.main_arg0)
          ∧ r.2.mem ((c.tc : Thread Cert.SwigluFwdRefIdeal.nD Cert.SwigluFwdRefIdeal.τ).loc Cert.SwigluFwdRefIdeal.main_arg1) = m' ((c.tc : Thread Cert.SwigluFwdRefIdeal.nD Cert.SwigluFwdRefIdeal.τ).loc Cert.SwigluFwdRefIdeal.main_arg1))

def algebraic_SwigluBwdIdeal_SwigluBwdRefIdeal [hSwigluBwdIdeal : Cert.SwigluBwdIdeal.Facts] [hSwigluBwdRefIdeal : Cert.SwigluBwdRefIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg)
    (m' : (ℓ : Loc Cert.SwigluBwdRefIdeal.nD Cert.SwigluBwdRefIdeal.τ Cert.SwigluBwdRefIdeal.sig) → Buf (Elt Ideal) ℓ) (g' : Dev Cert.SwigluBwdRefIdeal.nD → PrngReg), Pre_SwigluBwdIdeal m →
    (∀ c : Dev Cert.SwigluBwdIdeal.nD,
      m' ((c.tc : Thread Cert.SwigluBwdRefIdeal.nD Cert.SwigluBwdRefIdeal.τ).loc Cert.SwigluBwdRefIdeal.main_arg0) = m ((c.tc : Thread Cert.SwigluBwdIdeal.nD Cert.SwigluBwdIdeal.τ).loc Cert.SwigluBwdIdeal.main_arg0)
      ∧ m' ((c.tc : Thread Cert.SwigluBwdRefIdeal.nD Cert.SwigluBwdRefIdeal.τ).loc Cert.SwigluBwdRefIdeal.main_arg1) = m ((c.tc : Thread Cert.SwigluBwdIdeal.nD Cert.SwigluBwdIdeal.τ).loc Cert.SwigluBwdIdeal.main_arg1)
      ∧ m' ((c.tc : Thread Cert.SwigluBwdRefIdeal.nD Cert.SwigluBwdRefIdeal.τ).loc Cert.SwigluBwdRefIdeal.main_arg2) = m ((c.tc : Thread Cert.SwigluBwdIdeal.nD Cert.SwigluBwdIdeal.τ).loc Cert.SwigluBwdIdeal.main_arg2)) →
    ∃ (v0 : (c : Dev Cert.SwigluBwdIdeal.nD) → Buf (Elt Ideal) ((c.tc : Thread Cert.SwigluBwdIdeal.nD Cert.SwigluBwdIdeal.τ).loc Cert.SwigluBwdIdeal.main_v0_0)) (v1 : (c : Dev Cert.SwigluBwdIdeal.nD) → Buf (Elt Ideal) ((c.tc : Thread Cert.SwigluBwdIdeal.nD Cert.SwigluBwdIdeal.τ).loc Cert.SwigluBwdIdeal.main_v0_1)),
      θ_run (Cert.SwigluBwdIdeal.defs (F := Ideal)) (onTc (τ := Cert.SwigluBwdIdeal.τ) (Cert.SwigluBwdIdeal.main (F := Ideal))) ⟨m, fun _ => 0, g⟩ (fun r => ∀ c : Dev Cert.SwigluBwdIdeal.nD,
          r.2.mem ((c.tc : Thread Cert.SwigluBwdIdeal.nD Cert.SwigluBwdIdeal.τ).loc Cert.SwigluBwdIdeal.main_v0_0) = v0 c
          ∧ r.2.mem ((c.tc : Thread Cert.SwigluBwdIdeal.nD Cert.SwigluBwdIdeal.τ).loc Cert.SwigluBwdIdeal.main_v0_1) = v1 c
          ∧ r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
          ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
          ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2))
      ∧ θ_run (Cert.SwigluBwdRefIdeal.defs (F := Ideal)) (onTc (τ := Cert.SwigluBwdRefIdeal.τ) (Cert.SwigluBwdRefIdeal.main (F := Ideal))) ⟨m', fun _ => 0, g'⟩ (fun r => ∀ c : Dev Cert.SwigluBwdRefIdeal.nD,
          r.2.mem ((c.tc : Thread Cert.SwigluBwdRefIdeal.nD Cert.SwigluBwdRefIdeal.τ).loc Cert.SwigluBwdRefIdeal.main_v4) = v0 c
          ∧ r.2.mem ((c.tc : Thread Cert.SwigluBwdRefIdeal.nD Cert.SwigluBwdRefIdeal.τ).loc Cert.SwigluBwdRefIdeal.main_v2) = v1 c
          ∧ r.2.mem ((c.tc : Thread Cert.SwigluBwdRefIdeal.nD Cert.SwigluBwdRefIdeal.τ).loc Cert.SwigluBwdRefIdeal.main_arg0) = m' ((c.tc : Thread Cert.SwigluBwdRefIdeal.nD Cert.SwigluBwdRefIdeal.τ).loc Cert.SwigluBwdRefIdeal.main_arg0)
          ∧ r.2.mem ((c.tc : Thread Cert.SwigluBwdRefIdeal.nD Cert.SwigluBwdRefIdeal.τ).loc Cert.SwigluBwdRefIdeal.main_arg1) = m' ((c.tc : Thread Cert.SwigluBwdRefIdeal.nD Cert.SwigluBwdRefIdeal.τ).loc Cert.SwigluBwdRefIdeal.main_arg1)
          ∧ r.2.mem ((c.tc : Thread Cert.SwigluBwdRefIdeal.nD Cert.SwigluBwdRefIdeal.τ).loc Cert.SwigluBwdRefIdeal.main_arg2) = m' ((c.tc : Thread Cert.SwigluBwdRefIdeal.nD Cert.SwigluBwdRefIdeal.τ).loc Cert.SwigluBwdRefIdeal.main_arg2))

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)) →
    ∃ (v0 : (c : Dev Cert.MergeFwdIdeal.nD) → Buf (Elt Ideal) ((c.tc : Thread Cert.MergeFwdIdeal.nD Cert.MergeFwdIdeal.τ).loc Cert.MergeFwdIdeal.main_v3)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v3) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v18) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6))

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)
      ∧ m' ((c.tc : Thread Cert.MergeBwdRefIdeal.nD Cert.MergeBwdRefIdeal.τ).loc Cert.MergeBwdRefIdeal.main_arg5) = m ((c.tc : Thread Cert.MergeBwdIdeal.nD Cert.MergeBwdIdeal.τ).loc Cert.MergeBwdIdeal.main_arg5)
      ∧ m' ((c.tc : Thread Cert.MergeBwdRefIdeal.nD Cert.MergeBwdRefIdeal.τ).loc Cert.MergeBwdRefIdeal.main_arg6) = m ((c.tc : Thread Cert.MergeBwdIdeal.nD Cert.MergeBwdIdeal.τ).loc Cert.MergeBwdIdeal.main_arg6)
      ∧ m' ((c.tc : Thread Cert.MergeBwdRefIdeal.nD Cert.MergeBwdRefIdeal.τ).loc Cert.MergeBwdRefIdeal.main_arg7) = m ((c.tc : Thread Cert.MergeBwdIdeal.nD Cert.MergeBwdIdeal.τ).loc Cert.MergeBwdIdeal.main_arg7)) →
    ∃ (v0 : (c : Dev Cert.MergeBwdIdeal.nD) → Buf (Elt Ideal) ((c.tc : Thread Cert.MergeBwdIdeal.nD Cert.MergeBwdIdeal.τ).loc Cert.MergeBwdIdeal.main_v3_0)) (v1 : (c : Dev Cert.MergeBwdIdeal.nD) → Buf (Elt Ideal) ((c.tc : Thread Cert.MergeBwdIdeal.nD Cert.MergeBwdIdeal.τ).loc Cert.MergeBwdIdeal.main_v3_1)) (v2 : (c : Dev Cert.MergeBwdIdeal.nD) → Buf (Elt Ideal) ((c.tc : Thread Cert.MergeBwdIdeal.nD Cert.MergeBwdIdeal.τ).loc Cert.MergeBwdIdeal.main_v3_2)) (v3 : (c : Dev Cert.MergeBwdIdeal.nD) → Buf (Elt Ideal) ((c.tc : Thread Cert.MergeBwdIdeal.nD Cert.MergeBwdIdeal.τ).loc Cert.MergeBwdIdeal.main_v3_3)) (v4 : (c : Dev Cert.MergeBwdIdeal.nD) → Buf (Elt Ideal) ((c.tc : Thread Cert.MergeBwdIdeal.nD Cert.MergeBwdIdeal.τ).loc Cert.MergeBwdIdeal.main_v3_4)) (v5 : (c : Dev Cert.MergeBwdIdeal.nD) → Buf (Elt Ideal) ((c.tc : Thread Cert.MergeBwdIdeal.nD Cert.MergeBwdIdeal.τ).loc Cert.MergeBwdIdeal.main_v3_5)) (v6 : (c : Dev Cert.MergeBwdIdeal.nD) → Buf (Elt Ideal) ((c.tc : Thread Cert.MergeBwdIdeal.nD Cert.MergeBwdIdeal.τ).loc Cert.MergeBwdIdeal.main_v3_6)) (v7 : (c : Dev Cert.MergeBwdIdeal.nD) → Buf (Elt Ideal) ((c.tc : Thread Cert.MergeBwdIdeal.nD Cert.MergeBwdIdeal.τ).loc Cert.MergeBwdIdeal.main_v3_7)) (v8 : (c : Dev Cert.MergeBwdIdeal.nD) → Buf (Elt Ideal) ((c.tc : Thread Cert.MergeBwdIdeal.nD Cert.MergeBwdIdeal.τ).loc Cert.MergeBwdIdeal.main_v3_8)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v3_0) = v0 c
          ∧ r.2.mem ((c.tc : Thread Cert.MergeBwdIdeal.nD Cert.MergeBwdIdeal.τ).loc Cert.MergeBwdIdeal.main_v3_1) = v1 c
          ∧ r.2.mem ((c.tc : Thread Cert.MergeBwdIdeal.nD Cert.MergeBwdIdeal.τ).loc Cert.MergeBwdIdeal.main_v3_2) = v2 c
          ∧ r.2.mem ((c.tc : Thread Cert.MergeBwdIdeal.nD Cert.MergeBwdIdeal.τ).loc Cert.MergeBwdIdeal.main_v3_3) = v3 c
          ∧ r.2.mem ((c.tc : Thread Cert.MergeBwdIdeal.nD Cert.MergeBwdIdeal.τ).loc Cert.MergeBwdIdeal.main_v3_4) = v4 c
          ∧ r.2.mem ((c.tc : Thread Cert.MergeBwdIdeal.nD Cert.MergeBwdIdeal.τ).loc Cert.MergeBwdIdeal.main_v3_5) = v5 c
          ∧ r.2.mem ((c.tc : Thread Cert.MergeBwdIdeal.nD Cert.MergeBwdIdeal.τ).loc Cert.MergeBwdIdeal.main_v3_6) = v6 c
          ∧ r.2.mem ((c.tc : Thread Cert.MergeBwdIdeal.nD Cert.MergeBwdIdeal.τ).loc Cert.MergeBwdIdeal.main_v3_7) = v7 c
          ∧ r.2.mem ((c.tc : Thread Cert.MergeBwdIdeal.nD Cert.MergeBwdIdeal.τ).loc Cert.MergeBwdIdeal.main_v3_8) = v8 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
          ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
          ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v36) = v0 c
          ∧ r.2.mem ((c.tc : Thread Cert.MergeBwdRefIdeal.nD Cert.MergeBwdRefIdeal.τ).loc Cert.MergeBwdRefIdeal.main_v38) = v1 c
          ∧ r.2.mem ((c.tc : Thread Cert.MergeBwdRefIdeal.nD Cert.MergeBwdRefIdeal.τ).loc Cert.MergeBwdRefIdeal.main_v40) = v2 c
          ∧ r.2.mem ((c.tc : Thread Cert.MergeBwdRefIdeal.nD Cert.MergeBwdRefIdeal.τ).loc Cert.MergeBwdRefIdeal.main_v30) = v3 c
          ∧ r.2.mem ((c.tc : Thread Cert.MergeBwdRefIdeal.nD Cert.MergeBwdRefIdeal.τ).loc Cert.MergeBwdRefIdeal.main_v32) = v4 c
          ∧ r.2.mem ((c.tc : Thread Cert.MergeBwdRefIdeal.nD Cert.MergeBwdRefIdeal.τ).loc Cert.MergeBwdRefIdeal.main_v34) = v5 c
          ∧ r.2.mem ((c.tc : Thread Cert.MergeBwdRefIdeal.nD Cert.MergeBwdRefIdeal.τ).loc Cert.MergeBwdRefIdeal.main_v41) = v6 c
          ∧ r.2.mem ((c.tc : Thread Cert.MergeBwdRefIdeal.nD Cert.MergeBwdRefIdeal.τ).loc Cert.MergeBwdRefIdeal.main_v42) = v7 c
          ∧ r.2.mem ((c.tc : Thread Cert.MergeBwdRefIdeal.nD Cert.MergeBwdRefIdeal.τ).loc Cert.MergeBwdRefIdeal.main_v43) = v8 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4)
          ∧ r.2.mem ((c.tc : Thread Cert.MergeBwdRefIdeal.nD Cert.MergeBwdRefIdeal.τ).loc Cert.MergeBwdRefIdeal.main_arg5) = m' ((c.tc : Thread Cert.MergeBwdRefIdeal.nD Cert.MergeBwdRefIdeal.τ).loc Cert.MergeBwdRefIdeal.main_arg5)
          ∧ r.2.mem ((c.tc : Thread Cert.MergeBwdRefIdeal.nD Cert.MergeBwdRefIdeal.τ).loc Cert.MergeBwdRefIdeal.main_arg6) = m' ((c.tc : Thread Cert.MergeBwdRefIdeal.nD Cert.MergeBwdRefIdeal.τ).loc Cert.MergeBwdRefIdeal.main_arg6)
          ∧ r.2.mem ((c.tc : Thread Cert.MergeBwdRefIdeal.nD Cert.MergeBwdRefIdeal.τ).loc Cert.MergeBwdRefIdeal.main_arg7) = m' ((c.tc : Thread Cert.MergeBwdRefIdeal.nD Cert.MergeBwdRefIdeal.τ).loc Cert.MergeBwdRefIdeal.main_arg7))

def algebraic_LruOutFwdIdeal_LruOutFwdRefIdeal [hLruOutFwdIdeal : Cert.LruOutFwdIdeal.Facts] [hLruOutFwdRefIdeal : Cert.LruOutFwdRefIdeal.Facts] : Prop :=
  ∀ (m : (ℓ : Loc Cert.LruOutFwdIdeal.nD Cert.LruOutFwdIdeal.τ Cert.LruOutFwdIdeal.sig) → Buf (Elt Ideal) ℓ) (g : Dev Cert.LruOutFwdIdeal.nD → PrngReg)
    (m' : (ℓ : Loc Cert.LruOutFwdRefIdeal.nD Cert.LruOutFwdRefIdeal.τ Cert.LruOutFwdRefIdeal.sig) → Buf (Elt Ideal) ℓ) (g' : Dev Cert.LruOutFwdRefIdeal.nD → PrngReg), Pre_LruOutFwdIdeal m →
    (∀ c : Dev Cert.LruOutFwdIdeal.nD,
      m' ((c.tc : Thread Cert.LruOutFwdRefIdeal.nD Cert.LruOutFwdRefIdeal.τ).loc Cert.LruOutFwdRefIdeal.main_arg0) = m ((c.tc : Thread Cert.LruOutFwdIdeal.nD Cert.LruOutFwdIdeal.τ).loc Cert.LruOutFwdIdeal.main_arg0)
      ∧ m' ((c.tc : Thread Cert.LruOutFwdRefIdeal.nD Cert.LruOutFwdRefIdeal.τ).loc Cert.LruOutFwdRefIdeal.main_arg1) = m ((c.tc : Thread Cert.LruOutFwdIdeal.nD Cert.LruOutFwdIdeal.τ).loc Cert.LruOutFwdIdeal.main_arg1)) →
    ∃ (v0 : (c : Dev Cert.LruOutFwdIdeal.nD) → Buf (Elt Ideal) ((c.tc : Thread Cert.LruOutFwdIdeal.nD Cert.LruOutFwdIdeal.τ).loc Cert.LruOutFwdIdeal.main_v0)),
      θ_run (Cert.LruOutFwdIdeal.defs (F := Ideal)) (onTc (τ := Cert.LruOutFwdIdeal.τ) (Cert.LruOutFwdIdeal.main (F := Ideal))) ⟨m, fun _ => 0, g⟩ (fun r => ∀ c : Dev Cert.LruOutFwdIdeal.nD,
          r.2.mem ((c.tc : Thread Cert.LruOutFwdIdeal.nD Cert.LruOutFwdIdeal.τ).loc Cert.LruOutFwdIdeal.main_v0) = v0 c
          ∧ r.2.mem ((c.tc : Thread Cert.LruOutFwdIdeal.nD Cert.LruOutFwdIdeal.τ).loc Cert.LruOutFwdIdeal.main_arg0) = m ((c.tc : Thread Cert.LruOutFwdIdeal.nD Cert.LruOutFwdIdeal.τ).loc Cert.LruOutFwdIdeal.main_arg0)
          ∧ r.2.mem ((c.tc : Thread Cert.LruOutFwdIdeal.nD Cert.LruOutFwdIdeal.τ).loc Cert.LruOutFwdIdeal.main_arg1) = m ((c.tc : Thread Cert.LruOutFwdIdeal.nD Cert.LruOutFwdIdeal.τ).loc Cert.LruOutFwdIdeal.main_arg1))
      ∧ θ_run (Cert.LruOutFwdRefIdeal.defs (F := Ideal)) (onTc (τ := Cert.LruOutFwdRefIdeal.τ) (Cert.LruOutFwdRefIdeal.main (F := Ideal))) ⟨m', fun _ => 0, g'⟩ (fun r => ∀ c : Dev Cert.LruOutFwdRefIdeal.nD,
          r.2.mem ((c.tc : Thread Cert.LruOutFwdRefIdeal.nD Cert.LruOutFwdRefIdeal.τ).loc Cert.LruOutFwdRefIdeal.main_v13) = v0 c
          ∧ r.2.mem ((c.tc : Thread Cert.LruOutFwdRefIdeal.nD Cert.LruOutFwdRefIdeal.τ).loc Cert.LruOutFwdRefIdeal.main_arg0) = m' ((c.tc : Thread Cert.LruOutFwdRefIdeal.nD Cert.LruOutFwdRefIdeal.τ).loc Cert.LruOutFwdRefIdeal.main_arg0)
          ∧ r.2.mem ((c.tc : Thread Cert.LruOutFwdRefIdeal.nD Cert.LruOutFwdRefIdeal.τ).loc Cert.LruOutFwdRefIdeal.main_arg1) = m' ((c.tc : Thread Cert.LruOutFwdRefIdeal.nD Cert.LruOutFwdRefIdeal.τ).loc Cert.LruOutFwdRefIdeal.main_arg1))

def algebraic_LruOutBwdIdeal_LruOutBwdRefIdeal [hLruOutBwdIdeal : Cert.LruOutBwdIdeal.Facts] [hLruOutBwdRefIdeal : Cert.LruOutBwdRefIdeal.Facts] : Prop :=
  ∀ (m : (ℓ : Loc Cert.LruOutBwdIdeal.nD Cert.LruOutBwdIdeal.τ Cert.LruOutBwdIdeal.sig) → Buf (Elt Ideal) ℓ) (g : Dev Cert.LruOutBwdIdeal.nD → PrngReg)
    (m' : (ℓ : Loc Cert.LruOutBwdRefIdeal.nD Cert.LruOutBwdRefIdeal.τ Cert.LruOutBwdRefIdeal.sig) → Buf (Elt Ideal) ℓ) (g' : Dev Cert.LruOutBwdRefIdeal.nD → PrngReg), Pre_LruOutBwdIdeal m →
    (∀ c : Dev Cert.LruOutBwdIdeal.nD,
      m' ((c.tc : Thread Cert.LruOutBwdRefIdeal.nD Cert.LruOutBwdRefIdeal.τ).loc Cert.LruOutBwdRefIdeal.main_arg0) = m ((c.tc : Thread Cert.LruOutBwdIdeal.nD Cert.LruOutBwdIdeal.τ).loc Cert.LruOutBwdIdeal.main_arg0)
      ∧ m' ((c.tc : Thread Cert.LruOutBwdRefIdeal.nD Cert.LruOutBwdRefIdeal.τ).loc Cert.LruOutBwdRefIdeal.main_arg1) = m ((c.tc : Thread Cert.LruOutBwdIdeal.nD Cert.LruOutBwdIdeal.τ).loc Cert.LruOutBwdIdeal.main_arg1)
      ∧ m' ((c.tc : Thread Cert.LruOutBwdRefIdeal.nD Cert.LruOutBwdRefIdeal.τ).loc Cert.LruOutBwdRefIdeal.main_arg2) = m ((c.tc : Thread Cert.LruOutBwdIdeal.nD Cert.LruOutBwdIdeal.τ).loc Cert.LruOutBwdIdeal.main_arg2)) →
    ∃ (v0 : (c : Dev Cert.LruOutBwdIdeal.nD) → Buf (Elt Ideal) ((c.tc : Thread Cert.LruOutBwdIdeal.nD Cert.LruOutBwdIdeal.τ).loc Cert.LruOutBwdIdeal.main_v0_0)) (v1 : (c : Dev Cert.LruOutBwdIdeal.nD) → Buf (Elt Ideal) ((c.tc : Thread Cert.LruOutBwdIdeal.nD Cert.LruOutBwdIdeal.τ).loc Cert.LruOutBwdIdeal.main_v0_1)),
      θ_run (Cert.LruOutBwdIdeal.defs (F := Ideal)) (onTc (τ := Cert.LruOutBwdIdeal.τ) (Cert.LruOutBwdIdeal.main (F := Ideal))) ⟨m, fun _ => 0, g⟩ (fun r => ∀ c : Dev Cert.LruOutBwdIdeal.nD,
          r.2.mem ((c.tc : Thread Cert.LruOutBwdIdeal.nD Cert.LruOutBwdIdeal.τ).loc Cert.LruOutBwdIdeal.main_v0_0) = v0 c
          ∧ r.2.mem ((c.tc : Thread Cert.LruOutBwdIdeal.nD Cert.LruOutBwdIdeal.τ).loc Cert.LruOutBwdIdeal.main_v0_1) = v1 c
          ∧ r.2.mem ((c.tc : Thread Cert.LruOutBwdIdeal.nD Cert.LruOutBwdIdeal.τ).loc Cert.LruOutBwdIdeal.main_arg0) = m ((c.tc : Thread Cert.LruOutBwdIdeal.nD Cert.LruOutBwdIdeal.τ).loc Cert.LruOutBwdIdeal.main_arg0)
          ∧ r.2.mem ((c.tc : Thread Cert.LruOutBwdIdeal.nD Cert.LruOutBwdIdeal.τ).loc Cert.LruOutBwdIdeal.main_arg1) = m ((c.tc : Thread Cert.LruOutBwdIdeal.nD Cert.LruOutBwdIdeal.τ).loc Cert.LruOutBwdIdeal.main_arg1)
          ∧ r.2.mem ((c.tc : Thread Cert.LruOutBwdIdeal.nD Cert.LruOutBwdIdeal.τ).loc Cert.LruOutBwdIdeal.main_arg2) = m ((c.tc : Thread Cert.LruOutBwdIdeal.nD Cert.LruOutBwdIdeal.τ).loc Cert.LruOutBwdIdeal.main_arg2))
      ∧ θ_run (Cert.LruOutBwdRefIdeal.defs (F := Ideal)) (onTc (τ := Cert.LruOutBwdRefIdeal.τ) (Cert.LruOutBwdRefIdeal.main (F := Ideal))) ⟨m', fun _ => 0, g'⟩ (fun r => ∀ c : Dev Cert.LruOutBwdRefIdeal.nD,
          r.2.mem ((c.tc : Thread Cert.LruOutBwdRefIdeal.nD Cert.LruOutBwdRefIdeal.τ).loc Cert.LruOutBwdRefIdeal.main_v23) = v0 c
          ∧ r.2.mem ((c.tc : Thread Cert.LruOutBwdRefIdeal.nD Cert.LruOutBwdRefIdeal.τ).loc Cert.LruOutBwdRefIdeal.main_v35) = v1 c
          ∧ r.2.mem ((c.tc : Thread Cert.LruOutBwdRefIdeal.nD Cert.LruOutBwdRefIdeal.τ).loc Cert.LruOutBwdRefIdeal.main_arg0) = m' ((c.tc : Thread Cert.LruOutBwdRefIdeal.nD Cert.LruOutBwdRefIdeal.τ).loc Cert.LruOutBwdRefIdeal.main_arg0)
          ∧ r.2.mem ((c.tc : Thread Cert.LruOutBwdRefIdeal.nD Cert.LruOutBwdRefIdeal.τ).loc Cert.LruOutBwdRefIdeal.main_arg1) = m' ((c.tc : Thread Cert.LruOutBwdRefIdeal.nD Cert.LruOutBwdRefIdeal.τ).loc Cert.LruOutBwdRefIdeal.main_arg1)
          ∧ r.2.mem ((c.tc : Thread Cert.LruOutBwdRefIdeal.nD Cert.LruOutBwdRefIdeal.τ).loc Cert.LruOutBwdRefIdeal.main_arg2) = m' ((c.tc : Thread Cert.LruOutBwdRefIdeal.nD Cert.LruOutBwdRefIdeal.τ).loc Cert.LruOutBwdRefIdeal.main_arg2))

def algebraic_GdnPreFwdIdeal_GdnPreFwdRefIdeal [hGdnPreFwdIdeal : Cert.GdnPreFwdIdeal.Facts] [hGdnPreFwdRefIdeal : Cert.GdnPreFwdRefIdeal.Facts] : Prop :=
  ∀ (m : (ℓ : Loc Cert.GdnPreFwdIdeal.nD Cert.GdnPreFwdIdeal.τ Cert.GdnPreFwdIdeal.sig) → Buf (Elt Ideal) ℓ) (g : Dev Cert.GdnPreFwdIdeal.nD → PrngReg)
    (m' : (ℓ : Loc Cert.GdnPreFwdRefIdeal.nD Cert.GdnPreFwdRefIdeal.τ Cert.GdnPreFwdRefIdeal.sig) → Buf (Elt Ideal) ℓ) (g' : Dev Cert.GdnPreFwdRefIdeal.nD → PrngReg), Pre_GdnPreFwdIdeal m →
    (∀ c : Dev Cert.GdnPreFwdIdeal.nD,
      m' ((c.tc : Thread Cert.GdnPreFwdRefIdeal.nD Cert.GdnPreFwdRefIdeal.τ).loc Cert.GdnPreFwdRefIdeal.main_arg0) = m ((c.tc : Thread Cert.GdnPreFwdIdeal.nD Cert.GdnPreFwdIdeal.τ).loc Cert.GdnPreFwdIdeal.main_arg0)
      ∧ m' ((c.tc : Thread Cert.GdnPreFwdRefIdeal.nD Cert.GdnPreFwdRefIdeal.τ).loc Cert.GdnPreFwdRefIdeal.main_arg1) = m ((c.tc : Thread Cert.GdnPreFwdIdeal.nD Cert.GdnPreFwdIdeal.τ).loc Cert.GdnPreFwdIdeal.main_arg1)
      ∧ m' ((c.tc : Thread Cert.GdnPreFwdRefIdeal.nD Cert.GdnPreFwdRefIdeal.τ).loc Cert.GdnPreFwdRefIdeal.main_arg2) = m ((c.tc : Thread Cert.GdnPreFwdIdeal.nD Cert.GdnPreFwdIdeal.τ).loc Cert.GdnPreFwdIdeal.main_arg2)) →
    ∃ (v0 : (c : Dev Cert.GdnPreFwdIdeal.nD) → Buf (Elt Ideal) ((c.tc : Thread Cert.GdnPreFwdIdeal.nD Cert.GdnPreFwdIdeal.τ).loc Cert.GdnPreFwdIdeal.main_v0_0)) (v1 : (c : Dev Cert.GdnPreFwdIdeal.nD) → Buf (Elt Ideal) ((c.tc : Thread Cert.GdnPreFwdIdeal.nD Cert.GdnPreFwdIdeal.τ).loc Cert.GdnPreFwdIdeal.main_v0_1)) (v2 : (c : Dev Cert.GdnPreFwdIdeal.nD) → Buf (Elt Ideal) ((c.tc : Thread Cert.GdnPreFwdIdeal.nD Cert.GdnPreFwdIdeal.τ).loc Cert.GdnPreFwdIdeal.main_v0_2)),
      θ_run (Cert.GdnPreFwdIdeal.defs (F := Ideal)) (onTc (τ := Cert.GdnPreFwdIdeal.τ) (Cert.GdnPreFwdIdeal.main (F := Ideal))) ⟨m, fun _ => 0, g⟩ (fun r => ∀ c : Dev Cert.GdnPreFwdIdeal.nD,
          r.2.mem ((c.tc : Thread Cert.GdnPreFwdIdeal.nD Cert.GdnPreFwdIdeal.τ).loc Cert.GdnPreFwdIdeal.main_v0_0) = v0 c
          ∧ r.2.mem ((c.tc : Thread Cert.GdnPreFwdIdeal.nD Cert.GdnPreFwdIdeal.τ).loc Cert.GdnPreFwdIdeal.main_v0_1) = v1 c
          ∧ r.2.mem ((c.tc : Thread Cert.GdnPreFwdIdeal.nD Cert.GdnPreFwdIdeal.τ).loc Cert.GdnPreFwdIdeal.main_v0_2) = v2 c
          ∧ r.2.mem ((c.tc : Thread Cert.GdnPreFwdIdeal.nD Cert.GdnPreFwdIdeal.τ).loc Cert.GdnPreFwdIdeal.main_arg0) = m ((c.tc : Thread Cert.GdnPreFwdIdeal.nD Cert.GdnPreFwdIdeal.τ).loc Cert.GdnPreFwdIdeal.main_arg0)
          ∧ r.2.mem ((c.tc : Thread Cert.GdnPreFwdIdeal.nD Cert.GdnPreFwdIdeal.τ).loc Cert.GdnPreFwdIdeal.main_arg1) = m ((c.tc : Thread Cert.GdnPreFwdIdeal.nD Cert.GdnPreFwdIdeal.τ).loc Cert.GdnPreFwdIdeal.main_arg1)
          ∧ r.2.mem ((c.tc : Thread Cert.GdnPreFwdIdeal.nD Cert.GdnPreFwdIdeal.τ).loc Cert.GdnPreFwdIdeal.main_arg2) = m ((c.tc : Thread Cert.GdnPreFwdIdeal.nD Cert.GdnPreFwdIdeal.τ).loc Cert.GdnPreFwdIdeal.main_arg2))
      ∧ θ_run (Cert.GdnPreFwdRefIdeal.defs (F := Ideal)) (onTc (τ := Cert.GdnPreFwdRefIdeal.τ) (Cert.GdnPreFwdRefIdeal.main (F := Ideal))) ⟨m', fun _ => 0, g'⟩ (fun r => ∀ c : Dev Cert.GdnPreFwdRefIdeal.nD,
          r.2.mem ((c.tc : Thread Cert.GdnPreFwdRefIdeal.nD Cert.GdnPreFwdRefIdeal.τ).loc Cert.GdnPreFwdRefIdeal.main_v21) = v0 c
          ∧ r.2.mem ((c.tc : Thread Cert.GdnPreFwdRefIdeal.nD Cert.GdnPreFwdRefIdeal.τ).loc Cert.GdnPreFwdRefIdeal.main_v22) = v1 c
          ∧ r.2.mem ((c.tc : Thread Cert.GdnPreFwdRefIdeal.nD Cert.GdnPreFwdRefIdeal.τ).loc Cert.GdnPreFwdRefIdeal.main_v2) = v2 c
          ∧ r.2.mem ((c.tc : Thread Cert.GdnPreFwdRefIdeal.nD Cert.GdnPreFwdRefIdeal.τ).loc Cert.GdnPreFwdRefIdeal.main_arg0) = m' ((c.tc : Thread Cert.GdnPreFwdRefIdeal.nD Cert.GdnPreFwdRefIdeal.τ).loc Cert.GdnPreFwdRefIdeal.main_arg0)
          ∧ r.2.mem ((c.tc : Thread Cert.GdnPreFwdRefIdeal.nD Cert.GdnPreFwdRefIdeal.τ).loc Cert.GdnPreFwdRefIdeal.main_arg1) = m' ((c.tc : Thread Cert.GdnPreFwdRefIdeal.nD Cert.GdnPreFwdRefIdeal.τ).loc Cert.GdnPreFwdRefIdeal.main_arg1)
          ∧ r.2.mem ((c.tc : Thread Cert.GdnPreFwdRefIdeal.nD Cert.GdnPreFwdRefIdeal.τ).loc Cert.GdnPreFwdRefIdeal.main_arg2) = m' ((c.tc : Thread Cert.GdnPreFwdRefIdeal.nD Cert.GdnPreFwdRefIdeal.τ).loc Cert.GdnPreFwdRefIdeal.main_arg2))

def algebraic_GdnPreBwdIdeal_GdnPreBwdRefIdeal [hGdnPreBwdIdeal : Cert.GdnPreBwdIdeal.Facts] [hGdnPreBwdRefIdeal : Cert.GdnPreBwdRefIdeal.Facts] : Prop :=
  ∀ (m : (ℓ : Loc Cert.GdnPreBwdIdeal.nD Cert.GdnPreBwdIdeal.τ Cert.GdnPreBwdIdeal.sig) → Buf (Elt Ideal) ℓ) (g : Dev Cert.GdnPreBwdIdeal.nD → PrngReg)
    (m' : (ℓ : Loc Cert.GdnPreBwdRefIdeal.nD Cert.GdnPreBwdRefIdeal.τ Cert.GdnPreBwdRefIdeal.sig) → Buf (Elt Ideal) ℓ) (g' : Dev Cert.GdnPreBwdRefIdeal.nD → PrngReg), Pre_GdnPreBwdIdeal m →
    (∀ c : Dev Cert.GdnPreBwdIdeal.nD,
      m' ((c.tc : Thread Cert.GdnPreBwdRefIdeal.nD Cert.GdnPreBwdRefIdeal.τ).loc Cert.GdnPreBwdRefIdeal.main_arg0) = m ((c.tc : Thread Cert.GdnPreBwdIdeal.nD Cert.GdnPreBwdIdeal.τ).loc Cert.GdnPreBwdIdeal.main_arg0)
      ∧ m' ((c.tc : Thread Cert.GdnPreBwdRefIdeal.nD Cert.GdnPreBwdRefIdeal.τ).loc Cert.GdnPreBwdRefIdeal.main_arg1) = m ((c.tc : Thread Cert.GdnPreBwdIdeal.nD Cert.GdnPreBwdIdeal.τ).loc Cert.GdnPreBwdIdeal.main_arg1)
      ∧ m' ((c.tc : Thread Cert.GdnPreBwdRefIdeal.nD Cert.GdnPreBwdRefIdeal.τ).loc Cert.GdnPreBwdRefIdeal.main_arg2) = m ((c.tc : Thread Cert.GdnPreBwdIdeal.nD Cert.GdnPreBwdIdeal.τ).loc Cert.GdnPreBwdIdeal.main_arg2)
      ∧ m' ((c.tc : Thread Cert.GdnPreBwdRefIdeal.nD Cert.GdnPreBwdRefIdeal.τ).loc Cert.GdnPreBwdRefIdeal.main_arg3) = m ((c.tc : Thread Cert.GdnPreBwdIdeal.nD Cert.GdnPreBwdIdeal.τ).loc Cert.GdnPreBwdIdeal.main_arg3)
      ∧ m' ((c.tc : Thread Cert.GdnPreBwdRefIdeal.nD Cert.GdnPreBwdRefIdeal.τ).loc Cert.GdnPreBwdRefIdeal.main_arg4) = m ((c.tc : Thread Cert.GdnPreBwdIdeal.nD Cert.GdnPreBwdIdeal.τ).loc Cert.GdnPreBwdIdeal.main_arg4)
      ∧ m' ((c.tc : Thread Cert.GdnPreBwdRefIdeal.nD Cert.GdnPreBwdRefIdeal.τ).loc Cert.GdnPreBwdRefIdeal.main_arg5) = m ((c.tc : Thread Cert.GdnPreBwdIdeal.nD Cert.GdnPreBwdIdeal.τ).loc Cert.GdnPreBwdIdeal.main_arg5)) →
    ∃ (v0 : (c : Dev Cert.GdnPreBwdIdeal.nD) → Buf (Elt Ideal) ((c.tc : Thread Cert.GdnPreBwdIdeal.nD Cert.GdnPreBwdIdeal.τ).loc Cert.GdnPreBwdIdeal.main_v0_0)) (v1 : (c : Dev Cert.GdnPreBwdIdeal.nD) → Buf (Elt Ideal) ((c.tc : Thread Cert.GdnPreBwdIdeal.nD Cert.GdnPreBwdIdeal.τ).loc Cert.GdnPreBwdIdeal.main_v0_1)) (v2 : (c : Dev Cert.GdnPreBwdIdeal.nD) → Buf (Elt Ideal) ((c.tc : Thread Cert.GdnPreBwdIdeal.nD Cert.GdnPreBwdIdeal.τ).loc Cert.GdnPreBwdIdeal.main_v0_2)),
      θ_run (Cert.GdnPreBwdIdeal.defs (F := Ideal)) (onTc (τ := Cert.GdnPreBwdIdeal.τ) (Cert.GdnPreBwdIdeal.main (F := Ideal))) ⟨m, fun _ => 0, g⟩ (fun r => ∀ c : Dev Cert.GdnPreBwdIdeal.nD,
          r.2.mem ((c.tc : Thread Cert.GdnPreBwdIdeal.nD Cert.GdnPreBwdIdeal.τ).loc Cert.GdnPreBwdIdeal.main_v0_0) = v0 c
          ∧ r.2.mem ((c.tc : Thread Cert.GdnPreBwdIdeal.nD Cert.GdnPreBwdIdeal.τ).loc Cert.GdnPreBwdIdeal.main_v0_1) = v1 c
          ∧ r.2.mem ((c.tc : Thread Cert.GdnPreBwdIdeal.nD Cert.GdnPreBwdIdeal.τ).loc Cert.GdnPreBwdIdeal.main_v0_2) = v2 c
          ∧ r.2.mem ((c.tc : Thread Cert.GdnPreBwdIdeal.nD Cert.GdnPreBwdIdeal.τ).loc Cert.GdnPreBwdIdeal.main_arg0) = m ((c.tc : Thread Cert.GdnPreBwdIdeal.nD Cert.GdnPreBwdIdeal.τ).loc Cert.GdnPreBwdIdeal.main_arg0)
          ∧ r.2.mem ((c.tc : Thread Cert.GdnPreBwdIdeal.nD Cert.GdnPreBwdIdeal.τ).loc Cert.GdnPreBwdIdeal.main_arg1) = m ((c.tc : Thread Cert.GdnPreBwdIdeal.nD Cert.GdnPreBwdIdeal.τ).loc Cert.GdnPreBwdIdeal.main_arg1)
          ∧ r.2.mem ((c.tc : Thread Cert.GdnPreBwdIdeal.nD Cert.GdnPreBwdIdeal.τ).loc Cert.GdnPreBwdIdeal.main_arg2) = m ((c.tc : Thread Cert.GdnPreBwdIdeal.nD Cert.GdnPreBwdIdeal.τ).loc Cert.GdnPreBwdIdeal.main_arg2)
          ∧ r.2.mem ((c.tc : Thread Cert.GdnPreBwdIdeal.nD Cert.GdnPreBwdIdeal.τ).loc Cert.GdnPreBwdIdeal.main_arg3) = m ((c.tc : Thread Cert.GdnPreBwdIdeal.nD Cert.GdnPreBwdIdeal.τ).loc Cert.GdnPreBwdIdeal.main_arg3)
          ∧ r.2.mem ((c.tc : Thread Cert.GdnPreBwdIdeal.nD Cert.GdnPreBwdIdeal.τ).loc Cert.GdnPreBwdIdeal.main_arg4) = m ((c.tc : Thread Cert.GdnPreBwdIdeal.nD Cert.GdnPreBwdIdeal.τ).loc Cert.GdnPreBwdIdeal.main_arg4)
          ∧ r.2.mem ((c.tc : Thread Cert.GdnPreBwdIdeal.nD Cert.GdnPreBwdIdeal.τ).loc Cert.GdnPreBwdIdeal.main_arg5) = m ((c.tc : Thread Cert.GdnPreBwdIdeal.nD Cert.GdnPreBwdIdeal.τ).loc Cert.GdnPreBwdIdeal.main_arg5))
      ∧ θ_run (Cert.GdnPreBwdRefIdeal.defs (F := Ideal)) (onTc (τ := Cert.GdnPreBwdRefIdeal.τ) (Cert.GdnPreBwdRefIdeal.main (F := Ideal))) ⟨m', fun _ => 0, g'⟩ (fun r => ∀ c : Dev Cert.GdnPreBwdRefIdeal.nD,
          r.2.mem ((c.tc : Thread Cert.GdnPreBwdRefIdeal.nD Cert.GdnPreBwdRefIdeal.τ).loc Cert.GdnPreBwdRefIdeal.main_v59) = v0 c
          ∧ r.2.mem ((c.tc : Thread Cert.GdnPreBwdRefIdeal.nD Cert.GdnPreBwdRefIdeal.τ).loc Cert.GdnPreBwdRefIdeal.main_v58) = v1 c
          ∧ r.2.mem ((c.tc : Thread Cert.GdnPreBwdRefIdeal.nD Cert.GdnPreBwdRefIdeal.τ).loc Cert.GdnPreBwdRefIdeal.main_v57) = v2 c
          ∧ r.2.mem ((c.tc : Thread Cert.GdnPreBwdRefIdeal.nD Cert.GdnPreBwdRefIdeal.τ).loc Cert.GdnPreBwdRefIdeal.main_arg0) = m' ((c.tc : Thread Cert.GdnPreBwdRefIdeal.nD Cert.GdnPreBwdRefIdeal.τ).loc Cert.GdnPreBwdRefIdeal.main_arg0)
          ∧ r.2.mem ((c.tc : Thread Cert.GdnPreBwdRefIdeal.nD Cert.GdnPreBwdRefIdeal.τ).loc Cert.GdnPreBwdRefIdeal.main_arg1) = m' ((c.tc : Thread Cert.GdnPreBwdRefIdeal.nD Cert.GdnPreBwdRefIdeal.τ).loc Cert.GdnPreBwdRefIdeal.main_arg1)
          ∧ r.2.mem ((c.tc : Thread Cert.GdnPreBwdRefIdeal.nD Cert.GdnPreBwdRefIdeal.τ).loc Cert.GdnPreBwdRefIdeal.main_arg2) = m' ((c.tc : Thread Cert.GdnPreBwdRefIdeal.nD Cert.GdnPreBwdRefIdeal.τ).loc Cert.GdnPreBwdRefIdeal.main_arg2)
          ∧ r.2.mem ((c.tc : Thread Cert.GdnPreBwdRefIdeal.nD Cert.GdnPreBwdRefIdeal.τ).loc Cert.GdnPreBwdRefIdeal.main_arg3) = m' ((c.tc : Thread Cert.GdnPreBwdRefIdeal.nD Cert.GdnPreBwdRefIdeal.τ).loc Cert.GdnPreBwdRefIdeal.main_arg3)
          ∧ r.2.mem ((c.tc : Thread Cert.GdnPreBwdRefIdeal.nD Cert.GdnPreBwdRefIdeal.τ).loc Cert.GdnPreBwdRefIdeal.main_arg4) = m' ((c.tc : Thread Cert.GdnPreBwdRefIdeal.nD Cert.GdnPreBwdRefIdeal.τ).loc Cert.GdnPreBwdRefIdeal.main_arg4)
          ∧ r.2.mem ((c.tc : Thread Cert.GdnPreBwdRefIdeal.nD Cert.GdnPreBwdRefIdeal.τ).loc Cert.GdnPreBwdRefIdeal.main_arg5) = m' ((c.tc : Thread Cert.GdnPreBwdRefIdeal.nD Cert.GdnPreBwdRefIdeal.τ).loc Cert.GdnPreBwdRefIdeal.main_arg5))

def algebraic_GdnPostFwdIdeal_GdnPostFwdRefIdeal [hGdnPostFwdIdeal : Cert.GdnPostFwdIdeal.Facts] [hGdnPostFwdRefIdeal : Cert.GdnPostFwdRefIdeal.Facts] : Prop :=
  ∀ (m : (ℓ : Loc Cert.GdnPostFwdIdeal.nD Cert.GdnPostFwdIdeal.τ Cert.GdnPostFwdIdeal.sig) → Buf (Elt Ideal) ℓ) (g : Dev Cert.GdnPostFwdIdeal.nD → PrngReg)
    (m' : (ℓ : Loc Cert.GdnPostFwdRefIdeal.nD Cert.GdnPostFwdRefIdeal.τ Cert.GdnPostFwdRefIdeal.sig) → Buf (Elt Ideal) ℓ) (g' : Dev Cert.GdnPostFwdRefIdeal.nD → PrngReg), Pre_GdnPostFwdIdeal m →
    (∀ c : Dev Cert.GdnPostFwdIdeal.nD,
      m' ((c.tc : Thread Cert.GdnPostFwdRefIdeal.nD Cert.GdnPostFwdRefIdeal.τ).loc Cert.GdnPostFwdRefIdeal.main_arg0) = m ((c.tc : Thread Cert.GdnPostFwdIdeal.nD Cert.GdnPostFwdIdeal.τ).loc Cert.GdnPostFwdIdeal.main_arg0)
      ∧ m' ((c.tc : Thread Cert.GdnPostFwdRefIdeal.nD Cert.GdnPostFwdRefIdeal.τ).loc Cert.GdnPostFwdRefIdeal.main_arg1) = m ((c.tc : Thread Cert.GdnPostFwdIdeal.nD Cert.GdnPostFwdIdeal.τ).loc Cert.GdnPostFwdIdeal.main_arg1)
      ∧ m' ((c.tc : Thread Cert.GdnPostFwdRefIdeal.nD Cert.GdnPostFwdRefIdeal.τ).loc Cert.GdnPostFwdRefIdeal.main_arg2) = m ((c.tc : Thread Cert.GdnPostFwdIdeal.nD Cert.GdnPostFwdIdeal.τ).loc Cert.GdnPostFwdIdeal.main_arg2)) →
    ∃ (v0 : (c : Dev Cert.GdnPostFwdIdeal.nD) → Buf (Elt Ideal) ((c.tc : Thread Cert.GdnPostFwdIdeal.nD Cert.GdnPostFwdIdeal.τ).loc Cert.GdnPostFwdIdeal.main_v1)),
      θ_run (Cert.GdnPostFwdIdeal.defs (F := Ideal)) (onTc (τ := Cert.GdnPostFwdIdeal.τ) (Cert.GdnPostFwdIdeal.main (F := Ideal))) ⟨m, fun _ => 0, g⟩ (fun r => ∀ c : Dev Cert.GdnPostFwdIdeal.nD,
          r.2.mem ((c.tc : Thread Cert.GdnPostFwdIdeal.nD Cert.GdnPostFwdIdeal.τ).loc Cert.GdnPostFwdIdeal.main_v1) = v0 c
          ∧ r.2.mem ((c.tc : Thread Cert.GdnPostFwdIdeal.nD Cert.GdnPostFwdIdeal.τ).loc Cert.GdnPostFwdIdeal.main_arg0) = m ((c.tc : Thread Cert.GdnPostFwdIdeal.nD Cert.GdnPostFwdIdeal.τ).loc Cert.GdnPostFwdIdeal.main_arg0)
          ∧ r.2.mem ((c.tc : Thread Cert.GdnPostFwdIdeal.nD Cert.GdnPostFwdIdeal.τ).loc Cert.GdnPostFwdIdeal.main_arg1) = m ((c.tc : Thread Cert.GdnPostFwdIdeal.nD Cert.GdnPostFwdIdeal.τ).loc Cert.GdnPostFwdIdeal.main_arg1)
          ∧ r.2.mem ((c.tc : Thread Cert.GdnPostFwdIdeal.nD Cert.GdnPostFwdIdeal.τ).loc Cert.GdnPostFwdIdeal.main_arg2) = m ((c.tc : Thread Cert.GdnPostFwdIdeal.nD Cert.GdnPostFwdIdeal.τ).loc Cert.GdnPostFwdIdeal.main_arg2))
      ∧ θ_run (Cert.GdnPostFwdRefIdeal.defs (F := Ideal)) (onTc (τ := Cert.GdnPostFwdRefIdeal.τ) (Cert.GdnPostFwdRefIdeal.main (F := Ideal))) ⟨m', fun _ => 0, g'⟩ (fun r => ∀ c : Dev Cert.GdnPostFwdRefIdeal.nD,
          r.2.mem ((c.tc : Thread Cert.GdnPostFwdRefIdeal.nD Cert.GdnPostFwdRefIdeal.τ).loc Cert.GdnPostFwdRefIdeal.main_v17) = v0 c
          ∧ r.2.mem ((c.tc : Thread Cert.GdnPostFwdRefIdeal.nD Cert.GdnPostFwdRefIdeal.τ).loc Cert.GdnPostFwdRefIdeal.main_arg0) = m' ((c.tc : Thread Cert.GdnPostFwdRefIdeal.nD Cert.GdnPostFwdRefIdeal.τ).loc Cert.GdnPostFwdRefIdeal.main_arg0)
          ∧ r.2.mem ((c.tc : Thread Cert.GdnPostFwdRefIdeal.nD Cert.GdnPostFwdRefIdeal.τ).loc Cert.GdnPostFwdRefIdeal.main_arg1) = m' ((c.tc : Thread Cert.GdnPostFwdRefIdeal.nD Cert.GdnPostFwdRefIdeal.τ).loc Cert.GdnPostFwdRefIdeal.main_arg1)
          ∧ r.2.mem ((c.tc : Thread Cert.GdnPostFwdRefIdeal.nD Cert.GdnPostFwdRefIdeal.τ).loc Cert.GdnPostFwdRefIdeal.main_arg2) = m' ((c.tc : Thread Cert.GdnPostFwdRefIdeal.nD Cert.GdnPostFwdRefIdeal.τ).loc Cert.GdnPostFwdRefIdeal.main_arg2))

def algebraic_GdnPostBwdIdeal_GdnPostBwdRefIdeal [hGdnPostBwdIdeal : Cert.GdnPostBwdIdeal.Facts] [hGdnPostBwdRefIdeal : Cert.GdnPostBwdRefIdeal.Facts] : Prop :=
  ∀ (m : (ℓ : Loc Cert.GdnPostBwdIdeal.nD Cert.GdnPostBwdIdeal.τ Cert.GdnPostBwdIdeal.sig) → Buf (Elt Ideal) ℓ) (g : Dev Cert.GdnPostBwdIdeal.nD → PrngReg)
    (m' : (ℓ : Loc Cert.GdnPostBwdRefIdeal.nD Cert.GdnPostBwdRefIdeal.τ Cert.GdnPostBwdRefIdeal.sig) → Buf (Elt Ideal) ℓ) (g' : Dev Cert.GdnPostBwdRefIdeal.nD → PrngReg), Pre_GdnPostBwdIdeal m →
    (∀ c : Dev Cert.GdnPostBwdIdeal.nD,
      m' ((c.tc : Thread Cert.GdnPostBwdRefIdeal.nD Cert.GdnPostBwdRefIdeal.τ).loc Cert.GdnPostBwdRefIdeal.main_arg0) = m ((c.tc : Thread Cert.GdnPostBwdIdeal.nD Cert.GdnPostBwdIdeal.τ).loc Cert.GdnPostBwdIdeal.main_arg0)
      ∧ m' ((c.tc : Thread Cert.GdnPostBwdRefIdeal.nD Cert.GdnPostBwdRefIdeal.τ).loc Cert.GdnPostBwdRefIdeal.main_arg1) = m ((c.tc : Thread Cert.GdnPostBwdIdeal.nD Cert.GdnPostBwdIdeal.τ).loc Cert.GdnPostBwdIdeal.main_arg1)
      ∧ m' ((c.tc : Thread Cert.GdnPostBwdRefIdeal.nD Cert.GdnPostBwdRefIdeal.τ).loc Cert.GdnPostBwdRefIdeal.main_arg2) = m ((c.tc : Thread Cert.GdnPostBwdIdeal.nD Cert.GdnPostBwdIdeal.τ).loc Cert.GdnPostBwdIdeal.main_arg2)
      ∧ m' ((c.tc : Thread Cert.GdnPostBwdRefIdeal.nD Cert.GdnPostBwdRefIdeal.τ).loc Cert.GdnPostBwdRefIdeal.main_arg3) = m ((c.tc : Thread Cert.GdnPostBwdIdeal.nD Cert.GdnPostBwdIdeal.τ).loc Cert.GdnPostBwdIdeal.main_arg3)) →
    ∃ (v0 : (c : Dev Cert.GdnPostBwdIdeal.nD) → Buf (Elt Ideal) ((c.tc : Thread Cert.GdnPostBwdIdeal.nD Cert.GdnPostBwdIdeal.τ).loc Cert.GdnPostBwdIdeal.main_v1_0)) (v1 : (c : Dev Cert.GdnPostBwdIdeal.nD) → Buf (Elt Ideal) ((c.tc : Thread Cert.GdnPostBwdIdeal.nD Cert.GdnPostBwdIdeal.τ).loc Cert.GdnPostBwdIdeal.main_v1_1)) (v2 : (c : Dev Cert.GdnPostBwdIdeal.nD) → Buf (Elt Ideal) ((c.tc : Thread Cert.GdnPostBwdIdeal.nD Cert.GdnPostBwdIdeal.τ).loc Cert.GdnPostBwdIdeal.main_v1_2)),
      θ_run (Cert.GdnPostBwdIdeal.defs (F := Ideal)) (onTc (τ := Cert.GdnPostBwdIdeal.τ) (Cert.GdnPostBwdIdeal.main (F := Ideal))) ⟨m, fun _ => 0, g⟩ (fun r => ∀ c : Dev Cert.GdnPostBwdIdeal.nD,
          r.2.mem ((c.tc : Thread Cert.GdnPostBwdIdeal.nD Cert.GdnPostBwdIdeal.τ).loc Cert.GdnPostBwdIdeal.main_v1_0) = v0 c
          ∧ r.2.mem ((c.tc : Thread Cert.GdnPostBwdIdeal.nD Cert.GdnPostBwdIdeal.τ).loc Cert.GdnPostBwdIdeal.main_v1_1) = v1 c
          ∧ r.2.mem ((c.tc : Thread Cert.GdnPostBwdIdeal.nD Cert.GdnPostBwdIdeal.τ).loc Cert.GdnPostBwdIdeal.main_v1_2) = v2 c
          ∧ r.2.mem ((c.tc : Thread Cert.GdnPostBwdIdeal.nD Cert.GdnPostBwdIdeal.τ).loc Cert.GdnPostBwdIdeal.main_arg0) = m ((c.tc : Thread Cert.GdnPostBwdIdeal.nD Cert.GdnPostBwdIdeal.τ).loc Cert.GdnPostBwdIdeal.main_arg0)
          ∧ r.2.mem ((c.tc : Thread Cert.GdnPostBwdIdeal.nD Cert.GdnPostBwdIdeal.τ).loc Cert.GdnPostBwdIdeal.main_arg1) = m ((c.tc : Thread Cert.GdnPostBwdIdeal.nD Cert.GdnPostBwdIdeal.τ).loc Cert.GdnPostBwdIdeal.main_arg1)
          ∧ r.2.mem ((c.tc : Thread Cert.GdnPostBwdIdeal.nD Cert.GdnPostBwdIdeal.τ).loc Cert.GdnPostBwdIdeal.main_arg2) = m ((c.tc : Thread Cert.GdnPostBwdIdeal.nD Cert.GdnPostBwdIdeal.τ).loc Cert.GdnPostBwdIdeal.main_arg2)
          ∧ r.2.mem ((c.tc : Thread Cert.GdnPostBwdIdeal.nD Cert.GdnPostBwdIdeal.τ).loc Cert.GdnPostBwdIdeal.main_arg3) = m ((c.tc : Thread Cert.GdnPostBwdIdeal.nD Cert.GdnPostBwdIdeal.τ).loc Cert.GdnPostBwdIdeal.main_arg3))
      ∧ θ_run (Cert.GdnPostBwdRefIdeal.defs (F := Ideal)) (onTc (τ := Cert.GdnPostBwdRefIdeal.τ) (Cert.GdnPostBwdRefIdeal.main (F := Ideal))) ⟨m', fun _ => 0, g'⟩ (fun r => ∀ c : Dev Cert.GdnPostBwdRefIdeal.nD,
          r.2.mem ((c.tc : Thread Cert.GdnPostBwdRefIdeal.nD Cert.GdnPostBwdRefIdeal.τ).loc Cert.GdnPostBwdRefIdeal.main_v46) = v0 c
          ∧ r.2.mem ((c.tc : Thread Cert.GdnPostBwdRefIdeal.nD Cert.GdnPostBwdRefIdeal.τ).loc Cert.GdnPostBwdRefIdeal.main_v25) = v1 c
          ∧ r.2.mem ((c.tc : Thread Cert.GdnPostBwdRefIdeal.nD Cert.GdnPostBwdRefIdeal.τ).loc Cert.GdnPostBwdRefIdeal.main_v47) = v2 c
          ∧ r.2.mem ((c.tc : Thread Cert.GdnPostBwdRefIdeal.nD Cert.GdnPostBwdRefIdeal.τ).loc Cert.GdnPostBwdRefIdeal.main_arg0) = m' ((c.tc : Thread Cert.GdnPostBwdRefIdeal.nD Cert.GdnPostBwdRefIdeal.τ).loc Cert.GdnPostBwdRefIdeal.main_arg0)
          ∧ r.2.mem ((c.tc : Thread Cert.GdnPostBwdRefIdeal.nD Cert.GdnPostBwdRefIdeal.τ).loc Cert.GdnPostBwdRefIdeal.main_arg1) = m' ((c.tc : Thread Cert.GdnPostBwdRefIdeal.nD Cert.GdnPostBwdRefIdeal.τ).loc Cert.GdnPostBwdRefIdeal.main_arg1)
          ∧ r.2.mem ((c.tc : Thread Cert.GdnPostBwdRefIdeal.nD Cert.GdnPostBwdRefIdeal.τ).loc Cert.GdnPostBwdRefIdeal.main_arg2) = m' ((c.tc : Thread Cert.GdnPostBwdRefIdeal.nD Cert.GdnPostBwdRefIdeal.τ).loc Cert.GdnPostBwdRefIdeal.main_arg2)
          ∧ r.2.mem ((c.tc : Thread Cert.GdnPostBwdRefIdeal.nD Cert.GdnPostBwdRefIdeal.τ).loc Cert.GdnPostBwdRefIdeal.main_arg3) = m' ((c.tc : Thread Cert.GdnPostBwdRefIdeal.nD Cert.GdnPostBwdRefIdeal.τ).loc Cert.GdnPostBwdRefIdeal.main_arg3))

def Claim : Prop :=
  ∃ (hKernel : Cert.Kernel.Facts) (hKernelIdeal : Cert.KernelIdeal.Facts) (hReferenceIdeal : Cert.ReferenceIdeal.Facts) (hInFwd : Cert.InFwd.Facts) (hInFwdIdeal : Cert.InFwdIdeal.Facts) (hInFwdRefIdeal : Cert.InFwdRefIdeal.Facts) (hInDa : Cert.InDa.Facts) (hInDaIdeal : Cert.InDaIdeal.Facts) (hInDaRefIdeal : Cert.InDaRefIdeal.Facts) (hInDw : Cert.InDw.Facts) (hInDwIdeal : Cert.InDwIdeal.Facts) (hInDwRefIdeal : Cert.InDwRefIdeal.Facts) (hGateFwd : Cert.GateFwd.Facts) (hGateFwdIdeal : Cert.GateFwdIdeal.Facts) (hGateFwdRefIdeal : Cert.GateFwdRefIdeal.Facts) (hGateDa : Cert.GateDa.Facts) (hGateDaIdeal : Cert.GateDaIdeal.Facts) (hGateDaRefIdeal : Cert.GateDaRefIdeal.Facts) (hGateDw : Cert.GateDw.Facts) (hGateDwIdeal : Cert.GateDwIdeal.Facts) (hGateDwRefIdeal : Cert.GateDwRefIdeal.Facts) (hDownFwd : Cert.DownFwd.Facts) (hDownFwdIdeal : Cert.DownFwdIdeal.Facts) (hDownFwdRefIdeal : Cert.DownFwdRefIdeal.Facts) (hDownDa : Cert.DownDa.Facts) (hDownDaIdeal : Cert.DownDaIdeal.Facts) (hDownDaRefIdeal : Cert.DownDaRefIdeal.Facts) (hDownDw : Cert.DownDw.Facts) (hDownDwIdeal : Cert.DownDwIdeal.Facts) (hDownDwRefIdeal : Cert.DownDwRefIdeal.Facts) (hOutFwd : Cert.OutFwd.Facts) (hOutFwdIdeal : Cert.OutFwdIdeal.Facts) (hOutFwdRefIdeal : Cert.OutFwdRefIdeal.Facts) (hOutDa : Cert.OutDa.Facts) (hOutDaIdeal : Cert.OutDaIdeal.Facts) (hOutDaRefIdeal : Cert.OutDaRefIdeal.Facts) (hOutDw : Cert.OutDw.Facts) (hOutDwIdeal : Cert.OutDwIdeal.Facts) (hOutDwRefIdeal : Cert.OutDwRefIdeal.Facts) (hBranchFwd : Cert.BranchFwd.Facts) (hBranchFwdIdeal : Cert.BranchFwdIdeal.Facts) (hBranchFwdRefIdeal : Cert.BranchFwdRefIdeal.Facts) (hBranchDa : Cert.BranchDa.Facts) (hBranchDaIdeal : Cert.BranchDaIdeal.Facts) (hBranchDaRefIdeal : Cert.BranchDaRefIdeal.Facts) (hBranchDw : Cert.BranchDw.Facts) (hBranchDwIdeal : Cert.BranchDwIdeal.Facts) (hBranchDwRefIdeal : Cert.BranchDwRefIdeal.Facts) (hUqFwd : Cert.UqFwd.Facts) (hUqFwdIdeal : Cert.UqFwdIdeal.Facts) (hUqFwdRefIdeal : Cert.UqFwdRefIdeal.Facts) (hUqDa : Cert.UqDa.Facts) (hUqDaIdeal : Cert.UqDaIdeal.Facts) (hUqDaRefIdeal : Cert.UqDaRefIdeal.Facts) (hUqDw : Cert.UqDw.Facts) (hUqDwIdeal : Cert.UqDwIdeal.Facts) (hUqDwRefIdeal : Cert.UqDwRefIdeal.Facts) (hUkvFwd : Cert.UkvFwd.Facts) (hUkvFwdIdeal : Cert.UkvFwdIdeal.Facts) (hUkvFwdRefIdeal : Cert.UkvFwdRefIdeal.Facts) (hUkvDa : Cert.UkvDa.Facts) (hUkvDaIdeal : Cert.UkvDaIdeal.Facts) (hUkvDaRefIdeal : Cert.UkvDaRefIdeal.Facts) (hUkvDw : Cert.UkvDw.Facts) (hUkvDwIdeal : Cert.UkvDwIdeal.Facts) (hUkvDwRefIdeal : Cert.UkvDwRefIdeal.Facts) (hAdamIn : Cert.AdamIn.Facts) (hAdamInIdeal : Cert.AdamInIdeal.Facts) (hAdamInRefIdeal : Cert.AdamInRefIdeal.Facts) (hAdamUq : Cert.AdamUq.Facts) (hAdamUqIdeal : Cert.AdamUqIdeal.Facts) (hAdamUqRefIdeal : Cert.AdamUqRefIdeal.Facts) (hAdamUkv : Cert.AdamUkv.Facts) (hAdamUkvIdeal : Cert.AdamUkvIdeal.Facts) (hAdamUkvRefIdeal : Cert.AdamUkvRefIdeal.Facts) (hAdamLru : Cert.AdamLru.Facts) (hAdamLruIdeal : Cert.AdamLruIdeal.Facts) (hAdamLruRefIdeal : Cert.AdamLruRefIdeal.Facts) (hAdamGdn : Cert.AdamGdn.Facts) (hAdamGdnIdeal : Cert.AdamGdnIdeal.Facts) (hAdamGdnRefIdeal : Cert.AdamGdnRefIdeal.Facts) (hAdamBranch : Cert.AdamBranch.Facts) (hAdamBranchIdeal : Cert.AdamBranchIdeal.Facts) (hAdamBranchRefIdeal : Cert.AdamBranchRefIdeal.Facts) (hAdamBias : Cert.AdamBias.Facts) (hAdamBiasIdeal : Cert.AdamBiasIdeal.Facts) (hAdamBiasRefIdeal : Cert.AdamBiasRefIdeal.Facts) (hAdamOut : Cert.AdamOut.Facts) (hAdamOutIdeal : Cert.AdamOutIdeal.Facts) (hAdamOutRefIdeal : Cert.AdamOutRefIdeal.Facts) (hAdamGate : Cert.AdamGate.Facts) (hAdamGateIdeal : Cert.AdamGateIdeal.Facts) (hAdamGateRefIdeal : Cert.AdamGateRefIdeal.Facts) (hAdamDown : Cert.AdamDown.Facts) (hAdamDownIdeal : Cert.AdamDownIdeal.Facts) (hAdamDownRefIdeal : Cert.AdamDownRefIdeal.Facts) (hAdamRep : Cert.AdamRep.Facts) (hAdamRepIdeal : Cert.AdamRepIdeal.Facts) (hAdamRepRefIdeal : Cert.AdamRepRefIdeal.Facts) (hRepSum : Cert.RepSum.Facts) (hRepSumIdeal : Cert.RepSumIdeal.Facts) (hRepSumRefIdeal : Cert.RepSumRefIdeal.Facts) (hLoss : Cert.Loss.Facts) (hLossIdeal : Cert.LossIdeal.Facts) (hLossRefIdeal : Cert.LossRefIdeal.Facts) (hNormFwd : Cert.NormFwd.Facts) (hNormFwdIdeal : Cert.NormFwdIdeal.Facts) (hNormFwdRefIdeal : Cert.NormFwdRefIdeal.Facts) (hNormBwd : Cert.NormBwd.Facts) (hNormBwdIdeal : Cert.NormBwdIdeal.Facts) (hNormBwdRefIdeal : Cert.NormBwdRefIdeal.Facts) (hLoraFwd : Cert.LoraFwd.Facts) (hLoraFwdIdeal : Cert.LoraFwdIdeal.Facts) (hLoraFwdRefIdeal : Cert.LoraFwdRefIdeal.Facts) (hLoraBwd : Cert.LoraBwd.Facts) (hLoraBwdIdeal : Cert.LoraBwdIdeal.Facts) (hLoraBwdRefIdeal : Cert.LoraBwdRefIdeal.Facts) (hSwigluFwd : Cert.SwigluFwd.Facts) (hSwigluFwdIdeal : Cert.SwigluFwdIdeal.Facts) (hSwigluFwdRefIdeal : Cert.SwigluFwdRefIdeal.Facts) (hSwigluBwd : Cert.SwigluBwd.Facts) (hSwigluBwdIdeal : Cert.SwigluBwdIdeal.Facts) (hSwigluBwdRefIdeal : Cert.SwigluBwdRefIdeal.Facts) (hMergeFwd : Cert.MergeFwd.Facts) (hMergeFwdIdeal : Cert.MergeFwdIdeal.Facts) (hMergeFwdRefIdeal : Cert.MergeFwdRefIdeal.Facts) (hMergeBwd : Cert.MergeBwd.Facts) (hMergeBwdIdeal : Cert.MergeBwdIdeal.Facts) (hMergeBwdRefIdeal : Cert.MergeBwdRefIdeal.Facts) (hLruOutFwd : Cert.LruOutFwd.Facts) (hLruOutFwdIdeal : Cert.LruOutFwdIdeal.Facts) (hLruOutFwdRefIdeal : Cert.LruOutFwdRefIdeal.Facts) (hLruOutBwd : Cert.LruOutBwd.Facts) (hLruOutBwdIdeal : Cert.LruOutBwdIdeal.Facts) (hLruOutBwdRefIdeal : Cert.LruOutBwdRefIdeal.Facts) (hGdnPreFwd : Cert.GdnPreFwd.Facts) (hGdnPreFwdIdeal : Cert.GdnPreFwdIdeal.Facts) (hGdnPreFwdRefIdeal : Cert.GdnPreFwdRefIdeal.Facts) (hGdnPreBwd : Cert.GdnPreBwd.Facts) (hGdnPreBwdIdeal : Cert.GdnPreBwdIdeal.Facts) (hGdnPreBwdRefIdeal : Cert.GdnPreBwdRefIdeal.Facts) (hGdnPostFwd : Cert.GdnPostFwd.Facts) (hGdnPostFwdIdeal : Cert.GdnPostFwdIdeal.Facts) (hGdnPostFwdRefIdeal : Cert.GdnPostFwdRefIdeal.Facts) (hGdnPostBwd : Cert.GdnPostBwd.Facts) (hGdnPostBwdIdeal : Cert.GdnPostBwdIdeal.Facts) (hGdnPostBwdRefIdeal : Cert.GdnPostBwdRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_InDa (hInDa := hInDa)
    ∧ quiescent_InDaIdeal (hInDaIdeal := hInDaIdeal)
    ∧ quiescent_InDaRefIdeal (hInDaRefIdeal := hInDaRefIdeal)
    ∧ quiescent_InDw (hInDw := hInDw)
    ∧ quiescent_InDwIdeal (hInDwIdeal := hInDwIdeal)
    ∧ quiescent_InDwRefIdeal (hInDwRefIdeal := hInDwRefIdeal)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_GateDa (hGateDa := hGateDa)
    ∧ quiescent_GateDaIdeal (hGateDaIdeal := hGateDaIdeal)
    ∧ quiescent_GateDaRefIdeal (hGateDaRefIdeal := hGateDaRefIdeal)
    ∧ quiescent_GateDw (hGateDw := hGateDw)
    ∧ quiescent_GateDwIdeal (hGateDwIdeal := hGateDwIdeal)
    ∧ quiescent_GateDwRefIdeal (hGateDwRefIdeal := hGateDwRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_DownDa (hDownDa := hDownDa)
    ∧ quiescent_DownDaIdeal (hDownDaIdeal := hDownDaIdeal)
    ∧ quiescent_DownDaRefIdeal (hDownDaRefIdeal := hDownDaRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_OutDa (hOutDa := hOutDa)
    ∧ quiescent_OutDaIdeal (hOutDaIdeal := hOutDaIdeal)
    ∧ quiescent_OutDaRefIdeal (hOutDaRefIdeal := hOutDaRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_BranchFwd (hBranchFwd := hBranchFwd)
    ∧ quiescent_BranchFwdIdeal (hBranchFwdIdeal := hBranchFwdIdeal)
    ∧ quiescent_BranchFwdRefIdeal (hBranchFwdRefIdeal := hBranchFwdRefIdeal)
    ∧ quiescent_BranchDa (hBranchDa := hBranchDa)
    ∧ quiescent_BranchDaIdeal (hBranchDaIdeal := hBranchDaIdeal)
    ∧ quiescent_BranchDaRefIdeal (hBranchDaRefIdeal := hBranchDaRefIdeal)
    ∧ quiescent_BranchDw (hBranchDw := hBranchDw)
    ∧ quiescent_BranchDwIdeal (hBranchDwIdeal := hBranchDwIdeal)
    ∧ quiescent_BranchDwRefIdeal (hBranchDwRefIdeal := hBranchDwRefIdeal)
    ∧ quiescent_UqFwd (hUqFwd := hUqFwd)
    ∧ quiescent_UqFwdIdeal (hUqFwdIdeal := hUqFwdIdeal)
    ∧ quiescent_UqFwdRefIdeal (hUqFwdRefIdeal := hUqFwdRefIdeal)
    ∧ quiescent_UqDa (hUqDa := hUqDa)
    ∧ quiescent_UqDaIdeal (hUqDaIdeal := hUqDaIdeal)
    ∧ quiescent_UqDaRefIdeal (hUqDaRefIdeal := hUqDaRefIdeal)
    ∧ quiescent_UqDw (hUqDw := hUqDw)
    ∧ quiescent_UqDwIdeal (hUqDwIdeal := hUqDwIdeal)
    ∧ quiescent_UqDwRefIdeal (hUqDwRefIdeal := hUqDwRefIdeal)
    ∧ quiescent_UkvFwd (hUkvFwd := hUkvFwd)
    ∧ quiescent_UkvFwdIdeal (hUkvFwdIdeal := hUkvFwdIdeal)
    ∧ quiescent_UkvFwdRefIdeal (hUkvFwdRefIdeal := hUkvFwdRefIdeal)
    ∧ quiescent_UkvDa (hUkvDa := hUkvDa)
    ∧ quiescent_UkvDaIdeal (hUkvDaIdeal := hUkvDaIdeal)
    ∧ quiescent_UkvDaRefIdeal (hUkvDaRefIdeal := hUkvDaRefIdeal)
    ∧ quiescent_UkvDw (hUkvDw := hUkvDw)
    ∧ quiescent_UkvDwIdeal (hUkvDwIdeal := hUkvDwIdeal)
    ∧ quiescent_UkvDwRefIdeal (hUkvDwRefIdeal := hUkvDwRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamUq (hAdamUq := hAdamUq)
    ∧ quiescent_AdamUqIdeal (hAdamUqIdeal := hAdamUqIdeal)
    ∧ quiescent_AdamUqRefIdeal (hAdamUqRefIdeal := hAdamUqRefIdeal)
    ∧ quiescent_AdamUkv (hAdamUkv := hAdamUkv)
    ∧ quiescent_AdamUkvIdeal (hAdamUkvIdeal := hAdamUkvIdeal)
    ∧ quiescent_AdamUkvRefIdeal (hAdamUkvRefIdeal := hAdamUkvRefIdeal)
    ∧ quiescent_AdamLru (hAdamLru := hAdamLru)
    ∧ quiescent_AdamLruIdeal (hAdamLruIdeal := hAdamLruIdeal)
    ∧ quiescent_AdamLruRefIdeal (hAdamLruRefIdeal := hAdamLruRefIdeal)
    ∧ quiescent_AdamGdn (hAdamGdn := hAdamGdn)
    ∧ quiescent_AdamGdnIdeal (hAdamGdnIdeal := hAdamGdnIdeal)
    ∧ quiescent_AdamGdnRefIdeal (hAdamGdnRefIdeal := hAdamGdnRefIdeal)
    ∧ quiescent_AdamBranch (hAdamBranch := hAdamBranch)
    ∧ quiescent_AdamBranchIdeal (hAdamBranchIdeal := hAdamBranchIdeal)
    ∧ quiescent_AdamBranchRefIdeal (hAdamBranchRefIdeal := hAdamBranchRefIdeal)
    ∧ quiescent_AdamBias (hAdamBias := hAdamBias)
    ∧ quiescent_AdamBiasIdeal (hAdamBiasIdeal := hAdamBiasIdeal)
    ∧ quiescent_AdamBiasRefIdeal (hAdamBiasRefIdeal := hAdamBiasRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamRep (hAdamRep := hAdamRep)
    ∧ quiescent_AdamRepIdeal (hAdamRepIdeal := hAdamRepIdeal)
    ∧ quiescent_AdamRepRefIdeal (hAdamRepRefIdeal := hAdamRepRefIdeal)
    ∧ quiescent_RepSum (hRepSum := hRepSum)
    ∧ quiescent_RepSumIdeal (hRepSumIdeal := hRepSumIdeal)
    ∧ quiescent_RepSumRefIdeal (hRepSumRefIdeal := hRepSumRefIdeal)
    ∧ quiescent_Loss (hLoss := hLoss)
    ∧ quiescent_LossIdeal (hLossIdeal := hLossIdeal)
    ∧ quiescent_LossRefIdeal (hLossRefIdeal := hLossRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_LoraFwd (hLoraFwd := hLoraFwd)
    ∧ quiescent_LoraFwdIdeal (hLoraFwdIdeal := hLoraFwdIdeal)
    ∧ quiescent_LoraFwdRefIdeal (hLoraFwdRefIdeal := hLoraFwdRefIdeal)
    ∧ quiescent_LoraBwd (hLoraBwd := hLoraBwd)
    ∧ quiescent_LoraBwdIdeal (hLoraBwdIdeal := hLoraBwdIdeal)
    ∧ quiescent_LoraBwdRefIdeal (hLoraBwdRefIdeal := hLoraBwdRefIdeal)
    ∧ quiescent_SwigluFwd (hSwigluFwd := hSwigluFwd)
    ∧ quiescent_SwigluFwdIdeal (hSwigluFwdIdeal := hSwigluFwdIdeal)
    ∧ quiescent_SwigluFwdRefIdeal (hSwigluFwdRefIdeal := hSwigluFwdRefIdeal)
    ∧ quiescent_SwigluBwd (hSwigluBwd := hSwigluBwd)
    ∧ quiescent_SwigluBwdIdeal (hSwigluBwdIdeal := hSwigluBwdIdeal)
    ∧ quiescent_SwigluBwdRefIdeal (hSwigluBwdRefIdeal := hSwigluBwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_LruOutFwd (hLruOutFwd := hLruOutFwd)
    ∧ quiescent_LruOutFwdIdeal (hLruOutFwdIdeal := hLruOutFwdIdeal)
    ∧ quiescent_LruOutFwdRefIdeal (hLruOutFwdRefIdeal := hLruOutFwdRefIdeal)
    ∧ quiescent_LruOutBwd (hLruOutBwd := hLruOutBwd)
    ∧ quiescent_LruOutBwdIdeal (hLruOutBwdIdeal := hLruOutBwdIdeal)
    ∧ quiescent_LruOutBwdRefIdeal (hLruOutBwdRefIdeal := hLruOutBwdRefIdeal)
    ∧ quiescent_GdnPreFwd (hGdnPreFwd := hGdnPreFwd)
    ∧ quiescent_GdnPreFwdIdeal (hGdnPreFwdIdeal := hGdnPreFwdIdeal)
    ∧ quiescent_GdnPreFwdRefIdeal (hGdnPreFwdRefIdeal := hGdnPreFwdRefIdeal)
    ∧ quiescent_GdnPreBwd (hGdnPreBwd := hGdnPreBwd)
    ∧ quiescent_GdnPreBwdIdeal (hGdnPreBwdIdeal := hGdnPreBwdIdeal)
    ∧ quiescent_GdnPreBwdRefIdeal (hGdnPreBwdRefIdeal := hGdnPreBwdRefIdeal)
    ∧ quiescent_GdnPostFwd (hGdnPostFwd := hGdnPostFwd)
    ∧ quiescent_GdnPostFwdIdeal (hGdnPostFwdIdeal := hGdnPostFwdIdeal)
    ∧ quiescent_GdnPostFwdRefIdeal (hGdnPostFwdRefIdeal := hGdnPostFwdRefIdeal)
    ∧ quiescent_GdnPostBwd (hGdnPostBwd := hGdnPostBwd)
    ∧ quiescent_GdnPostBwdIdeal (hGdnPostBwdIdeal := hGdnPostBwdIdeal)
    ∧ quiescent_GdnPostBwdRefIdeal (hGdnPostBwdRefIdeal := hGdnPostBwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ algebraic_InFwdIdeal_InFwdRefIdeal (hInFwdIdeal := hInFwdIdeal) (hInFwdRefIdeal := hInFwdRefIdeal)
    ∧ algebraic_InDaIdeal_InDaRefIdeal (hInDaIdeal := hInDaIdeal) (hInDaRefIdeal := hInDaRefIdeal)
    ∧ algebraic_InDwIdeal_InDwRefIdeal (hInDwIdeal := hInDwIdeal) (hInDwRefIdeal := hInDwRefIdeal)
    ∧ algebraic_GateFwdIdeal_GateFwdRefIdeal (hGateFwdIdeal := hGateFwdIdeal) (hGateFwdRefIdeal := hGateFwdRefIdeal)
    ∧ algebraic_GateDaIdeal_GateDaRefIdeal (hGateDaIdeal := hGateDaIdeal) (hGateDaRefIdeal := hGateDaRefIdeal)
    ∧ algebraic_GateDwIdeal_GateDwRefIdeal (hGateDwIdeal := hGateDwIdeal) (hGateDwRefIdeal := hGateDwRefIdeal)
    ∧ algebraic_DownFwdIdeal_DownFwdRefIdeal (hDownFwdIdeal := hDownFwdIdeal) (hDownFwdRefIdeal := hDownFwdRefIdeal)
    ∧ algebraic_DownDaIdeal_DownDaRefIdeal (hDownDaIdeal := hDownDaIdeal) (hDownDaRefIdeal := hDownDaRefIdeal)
    ∧ algebraic_DownDwIdeal_DownDwRefIdeal (hDownDwIdeal := hDownDwIdeal) (hDownDwRefIdeal := hDownDwRefIdeal)
    ∧ algebraic_OutFwdIdeal_OutFwdRefIdeal (hOutFwdIdeal := hOutFwdIdeal) (hOutFwdRefIdeal := hOutFwdRefIdeal)
    ∧ algebraic_OutDaIdeal_OutDaRefIdeal (hOutDaIdeal := hOutDaIdeal) (hOutDaRefIdeal := hOutDaRefIdeal)
    ∧ algebraic_OutDwIdeal_OutDwRefIdeal (hOutDwIdeal := hOutDwIdeal) (hOutDwRefIdeal := hOutDwRefIdeal)
    ∧ algebraic_BranchFwdIdeal_BranchFwdRefIdeal (hBranchFwdIdeal := hBranchFwdIdeal) (hBranchFwdRefIdeal := hBranchFwdRefIdeal)
    ∧ algebraic_BranchDaIdeal_BranchDaRefIdeal (hBranchDaIdeal := hBranchDaIdeal) (hBranchDaRefIdeal := hBranchDaRefIdeal)
    ∧ algebraic_BranchDwIdeal_BranchDwRefIdeal (hBranchDwIdeal := hBranchDwIdeal) (hBranchDwRefIdeal := hBranchDwRefIdeal)
    ∧ algebraic_UqFwdIdeal_UqFwdRefIdeal (hUqFwdIdeal := hUqFwdIdeal) (hUqFwdRefIdeal := hUqFwdRefIdeal)
    ∧ algebraic_UqDaIdeal_UqDaRefIdeal (hUqDaIdeal := hUqDaIdeal) (hUqDaRefIdeal := hUqDaRefIdeal)
    ∧ algebraic_UqDwIdeal_UqDwRefIdeal (hUqDwIdeal := hUqDwIdeal) (hUqDwRefIdeal := hUqDwRefIdeal)
    ∧ algebraic_UkvFwdIdeal_UkvFwdRefIdeal (hUkvFwdIdeal := hUkvFwdIdeal) (hUkvFwdRefIdeal := hUkvFwdRefIdeal)
    ∧ algebraic_UkvDaIdeal_UkvDaRefIdeal (hUkvDaIdeal := hUkvDaIdeal) (hUkvDaRefIdeal := hUkvDaRefIdeal)
    ∧ algebraic_UkvDwIdeal_UkvDwRefIdeal (hUkvDwIdeal := hUkvDwIdeal) (hUkvDwRefIdeal := hUkvDwRefIdeal)
    ∧ algebraic_AdamInIdeal_AdamInRefIdeal (hAdamInIdeal := hAdamInIdeal) (hAdamInRefIdeal := hAdamInRefIdeal)
    ∧ algebraic_AdamUqIdeal_AdamUqRefIdeal (hAdamUqIdeal := hAdamUqIdeal) (hAdamUqRefIdeal := hAdamUqRefIdeal)
    ∧ algebraic_AdamUkvIdeal_AdamUkvRefIdeal (hAdamUkvIdeal := hAdamUkvIdeal) (hAdamUkvRefIdeal := hAdamUkvRefIdeal)
    ∧ algebraic_AdamLruIdeal_AdamLruRefIdeal (hAdamLruIdeal := hAdamLruIdeal) (hAdamLruRefIdeal := hAdamLruRefIdeal)
    ∧ algebraic_AdamGdnIdeal_AdamGdnRefIdeal (hAdamGdnIdeal := hAdamGdnIdeal) (hAdamGdnRefIdeal := hAdamGdnRefIdeal)
    ∧ algebraic_AdamBranchIdeal_AdamBranchRefIdeal (hAdamBranchIdeal := hAdamBranchIdeal) (hAdamBranchRefIdeal := hAdamBranchRefIdeal)
    ∧ algebraic_AdamBiasIdeal_AdamBiasRefIdeal (hAdamBiasIdeal := hAdamBiasIdeal) (hAdamBiasRefIdeal := hAdamBiasRefIdeal)
    ∧ algebraic_AdamOutIdeal_AdamOutRefIdeal (hAdamOutIdeal := hAdamOutIdeal) (hAdamOutRefIdeal := hAdamOutRefIdeal)
    ∧ algebraic_AdamGateIdeal_AdamGateRefIdeal (hAdamGateIdeal := hAdamGateIdeal) (hAdamGateRefIdeal := hAdamGateRefIdeal)
    ∧ algebraic_AdamDownIdeal_AdamDownRefIdeal (hAdamDownIdeal := hAdamDownIdeal) (hAdamDownRefIdeal := hAdamDownRefIdeal)
    ∧ algebraic_AdamRepIdeal_AdamRepRefIdeal (hAdamRepIdeal := hAdamRepIdeal) (hAdamRepRefIdeal := hAdamRepRefIdeal)
    ∧ algebraic_RepSumIdeal_RepSumRefIdeal (hRepSumIdeal := hRepSumIdeal) (hRepSumRefIdeal := hRepSumRefIdeal)
    ∧ algebraic_LossIdeal_LossRefIdeal (hLossIdeal := hLossIdeal) (hLossRefIdeal := hLossRefIdeal)
    ∧ algebraic_NormFwdIdeal_NormFwdRefIdeal (hNormFwdIdeal := hNormFwdIdeal) (hNormFwdRefIdeal := hNormFwdRefIdeal)
    ∧ algebraic_NormBwdIdeal_NormBwdRefIdeal (hNormBwdIdeal := hNormBwdIdeal) (hNormBwdRefIdeal := hNormBwdRefIdeal)
    ∧ algebraic_LoraFwdIdeal_LoraFwdRefIdeal (hLoraFwdIdeal := hLoraFwdIdeal) (hLoraFwdRefIdeal := hLoraFwdRefIdeal)
    ∧ algebraic_LoraBwdIdeal_LoraBwdRefIdeal (hLoraBwdIdeal := hLoraBwdIdeal) (hLoraBwdRefIdeal := hLoraBwdRefIdeal)
    ∧ algebraic_SwigluFwdIdeal_SwigluFwdRefIdeal (hSwigluFwdIdeal := hSwigluFwdIdeal) (hSwigluFwdRefIdeal := hSwigluFwdRefIdeal)
    ∧ algebraic_SwigluBwdIdeal_SwigluBwdRefIdeal (hSwigluBwdIdeal := hSwigluBwdIdeal) (hSwigluBwdRefIdeal := hSwigluBwdRefIdeal)
    ∧ algebraic_MergeFwdIdeal_MergeFwdRefIdeal (hMergeFwdIdeal := hMergeFwdIdeal) (hMergeFwdRefIdeal := hMergeFwdRefIdeal)
    ∧ algebraic_MergeBwdIdeal_MergeBwdRefIdeal (hMergeBwdIdeal := hMergeBwdIdeal) (hMergeBwdRefIdeal := hMergeBwdRefIdeal)
    ∧ algebraic_LruOutFwdIdeal_LruOutFwdRefIdeal (hLruOutFwdIdeal := hLruOutFwdIdeal) (hLruOutFwdRefIdeal := hLruOutFwdRefIdeal)
    ∧ algebraic_LruOutBwdIdeal_LruOutBwdRefIdeal (hLruOutBwdIdeal := hLruOutBwdIdeal) (hLruOutBwdRefIdeal := hLruOutBwdRefIdeal)
    ∧ algebraic_GdnPreFwdIdeal_GdnPreFwdRefIdeal (hGdnPreFwdIdeal := hGdnPreFwdIdeal) (hGdnPreFwdRefIdeal := hGdnPreFwdRefIdeal)
    ∧ algebraic_GdnPreBwdIdeal_GdnPreBwdRefIdeal (hGdnPreBwdIdeal := hGdnPreBwdIdeal) (hGdnPreBwdRefIdeal := hGdnPreBwdRefIdeal)
    ∧ algebraic_GdnPostFwdIdeal_GdnPostFwdRefIdeal (hGdnPostFwdIdeal := hGdnPostFwdIdeal) (hGdnPostFwdRefIdeal := hGdnPostFwdRefIdeal)
    ∧ algebraic_GdnPostBwdIdeal_GdnPostBwdRefIdeal (hGdnPostBwdIdeal := hGdnPostBwdIdeal) (hGdnPostBwdRefIdeal := hGdnPostBwdRefIdeal)
-- ==== Pre_finite.lean ====
abbrev S8192x2048 : Shape := ⟨2, ![8192, 2048]⟩
abbrev S8192x1024 : Shape := ⟨2, ![8192, 1024]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg3 : FVec F S8192x1024 .f32) (main_v5 : IVec S_ 1) (main_v11 : IVec S_ 1) (main_v13 : IVec S8192x1024 1) (main_v15 : IVec S8192x1024 1) : IVec S_ 1 :=
  let main_v16 : IVec S8192x1024 1 := andi main_v13 main_v15
  let main_c_6 : IVec S_ 1 := constantI S_ 1 1#1
  let main_v17 : IVec S_ 1 := (fun x v => Host.reduce IntOp.andi x v reducesTo_S8192x1024_S_d0_1 h_S_) main_v16 main_c_6
  let main_cst_7 : FVec F S_ .f32 := constant S_ .f32 0xFF800000#32
  let main_v18 : FVec F S8192x1024 .f32 := broadcastInDim S8192x1024 ![] bcast_S_S8192x1024 main_cst_7
  let main_v19 : IVec S8192x1024 1 := cmpf .ogt main_arg3 main_v18
  let main_cst_8 : FVec F S_ .f32 := constant S_ .f32 0x7F800000#32
  let main_v20 : FVec F S8192x1024 .f32 := broadcastInDim S8192x1024 ![] bcast_S_S8192x1024 main_cst_8
  let main_v21 : IVec S8192x1024 1 := cmpf .olt main_arg3 main_v20
  let main_v22 : IVec S8192x1024 1 := andi main_v19 main_v21
  let main_c_9 : IVec S_ 1 := constantI S_ 1 1#1
  let main_v23 : IVec S_ 1 := (fun x v => Host.reduce IntOp.andi x v reducesTo_S8192x1024_S_d0_1 h_S_) main_v22 main_c_9
  let main_v24 : IVec S_ 1 := andi main_v5 main_v11
  let main_v25 : IVec S_ 1 := andi main_v24 main_v17
  let main_v26 : IVec S_ 1 := andi main_v25 main_v23
  main_v26

def fn {F : FTy → Type} [FloatOps F] (main_arg0 : FVec F S8192x2048 .f32) (main_arg1 : FVec F S8192x2048 .f32) (main_arg2 : FVec F S8192x1024 .f32) (main_arg3 : FVec F S8192x1024 .f32) : IVec S_ 1 :=
  let main_cst : FVec F S_ .f32 := constant S_ .f32 0xFF800000#32
  let main_v0 : FVec F S8192x2048 .f32 := broadcastInDim S8192x2048 ![] bcast_S_S8192x2048 main_cst
  let main_v1 : IVec S8192x2048 1 := cmpf .ogt main_arg0 main_v0
  let main_cst_0 : FVec F S_ .f32 := constant S_ .f32 0x7F800000#32
  let main_v2 : FVec F S8192x2048 .f32 := broadcastInDim S8192x2048 ![] bcast_S_S8192x2048 main_cst_0
  let main_v3 : IVec S8192x2048 1 := cmpf .olt main_arg0 main_v2
  let main_v4 : IVec S8192x2048 1 := andi main_v1 main_v3
  let main_c : IVec S_ 1 := constantI S_ 1 1#1
  let main_v5 : IVec S_ 1 := (fun x v => Host.reduce IntOp.andi x v reducesTo_S8192x2048_S_d0_1 h_S_) main_v4 main_c
  let main_cst_1 : FVec F S_ .f32 := constant S_ .f32 0xFF800000#32
  let main_v6 : FVec F S8192x2048 .f32 := broadcastInDim S8192x2048 ![] bcast_S_S8192x2048 main_cst_1
  let main_v7 : IVec S8192x2048 1 := cmpf .ogt main_arg1 main_v6
  let main_cst_2 : FVec F S_ .f32 := constant S_ .f32 0x7F800000#32
  let main_v8 : FVec F S8192x2048 .f32 := broadcastInDim S8192x2048 ![] bcast_S_S8192x2048 main_cst_2
  let main_v9 : IVec S8192x2048 1 := cmpf .olt main_arg1 main_v8
  let main_v10 : IVec S8192x2048 1 := andi main_v7 main_v9
  let main_c_3 : IVec S_ 1 := constantI S_ 1 1#1
  let main_v11 : IVec S_ 1 := (fun x v => Host.reduce IntOp.andi x v reducesTo_S8192x2048_S_d0_1 h_S_) main_v10 main_c_3
  let main_cst_4 : FVec F S_ .f32 := constant S_ .f32 0xFF800000#32
  let main_v12 : FVec F S8192x1024 .f32 := broadcastInDim S8192x1024 ![] bcast_S_S8192x1024 main_cst_4
  let main_v13 : IVec S8192x1024 1 := cmpf .ogt main_arg2 main_v12
  let main_cst_5 : FVec F S_ .f32 := constant S_ .f32 0x7F800000#32
  let main_v14 : FVec F S8192x1024 .f32 := broadcastInDim S8192x1024 ![] bcast_S_S8192x1024 main_cst_5
  let main_v15 : IVec S8192x1024 1 := cmpf .olt main_arg2 main_v14
  fn_part1 (F := F) main_arg3 main_v5 main_v11 main_v13 main_v15
-- ==== Kernel.lean ====
abbrev S8192x2048 : Shape := ⟨2, ![8192, 2048]⟩
abbrev S8192x1024 : Shape := ⟨2, ![8192, 1024]⟩
abbrev S36 : Shape := ⟨1, ![36]⟩
abbrev S8192x8x256 : Shape := ⟨3, ![8192, 8, 256]⟩
abbrev S8192x8x128 : Shape := ⟨3, ![8192, 8, 128]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8192x8 : Shape := ⟨2, ![8192, 8]⟩
abbrev S8192x8x1 : Shape := ⟨3, ![8192, 8, 1]⟩
abbrev S1024x256 : Shape := ⟨2, ![1024, 256]⟩
abbrev S1 : Shape := ⟨1, ![1]⟩
abbrev S1024x128 : Shape := ⟨2, ![1024, 128]⟩
abbrev S256x256 : Shape := ⟨2, ![256, 256]⟩
abbrev S256x128 : Shape := ⟨2, ![256, 128]⟩
abbrev S256x1024 : Shape := ⟨2, ![256, 1024]⟩
abbrev S256x1 : Shape := ⟨2, ![256, 1]⟩
abbrev S256 : Shape := ⟨1, ![256]⟩

abbrev nBuf : Space → Nat
  | .hbm => 76
  | .vmem => 18
  | .smem => 2
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1024, .f32⟩
  | .hbm, ⟨3, _⟩ => ⟨S8192x1024, .f32⟩
  | .hbm, ⟨4, _⟩ => ⟨S8192x2048, .bf16⟩
  | .hbm, ⟨5, _⟩ => ⟨S8192x2048, .bf16⟩
  | .hbm, ⟨6, _⟩ => ⟨S8192x1024, .bf16⟩
  | .hbm, ⟨7, _⟩ => ⟨S8192x1024, .bf16⟩
  | .hbm, ⟨8, _⟩ => ⟨S8192x8x256, .f32⟩
  | .hbm, ⟨9, _⟩ => ⟨S8192x8x256, .f32⟩
  | .hbm, ⟨10, _⟩ => ⟨S8192x8x128, .f32⟩
  | .hbm, ⟨11, _⟩ => ⟨S8x8192x8192, .f32⟩
  | .hbm, ⟨12, _⟩ => ⟨S_, .f32⟩
  | .hbm, ⟨13, _⟩ => ⟨S8x8192x8192, .f32⟩
  | .hbm, ⟨14, _⟩ => ⟨S8x8192x8192, .f32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S8x8192x8192, .i1⟩
  | .hbm, ⟨24, _⟩ => ⟨S8x8192x8192, .f32⟩
  | .hbm, ⟨25, _⟩ => ⟨S8x8192x8192, .f32⟩
  | .hbm, ⟨26, _⟩ => ⟨S_, .f32⟩
  | .hbm, ⟨27, _⟩ => ⟨S8x8192, .f32⟩
  | .hbm, ⟨28, _⟩ => ⟨S_, .f32⟩
  | .hbm, ⟨29, _⟩ => ⟨S8x8192, .f32⟩
  | .hbm, ⟨30, _⟩ => ⟨S8x8192, .f32⟩
  | .hbm, ⟨31, _⟩ => ⟨S8x8192x1, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S_, .f32⟩
  | .hbm, ⟨36, _⟩ => ⟨S8x8192, .f32⟩
  | .hbm, ⟨37, _⟩ => ⟨S8x8192x1, .f32⟩
  | .hbm, ⟨38, _⟩ => ⟨S8x8192x8192, .f32⟩
  | .hbm, ⟨39, _⟩ => ⟨S8x8192x8192, .f32⟩
  | .hbm, ⟨40, _⟩ => ⟨S8x128x8192, .f32⟩
  | .hbm, ⟨41, _⟩ => ⟨S8192x8x128, .f32⟩
  | .hbm, ⟨42, _⟩ => ⟨S8192x1024, .f32⟩
  | .hbm, ⟨43, _⟩ => ⟨S8192x8x256, .f32⟩
  | .hbm, ⟨44, _⟩ => ⟨S8192x8x256, .f32⟩
  | .hbm, ⟨45, _⟩ => ⟨S8x8192x8192, .f32⟩
  | .hbm, ⟨46, _⟩ => ⟨S_, .f32⟩
  | .hbm, ⟨47, _⟩ => ⟨S8x8192x8192, .f32⟩
  | .hbm, ⟨48, _⟩ => ⟨S8x8192x8192, .f32⟩
  | .hbm, ⟨49, _⟩ => ⟨S8192, .i32⟩
  | .hbm, ⟨50, _⟩ => ⟨S1x8192, .i32⟩
  | .hbm, ⟨51, _⟩ => ⟨S8192x1, .i32⟩
  | .hbm, ⟨52, _⟩ => ⟨S8192x8192, .i32⟩
  | .hbm, ⟨53, _⟩ => ⟨S8192x8192, .i32⟩
  | .hbm, ⟨54, _⟩ => ⟨S8192x8192, .i1⟩
  | .hbm, ⟨55, _⟩ => ⟨S_, .f32⟩
  | .hbm, ⟨56, _⟩ => ⟨S_, .f32⟩
  | .hbm, ⟨57, _⟩ => ⟨S8x8192x8192, .i1⟩
  | .hbm, ⟨58, _⟩ => ⟨S8x8192x8192, .f32⟩
  | .hbm, ⟨59, _⟩ => ⟨S8x8192x8192, .f32⟩
  | .hbm, ⟨60, _⟩ => ⟨S_, .f32⟩
  | .hbm, ⟨61, _⟩ => ⟨S8x8192, .f32⟩
  | .hbm, ⟨62, _⟩ => ⟨S8x8192x1, .f32⟩
  | .hbm, ⟨63, _⟩ => ⟨S8x8192x8192, .f32⟩
  | .hbm, ⟨64, _⟩ => ⟨S8x8192x8192, .f32⟩
  | .hbm, ⟨65, _⟩ => ⟨S8x8192x8192, .f32⟩
  | .hbm, ⟨66, _⟩ => ⟨S_, .f32⟩
  | .hbm, ⟨67, _⟩ => ⟨S8x8192, .f32⟩
  | .hbm, ⟨68, _⟩ => ⟨S8x8192, .f32⟩
  | .hbm, ⟨69, _⟩ => ⟨S8x8192, .f32⟩
  | .hbm, ⟨70, _⟩ => ⟨S8192x8, .f32⟩
  | .hbm, ⟨71, _⟩ => ⟨S8192x8x1, .f32⟩
  | .hbm, ⟨72, _⟩ => ⟨S8192x8x128, .f32⟩
  | .hbm, ⟨73, _⟩ => ⟨S8192x1024, .f32⟩
  | .hbm, ⟨74, _⟩ => ⟨S8192x2048, .f32⟩
  | .hbm, ⟨75, _⟩ => ⟨S8192x1024, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .bf16⟩
  | .local _ .vmem, ⟨11, _⟩ => ⟨S1024x128, .bf16⟩
  | .local _ .vmem, ⟨12, _⟩ => ⟨S1024x256, .f32⟩
  | .local _ .vmem, ⟨13, _⟩ => ⟨S1024x256, .f32⟩
  | .local _ .vmem, ⟨14, _⟩ => ⟨S1024x128, .f32⟩
  | .local _ .vmem, ⟨15, _⟩ => ⟨S1024x128, .f32⟩
  | .local _ .vmem, ⟨16, _⟩ => ⟨S1024x256, .f32⟩
  | .local _ .vmem, ⟨17, _⟩ => ⟨S1024x128, .f32⟩
  | .local _ .smem, ⟨0, _⟩ => ⟨S36, .i32⟩
  | .local _ .smem, ⟨1, _⟩ => ⟨S36, .i32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55_0 : Ref sig .tc := ⟨.hbm, 74, rfl⟩
abbrev main_v55_1 : Ref sig .tc := ⟨.hbm, 75, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond3 (v1 : BitVec 32) : BitVec 1 :=
  let c7_i32 : BitVec 32 := 7#32
  let v10 : BitVec 1 := Scalar.cmpi .eq v1 c7_i32
  let v11 : BitVec 32 := Scalar.extui v10
  let c0_i32_1 : BitVec 32 := 0#32
  let v12 : BitVec 1 := Scalar.cmpi .ne v11 c0_i32_1
  v12

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_6 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_7 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x2048 : Shape := ⟨2, ![8192, 2048]⟩
abbrev S8192x1024 : Shape := ⟨2, ![8192, 1024]⟩
abbrev S8192x8x256 : Shape := ⟨3, ![8192, 8, 256]⟩
abbrev S8192x8x128 : Shape := ⟨3, ![8192, 8, 128]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8x8192x256 : Shape := ⟨3, ![8, 8192, 256]⟩

abbrev nBuf : Space → Nat
  | .hbm => 97
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1024, .f32⟩
  | .hbm, ⟨3, _⟩ => ⟨S8192x1024, .f32⟩
  | .hbm, ⟨4, _⟩ => ⟨S8192x8x256, .f32⟩
  | .hbm, ⟨5, _⟩ => ⟨S8192x8x256, .f32⟩
  | .hbm, ⟨6, _⟩ => ⟨S8192x8x128, .f32⟩
  | .hbm, ⟨7, _⟩ => ⟨S8x8192x8192, .f32⟩
  | .hbm, ⟨8, _⟩ => ⟨S_, .f32⟩
  | .hbm, ⟨9, _⟩ => ⟨S8x8192x8192, .f32⟩
  | .hbm, ⟨10, _⟩ => ⟨S8x8192x8192, .f32⟩
  | .hbm, ⟨11, _⟩ => ⟨S8192, .i32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S_, .f32⟩
  | .hbm, ⟨18, _⟩ => ⟨S_, .f32⟩
  | .hbm, ⟨19, _⟩ => ⟨S8x8192x8192, .i1⟩
  | .hbm, ⟨20, _⟩ => ⟨S8x8192x8192, .f32⟩
  | .hbm, ⟨21, _⟩ => ⟨S8x8192x8192, .f32⟩
  | .hbm, ⟨22, _⟩ => ⟨S_, .f32⟩
  | .hbm, ⟨23, _⟩ => ⟨S8x8192x8192, .f32⟩
  | .hbm, ⟨24, _⟩ => ⟨S_, .f32⟩
  | .hbm, ⟨25, _⟩ => ⟨S8x8192, .f32⟩
  | .hbm, ⟨26, _⟩ => ⟨S8x8192x1, .f32⟩
  | .hbm, ⟨27, _⟩ => ⟨S8x8192x8192, .f32⟩
  | .hbm, ⟨28, _⟩ => ⟨S8x8192x8192, .i1⟩
  | .hbm, ⟨29, _⟩ => ⟨S8x8192x8192, .f32⟩
  | .hbm, ⟨30, _⟩ => ⟨S_, .f32⟩
  | .hbm, ⟨31, _⟩ => ⟨S8x8192, .f32⟩
  | .hbm, ⟨32, _⟩ => ⟨S_, .f32⟩
  | .hbm, ⟨33, _⟩ => ⟨S8x8192, .f32⟩
  | .hbm, ⟨34, _⟩ => ⟨S8x8192, .f32⟩
  | .hbm, ⟨35, _⟩ => ⟨S_, .f32⟩
  | .hbm, ⟨36, _⟩ => ⟨S8x8192, .f32⟩
  | .hbm, ⟨37, _⟩ => ⟨S8x8192, .i1⟩
  | .hbm, ⟨38, _⟩ => ⟨S_, .f32⟩
  | .hbm, ⟨39, _⟩ => ⟨S8x8192, .f32⟩
  | .hbm, ⟨40, _⟩ => ⟨S8x8192, .i1⟩
  | .hbm, ⟨41, _⟩ => ⟨S_, .f32⟩
  | .hbm, ⟨42, _⟩ => ⟨S8x8192, .f32⟩
  | .hbm, ⟨43, _⟩ => ⟨S_, .f32⟩
  | .hbm, ⟨44, _⟩ => ⟨S8x8192, .f32⟩
  | .hbm, ⟨45, _⟩ => ⟨S_, .f32⟩
  | .hbm, ⟨46, _⟩ => ⟨S8x8192, .f32⟩
  | .hbm, ⟨47, _⟩ => ⟨S8x8192, .f32⟩
  | .hbm, ⟨48, _⟩ => ⟨S8x8192, .f32⟩
  | .hbm, ⟨49, _⟩ => ⟨S8x8192x1, .f32⟩
  | .hbm, ⟨50, _⟩ => ⟨S8x8192x8192, .f32⟩
  | .hbm, ⟨51, _⟩ => ⟨S8x8192x8192, .f32⟩
  | .hbm, ⟨52, _⟩ => ⟨S8x8192x8192, .f32⟩
  | .hbm, ⟨53, _⟩ => ⟨S_, .f32⟩
  | .hbm, ⟨54, _⟩ => ⟨S8x8192, .f32⟩
  | .hbm, ⟨55, _⟩ => ⟨S8x8192x1, .f32⟩
  | .hbm, ⟨56, _⟩ => ⟨S8x8192x8192, .f32⟩
  | .hbm, ⟨57, _⟩ => ⟨S8x8192x8192, .f32⟩
  | .hbm, ⟨58, _⟩ => ⟨S8x8192x1, .f32⟩
  | .hbm, ⟨59, _⟩ => ⟨S_, .f32⟩
  | .hbm, ⟨60, _⟩ => ⟨S8x8192x1, .f32⟩
  | .hbm, ⟨61, _⟩ => ⟨S8x8192x1, .f32⟩
  | .hbm, ⟨62, _⟩ => ⟨S8x128x8192, .f32⟩
  | .hbm, ⟨63, _⟩ => ⟨S8192x8x128, .f32⟩
  | .hbm, ⟨64, _⟩ => ⟨S8192x1024, .f32⟩
  | .hbm, ⟨65, _⟩ => ⟨S8192x8x128, .f32⟩
  | .hbm, ⟨66, _⟩ => ⟨S8x128x8192, .f32⟩
  | .hbm, ⟨67, _⟩ => ⟨S8x8192x8192, .f32⟩
  | .hbm, ⟨68, _⟩ => ⟨S8x128x8192, .f32⟩
  | .hbm, ⟨69, _⟩ => ⟨S8192x8x128, .f32⟩
  | .hbm, ⟨70, _⟩ => ⟨S8x8192x8192, .f32⟩
  | .hbm, ⟨71, _⟩ => ⟨S8x8192x8192, .f32⟩
  | .hbm, ⟨72, _⟩ => ⟨S8x8192x8192, .f32⟩
  | .hbm, ⟨73, _⟩ => ⟨S_, .f32⟩
  | .hbm, ⟨74, _⟩ => ⟨S8x8192, .f32⟩
  | .hbm, ⟨75, _⟩ => ⟨S8x8192x1, .f32⟩
  | .hbm, ⟨76, _⟩ => ⟨S8x8192x1, .f32⟩
  | .hbm, ⟨77, _⟩ => ⟨S8x8192x8192, .f32⟩
  | .hbm, ⟨78, _⟩ => ⟨S8x8192x8192, .f32⟩
  | .hbm, ⟨79, _⟩ => ⟨S_, .f32⟩
  | .hbm, ⟨80, _⟩ => ⟨S8x8192, .f32⟩
  | .hbm, ⟨81, _⟩ => ⟨S8x8192x8192, .f32⟩
  | .hbm, ⟨82, _⟩ => ⟨S8x8192x8192, .f32⟩
  | .hbm, ⟨83, _⟩ => ⟨S8x8192x8192, .f32⟩
  | .hbm, ⟨84, _⟩ => ⟨S_, .f32⟩
  | .hbm, ⟨85, _⟩ => ⟨S8x8192x8192, .f32⟩
  | .hbm, ⟨86, _⟩ => ⟨S8x8192x8192, .f32⟩
  | .hbm, ⟨87, _⟩ => ⟨S_, .f32⟩
  | .hbm, ⟨88, _⟩ => ⟨S8x8192x8192, .f32⟩
  | .hbm, ⟨89, _⟩ => ⟨S8x8192x8192, .f32⟩
  | .hbm, ⟨90, _⟩ => ⟨S8x8192x256, .f32⟩
  | .hbm, ⟨91, _⟩ => ⟨S8192x8x256, .f32⟩
  | .hbm, ⟨92, _⟩ => ⟨S8x8192x256, .f32⟩
  | .hbm, ⟨93, _⟩ => ⟨S8192x8x256, .f32⟩
  | .hbm, ⟨94, _⟩ => ⟨S8192x1024, .f32⟩
  | .hbm, ⟨95, _⟩ => ⟨S8192x2048, .f32⟩
  | .hbm, ⟨96, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_call0_v0 : Ref sig .tc := ⟨.hbm, 18, rfl⟩
abbrev main_v12_1 : Ref sig .tc := ⟨.hbm, 19, rfl⟩
abbrev main_call0_v2 : Ref sig .tc := ⟨.hbm, 20, rfl⟩
abbrev main_v12_0 : Ref sig .tc := ⟨.hbm, 21, rfl⟩
abbrev main_call0_cst : Ref sig .tc := ⟨.hbm, 22, rfl⟩
abbrev main_v12_2 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_call1_cst : Ref sig .tc := ⟨.hbm, 84, rfl⟩
abbrev main_call1_v0 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩

abbrev nD : Nat := 1
abbrev τ : Topo := Topo.v7x

variable {F : FTy → Type} [FloatOps F]
-- ==== InFwd.lean ====
abbrev S8192x2048 : Shape := ⟨2, ![8192, 2048]⟩
abbrev S2048x14080 : Shape := ⟨2, ![2048, 14080]⟩
abbrev S8192x14080 : Shape := ⟨2, ![8192, 14080]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x14080, .bf16⟩
  | .hbm, ⟨2, _⟩ => ⟨S8192x14080, .f32⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 10, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdIdeal.lean ====
abbrev S8192x2048 : Shape := ⟨2, ![8192, 2048]⟩
abbrev S2048x14080 : Shape := ⟨2, ![2048, 14080]⟩
abbrev S8192x14080 : Shape := ⟨2, ![8192, 14080]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x14080, .bf16⟩
  | .hbm, ⟨2, _⟩ => ⟨S8192x14080, .f32⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 10, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdRefIdeal.lean ====
abbrev S8192x2048 : Shape := ⟨2, ![8192, 2048]⟩
abbrev S2048x14080 : Shape := ⟨2, ![2048, 14080]⟩
abbrev S8192x14080 : Shape := ⟨2, ![8192, 14080]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x14080, .bf16⟩
  | .hbm, ⟨2, _⟩ => ⟨S2048x14080, .f32⟩
  | .hbm, ⟨3, _⟩ => ⟨S8192x14080, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InDa.lean ====
abbrev S8192x2048 : Shape := ⟨2, ![8192, 2048]⟩
abbrev S2048x14080 : Shape := ⟨2, ![2048, 14080]⟩
abbrev S8192x14080 : Shape := ⟨2, ![8192, 14080]⟩
abbrev S1024x1408 : Shape := ⟨2, ![1024, 1408]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x14080, .bf16⟩
  | .hbm, ⟨2, _⟩ => ⟨S8192x14080, .f32⟩
  | .hbm, ⟨3, _⟩ => ⟨S8192x2048, .f32⟩
  | .local _ .vmem, ⟨0, _⟩ => ⟨S1024x1408, .f32⟩
  | .local _ .vmem, ⟨1, _⟩ => ⟨S1024x1408, .f32⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 10], ![false, false, false]⟩

def k0_cond2 (i : grid0.Coords) : BitVec 1 :=
  let arg2 : BitVec 32 := BitVec.ofNat 32 (i 2).val
  let c9_i32 : BitVec 32 := 9#32
  let v12 : BitVec 1 := Scalar.cmpi .eq arg2 c9_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDaIdeal.lean ====
abbrev S8192x2048 : Shape := ⟨2, ![8192, 2048]⟩
abbrev S2048x14080 : Shape := ⟨2, ![2048, 14080]⟩
abbrev S8192x14080 : Shape := ⟨2, ![8192, 14080]⟩
abbrev S1024x1408 : Shape := ⟨2, ![1024, 1408]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x14080, .bf16⟩
  | .hbm, ⟨2, _⟩ => ⟨S8192x14080, .f32⟩
  | .hbm, ⟨3, _⟩ => ⟨S8192x2048, .f32⟩
  | .local _ .vmem, ⟨0, _⟩ => ⟨S1024x1408, .f32⟩
  | .local _ .vmem, ⟨1, _⟩ => ⟨S1024x1408, .f32⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 10], ![false, false, false]⟩

def k0_cond2 (i : grid0.Coords) : BitVec 1 :=
  let arg2 : BitVec 32 := BitVec.ofNat 32 (i 2).val
  let c9_i32 : BitVec 32 := 9#32
  let v12 : BitVec 1 := Scalar.cmpi .eq arg2 c9_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDaRefIdeal.lean ====
abbrev S8192x2048 : Shape := ⟨2, ![8192, 2048]⟩
abbrev S2048x14080 : Shape := ⟨2, ![2048, 14080]⟩
abbrev S8192x14080 : Shape := ⟨2, ![8192, 14080]⟩
abbrev S14080x2048 : Shape := ⟨2, ![14080, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x14080, .bf16⟩
  | .hbm, ⟨2, _⟩ => ⟨S8192x14080, .f32⟩
  | .hbm, ⟨3, _⟩ => ⟨S2048x14080, .f32⟩
  | .hbm, ⟨4, _⟩ => ⟨S8192x14080, .f32⟩
  | .hbm, ⟨5, _⟩ => ⟨S14080x2048, .f32⟩
  | .hbm, ⟨6, _⟩ => ⟨S2048x14080, .f32⟩
  | .hbm, ⟨7, _⟩ => ⟨S8192x2048, .f32⟩
  | .hbm, ⟨8, _⟩ => ⟨S2048x14080, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InDw.lean ====
abbrev S8192x2048 : Shape := ⟨2, ![8192, 2048]⟩
abbrev S2048x14080 : Shape := ⟨2, ![2048, 14080]⟩
abbrev S8192x14080 : Shape := ⟨2, ![8192, 14080]⟩
abbrev S1024x1024 : Shape := ⟨2, ![1024, 1024]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x14080, .bf16⟩
  | .hbm, ⟨2, _⟩ => ⟨S8192x14080, .f32⟩
  | .hbm, ⟨3, _⟩ => ⟨S2048x14080, .bf16⟩
  | .local _ .vmem, ⟨0, _⟩ => ⟨S1024x1024, .f32⟩
  | .local _ .vmem, ⟨1, _⟩ => ⟨S1024x1024, .f32⟩
  | .local _ .vmem, ⟨2, _⟩ => ⟨S1024x1408, .f32⟩
  | .local _ .vmem, ⟨3, _⟩ => ⟨S1024x1408, .f32⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 10, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwIdeal.lean ====
abbrev S8192x2048 : Shape := ⟨2, ![8192, 2048]⟩
abbrev S2048x14080 : Shape := ⟨2, ![2048, 14080]⟩
abbrev S8192x14080 : Shape := ⟨2, ![8192, 14080]⟩
abbrev S1024x1024 : Shape := ⟨2, ![1024, 1024]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x14080, .bf16⟩
  | .hbm, ⟨2, _⟩ => ⟨S8192x14080, .f32⟩
  | .hbm, ⟨3, _⟩ => ⟨S2048x14080, .bf16⟩
  | .local _ .vmem, ⟨0, _⟩ => ⟨S1024x1024, .f32⟩
  | .local _ .vmem, ⟨1, _⟩ => ⟨S1024x1024, .f32⟩
  | .local _ .vmem, ⟨2, _⟩ => ⟨S1024x1408, .f32⟩
  | .local _ .vmem, ⟨3, _⟩ => ⟨S1024x1408, .f32⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 10, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S8192x2048 : Shape := ⟨2, ![8192, 2048]⟩
abbrev S2048x14080 : Shape := ⟨2, ![2048, 14080]⟩
abbrev S8192x14080 : Shape := ⟨2, ![8192, 14080]⟩
abbrev S14080x2048 : Shape := ⟨2, ![14080, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x14080, .bf16⟩
  | .hbm, ⟨2, _⟩ => ⟨S8192x14080, .f32⟩
  | .hbm, ⟨3, _⟩ => ⟨S2048x14080, .f32⟩
  | .hbm, ⟨4, _⟩ => ⟨S8192x14080, .f32⟩
  | .hbm, ⟨5, _⟩ => ⟨S14080x2048, .f32⟩
  | .hbm, ⟨6, _⟩ => ⟨S2048x14080, .f32⟩
  | .hbm, ⟨7, _⟩ => ⟨S8192x2048, .f32⟩
  | .hbm, ⟨8, _⟩ => ⟨S2048x14080, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GateFwd.lean ====
abbrev S8192x2048 : Shape := ⟨2, ![8192, 2048]⟩
abbrev S2048x5632 : Shape := ⟨2, ![2048, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x5632, .bf16⟩
  | .hbm, ⟨2, _⟩ => ⟨S8192x5632, .f32⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateFwdIdeal.lean ====
abbrev S8192x2048 : Shape := ⟨2, ![8192, 2048]⟩
abbrev S2048x5632 : Shape := ⟨2, ![2048, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x5632, .bf16⟩
  | .hbm, ⟨2, _⟩ => ⟨S8192x5632, .f32⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateFwdRefIdeal.lean ====
abbrev S8192x2048 : Shape := ⟨2, ![8192, 2048]⟩
abbrev S2048x5632 : Shape := ⟨2, ![2048, 5632]⟩
abbrev S8192x5632 : Shape := ⟨2, ![8192, 5632]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .bf16⟩
  | .hbm, ⟨2, _⟩ => ⟨S2048x5632, .f32⟩
  | .hbm, ⟨3, _⟩ => ⟨S8192x5632, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GateDa.lean ====
abbrev S8192x2048 : Shape := ⟨2, ![8192, 2048]⟩
abbrev S2048x5632 : Shape := ⟨2, ![2048, 5632]⟩
abbrev S8192x5632 : Shape := ⟨2, ![8192, 5632]⟩
abbrev S1024x1408 : Shape := ⟨2, ![1024, 1408]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x5632, .bf16⟩
  | .hbm, ⟨2, _⟩ => ⟨S8192x5632, .f32⟩
  | .hbm, ⟨3, _⟩ => ⟨S8192x2048, .f32⟩
  | .local _ .vmem, ⟨0, _⟩ => ⟨S1024x1408, .f32⟩
  | .local _ .vmem, ⟨1, _⟩ => ⟨S1024x1408, .f32⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDaIdeal.lean ====
abbrev S8192x2048 : Shape := ⟨2, ![8192, 2048]⟩
abbrev S2048x5632 : Shape := ⟨2, ![2048, 5632]⟩
abbrev S8192x5632 : Shape := ⟨2, ![8192, 5632]⟩
abbrev S1024x1408 : Shape := ⟨2, ![1024, 1408]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x5632, .bf16⟩
  | .hbm, ⟨2, _⟩ => ⟨S8192x5632, .f32⟩
  | .hbm, ⟨3, _⟩ => ⟨S8192x2048, .f32⟩
  | .local _ .vmem, ⟨0, _⟩ => ⟨S1024x1408, .f32⟩
  | .local _ .vmem, ⟨1, _⟩ => ⟨S1024x1408, .f32⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDaRefIdeal.lean ====
abbrev S8192x2048 : Shape := ⟨2, ![8192, 2048]⟩
abbrev S2048x5632 : Shape := ⟨2, ![2048, 5632]⟩
abbrev S8192x5632 : Shape := ⟨2, ![8192, 5632]⟩
abbrev S5632x2048 : Shape := ⟨2, ![5632, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .bf16⟩
  | .hbm, ⟨2, _⟩ => ⟨S8192x5632, .f32⟩
  | .hbm, ⟨3, _⟩ => ⟨S2048x5632, .f32⟩
  | .hbm, ⟨4, _⟩ => ⟨S8192x5632, .f32⟩
  | .hbm, ⟨5, _⟩ => ⟨S5632x2048, .f32⟩
  | .hbm, ⟨6, _⟩ => ⟨S2048x5632, .f32⟩
  | .hbm, ⟨7, _⟩ => ⟨S8192x2048, .f32⟩
  | .hbm, ⟨8, _⟩ => ⟨S2048x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GateDw.lean ====
abbrev S8192x2048 : Shape := ⟨2, ![8192, 2048]⟩
abbrev S2048x5632 : Shape := ⟨2, ![2048, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x5632, .bf16⟩
  | .hbm, ⟨2, _⟩ => ⟨S8192x5632, .f32⟩
  | .hbm, ⟨3, _⟩ => ⟨S2048x5632, .bf16⟩
  | .local _ .vmem, ⟨0, _⟩ => ⟨S1024x1024, .f32⟩
  | .local _ .vmem, ⟨1, _⟩ => ⟨S1024x1024, .f32⟩
  | .local _ .vmem, ⟨2, _⟩ => ⟨S1024x1408, .f32⟩
  | .local _ .vmem, ⟨3, _⟩ => ⟨S1024x1408, .f32⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDwIdeal.lean ====
abbrev S8192x2048 : Shape := ⟨2, ![8192, 2048]⟩
abbrev S2048x5632 : Shape := ⟨2, ![2048, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x5632, .bf16⟩
  | .hbm, ⟨2, _⟩ => ⟨S8192x5632, .f32⟩
  | .hbm, ⟨3, _⟩ => ⟨S2048x5632, .bf16⟩
  | .local _ .vmem, ⟨0, _⟩ => ⟨S1024x1024, .f32⟩
  | .local _ .vmem, ⟨1, _⟩ => ⟨S1024x1024, .f32⟩
  | .local _ .vmem, ⟨2, _⟩ => ⟨S1024x1408, .f32⟩
  | .local _ .vmem, ⟨3, _⟩ => ⟨S1024x1408, .f32⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDwRefIdeal.lean ====
abbrev S8192x2048 : Shape := ⟨2, ![8192, 2048]⟩
abbrev S2048x5632 : Shape := ⟨2, ![2048, 5632]⟩
abbrev S8192x5632 : Shape := ⟨2, ![8192, 5632]⟩
abbrev S5632x2048 : Shape := ⟨2, ![5632, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .bf16⟩
  | .hbm, ⟨2, _⟩ => ⟨S8192x5632, .f32⟩
  | .hbm, ⟨3, _⟩ => ⟨S2048x5632, .f32⟩
  | .hbm, ⟨4, _⟩ => ⟨S8192x5632, .f32⟩
  | .hbm, ⟨5, _⟩ => ⟨S5632x2048, .f32⟩
  | .hbm, ⟨6, _⟩ => ⟨S2048x5632, .f32⟩
  | .hbm, ⟨7, _⟩ => ⟨S8192x2048, .f32⟩
  | .hbm, ⟨8, _⟩ => ⟨S2048x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownFwd.lean ====
abbrev S8192x5632 : Shape := ⟨2, ![8192, 5632]⟩
abbrev S5632x2048 : Shape := ⟨2, ![5632, 2048]⟩
abbrev S8192x2048 : Shape := ⟨2, ![8192, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S5632x2048, .bf16⟩
  | .hbm, ⟨2, _⟩ => ⟨S8192x2048, .f32⟩
  | .local _ .vmem, ⟨0, _⟩ => ⟨S1024x1408, .f32⟩
  | .local _ .vmem, ⟨1, _⟩ => ⟨S1024x1408, .f32⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownFwdIdeal.lean ====
abbrev S8192x5632 : Shape := ⟨2, ![8192, 5632]⟩
abbrev S5632x2048 : Shape := ⟨2, ![5632, 2048]⟩
abbrev S8192x2048 : Shape := ⟨2, ![8192, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S5632x2048, .bf16⟩
  | .hbm, ⟨2, _⟩ => ⟨S8192x2048, .f32⟩
  | .local _ .vmem, ⟨0, _⟩ => ⟨S1024x1408, .f32⟩
  | .local _ .vmem, ⟨1, _⟩ => ⟨S1024x1408, .f32⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownFwdRefIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .bf16⟩
  | .hbm, ⟨2, _⟩ => ⟨S5632x2048, .f32⟩
  | .hbm, ⟨3, _⟩ => ⟨S8192x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DownDa.lean ====
abbrev S8192x5632 : Shape := ⟨2, ![8192, 5632]⟩
abbrev S5632x2048 : Shape := ⟨2, ![5632, 2048]⟩
abbrev S8192x2048 : Shape := ⟨2, ![8192, 2048]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S5632x2048, .bf16⟩
  | .hbm, ⟨2, _⟩ => ⟨S8192x2048, .f32⟩
  | .hbm, ⟨3, _⟩ => ⟨S8192x5632, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDaIdeal.lean ====
abbrev S8192x5632 : Shape := ⟨2, ![8192, 5632]⟩
abbrev S5632x2048 : Shape := ⟨2, ![5632, 2048]⟩
abbrev S8192x2048 : Shape := ⟨2, ![8192, 2048]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S5632x2048, .bf16⟩
  | .hbm, ⟨2, _⟩ => ⟨S8192x2048, .f32⟩
  | .hbm, ⟨3, _⟩ => ⟨S8192x5632, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDaRefIdeal.lean ====
abbrev S8192x5632 : Shape := ⟨2, ![8192, 5632]⟩
abbrev S5632x2048 : Shape := ⟨2, ![5632, 2048]⟩
abbrev S8192x2048 : Shape := ⟨2, ![8192, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .bf16⟩
  | .hbm, ⟨2, _⟩ => ⟨S8192x2048, .f32⟩
  | .hbm, ⟨3, _⟩ => ⟨S5632x2048, .f32⟩
  | .hbm, ⟨4, _⟩ => ⟨S8192x2048, .f32⟩
  | .hbm, ⟨5, _⟩ => ⟨S2048x5632, .f32⟩
  | .hbm, ⟨6, _⟩ => ⟨S5632x2048, .f32⟩
  | .hbm, ⟨7, _⟩ => ⟨S8192x5632, .f32⟩
  | .hbm, ⟨8, _⟩ => ⟨S5632x2048, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDw.lean ====
abbrev S8192x5632 : Shape := ⟨2, ![8192, 5632]⟩
abbrev S5632x2048 : Shape := ⟨2, ![5632, 2048]⟩
abbrev S8192x2048 : Shape := ⟨2, ![8192, 2048]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S5632x2048, .bf16⟩
  | .hbm, ⟨2, _⟩ => ⟨S8192x2048, .f32⟩
  | .hbm, ⟨3, _⟩ => ⟨S5632x2048, .bf16⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwIdeal.lean ====
abbrev S8192x5632 : Shape := ⟨2, ![8192, 5632]⟩
abbrev S5632x2048 : Shape := ⟨2, ![5632, 2048]⟩
abbrev S8192x2048 : Shape := ⟨2, ![8192, 2048]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S5632x2048, .bf16⟩
  | .hbm, ⟨2, _⟩ => ⟨S8192x2048, .f32⟩
  | .hbm, ⟨3, _⟩ => ⟨S5632x2048, .bf16⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8192x5632 : Shape := ⟨2, ![8192, 5632]⟩
abbrev S5632x2048 : Shape := ⟨2, ![5632, 2048]⟩
abbrev S8192x2048 : Shape := ⟨2, ![8192, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .bf16⟩
  | .hbm, ⟨2, _⟩ => ⟨S8192x2048, .f32⟩
  | .hbm, ⟨3, _⟩ => ⟨S5632x2048, .f32⟩
  | .hbm, ⟨4, _⟩ => ⟨S8192x2048, .f32⟩
  | .hbm, ⟨5, _⟩ => ⟨S2048x5632, .f32⟩
  | .hbm, ⟨6, _⟩ => ⟨S5632x2048, .f32⟩
  | .hbm, ⟨7, _⟩ => ⟨S8192x5632, .f32⟩
  | .hbm, ⟨8, _⟩ => ⟨S5632x2048, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutFwd.lean ====
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutFwdIdeal.lean ====
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutFwdRefIdeal.lean ====
abbrev S8192x2048 : Shape := ⟨2, ![8192, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S2048x2048, .f32⟩
  | .hbm, ⟨3, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutDa.lean ====
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDaIdeal.lean ====
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDaRefIdeal.lean ====
abbrev S8192x2048 : Shape := ⟨2, ![8192, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S2048x2048, .f32⟩
  | .hbm, ⟨6, _⟩ => ⟨S2048x2048, .f32⟩
  | .hbm, ⟨7, _⟩ => ⟨S8192x2048, .f32⟩
  | .hbm, ⟨8, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDw.lean ====
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S8192x2048, .f32⟩
  | .hbm, ⟨3, _⟩ => ⟨S2048x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwIdeal.lean ====
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S8192x2048, .f32⟩
  | .hbm, ⟨3, _⟩ => ⟨S2048x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S8192x2048 : Shape := ⟨2, ![8192, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S2048x2048, .f32⟩
  | .hbm, ⟨6, _⟩ => ⟨S2048x2048, .f32⟩
  | .hbm, ⟨7, _⟩ => ⟨S8192x2048, .f32⟩
  | .hbm, ⟨8, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BranchFwd.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2048, .bf16⟩
  | .hbm, ⟨2, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchFwdIdeal.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2048, .bf16⟩
  | .hbm, ⟨2, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchFwdRefIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .bf16⟩
  | .hbm, ⟨2, _⟩ => ⟨S1024x2048, .f32⟩
  | .hbm, ⟨3, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== BranchDa.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2048, .bf16⟩
  | .hbm, ⟨2, _⟩ => ⟨S8192x2048, .f32⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDaIdeal.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2048, .bf16⟩
  | .hbm, ⟨2, _⟩ => ⟨S8192x2048, .f32⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDaRefIdeal.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .bf16⟩
  | .hbm, ⟨2, _⟩ => ⟨S8192x2048, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S8192x1024, .f32⟩
  | .hbm, ⟨8, _⟩ => ⟨S1024x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BranchDw.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2048, .bf16⟩
  | .hbm, ⟨2, _⟩ => ⟨S8192x2048, .f32⟩
  | .hbm, ⟨3, _⟩ => ⟨S1024x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDwIdeal.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2048, .bf16⟩
  | .hbm, ⟨2, _⟩ => ⟨S8192x2048, .f32⟩
  | .hbm, ⟨3, _⟩ => ⟨S1024x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDwRefIdeal.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .bf16⟩
  | .hbm, ⟨2, _⟩ => ⟨S8192x2048, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S8192x1024, .f32⟩
  | .hbm, ⟨8, _⟩ => ⟨S1024x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UqFwd.lean ====
abbrev S8192x512 : Shape := ⟨2, ![8192, 512]⟩
abbrev S512x4096 : Shape := ⟨2, ![512, 4096]⟩
abbrev S8192x4096 : Shape := ⟨2, ![8192, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x4096, .bf16⟩
  | .hbm, ⟨2, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqFwdIdeal.lean ====
abbrev S8192x512 : Shape := ⟨2, ![8192, 512]⟩
abbrev S512x4096 : Shape := ⟨2, ![512, 4096]⟩
abbrev S8192x4096 : Shape := ⟨2, ![8192, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x4096, .bf16⟩
  | .hbm, ⟨2, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqFwdRefIdeal.lean ====
abbrev S8192x512 : Shape := ⟨2, ![8192, 512]⟩
abbrev S512x4096 : Shape := ⟨2, ![512, 4096]⟩
abbrev S8192x4096 : Shape := ⟨2, ![8192, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x4096, .bf16⟩
  | .hbm, ⟨2, _⟩ => ⟨S512x4096, .f32⟩
  | .hbm, ⟨3, _⟩ => ⟨S8192x4096, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== UqDa.lean ====
abbrev S8192x512 : Shape := ⟨2, ![8192, 512]⟩
abbrev S512x4096 : Shape := ⟨2, ![512, 4096]⟩
abbrev S8192x4096 : Shape := ⟨2, ![8192, 4096]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x4096, .bf16⟩
  | .hbm, ⟨2, _⟩ => ⟨S8192x4096, .f32⟩
  | .hbm, ⟨3, _⟩ => ⟨S8192x512, .f32⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqDaIdeal.lean ====
abbrev S8192x512 : Shape := ⟨2, ![8192, 512]⟩
abbrev S512x4096 : Shape := ⟨2, ![512, 4096]⟩
abbrev S8192x4096 : Shape := ⟨2, ![8192, 4096]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x4096, .bf16⟩
  | .hbm, ⟨2, _⟩ => ⟨S8192x4096, .f32⟩
  | .hbm, ⟨3, _⟩ => ⟨S8192x512, .f32⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqDaRefIdeal.lean ====
abbrev S8192x512 : Shape := ⟨2, ![8192, 512]⟩
abbrev S512x4096 : Shape := ⟨2, ![512, 4096]⟩
abbrev S8192x4096 : Shape := ⟨2, ![8192, 4096]⟩
abbrev S4096x512 : Shape := ⟨2, ![4096, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x4096, .bf16⟩
  | .hbm, ⟨2, _⟩ => ⟨S8192x4096, .f32⟩
  | .hbm, ⟨3, _⟩ => ⟨S512x4096, .f32⟩
  | .hbm, ⟨4, _⟩ => ⟨S8192x4096, .f32⟩
  | .hbm, ⟨5, _⟩ => ⟨S4096x512, .f32⟩
  | .hbm, ⟨6, _⟩ => ⟨S512x4096, .f32⟩
  | .hbm, ⟨7, _⟩ => ⟨S8192x512, .f32⟩
  | .hbm, ⟨8, _⟩ => ⟨S512x4096, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UqDw.lean ====
abbrev S8192x512 : Shape := ⟨2, ![8192, 512]⟩
abbrev S512x4096 : Shape := ⟨2, ![512, 4096]⟩
abbrev S8192x4096 : Shape := ⟨2, ![8192, 4096]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x4096, .bf16⟩
  | .hbm, ⟨2, _⟩ => ⟨S8192x4096, .f32⟩
  | .hbm, ⟨3, _⟩ => ⟨S512x4096, .bf16⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqDwIdeal.lean ====
abbrev S8192x512 : Shape := ⟨2, ![8192, 512]⟩
abbrev S512x4096 : Shape := ⟨2, ![512, 4096]⟩
abbrev S8192x4096 : Shape := ⟨2, ![8192, 4096]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x4096, .bf16⟩
  | .hbm, ⟨2, _⟩ => ⟨S8192x4096, .f32⟩
  | .hbm, ⟨3, _⟩ => ⟨S512x4096, .bf16⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqDwRefIdeal.lean ====
abbrev S8192x512 : Shape := ⟨2, ![8192, 512]⟩
abbrev S512x4096 : Shape := ⟨2, ![512, 4096]⟩
abbrev S8192x4096 : Shape := ⟨2, ![8192, 4096]⟩
abbrev S4096x512 : Shape := ⟨2, ![4096, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x4096, .bf16⟩
  | .hbm, ⟨2, _⟩ => ⟨S8192x4096, .f32⟩
  | .hbm, ⟨3, _⟩ => ⟨S512x4096, .f32⟩
  | .hbm, ⟨4, _⟩ => ⟨S8192x4096, .f32⟩
  | .hbm, ⟨5, _⟩ => ⟨S4096x512, .f32⟩
  | .hbm, ⟨6, _⟩ => ⟨S512x4096, .f32⟩
  | .hbm, ⟨7, _⟩ => ⟨S8192x512, .f32⟩
  | .hbm, ⟨8, _⟩ => ⟨S512x4096, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UkvFwd.lean ====
abbrev S8192x512 : Shape := ⟨2, ![8192, 512]⟩
abbrev S512x3072 : Shape := ⟨2, ![512, 3072]⟩
abbrev S8192x3072 : Shape := ⟨2, ![8192, 3072]⟩
abbrev S1024x512 : Shape := ⟨2, ![1024, 512]⟩
abbrev S512x1536 : Shape := ⟨2, ![512, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x3072, .bf16⟩
  | .hbm, ⟨2, _⟩ => ⟨S8192x3072, .f32⟩
  | .local _ .vmem, ⟨0, _⟩ => ⟨S1024x512, .f32⟩
  | .local _ .vmem, ⟨1, _⟩ => ⟨S1024x512, .f32⟩
  | .local _ .vmem, ⟨2, _⟩ => ⟨S512x1536, .bf16⟩
  | .local _ .vmem, ⟨3, _⟩ => ⟨S512x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvFwdIdeal.lean ====
abbrev S8192x512 : Shape := ⟨2, ![8192, 512]⟩
abbrev S512x3072 : Shape := ⟨2, ![512, 3072]⟩
abbrev S8192x3072 : Shape := ⟨2, ![8192, 3072]⟩
abbrev S1024x512 : Shape := ⟨2, ![1024, 512]⟩
abbrev S512x1536 : Shape := ⟨2, ![512, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x3072, .bf16⟩
  | .hbm, ⟨2, _⟩ => ⟨S8192x3072, .f32⟩
  | .local _ .vmem, ⟨0, _⟩ => ⟨S1024x512, .f32⟩
  | .local _ .vmem, ⟨1, _⟩ => ⟨S1024x512, .f32⟩
  | .local _ .vmem, ⟨2, _⟩ => ⟨S512x1536, .bf16⟩
  | .local _ .vmem, ⟨3, _⟩ => ⟨S512x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvFwdRefIdeal.lean ====
abbrev S8192x512 : Shape := ⟨2, ![8192, 512]⟩
abbrev S512x3072 : Shape := ⟨2, ![512, 3072]⟩
abbrev S8192x3072 : Shape := ⟨2, ![8192, 3072]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x3072, .bf16⟩
  | .hbm, ⟨2, _⟩ => ⟨S512x3072, .f32⟩
  | .hbm, ⟨3, _⟩ => ⟨S8192x3072, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== UkvDa.lean ====
abbrev S8192x512 : Shape := ⟨2, ![8192, 512]⟩
abbrev S512x3072 : Shape := ⟨2, ![512, 3072]⟩
abbrev S8192x3072 : Shape := ⟨2, ![8192, 3072]⟩
abbrev S1024x1536 : Shape := ⟨2, ![1024, 1536]⟩
abbrev S512x1536 : Shape := ⟨2, ![512, 1536]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x3072, .bf16⟩
  | .hbm, ⟨2, _⟩ => ⟨S8192x3072, .f32⟩
  | .hbm, ⟨3, _⟩ => ⟨S8192x512, .f32⟩
  | .local _ .vmem, ⟨0, _⟩ => ⟨S1024x1536, .f32⟩
  | .local _ .vmem, ⟨1, _⟩ => ⟨S1024x1536, .f32⟩
  | .local _ .vmem, ⟨2, _⟩ => ⟨S512x1536, .bf16⟩
  | .local _ .vmem, ⟨3, _⟩ => ⟨S512x1536, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvDaIdeal.lean ====
abbrev S8192x512 : Shape := ⟨2, ![8192, 512]⟩
abbrev S512x3072 : Shape := ⟨2, ![512, 3072]⟩
abbrev S8192x3072 : Shape := ⟨2, ![8192, 3072]⟩
abbrev S1024x1536 : Shape := ⟨2, ![1024, 1536]⟩
abbrev S512x1536 : Shape := ⟨2, ![512, 1536]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x3072, .bf16⟩
  | .hbm, ⟨2, _⟩ => ⟨S8192x3072, .f32⟩
  | .hbm, ⟨3, _⟩ => ⟨S8192x512, .f32⟩
  | .local _ .vmem, ⟨0, _⟩ => ⟨S1024x1536, .f32⟩
  | .local _ .vmem, ⟨1, _⟩ => ⟨S1024x1536, .f32⟩
  | .local _ .vmem, ⟨2, _⟩ => ⟨S512x1536, .bf16⟩
  | .local _ .vmem, ⟨3, _⟩ => ⟨S512x1536, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvDaRefIdeal.lean ====
abbrev S8192x512 : Shape := ⟨2, ![8192, 512]⟩
abbrev S512x3072 : Shape := ⟨2, ![512, 3072]⟩
abbrev S8192x3072 : Shape := ⟨2, ![8192, 3072]⟩
abbrev S3072x512 : Shape := ⟨2, ![3072, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x3072, .bf16⟩
  | .hbm, ⟨2, _⟩ => ⟨S8192x3072, .f32⟩
  | .hbm, ⟨3, _⟩ => ⟨S512x3072, .f32⟩
  | .hbm, ⟨4, _⟩ => ⟨S8192x3072, .f32⟩
  | .hbm, ⟨5, _⟩ => ⟨S3072x512, .f32⟩
  | .hbm, ⟨6, _⟩ => ⟨S512x3072, .f32⟩
  | .hbm, ⟨7, _⟩ => ⟨S8192x512, .f32⟩
  | .hbm, ⟨8, _⟩ => ⟨S512x3072, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UkvDw.lean ====
abbrev S8192x512 : Shape := ⟨2, ![8192, 512]⟩
abbrev S512x3072 : Shape := ⟨2, ![512, 3072]⟩
abbrev S8192x3072 : Shape := ⟨2, ![8192, 3072]⟩
abbrev S1024x512 : Shape := ⟨2, ![1024, 512]⟩
abbrev S1024x1536 : Shape := ⟨2, ![1024, 1536]⟩
abbrev S512x1536 : Shape := ⟨2, ![512, 1536]⟩

abbrev nBuf : Space → Nat
  | .hbm => 4
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x3072, .bf16⟩
  | .hbm, ⟨2, _⟩ => ⟨S8192x3072, .f32⟩
  | .hbm, ⟨3, _⟩ => ⟨S512x3072, .bf16⟩
  | .local _ .vmem, ⟨0, _⟩ => ⟨S1024x512, .f32⟩
  | .local _ .vmem, ⟨1, _⟩ => ⟨S1024x512, .f32⟩
  | .local _ .vmem, ⟨2, _⟩ => ⟨S1024x1536, .f32⟩
  | .local _ .vmem, ⟨3, _⟩ => ⟨S1024x1536, .f32⟩
  | .local _ .vmem, ⟨4, _⟩ => ⟨S512x1536, .bf16⟩
  | .local _ .vmem, ⟨5, _⟩ => ⟨S512x1536, .bf16⟩
  | .local _ .vmem, ⟨6, _⟩ => ⟨S512x1536, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvDwIdeal.lean ====
abbrev S8192x512 : Shape := ⟨2, ![8192, 512]⟩
abbrev S512x3072 : Shape := ⟨2, ![512, 3072]⟩
abbrev S8192x3072 : Shape := ⟨2, ![8192, 3072]⟩
abbrev S1024x512 : Shape := ⟨2, ![1024, 512]⟩
abbrev S1024x1536 : Shape := ⟨2, ![1024, 1536]⟩
abbrev S512x1536 : Shape := ⟨2, ![512, 1536]⟩

abbrev nBuf : Space → Nat
  | .hbm => 4
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x3072, .bf16⟩
  | .hbm, ⟨2, _⟩ => ⟨S8192x3072, .f32⟩
  | .hbm, ⟨3, _⟩ => ⟨S512x3072, .bf16⟩
  | .local _ .vmem, ⟨0, _⟩ => ⟨S1024x512, .f32⟩
  | .local _ .vmem, ⟨1, _⟩ => ⟨S1024x512, .f32⟩
  | .local _ .vmem, ⟨2, _⟩ => ⟨S1024x1536, .f32⟩
  | .local _ .vmem, ⟨3, _⟩ => ⟨S1024x1536, .f32⟩
  | .local _ .vmem, ⟨4, _⟩ => ⟨S512x1536, .bf16⟩
  | .local _ .vmem, ⟨5, _⟩ => ⟨S512x1536, .bf16⟩
  | .local _ .vmem, ⟨6, _⟩ => ⟨S512x1536, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvDwRefIdeal.lean ====
abbrev S8192x512 : Shape := ⟨2, ![8192, 512]⟩
abbrev S512x3072 : Shape := ⟨2, ![512, 3072]⟩
abbrev S8192x3072 : Shape := ⟨2, ![8192, 3072]⟩
abbrev S3072x512 : Shape := ⟨2, ![3072, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x3072, .bf16⟩
  | .hbm, ⟨2, _⟩ => ⟨S8192x3072, .f32⟩
  | .hbm, ⟨3, _⟩ => ⟨S512x3072, .f32⟩
  | .hbm, ⟨4, _⟩ => ⟨S8192x3072, .f32⟩
  | .hbm, ⟨5, _⟩ => ⟨S3072x512, .f32⟩
  | .hbm, ⟨6, _⟩ => ⟨S512x3072, .f32⟩
  | .hbm, ⟨7, _⟩ => ⟨S8192x512, .f32⟩
  | .hbm, ⟨8, _⟩ => ⟨S512x3072, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AdamIn.lean ====
abbrev S2x2048x3348 : Shape := ⟨3, ![2, 2048, 3348]⟩
abbrev S4096x3348 : Shape := ⟨2, ![4096, 3348]⟩
abbrev S64x3348 : Shape := ⟨2, ![64, 3348]⟩

abbrev nBuf : Space → Nat
  | .hbm => 11
  | .vmem => 14
  | .smem => 0
  | _ => 0

abbrev bufTy : (tb : Table) → Fin (tcTables nBuf tb) → BufTy
  | .hbm, ⟨0, _⟩ => ⟨S2x2048x3348, .f32⟩
  | .hbm, ⟨1, _⟩ => ⟨S2x2048x3348, .f32⟩
  | .hbm, ⟨2, _⟩ => ⟨S2x2048x3348, .f32⟩
  | .hbm, ⟨3, _⟩ => ⟨S2x2048x3348, .f32⟩
  | .hbm, ⟨4, _⟩ => ⟨S4096x3348, .f32⟩
  | .hbm, ⟨5, _⟩ => ⟨S4096x3348, .f32⟩
  | .hbm, ⟨6, _⟩ => ⟨S4096x3348, .f32⟩
  | .hbm, ⟨7, _⟩ => ⟨S4096x3348, .f32⟩
  | .hbm, ⟨8, _⟩ => ⟨S4096x3348, .f32⟩
  | .hbm, ⟨9, _⟩ => ⟨S4096x3348, .f32⟩
  | .hbm, ⟨10, _⟩ => ⟨S4096x3348, .f32⟩
  | .local _ .vmem, ⟨0, _⟩ => ⟨S64x3348, .f32⟩
  | .local _ .vmem, ⟨1, _⟩ => ⟨S64x3348, .f32⟩
  | .local _ .vmem, ⟨2, _⟩ => ⟨S64x3348, .f32⟩
  | .local _ .vmem, ⟨3, _⟩ => ⟨S64x3348, .f32⟩
  | .local _ .vmem, ⟨4, _⟩ => ⟨S64x3348, .f32⟩
  | .local _ .vmem, ⟨5, _⟩ => ⟨S64x3348, .f32⟩
  | .local _ .vmem, ⟨6, _⟩ => ⟨S64x3348, .f32⟩
  | .local _ .vmem, ⟨7, _⟩ => ⟨S64x3348, .f32⟩
  | .local _ .vmem, ⟨8, _⟩ => ⟨S64x3348, .f32⟩
  | .local _ .vmem, ⟨9, _⟩ => ⟨S64x3348, .f32⟩
  | .local _ .vmem, ⟨10, _⟩ => ⟨S64x3348, .f32⟩
  | .local _ .vmem, ⟨11, _⟩ => ⟨S64x3348, .f32⟩
  | .local _ .vmem, ⟨12, _⟩ => ⟨S64x3348, .f32⟩
  | .local _ .vmem, ⟨13, _⟩ => ⟨S64x3348, .f32⟩
  | _, _ => ⟨S2x2048x3348, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x3348 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3348 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3348 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x3348 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x3348 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x3348 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x3348 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S2x2048x3348 : Shape := ⟨3, ![2, 2048, 3348]⟩
abbrev S4096x3348 : Shape := ⟨2, ![4096, 3348]⟩
abbrev S64x3348 : Shape := ⟨2, ![64, 3348]⟩

abbrev nBuf : Space → Nat
  | .hbm => 11
  | .vmem => 14
  | .smem => 0
  | _ => 0

abbrev bufTy : (tb : Table) → Fin (tcTables nBuf tb) → BufTy
  | .hbm, ⟨0, _⟩ => ⟨S2x2048x3348, .f32⟩
  | .hbm, ⟨1, _⟩ => ⟨S2x2048x3348, .f32⟩
  | .hbm, ⟨2, _⟩ => ⟨S2x2048x3348, .f32⟩
  | .hbm, ⟨3, _⟩ => ⟨S2x2048x3348, .f32⟩
  | .hbm, ⟨4, _⟩ => ⟨S4096x3348, .f32⟩
  | .hbm, ⟨5, _⟩ => ⟨S4096x3348, .f32⟩
  | .hbm, ⟨6, _⟩ => ⟨S4096x3348, .f32⟩
  | .hbm, ⟨7, _⟩ => ⟨S4096x3348, .f32⟩
  | .hbm, ⟨8, _⟩ => ⟨S4096x3348, .f32⟩
  | .hbm, ⟨9, _⟩ => ⟨S4096x3348, .f32⟩
  | .hbm, ⟨10, _⟩ => ⟨S4096x3348, .f32⟩
  | .local _ .vmem, ⟨0, _⟩ => ⟨S64x3348, .f32⟩
  | .local _ .vmem, ⟨1, _⟩ => ⟨S64x3348, .f32⟩
  | .local _ .vmem, ⟨2, _⟩ => ⟨S64x3348, .f32⟩
  | .local _ .vmem, ⟨3, _⟩ => ⟨S64x3348, .f32⟩
  | .local _ .vmem, ⟨4, _⟩ => ⟨S64x3348, .f32⟩
  | .local _ .vmem, ⟨5, _⟩ => ⟨S64x3348, .f32⟩
  | .local _ .vmem, ⟨6, _⟩ => ⟨S64x3348, .f32⟩
  | .local _ .vmem, ⟨7, _⟩ => ⟨S64x3348, .f32⟩
  | .local _ .vmem, ⟨8, _⟩ => ⟨S64x3348, .f32⟩
  | .local _ .vmem, ⟨9, _⟩ => ⟨S64x3348, .f32⟩
  | .local _ .vmem, ⟨10, _⟩ => ⟨S64x3348, .f32⟩
  | .local _ .vmem, ⟨11, _⟩ => ⟨S64x3348, .f32⟩
  | .local _ .vmem, ⟨12, _⟩ => ⟨S64x3348, .f32⟩
  | .local _ .vmem, ⟨13, _⟩ => ⟨S64x3348, .f32⟩
  | _, _ => ⟨S2x2048x3348, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x3348 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3348 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3348 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x3348 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x3348 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x3348 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x3348 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S2x2048x3348 : Shape := ⟨3, ![2, 2048, 3348]⟩
abbrev S_ : Shape := ⟨0, ![]⟩
abbrev S4096x3348 : Shape := ⟨2, ![4096, 3348]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x3348, .f32⟩
  | .hbm, ⟨1, _⟩ => ⟨S2x2048x3348, .f32⟩
  | .hbm, ⟨2, _⟩ => ⟨S2x2048x3348, .f32⟩
  | .hbm, ⟨3, _⟩ => ⟨S2x2048x3348, .f32⟩
  | .hbm, ⟨4, _⟩ => ⟨S_, .f32⟩
  | .hbm, ⟨5, _⟩ => ⟨S2x2048x3348, .f32⟩
  | .hbm, ⟨6, _⟩ => ⟨S2x2048x3348, .f32⟩
  | .hbm, ⟨7, _⟩ => ⟨S_, .f32⟩
  | .hbm, ⟨8, _⟩ => ⟨S2x2048x3348, .f32⟩
  | .hbm, ⟨9, _⟩ => ⟨S2x2048x3348, .f32⟩
  | .hbm, ⟨10, _⟩ => ⟨S2x2048x3348, .f32⟩
  | .hbm, ⟨11, _⟩ => ⟨S_, .f32⟩
  | .hbm, ⟨12, _⟩ => ⟨S2x2048x3348, .f32⟩
  | .hbm, ⟨13, _⟩ => ⟨S2x2048x3348, .f32⟩
  | .hbm, ⟨14, _⟩ => ⟨S2x2048x3348, .f32⟩
  | .hbm, ⟨15, _⟩ => ⟨S_, .f32⟩
  | .hbm, ⟨16, _⟩ => ⟨S2x2048x3348, .f32⟩
  | .hbm, ⟨17, _⟩ => ⟨S2x2048x3348, .f32⟩
  | .hbm, ⟨18, _⟩ => ⟨S2x2048x3348, .f32⟩
  | .hbm, ⟨19, _⟩ => ⟨S_, .f32⟩
  | .hbm, ⟨20, _⟩ => ⟨S2x2048x3348, .f32⟩
  | .hbm, ⟨21, _⟩ => ⟨S2x2048x3348, .f32⟩
  | .hbm, ⟨22, _⟩ => ⟨S_, .f32⟩
  | .hbm, ⟨23, _⟩ => ⟨S2x2048x3348, .f32⟩
  | .hbm, ⟨24, _⟩ => ⟨S2x2048x3348, .f32⟩
  | .hbm, ⟨25, _⟩ => ⟨S2x2048x3348, .f32⟩
  | .hbm, ⟨26, _⟩ => ⟨S_, .f32⟩
  | .hbm, ⟨27, _⟩ => ⟨S2x2048x3348, .f32⟩
  | .hbm, ⟨28, _⟩ => ⟨S2x2048x3348, .f32⟩
  | .hbm, ⟨29, _⟩ => ⟨S2x2048x3348, .f32⟩
  | .hbm, ⟨30, _⟩ => ⟨S_, .f32⟩
  | .hbm, ⟨31, _⟩ => ⟨S2x2048x3348, .f32⟩
  | .hbm, ⟨32, _⟩ => ⟨S2x2048x3348, .f32⟩
  | .hbm, ⟨33, _⟩ => ⟨S2x2048x3348, .f32⟩
  | .hbm, ⟨34, _⟩ => ⟨S_, .f32⟩
  | .hbm, ⟨35, _⟩ => ⟨S2x2048x3348, .f32⟩
  | .hbm, ⟨36, _⟩ => ⟨S2x2048x3348, .f32⟩
  | .hbm, ⟨37, _⟩ => ⟨S4096x3348, .f32⟩
  | .hbm, ⟨38, _⟩ => ⟨S4096x3348, .f32⟩
  | .hbm, ⟨39, _⟩ => ⟨S4096x3348, .f32⟩
  | _, _ => ⟨S2x2048x3348, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamUq.lean ====
abbrev S2x512x384 : Shape := ⟨3, ![2, 512, 384]⟩
abbrev S1024x384 : Shape := ⟨2, ![1024, 384]⟩
abbrev S512x384 : Shape := ⟨2, ![512, 384]⟩

abbrev nBuf : Space → Nat
  | .hbm => 11
  | .vmem => 14
  | .smem => 0
  | _ => 0

abbrev bufTy : (tb : Table) → Fin (tcTables nBuf tb) → BufTy
  | .hbm, ⟨0, _⟩ => ⟨S2x512x384, .f32⟩
  | .hbm, ⟨1, _⟩ => ⟨S2x512x384, .f32⟩
  | .hbm, ⟨2, _⟩ => ⟨S2x512x384, .f32⟩
  | .hbm, ⟨3, _⟩ => ⟨S2x512x384, .f32⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .hbm, ⟨8, _⟩ => ⟨S1024x384, .f32⟩
  | .hbm, ⟨9, _⟩ => ⟨S1024x384, .f32⟩
  | .hbm, ⟨10, _⟩ => ⟨S1024x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | _, _ => ⟨S2x512x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUqIdeal.lean ====
abbrev S2x512x384 : Shape := ⟨3, ![2, 512, 384]⟩
abbrev S1024x384 : Shape := ⟨2, ![1024, 384]⟩
abbrev S512x384 : Shape := ⟨2, ![512, 384]⟩

abbrev nBuf : Space → Nat
  | .hbm => 11
  | .vmem => 14
  | .smem => 0
  | _ => 0

abbrev bufTy : (tb : Table) → Fin (tcTables nBuf tb) → BufTy
  | .hbm, ⟨0, _⟩ => ⟨S2x512x384, .f32⟩
  | .hbm, ⟨1, _⟩ => ⟨S2x512x384, .f32⟩
  | .hbm, ⟨2, _⟩ => ⟨S2x512x384, .f32⟩
  | .hbm, ⟨3, _⟩ => ⟨S2x512x384, .f32⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .hbm, ⟨8, _⟩ => ⟨S1024x384, .f32⟩
  | .hbm, ⟨9, _⟩ => ⟨S1024x384, .f32⟩
  | .hbm, ⟨10, _⟩ => ⟨S1024x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | _, _ => ⟨S2x512x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUqRefIdeal.lean ====
abbrev S2x512x384 : Shape := ⟨3, ![2, 512, 384]⟩
abbrev S_ : Shape := ⟨0, ![]⟩
abbrev S1024x384 : Shape := ⟨2, ![1024, 384]⟩

abbrev nBuf : Space → Nat
  | .hbm => 40
  | .vmem => 0
  | .smem => 0
  | _ => 0

abbrev bufTy : (tb : Table) → Fin (tcTables nBuf tb) → BufTy
  | .hbm, ⟨0, _⟩ => ⟨S2x512x384, .f32⟩
  | .hbm, ⟨1, _⟩ => ⟨S2x512x384, .f32⟩
  | .hbm, ⟨2, _⟩ => ⟨S2x512x384, .f32⟩
  | .hbm, ⟨3, _⟩ => ⟨S2x512x384, .f32⟩
  | .hbm, ⟨4, _⟩ => ⟨S_, .f32⟩
  | .hbm, ⟨5, _⟩ => ⟨S2x512x384, .f32⟩
  | .hbm, ⟨6, _⟩ => ⟨S2x512x384, .f32⟩
  | .hbm, ⟨7, _⟩ => ⟨S_, .f32⟩
  | .hbm, ⟨8, _⟩ => ⟨S2x512x384, .f32⟩
  | .hbm, ⟨9, _⟩ => ⟨S2x512x384, .f32⟩
  | .hbm, ⟨10, _⟩ => ⟨S2x512x384, .f32⟩
  | .hbm, ⟨11, _⟩ => ⟨S_, .f32⟩
  | .hbm, ⟨12, _⟩ => ⟨S2x512x384, .f32⟩
  | .hbm, ⟨13, _⟩ => ⟨S2x512x384, .f32⟩
  | .hbm, ⟨14, _⟩ => ⟨S2x512x384, .f32⟩
  | .hbm, ⟨15, _⟩ => ⟨S_, .f32⟩
  | .hbm, ⟨16, _⟩ => ⟨S2x512x384, .f32⟩
  | .hbm, ⟨17, _⟩ => ⟨S2x512x384, .f32⟩
  | .hbm, ⟨18, _⟩ => ⟨S2x512x384, .f32⟩
  | .hbm, ⟨19, _⟩ => ⟨S_, .f32⟩
  | .hbm, ⟨20, _⟩ => ⟨S2x512x384, .f32⟩
  | .hbm, ⟨21, _⟩ => ⟨S2x512x384, .f32⟩
  | .hbm, ⟨22, _⟩ => ⟨S_, .f32⟩
  | .hbm, ⟨23, _⟩ => ⟨S2x512x384, .f32⟩
  | .hbm, ⟨24, _⟩ => ⟨S2x512x384, .f32⟩
  | .hbm, ⟨25, _⟩ => ⟨S2x512x384, .f32⟩
  | .hbm, ⟨26, _⟩ => ⟨S_, .f32⟩
  | .hbm, ⟨27, _⟩ => ⟨S2x512x384, .f32⟩
  | .hbm, ⟨28, _⟩ => ⟨S2x512x384, .f32⟩
  | .hbm, ⟨29, _⟩ => ⟨S2x512x384, .f32⟩
  | .hbm, ⟨30, _⟩ => ⟨S_, .f32⟩
  | .hbm, ⟨31, _⟩ => ⟨S2x512x384, .f32⟩
  | .hbm, ⟨32, _⟩ => ⟨S2x512x384, .f32⟩
  | .hbm, ⟨33, _⟩ => ⟨S2x512x384, .f32⟩
  | .hbm, ⟨34, _⟩ => ⟨S_, .f32⟩
  | .hbm, ⟨35, _⟩ => ⟨S2x512x384, .f32⟩
  | .hbm, ⟨36, _⟩ => ⟨S2x512x384, .f32⟩
  | .hbm, ⟨37, _⟩ => ⟨S1024x384, .f32⟩
  | .hbm, ⟨38, _⟩ => ⟨S1024x384, .f32⟩
  | .hbm, ⟨39, _⟩ => ⟨S1024x384, .f32⟩
  | _, _ => ⟨S2x512x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamUkv.lean ====
abbrev S2x512x512 : Shape := ⟨3, ![2, 512, 512]⟩
abbrev S1024x512 : Shape := ⟨2, ![1024, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S2x512x512, .f32⟩
  | .hbm, ⟨1, _⟩ => ⟨S2x512x512, .f32⟩
  | .hbm, ⟨2, _⟩ => ⟨S2x512x512, .f32⟩
  | .hbm, ⟨3, _⟩ => ⟨S2x512x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUkvIdeal.lean ====
abbrev S2x512x512 : Shape := ⟨3, ![2, 512, 512]⟩
abbrev S1024x512 : Shape := ⟨2, ![1024, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S2x512x512, .f32⟩
  | .hbm, ⟨1, _⟩ => ⟨S2x512x512, .f32⟩
  | .hbm, ⟨2, _⟩ => ⟨S2x512x512, .f32⟩
  | .hbm, ⟨3, _⟩ => ⟨S2x512x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUkvRefIdeal.lean ====
abbrev S2x512x512 : Shape := ⟨3, ![2, 512, 512]⟩
abbrev S_ : Shape := ⟨0, ![]⟩
abbrev S1024x512 : Shape := ⟨2, ![1024, 512]⟩

abbrev nBuf : Space → Nat
  | .hbm => 40
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S2x512x512, .f32⟩
  | .hbm, ⟨2, _⟩ => ⟨S2x512x512, .f32⟩
  | .hbm, ⟨3, _⟩ => ⟨S2x512x512, .f32⟩
  | .hbm, ⟨4, _⟩ => ⟨S_, .f32⟩
  | .hbm, ⟨5, _⟩ => ⟨S2x512x512, .f32⟩
  | .hbm, ⟨6, _⟩ => ⟨S2x512x512, .f32⟩
  | .hbm, ⟨7, _⟩ => ⟨S_, .f32⟩
  | .hbm, ⟨8, _⟩ => ⟨S2x512x512, .f32⟩
  | .hbm, ⟨9, _⟩ => ⟨S2x512x512, .f32⟩
  | .hbm, ⟨10, _⟩ => ⟨S2x512x512, .f32⟩
  | .hbm, ⟨11, _⟩ => ⟨S_, .f32⟩
  | .hbm, ⟨12, _⟩ => ⟨S2x512x512, .f32⟩
  | .hbm, ⟨13, _⟩ => ⟨S2x512x512, .f32⟩
  | .hbm, ⟨14, _⟩ => ⟨S2x512x512, .f32⟩
  | .hbm, ⟨15, _⟩ => ⟨S_, .f32⟩
  | .hbm, ⟨16, _⟩ => ⟨S2x512x512, .f32⟩
  | .hbm, ⟨17, _⟩ => ⟨S2x512x512, .f32⟩
  | .hbm, ⟨18, _⟩ => ⟨S2x512x512, .f32⟩
  | .hbm, ⟨19, _⟩ => ⟨S_, .f32⟩
  | .hbm, ⟨20, _⟩ => ⟨S2x512x512, .f32⟩
  | .hbm, ⟨21, _⟩ => ⟨S2x512x512, .f32⟩
  | .hbm, ⟨22, _⟩ => ⟨S_, .f32⟩
  | .hbm, ⟨23, _⟩ => ⟨S2x512x512, .f32⟩
  | .hbm, ⟨24, _⟩ => ⟨S2x512x512, .f32⟩
  | .hbm, ⟨25, _⟩ => ⟨S2x512x512, .f32⟩
  | .hbm, ⟨26, _⟩ => ⟨S_, .f32⟩
  | .hbm, ⟨27, _⟩ => ⟨S2x512x512, .f32⟩
  | .hbm, ⟨28, _⟩ => ⟨S2x512x512, .f32⟩
  | .hbm, ⟨29, _⟩ => ⟨S2x512x512, .f32⟩
  | .hbm, ⟨30, _⟩ => ⟨S_, .f32⟩
  | .hbm, ⟨31, _⟩ => ⟨S2x512x512, .f32⟩
  | .hbm, ⟨32, _⟩ => ⟨S2x512x512, .f32⟩
  | .hbm, ⟨33, _⟩ => ⟨S2x512x512, .f32⟩
  | .hbm, ⟨34, _⟩ => ⟨S_, .f32⟩
  | .hbm, ⟨35, _⟩ => ⟨S2x512x512, .f32⟩
  | .hbm, ⟨36, _⟩ => ⟨S2x512x512, .f32⟩
  | .hbm, ⟨37, _⟩ => ⟨S1024x512, .f32⟩
  | .hbm, ⟨38, _⟩ => ⟨S1024x512, .f32⟩
  | .hbm, ⟨39, _⟩ => ⟨S1024x512, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamLru.lean ====
abbrev S2x4x256 : Shape := ⟨3, ![2, 4, 256]⟩
abbrev S8x256 : Shape := ⟨2, ![8, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x4x256, .f32⟩
  | .hbm, ⟨1, _⟩ => ⟨S2x4x256, .f32⟩
  | .hbm, ⟨2, _⟩ => ⟨S2x4x256, .f32⟩
  | .hbm, ⟨3, _⟩ => ⟨S2x4x256, .f32⟩
  | .hbm, ⟨4, _⟩ => ⟨S8x256, .f32⟩
  | .hbm, ⟨5, _⟩ => ⟨S8x256, .f32⟩
  | .hbm, ⟨6, _⟩ => ⟨S8x256, .f32⟩
  | .hbm, ⟨7, _⟩ => ⟨S8x256, .f32⟩
  | .hbm, ⟨8, _⟩ => ⟨S8x256, .f32⟩
  | .hbm, ⟨9, _⟩ => ⟨S8x256, .f32⟩
  | .hbm, ⟨10, _⟩ => ⟨S8x256, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | _, _ => ⟨S2x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLruIdeal.lean ====
abbrev S2x4x256 : Shape := ⟨3, ![2, 4, 256]⟩
abbrev S8x256 : Shape := ⟨2, ![8, 256]⟩

abbrev nBuf : Space → Nat
  | .hbm => 11
  | .vmem => 7
  | .smem => 0
  | _ => 0

abbrev bufTy : (tb : Table) → Fin (tcTables nBuf tb) → BufTy
  | .hbm, ⟨0, _⟩ => ⟨S2x4x256, .f32⟩
  | .hbm, ⟨1, _⟩ => ⟨S2x4x256, .f32⟩
  | .hbm, ⟨2, _⟩ => ⟨S2x4x256, .f32⟩
  | .hbm, ⟨3, _⟩ => ⟨S2x4x256, .f32⟩
  | .hbm, ⟨4, _⟩ => ⟨S8x256, .f32⟩
  | .hbm, ⟨5, _⟩ => ⟨S8x256, .f32⟩
  | .hbm, ⟨6, _⟩ => ⟨S8x256, .f32⟩
  | .hbm, ⟨7, _⟩ => ⟨S8x256, .f32⟩
  | .hbm, ⟨8, _⟩ => ⟨S8x256, .f32⟩
  | .hbm, ⟨9, _⟩ => ⟨S8x256, .f32⟩
  | .hbm, ⟨10, _⟩ => ⟨S8x256, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | _, _ => ⟨S2x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLruRefIdeal.lean ====
abbrev S2x4x256 : Shape := ⟨3, ![2, 4, 256]⟩
abbrev S_ : Shape := ⟨0, ![]⟩
abbrev S8x256 : Shape := ⟨2, ![8, 256]⟩

abbrev nBuf : Space → Nat
  | .hbm => 40
  | .vmem => 0
  | .smem => 0
  | _ => 0

abbrev bufTy : (tb : Table) → Fin (tcTables nBuf tb) → BufTy
  | .hbm, ⟨0, _⟩ => ⟨S2x4x256, .f32⟩
  | .hbm, ⟨1, _⟩ => ⟨S2x4x256, .f32⟩
  | .hbm, ⟨2, _⟩ => ⟨S2x4x256, .f32⟩
  | .hbm, ⟨3, _⟩ => ⟨S2x4x256, .f32⟩
  | .hbm, ⟨4, _⟩ => ⟨S_, .f32⟩
  | .hbm, ⟨5, _⟩ => ⟨S2x4x256, .f32⟩
  | .hbm, ⟨6, _⟩ => ⟨S2x4x256, .f32⟩
  | .hbm, ⟨7, _⟩ => ⟨S_, .f32⟩
  | .hbm, ⟨8, _⟩ => ⟨S2x4x256, .f32⟩
  | .hbm, ⟨9, _⟩ => ⟨S2x4x256, .f32⟩
  | .hbm, ⟨10, _⟩ => ⟨S2x4x256, .f32⟩
  | .hbm, ⟨11, _⟩ => ⟨S_, .f32⟩
  | .hbm, ⟨12, _⟩ => ⟨S2x4x256, .f32⟩
  | .hbm, ⟨13, _⟩ => ⟨S2x4x256, .f32⟩
  | .hbm, ⟨14, _⟩ => ⟨S2x4x256, .f32⟩
  | .hbm, ⟨15, _⟩ => ⟨S_, .f32⟩
  | .hbm, ⟨16, _⟩ => ⟨S2x4x256, .f32⟩
  | .hbm, ⟨17, _⟩ => ⟨S2x4x256, .f32⟩
  | .hbm, ⟨18, _⟩ => ⟨S2x4x256, .f32⟩
  | .hbm, ⟨19, _⟩ => ⟨S_, .f32⟩
  | .hbm, ⟨20, _⟩ => ⟨S2x4x256, .f32⟩
  | .hbm, ⟨21, _⟩ => ⟨S2x4x256, .f32⟩
  | .hbm, ⟨22, _⟩ => ⟨S_, .f32⟩
  | .hbm, ⟨23, _⟩ => ⟨S2x4x256, .f32⟩
  | .hbm, ⟨24, _⟩ => ⟨S2x4x256, .f32⟩
  | .hbm, ⟨25, _⟩ => ⟨S2x4x256, .f32⟩
  | .hbm, ⟨26, _⟩ => ⟨S_, .f32⟩
  | .hbm, ⟨27, _⟩ => ⟨S2x4x256, .f32⟩
  | .hbm, ⟨28, _⟩ => ⟨S2x4x256, .f32⟩
  | .hbm, ⟨29, _⟩ => ⟨S2x4x256, .f32⟩
  | .hbm, ⟨30, _⟩ => ⟨S_, .f32⟩
  | .hbm, ⟨31, _⟩ => ⟨S2x4x256, .f32⟩
  | .hbm, ⟨32, _⟩ => ⟨S2x4x256, .f32⟩
  | .hbm, ⟨33, _⟩ => ⟨S2x4x256, .f32⟩
  | .hbm, ⟨34, _⟩ => ⟨S_, .f32⟩
  | .hbm, ⟨35, _⟩ => ⟨S2x4x256, .f32⟩
  | .hbm, ⟨36, _⟩ => ⟨S2x4x256, .f32⟩
  | .hbm, ⟨37, _⟩ => ⟨S8x256, .f32⟩
  | .hbm, ⟨38, _⟩ => ⟨S8x256, .f32⟩
  | .hbm, ⟨39, _⟩ => ⟨S8x256, .f32⟩
  | _, _ => ⟨S2x4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamGdn.lean ====
abbrev S2x4x768 : Shape := ⟨3, ![2, 4, 768]⟩
abbrev S8x768 : Shape := ⟨2, ![8, 768]⟩

abbrev nBuf : Space → Nat
  | .hbm => 11
  | .vmem => 7
  | .smem => 0
  | _ => 0

abbrev bufTy : (tb : Table) → Fin (tcTables nBuf tb) → BufTy
  | .hbm, ⟨0, _⟩ => ⟨S2x4x768, .f32⟩
  | .hbm, ⟨1, _⟩ => ⟨S2x4x768, .f32⟩
  | .hbm, ⟨2, _⟩ => ⟨S2x4x768, .f32⟩
  | .hbm, ⟨3, _⟩ => ⟨S2x4x768, .f32⟩
  | .hbm, ⟨4, _⟩ => ⟨S8x768, .f32⟩
  | .hbm, ⟨5, _⟩ => ⟨S8x768, .f32⟩
  | .hbm, ⟨6, _⟩ => ⟨S8x768, .f32⟩
  | .hbm, ⟨7, _⟩ => ⟨S8x768, .f32⟩
  | .hbm, ⟨8, _⟩ => ⟨S8x768, .f32⟩
  | .hbm, ⟨9, _⟩ => ⟨S8x768, .f32⟩
  | .hbm, ⟨10, _⟩ => ⟨S8x768, .f32⟩
  | .local _ .vmem, ⟨0, _⟩ => ⟨S8x768, .f32⟩
  | .local _ .vmem, ⟨1, _⟩ => ⟨S8x768, .f32⟩
  | .local _ .vmem, ⟨2, _⟩ => ⟨S8x768, .f32⟩
  | .local _ .vmem, ⟨3, _⟩ => ⟨S8x768, .f32⟩
  | .local _ .vmem, ⟨4, _⟩ => ⟨S8x768, .f32⟩
  | .local _ .vmem, ⟨5, _⟩ => ⟨S8x768, .f32⟩
  | .local _ .vmem, ⟨6, _⟩ => ⟨S8x768, .f32⟩
  | _, _ => ⟨S2x4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGdnIdeal.lean ====
abbrev S2x4x768 : Shape := ⟨3, ![2, 4, 768]⟩
abbrev S8x768 : Shape := ⟨2, ![8, 768]⟩

abbrev nBuf : Space → Nat
  | .hbm => 11
  | .vmem => 7
  | .smem => 0
  | _ => 0

abbrev bufTy : (tb : Table) → Fin (tcTables nBuf tb) → BufTy
  | .hbm, ⟨0, _⟩ => ⟨S2x4x768, .f32⟩
  | .hbm, ⟨1, _⟩ => ⟨S2x4x768, .f32⟩
  | .hbm, ⟨2, _⟩ => ⟨S2x4x768, .f32⟩
  | .hbm, ⟨3, _⟩ => ⟨S2x4x768, .f32⟩
  | .hbm, ⟨4, _⟩ => ⟨S8x768, .f32⟩
  | .hbm, ⟨5, _⟩ => ⟨S8x768, .f32⟩
  | .hbm, ⟨6, _⟩ => ⟨S8x768, .f32⟩
  | .hbm, ⟨7, _⟩ => ⟨S8x768, .f32⟩
  | .hbm, ⟨8, _⟩ => ⟨S8x768, .f32⟩
  | .hbm, ⟨9, _⟩ => ⟨S8x768, .f32⟩
  | .hbm, ⟨10, _⟩ => ⟨S8x768, .f32⟩
  | .local _ .vmem, ⟨0, _⟩ => ⟨S8x768, .f32⟩
  | .local _ .vmem, ⟨1, _⟩ => ⟨S8x768, .f32⟩
  | .local _ .vmem, ⟨2, _⟩ => ⟨S8x768, .f32⟩
  | .local _ .vmem, ⟨3, _⟩ => ⟨S8x768, .f32⟩
  | .local _ .vmem, ⟨4, _⟩ => ⟨S8x768, .f32⟩
  | .local _ .vmem, ⟨5, _⟩ => ⟨S8x768, .f32⟩
  | .local _ .vmem, ⟨6, _⟩ => ⟨S8x768, .f32⟩
  | _, _ => ⟨S2x4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGdnRefIdeal.lean ====
abbrev S2x4x768 : Shape := ⟨3, ![2, 4, 768]⟩
abbrev S_ : Shape := ⟨0, ![]⟩
abbrev S8x768 : Shape := ⟨2, ![8, 768]⟩

abbrev nBuf : Space → Nat
  | .hbm => 40
  | .vmem => 0
  | .smem => 0
  | _ => 0

abbrev bufTy : (tb : Table) → Fin (tcTables nBuf tb) → BufTy
  | .hbm, ⟨0, _⟩ => ⟨S2x4x768, .f32⟩
  | .hbm, ⟨1, _⟩ => ⟨S2x4x768, .f32⟩
  | .hbm, ⟨2, _⟩ => ⟨S2x4x768, .f32⟩
  | .hbm, ⟨3, _⟩ => ⟨S2x4x768, .f32⟩
  | .hbm, ⟨4, _⟩ => ⟨S_, .f32⟩
  | .hbm, ⟨5, _⟩ => ⟨S2x4x768, .f32⟩
  | .hbm, ⟨6, _⟩ => ⟨S2x4x768, .f32⟩
  | .hbm, ⟨7, _⟩ => ⟨S_, .f32⟩
  | .hbm, ⟨8, _⟩ => ⟨S2x4x768, .f32⟩
  | .hbm, ⟨9, _⟩ => ⟨S2x4x768, .f32⟩
  | .hbm, ⟨10, _⟩ => ⟨S2x4x768, .f32⟩
  | .hbm, ⟨11, _⟩ => ⟨S_, .f32⟩
  | .hbm, ⟨12, _⟩ => ⟨S2x4x768, .f32⟩
  | .hbm, ⟨13, _⟩ => ⟨S2x4x768, .f32⟩
  | .hbm, ⟨14, _⟩ => ⟨S2x4x768, .f32⟩
  | .hbm, ⟨15, _⟩ => ⟨S_, .f32⟩
  | .hbm, ⟨16, _⟩ => ⟨S2x4x768, .f32⟩
  | .hbm, ⟨17, _⟩ => ⟨S2x4x768, .f32⟩
  | .hbm, ⟨18, _⟩ => ⟨S2x4x768, .f32⟩
  | .hbm, ⟨19, _⟩ => ⟨S_, .f32⟩
  | .hbm, ⟨20, _⟩ => ⟨S2x4x768, .f32⟩
  | .hbm, ⟨21, _⟩ => ⟨S2x4x768, .f32⟩
  | .hbm, ⟨22, _⟩ => ⟨S_, .f32⟩
  | .hbm, ⟨23, _⟩ => ⟨S2x4x768, .f32⟩
  | .hbm, ⟨24, _⟩ => ⟨S2x4x768, .f32⟩
  | .hbm, ⟨25, _⟩ => ⟨S2x4x768, .f32⟩
  | .hbm, ⟨26, _⟩ => ⟨S_, .f32⟩
  | .hbm, ⟨27, _⟩ => ⟨S2x4x768, .f32⟩
  | .hbm, ⟨28, _⟩ => ⟨S2x4x768, .f32⟩
  | .hbm, ⟨29, _⟩ => ⟨S2x4x768, .f32⟩
  | .hbm, ⟨30, _⟩ => ⟨S_, .f32⟩
  | .hbm, ⟨31, _⟩ => ⟨S2x4x768, .f32⟩
  | .hbm, ⟨32, _⟩ => ⟨S2x4x768, .f32⟩
  | .hbm, ⟨33, _⟩ => ⟨S2x4x768, .f32⟩
  | .hbm, ⟨34, _⟩ => ⟨S_, .f32⟩
  | .hbm, ⟨35, _⟩ => ⟨S2x4x768, .f32⟩
  | .hbm, ⟨36, _⟩ => ⟨S2x4x768, .f32⟩
  | .hbm, ⟨37, _⟩ => ⟨S8x768, .f32⟩
  | .hbm, ⟨38, _⟩ => ⟨S8x768, .f32⟩
  | .hbm, ⟨39, _⟩ => ⟨S8x768, .f32⟩
  | _, _ => ⟨S2x4x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamBranch.lean ====
abbrev S2x3x1024x512 : Shape := ⟨4, ![2, 3, 1024, 512]⟩
abbrev S6144x512 : Shape := ⟨2, ![6144, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S2x3x1024x512, .f32⟩
  | .hbm, ⟨1, _⟩ => ⟨S2x3x1024x512, .f32⟩
  | .hbm, ⟨2, _⟩ => ⟨S2x3x1024x512, .f32⟩
  | .hbm, ⟨3, _⟩ => ⟨S2x3x1024x512, .f32⟩
  | .hbm, ⟨4, _⟩ => ⟨S6144x512, .f32⟩
  | .hbm, ⟨5, _⟩ => ⟨S6144x512, .f32⟩
  | .hbm, ⟨6, _⟩ => ⟨S6144x512, .f32⟩
  | .hbm, ⟨7, _⟩ => ⟨S6144x512, .f32⟩
  | .hbm, ⟨8, _⟩ => ⟨S6144x512, .f32⟩
  | .hbm, ⟨9, _⟩ => ⟨S6144x512, .f32⟩
  | .hbm, ⟨10, _⟩ => ⟨S6144x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S2x3x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBranchIdeal.lean ====
abbrev S2x3x1024x512 : Shape := ⟨4, ![2, 3, 1024, 512]⟩
abbrev S6144x512 : Shape := ⟨2, ![6144, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S2x3x1024x512, .f32⟩
  | .hbm, ⟨1, _⟩ => ⟨S2x3x1024x512, .f32⟩
  | .hbm, ⟨2, _⟩ => ⟨S2x3x1024x512, .f32⟩
  | .hbm, ⟨3, _⟩ => ⟨S2x3x1024x512, .f32⟩
  | .hbm, ⟨4, _⟩ => ⟨S6144x512, .f32⟩
  | .hbm, ⟨5, _⟩ => ⟨S6144x512, .f32⟩
  | .hbm, ⟨6, _⟩ => ⟨S6144x512, .f32⟩
  | .hbm, ⟨7, _⟩ => ⟨S6144x512, .f32⟩
  | .hbm, ⟨8, _⟩ => ⟨S6144x512, .f32⟩
  | .hbm, ⟨9, _⟩ => ⟨S6144x512, .f32⟩
  | .hbm, ⟨10, _⟩ => ⟨S6144x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S2x3x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBranchRefIdeal.lean ====
abbrev S2x3x1024x512 : Shape := ⟨4, ![2, 3, 1024, 512]⟩
abbrev S_ : Shape := ⟨0, ![]⟩
abbrev S6144x512 : Shape := ⟨2, ![6144, 512]⟩

abbrev nBuf : Space → Nat
  | .hbm => 40
  | .vmem => 0
  | .smem => 0
  | _ => 0

abbrev bufTy : (tb : Table) → Fin (tcTables nBuf tb) → BufTy
  | .hbm, ⟨0, _⟩ => ⟨S2x3x1024x512, .f32⟩
  | .hbm, ⟨1, _⟩ => ⟨S2x3x1024x512, .f32⟩
  | .hbm, ⟨2, _⟩ => ⟨S2x3x1024x512, .f32⟩
  | .hbm, ⟨3, _⟩ => ⟨S2x3x1024x512, .f32⟩
  | .hbm, ⟨4, _⟩ => ⟨S_, .f32⟩
  | .hbm, ⟨5, _⟩ => ⟨S2x3x1024x512, .f32⟩
  | .hbm, ⟨6, _⟩ => ⟨S2x3x1024x512, .f32⟩
  | .hbm, ⟨7, _⟩ => ⟨S_, .f32⟩
  | .hbm, ⟨8, _⟩ => ⟨S2x3x1024x512, .f32⟩
  | .hbm, ⟨9, _⟩ => ⟨S2x3x1024x512, .f32⟩
  | .hbm, ⟨10, _⟩ => ⟨S2x3x1024x512, .f32⟩
  | .hbm, ⟨11, _⟩ => ⟨S_, .f32⟩
  | .hbm, ⟨12, _⟩ => ⟨S2x3x1024x512, .f32⟩
  | .hbm, ⟨13, _⟩ => ⟨S2x3x1024x512, .f32⟩
  | .hbm, ⟨14, _⟩ => ⟨S2x3x1024x512, .f32⟩
  | .hbm, ⟨15, _⟩ => ⟨S_, .f32⟩
  | .hbm, ⟨16, _⟩ => ⟨S2x3x1024x512, .f32⟩
  | .hbm, ⟨17, _⟩ => ⟨S2x3x1024x512, .f32⟩
  | .hbm, ⟨18, _⟩ => ⟨S2x3x1024x512, .f32⟩
  | .hbm, ⟨19, _⟩ => ⟨S_, .f32⟩
  | .hbm, ⟨20, _⟩ => ⟨S2x3x1024x512, .f32⟩
  | .hbm, ⟨21, _⟩ => ⟨S2x3x1024x512, .f32⟩
  | .hbm, ⟨22, _⟩ => ⟨S_, .f32⟩
  | .hbm, ⟨23, _⟩ => ⟨S2x3x1024x512, .f32⟩
  | .hbm, ⟨24, _⟩ => ⟨S2x3x1024x512, .f32⟩
  | .hbm, ⟨25, _⟩ => ⟨S2x3x1024x512, .f32⟩
  | .hbm, ⟨26, _⟩ => ⟨S_, .f32⟩
  | .hbm, ⟨27, _⟩ => ⟨S2x3x1024x512, .f32⟩
  | .hbm, ⟨28, _⟩ => ⟨S2x3x1024x512, .f32⟩
  | .hbm, ⟨29, _⟩ => ⟨S2x3x1024x512, .f32⟩
  | .hbm, ⟨30, _⟩ => ⟨S_, .f32⟩
  | .hbm, ⟨31, _⟩ => ⟨S2x3x1024x512, .f32⟩
  | .hbm, ⟨32, _⟩ => ⟨S2x3x1024x512, .f32⟩
  | .hbm, ⟨33, _⟩ => ⟨S2x3x1024x512, .f32⟩
  | .hbm, ⟨34, _⟩ => ⟨S_, .f32⟩
  | .hbm, ⟨35, _⟩ => ⟨S2x3x1024x512, .f32⟩
  | .hbm, ⟨36, _⟩ => ⟨S2x3x1024x512, .f32⟩
  | .hbm, ⟨37, _⟩ => ⟨S6144x512, .f32⟩
  | .hbm, ⟨38, _⟩ => ⟨S6144x512, .f32⟩
  | .hbm, ⟨39, _⟩ => ⟨S6144x512, .f32⟩
  | _, _ => ⟨S2x3x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamBias.lean ====
abbrev S2x3x512 : Shape := ⟨3, ![2, 3, 512]⟩
abbrev S6x512 : Shape := ⟨2, ![6, 512]⟩

abbrev nBuf : Space → Nat
  | .hbm => 11
  | .vmem => 7
  | .smem => 0
  | _ => 0

abbrev bufTy : (tb : Table) → Fin (tcTables nBuf tb) → BufTy
  | .hbm, ⟨0, _⟩ => ⟨S2x3x512, .f32⟩
  | .hbm, ⟨1, _⟩ => ⟨S2x3x512, .f32⟩
  | .hbm, ⟨2, _⟩ => ⟨S2x3x512, .f32⟩
  | .hbm, ⟨3, _⟩ => ⟨S2x3x512, .f32⟩
  | .hbm, ⟨4, _⟩ => ⟨S6x512, .f32⟩
  | .hbm, ⟨5, _⟩ => ⟨S6x512, .f32⟩
  | .hbm, ⟨6, _⟩ => ⟨S6x512, .f32⟩
  | .hbm, ⟨7, _⟩ => ⟨S6x512, .f32⟩
  | .hbm, ⟨8, _⟩ => ⟨S6x512, .f32⟩
  | .hbm, ⟨9, _⟩ => ⟨S6x512, .f32⟩
  | .hbm, ⟨10, _⟩ => ⟨S6x512, .f32⟩
  | .local _ .vmem, ⟨0, _⟩ => ⟨S6x512, .f32⟩
  | .local _ .vmem, ⟨1, _⟩ => ⟨S6x512, .f32⟩
  | .local _ .vmem, ⟨2, _⟩ => ⟨S6x512, .f32⟩
  | .local _ .vmem, ⟨3, _⟩ => ⟨S6x512, .f32⟩
  | .local _ .vmem, ⟨4, _⟩ => ⟨S6x512, .f32⟩
  | .local _ .vmem, ⟨5, _⟩ => ⟨S6x512, .f32⟩
  | .local _ .vmem, ⟨6, _⟩ => ⟨S6x512, .f32⟩
  | _, _ => ⟨S2x3x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBiasIdeal.lean ====
abbrev S2x3x512 : Shape := ⟨3, ![2, 3, 512]⟩
abbrev S6x512 : Shape := ⟨2, ![6, 512]⟩

abbrev nBuf : Space → Nat
  | .hbm => 11
  | .vmem => 7
  | .smem => 0
  | _ => 0

abbrev bufTy : (tb : Table) → Fin (tcTables nBuf tb) → BufTy
  | .hbm, ⟨0, _⟩ => ⟨S2x3x512, .f32⟩
  | .hbm, ⟨1, _⟩ => ⟨S2x3x512, .f32⟩
  | .hbm, ⟨2, _⟩ => ⟨S2x3x512, .f32⟩
  | .hbm, ⟨3, _⟩ => ⟨S2x3x512, .f32⟩
  | .hbm, ⟨4, _⟩ => ⟨S6x512, .f32⟩
  | .hbm, ⟨5, _⟩ => ⟨S6x512, .f32⟩
  | .hbm, ⟨6, _⟩ => ⟨S6x512, .f32⟩
  | .hbm, ⟨7, _⟩ => ⟨S6x512, .f32⟩
  | .hbm, ⟨8, _⟩ => ⟨S6x512, .f32⟩
  | .hbm, ⟨9, _⟩ => ⟨S6x512, .f32⟩
  | .hbm, ⟨10, _⟩ => ⟨S6x512, .f32⟩
  | .local _ .vmem, ⟨0, _⟩ => ⟨S6x512, .f32⟩
  | .local _ .vmem, ⟨1, _⟩ => ⟨S6x512, .f32⟩
  | .local _ .vmem, ⟨2, _⟩ => ⟨S6x512, .f32⟩
  | .local _ .vmem, ⟨3, _⟩ => ⟨S6x512, .f32⟩
  | .local _ .vmem, ⟨4, _⟩ => ⟨S6x512, .f32⟩
  | .local _ .vmem, ⟨5, _⟩ => ⟨S6x512, .f32⟩
  | .local _ .vmem, ⟨6, _⟩ => ⟨S6x512, .f32⟩
  | _, _ => ⟨S2x3x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBiasRefIdeal.lean ====
abbrev S2x3x512 : Shape := ⟨3, ![2, 3, 512]⟩
abbrev S_ : Shape := ⟨0, ![]⟩
abbrev S6x512 : Shape := ⟨2, ![6, 512]⟩

abbrev nBuf : Space → Nat
  | .hbm => 40
  | .vmem => 0
  | .smem => 0
  | _ => 0

abbrev bufTy : (tb : Table) → Fin (tcTables nBuf tb) → BufTy
  | .hbm, ⟨0, _⟩ => ⟨S2x3x512, .f32⟩
  | .hbm, ⟨1, _⟩ => ⟨S2x3x512, .f32⟩
  | .hbm, ⟨2, _⟩ => ⟨S2x3x512, .f32⟩
  | .hbm, ⟨3, _⟩ => ⟨S2x3x512, .f32⟩
  | .hbm, ⟨4, _⟩ => ⟨S_, .f32⟩
  | .hbm, ⟨5, _⟩ => ⟨S2x3x512, .f32⟩
  | .hbm, ⟨6, _⟩ => ⟨S2x3x512, .f32⟩
  | .hbm, ⟨7, _⟩ => ⟨S_, .f32⟩
  | .hbm, ⟨8, _⟩ => ⟨S2x3x512, .f32⟩
  | .hbm, ⟨9, _⟩ => ⟨S2x3x512, .f32⟩
  | .hbm, ⟨10, _⟩ => ⟨S2x3x512, .f32⟩
  | .hbm, ⟨11, _⟩ => ⟨S_, .f32⟩
  | .hbm, ⟨12, _⟩ => ⟨S2x3x512, .f32⟩
  | .hbm, ⟨13, _⟩ => ⟨S2x3x512, .f32⟩
  | .hbm, ⟨14, _⟩ => ⟨S2x3x512, .f32⟩
  | .hbm, ⟨15, _⟩ => ⟨S_, .f32⟩
  | .hbm, ⟨16, _⟩ => ⟨S2x3x512, .f32⟩
  | .hbm, ⟨17, _⟩ => ⟨S2x3x512, .f32⟩
  | .hbm, ⟨18, _⟩ => ⟨S2x3x512, .f32⟩
  | .hbm, ⟨19, _⟩ => ⟨S_, .f32⟩
  | .hbm, ⟨20, _⟩ => ⟨S2x3x512, .f32⟩
  | .hbm, ⟨21, _⟩ => ⟨S2x3x512, .f32⟩
  | .hbm, ⟨22, _⟩ => ⟨S_, .f32⟩
  | .hbm, ⟨23, _⟩ => ⟨S2x3x512, .f32⟩
  | .hbm, ⟨24, _⟩ => ⟨S2x3x512, .f32⟩
  | .hbm, ⟨25, _⟩ => ⟨S2x3x512, .f32⟩
  | .hbm, ⟨26, _⟩ => ⟨S_, .f32⟩
  | .hbm, ⟨27, _⟩ => ⟨S2x3x512, .f32⟩
  | .hbm, ⟨28, _⟩ => ⟨S2x3x512, .f32⟩
  | .hbm, ⟨29, _⟩ => ⟨S2x3x512, .f32⟩
  | .hbm, ⟨30, _⟩ => ⟨S_, .f32⟩
  | .hbm, ⟨31, _⟩ => ⟨S2x3x512, .f32⟩
  | .hbm, ⟨32, _⟩ => ⟨S2x3x512, .f32⟩
  | .hbm, ⟨33, _⟩ => ⟨S2x3x512, .f32⟩
  | .hbm, ⟨34, _⟩ => ⟨S_, .f32⟩
  | .hbm, ⟨35, _⟩ => ⟨S2x3x512, .f32⟩
  | .hbm, ⟨36, _⟩ => ⟨S2x3x512, .f32⟩
  | .hbm, ⟨37, _⟩ => ⟨S6x512, .f32⟩
  | .hbm, ⟨38, _⟩ => ⟨S6x512, .f32⟩
  | .hbm, ⟨39, _⟩ => ⟨S6x512, .f32⟩
  | _, _ => ⟨S2x3x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamOut.lean ====
abbrev S2x512x2048 : Shape := ⟨3, ![2, 512, 2048]⟩
abbrev S1024x2048 : Shape := ⟨2, ![1024, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutIdeal.lean ====
abbrev S2x512x2048 : Shape := ⟨3, ![2, 512, 2048]⟩
abbrev S1024x2048 : Shape := ⟨2, ![1024, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutRefIdeal.lean ====
abbrev S2x512x2048 : Shape := ⟨3, ![2, 512, 2048]⟩
abbrev S_ : Shape := ⟨0, ![]⟩
abbrev S1024x2048 : Shape := ⟨2, ![1024, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S_, .f32⟩
  | .hbm, ⟨5, _⟩ => ⟨S2x512x2048, .f32⟩
  | .hbm, ⟨6, _⟩ => ⟨S2x512x2048, .f32⟩
  | .hbm, ⟨7, _⟩ => ⟨S_, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S_, .f32⟩
  | .hbm, ⟨12, _⟩ => ⟨S2x512x2048, .f32⟩
  | .hbm, ⟨13, _⟩ => ⟨S2x512x2048, .f32⟩
  | .hbm, ⟨14, _⟩ => ⟨S2x512x2048, .f32⟩
  | .hbm, ⟨15, _⟩ => ⟨S_, .f32⟩
  | .hbm, ⟨16, _⟩ => ⟨S2x512x2048, .f32⟩
  | .hbm, ⟨17, _⟩ => ⟨S2x512x2048, .f32⟩
  | .hbm, ⟨18, _⟩ => ⟨S2x512x2048, .f32⟩
  | .hbm, ⟨19, _⟩ => ⟨S_, .f32⟩
  | .hbm, ⟨20, _⟩ => ⟨S2x512x2048, .f32⟩
  | .hbm, ⟨21, _⟩ => ⟨S2x512x2048, .f32⟩
  | .hbm, ⟨22, _⟩ => ⟨S_, .f32⟩
  | .hbm, ⟨23, _⟩ => ⟨S2x512x2048, .f32⟩
  | .hbm, ⟨24, _⟩ => ⟨S2x512x2048, .f32⟩
  | .hbm, ⟨25, _⟩ => ⟨S2x512x2048, .f32⟩
  | .hbm, ⟨26, _⟩ => ⟨S_, .f32⟩
  | .hbm, ⟨27, _⟩ => ⟨S2x512x2048, .f32⟩
  | .hbm, ⟨28, _⟩ => ⟨S2x512x2048, .f32⟩
  | .hbm, ⟨29, _⟩ => ⟨S2x512x2048, .f32⟩
  | .hbm, ⟨30, _⟩ => ⟨S_, .f32⟩
  | .hbm, ⟨31, _⟩ => ⟨S2x512x2048, .f32⟩
  | .hbm, ⟨32, _⟩ => ⟨S2x512x2048, .f32⟩
  | .hbm, ⟨33, _⟩ => ⟨S2x512x2048, .f32⟩
  | .hbm, ⟨34, _⟩ => ⟨S_, .f32⟩
  | .hbm, ⟨35, _⟩ => ⟨S2x512x2048, .f32⟩
  | .hbm, ⟨36, _⟩ => ⟨S2x512x2048, .f32⟩
  | .hbm, ⟨37, _⟩ => ⟨S1024x2048, .f32⟩
  | .hbm, ⟨38, _⟩ => ⟨S1024x2048, .f32⟩
  | .hbm, ⟨39, _⟩ => ⟨S1024x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamGate.lean ====
abbrev S2x2048x1408 : Shape := ⟨3, ![2, 2048, 1408]⟩
abbrev S4096x1408 : Shape := ⟨2, ![4096, 1408]⟩
abbrev S128x1408 : Shape := ⟨2, ![128, 1408]⟩

abbrev nBuf : Space → Nat
  | .hbm => 11
  | .vmem => 14
  | .smem => 0
  | _ => 0

abbrev bufTy : (tb : Table) → Fin (tcTables nBuf tb) → BufTy
  | .hbm, ⟨0, _⟩ => ⟨S2x2048x1408, .f32⟩
  | .hbm, ⟨1, _⟩ => ⟨S2x2048x1408, .f32⟩
  | .hbm, ⟨2, _⟩ => ⟨S2x2048x1408, .f32⟩
  | .hbm, ⟨3, _⟩ => ⟨S2x2048x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S2x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGateIdeal.lean ====
abbrev S2x2048x1408 : Shape := ⟨3, ![2, 2048, 1408]⟩
abbrev S4096x1408 : Shape := ⟨2, ![4096, 1408]⟩
abbrev S128x1408 : Shape := ⟨2, ![128, 1408]⟩

abbrev nBuf : Space → Nat
  | .hbm => 11
  | .vmem => 14
  | .smem => 0
  | _ => 0

abbrev bufTy : (tb : Table) → Fin (tcTables nBuf tb) → BufTy
  | .hbm, ⟨0, _⟩ => ⟨S2x2048x1408, .f32⟩
  | .hbm, ⟨1, _⟩ => ⟨S2x2048x1408, .f32⟩
  | .hbm, ⟨2, _⟩ => ⟨S2x2048x1408, .f32⟩
  | .hbm, ⟨3, _⟩ => ⟨S2x2048x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S2x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGateRefIdeal.lean ====
abbrev S2x2048x1408 : Shape := ⟨3, ![2, 2048, 1408]⟩
abbrev S_ : Shape := ⟨0, ![]⟩
abbrev S4096x1408 : Shape := ⟨2, ![4096, 1408]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x1408, .f32⟩
  | .hbm, ⟨1, _⟩ => ⟨S2x2048x1408, .f32⟩
  | .hbm, ⟨2, _⟩ => ⟨S2x2048x1408, .f32⟩
  | .hbm, ⟨3, _⟩ => ⟨S2x2048x1408, .f32⟩
  | .hbm, ⟨4, _⟩ => ⟨S_, .f32⟩
  | .hbm, ⟨5, _⟩ => ⟨S2x2048x1408, .f32⟩
  | .hbm, ⟨6, _⟩ => ⟨S2x2048x1408, .f32⟩
  | .hbm, ⟨7, _⟩ => ⟨S_, .f32⟩
  | .hbm, ⟨8, _⟩ => ⟨S2x2048x1408, .f32⟩
  | .hbm, ⟨9, _⟩ => ⟨S2x2048x1408, .f32⟩
  | .hbm, ⟨10, _⟩ => ⟨S2x2048x1408, .f32⟩
  | .hbm, ⟨11, _⟩ => ⟨S_, .f32⟩
  | .hbm, ⟨12, _⟩ => ⟨S2x2048x1408, .f32⟩
  | .hbm, ⟨13, _⟩ => ⟨S2x2048x1408, .f32⟩
  | .hbm, ⟨14, _⟩ => ⟨S2x2048x1408, .f32⟩
  | .hbm, ⟨15, _⟩ => ⟨S_, .f32⟩
  | .hbm, ⟨16, _⟩ => ⟨S2x2048x1408, .f32⟩
  | .hbm, ⟨17, _⟩ => ⟨S2x2048x1408, .f32⟩
  | .hbm, ⟨18, _⟩ => ⟨S2x2048x1408, .f32⟩
  | .hbm, ⟨19, _⟩ => ⟨S_, .f32⟩
  | .hbm, ⟨20, _⟩ => ⟨S2x2048x1408, .f32⟩
  | .hbm, ⟨21, _⟩ => ⟨S2x2048x1408, .f32⟩
  | .hbm, ⟨22, _⟩ => ⟨S_, .f32⟩
  | .hbm, ⟨23, _⟩ => ⟨S2x2048x1408, .f32⟩
  | .hbm, ⟨24, _⟩ => ⟨S2x2048x1408, .f32⟩
  | .hbm, ⟨25, _⟩ => ⟨S2x2048x1408, .f32⟩
  | .hbm, ⟨26, _⟩ => ⟨S_, .f32⟩
  | .hbm, ⟨27, _⟩ => ⟨S2x2048x1408, .f32⟩
  | .hbm, ⟨28, _⟩ => ⟨S2x2048x1408, .f32⟩
  | .hbm, ⟨29, _⟩ => ⟨S2x2048x1408, .f32⟩
  | .hbm, ⟨30, _⟩ => ⟨S_, .f32⟩
  | .hbm, ⟨31, _⟩ => ⟨S2x2048x1408, .f32⟩
  | .hbm, ⟨32, _⟩ => ⟨S2x2048x1408, .f32⟩
  | .hbm, ⟨33, _⟩ => ⟨S2x2048x1408, .f32⟩
  | .hbm, ⟨34, _⟩ => ⟨S_, .f32⟩
  | .hbm, ⟨35, _⟩ => ⟨S2x2048x1408, .f32⟩
  | .hbm, ⟨36, _⟩ => ⟨S2x2048x1408, .f32⟩
  | .hbm, ⟨37, _⟩ => ⟨S4096x1408, .f32⟩
  | .hbm, ⟨38, _⟩ => ⟨S4096x1408, .f32⟩
  | .hbm, ⟨39, _⟩ => ⟨S4096x1408, .f32⟩
  | _, _ => ⟨S2x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamDown.lean ====
abbrev S2x1408x2048 : Shape := ⟨3, ![2, 1408, 2048]⟩
abbrev S2816x2048 : Shape := ⟨2, ![2816, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S2x1408x2048, .f32⟩
  | .hbm, ⟨1, _⟩ => ⟨S2x1408x2048, .f32⟩
  | .hbm, ⟨2, _⟩ => ⟨S2x1408x2048, .f32⟩
  | .hbm, ⟨3, _⟩ => ⟨S2x1408x2048, .f32⟩
  | .hbm, ⟨4, _⟩ => ⟨S2816x2048, .f32⟩
  | .hbm, ⟨5, _⟩ => ⟨S2816x2048, .f32⟩
  | .hbm, ⟨6, _⟩ => ⟨S2816x2048, .f32⟩
  | .hbm, ⟨7, _⟩ => ⟨S2816x2048, .f32⟩
  | .hbm, ⟨8, _⟩ => ⟨S2816x2048, .f32⟩
  | .hbm, ⟨9, _⟩ => ⟨S2816x2048, .f32⟩
  | .hbm, ⟨10, _⟩ => ⟨S2816x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S2x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownIdeal.lean ====
abbrev S2x1408x2048 : Shape := ⟨3, ![2, 1408, 2048]⟩
abbrev S2816x2048 : Shape := ⟨2, ![2816, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S2x1408x2048, .f32⟩
  | .hbm, ⟨1, _⟩ => ⟨S2x1408x2048, .f32⟩
  | .hbm, ⟨2, _⟩ => ⟨S2x1408x2048, .f32⟩
  | .hbm, ⟨3, _⟩ => ⟨S2x1408x2048, .f32⟩
  | .hbm, ⟨4, _⟩ => ⟨S2816x2048, .f32⟩
  | .hbm, ⟨5, _⟩ => ⟨S2816x2048, .f32⟩
  | .hbm, ⟨6, _⟩ => ⟨S2816x2048, .f32⟩
  | .hbm, ⟨7, _⟩ => ⟨S2816x2048, .f32⟩
  | .hbm, ⟨8, _⟩ => ⟨S2816x2048, .f32⟩
  | .hbm, ⟨9, _⟩ => ⟨S2816x2048, .f32⟩
  | .hbm, ⟨10, _⟩ => ⟨S2816x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S2x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S2x1408x2048 : Shape := ⟨3, ![2, 1408, 2048]⟩
abbrev S_ : Shape := ⟨0, ![]⟩
abbrev S2816x2048 : Shape := ⟨2, ![2816, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2x1408x2048, .f32⟩
  | .hbm, ⟨1, _⟩ => ⟨S2x1408x2048, .f32⟩
  | .hbm, ⟨2, _⟩ => ⟨S2x1408x2048, .f32⟩
  | .hbm, ⟨3, _⟩ => ⟨S2x1408x2048, .f32⟩
  | .hbm, ⟨4, _⟩ => ⟨S_, .f32⟩
  | .hbm, ⟨5, _⟩ => ⟨S2x1408x2048, .f32⟩
  | .hbm, ⟨6, _⟩ => ⟨S2x1408x2048, .f32⟩
  | .hbm, ⟨7, _⟩ => ⟨S_, .f32⟩
  | .hbm, ⟨8, _⟩ => ⟨S2x1408x2048, .f32⟩
  | .hbm, ⟨9, _⟩ => ⟨S2x1408x2048, .f32⟩
  | .hbm, ⟨10, _⟩ => ⟨S2x1408x2048, .f32⟩
  | .hbm, ⟨11, _⟩ => ⟨S_, .f32⟩
  | .hbm, ⟨12, _⟩ => ⟨S2x1408x2048, .f32⟩
  | .hbm, ⟨13, _⟩ => ⟨S2x1408x2048, .f32⟩
  | .hbm, ⟨14, _⟩ => ⟨S2x1408x2048, .f32⟩
  | .hbm, ⟨15, _⟩ => ⟨S_, .f32⟩
  | .hbm, ⟨16, _⟩ => ⟨S2x1408x2048, .f32⟩
  | .hbm, ⟨17, _⟩ => ⟨S2x1408x2048, .f32⟩
  | .hbm, ⟨18, _⟩ => ⟨S2x1408x2048, .f32⟩
  | .hbm, ⟨19, _⟩ => ⟨S_, .f32⟩
  | .hbm, ⟨20, _⟩ => ⟨S2x1408x2048, .f32⟩
  | .hbm, ⟨21, _⟩ => ⟨S2x1408x2048, .f32⟩
  | .hbm, ⟨22, _⟩ => ⟨S_, .f32⟩
  | .hbm, ⟨23, _⟩ => ⟨S2x1408x2048, .f32⟩
  | .hbm, ⟨24, _⟩ => ⟨S2x1408x2048, .f32⟩
  | .hbm, ⟨25, _⟩ => ⟨S2x1408x2048, .f32⟩
  | .hbm, ⟨26, _⟩ => ⟨S_, .f32⟩
  | .hbm, ⟨27, _⟩ => ⟨S2x1408x2048, .f32⟩
  | .hbm, ⟨28, _⟩ => ⟨S2x1408x2048, .f32⟩
  | .hbm, ⟨29, _⟩ => ⟨S2x1408x2048, .f32⟩
  | .hbm, ⟨30, _⟩ => ⟨S_, .f32⟩
  | .hbm, ⟨31, _⟩ => ⟨S2x1408x2048, .f32⟩
  | .hbm, ⟨32, _⟩ => ⟨S2x1408x2048, .f32⟩
  | .hbm, ⟨33, _⟩ => ⟨S2x1408x2048, .f32⟩
  | .hbm, ⟨34, _⟩ => ⟨S_, .f32⟩
  | .hbm, ⟨35, _⟩ => ⟨S2x1408x2048, .f32⟩
  | .hbm, ⟨36, _⟩ => ⟨S2x1408x2048, .f32⟩
  | .hbm, ⟨37, _⟩ => ⟨S2816x2048, .f32⟩
  | .hbm, ⟨38, _⟩ => ⟨S2816x2048, .f32⟩
  | .hbm, ⟨39, _⟩ => ⟨S2816x2048, .f32⟩
  | _, _ => ⟨S2x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamRep.lean ====
abbrev S8704x128 : Shape := ⟨2, ![8704, 128]⟩
abbrev S2176x128 : Shape := ⟨2, ![2176, 128]⟩

abbrev nBuf : Space → Nat
  | .hbm => 7
  | .vmem => 14
  | .smem => 0
  | _ => 0

abbrev bufTy : (tb : Table) → Fin (tcTables nBuf tb) → BufTy
  | .hbm, ⟨0, _⟩ => ⟨S8704x128, .f32⟩
  | .hbm, ⟨1, _⟩ => ⟨S8704x128, .f32⟩
  | .hbm, ⟨2, _⟩ => ⟨S8704x128, .f32⟩
  | .hbm, ⟨3, _⟩ => ⟨S8704x128, .f32⟩
  | .hbm, ⟨4, _⟩ => ⟨S8704x128, .f32⟩
  | .hbm, ⟨5, _⟩ => ⟨S8704x128, .f32⟩
  | .hbm, ⟨6, _⟩ => ⟨S8704x128, .f32⟩
  | .local _ .vmem, ⟨0, _⟩ => ⟨S2176x128, .f32⟩
  | .local _ .vmem, ⟨1, _⟩ => ⟨S2176x128, .f32⟩
  | .local _ .vmem, ⟨2, _⟩ => ⟨S2176x128, .f32⟩
  | .local _ .vmem, ⟨3, _⟩ => ⟨S2176x128, .f32⟩
  | .local _ .vmem, ⟨4, _⟩ => ⟨S2176x128, .f32⟩
  | .local _ .vmem, ⟨5, _⟩ => ⟨S2176x128, .f32⟩
  | .local _ .vmem, ⟨6, _⟩ => ⟨S2176x128, .f32⟩
  | .local _ .vmem, ⟨7, _⟩ => ⟨S2176x128, .f32⟩
  | .local _ .vmem, ⟨8, _⟩ => ⟨S2176x128, .f32⟩
  | .local _ .vmem, ⟨9, _⟩ => ⟨S2176x128, .f32⟩
  | .local _ .vmem, ⟨10, _⟩ => ⟨S2176x128, .f32⟩
  | .local _ .vmem, ⟨11, _⟩ => ⟨S2176x128, .f32⟩
  | .local _ .vmem, ⟨12, _⟩ => ⟨S2176x128, .f32⟩
  | .local _ .vmem, ⟨13, _⟩ => ⟨S2176x128, .f32⟩
  | _, _ => ⟨S8704x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2176x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2176x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRepRefIdeal.lean ====
abbrev S8704x128 : Shape := ⟨2, ![8704, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8704x128, .f32⟩
  | .hbm, ⟨1, _⟩ => ⟨S8704x128, .f32⟩
  | .hbm, ⟨2, _⟩ => ⟨S8704x128, .f32⟩
  | .hbm, ⟨3, _⟩ => ⟨S8704x128, .f32⟩
  | .hbm, ⟨4, _⟩ => ⟨S_, .f32⟩
  | .hbm, ⟨5, _⟩ => ⟨S8704x128, .f32⟩
  | .hbm, ⟨6, _⟩ => ⟨S8704x128, .f32⟩
  | .hbm, ⟨7, _⟩ => ⟨S_, .f32⟩
  | .hbm, ⟨8, _⟩ => ⟨S8704x128, .f32⟩
  | .hbm, ⟨9, _⟩ => ⟨S8704x128, .f32⟩
  | .hbm, ⟨10, _⟩ => ⟨S8704x128, .f32⟩
  | .hbm, ⟨11, _⟩ => ⟨S_, .f32⟩
  | .hbm, ⟨12, _⟩ => ⟨S8704x128, .f32⟩
  | .hbm, ⟨13, _⟩ => ⟨S8704x128, .f32⟩
  | .hbm, ⟨14, _⟩ => ⟨S8704x128, .f32⟩
  | .hbm, ⟨15, _⟩ => ⟨S_, .f32⟩
  | .hbm, ⟨16, _⟩ => ⟨S8704x128, .f32⟩
  | .hbm, ⟨17, _⟩ => ⟨S8704x128, .f32⟩
  | .hbm, ⟨18, _⟩ => ⟨S8704x128, .f32⟩
  | .hbm, ⟨19, _⟩ => ⟨S_, .f32⟩
  | .hbm, ⟨20, _⟩ => ⟨S8704x128, .f32⟩
  | .hbm, ⟨21, _⟩ => ⟨S8704x128, .f32⟩
  | .hbm, ⟨22, _⟩ => ⟨S_, .f32⟩
  | .hbm, ⟨23, _⟩ => ⟨S8704x128, .f32⟩
  | .hbm, ⟨24, _⟩ => ⟨S8704x128, .f32⟩
  | .hbm, ⟨25, _⟩ => ⟨S8704x128, .f32⟩
  | .hbm, ⟨26, _⟩ => ⟨S_, .f32⟩
  | .hbm, ⟨27, _⟩ => ⟨S8704x128, .f32⟩
  | .hbm, ⟨28, _⟩ => ⟨S8704x128, .f32⟩
  | .hbm, ⟨29, _⟩ => ⟨S8704x128, .f32⟩
  | .hbm, ⟨30, _⟩ => ⟨S_, .f32⟩
  | .hbm, ⟨31, _⟩ => ⟨S8704x128, .f32⟩
  | .hbm, ⟨32, _⟩ => ⟨S8704x128, .f32⟩
  | .hbm, ⟨33, _⟩ => ⟨S8704x128, .f32⟩
  | .hbm, ⟨34, _⟩ => ⟨S_, .f32⟩
  | .hbm, ⟨35, _⟩ => ⟨S8704x128, .f32⟩
  | .hbm, ⟨36, _⟩ => ⟨S8704x128, .f32⟩
  | _, _ => ⟨S8704x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== RepSum.lean ====
abbrev S8x8704x128 : Shape := ⟨3, ![8, 8704, 128]⟩
abbrev S1x8704x128 : Shape := ⟨3, ![1, 8704, 128]⟩
abbrev S8704x128 : Shape := ⟨2, ![8704, 128]⟩
abbrev S1088x128 : Shape := ⟨2, ![1088, 128]⟩

abbrev nBuf : Space → Nat
  | .hbm => 18
  | .vmem => 18
  | .smem => 0
  | _ => 0

abbrev bufTy : (tb : Table) → Fin (tcTables nBuf tb) → BufTy
  | .hbm, ⟨0, _⟩ => ⟨S8x8704x128, .f32⟩
  | .hbm, ⟨1, _⟩ => ⟨S1x8704x128, .f32⟩
  | .hbm, ⟨2, _⟩ => ⟨S8704x128, .f32⟩
  | .hbm, ⟨3, _⟩ => ⟨S1x8704x128, .f32⟩
  | .hbm, ⟨4, _⟩ => ⟨S8704x128, .f32⟩
  | .hbm, ⟨5, _⟩ => ⟨S1x8704x128, .f32⟩
  | .hbm, ⟨6, _⟩ => ⟨S8704x128, .f32⟩
  | .hbm, ⟨7, _⟩ => ⟨S1x8704x128, .f32⟩
  | .hbm, ⟨8, _⟩ => ⟨S8704x128, .f32⟩
  | .hbm, ⟨9, _⟩ => ⟨S1x8704x128, .f32⟩
  | .hbm, ⟨10, _⟩ => ⟨S8704x128, .f32⟩
  | .hbm, ⟨11, _⟩ => ⟨S1x8704x128, .f32⟩
  | .hbm, ⟨12, _⟩ => ⟨S8704x128, .f32⟩
  | .hbm, ⟨13, _⟩ => ⟨S1x8704x128, .f32⟩
  | .hbm, ⟨14, _⟩ => ⟨S8704x128, .f32⟩
  | .hbm, ⟨15, _⟩ => ⟨S1x8704x128, .f32⟩
  | .hbm, ⟨16, _⟩ => ⟨S8704x128, .f32⟩
  | .hbm, ⟨17, _⟩ => ⟨S8704x128, .f32⟩
  | .local _ .vmem, ⟨0, _⟩ => ⟨S1088x128, .f32⟩
  | .local _ .vmem, ⟨1, _⟩ => ⟨S1088x128, .f32⟩
  | .local _ .vmem, ⟨2, _⟩ => ⟨S1088x128, .f32⟩
  | .local _ .vmem, ⟨3, _⟩ => ⟨S1088x128, .f32⟩
  | .local _ .vmem, ⟨4, _⟩ => ⟨S1088x128, .f32⟩
  | .local _ .vmem, ⟨5, _⟩ => ⟨S1088x128, .f32⟩
  | .local _ .vmem, ⟨6, _⟩ => ⟨S1088x128, .f32⟩
  | .local _ .vmem, ⟨7, _⟩ => ⟨S1088x128, .f32⟩
  | .local _ .vmem, ⟨8, _⟩ => ⟨S1088x128, .f32⟩
  | .local _ .vmem, ⟨9, _⟩ => ⟨S1088x128, .f32⟩
  | .local _ .vmem, ⟨10, _⟩ => ⟨S1088x128, .f32⟩
  | .local _ .vmem, ⟨11, _⟩ => ⟨S1088x128, .f32⟩
  | .local _ .vmem, ⟨12, _⟩ => ⟨S1088x128, .f32⟩
  | .local _ .vmem, ⟨13, _⟩ => ⟨S1088x128, .f32⟩
  | .local _ .vmem, ⟨14, _⟩ => ⟨S1088x128, .f32⟩
  | .local _ .vmem, ⟨15, _⟩ => ⟨S1088x128, .f32⟩
  | .local _ .vmem, ⟨16, _⟩ => ⟨S1088x128, .f32⟩
  | .local _ .vmem, ⟨17, _⟩ => ⟨S1088x128, .f32⟩
  | _, _ => ⟨S8x8704x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1088x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1088x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1088x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1088x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1088x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1088x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1088x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1088x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1088x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RepSumRefIdeal.lean ====
abbrev S8x8704x128 : Shape := ⟨3, ![8, 8704, 128]⟩
abbrev S_ : Shape := ⟨0, ![]⟩
abbrev S8704x128 : Shape := ⟨2, ![8704, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x8704x128, .f32⟩
  | .hbm, ⟨1, _⟩ => ⟨S_, .f32⟩
  | .hbm, ⟨2, _⟩ => ⟨S8704x128, .f32⟩
  | _, _ => ⟨S8x8704x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Loss.lean ====
abbrev S8192x2048 : Shape := ⟨2, ![8192, 2048]⟩
abbrev S2048 : Shape := ⟨1, ![2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S1x2048, .f32⟩
  | .hbm, ⟨4, _⟩ => ⟨S8x128, .f32⟩
  | .hbm, ⟨5, _⟩ => ⟨S8192x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S8x128, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8x128 : Shape := ⟨2, ![8, 128]⟩

abbrev nBuf : Space → Nat
  | .hbm => 73
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S2048, .f32⟩
  | .hbm, ⟨54, _⟩ => ⟨S8192x2048, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8x128, .f32⟩
  | .hbm, ⟨72, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== NormFwd.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NormFwdIdeal.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NormFwdRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormBwd.lean ====
abbrev S8192x2048 : Shape := ⟨2, ![8192, 2048]⟩
abbrev S2048 : Shape := ⟨1, ![2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== NormBwdIdeal.lean ====
abbrev S8192x2048 : Shape := ⟨2, ![8192, 2048]⟩
abbrev S2048 : Shape := ⟨1, ![2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== NormBwdRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S2048, .f32⟩
  | .hbm, ⟨31, _⟩ => ⟨S8192x2048, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== LoraFwd.lean ====
abbrev S8192x512 : Shape := ⟨2, ![8192, 512]⟩
abbrev S512 : Shape := ⟨1, ![512]⟩
abbrev S1x512 : Shape := ⟨2, ![1, 512]⟩
abbrev S512x512 : Shape := ⟨2, ![512, 512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512, .f32⟩
  | .hbm, ⟨2, _⟩ => ⟨S1x512, .f32⟩
  | .hbm, ⟨3, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S512x512, .f32⟩
  | .local _ .vmem, ⟨4, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LoraFwdRefIdeal.lean ====
abbrev S8192x512 : Shape := ⟨2, ![8192, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S1x512 : Shape := ⟨2, ![1, 512]⟩

abbrev nBuf : Space → Nat
  | .hbm => 18
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x512, .f32⟩
  | .hbm, ⟨14, _⟩ => ⟨S8192x512, .f32⟩
  | .hbm, ⟨15, _⟩ => ⟨S1x512, .f32⟩
  | .hbm, ⟨16, _⟩ => ⟨S8192x512, .f32⟩
  | .hbm, ⟨17, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== LoraBwd.lean ====
abbrev S8192x512 : Shape := ⟨2, ![8192, 512]⟩
abbrev S512 : Shape := ⟨1, ![512]⟩
abbrev S1x512 : Shape := ⟨2, ![1, 512]⟩
abbrev S512x512 : Shape := ⟨2, ![512, 512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S512, .f32⟩
  | .hbm, ⟨2, _⟩ => ⟨S8192x512, .f32⟩
  | .hbm, ⟨3, _⟩ => ⟨S1x512, .f32⟩
  | .hbm, ⟨4, _⟩ => ⟨S8192x512, .f32⟩
  | .hbm, ⟨5, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== LoraBwdRefIdeal.lean ====
abbrev S8192x512 : Shape := ⟨2, ![8192, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S1x512 : Shape := ⟨2, ![1, 512]⟩

abbrev nBuf : Space → Nat
  | .hbm => 49
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512, .f32⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x512, .f32⟩
  | .hbm, ⟨19, _⟩ => ⟨S8192x512, .f32⟩
  | .hbm, ⟨20, _⟩ => ⟨S1x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S_, .f32⟩
  | .hbm, ⟨25, _⟩ => ⟨S512, .f32⟩
  | .hbm, ⟨26, _⟩ => ⟨S1x512, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S512, .f32⟩
  | .hbm, ⟨31, _⟩ => ⟨S8192x512, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x512, .f32⟩
  | .hbm, ⟨36, _⟩ => ⟨S8192x512, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S1x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== SwigluFwd.lean ====
abbrev S8192x5632 : Shape := ⟨2, ![8192, 5632]⟩
abbrev S64x5632 : Shape := ⟨2, ![64, 5632]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S8192x5632, .f32⟩
  | .local _ .vmem, ⟨0, _⟩ => ⟨S64x5632, .f32⟩
  | .local _ .vmem, ⟨1, _⟩ => ⟨S64x5632, .f32⟩
  | .local _ .vmem, ⟨2, _⟩ => ⟨S64x5632, .f32⟩
  | .local _ .vmem, ⟨3, _⟩ => ⟨S64x5632, .f32⟩
  | .local _ .vmem, ⟨4, _⟩ => ⟨S64x5632, .f32⟩
  | .local _ .vmem, ⟨5, _⟩ => ⟨S64x5632, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![128, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SwigluFwdRefIdeal.lean ====
abbrev S8192x5632 : Shape := ⟨2, ![8192, 5632]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S8192x5632, .f32⟩
  | .hbm, ⟨3, _⟩ => ⟨S8192x5632, .f32⟩
  | .hbm, ⟨4, _⟩ => ⟨S_, .f32⟩
  | .hbm, ⟨5, _⟩ => ⟨S8192x5632, .f32⟩
  | .hbm, ⟨6, _⟩ => ⟨S8192x5632, .f32⟩
  | .hbm, ⟨7, _⟩ => ⟨S_, .f32⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S8192x5632, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩

abbrev nD : Nat := 1
abbrev τ : Topo := Topo.v7x

variable {F : FTy → Type} [FloatOps F]
-- ==== SwigluBwd.lean ====
abbrev S8192x5632 : Shape := ⟨2, ![8192, 5632]⟩
abbrev S32x5632 : Shape := ⟨2, ![32, 5632]⟩

abbrev nBuf : Space → Nat
  | .hbm => 5
  | .vmem => 10
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S8192x5632, .f32⟩
  | .hbm, ⟨3, _⟩ => ⟨S8192x5632, .f32⟩
  | .hbm, ⟨4, _⟩ => ⟨S8192x5632, .f32⟩
  | .local _ .vmem, ⟨0, _⟩ => ⟨S32x5632, .f32⟩
  | .local _ .vmem, ⟨1, _⟩ => ⟨S32x5632, .f32⟩
  | .local _ .vmem, ⟨2, _⟩ => ⟨S32x5632, .f32⟩
  | .local _ .vmem, ⟨3, _⟩ => ⟨S32x5632, .f32⟩
  | .local _ .vmem, ⟨4, _⟩ => ⟨S32x5632, .f32⟩
  | .local _ .vmem, ⟨5, _⟩ => ⟨S32x5632, .f32⟩
  | .local _ .vmem, ⟨6, _⟩ => ⟨S32x5632, .f32⟩
  | .local _ .vmem, ⟨7, _⟩ => ⟨S32x5632, .f32⟩
  | .local _ .vmem, ⟨8, _⟩ => ⟨S32x5632, .f32⟩
  | .local _ .vmem, ⟨9, _⟩ => ⟨S32x5632, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![256, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S32x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x5632 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SwigluBwdRefIdeal.lean ====
abbrev S8192x5632 : Shape := ⟨2, ![8192, 5632]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S8192x5632, .f32⟩
  | .hbm, ⟨3, _⟩ => ⟨S8192x5632, .f32⟩
  | .hbm, ⟨4, _⟩ => ⟨S8192x5632, .f32⟩
  | .hbm, ⟨5, _⟩ => ⟨S_, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_v0_2 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_v0_1 : Ref sig .tc := ⟨.hbm, 14, rfl⟩
abbrev main_v0_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v4 : Ref sig .tc := ⟨.hbm, 22, rfl⟩

abbrev nD : Nat := 1
abbrev τ : Topo := Topo.v7x

variable {F : FTy → Type} [FloatOps F]
-- ==== MergeFwd.lean ====
abbrev S8192x2048 : Shape := ⟨2, ![8192, 2048]⟩
abbrev S3x2048 : Shape := ⟨2, ![3, 2048]⟩
abbrev S1x2048 : Shape := ⟨2, ![1, 2048]⟩
abbrev S64x2048 : Shape := ⟨2, ![64, 2048]⟩

abbrev nBuf : Space → Nat
  | .hbm => 11
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S3x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S8192x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | .local _ .vmem, ⟨15, _⟩ => ⟨S64x2048, .f32⟩
  | .local _ .vmem, ⟨16, _⟩ => ⟨S64x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![128, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeFwdRefIdeal.lean ====
abbrev S8192x2048 : Shape := ⟨2, ![8192, 2048]⟩
abbrev S3x2048 : Shape := ⟨2, ![3, 2048]⟩
abbrev S8192x1x2048 : Shape := ⟨3, ![8192, 1, 2048]⟩
abbrev S8192x3x2048 : Shape := ⟨3, ![8192, 3, 2048]⟩
abbrev S1x3x2048 : Shape := ⟨3, ![1, 3, 2048]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S3x2048, .f32⟩
  | .hbm, ⟨7, _⟩ => ⟨S8192x1x2048, .f32⟩
  | .hbm, ⟨8, _⟩ => ⟨S8192x1x2048, .f32⟩
  | .hbm, ⟨9, _⟩ => ⟨S8192x1x2048, .f32⟩
  | .hbm, ⟨10, _⟩ => ⟨S8192x3x2048, .f32⟩
  | .hbm, ⟨11, _⟩ => ⟨S8192x1x2048, .f32⟩
  | .hbm, ⟨12, _⟩ => ⟨S8192x1x2048, .f32⟩
  | .hbm, ⟨13, _⟩ => ⟨S8192x1x2048, .f32⟩
  | .hbm, ⟨14, _⟩ => ⟨S8192x3x2048, .f32⟩
  | .hbm, ⟨15, _⟩ => ⟨S1x3x2048, .f32⟩
  | .hbm, ⟨16, _⟩ => ⟨S8192x3x2048, .f32⟩
  | .hbm, ⟨17, _⟩ => ⟨S8192x3x2048, .f32⟩
  | .hbm, ⟨18, _⟩ => ⟨S8192x3x2048, .f32⟩
  | .hbm, ⟨19, _⟩ => ⟨S8192x3x2048, .f32⟩
  | .hbm, ⟨20, _⟩ => ⟨S_, .f32⟩
  | .hbm, ⟨21, _⟩ => ⟨S8192x3x2048, .f32⟩
  | .hbm, ⟨22, _⟩ => ⟨S8192x3x2048, .f32⟩
  | .hbm, ⟨23, _⟩ => ⟨S_, .f32⟩
  | .hbm, ⟨24, _⟩ => ⟨S8192x3x2048, .f32⟩
  | .hbm, ⟨25, _⟩ => ⟨S8192x3x2048, .f32⟩
  | .hbm, ⟨26, _⟩ => ⟨S8192x3x2048, .f32⟩
  | .hbm, ⟨27, _⟩ => ⟨S_, .f32⟩
  | .hbm, ⟨28, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== MergeBwd.lean ====
abbrev S8192x2048 : Shape := ⟨2, ![8192, 2048]⟩
abbrev S3x2048 : Shape := ⟨2, ![3, 2048]⟩
abbrev S1x2048 : Shape := ⟨2, ![1, 2048]⟩
abbrev S32x2048 : Shape := ⟨2, ![32, 2048]⟩
abbrev S2048 : Shape := ⟨1, ![2048]⟩

abbrev nBuf : Space → Nat
  | .hbm => 20
  | .vmem => 32
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S3x2048, .f32⟩
  | .hbm, ⟨7, _⟩ => ⟨S8192x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S1x2048, .f32⟩
  | .hbm, ⟨19, _⟩ => ⟨S1x2048, .f32⟩
  | .local _ .vmem, ⟨0, _⟩ => ⟨S32x2048, .f32⟩
  | .local _ .vmem, ⟨1, _⟩ => ⟨S32x2048, .f32⟩
  | .local _ .vmem, ⟨2, _⟩ => ⟨S32x2048, .f32⟩
  | .local _ .vmem, ⟨3, _⟩ => ⟨S32x2048, .f32⟩
  | .local _ .vmem, ⟨4, _⟩ => ⟨S32x2048, .f32⟩
  | .local _ .vmem, ⟨5, _⟩ => ⟨S32x2048, .f32⟩
  | .local _ .vmem, ⟨6, _⟩ => ⟨S32x2048, .f32⟩
  | .local _ .vmem, ⟨7, _⟩ => ⟨S32x2048, .f32⟩
  | .local _ .vmem, ⟨8, _⟩ => ⟨S32x2048, .f32⟩
  | .local _ .vmem, ⟨9, _⟩ => ⟨S32x2048, .f32⟩
  | .local _ .vmem, ⟨10, _⟩ => ⟨S32x2048, .f32⟩
  | .local _ .vmem, ⟨11, _⟩ => ⟨S32x2048, .f32⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | .local _ .vmem, ⟨15, _⟩ => ⟨S32x2048, .f32⟩
  | .local _ .vmem, ⟨16, _⟩ => ⟨S32x2048, .f32⟩
  | .local _ .vmem, ⟨17, _⟩ => ⟨S32x2048, .f32⟩
  | .local _ .vmem, ⟨18, _⟩ => ⟨S32x2048, .f32⟩
  | .local _ .vmem, ⟨19, _⟩ => ⟨S32x2048, .f32⟩
  | .local _ .vmem, ⟨20, _⟩ => ⟨S32x2048, .f32⟩
  | .local _ .vmem, ⟨21, _⟩ => ⟨S32x2048, .f32⟩
  | .local _ .vmem, ⟨22, _⟩ => ⟨S32x2048, .f32⟩
  | .local _ .vmem, ⟨23, _⟩ => ⟨S32x2048, .f32⟩
  | .local _ .vmem, ⟨24, _⟩ => ⟨S32x2048, .f32⟩
  | .local _ .vmem, ⟨25, _⟩ => ⟨S32x2048, .f32⟩
  | .local _ .vmem, ⟨26, _⟩ => ⟨S32x2048, .f32⟩
  | .local _ .vmem, ⟨27, _⟩ => ⟨S32x2048, .f32⟩
  | .local _ .vmem, ⟨28, _⟩ => ⟨S32x2048, .f32⟩
  | .local _ .vmem, ⟨29, _⟩ => ⟨S1x2048, .f32⟩
  | .local _ .vmem, ⟨30, _⟩ => ⟨S1x2048, .f32⟩
  | .local _ .vmem, ⟨31, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev main_v3_6 : Ref sig .tc := ⟨.hbm, 17, rfl⟩
abbrev main_v3_7 : Ref sig .tc := ⟨.hbm, 18, rfl⟩
abbrev main_v3_8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem17_0 : DmaSem sig := 30
abbrev cc0_sem18_0 : DmaSem sig := 31

abbrev nD : Nat := 1
abbrev τ : Topo := Topo.v7x

variable {F : FTy → Type} [FloatOps F]

abbrev grid0 : Pipeline.Grid := ⟨2, ![256, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S32x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S32x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S32x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]
-- ==== MergeBwdRefIdeal.lean ====
abbrev S8192x2048 : Shape := ⟨2, ![8192, 2048]⟩
abbrev S3x2048 : Shape := ⟨2, ![3, 2048]⟩
abbrev S8192x1x2048 : Shape := ⟨3, ![8192, 1, 2048]⟩
abbrev S8192x3x2048 : Shape := ⟨3, ![8192, 3, 2048]⟩
abbrev S1x3x2048 : Shape := ⟨3, ![1, 3, 2048]⟩
abbrev S_ : Shape := ⟨0, ![]⟩
abbrev S1x2048 : Shape := ⟨2, ![1, 2048]⟩

abbrev nBuf : Space → Nat
  | .hbm => 58
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S3x2048, .f32⟩
  | .hbm, ⟨7, _⟩ => ⟨S8192x2048, .f32⟩
  | .hbm, ⟨8, _⟩ => ⟨S8192x1x2048, .f32⟩
  | .hbm, ⟨9, _⟩ => ⟨S8192x1x2048, .f32⟩
  | .hbm, ⟨10, _⟩ => ⟨S8192x1x2048, .f32⟩
  | .hbm, ⟨11, _⟩ => ⟨S8192x3x2048, .f32⟩
  | .hbm, ⟨12, _⟩ => ⟨S8192x1x2048, .f32⟩
  | .hbm, ⟨13, _⟩ => ⟨S8192x1x2048, .f32⟩
  | .hbm, ⟨14, _⟩ => ⟨S8192x1x2048, .f32⟩
  | .hbm, ⟨15, _⟩ => ⟨S8192x3x2048, .f32⟩
  | .hbm, ⟨16, _⟩ => ⟨S1x3x2048, .f32⟩
  | .hbm, ⟨17, _⟩ => ⟨S8192x3x2048, .f32⟩
  | .hbm, ⟨18, _⟩ => ⟨S8192x3x2048, .f32⟩
  | .hbm, ⟨19, _⟩ => ⟨S8192x3x2048, .f32⟩
  | .hbm, ⟨20, _⟩ => ⟨S8192x3x2048, .f32⟩
  | .hbm, ⟨21, _⟩ => ⟨S_, .f32⟩
  | .hbm, ⟨22, _⟩ => ⟨S8192x3x2048, .f32⟩
  | .hbm, ⟨23, _⟩ => ⟨S8192x3x2048, .f32⟩
  | .hbm, ⟨24, _⟩ => ⟨S_, .f32⟩
  | .hbm, ⟨25, _⟩ => ⟨S8192x3x2048, .f32⟩
  | .hbm, ⟨26, _⟩ => ⟨S8192x3x2048, .f32⟩
  | .hbm, ⟨27, _⟩ => ⟨S_, .f32⟩
  | .hbm, ⟨28, _⟩ => ⟨S8192x3x2048, .f32⟩
  | .hbm, ⟨29, _⟩ => ⟨S8192x3x2048, .f32⟩
  | .hbm, ⟨30, _⟩ => ⟨S8192x3x2048, .f32⟩
  | .hbm, ⟨31, _⟩ => ⟨S8192x3x2048, .f32⟩
  | .hbm, ⟨32, _⟩ => ⟨S_, .f32⟩
  | .hbm, ⟨33, _⟩ => ⟨S8192x2048, .f32⟩
  | .hbm, ⟨34, _⟩ => ⟨S8192x3x2048, .f32⟩
  | .hbm, ⟨35, _⟩ => ⟨S8192x3x2048, .f32⟩
  | .hbm, ⟨36, _⟩ => ⟨S8192x3x2048, .f32⟩
  | .hbm, ⟨37, _⟩ => ⟨S8192x3x2048, .f32⟩
  | .hbm, ⟨38, _⟩ => ⟨S_, .f32⟩
  | .hbm, ⟨39, _⟩ => ⟨S3x2048, .f32⟩
  | .hbm, ⟨40, _⟩ => ⟨S1x3x2048, .f32⟩
  | .hbm, ⟨41, _⟩ => ⟨S_, .f32⟩
  | .hbm, ⟨42, _⟩ => ⟨S3x2048, .f32⟩
  | .hbm, ⟨43, _⟩ => ⟨S8192x1x2048, .f32⟩
  | .hbm, ⟨44, _⟩ => ⟨S8192x2048, .f32⟩
  | .hbm, ⟨45, _⟩ => ⟨S8192x1x2048, .f32⟩
  | .hbm, ⟨46, _⟩ => ⟨S8192x2048, .f32⟩
  | .hbm, ⟨47, _⟩ => ⟨S8192x1x2048, .f32⟩
  | .hbm, ⟨48, _⟩ => ⟨S8192x2048, .f32⟩
  | .hbm, ⟨49, _⟩ => ⟨S8192x1x2048, .f32⟩
  | .hbm, ⟨50, _⟩ => ⟨S8192x2048, .f32⟩
  | .hbm, ⟨51, _⟩ => ⟨S8192x1x2048, .f32⟩
  | .hbm, ⟨52, _⟩ => ⟨S8192x2048, .f32⟩
  | .hbm, ⟨53, _⟩ => ⟨S8192x1x2048, .f32⟩
  | .hbm, ⟨54, _⟩ => ⟨S8192x2048, .f32⟩
  | .hbm, ⟨55, _⟩ => ⟨S1x2048, .f32⟩
  | .hbm, ⟨56, _⟩ => ⟨S1x2048, .f32⟩
  | .hbm, ⟨57, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== LruOutFwd.lean ====
abbrev S8192x1024 : Shape := ⟨2, ![8192, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LruOutFwdRefIdeal.lean ====
abbrev S8192x1024 : Shape := ⟨2, ![8192, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== LruOutBwd.lean ====
abbrev S8192x1024 : Shape := ⟨2, ![8192, 1024]⟩
abbrev S256x1024 : Shape := ⟨2, ![256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== LruOutBwdRefIdeal.lean ====
abbrev S8192x1024 : Shape := ⟨2, ![8192, 1024]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== GdnPreFwd.lean ====
abbrev S8192x1024 : Shape := ⟨2, ![8192, 1024]⟩
abbrev S512x128 : Shape := ⟨2, ![512, 128]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GdnPreFwdRefIdeal.lean ====
abbrev S8192x1024 : Shape := ⟨2, ![8192, 1024]⟩
abbrev S_ : Shape := ⟨0, ![]⟩
abbrev S8192x8x128 : Shape := ⟨3, ![8192, 8, 128]⟩
abbrev S8192x8 : Shape := ⟨2, ![8192, 8]⟩
abbrev S8192x8x1 : Shape := ⟨3, ![8192, 8, 1]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x8x128, .f32⟩
  | .hbm, ⟨31, _⟩ => ⟨S8192x8x128, .f32⟩
  | .hbm, ⟨32, _⟩ => ⟨S_, .f32⟩
  | .hbm, ⟨33, _⟩ => ⟨S8192x8, .f32⟩
  | .hbm, ⟨34, _⟩ => ⟨S8192x8x1, .f32⟩
  | .hbm, ⟨35, _⟩ => ⟨S_, .f32⟩
  | .hbm, ⟨36, _⟩ => ⟨S8192x8x1, .f32⟩
  | .hbm, ⟨37, _⟩ => ⟨S8192x8x1, .f32⟩
  | .hbm, ⟨38, _⟩ => ⟨S8192x8x1, .f32⟩
  | .hbm, ⟨39, _⟩ => ⟨S8192x8x128, .f32⟩
  | .hbm, ⟨40, _⟩ => ⟨S8192x8x128, .f32⟩
  | .hbm, ⟨41, _⟩ => ⟨S8192x8x128, .f32⟩
  | .hbm, ⟨42, _⟩ => ⟨S8192x8x128, .f32⟩
  | .hbm, ⟨43, _⟩ => ⟨S_, .f32⟩
  | .hbm, ⟨44, _⟩ => ⟨S8192x8, .f32⟩
  | .hbm, ⟨45, _⟩ => ⟨S8192x8x1, .f32⟩
  | .hbm, ⟨46, _⟩ => ⟨S_, .f32⟩
  | .hbm, ⟨47, _⟩ => ⟨S8192x8x1, .f32⟩
  | .hbm, ⟨48, _⟩ => ⟨S8192x8x1, .f32⟩
  | .hbm, ⟨49, _⟩ => ⟨S8192x8x1, .f32⟩
  | .hbm, ⟨50, _⟩ => ⟨S8192x8x128, .f32⟩
  | .hbm, ⟨51, _⟩ => ⟨S8192x8x128, .f32⟩
  | .hbm, ⟨52, _⟩ => ⟨S8192x1024, .f32⟩
  | .hbm, ⟨53, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_call1_v0 : Ref sig .tc := ⟨.hbm, 12, rfl⟩
abbrev main_call1_v1 : Ref sig .tc := ⟨.hbm, 13, rfl⟩
abbrev main_call1_cst : Ref sig .tc := ⟨.hbm, 14, rfl⟩
abbrev main_call1_v2 : Ref sig .tc := ⟨.hbm, 15, rfl⟩
abbrev main_call1_v3 : Ref sig .tc := ⟨.hbm, 16, rfl⟩
abbrev main_call1_cst_0 : Ref sig .tc := ⟨.hbm, 17, rfl⟩
abbrev main_call1_v4 : Ref sig .tc := ⟨.hbm, 18, rfl⟩
abbrev main_call1_v5 : Ref sig .tc := ⟨.hbm, 19, rfl⟩
abbrev main_v1 : Ref sig .tc := ⟨.hbm, 20, rfl⟩
abbrev main_call2_v0 : Ref sig .tc := ⟨.hbm, 21, rfl⟩
abbrev main_call2_v1 : Ref sig .tc := ⟨.hbm, 22, rfl⟩
abbrev main_call2_cst : Ref sig .tc := ⟨.hbm, 23, rfl⟩
abbrev main_call2_v2 : Ref sig .tc := ⟨.hbm, 24, rfl⟩
abbrev main_call2_v3 : Ref sig .tc := ⟨.hbm, 25, rfl⟩
abbrev main_call2_cst_0 : Ref sig .tc := ⟨.hbm, 26, rfl⟩
abbrev main_call2_v4 : Ref sig .tc := ⟨.hbm, 27, rfl⟩
abbrev main_call2_v5 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_cst_0 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_1 : Ref sig .tc := ⟨.hbm, 43, rfl⟩
abbrev main_v14 : Ref sig .tc := ⟨.hbm, 44, rfl⟩
abbrev main_v15 : Ref sig .tc := ⟨.hbm, 45, rfl⟩
abbrev main_cst_2 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩

abbrev nD : Nat := 1
abbrev τ : Topo := Topo.v7x

variable {F : FTy → Type} [FloatOps F]
-- ==== GdnPreBwd.lean ====
abbrev S8192x1024 : Shape := ⟨2, ![8192, 1024]⟩
abbrev S512x128 : Shape := ⟨2, ![512, 128]⟩
abbrev S512 : Shape := ⟨1, ![512]⟩
abbrev S512x1 : Shape := ⟨2, ![512, 1]⟩

abbrev nBuf : Space → Nat
  | .hbm => 9
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== GdnPreBwdRefIdeal.lean ====
abbrev S8192x1024 : Shape := ⟨2, ![8192, 1024]⟩
abbrev S_ : Shape := ⟨0, ![]⟩
abbrev S8192x8x128 : Shape := ⟨3, ![8192, 8, 128]⟩
abbrev S8192x8 : Shape := ⟨2, ![8192, 8]⟩
abbrev S8192x8x1 : Shape := ⟨3, ![8192, 8, 1]⟩

abbrev nBuf : Space → Nat
  | .hbm => 121
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x8x128, .f32⟩
  | .hbm, ⟨46, _⟩ => ⟨S8192x8x128, .f32⟩
  | .hbm, ⟨47, _⟩ => ⟨S_, .f32⟩
  | .hbm, ⟨48, _⟩ => ⟨S8192x8, .f32⟩
  | .hbm, ⟨49, _⟩ => ⟨S8192x8x1, .f32⟩
  | .hbm, ⟨50, _⟩ => ⟨S_, .f32⟩
  | .hbm, ⟨51, _⟩ => ⟨S8192x8x1, .f32⟩
  | .hbm, ⟨52, _⟩ => ⟨S8192x8x1, .f32⟩
  | .hbm, ⟨53, _⟩ => ⟨S8192x8x1, .f32⟩
  | .hbm, ⟨54, _⟩ => ⟨S8192x8x1, .f32⟩
  | .hbm, ⟨55, _⟩ => ⟨S_, .f32⟩
  | .hbm, ⟨56, _⟩ => ⟨S8192x8x1, .f32⟩
  | .hbm, ⟨57, _⟩ => ⟨S8192x8x1, .f32⟩
  | .hbm, ⟨58, _⟩ => ⟨S8192x8x128, .f32⟩
  | .hbm, ⟨59, _⟩ => ⟨S8192x8x128, .f32⟩
  | .hbm, ⟨60, _⟩ => ⟨S8192x8x128, .f32⟩
  | .hbm, ⟨61, _⟩ => ⟨S8192x8x128, .f32⟩
  | .hbm, ⟨62, _⟩ => ⟨S_, .f32⟩
  | .hbm, ⟨63, _⟩ => ⟨S8192x8, .f32⟩
  | .hbm, ⟨64, _⟩ => ⟨S8192x8x1, .f32⟩
  | .hbm, ⟨65, _⟩ => ⟨S_, .f32⟩
  | .hbm, ⟨66, _⟩ => ⟨S8192x8x1, .f32⟩
  | .hbm, ⟨67, _⟩ => ⟨S8192x8x1, .f32⟩
  | .hbm, ⟨68, _⟩ => ⟨S8192x8x1, .f32⟩
  | .hbm, ⟨69, _⟩ => ⟨S8192x8x1, .f32⟩
  | .hbm, ⟨70, _⟩ => ⟨S_, .f32⟩
  | .hbm, ⟨71, _⟩ => ⟨S8192x8x1, .f32⟩
  | .hbm, ⟨72, _⟩ => ⟨S8192x8x1, .f32⟩
  | .hbm, ⟨73, _⟩ => ⟨S8192x8x128, .f32⟩
  | .hbm, ⟨74, _⟩ => ⟨S8192x8x128, .f32⟩
  | .hbm, ⟨75, _⟩ => ⟨S8192x1024, .f32⟩
  | .hbm, ⟨76, _⟩ => ⟨S8192x1024, .f32⟩
  | .hbm, ⟨77, _⟩ => ⟨S8192x8x128, .f32⟩
  | .hbm, ⟨78, _⟩ => ⟨S8192x8x128, .f32⟩
  | .hbm, ⟨79, _⟩ => ⟨S8192x8x128, .f32⟩
  | .hbm, ⟨80, _⟩ => ⟨S_, .f32⟩
  | .hbm, ⟨81, _⟩ => ⟨S8192x8, .f32⟩
  | .hbm, ⟨82, _⟩ => ⟨S8192x8x1, .f32⟩
  | .hbm, ⟨83, _⟩ => ⟨S8192x8x128, .f32⟩
  | .hbm, ⟨84, _⟩ => ⟨S8192x8x128, .f32⟩
  | .hbm, ⟨85, _⟩ => ⟨S8192x8x1, .f32⟩
  | .hbm, ⟨86, _⟩ => ⟨S_, .f32⟩
  | .hbm, ⟨87, _⟩ => ⟨S8192x8, .f32⟩
  | .hbm, ⟨88, _⟩ => ⟨S8192x8x128, .f32⟩
  | .hbm, ⟨89, _⟩ => ⟨S8192x8x128, .f32⟩
  | .hbm, ⟨90, _⟩ => ⟨S8192x8x128, .f32⟩
  | .hbm, ⟨91, _⟩ => ⟨S8192x8x128, .f32⟩
  | .hbm, ⟨92, _⟩ => ⟨S8192x8x128, .f32⟩
  | .hbm, ⟨93, _⟩ => ⟨S8192x1024, .f32⟩
  | .hbm, ⟨94, _⟩ => ⟨S8192x8x128, .f32⟩
  | .hbm, ⟨95, _⟩ => ⟨S_, .f32⟩
  | .hbm, ⟨96, _⟩ => ⟨S8192x8, .f32⟩
  | .hbm, ⟨97, _⟩ => ⟨S8192x8x1, .f32⟩
  | .hbm, ⟨98, _⟩ => ⟨S8192x8x128, .f32⟩
  | .hbm, ⟨99, _⟩ => ⟨S8192x8x128, .f32⟩
  | .hbm, ⟨100, _⟩ => ⟨S8192x8x1, .f32⟩
  | .hbm, ⟨101, _⟩ => ⟨S_, .f32⟩
  | .hbm, ⟨102, _⟩ => ⟨S8192x8, .f32⟩
  | .hbm, ⟨103, _⟩ => ⟨S8192x8x128, .f32⟩
  | .hbm, ⟨104, _⟩ => ⟨S8192x8x128, .f32⟩
  | .hbm, ⟨105, _⟩ => ⟨S8192x8x128, .f32⟩
  | .hbm, ⟨106, _⟩ => ⟨S8192x8x128, .f32⟩
  | .hbm, ⟨107, _⟩ => ⟨S8192x8x128, .f32⟩
  | .hbm, ⟨108, _⟩ => ⟨S8192x1024, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S8192x1024, .f32⟩
  | .hbm, ⟨113, _⟩ => ⟨S8192x1024, .f32⟩
  | .hbm, ⟨114, _⟩ => ⟨S8192x1024, .f32⟩
  | .hbm, ⟨115, _⟩ => ⟨S8192x1024, .f32⟩
  | .hbm, ⟨116, _⟩ => ⟨S8192x1024, .f32⟩
  | .hbm, ⟨117, _⟩ => ⟨S8192x1024, .f32⟩
  | .hbm, ⟨118, _⟩ => ⟨S8192x1024, .f32⟩
  | .hbm, ⟨119, _⟩ => ⟨S8192x1024, .f32⟩
  | .hbm, ⟨120, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v0_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v0_1 : Ref sig .tc := ⟨.hbm, 17, rfl⟩
abbrev main_v0_0 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_v1_2 : Ref sig .tc := ⟨.hbm, 26, rfl⟩
abbrev main_call1_cst_1 : Ref sig .tc := ⟨.hbm, 27, rfl⟩
abbrev main_call1_v6 : Ref sig .tc := ⟨.hbm, 28, rfl⟩
abbrev main_call1_v7 : Ref sig .tc := ⟨.hbm, 29, rfl⟩
abbrev main_v1_1 : Ref sig .tc := ⟨.hbm, 30, rfl⟩
abbrev main_v1_0 : Ref sig .tc := ⟨.hbm, 31, rfl⟩
abbrev main_call2_v0 : Ref sig .tc := ⟨.hbm, 32, rfl⟩
abbrev main_call2_v1 : Ref sig .tc := ⟨.hbm, 33, rfl⟩
abbrev main_call2_cst : Ref sig .tc := ⟨.hbm, 34, rfl⟩
abbrev main_call2_v2 : Ref sig .tc := ⟨.hbm, 35, rfl⟩
abbrev main_call2_v3 : Ref sig .tc := ⟨.hbm, 36, rfl⟩
abbrev main_call2_cst_0 : Ref sig .tc := ⟨.hbm, 37, rfl⟩
abbrev main_call2_v4 : Ref sig .tc := ⟨.hbm, 38, rfl⟩
abbrev main_v2_2 : Ref sig .tc := ⟨.hbm, 39, rfl⟩
abbrev main_call2_cst_1 : Ref sig .tc := ⟨.hbm, 40, rfl⟩
abbrev main_call2_v6 : Ref sig .tc := ⟨.hbm, 41, rfl⟩
abbrev main_call2_v7 : Ref sig .tc := ⟨.hbm, 42, rfl⟩
abbrev main_v2_1 : Ref sig .tc := ⟨.hbm, 43, rfl⟩
abbrev main_v2_0 : Ref sig .tc := ⟨.hbm, 44, rfl⟩
abbrev main_v3 : Ref sig .tc := ⟨.hbm, 45, rfl⟩
abbrev main_v4 : Ref sig .tc := ⟨.hbm, 46, rfl⟩
abbrev main_cst : Ref sig .tc := ⟨.hbm, 47, rfl⟩
abbrev main_v5 : Ref sig .tc := ⟨.hbm, 48, rfl⟩
abbrev main_v6 : Ref sig .tc := ⟨.hbm, 49, rfl⟩
abbrev main_cst_0 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_cst_1 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_cst_2 : Ref sig .tc := ⟨.hbm, 62, rfl⟩
abbrev main_v17 : Ref sig .tc := ⟨.hbm, 63, rfl⟩
abbrev main_v18 : Ref sig .tc := ⟨.hbm, 64, rfl⟩
abbrev main_cst_3 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_cst_4 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_5 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_cst_6 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_cst_7 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_cst_8 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_call3_v0 : Ref sig .tc := ⟨.hbm, 109, rfl⟩
abbrev main_call3_v1 : Ref sig .tc := ⟨.hbm, 110, rfl⟩
abbrev main_call3_v2 : Ref sig .tc := ⟨.hbm, 111, rfl⟩
abbrev main_v57 : Ref sig .tc := ⟨.hbm, 112, rfl⟩
abbrev main_call4_v0 : Ref sig .tc := ⟨.hbm, 113, rfl⟩
abbrev main_call4_v1 : Ref sig .tc := ⟨.hbm, 114, rfl⟩
abbrev main_call4_v2 : Ref sig .tc := ⟨.hbm, 115, rfl⟩
abbrev main_v58 : Ref sig .tc := ⟨.hbm, 116, rfl⟩
abbrev main_call5_v0 : Ref sig .tc := ⟨.hbm, 117, rfl⟩
abbrev main_call5_v1 : Ref sig .tc := ⟨.hbm, 118, rfl⟩
abbrev main_call5_v2 : Ref sig .tc := ⟨.hbm, 119, rfl⟩
abbrev main_v59 : Ref sig .tc := ⟨.hbm, 120, rfl⟩

abbrev nD : Nat := 1
abbrev τ : Topo := Topo.v7x

variable {F : FTy → Type} [FloatOps F]
-- ==== GdnPostFwd.lean ====
abbrev S8192x1024 : Shape := ⟨2, ![8192, 1024]⟩
abbrev S128 : Shape := ⟨1, ![128]⟩
abbrev S1x128 : Shape := ⟨2, ![1, 128]⟩
abbrev S512x128 : Shape := ⟨2, ![512, 128]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S128, .f32⟩
  | .hbm, ⟨3, _⟩ => ⟨S1x128, .f32⟩
  | .hbm, ⟨4, _⟩ => ⟨S8192x1024, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GdnPostFwdRefIdeal.lean ====
abbrev S8192x1024 : Shape := ⟨2, ![8192, 1024]⟩
abbrev S128 : Shape := ⟨1, ![128]⟩
abbrev S8192x8x128 : Shape := ⟨3, ![8192, 8, 128]⟩
abbrev S_ : Shape := ⟨0, ![]⟩
abbrev S8192x8 : Shape := ⟨2, ![8192, 8]⟩
abbrev S8192x8x1 : Shape := ⟨3, ![8192, 8, 1]⟩
abbrev S1x1x128 : Shape := ⟨3, ![1, 1, 128]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S128, .f32⟩
  | .hbm, ⟨3, _⟩ => ⟨S8192x8x128, .f32⟩
  | .hbm, ⟨4, _⟩ => ⟨S8192x8x128, .f32⟩
  | .hbm, ⟨5, _⟩ => ⟨S_, .f32⟩
  | .hbm, ⟨6, _⟩ => ⟨S8192x8, .f32⟩
  | .hbm, ⟨7, _⟩ => ⟨S8192x8x1, .f32⟩
  | .hbm, ⟨8, _⟩ => ⟨S_, .f32⟩
  | .hbm, ⟨9, _⟩ => ⟨S8192x8x1, .f32⟩
  | .hbm, ⟨10, _⟩ => ⟨S8192x8x1, .f32⟩
  | .hbm, ⟨11, _⟩ => ⟨S_, .f32⟩
  | .hbm, ⟨12, _⟩ => ⟨S8192x8x1, .f32⟩
  | .hbm, ⟨13, _⟩ => ⟨S8192x8x1, .f32⟩
  | .hbm, ⟨14, _⟩ => ⟨S8192x8x1, .f32⟩
  | .hbm, ⟨15, _⟩ => ⟨S8192x8x128, .f32⟩
  | .hbm, ⟨16, _⟩ => ⟨S8192x8x128, .f32⟩
  | .hbm, ⟨17, _⟩ => ⟨S1x1x128, .f32⟩
  | .hbm, ⟨18, _⟩ => ⟨S8192x8x128, .f32⟩
  | .hbm, ⟨19, _⟩ => ⟨S8192x8x128, .f32⟩
  | .hbm, ⟨20, _⟩ => ⟨S8192x8x128, .f32⟩
  | .hbm, ⟨21, _⟩ => ⟨S8192x8x128, .f32⟩
  | .hbm, ⟨22, _⟩ => ⟨S8192x8x128, .f32⟩
  | .hbm, ⟨23, _⟩ => ⟨S_, .f32⟩
  | .hbm, ⟨24, _⟩ => ⟨S8192x8x128, .f32⟩
  | .hbm, ⟨25, _⟩ => ⟨S8192x8x128, .f32⟩
  | .hbm, ⟨26, _⟩ => ⟨S_, .f32⟩
  | .hbm, ⟨27, _⟩ => ⟨S8192x8x128, .f32⟩
  | .hbm, ⟨28, _⟩ => ⟨S8192x8x128, .f32⟩
  | .hbm, ⟨29, _⟩ => ⟨S8192x8x128, .f32⟩
  | .hbm, ⟨30, _⟩ => ⟨S8192x8x128, .f32⟩
  | .hbm, ⟨31, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]
-- ==== GdnPostBwd.lean ====
abbrev S8192x1024 : Shape := ⟨2, ![8192, 1024]⟩
abbrev S128 : Shape := ⟨1, ![128]⟩
abbrev S1x128 : Shape := ⟨2, ![1, 128]⟩
abbrev S512x128 : Shape := ⟨2, ![512, 128]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S128, .f32⟩
  | .hbm, ⟨3, _⟩ => ⟨S8192x1024, .f32⟩
  | .hbm, ⟨4, _⟩ => ⟨S1x128, .f32⟩
  | .hbm, ⟨5, _⟩ => ⟨S8192x1024, .f32⟩
  | .hbm, ⟨6, _⟩ => ⟨S8192x1024, .f32⟩
  | .hbm, ⟨7, _⟩ => ⟨S1x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== GdnPostBwdRefIdeal.lean ====
abbrev S8192x1024 : Shape := ⟨2, ![8192, 1024]⟩
abbrev S128 : Shape := ⟨1, ![128]⟩
abbrev S8192x8x128 : Shape := ⟨3, ![8192, 8, 128]⟩
abbrev S_ : Shape := ⟨0, ![]⟩
abbrev S8192x8 : Shape := ⟨2, ![8192, 8]⟩
abbrev S8192x8x1 : Shape := ⟨3, ![8192, 8, 1]⟩
abbrev S1x1x128 : Shape := ⟨3, ![1, 1, 128]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S128, .f32⟩
  | .hbm, ⟨3, _⟩ => ⟨S8192x1024, .f32⟩
  | .hbm, ⟨4, _⟩ => ⟨S8192x8x128, .f32⟩
  | .hbm, ⟨5, _⟩ => ⟨S8192x8x128, .f32⟩
  | .hbm, ⟨6, _⟩ => ⟨S_, .f32⟩
  | .hbm, ⟨7, _⟩ => ⟨S8192x8, .f32⟩
  | .hbm, ⟨8, _⟩ => ⟨S8192x8x1, .f32⟩
  | .hbm, ⟨9, _⟩ => ⟨S_, .f32⟩
  | .hbm, ⟨10, _⟩ => ⟨S8192x8x1, .f32⟩
  | .hbm, ⟨11, _⟩ => ⟨S8192x8x1, .f32⟩
  | .hbm, ⟨12, _⟩ => ⟨S_, .f32⟩
  | .hbm, ⟨13, _⟩ => ⟨S8192x8x1, .f32⟩
  | .hbm, ⟨14, _⟩ => ⟨S8192x8x1, .f32⟩
  | .hbm, ⟨15, _⟩ => ⟨S8192x8x1, .f32⟩
  | .hbm, ⟨16, _⟩ => ⟨S8192x8x1, .f32⟩
  | .hbm, ⟨17, _⟩ => ⟨S_, .f32⟩
  | .hbm, ⟨18, _⟩ => ⟨S8192x8x1, .f32⟩
  | .hbm, ⟨19, _⟩ => ⟨S8192x8x1, .f32⟩
  | .hbm, ⟨20, _⟩ => ⟨S8192x8x128, .f32⟩
  | .hbm, ⟨21, _⟩ => ⟨S8192x8x128, .f32⟩
  | .hbm, ⟨22, _⟩ => ⟨S1x1x128, .f32⟩
  | .hbm, ⟨23, _⟩ => ⟨S8192x8x128, .f32⟩
  | .hbm, ⟨24, _⟩ => ⟨S8192x8x128, .f32⟩
  | .hbm, ⟨25, _⟩ => ⟨S8192x8x128, .f32⟩
  | .hbm, ⟨26, _⟩ => ⟨S8192x8x128, .f32⟩
  | .hbm, ⟨27, _⟩ => ⟨S8192x8x128, .f32⟩
  | .hbm, ⟨28, _⟩ => ⟨S_, .f32⟩
  | .hbm, ⟨29, _⟩ => ⟨S8192x8x128, .f32⟩
  | .hbm, ⟨30, _⟩ => ⟨S8192x8x128, .f32⟩
  | .hbm, ⟨31, _⟩ => ⟨S_, .f32⟩
  | .hbm, ⟨32, _⟩ => ⟨S8192x8x128, .f32⟩
  | .hbm, ⟨33, _⟩ => ⟨S8192x8x128, .f32⟩
  | .hbm, ⟨34, _⟩ => ⟨S_, .f32⟩
  | .hbm, ⟨35, _⟩ => ⟨S8192x8x128, .f32⟩
  | .hbm, ⟨36, _⟩ => ⟨S8192x8x128, .f32⟩
  | .hbm, ⟨37, _⟩ => ⟨S8192x8x128, .f32⟩
  | .hbm, ⟨38, _⟩ => ⟨S8192x8x128, .f32⟩
  | .hbm, ⟨39, _⟩ => ⟨S8192x8x128, .f32⟩
  | .hbm, ⟨40, _⟩ => ⟨S8192x1024, .f32⟩
  | .hbm, ⟨41, _⟩ => ⟨S8192x8x128, .f32⟩
  | .hbm, ⟨42, _⟩ => ⟨S8192x8x128, .f32⟩
  | .hbm, ⟨43, _⟩ => ⟨S8192x8x128, .f32⟩
  | .hbm, ⟨44, _⟩ => ⟨S8192x8x128, .f32⟩
  | .hbm, ⟨45, _⟩ => ⟨S8192x8x128, .f32⟩
  | .hbm, ⟨46, _⟩ => ⟨S8192x8x128, .f32⟩
  | .hbm, ⟨47, _⟩ => ⟨S8192x8x128, .f32⟩
  | .hbm, ⟨48, _⟩ => ⟨S8192x1024, .f32⟩
  | .hbm, ⟨49, _⟩ => ⟨S8192x8x128, .f32⟩
  | .hbm, ⟨50, _⟩ => ⟨S_, .f32⟩
  | .hbm, ⟨51, _⟩ => ⟨S128, .f32⟩
  | .hbm, ⟨52, _⟩ => ⟨S1x1x128, .f32⟩
  | .hbm, ⟨53, _⟩ => ⟨S8192x8x128, .f32⟩
  | .hbm, ⟨54, _⟩ => ⟨S8192x8x128, .f32⟩
  | .hbm, ⟨55, _⟩ => ⟨S_, .f32⟩
  | .hbm, ⟨56, _⟩ => ⟨S128, .f32⟩
  | .hbm, ⟨57, _⟩ => ⟨S8192x8x128, .f32⟩
  | .hbm, ⟨58, _⟩ => ⟨S_, .f32⟩
  | .hbm, ⟨59, _⟩ => ⟨S8192x8, .f32⟩
  | .hbm, ⟨60, _⟩ => ⟨S8192x8x1, .f32⟩
  | .hbm, ⟨61, _⟩ => ⟨S8192x8x128, .f32⟩
  | .hbm, ⟨62, _⟩ => ⟨S8192x8x128, .f32⟩
  | .hbm, ⟨63, _⟩ => ⟨S8192x8x1, .f32⟩
  | .hbm, ⟨64, _⟩ => ⟨S_, .f32⟩
  | .hbm, ⟨65, _⟩ => ⟨S8192x8x1, .f32⟩
  | .hbm, ⟨66, _⟩ => ⟨S8192x8x1, .f32⟩
  | .hbm, ⟨67, _⟩ => ⟨S_, .f32⟩
  | .hbm, ⟨68, _⟩ => ⟨S8192x8, .f32⟩
  | .hbm, ⟨69, _⟩ => ⟨S8192x8x128, .f32⟩
  | .hbm, ⟨70, _⟩ => ⟨S8192x8x128, .f32⟩
  | .hbm, ⟨71, _⟩ => ⟨S8192x8x128, .f32⟩
  | .hbm, ⟨72, _⟩ => ⟨S8192x8x128, .f32⟩
  | .hbm, ⟨73, _⟩ => ⟨S8192x8x128, .f32⟩
  | .hbm, ⟨74, _⟩ => ⟨S8192x1024, .f32⟩
  | .hbm, ⟨75, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v18_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v18_1 : Ref sig .tc := ⟨.hbm, 37, rfl⟩
abbrev main_v18_0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_4 : Ref sig .tc := ⟨.hbm, 55, rfl⟩
abbrev main_v31 : Ref sig .tc := ⟨.hbm, 56, rfl⟩
abbrev main_v32 : Ref sig .tc := ⟨.hbm, 57, rfl⟩
abbrev main_cst_5 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩

abbrev nD : Nat := 1
abbrev τ : Topo := Topo.v7x

variable {F : FTy → Type} [FloatOps F]
-- ==== Proof.AttKV.Tables.lean ====
/- The schedule of the key-and-value gradient kernel: the two constant tables @main prefetches (which block of queries and which
   block of keys a point works on), the pipeline at those tables, and the facts about them that are decided point by point. -/
module

public import proofs.«01_k».proof.Defs
public import proofs.«01_k».proof.Proof.Gen.KernelIdeal
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.AttKV

open Cert.KernelIdeal Cert.KernelIdeal.Gen
open Idealize.ShloMosaic
open Idealize.ShloMosaic.TcCoe Idealize.ShloMosaic.Tactic

attribute [local instance] Cert.KernelIdeal.Gen.facts

variable {F : FTy → Type} [FloatOps F] [Named F]

/-- The tables and the two accumulators the kernel is handed, whole. -/
abbrev tbM0 : Memref sig .tc .smem S36 .i32 := Memref.whole main_c
abbrev tbM1 : Memref sig .tc .smem S36 .i32 := Memref.whole main_c_0
abbrev scM0 : Memref sig .tc .vmem S1024x256 .f32 := Memref.whole cc0_scratch0
abbrev scM1 : Memref sig .tc .vmem S1024x128 .f32 := Memref.whole cc0_scratch1

/-- The block of queries, and the block of keys, of each of the 36 positions of a head's walk. -/
def qList : List ℕ := [0, 1, 2, 3, 4, 5, 6, 7, 1, 2, 3, 4, 5, 6, 7, 2, 3, 4, 5, 6, 7, 3, 4, 5, 6, 7, 4, 5, 6, 7, 5, 6, 7, 6, 7, 7]
def kList : List ℕ := [0, 0, 0, 0, 0, 0, 0, 0, 1, 1, 1, 1, 1, 1, 1, 2, 2, 2, 2, 2, 2, 3, 3, 3, 3, 3, 4, 4, 4, 4, 5, 5, 5, 6, 6, 7]
def qAt (i : grid0.Coords) : ℕ := qList.getD (i 1).val 0
def kAt (i : grid0.Coords) : ℕ := kList.getD (i 1).val 0

/-- The tables' contents, as the constants of @main hold them. -/
def T0 : S36.Idx → BitVec 32 := fun x => lit0 (S36.rowMajor x)
def T1 : S36.Idx → BitVec 32 := fun x => lit1 (S36.rowMajor x)

/-- The words a point reads from the tables. -/
abbrev qWord (F : FTy → Type) (i : grid0.Coords) : BitVec 32 :=
  View.readAt (Elt F) tbM0.view (Rect.unit (s := S36) (k0_off1 i) S1.size (k0_off1_inb i)).toLoadRect T0 (Shape.Idx.first (numel1_S1.symm ▸ Nat.one_pos))
abbrev kWord (F : FTy → Type) (i : grid0.Coords) : BitVec 32 :=
  View.readAt (Elt F) tbM1.view (Rect.unit (s := S36) (k0_off1 i) S1.size (k0_off1_inb i)).toLoadRect T1 (Shape.Idx.first (numel1_S1.symm ▸ Nat.one_pos))

theorem qWord_eq (i : grid0.Coords) : qWord F i = BitVec.ofNat 32 (qAt i) :=
  (show qWord F i = qWord Ideal i by sl_kernel_rfl).trans ((by decide +kernel : ∀ i : grid0.Coords, qWord Ideal i = BitVec.ofNat 32 (qAt i)) i)
theorem kWord_eq (i : grid0.Coords) : kWord F i = BitVec.ofNat 32 (kAt i) :=
  (show kWord F i = kWord Ideal i by sl_kernel_rfl).trans ((by decide +kernel : ∀ i : grid0.Coords, kWord Ideal i = BitVec.ofNat 32 (kAt i)) i)

theorem qAt_lt (i : grid0.Coords) : qAt i < 8 := (by decide +kernel : ∀ i : grid0.Coords, qAt i < 8) i
theorem kAt_le (i : grid0.Coords) : kAt i ≤ qAt i := (by decide +kernel : ∀ i : grid0.Coords, kAt i ≤ qAt i) i

/-- The tests of the body at a point: on the diagonal, below it, last block of queries. -/
theorem test_eq (i : grid0.Coords) : (Scalar.cmpi .ne (Scalar.extui (Scalar.cmpi .eq (qWord F i) (kWord F i))) 0#32 = 1#1) ↔ qAt i = kAt i := by
  rw [qWord_eq, kWord_eq]
  exact (by decide +kernel : ∀ i : grid0.Coords, (Scalar.cmpi .ne (Scalar.extui (Scalar.cmpi .eq (BitVec.ofNat 32 (qAt i)) (BitVec.ofNat 32 (kAt i)))) 0#32 = 1#1) ↔ qAt i = kAt i) i
theorem test_gt (i : grid0.Coords) : (Scalar.cmpi .ne (Scalar.extui (Scalar.cmpi .sgt (qWord F i) (kWord F i))) 0#32 = 1#1) ↔ kAt i < qAt i := by
  rw [qWord_eq, kWord_eq]
  exact (by decide +kernel : ∀ i : grid0.Coords, (Scalar.cmpi .ne (Scalar.extui (Scalar.cmpi .sgt (BitVec.ofNat 32 (qAt i)) (BitVec.ofNat 32 (kAt i)))) 0#32 = 1#1) ↔ kAt i < qAt i) i
theorem test_last (i : grid0.Coords) : k0_cond3 (qWord F i) = 1#1 ↔ qAt i = 7 := by
  rw [qWord_eq]
  exact (by decide +kernel : ∀ i : grid0.Coords, (k0_cond3 (BitVec.ofNat 32 (qAt i)) = 1#1) ↔ qAt i = 7) i

/-- The contents of the two tables, as the pipeline takes them. -/
def pf : pre0.Contents (Elt F) := fun | ⟨0, _⟩ => T0 | ⟨1, _⟩ => T1 | ⟨_ + 2, h⟩ => absurd h (by simp)

/-- A window's block index: the block of queries or of keys, and the head. -/
theorem trQ (i : grid0.Coords) : cc0_transform_0 (F := F) k0_off1_inb numel1_S1 pf i = ![qAt i, (i 0).val] :=
  funext fun a => (show cc0_transform_0 (F := F) k0_off1_inb numel1_S1 pf i a = cc0_transform_0 (F := Ideal) k0_off1_inb numel1_S1 pf i a by sl_kernel_rfl).trans
    ((by decide +kernel : ∀ (i : grid0.Coords) a, cc0_transform_0 (F := Ideal) k0_off1_inb numel1_S1 pf i a = ![qAt i, (i 0).val] a) i a)
theorem trK (i : grid0.Coords) : cc0_transform_1 (F := F) k0_off1_inb numel1_S1 pf i = ![kAt i, (i 0).val] :=
  funext fun a => (show cc0_transform_1 (F := F) k0_off1_inb numel1_S1 pf i a = cc0_transform_1 (F := Ideal) k0_off1_inb numel1_S1 pf i a by sl_kernel_rfl).trans
    ((by decide +kernel : ∀ (i : grid0.Coords) a, cc0_transform_1 (F := Ideal) k0_off1_inb numel1_S1 pf i a = ![kAt i, (i 0).val] a) i a)

theorem inbQ2 (i : grid0.Coords) : ∀ a, (![qAt i, (i 0).val] a + 1) * S1024x256.size a ≤ S8192x2048.size a :=
  (by decide +kernel : ∀ (i : grid0.Coords) a, (![qAt i, (i 0).val] a + 1) * S1024x256.size a ≤ S8192x2048.size a) i
theorem inbK2 (i : grid0.Coords) : ∀ a, (![kAt i, (i 0).val] a + 1) * S1024x256.size a ≤ S8192x2048.size a :=
  (by decide +kernel : ∀ (i : grid0.Coords) a, (![kAt i, (i 0).val] a + 1) * S1024x256.size a ≤ S8192x2048.size a) i
theorem inbQ1 (i : grid0.Coords) : ∀ a, (![qAt i, (i 0).val] a + 1) * S1024x128.size a ≤ S8192x1024.size a :=
  (by decide +kernel : ∀ (i : grid0.Coords) a, (![qAt i, (i 0).val] a + 1) * S1024x128.size a ≤ S8192x1024.size a) i
theorem inbK1 (i : grid0.Coords) : ∀ a, (![kAt i, (i 0).val] a + 1) * S1024x128.size a ≤ S8192x1024.size a :=
  (by decide +kernel : ∀ (i : grid0.Coords) a, (![kAt i, (i 0).val] a + 1) * S1024x128.size a ≤ S8192x1024.size a) i

/-- Every block lies inside its array: the pipeline's side condition at these tables. -/
theorem ok_pf : ok0 (F := F) pf :=
  ⟨fun i => ⟨fun a => (congrArg (fun f => (f a + 1) * S1024x256.size a) (trQ (F := F) i)).trans_le (inbQ2 i a), .inr (Affine.block_words_dvd (s := S8192x2048) (p := EltTy.packing .bf16) (by decide) (by decide))⟩,
   fun i => ⟨fun a => (congrArg (fun f => (f a + 1) * S1024x256.size a) (trK (F := F) i)).trans_le (inbK2 i a), .inr (Affine.block_words_dvd (s := S8192x2048) (p := EltTy.packing .bf16) (by decide) (by decide))⟩,
   fun i => ⟨fun a => (congrArg (fun f => (f a + 1) * S1024x128.size a) (trK (F := F) i)).trans_le (inbK1 i a), .inr (Affine.block_words_dvd (s := S8192x1024) (p := EltTy.packing .bf16) (by decide) (by decide))⟩,
   fun i => ⟨fun a => (congrArg (fun f => (f a + 1) * S1024x128.size a) (trQ (F := F) i)).trans_le (inbQ1 i a), .inl rfl⟩,
   fun i => ⟨fun a => (congrArg (fun f => (f a + 1) * S1024x128.size a) (trQ (F := F) i)).trans_le (inbQ1 i a), .inl rfl⟩,
   fun i => ⟨fun a => (congrArg (fun f => (f a + 1) * S1024x128.size a) (trQ (F := F) i)).trans_le (inbQ1 i a), .inr (Affine.block_words_dvd (s := S8192x1024) (p := EltTy.packing .bf16) (by decide) (by decide))⟩,
   fun i => ⟨fun a => (congrArg (fun f => (f a + 1) * S1024x256.size a) (trK (F := F) i)).trans_le (inbK2 i a), .inl rfl⟩,
   fun i => ⟨fun a => (congrArg (fun f => (f a + 1) * S1024x128.size a) (trK (F := F) i)).trans_le (inbK1 i a), .inl rfl⟩⟩

/-- The tables as admissible contents, and the pipeline at them. -/
def adm : (pcfg0 (F := F)).Adm := ⟨pf, ok_pf⟩
variable (F) in
abbrev cfgA : Pipeline.Cfg sig Λ₀ := cfg0 (F := F) adm
variable (F) in
abbrev pcs : Fin 1 → Pipeline.Cfg sig Λ₀ := Pipeline.pin (pcfgs (F := F)) fun _ => adm

/-- Point `t`'s coordinates. -/
abbrev crd (t : Fin grid0.N) : grid0.Coords := grid0.coords t

/-- The gradients' windows are written back, and are stored, exactly at the last block of queries. -/
theorem idle6 (t : Fin grid0.N) : (cfgA F).idle (6 : Fin 8) (crd t) = !decide (qAt (crd t) = 7) :=
  (show (cfgA F).idle (6 : Fin 8) (crd t) = (cfgA Ideal).idle (6 : Fin 8) (crd t) by sl_kernel_rfl).trans
    ((by decide +kernel : ∀ i : grid0.Coords, (cfgA Ideal).idle (6 : Fin 8) i = !decide (qAt i = 7)) (crd t))
theorem idle7 (t : Fin grid0.N) : (cfgA F).idle (7 : Fin 8) (crd t) = !decide (qAt (crd t) = 7) :=
  (show (cfgA F).idle (7 : Fin 8) (crd t) = (cfgA Ideal).idle (7 : Fin 8) (crd t) by sl_kernel_rfl).trans
    ((by decide +kernel : ∀ i : grid0.Coords, (cfgA Ideal).idle (7 : Fin 8) i = !decide (qAt i = 7)) (crd t))
theorem flush6 (t : Fin grid0.N) : ((cfgA F).win (6 : Fin 8)).flush t = decide (qAt (crd t) = 7) :=
  (show ((cfgA F).win (6 : Fin 8)).flush t = ((cfgA Ideal).win (6 : Fin 8)).flush t by sl_kernel_rfl).trans
    ((by decide +kernel : ∀ t : Fin grid0.N, ((cfgA Ideal).win (6 : Fin 8)).flush t = decide (qAt (crd t) = 7)) t)
theorem flush7 (t : Fin grid0.N) : ((cfgA F).win (7 : Fin 8)).flush t = decide (qAt (crd t) = 7) :=
  (show ((cfgA F).win (7 : Fin 8)).flush t = ((cfgA Ideal).win (7 : Fin 8)).flush t by sl_kernel_rfl).trans
    ((by decide +kernel : ∀ t : Fin grid0.N, ((cfgA Ideal).win (7 : Fin 8)).flush t = decide (qAt (crd t) = 7)) t)

/-- A walk begins on the diagonal. -/
theorem start_diag (t : Fin grid0.N) (h : t.val = 0) : qAt (crd t) = kAt (crd t) :=
  (by decide +kernel : ∀ t : Fin grid0.N, t.val = 0 → qAt (crd t) = kAt (crd t)) t h

end Cert.AttKV

end
-- ==== Proof.AttKV.Steps.lean ====
/- What one point of the kernel computes from its blocks, as plain functions of the blocks: on the diagonal the two sums begin there,
   below it they add to what the accumulators hold. Composed of the printed payloads; the four groups of 256 rows of a block of
   queries are windows of the block. -/
module

public import proofs.«01_k».proof.Proof.AttKV.Tables
public import proofs.«01_k».proof.Proof.Gen.KernelIdeal.Skeleton
public import Idealize.ShloMosaic.Lib.VecWindow
public import Idealize.ShloMosaic.Lib.Pipeline.Value

@[expose] public section

set_option maxRecDepth 16384

noncomputable section

namespace Cert.AttKV

open Cert.KernelIdeal Cert.KernelIdeal.Gen
open Idealize.ShloMosaic
open Idealize.ShloMosaic.TcCoe Idealize.ShloMosaic.Tactic

attribute [local instance] Cert.KernelIdeal.Gen.facts

variable {F : FTy → Type} [FloatOps F] [Named F]

/-- Group `g`'s 256 rows of a block 256 lanes wide, and of one 128 lanes wide. -/
abbrev w0 {e : EltTy} (x : S1024x256.Idx → Elt F e) : Vec F S256x256 e := VecWindow.window x ![0, 0] S256x256.size inb_S1024x256_S256x256_0_0
abbrev w1 {e : EltTy} (x : S1024x256.Idx → Elt F e) : Vec F S256x256 e := VecWindow.window x ![256, 0] S256x256.size inb_S1024x256_S256x256_256_0
abbrev w2 {e : EltTy} (x : S1024x256.Idx → Elt F e) : Vec F S256x256 e := VecWindow.window x ![512, 0] S256x256.size inb_S1024x256_S256x256_512_0
abbrev w3 {e : EltTy} (x : S1024x256.Idx → Elt F e) : Vec F S256x256 e := VecWindow.window x ![768, 0] S256x256.size inb_S1024x256_S256x256_768_0
abbrev n0 {e : EltTy} (x : S1024x128.Idx → Elt F e) : Vec F S256x128 e := VecWindow.window x ![0, 0] S256x128.size inb_S1024x128_S256x128_0_0
abbrev n1 {e : EltTy} (x : S1024x128.Idx → Elt F e) : Vec F S256x128 e := VecWindow.window x ![256, 0] S256x128.size inb_S1024x128_S256x128_256_0
abbrev n2 {e : EltTy} (x : S1024x128.Idx → Elt F e) : Vec F S256x128 e := VecWindow.window x ![512, 0] S256x128.size inb_S1024x128_S256x128_512_0
abbrev n3 {e : EltTy} (x : S1024x128.Idx → Elt F e) : Vec F S256x128 e := VecWindow.window x ![768, 0] S256x128.size inb_S1024x128_S256x128_768_0

/-- All of a block, read as a window. -/
abbrev wf {e : EltTy} (x : S1024x256.Idx → Elt F e) : Vec F S1024x256 e := VecWindow.window x ![0, 0] S1024x256.size inb_S1024x256_S1024x256_0_0
abbrev nf {e : EltTy} (x : S1024x128.Idx → Elt F e) : Vec F S1024x128 e := VecWindow.window x ![0, 0] S1024x128.size inb_S1024x128_S1024x128_0_0

theorem wf_eq {e : EltTy} (x : S1024x256.Idx → Elt F e) : wf x = x := by
  funext y; refine congrArg x (funext fun a => Fin.ext ?_)
  fin_cases a <;> show 0 + 1 * _ = _ <;> omega
theorem nf_eq {e : EltTy} (x : S1024x128.Idx → Elt F e) : nf x = x := by
  funext y; refine congrArg x (funext fun a => Fin.ext ?_)
  fin_cases a <;> show 0 + 1 * _ = _ <;> omega

section
variable (q k : S1024x256.Idx → Elt F .bf16) (v : S1024x128.Idx → Elt F .bf16) (o l : S1024x128.Idx → Elt F .f32) (g : S1024x128.Idx → Elt F .bf16)

/-- A point below the diagonal: the keys' sum, and the values' sum, added to the accumulators' contents. -/
def offDk (prev : S1024x256.Idx → Elt F .f32) : S1024x256.Idx → Elt F .f32 :=
  k0_pay5 (k0_pay39 (k0_pay36 (k0_pay32 (k0_pay29 (w0 q) (wf k) (n0 l) (n0 g) (n0 o) (nf v) (w0 q)) (w1 q) (wf k) (n1 l) (n1 g) (n1 o) (nf v) (w1 q))
    (k0_pay33 (w2 q)) (wf k) (n2 l) (n2 g) (n2 o) (nf v) (w2 q)) (k0_pay37 (w3 q)) (wf k) (n3 l) (n3 g) (n3 o) (nf v) (w3 q)) (wf prev)
def offDv (prev : S1024x128.Idx → Elt F .f32) : S1024x128.Idx → Elt F .f32 :=
  k0_pay4 (k0_pay40 (k0_pay35 (k0_pay31 (k0_pay28 (w0 q) (wf k) (n0 l) (n0 g)) (w1 q) (wf k) (n1 l) (n1 g))
    (k0_pay33 (w2 q)) (wf k) (n2 l) (n2 g)) (k0_pay37 (w3 q)) (wf k) (n3 l) (n3 g) (nf prev))

/-- A point on the diagonal: the two sums it begins with. -/
def diagDk : S1024x256.Idx → Elt F .f32 :=
  k0_pay3 (k0_pay21 (k0_pay15 (k0_pay10 (k0_pay9 (w0 q) (wf k) (n0 l) (n0 g) (n0 o) (nf v)) (w0 q)) (k0_pay12 (w1 q) (wf k) (n1 l) (n1 g) (n1 o) (nf v)) (w1 q))
      (k0_pay17 (w2 q) (wf k) (n2 l)) (k0_pay18 (n2 g) (nf v)) (k0_pay19 (n2 g) (n2 o)) (w2 q))
    (k0_pay22 (n3 l)) (k0_pay23 (n3 g)) (k0_pay24 (n3 o)) (k0_pay25 (nf v)) (k0_pay26 (w3 q) (wf k)) (w3 q)
def diagDv : S1024x128.Idx → Elt F .f32 :=
  k0_pay2 (k0_pay20 (k0_pay14 (k0_pay8 (w0 q) (wf k) (n0 l) (n0 g)) (k0_pay13 (w1 q) (wf k) (n1 l)) (n1 g)) (k0_pay17 (w2 q) (wf k) (n2 l)) (n2 g))
    (k0_pay22 (n3 l)) (k0_pay26 (w3 q) (wf k)) (n3 g)

end

end Cert.AttKV

end
-- ==== Proof.AttKV.Paths.lean ====
/- The kernel's body run on one point's blocks, case by case: on the diagonal or below it, at the last block of queries or not.
   Each run states what the accumulators, and at the last block of queries the two gradients' blocks, hold afterwards. -/
module

public import proofs.«01_k».proof.Proof.AttKV.Steps

@[expose] public section

set_option maxRecDepth 16384
set_option Elab.async false

noncomputable section

namespace Cert.AttKV

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] Cert.KernelIdeal.Gen.facts

variable {F : FTy → Type} [FloatOps F] [Named F]

/-- The carrier the runs are stated in. -/
abbrev MM (F : FTy → Type) [FloatOps F] [Named F] := MT nD τ sig Unit (Elt F) ℕ (UR sig nD τ) ℕ

/-- A view wholly overwritten by one store at offset zero reads what was stored. -/
theorem read_whole_store {sg : RefSig} {κ : Kind} {sp : Space} {s : Shape} {e : EltTy} (v : View sg κ sp s e) (f : v.ty.Contents (Elt F)) {off : Fin s.rank → ℕ}
    (h : off = fun _ => 0) (inb : ∀ a, off a + s.size a ≤ s.size a) (w : s.Idx → Elt F e) (L : List (View.Piece (Elt F) s e)) :
    v.read (Elt F) (v.writes (Elt F) f ((⟨Rect.unit off s.size inb, w⟩ : View.Piece (Elt F) s e) :: L)) = w := by
  rw [View.read_writes_eq_canon, View.canon_cons_unit_zero h]
  intro y
  exact ⟨_, List.mem_cons_self .., View.mem_set_unit_zero h inb y⟩

/-- A load through a unit-stride rectangle of a buffer that holds `x` is a window of `x`. -/
theorem rep_unit {sg : RefSig} {κ : Kind} {sp : Space} {s : Shape} {e : EltTy} (v : View sg κ sp s e) (x : s.Idx → Elt F e) {off size : Fin s.rank → ℕ}
    (inb : ∀ a, off a + size a ≤ s.size a) :
    v.readAt (Elt F) (Rect.unit off size inb).toLoadRect (v.rep x) = VecWindow.window x off size inb := View.readAt_rep_unit v x inb rfl inb

/-- A load through a unit-stride rectangle of any contents is a window of what they read. -/
theorem any_unit {sg : RefSig} {κ : Kind} {sp : Space} {s : Shape} {e : EltTy} (v : View sg κ sp s e) (f : v.ty.Contents (Elt F)) {off size : Fin s.rank → ℕ}
    (inb : ∀ a, off a + size a ≤ s.size a) :
    v.readAt (Elt F) (Rect.unit off size inb).toLoadRect f = VecWindow.window (v.read (Elt F) f) off size inb := View.readAt_unit v f inb rfl inb

theorem zero2 : (![0, 0] : Fin 2 → ℕ) = fun _ => 0 := by funext a; fin_cases a <;> rfl

/-- The accumulators holding given contents. -/
def acc0 (c : Dev nD) (X : S1024x256.Idx → Elt F .f32) : sProp (MM F) :=
  iprop(∃ f, ⌜scM0.view.read (Elt F) f = X⌝ ∗ (scM0.view.loc (c : Thread nD τ) ↦{fullShare} f))
def acc1 (c : Dev nD) (X : S1024x128.Idx → Elt F .f32) : sProp (MM F) :=
  iprop(∃ f, ⌜scM1.view.read (Elt F) f = X⌝ ∗ (scM1.view.loc (c : Thread nD τ) ↦{fullShare} f))

section
variable (c : Dev nD) (i : grid0.Coords) (arg4 : Memref sig .tc .vmem S1024x256 .bf16) (harg4 : arg4.IsWhole) (arg5 : Memref sig .tc .vmem S1024x256 .bf16) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .bf16) (harg9 : arg9.IsWhole) (arg10 : Memref sig .tc .vmem S1024x256 .f32) (harg10 : arg10.IsWhole) (arg11 : Memref sig .tc .vmem S1024x128 .f32) (harg11 : arg11.IsWhole)
  (x0 x1 : S1024x256.Idx → Elt F .bf16) (x2 : S1024x128.Idx → Elt F .bf16) (x3 x4 : S1024x128.Idx → Elt F .f32) (x5 : S1024x128.Idx → Elt F .bf16)

/-- The body at a point, on staging buffers given as arguments. -/
abbrev bodyOn : Prog (TpuEff nD τ sig (Elt F) Λ₀ .tc) PUnit :=
  cc0_mla_att_bwd_kv i tbM0 (Memref.isWhole_whole _) tbM1 (Memref.isWhole_whole _) arg4 harg4 arg5 harg5 arg6 harg6 arg7 harg7 arg8 harg8 arg9 harg9 arg10 harg10 arg11 harg11 scM0 (Memref.isWhole_whole _) scM1 (Memref.isWhole_whole _)

/-- What the body only reads: the six blocks and the two tables. -/
def ins : sProp (MM F) :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (arg7.view.loc (c : Thread nD τ) ↦[arg7.view.set]{fullShare} arg7.view.rep x3)
    ∗ (arg8.view.loc (c : Thread nD τ) ↦[arg8.view.set]{fullShare} arg8.view.rep x4)
    ∗ (arg9.view.loc (c : Thread nD τ) ↦[arg9.view.set]{fullShare} arg9.view.rep x5)
    ∗ (tbM0.view.loc (c : Thread nD τ) ↦{fullShare.right} T0)
    ∗ (tbM1.view.loc (c : Thread nD τ) ↦{fullShare.right} T1))

abbrev tEq : Prop := Scalar.cmpi .ne (Scalar.extui (Scalar.cmpi .eq (qWord F i) (kWord F i))) 0#32 = 1#1
abbrev tGt : Prop := Scalar.cmpi .ne (Scalar.extui (Scalar.cmpi .sgt (qWord F i) (kWord F i))) 0#32 = 1#1
abbrev tLast : Prop := k0_cond3 (qWord F i) = 1#1

set_option backward.proofsInPublic true in
set_option maxHeartbeats 8000000 in
/-- On the diagonal, not at the last block of queries. -/
theorem run_A (hc0 : tEq (F := F) i) (hc1 : ¬tGt (F := F) i) (k0_h3 : ¬tLast (F := F) i)
    (y6 : S1024x256.Idx → Elt F .f32) (y7 : S1024x128.Idx → Elt F .f32) (X0 : S1024x256.Idx → Elt F .f32) (X1 : S1024x128.Idx → Elt F .f32) (K : PUnit → sProp (MM F)) :
    iprop(ins c arg4 arg5 arg6 arg7 arg8 arg9 x0 x1 x2 x3 x4 x5 ∗ owns (c : Thread nD τ) arg10 fullShare y6 ∗ owns (c : Thread nD τ) arg11 fullShare y7
        ∗ acc0 c X0 ∗ acc1 c X1
        ∗ (iprop(ins c arg4 arg5 arg6 arg7 arg8 arg9 x0 x1 x2 x3 x4 x5 ∗ owns (c : Thread nD τ) arg10 fullShare y6 ∗ owns (c : Thread nD τ) arg11 fullShare y7
            ∗ acc0 c (diagDk x0 x1 x2 x3 x4 x5) ∗ acc1 c (diagDv x0 x1 x4 x5)) -∗ K ⟨⟩))
      ⊢ wp frame (wpE (defs₀ (F := F)) Variants.none c none) Set.univ (bodyOn i arg4 harg4 arg5 harg5 arg6 harg6 arg7 harg7 arg8 harg8 arg9 harg9 arg10 harg10 arg11 harg11) K := by
  unfold ins acc0 acc1 owns bodyOn
  rw [cc0_mla_att_bwd_kv_eq_skeleton]; unfold cc0_mla_att_bwd_kv_skel
  iintro ⟨⟨H0, H1, H2, H3, H4, H5, HT0, HT1⟩, ⟨%f6, %hf6, HO6⟩, ⟨%f7, %hf7, HO7⟩, ⟨%g0, %hg0, HS0⟩, ⟨%g1, %hg1, HS1⟩, Hk⟩
  obtain rfl := harg10.eq_unread hf6; obtain rfl := harg11.eq_unread hf7
  have hS0 : scM0.IsWhole := Memref.isWhole_whole _
  have hS1 : scM1.IsWhole := Memref.isWhole_whole _
  have hT0 : tbM0.IsWhole := Memref.isWhole_whole _
  have hT1 : tbM1.IsWhole := Memref.isWhole_whole _
  sl_exec! (disch := first | (guard_target = Scalar.cmpi = _; exact hc0) | (guard_target = ¬(Scalar.cmpi = _); exact hc1) | (guard_target = ¬(k0_cond3 _ = _); exact k0_h3))
  sl_step
  iapply Hk
  isplitl [H0 H1 H2 H3 H4 H5 HT0 HT1]
  · isplitl [H0]; · iexact H0
    isplitl [H1]; · iexact H1
    isplitl [H2]; · iexact H2
    isplitl [H3]; · iexact H3
    isplitl [H4]; · iexact H4
    isplitl [H5]; · iexact H5
    isplitl [HT0]; · iexact HT0
    iexact HT1
  isplitl [HO6]
  · iexists _; isplitr; · ipureintro; exact harg10.read_unread _
    iexact HO6
  isplitl [HO7]
  · iexists _; isplitr; · ipureintro; exact harg11.read_unread _
    iexact HO7
  isplitl [HS0]
  · iexists _; isplitr
    swap
    · iexact HS0
    · ipureintro
      refine (read_whole_store _ _ zero2 _ _ _).trans ?_
      sl_unfold_words
      simp only [rep_unit]
      rfl
  · iexists _; isplitr
    swap
    · iexact HS1
    · ipureintro
      refine (read_whole_store _ _ zero2 _ _ _).trans ?_
      sl_unfold_words
      simp only [rep_unit]
      rfl

set_option backward.proofsInPublic true in
set_option maxHeartbeats 8000000 in
/-- Below the diagonal, not at the last block of queries. -/
theorem run_B (hc0 : ¬tEq (F := F) i) (hc1 : tGt (F := F) i) (k0_h3 : ¬tLast (F := F) i)
    (y6 : S1024x256.Idx → Elt F .f32) (y7 : S1024x128.Idx → Elt F .f32) (X0 : S1024x256.Idx → Elt F .f32) (X1 : S1024x128.Idx → Elt F .f32) (K : PUnit → sProp (MM F)) :
    iprop(ins c arg4 arg5 arg6 arg7 arg8 arg9 x0 x1 x2 x3 x4 x5 ∗ owns (c : Thread nD τ) arg10 fullShare y6 ∗ owns (c : Thread nD τ) arg11 fullShare y7
        ∗ acc0 c X0 ∗ acc1 c X1
        ∗ (iprop(ins c arg4 arg5 arg6 arg7 arg8 arg9 x0 x1 x2 x3 x4 x5 ∗ owns (c : Thread nD τ) arg10 fullShare y6 ∗ owns (c : Thread nD τ) arg11 fullShare y7
            ∗ acc0 c (offDk x0 x1 x2 x3 x4 x5 X0) ∗ acc1 c (offDv x0 x1 x4 x5 X1)) -∗ K ⟨⟩))
      ⊢ wp frame (wpE (defs₀ (F := F)) Variants.none c none) Set.univ (bodyOn i arg4 harg4 arg5 harg5 arg6 harg6 arg7 harg7 arg8 harg8 arg9 harg9 arg10 harg10 arg11 harg11) K := by
  unfold ins acc0 acc1 owns bodyOn
  rw [cc0_mla_att_bwd_kv_eq_skeleton]; unfold cc0_mla_att_bwd_kv_skel
  iintro ⟨⟨H0, H1, H2, H3, H4, H5, HT0, HT1⟩, ⟨%f6, %hf6, HO6⟩, ⟨%f7, %hf7, HO7⟩, ⟨%g0, %hg0, HS0⟩, ⟨%g1, %hg1, HS1⟩, Hk⟩
  obtain rfl := harg10.eq_unread hf6; obtain rfl := harg11.eq_unread hf7
  have e0 : View.readAt (Elt F) scM0.view (Rect.unit (s := S1024x256) ![0, 0] S1024x256.size inb_S1024x256_S1024x256_0_0).toLoadRect g0 = wf X0 := by rw [any_unit, hg0]
  have e1 : View.readAt (Elt F) scM1.view (Rect.unit (s := S1024x128) ![0, 0] S1024x128.size inb_S1024x128_S1024x128_0_0).toLoadRect g1 = nf X1 := by rw [any_unit, hg1]
  have hS0 : scM0.IsWhole := Memref.isWhole_whole _
  have hS1 : scM1.IsWhole := Memref.isWhole_whole _
  have hT0 : tbM0.IsWhole := Memref.isWhole_whole _
  have hT1 : tbM1.IsWhole := Memref.isWhole_whole _
  sl_exec! (disch := first | (guard_target = ¬(Scalar.cmpi = _); exact hc0) | (guard_target = Scalar.cmpi = _; exact hc1) | (guard_target = ¬(k0_cond3 _ = _); exact k0_h3))
  sl_step
  iapply Hk
  isplitl [H0 H1 H2 H3 H4 H5 HT0 HT1]
  · isplitl [H0]; · iexact H0
    isplitl [H1]; · iexact H1
    isplitl [H2]; · iexact H2
    isplitl [H3]; · iexact H3
    isplitl [H4]; · iexact H4
    isplitl [H5]; · iexact H5
    isplitl [HT0]; · iexact HT0
    iexact HT1
  isplitl [HO6]
  · iexists _; isplitr; · ipureintro; exact harg10.read_unread _
    iexact HO6
  isplitl [HO7]
  · iexists _; isplitr; · ipureintro; exact harg11.read_unread _
    iexact HO7
  isplitl [HS0]
  · iexists _; isplitr
    swap
    · iexact HS0
    · ipureintro
      refine (read_whole_store _ _ zero2 _ _ _).trans ?_
      sl_unfold_words
      try rw [e0]
      try rw [e1]
      simp only [rep_unit]
      rfl
  · iexists _; isplitr
    swap
    · iexact HS1
    · ipureintro
      refine (read_whole_store _ _ zero2 _ _ _).trans ?_
      sl_unfold_words
      try rw [e0]
      try rw [e1]
      simp only [rep_unit]
      rfl

set_option backward.proofsInPublic true in
set_option maxHeartbeats 8000000 in
/-- Below the diagonal, at the last block of queries. -/
theorem run_C (hc0 : ¬tEq (F := F) i) (hc1 : tGt (F := F) i) (k0_h3 : tLast (F := F) i)
    (y6 : S1024x256.Idx → Elt F .f32) (y7 : S1024x128.Idx → Elt F .f32) (X0 : S1024x256.Idx → Elt F .f32) (X1 : S1024x128.Idx → Elt F .f32) (K : PUnit → sProp (MM F)) :
    iprop(ins c arg4 arg5 arg6 arg7 arg8 arg9 x0 x1 x2 x3 x4 x5 ∗ owns (c : Thread nD τ) arg10 fullShare y6 ∗ owns (c : Thread nD τ) arg11 fullShare y7
        ∗ acc0 c X0 ∗ acc1 c X1
        ∗ (iprop(ins c arg4 arg5 arg6 arg7 arg8 arg9 x0 x1 x2 x3 x4 x5 ∗ owns (c : Thread nD τ) arg10 fullShare (k0_pay6 (offDk x0 x1 x2 x3 x4 x5 X0)) ∗ owns (c : Thread nD τ) arg11 fullShare (offDv x0 x1 x4 x5 X1)
            ∗ acc0 c (offDk x0 x1 x2 x3 x4 x5 X0) ∗ acc1 c (offDv x0 x1 x4 x5 X1)) -∗ K ⟨⟩))
      ⊢ wp frame (wpE (defs₀ (F := F)) Variants.none c none) Set.univ (bodyOn i arg4 harg4 arg5 harg5 arg6 harg6 arg7 harg7 arg8 harg8 arg9 harg9 arg10 harg10 arg11 harg11) K := by
  unfold ins acc0 acc1 owns bodyOn
  rw [cc0_mla_att_bwd_kv_eq_skeleton]; unfold cc0_mla_att_bwd_kv_skel
  iintro ⟨⟨H0, H1, H2, H3, H4, H5, HT0, HT1⟩, ⟨%f6, %hf6, HO6⟩, ⟨%f7, %hf7, HO7⟩, ⟨%g0, %hg0, HS0⟩, ⟨%g1, %hg1, HS1⟩, Hk⟩
  obtain rfl := harg10.eq_unread hf6; obtain rfl := harg11.eq_unread hf7
  have e0 : View.readAt (Elt F) scM0.view (Rect.unit (s := S1024x256) ![0, 0] S1024x256.size inb_S1024x256_S1024x256_0_0).toLoadRect g0 = wf X0 := by rw [any_unit, hg0]
  have e1 : View.readAt (Elt F) scM1.view (Rect.unit (s := S1024x128) ![0, 0] S1024x128.size inb_S1024x128_S1024x128_0_0).toLoadRect g1 = nf X1 := by rw [any_unit, hg1]
  have hS0 : scM0.IsWhole := Memref.isWhole_whole _
  have hS1 : scM1.IsWhole := Memref.isWhole_whole _
  have hT0 : tbM0.IsWhole := Memref.isWhole_whole _
  have hT1 : tbM1.IsWhole := Memref.isWhole_whole _
  sl_exec! (disch := first | (guard_target = ¬(Scalar.cmpi = _); exact hc0) | (guard_target = Scalar.cmpi = _; exact hc1) | (guard_target = k0_cond3 _ = _; exact k0_h3))
  sl_step
  iapply Hk
  isplitl [H0 H1 H2 H3 H4 H5 HT0 HT1]
  · isplitl [H0]; · iexact H0
    isplitl [H1]; · iexact H1
    isplitl [H2]; · iexact H2
    isplitl [H3]; · iexact H3
    isplitl [H4]; · iexact H4
    isplitl [H5]; · iexact H5
    isplitl [HT0]; · iexact HT0
    iexact HT1
  isplitl [HO6]
  · iexists _; isplitr
    swap
    · iexact HO6
    · ipureintro
      refine (read_whole_store _ _ zero2 _ _ _).trans ?_
      sl_unfold_words
      refine (congrArg k0_pay6 (View.readCov_unit_zero _ zero2 _ _)).trans ?_
      simp only [rep_unit]
      rfl
  isplitl [HO7]
  · iexists _; isplitr
    swap
    · iexact HO7
    · ipureintro
      refine (read_whole_store _ _ zero2 _ _ _).trans ?_
      sl_unfold_words
      refine (View.readCov_unit_zero _ zero2 _ _).trans ?_
      simp only [rep_unit]
      rfl
  isplitl [HS0]
  · iexists _; isplitr
    swap
    · iexact HS0
    · ipureintro
      refine (read_whole_store _ _ zero2 _ _ _).trans ?_
      sl_unfold_words
      try rw [e0]
      try rw [e1]
      simp only [rep_unit]
      rfl
  · iexists _; isplitr
    swap
    · iexact HS1
    · ipureintro
      refine (read_whole_store _ _ zero2 _ _ _).trans ?_
      sl_unfold_words
      try rw [e0]
      try rw [e1]
      simp only [rep_unit]
      rfl

set_option backward.proofsInPublic true in
set_option maxHeartbeats 8000000 in
/-- On the diagonal, at the last block of queries. -/
theorem run_D (hc0 : tEq (F := F) i) (hc1 : ¬tGt (F := F) i) (k0_h3 : tLast (F := F) i)
    (y6 : S1024x256.Idx → Elt F .f32) (y7 : S1024x128.Idx → Elt F .f32) (X0 : S1024x256.Idx → Elt F .f32) (X1 : S1024x128.Idx → Elt F .f32) (K : PUnit → sProp (MM F)) :
    iprop(ins c arg4 arg5 arg6 arg7 arg8 arg9 x0 x1 x2 x3 x4 x5 ∗ owns (c : Thread nD τ) arg10 fullShare y6 ∗ owns (c : Thread nD τ) arg11 fullShare y7
        ∗ acc0 c X0 ∗ acc1 c X1
        ∗ (iprop(ins c arg4 arg5 arg6 arg7 arg8 arg9 x0 x1 x2 x3 x4 x5 ∗ owns (c : Thread nD τ) arg10 fullShare (k0_pay6 (diagDk x0 x1 x2 x3 x4 x5)) ∗ owns (c : Thread nD τ) arg11 fullShare (diagDv x0 x1 x4 x5)
            ∗ acc0 c (diagDk x0 x1 x2 x3 x4 x5) ∗ acc1 c (diagDv x0 x1 x4 x5)) -∗ K ⟨⟩))
      ⊢ wp frame (wpE (defs₀ (F := F)) Variants.none c none) Set.univ (bodyOn i arg4 harg4 arg5 harg5 arg6 harg6 arg7 harg7 arg8 harg8 arg9 harg9 arg10 harg10 arg11 harg11) K := by
  unfold ins acc0 acc1 owns bodyOn
  rw [cc0_mla_att_bwd_kv_eq_skeleton]; unfold cc0_mla_att_bwd_kv_skel
  iintro ⟨⟨H0, H1, H2, H3, H4, H5, HT0, HT1⟩, ⟨%f6, %hf6, HO6⟩, ⟨%f7, %hf7, HO7⟩, ⟨%g0, %hg0, HS0⟩, ⟨%g1, %hg1, HS1⟩, Hk⟩
  obtain rfl := harg10.eq_unread hf6; obtain rfl := harg11.eq_unread hf7
  have hS0 : scM0.IsWhole := Memref.isWhole_whole _
  have hS1 : scM1.IsWhole := Memref.isWhole_whole _
  have hT0 : tbM0.IsWhole := Memref.isWhole_whole _
  have hT1 : tbM1.IsWhole := Memref.isWhole_whole _
  sl_exec! (disch := first | (guard_target = Scalar.cmpi = _; exact hc0) | (guard_target = ¬(Scalar.cmpi = _); exact hc1) | (guard_target = k0_cond3 _ = _; exact k0_h3))
  sl_step
  iapply Hk
  isplitl [H0 H1 H2 H3 H4 H5 HT0 HT1]
  · isplitl [H0]; · iexact H0
    isplitl [H1]; · iexact H1
    isplitl [H2]; · iexact H2
    isplitl [H3]; · iexact H3
    isplitl [H4]; · iexact H4
    isplitl [H5]; · iexact H5
    isplitl [HT0]; · iexact HT0
    iexact HT1
  isplitl [HO6]
  · iexists _; isplitr
    swap
    · iexact HO6
    · ipureintro
      refine (read_whole_store _ _ zero2 _ _ _).trans ?_
      sl_unfold_words
      refine (congrArg k0_pay6 (View.readCov_unit_zero _ zero2 _ _)).trans ?_
      simp only [rep_unit]
      rfl
  isplitl [HO7]
  · iexists _; isplitr
    swap
    · iexact HO7
    · ipureintro
      refine (read_whole_store _ _ zero2 _ _ _).trans ?_
      sl_unfold_words
      refine (View.readCov_unit_zero _ zero2 _ _).trans ?_
      simp only [rep_unit]
      rfl
  isplitl [HS0]
  · iexists _; isplitr
    swap
    · iexact HS0
    · ipureintro
      refine (read_whole_store _ _ zero2 _ _ _).trans ?_
      sl_unfold_words
      simp only [rep_unit]
      rfl
  · iexists _; isplitr
    swap
    · iexact HS1
    · ipureintro
      refine (read_whole_store _ _ zero2 _ _ _).trans ?_
      sl_unfold_words
      simp only [rep_unit]
      rfl

end

end Cert.AttKV

end
-- ==== Proof.AttKV.Region.lean ====
/- The kernel's walk over its grid, given what the buffers hold when the region is entered: the accumulators point by point, the
   proof data of the pipeline, and the body's obligation at a point. -/
module

public import proofs.«01_k».proof.Proof.AttKV.Paths
public import Idealize.ShloMosaic.Lib.Pipeline.Frame
public import Idealize.ShloMosaic.Lib.Pipeline.Quiescent
public import Idealize.ShloMosaic.Lib.Claim

@[expose] public section

set_option maxRecDepth 16384
set_option Elab.async false

noncomputable section

namespace Cert.AttKV

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

attribute [local instance] Cert.KernelIdeal.Gen.facts

variable {F : FTy → Type} [FloatOps F] [Named F]

/-- The staging buffers of a point. -/
abbrev ms0 (t : Fin (cfgA F).N) : Memref sig .tc .vmem S1024x256 .bf16 := spec0_0.stage ((cfgA F).slots t (0 : Fin 8))
abbrev hs0 (t : Fin (cfgA F).N) : (ms0 (F := F) t).IsWhole := hstage0_0 (((cfgA F).slots t (0 : Fin 8)).cast nbuf0_0)
abbrev ms1 (t : Fin (cfgA F).N) : Memref sig .tc .vmem S1024x256 .bf16 := spec0_1.stage ((cfgA F).slots t (1 : Fin 8))
abbrev hs1 (t : Fin (cfgA F).N) : (ms1 (F := F) t).IsWhole := hstage0_1 (((cfgA F).slots t (1 : Fin 8)).cast nbuf0_1)
abbrev ms2 (t : Fin (cfgA F).N) : Memref sig .tc .vmem S1024x128 .bf16 := spec0_2.stage ((cfgA F).slots t (2 : Fin 8))
abbrev hs2 (t : Fin (cfgA F).N) : (ms2 (F := F) t).IsWhole := hstage0_2 (((cfgA F).slots t (2 : Fin 8)).cast nbuf0_2)
abbrev ms3 (t : Fin (cfgA F).N) : Memref sig .tc .vmem S1024x128 .f32 := spec0_3.stage ((cfgA F).slots t (3 : Fin 8))
abbrev hs3 (t : Fin (cfgA F).N) : (ms3 (F := F) t).IsWhole := hstage0_3 (((cfgA F).slots t (3 : Fin 8)).cast nbuf0_3)
abbrev ms4 (t : Fin (cfgA F).N) : Memref sig .tc .vmem S1024x128 .f32 := spec0_4.stage ((cfgA F).slots t (4 : Fin 8))
abbrev hs4 (t : Fin (cfgA F).N) : (ms4 (F := F) t).IsWhole := hstage0_4 (((cfgA F).slots t (4 : Fin 8)).cast nbuf0_4)
abbrev ms5 (t : Fin (cfgA F).N) : Memref sig .tc .vmem S1024x128 .bf16 := spec0_5.stage ((cfgA F).slots t (5 : Fin 8))
abbrev hs5 (t : Fin (cfgA F).N) : (ms5 (F := F) t).IsWhole := hstage0_5 (((cfgA F).slots t (5 : Fin 8)).cast nbuf0_5)
abbrev ms6 (t : Fin (cfgA F).N) : Memref sig .tc .vmem S1024x256 .f32 := spec0_6.stage ((cfgA F).slots t (6 : Fin 8))
abbrev hs6 (t : Fin (cfgA F).N) : (ms6 (F := F) t).IsWhole := hstage0_6 (((cfgA F).slots t (6 : Fin 8)).cast nbuf0_6)
abbrev ms7 (t : Fin (cfgA F).N) : Memref sig .tc .vmem S1024x128 .f32 := spec0_7.stage ((cfgA F).slots t (7 : Fin 8))
abbrev hs7 (t : Fin (cfgA F).N) : (ms7 (F := F) t).IsWhole := hstage0_7 (((cfgA F).slots t (7 : Fin 8)).cast nbuf0_7)

section
variable (V : (c : Dev nD) → (b : Ref sig .tc) → Buf (Elt F) ((c.tc : Thread nD τ).loc b))

/-- Window `w`'s array when the region is entered, and its block at a point. -/
def arrA (c : Dev nD) (w : Fin (cfgA F).W) : Buf (Elt F) (((cfgA F).win w).arr.view.loc (c : Thread nD τ)) :=
  V c (Pipeline.arrRef (cfgA F).spec w)
def iblk (c : Dev nD) (w : Fin (cfgA F).W) (t : Fin (cfgA F).N) : ((cfgA F).win w).block.Idx → Elt F ((cfgA F).win w).elt :=
  (((cfgA F).win w).blk t).view.read (Elt F) (arrA V c w)

/-- A point's blocks. -/
abbrev bQ (c : Dev nD) (t : Fin (cfgA F).N) : S1024x256.Idx → Elt F .bf16 := iblk V c (0 : Fin 8) t
abbrev bK (c : Dev nD) (t : Fin (cfgA F).N) : S1024x256.Idx → Elt F .bf16 := iblk V c (1 : Fin 8) t
abbrev bV (c : Dev nD) (t : Fin (cfgA F).N) : S1024x128.Idx → Elt F .bf16 := iblk V c (2 : Fin 8) t
abbrev bO (c : Dev nD) (t : Fin (cfgA F).N) : S1024x128.Idx → Elt F .f32 := iblk V c (3 : Fin 8) t
abbrev bL (c : Dev nD) (t : Fin (cfgA F).N) : S1024x128.Idx → Elt F .f32 := iblk V c (4 : Fin 8) t
abbrev bG (c : Dev nD) (t : Fin (cfgA F).N) : S1024x128.Idx → Elt F .bf16 := iblk V c (5 : Fin 8) t

/-- What a point leaves in the accumulators, of what it found there. -/
def stepK (c : Dev nD) (t : Fin (cfgA F).N) (p : S1024x256.Idx → Elt F .f32) : S1024x256.Idx → Elt F .f32 :=
  if qAt (crd t) = kAt (crd t) then diagDk (bQ V c t) (bK V c t) (bV V c t) (bO V c t) (bL V c t) (bG V c t)
  else offDk (bQ V c t) (bK V c t) (bV V c t) (bO V c t) (bL V c t) (bG V c t) p
def stepV (c : Dev nD) (t : Fin (cfgA F).N) (p : S1024x128.Idx → Elt F .f32) : S1024x128.Idx → Elt F .f32 :=
  if qAt (crd t) = kAt (crd t) then diagDv (bQ V c t) (bK V c t) (bL V c t) (bG V c t)
  else offDv (bQ V c t) (bK V c t) (bL V c t) (bG V c t) p

/-- The accumulators before point `n`. -/
def accK (c : Dev nD) : ℕ → S1024x256.Idx → Elt F .f32
  | 0 => fun _ => FloatOps.ofBits .f32 0
  | n + 1 => if h : n < (cfgA F).N then stepK V c ⟨n, h⟩ (accK c n) else accK c n
def accV (c : Dev nD) : ℕ → S1024x128.Idx → Elt F .f32
  | 0 => fun _ => FloatOps.ofBits .f32 0
  | n + 1 => if h : n < (cfgA F).N then stepV V c ⟨n, h⟩ (accV c n) else accV c n

theorem accK_succ (c : Dev nD) (t : Fin (cfgA F).N) : accK V c (t.val + 1) = stepK V c t (accK V c t.val) := by
  show (if h : t.val < (cfgA F).N then _ else _) = _
  rw [dif_pos t.isLt]
theorem accV_succ (c : Dev nD) (t : Fin (cfgA F).N) : accV V c (t.val + 1) = stepV V c t (accV V c t.val) := by
  show (if h : t.val < (cfgA F).N then _ else _) = _
  rw [dif_pos t.isLt]

/-- The invariant before a point: the accumulators at the walk's contents once a point has run, the body's halves of the tables,
    the generator's register. -/
def Phi (c : Dev nD) (t : Fin ((cfgA F).N + 1)) : sProp (MM F) :=
  iprop(∃ X0, ∃ X1, ⌜t.val ≠ 0 → X0 = accK V c t.val ∧ X1 = accV V c t.val⌝ ∗ acc0 c X0 ∗ acc1 c X1
    ∗ (tbM0.view.loc (c : Thread nD τ) ↦{fullShare.right} T0) ∗ (tbM1.view.loc (c : Thread nD τ) ↦{fullShare.right} T1)
    ∗ ∃ r, prngReg c r)

/-- The proof data of the pipeline on a core. -/
def dats (_ : Fin 1) (c : Dev nD) : Dat τ (Elt F) Unit ℕ (UR sig nD τ) ℕ (cfgA F) c where
  A w := arrA V c w
  after w t := match w with
    | ⟨0, _⟩ => iblk V c (0 : Fin 8) t
    | ⟨1, _⟩ => iblk V c (1 : Fin 8) t
    | ⟨2, _⟩ => iblk V c (2 : Fin 8) t
    | ⟨3, _⟩ => iblk V c (3 : Fin 8) t
    | ⟨4, _⟩ => iblk V c (4 : Fin 8) t
    | ⟨5, _⟩ => iblk V c (5 : Fin 8) t
    | ⟨6, _⟩ => k0_pay6 (accK V c (t.val + 1))
    | ⟨7, _⟩ => accV V c (t.val + 1)
  Φ t := Phi V c t
  q _ := fullShare
  owed _ := 0

theorem after_0 (c : Dev nD) (t : Fin (cfgA F).N) : (dats V 0 c).after (0 : Fin 8) t = iblk V c (0 : Fin 8) t := rfl
theorem after_1 (c : Dev nD) (t : Fin (cfgA F).N) : (dats V 0 c).after (1 : Fin 8) t = iblk V c (1 : Fin 8) t := rfl
theorem after_2 (c : Dev nD) (t : Fin (cfgA F).N) : (dats V 0 c).after (2 : Fin 8) t = iblk V c (2 : Fin 8) t := rfl
theorem after_3 (c : Dev nD) (t : Fin (cfgA F).N) : (dats V 0 c).after (3 : Fin 8) t = iblk V c (3 : Fin 8) t := rfl
theorem after_4 (c : Dev nD) (t : Fin (cfgA F).N) : (dats V 0 c).after (4 : Fin 8) t = iblk V c (4 : Fin 8) t := rfl
theorem after_5 (c : Dev nD) (t : Fin (cfgA F).N) : (dats V 0 c).after (5 : Fin 8) t = iblk V c (5 : Fin 8) t := rfl
theorem after_6 (c : Dev nD) (t : Fin (cfgA F).N) : (dats V 0 c).after (6 : Fin 8) t = k0_pay6 (accK V c (t.val + 1)) := rfl
theorem after_7 (c : Dev nD) (t : Fin (cfgA F).N) : (dats V 0 c).after (7 : Fin 8) t = accV V c (t.val + 1) := rfl

/-- An input's staging buffer holds its block when the body runs. -/
theorem before_0 (c : Dev nD) (t : Fin (cfgA F).N) (d) : (dats V 0 c).before (0 : Fin 8) t d = iblk V c (0 : Fin 8) t :=
  ((dats V 0 c).before_in_eq_fetched (0 : Fin 8) rfl (fun _ => rfl) (fun _ _ _ => rfl) (fun t => by rw [after_0]; unfold Dat.blockOf iblk; rfl) t d).trans
    (by unfold Dat.fetched Dat.blockOf iblk; rfl)
theorem before_1 (c : Dev nD) (t : Fin (cfgA F).N) (d) : (dats V 0 c).before (1 : Fin 8) t d = iblk V c (1 : Fin 8) t :=
  ((dats V 0 c).before_in_eq_fetched (1 : Fin 8) rfl (fun _ => rfl) (fun _ _ _ => rfl) (fun t => by rw [after_1]; unfold Dat.blockOf iblk; rfl) t d).trans
    (by unfold Dat.fetched Dat.blockOf iblk; rfl)
theorem before_2 (c : Dev nD) (t : Fin (cfgA F).N) (d) : (dats V 0 c).before (2 : Fin 8) t d = iblk V c (2 : Fin 8) t :=
  ((dats V 0 c).before_in_eq_fetched (2 : Fin 8) rfl (fun _ => rfl) (fun _ _ _ => rfl) (fun t => by rw [after_2]; unfold Dat.blockOf iblk; rfl) t d).trans
    (by unfold Dat.fetched Dat.blockOf iblk; rfl)
theorem before_3 (c : Dev nD) (t : Fin (cfgA F).N) (d) : (dats V 0 c).before (3 : Fin 8) t d = iblk V c (3 : Fin 8) t :=
  ((dats V 0 c).before_in_eq_fetched (3 : Fin 8) rfl (fun _ => rfl) (fun _ _ _ => rfl) (fun t => by rw [after_3]; unfold Dat.blockOf iblk; rfl) t d).trans
    (by unfold Dat.fetched Dat.blockOf iblk; rfl)
theorem before_4 (c : Dev nD) (t : Fin (cfgA F).N) (d) : (dats V 0 c).before (4 : Fin 8) t d = iblk V c (4 : Fin 8) t :=
  ((dats V 0 c).before_in_eq_fetched (4 : Fin 8) rfl (fun _ => rfl) (fun _ _ _ => rfl) (fun t => by rw [after_4]; unfold Dat.blockOf iblk; rfl) t d).trans
    (by unfold Dat.fetched Dat.blockOf iblk; rfl)
theorem before_5 (c : Dev nD) (t : Fin (cfgA F).N) (d) : (dats V 0 c).before (5 : Fin 8) t d = iblk V c (5 : Fin 8) t :=
  ((dats V 0 c).before_in_eq_fetched (5 : Fin 8) rfl (fun _ => rfl) (fun _ _ _ => rfl) (fun t => by rw [after_5]; unfold Dat.blockOf iblk; rfl) t d).trans
    (by unfold Dat.fetched Dat.blockOf iblk; rfl)

/-- The body at point `t` on its staging buffers. -/
abbrev bodyAt (t : Fin (cfgA F).N) : Prog (TpuEff nD τ sig (Elt F) Λ₀ .tc) PUnit :=
  bodyOn (crd t) (ms0 t) (hs0 t) (ms1 t) (hs1 t) (ms2 t) (hs2 t) (ms3 t) (hs3 t) (ms4 t) (hs4 t) (ms5 t) (hs5 t) (ms6 t) (hs6 t) (ms7 t) (hs7 t)

/-- One run for all four cases: what the body leaves is the step's, and the outputs' buffers hold the gradients' blocks at the
    last block of queries and what they held elsewhere. -/
theorem run_any (c : Dev nD) (t : Fin (cfgA F).N) (y6 : S1024x256.Idx → Elt F .f32) (y7 : S1024x128.Idx → Elt F .f32)
    (X0 : S1024x256.Idx → Elt F .f32) (X1 : S1024x128.Idx → Elt F .f32) (K : PUnit → sProp (MM F)) :
    iprop(ins c (ms0 t) (ms1 t) (ms2 t) (ms3 t) (ms4 t) (ms5 t) (bQ V c t) (bK V c t) (bV V c t) (bO V c t) (bL V c t) (bG V c t)
        ∗ owns (c : Thread nD τ) (ms6 t) fullShare y6 ∗ owns (c : Thread nD τ) (ms7 t) fullShare y7
        ∗ acc0 c X0 ∗ acc1 c X1
        ∗ (iprop(ins c (ms0 t) (ms1 t) (ms2 t) (ms3 t) (ms4 t) (ms5 t) (bQ V c t) (bK V c t) (bV V c t) (bO V c t) (bL V c t) (bG V c t)
            ∗ owns (c : Thread nD τ) (ms6 t) fullShare (if qAt (crd t) = 7 then k0_pay6 (stepK V c t X0) else y6)
            ∗ owns (c : Thread nD τ) (ms7 t) fullShare (if qAt (crd t) = 7 then stepV V c t X1 else y7)
            ∗ acc0 c (stepK V c t X0) ∗ acc1 c (stepV V c t X1)) -∗ K ⟨⟩))
      ⊢ wp frame (wpE (defs₀ (F := F)) Variants.none c none) Set.univ (bodyAt t) K := by
  unfold stepK stepV
  by_cases hd : qAt (crd t) = kAt (crd t)
  · have h0 := (test_eq (F := F) (crd t)).2 hd
    have h1 := mt (test_gt (F := F) (crd t)).1 (by omega)
    by_cases hl : qAt (crd t) = 7
    · simp only [if_pos hd, if_pos hl]
      exact run_D c (crd t) (ms0 t) (hs0 t) (ms1 t) (hs1 t) (ms2 t) (hs2 t) (ms3 t) (hs3 t) (ms4 t) (hs4 t) (ms5 t) (hs5 t) (ms6 t) (hs6 t) (ms7 t) (hs7 t)
        _ _ _ _ _ _ h0 h1 ((test_last (F := F) (crd t)).2 hl) y6 y7 X0 X1 K
    · simp only [if_pos hd, if_neg hl]
      exact run_A c (crd t) (ms0 t) (hs0 t) (ms1 t) (hs1 t) (ms2 t) (hs2 t) (ms3 t) (hs3 t) (ms4 t) (hs4 t) (ms5 t) (hs5 t) (ms6 t) (hs6 t) (ms7 t) (hs7 t)
        _ _ _ _ _ _ h0 h1 (mt (test_last (F := F) (crd t)).1 hl) y6 y7 X0 X1 K
  · have h0 := mt (test_eq (F := F) (crd t)).1 hd
    have h1 := (test_gt (F := F) (crd t)).2 (lt_of_le_of_ne (kAt_le (crd t)) (Ne.symm hd))
    by_cases hl : qAt (crd t) = 7
    · simp only [if_neg hd, if_pos hl]
      exact run_C c (crd t) (ms0 t) (hs0 t) (ms1 t) (hs1 t) (ms2 t) (hs2 t) (ms3 t) (hs3 t) (ms4 t) (hs4 t) (ms5 t) (hs5 t) (ms6 t) (hs6 t) (ms7 t) (hs7 t)
        _ _ _ _ _ _ h0 h1 ((test_last (F := F) (crd t)).2 hl) y6 y7 X0 X1 K
    · simp only [if_neg hd, if_neg hl]
      exact run_B c (crd t) (ms0 t) (hs0 t) (ms1 t) (hs1 t) (ms2 t) (hs2 t) (ms3 t) (hs3 t) (ms4 t) (hs4 t) (ms5 t) (hs5 t) (ms6 t) (hs6 t) (ms7 t) (hs7 t)
        _ _ _ _ _ _ h0 h1 (mt (test_last (F := F) (crd t)).1 hl) y6 y7 X0 X1 K

/-- A step does not look at what it found when a walk begins. -/
theorem stepK_start (c : Dev nD) (t : Fin (cfgA F).N) (X : S1024x256.Idx → Elt F .f32) (h : t.val ≠ 0 → X = accK V c t.val) :
    stepK V c t X = accK V c (t.val + 1) := by
  rw [accK_succ]
  by_cases h0 : t.val = 0
  · unfold stepK; rw [if_pos (start_diag t h0), if_pos (start_diag t h0)]
  · rw [h h0]
theorem stepV_start (c : Dev nD) (t : Fin (cfgA F).N) (X : S1024x128.Idx → Elt F .f32) (h : t.val ≠ 0 → X = accV V c t.val) :
    stepV V c t X = accV V c (t.val + 1) := by
  rw [accV_succ]
  by_cases h0 : t.val = 0
  · unfold stepV; rw [if_pos (start_diag t h0), if_pos (start_diag t h0)]
  · rw [h h0]

set_option maxHeartbeats 6400000 in
/-- The body's obligation at point `t`. -/
theorem sound_body (c : Dev nD) (t : Fin (cfgA F).N) :
    iprop((dats V 0 c).Φ t.castSucc ∗ (dats V 0 c).owesAt () t.castSucc
        ∗ (∃ d, owns (c : Thread nD τ) (ms0 t) fullShare ((dats V 0 c).before (0 : Fin 8) t d))
        ∗ (∃ d, owns (c : Thread nD τ) (ms1 t) fullShare ((dats V 0 c).before (1 : Fin 8) t d))
        ∗ (∃ d, owns (c : Thread nD τ) (ms2 t) fullShare ((dats V 0 c).before (2 : Fin 8) t d))
        ∗ (∃ d, owns (c : Thread nD τ) (ms3 t) fullShare ((dats V 0 c).before (3 : Fin 8) t d))
        ∗ (∃ d, owns (c : Thread nD τ) (ms4 t) fullShare ((dats V 0 c).before (4 : Fin 8) t d))
        ∗ (∃ d, owns (c : Thread nD τ) (ms5 t) fullShare ((dats V 0 c).before (5 : Fin 8) t d))
        ∗ (∃ d, owns (c : Thread nD τ) (ms6 t) fullShare ((dats V 0 c).before (6 : Fin 8) t d))
        ∗ (∃ d, owns (c : Thread nD τ) (ms7 t) fullShare ((dats V 0 c).before (7 : Fin 8) t d)))
      ⊢ wp frame (wpE (defs₀ (F := F)) Variants.none c none) Set.univ (bodyAt t) fun _ =>
          iprop((dats V 0 c).Φ t.succ ∗ (dats V 0 c).owesAt () t.succ
            ∗ bigSep Finset.univ fun w : Fin (cfgA F).W =>
                match (cfgA F).idle w ((cfgA F).grid.coords t) with
                | true =>
                  match ((cfgA F).win w).flush t with
                  | false => iprop(∃ d, owns (c : Thread nD τ) (((cfgA F).win w).stage ((cfgA F).slots t w)) fullShare ((dats V 0 c).before w t d))
                  | true => owns (c : Thread nD τ) (((cfgA F).win w).stage ((cfgA F).slots t w)) fullShare ((dats V 0 c).after w t)
                | false => owns (c : Thread nD τ) (((cfgA F).win w).stage ((cfgA F).slots t w)) fullShare ((dats V 0 c).after w t)) := by
  rw [bigSep_W0]
  have i6 : (cfgA F).idle (6 : Fin 8) ((cfgA F).grid.coords t) = !decide (qAt (crd t) = 7) := idle6 t
  have i7 : (cfgA F).idle (7 : Fin 8) ((cfgA F).grid.coords t) = !decide (qAt (crd t) = 7) := idle7 t
  have f6 : ((cfgA F).win (6 : Fin 8)).flush t = decide (qAt (crd t) = 7) := flush6 t
  have f7 : ((cfgA F).win (7 : Fin 8)).flush t = decide (qAt (crd t) = 7) := flush7 t
  rewrite [i6]
  try rewrite [i7]
  simp only [before_0, before_1, before_2, before_3, before_4, before_5, after_0, after_1, after_2, after_3, after_4, after_5, after_6, after_7, f6, f7]
  rewrite [show (dats V 0 c).Φ t.succ = Phi V c t.succ from rfl, show (dats V 0 c).Φ t.castSucc = Phi V c t.castSucc from rfl,
    show (dats V 0 c).owesAt () t.succ = (dats V 0 c).owesAt () t.castSucc from rfl]
  unfold Phi; simp only [Fin.val_castSucc, Fin.val_succ]
  iintro ⟨⟨%X0, %X1, %hX, HS0, HS1, HT0, HT1, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_any V c t ((dats V 0 c).before (6 : Fin 8) t d6) ((dats V 0 c).before (7 : Fin 8) t d7) X0 X1 _)
  isplitl [H0 H1 H2 H3 H4 H5 HT0 HT1]
  · unfold ins
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [HT0]; · iexact HT0
    iexact HT1
  isplitl [H6]; · iexact H6
  isplitl [H7]; · iexact H7
  isplitl [HS0]; · iexact HS0
  isplitl [HS1]; · iexact HS1
  rw [stepK_start V c t X0 fun h => (hX h).1, stepV_start V c t X1 fun h => (hX h).2]
  unfold ins
  iintro ⟨⟨H0, H1, H2, H3, H4, H5, HT0, HT1⟩, H6, H7, HS0, HS1⟩
  isplitl [HS0 HS1 HT0 HT1 HR]
  · iexists _; iexists _
    isplitr
    · ipureintro; exact fun _ => ⟨rfl, rfl⟩
    isplitl [HS0]; · iexact HS0
    isplitl [HS1]; · iexact HS1
    isplitl [HT0]; · iexact HT0
    isplitl [HT1]; · iexact HT1
    iexact HR
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  isplitl [H5]
  · iapply owns_of_rep; iexact H5
  by_cases hl : qAt (crd t) = 7
  · simp only [hl, decide_true, Bool.not_true, ↓reduceIte]
    isplitl [H6]; · iexact H6
    iexact H7
  · simp only [hl, decide_false, Bool.not_false, ↓reduceIte]
    isplitl [H6]
    · iexists d6; iexact H6
    iexists d7; iexact H7

theorem body_obligation (c : Dev nD) : BodyObligation (dats V 0 c) (defs₀ (F := F)) Variants.none () Set.univ := fun t => by
  rw [bigSep_W0]
  exact sound_body V c t

end

end Cert.AttKV

end
-- ==== Proof.AttKV.Launch.lean ====
/- The run of the kernel's @main from any memory: the host lines, then the walk; every final state has the gradients at what the
   walk writes back, the arguments unchanged and every semaphore counter at zero. Generic in the values. -/
module

public import proofs.«01_k».proof.Proof.AttKV.Region
public import Idealize.ShloMosaic.Lib.StableHlo.RunRead

@[expose] public section

set_option maxRecDepth 16384
set_option Elab.async false

noncomputable section

namespace Cert.AttKV

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

attribute [local instance] Cert.KernelIdeal.Gen.facts

variable {F : FTy → Type} [FloatOps F] [Named F]

/-- The host lines of @main, and what each writes. -/
abbrev opss (F : FTy → Type) [FloatOps F] [Named F] : List (List (HloOp τ sig (Elt F))) := [hostOps0, hostOps0_1, hostOps0_2, hostOps0_3, hostOps0_4]

section
variable (m : (ℓ : Loc nD τ sig) → Buf (Elt F) ℓ) (ρ : Dev nD → PrngReg)

/-- A core's buffers after the host lines. -/
def hostV (c : Dev nD) : Valuation τ sig (Elt F) := StableHlo.after (opss F).flatten (fun b => m (c, b))
abbrev entryV (c : Dev nD) (b : Ref sig .tc) : Buf (Elt F) ((c.tc : Thread nD τ).loc b) := hostV m c (Proc.devRef .tc b)

/-- A buffer no host line writes is as at the launch. -/
theorem entry_arg (c : Dev nD) (r : Ref sig .tc)
    (h : r = main_arg0 ∨ r = main_arg1 ∨ r = main_arg2 ∨ r = main_arg3) :
    hostV m c (Proc.devRef .tc r) = m ((c.tc : Thread nD τ).loc r) := by
  unfold hostV opss
  simp only [List.flatten_cons, List.flatten_nil, List.append_nil, StableHlo.after_append]
  rcases h with rfl | rfl | rfl | rfl <;> after_reads_simp <;> rfl

theorem hmain : Pipeline.HMainP (Ix := Unit) (Name := ℕ) (U := UR sig nD τ) (Lvl := ℕ) (pcfgs (F := F)) 0 defs₀ Variants.none m main (entryV m) :=
  Pipeline.hmainP_prefixes (pcfgs (F := F)) 0 defs₀ Variants.none m main (opss F)
    ⟨hostOps0_sub, hostOps0_1_sub, hostOps0_2_sub, hostOps0_3_sub, hostOps0_4_sub⟩
    (by refine ⟨?_, ?_, ?_, ?_, ?_⟩ <;> (simp only [List.Forall]; repeat' constructor))
    (fun c => main_chain c)

theorem tables (c : Dev nD) (k : Fin 2) : entryV m c (pre0.ref k) = (adm (F := F)).1 k := by
  unfold entryV hostV opss
  simp only [List.flatten_cons, List.flatten_nil, List.append_nil, StableHlo.after_append]
  fin_cases k
  · show StableHlo.after hostOps0_4 _ (Proc.devRef .tc main_c) = T0
    after_reads_simp
    rfl
  · show StableHlo.after hostOps0_4 _ (Proc.devRef .tc main_c_0) = T1
    after_reads_simp
    rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp (MM F))
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

theorem phi_in (c : Dev nD) : iprop(Pipeline.ΦA (U := UR sig nD τ) spec0 c ∗ Pipeline.ΦT (U := UR sig nD τ) pre0 (adm (F := F)).1 c) ⊢ (dats (entryV m) 0 c).Φ 0 := by
  unfold Pipeline.ΦA Pipeline.ΦT
  rw [prefHeld_eq, scopedRest0_eq, show (dats (entryV m) 0 c).Φ 0 = Phi (entryV m) c 0 from rfl]
  unfold Phi acc0 acc1
  iintro ⟨⟨⟨⟨%a0, HS0⟩, ⟨%a1, HS1⟩⟩, HR⟩, HT0, HT1⟩
  iexists (scM0.view.read (Elt F) a0); iexists (scM1.view.read (Elt F) a1)
  isplitr
  · ipureintro; exact fun h => absurd rfl h
  isplitl [HS0]
  · iexists a0; isplitr
    · ipureintro; rfl
    iexact HS0
  isplitl [HS1]
  · iexists a1; isplitr
    · ipureintro; rfl
    iexact HS1
  isplitl [HT0]; · iexact HT0
  isplitl [HT1]; · iexact HT1
  iexact HR

theorem phi_out (c : Dev nD) : (dats (entryV m) 0 c).Φ (Fin.last (cfgA F).N) ⊢ Pipeline.ΦA (U := UR sig nD τ) spec0 c := by
  unfold Pipeline.ΦA
  rw [scopedRest0_eq, show (dats (entryV m) 0 c).Φ (Fin.last (cfgA F).N) = Phi (entryV m) c (Fin.last _) from rfl]
  unfold Phi acc0 acc1
  iintro ⟨%X0, %X1, -, ⟨%a0, -, HS0⟩, ⟨%a1, -, HS1⟩, -, -, HR⟩
  isplitr [HR]
  · isplitl [HS0]
    · iexists a0; iexact HS0
    iexists a1; iexact HS1
  iexact HR

theorem share_full (c : Dev nD) (w : Fin (cfgA F).W) : (dats (entryV m) 0 c).share w = fullShare := by unfold Dat.share; split <;> rfl

set_option backward.isDefEq.respectTransparency.types false in
set_option maxHeartbeats 4000000 in
/-- The run. -/
theorem run_main : θ_run (defs (F := F)) (onTc (τ := τ) (main (F := F))) (s₀ m ρ)
    (fun r => Pipeline.FramePost (pcs F) (dats (entryV m)) 0 (entryV m) r ∧ r.2.sem = fun _ => 0) :=
  Pipeline.θ_run_frameP_track (pcfgs (F := F)) (fun _ => adm) (dats (entryV m)) 0 launch0 defs₀ Variants.none m ρ main
    (fun c => (body_obligation (entryV m) c).loose) (fun c w => share_full m c w) (fun _ _ => rfl) (entryV m) (hmain m)
    (fun _ _ => rfl) (fun c k => tables m c k) (phi_in m) (phi_out m) _ (fun _ h => h)

/-- The run, read at the two gradients and the arguments. -/
theorem run_read : θ_run (defs (F := F)) (onTc (τ := τ) (main (F := F))) ⟨m, fun _ => 0, ρ⟩ (fun r => (∀ c : Dev nD,
      (r.2.mem ((c.tc : Thread nD τ).loc main_v55_0) = (dats (entryV m) 0 c).arrAt (6 : Fin 8) (cfgA F).N
      ∧ r.2.mem ((c.tc : Thread nD τ).loc main_v55_1) = (dats (entryV m) 0 c).arrAt (7 : Fin 8) (cfgA F).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => ⟨⟨(h.1 c).1 (6 : Fin 8), (h.1 c).1 (7 : Fin 8)⟩,
    ((h.1 c).2 main_arg0 (Pipeline.mem_restRefs_of main_arg0 rfl (by decide : ∀ w : Fin 8, (spec0 w).arr.view.ref ≠ main_arg0))).trans (entry_arg m c main_arg0 (.inl rfl)),
    ((h.1 c).2 main_arg1 (Pipeline.mem_restRefs_of main_arg1 rfl (by decide : ∀ w : Fin 8, (spec0 w).arr.view.ref ≠ main_arg1))).trans (entry_arg m c main_arg1 (.inr (.inl rfl))),
    ((h.1 c).2 main_arg2 (Pipeline.mem_restRefs_of main_arg2 rfl (by decide : ∀ w : Fin 8, (spec0 w).arr.view.ref ≠ main_arg2))).trans (entry_arg m c main_arg2 (.inr (.inr (.inl rfl)))),
    ((h.1 c).2 main_arg3 (Pipeline.mem_restRefs_of main_arg3 rfl (by decide : ∀ w : Fin 8, (spec0 w).arr.view.ref ≠ main_arg3))).trans (entry_arg m c main_arg3 (.inr (.inr (.inr rfl))))⟩, h.2⟩)
    (run_main m ρ)

/-- The frame: arguments unchanged, counters at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => (h.1 c).2, h.2⟩) (run_read m ρ)

end

end Cert.AttKV

end
-- ==== Proof.AttKV.Frames.lean ====
/- The frames: the kernel's, at its own values and at the ideal ones, and the reference's. The kernel and its idealized form have the
   same text but for the named constant, so one run serves both: the name is read as the constant's bits. -/
module

public import proofs.«01_k».proof.Proof.AttKV.Launch
public import proofs.«01_k».proof.Proof.Gen.Kernel.Launch
public import proofs.«01_k».proof.Proof.Gen.ReferenceIdeal.Run
public import proofs.«01_k».proof.Proof.Gen.Pre_finite

@[expose] public section

set_option maxRecDepth 16384

noncomputable section

namespace Cert.AttKV

open Idealize.ShloMosaic Idealize.SL.Sem
open Idealize.ShloMosaic.TcCoe Idealize.ShloMosaic.Tactic

section
open Cert.KernelIdeal

/-- The idealized kernel's frame, at any values. -/
def FrameAt (F : FTy → Type) [FloatOps F] [Named F] [hF : Cert.KernelIdeal.Facts] : Prop :=
  ∀ (m : (ℓ : Loc nD τ sig) → Buf (Elt F) ℓ) (ρ : Dev nD → PrngReg), θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0)

theorem frameAt (F : FTy → Type) [FloatOps F] [Named F] : FrameAt F (hF := Cert.KernelIdeal.Gen.facts) := fun m ρ => frame m ρ

end

section
open Cert.Kernel

/-- The kernel's frame, as it is claimed. -/
def KFrameAt (F : FTy → Type) [FloatOps F] [hF : Cert.Kernel.Facts] : Prop :=
  ∀ (m : (ℓ : Loc nD τ sig) → Buf (Elt F) ℓ) (ρ : Dev nD → PrngReg), θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0)

end

section
/-- The named constant read as its bits. -/
local instance : Named Bits where named _ _ {φ} bits := Scalar.ofBits φ bits

theorem frames_agree : KFrameAt Bits (hF := Cert.Kernel.Gen.facts) = FrameAt Bits (hF := Cert.KernelIdeal.Gen.facts) := by sl_kernel_rfl

theorem kernel_frame : KFrameAt Bits (hF := Cert.Kernel.Gen.facts) := frames_agree.mpr (frameAt Bits)
end

theorem frame_Kernel : Cert.quiescent_Kernel (hKernel := Cert.Kernel.Gen.facts) := fun m ρ _ => kernel_frame m ρ
theorem frame_KernelIdeal : Cert.quiescent_KernelIdeal (hKernelIdeal := Cert.KernelIdeal.Gen.facts) := fun m ρ _ => frameAt Ideal m ρ
theorem frame_KernelIdeal_pre : Cert.quiescent_KernelIdeal_pre_finite (hKernelIdeal := Cert.KernelIdeal.Gen.facts) (hPre_finite := Cert.Pre_finite.Gen.facts) := fun m ρ _ => frameAt Ideal m ρ
theorem frame_ReferenceIdeal : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩) (Cert.ReferenceIdeal.Value.run m ρ)
theorem frame_ReferenceIdeal_pre : Cert.quiescent_ReferenceIdeal_pre_finite (hReferenceIdeal := Cert.ReferenceIdeal.Gen.facts) (hPre_finite := Cert.Pre_finite.Gen.facts) := fun m ρ _ =>
  (θ_run Cert.ReferenceIdeal.defs _ _).mono (fun r h => ⟨fun c => (h c).2.2, sem_eq_zero_of_no_sems (by decide) r.2⟩) (Cert.ReferenceIdeal.Value.run m ρ)

theorem preserves : Cert.preserves_Kernel_KernelIdeal := IdealRules.named_const.statement Cert.KernelIdeal.κ "mask" .f32 0xF149F2CA#32 ⊥ rfl

end Cert.AttKV

end
-- ==== Proof.AttKV.Model.lean ====
/- Causal attention of one head and its gradient with respect to keys and values, over the reals: what both programs compute. Rows
   are numbered by naturals, so that a block of rows is a shift. -/
module

public import Mathlib.Analysis.SpecialFunctions.Log.Basic
public import Mathlib.Algebra.BigOperators.Fin
public import Mathlib.Algebra.BigOperators.Field
public import Mathlib.Tactic.Ring

@[expose] public section

noncomputable section

namespace Cert.AttKV

/-- The arrays of one head: queries, keys, values, the cotangent of the result; and the scores' scale. -/
structure Head where
  Q : ℕ → Fin 256 → ℝ
  K : ℕ → Fin 256 → ℝ
  W : ℕ → Fin 128 → ℝ
  G : ℕ → Fin 128 → ℝ
  sc : ℝ

namespace Head

variable (A : Head)

/-- The score of key `c` for query `r`; its exponential, less a shift `m` of the row, where the key is not later than the query; the
    sum of a row; the weight, and the part of it, that does not depend on the shift. -/
def S (r c : ℕ) : ℝ := (∑ d, A.Q r d * A.K c d) * A.sc
def E (m : ℝ) (r c : ℕ) : ℝ := if c ≤ r then Real.exp (A.S r c - m) else 0
def Z (m : ℝ) (r : ℕ) : ℝ := ∑ c : Fin 8192, A.E m r c
def P (r c : ℕ) : ℝ := A.E 0 r c / A.Z 0 r
/-- The result, the sum of cotangent times result of a row, the gradient of a weight; the gradients of values and keys. -/
def O (r : ℕ) (x : Fin 128) : ℝ := ∑ c : Fin 8192, A.P r c * A.W c x
def D (r : ℕ) : ℝ := ∑ x, A.G r x * A.O r x
def dP (r c : ℕ) : ℝ := ∑ x, A.G r x * A.W c x
def dV (c : ℕ) (x : Fin 128) : ℝ := ∑ r ∈ Finset.range 8192, A.P r c * A.G r x
def dK (c : ℕ) (d : Fin 256) : ℝ := ∑ r ∈ Finset.range 8192, A.P r c * (A.dP r c - A.D r) * A.Q r d

theorem E_nonneg (m : ℝ) (r c : ℕ) : 0 ≤ A.E m r c := by
  unfold E; split
  · exact (Real.exp_pos _).le
  · exact le_refl _

theorem Z_pos (m : ℝ) {r : ℕ} (hr : r < 8192) : 0 < A.Z m r := by
  refine Finset.sum_pos' (fun c _ => A.E_nonneg m r c) ⟨⟨r, hr⟩, Finset.mem_univ _, ?_⟩
  unfold E
  rw [if_pos (le_refl _)]
  exact Real.exp_pos _

theorem E_shift (m : ℝ) (r c : ℕ) : A.E m r c = A.E 0 r c * Real.exp (-m) := by
  unfold E; split
  · rw [← Real.exp_add]; ring_nf
  · rw [zero_mul]

theorem Z_shift (m : ℝ) (r : ℕ) : A.Z m r = A.Z 0 r * Real.exp (-m) := by
  unfold Z; rw [Finset.sum_mul]
  exact Finset.sum_congr rfl fun c _ => A.E_shift m r c

/-- The weight is the same whatever the row's shift. -/
theorem P_eq (m : ℝ) (r c : ℕ) : A.E m r c / A.Z m r = A.P r c := by
  unfold P; rw [A.E_shift m, A.Z_shift m]
  exact mul_div_mul_right _ _ (Real.exp_pos _).ne'

theorem P_zero {r c : ℕ} (h : r < c) : A.P r c = 0 := by
  unfold P E; rw [if_neg (by omega), zero_div]

/-- The weight from the logarithm of the row's sum. -/
theorem exp_sub_lse (m : ℝ) {r c : ℕ} (hr : r < 8192) (h : c ≤ r) : Real.exp (A.S r c - (m + Real.log (A.Z m r))) = A.P r c := by
  rw [← A.P_eq m, ← sub_sub, Real.exp_sub, Real.exp_log (A.Z_pos m hr)]
  unfold E; rw [if_pos h]

theorem D_eq (r : ℕ) : A.D r = ∑ c : Fin 8192, A.P r c * A.dP r c := by
  unfold D O dP
  simp only [Finset.mul_sum]
  rw [Finset.sum_comm]
  exact Finset.sum_congr rfl fun c _ => Finset.sum_congr rfl fun x _ => by ring

/-- The gradient of an exponentiated score, as differentiating the quotient gives it. -/
theorem grad_eq (m : ℝ) {r : ℕ} (hr : r < 8192) (c : ℕ) :
    (A.dP r c / A.Z m r + -(∑ c' : Fin 8192, A.dP r c' * A.E m r c' * (1 / (A.Z m r * A.Z m r)))) * A.E m r c
      = A.P r c * (A.dP r c - A.D r) := by
  have hz := (A.Z_pos m hr).ne'
  rw [A.D_eq, ← A.P_eq m r c]
  have : ∀ c' : Fin 8192, A.dP r c' * A.E m r c' * (1 / (A.Z m r * A.Z m r)) = (A.P r c' * A.dP r c') * (1 / A.Z m r) := fun c' => by
    rw [← A.P_eq m]; field_simp
  rw [Finset.sum_congr rfl fun c' _ => this c', ← Finset.sum_mul]
  field_simp
  ring

end Head

/-- A sum over the four groups of 256 rows of a block, from the block's first row. -/
theorem sum_groups (f : ℕ → ℝ) (b : ℕ) : ∑ i : Fin 256, f (b + i) + ∑ i : Fin 256, f (b + (256 + i)) + ∑ i : Fin 256, f (b + (512 + i))
    + ∑ i : Fin 256, f (b + (768 + i)) = ∑ r ∈ Finset.range (b + 1024), f r - ∑ r ∈ Finset.range b, f r := by
  have e (n : ℕ) : ∑ i : Fin 256, f (b + (n + i)) = ∑ i ∈ Finset.range 256, f (b + n + i) := by
    rw [← Fin.sum_univ_eq_sum_range (fun i => f (b + n + i))]; exact Finset.sum_congr rfl fun i _ => by rw [add_assoc]
  have e0 : ∑ i : Fin 256, f (b + i) = ∑ i ∈ Finset.range 256, f (b + i) := Fin.sum_univ_eq_sum_range (fun i => f (b + i)) 256
  rw [e, e, e, e0, show b + 1024 = b + 256 + 256 + 256 + 256 from rfl, Finset.sum_range_add, Finset.sum_range_add, Finset.sum_range_add,
    Finset.sum_range_add]
  ring

end Cert.AttKV

end
-- ==== Proof.AttKV.Ext.lean ====
/- Extended reals that are real numbers: sums, products, exponentials, the maximum of a row of scores; the two printed constants. -/
module

public import proofs.«01_k».proof.Proof.AttKV.Steps
public import Idealize.ShloMosaic.Lib.Pointwise
public import Idealize.ShloMosaic.Lib.WordCmp

@[expose] public section

set_option maxRecDepth 16384

noncomputable section

namespace Cert.AttKV

open Cert.KernelIdeal Cert.KernelIdeal.Gen
open Idealize.ShloMosaic
open Idealize.ShloMosaic.TcCoe Idealize.ShloMosaic.Tactic

attribute [local instance] Cert.KernelIdeal.Gen.facts

theorem coe_sum {ι : Type} (s : Finset ι) (f : ι → ℝ) : ((∑ x ∈ s, f x : ℝ) : EReal) = ∑ x ∈ s, (f x : EReal) := by
  classical
  induction s using Finset.induction_on with
  | empty => simp
  | insert a s h ih => rw [Finset.sum_insert h, Finset.sum_insert h, EReal.coe_add, ih]

/-- The scores' scale. -/
def scR : ℝ := (Ideal.ofBits .f32 1033096506#32).toReal
theorem scR_coe : Ideal.ofBits .f32 1033096506#32 = (scR : EReal) := by
  refine (EReal.coe_toReal ?_ ?_).symm <;> simp [Ideal.ofBits, Ideal.ieee, -EReal.coe_mul]

theorem mask_bot : (Named.named κ "mask" (φ := .f32) 4048155338#32 : Ideal .f32) = (⊥ : EReal) := rfl
theorem neg_inf : Ideal.ofBits .f32 0xFF800000#32 = ⊥ := by simp [Ideal.ofBits, Ideal.ieee]

theorem exp_coe (r : ℝ) : Ideal.exp (r : EReal) = ((Real.exp r : ℝ) : EReal) := rfl

/-- The comparison of two small words chooses by their numbers. -/
theorem sel_le {c b i : ℕ} (hc : c < 2 ^ 31) (h : b + i < 2 ^ 31) (x y : EReal) :
    Scalar.select (IntOp.cmpi .sle (BitVec.ofNat 32 c) (IntOp.addi (BitVec.ofNat 32 b) (BitVec.ofNat 32 i))) x y = if c ≤ b + i then x else y := by
  have e : IntOp.addi (BitVec.ofNat 32 b) (BitVec.ofNat 32 i) = BitVec.ofNat 32 (b + i) := by
    show BitVec.ofNat 32 b + BitVec.ofNat 32 i = _
    rw [BitVec.ofNat_add]
  rw [e]
  unfold Scalar.select
  by_cases hh : c ≤ b + i
  · rw [if_pos hh]; exact if_pos ((WordCmp.cmpi_sle_ofNat_eq_one_iff (w := 32) hc h).2 hh)
  · rw [if_neg hh]; exact if_neg fun h' => hh ((WordCmp.cmpi_sle_ofNat_eq_one_iff (w := 32) hc h).1 h')

/-- The exponential of a masked score, less a real. -/
theorem exp_masked (p : Prop) [Decidable p] (s l : ℝ) :
    Ideal.exp ((if p then (s : EReal) else ⊥) - (l : EReal)) = ((if p then Real.exp (s - l) else 0 : ℝ) : EReal) := by
  by_cases h : p
  · rw [if_pos h, if_pos h, ← EReal.coe_sub, exp_coe]
  · rw [if_neg h, if_neg h, EReal.bot_sub]; rfl

/-- The largest of a row of scores, one of which is real and none of which is infinite upwards, is real. -/
theorem max_real {ι : Type} [DecidableEq ι] (s : Finset ι) (f : ι → EReal) (hf : ∀ i ∈ s, f i ≠ ⊤) {j : ι} (hj : j ∈ s) (h : f j ≠ ⊥) :
    ∃ m : ℝ, s.fold max (⊥ : EReal) f = m := by
  have e : s.fold max (⊥ : EReal) f = s.sup f := rfl
  rw [e]
  refine ⟨(s.sup f).toReal, (EReal.coe_toReal ?_ ?_).symm⟩
  · exact ((Finset.sup_lt_iff (bot_lt_top)).2 fun i hi => lt_top_iff_ne_top.2 (hf i hi)).ne
  · exact fun hb => h (le_bot_iff.1 (hb ▸ Finset.le_sup hj))

section
variable {e : EltTy} {F : FTy → Type}
theorem w0_at (x : S1024x256.Idx → Elt F e) (i : Fin 256) (d : Fin 256) : w0 x (ix2 i d) = x (ix2 ⟨0 + i.val, by omega⟩ d) := by
  refine congrArg x (funext fun a => Fin.ext ?_)
  fin_cases a
  · show 0 + 1 * i.val = 0 + i.val; omega
  · show 0 + 1 * d.val = d.val; omega
theorem w1_at (x : S1024x256.Idx → Elt F e) (i : Fin 256) (d : Fin 256) : w1 x (ix2 i d) = x (ix2 ⟨256 + i.val, by omega⟩ d) := by
  refine congrArg x (funext fun a => Fin.ext ?_)
  fin_cases a
  · show 256 + 1 * i.val = 256 + i.val; omega
  · show 0 + 1 * d.val = d.val; omega
theorem w2_at (x : S1024x256.Idx → Elt F e) (i : Fin 256) (d : Fin 256) : w2 x (ix2 i d) = x (ix2 ⟨512 + i.val, by omega⟩ d) := by
  refine congrArg x (funext fun a => Fin.ext ?_)
  fin_cases a
  · show 512 + 1 * i.val = 512 + i.val; omega
  · show 0 + 1 * d.val = d.val; omega
theorem w3_at (x : S1024x256.Idx → Elt F e) (i : Fin 256) (d : Fin 256) : w3 x (ix2 i d) = x (ix2 ⟨768 + i.val, by omega⟩ d) := by
  refine congrArg x (funext fun a => Fin.ext ?_)
  fin_cases a
  · show 768 + 1 * i.val = 768 + i.val; omega
  · show 0 + 1 * d.val = d.val; omega
theorem n0_at (x : S1024x128.Idx → Elt F e) (i : Fin 256) (d : Fin 128) : n0 x (ix2 i d) = x (ix2 ⟨0 + i.val, by omega⟩ d) := by
  refine congrArg x (funext fun a => Fin.ext ?_)
  fin_cases a
  · show 0 + 1 * i.val = 0 + i.val; omega
  · show 0 + 1 * d.val = d.val; omega
theorem n1_at (x : S1024x128.Idx → Elt F e) (i : Fin 256) (d : Fin 128) : n1 x (ix2 i d) = x (ix2 ⟨256 + i.val, by omega⟩ d) := by
  refine congrArg x (funext fun a => Fin.ext ?_)
  fin_cases a
  · show 256 + 1 * i.val = 256 + i.val; omega
  · show 0 + 1 * d.val = d.val; omega
theorem n2_at (x : S1024x128.Idx → Elt F e) (i : Fin 256) (d : Fin 128) : n2 x (ix2 i d) = x (ix2 ⟨512 + i.val, by omega⟩ d) := by
  refine congrArg x (funext fun a => Fin.ext ?_)
  fin_cases a
  · show 512 + 1 * i.val = 512 + i.val; omega
  · show 0 + 1 * d.val = d.val; omega
theorem n3_at (x : S1024x128.Idx → Elt F e) (i : Fin 256) (d : Fin 128) : n3 x (ix2 i d) = x (ix2 ⟨768 + i.val, by omega⟩ d) := by
  refine congrArg x (funext fun a => Fin.ext ?_)
  fin_cases a
  · show 768 + 1 * i.val = 768 + i.val; omega
  · show 0 + 1 * d.val = d.val; omega
end

end Cert.AttKV

end
-- ==== Proof.AttKV.Pay.lean ====
/- A point's step on blocks of real numbers: the accumulators grow by the sums over the point's block of queries. -/
module

public import proofs.«01_k».proof.Proof.AttKV.Model
public import proofs.«01_k».proof.Proof.AttKV.Ext

@[expose] public section

set_option maxRecDepth 16384

noncomputable section

namespace Cert.AttKV

open Cert.KernelIdeal Cert.KernelIdeal.Gen
open Idealize.ShloMosaic
open Idealize.ShloMosaic.TcCoe Idealize.ShloMosaic.Tactic

attribute [local instance] Cert.KernelIdeal.Gen.facts

/-- The blocks of a point hold head `A`'s rows from `b` of the queries and from `e` of the keys; `L` is the logarithm of a row's sum. -/
structure Blk (A : Head) (L : ℕ → ℝ) (b e : ℕ) (q k : S1024x256.Idx → Elt Ideal .bf16) (v : S1024x128.Idx → Elt Ideal .bf16)
    (o l : S1024x128.Idx → Elt Ideal .f32) (g : S1024x128.Idx → Elt Ideal .bf16) : Prop where
  sc : A.sc = scR
  q : ∀ (i : Fin 1024) (d : Fin 256), q (ix2 i d) = ((A.Q (b + i.val) d : ℝ) : EReal)
  k : ∀ (i : Fin 1024) (d : Fin 256), k (ix2 i d) = ((A.K (e + i.val) d : ℝ) : EReal)
  v : ∀ (i : Fin 1024) (x : Fin 128), v (ix2 i x) = ((A.W (e + i.val) x : ℝ) : EReal)
  o : ∀ (i : Fin 1024) (x : Fin 128), o (ix2 i x) = ((A.O (b + i.val) x : ℝ) : EReal)
  l : ∀ (i : Fin 1024), l (ix2 i 0) = ((L (b + i.val) : ℝ) : EReal)
  g : ∀ (i : Fin 1024) (x : Fin 128), g (ix2 i x) = ((A.G (b + i.val) x : ℝ) : EReal)
  hL : ∀ r c : ℕ, r < 8192 → c ≤ r → Real.exp (A.S r c - L r) = A.P r c
  lt : b + 1024 ≤ 8192

variable {A : Head} {L : ℕ → ℝ} {b e : ℕ} {q k : S1024x256.Idx → Elt Ideal .bf16} {v : S1024x128.Idx → Elt Ideal .bf16}
  {o l : S1024x128.Idx → Elt Ideal .f32} {g : S1024x128.Idx → Elt Ideal .bf16}

theorem Blk.off (H : Blk A L b e q k v o l g) (he : e + 1024 ≤ b) (i : ℕ) (hi : i < 1024) (c : Fin 1024) :
    Real.exp ((∑ d, A.Q (b + i) d * A.K (e + c.val) d) * scR - L (b + i)) = A.P (b + i) (e + c.val) := by
  have h := H.lt
  rw [← H.hL (b + i) (e + c.val) (by omega) (by omega), Head.S, H.sc]

theorem Blk.diag (H : Blk A L b e q k v o l g) (he : e = b) (n i : ℕ) (hi : n + i < 1024) (c : Fin 1024) :
    (if c.val ≤ n + i then Real.exp ((∑ d, A.Q (b + (n + i)) d * A.K (e + c.val) d) * scR - L (b + (n + i))) else 0)
      = A.P (b + (n + i)) (e + c.val) := by
  have h := H.lt
  split
  · rw [← H.hL (b + (n + i)) (e + c.val) (by omega) (by omega), Head.S, H.sc]
  · exact (A.P_zero (by omega)).symm

namespace Blk
theorem q0 (H : Blk A L b e q k v o l g) (i : Fin 256) (d : Fin 256) : w0 q (ix2 i d) = ((A.Q (b + (0 + i.val)) d : ℝ) : EReal) :=
  (w0_at q i d).trans (H.q _ _)
theorem o0 (H : Blk A L b e q k v o l g) (i : Fin 256) (x : Fin 128) : n0 o (ix2 i x) = ((A.O (b + (0 + i.val)) x : ℝ) : EReal) :=
  (n0_at o i x).trans (H.o _ _)
theorem l0 (H : Blk A L b e q k v o l g) (i : Fin 256) : n0 l (ix2 i 0) = ((L (b + (0 + i.val)) : ℝ) : EReal) :=
  (n0_at l i 0).trans (H.l _)
theorem g0 (H : Blk A L b e q k v o l g) (i : Fin 256) (x : Fin 128) : n0 g (ix2 i x) = ((A.G (b + (0 + i.val)) x : ℝ) : EReal) :=
  (n0_at g i x).trans (H.g _ _)
theorem q1 (H : Blk A L b e q k v o l g) (i : Fin 256) (d : Fin 256) : w1 q (ix2 i d) = ((A.Q (b + (256 + i.val)) d : ℝ) : EReal) :=
  (w1_at q i d).trans (H.q _ _)
theorem o1 (H : Blk A L b e q k v o l g) (i : Fin 256) (x : Fin 128) : n1 o (ix2 i x) = ((A.O (b + (256 + i.val)) x : ℝ) : EReal) :=
  (n1_at o i x).trans (H.o _ _)
theorem l1 (H : Blk A L b e q k v o l g) (i : Fin 256) : n1 l (ix2 i 0) = ((L (b + (256 + i.val)) : ℝ) : EReal) :=
  (n1_at l i 0).trans (H.l _)
theorem g1 (H : Blk A L b e q k v o l g) (i : Fin 256) (x : Fin 128) : n1 g (ix2 i x) = ((A.G (b + (256 + i.val)) x : ℝ) : EReal) :=
  (n1_at g i x).trans (H.g _ _)
theorem q2 (H : Blk A L b e q k v o l g) (i : Fin 256) (d : Fin 256) : w2 q (ix2 i d) = ((A.Q (b + (512 + i.val)) d : ℝ) : EReal) :=
  (w2_at q i d).trans (H.q _ _)
theorem o2 (H : Blk A L b e q k v o l g) (i : Fin 256) (x : Fin 128) : n2 o (ix2 i x) = ((A.O (b + (512 + i.val)) x : ℝ) : EReal) :=
  (n2_at o i x).trans (H.o _ _)
theorem l2 (H : Blk A L b e q k v o l g) (i : Fin 256) : n2 l (ix2 i 0) = ((L (b + (512 + i.val)) : ℝ) : EReal) :=
  (n2_at l i 0).trans (H.l _)
theorem g2 (H : Blk A L b e q k v o l g) (i : Fin 256) (x : Fin 128) : n2 g (ix2 i x) = ((A.G (b + (512 + i.val)) x : ℝ) : EReal) :=
  (n2_at g i x).trans (H.g _ _)
theorem q3 (H : Blk A L b e q k v o l g) (i : Fin 256) (d : Fin 256) : w3 q (ix2 i d) = ((A.Q (b + (768 + i.val)) d : ℝ) : EReal) :=
  (w3_at q i d).trans (H.q _ _)
theorem o3 (H : Blk A L b e q k v o l g) (i : Fin 256) (x : Fin 128) : n3 o (ix2 i x) = ((A.O (b + (768 + i.val)) x : ℝ) : EReal) :=
  (n3_at o i x).trans (H.o _ _)
theorem l3 (H : Blk A L b e q k v o l g) (i : Fin 256) : n3 l (ix2 i 0) = ((L (b + (768 + i.val)) : ℝ) : EReal) :=
  (n3_at l i 0).trans (H.l _)
theorem g3 (H : Blk A L b e q k v o l g) (i : Fin 256) (x : Fin 128) : n3 g (ix2 i x) = ((A.G (b + (768 + i.val)) x : ℝ) : EReal) :=
  (n3_at g i x).trans (H.g _ _)
theorem k' (H : Blk A L b e q k v o l g) (i : Fin 1024) (d : Fin 256) : wf k (ix2 i d) = ((A.K (e + i.val) d : ℝ) : EReal) := by
  rw [wf_eq]; exact H.k i d
theorem v' (H : Blk A L b e q k v o l g) (i : Fin 1024) (x : Fin 128) : nf v (ix2 i x) = ((A.W (e + i.val) x : ℝ) : EReal) := by
  rw [nf_eq]; exact H.v i x

end Blk

/-- The sum over a point's four groups of rows, each term known. -/
theorem groups_eq (f : ℕ → ℝ) (f0 f1 f2 f3 : Fin 256 → ℝ) (h0 : ∀ i, f0 i = f (b + (0 + i.val))) (h1 : ∀ i, f1 i = f (b + (256 + i.val)))
    (h2 : ∀ i, f2 i = f (b + (512 + i.val))) (h3 : ∀ i, f3 i = f (b + (768 + i.val))) :
    ∑ r ∈ Finset.range b, f r + (∑ i, f0 i + ∑ i, f1 i + ∑ i, f2 i + ∑ i, f3 i) = ∑ r ∈ Finset.range (b + 1024), f r := by
  have h := sum_groups f b
  rw [Finset.sum_congr rfl fun i _ => h0 i, Finset.sum_congr rfl fun i _ => h1 i, Finset.sum_congr rfl fun i _ => h2 i,
    Finset.sum_congr rfl fun i _ => h3 i]
  simp only [Nat.zero_add]
  linarith

/-- Below the diagonal: the values' accumulator. -/
theorem offDv_at (H : Blk A L b e q k v o l g) (he : e + 1024 ≤ b) (prev : S1024x128.Idx → Elt Ideal .f32) (c : Fin 1024) (x : Fin 128)
    (hp : prev (ix2 c x) = ((∑ r ∈ Finset.range b, A.P r (e + c.val) * A.G r x : ℝ) : EReal)) :
    offDv q k l g prev (ix2 c x) = ((∑ r ∈ Finset.range (b + 1024), A.P r (e + c.val) * A.G r x : ℝ) : EReal) := by
  have hp' : nf prev (ix2 c x) = _ := (congrFun (nf_eq prev) _).trans hp
  unfold offDv
  unfold_payloads
  pointwise []
  simp only [hp', H.k', H.q0, H.l0, H.g0, H.q1, H.l1, H.g1, H.q2, H.l2, H.g2, H.q3, H.l3, H.g3, scR_coe, mask_bot, ← EReal.coe_mul, ← coe_sum, ← EReal.coe_sub, exp_coe, ← EReal.coe_add]
  refine congrArg _ (groups_eq (fun r => A.P r (e + c.val) * A.G r x) _ _ _ _ ?_ ?_ ?_ ?_) <;>
    exact fun i => congrArg (· * _) (H.off he _ (by omega) c)

/-- Below the diagonal: the keys' accumulator. -/
theorem offDk_at (H : Blk A L b e q k v o l g) (he : e + 1024 ≤ b) (prev : S1024x256.Idx → Elt Ideal .f32) (c : Fin 1024) (x : Fin 256)
    (hp : prev (ix2 c x) = ((∑ r ∈ Finset.range b, A.P r (e + c.val) * (A.dP r (e + c.val) - A.D r) * A.Q r x : ℝ) : EReal)) :
    offDk q k v o l g prev (ix2 c x)
      = ((∑ r ∈ Finset.range (b + 1024), A.P r (e + c.val) * (A.dP r (e + c.val) - A.D r) * A.Q r x : ℝ) : EReal) := by
  have hp' : wf prev (ix2 c x) = _ := (congrFun (wf_eq prev) _).trans hp
  unfold offDk
  unfold_payloads
  pointwise []
  simp only [hp', H.k', H.v', H.q0, H.l0, H.g0, H.q1, H.l1, H.g1, H.q2, H.l2, H.g2, H.q3, H.l3, H.g3, H.o0, H.o1, H.o2, H.o3, scR_coe, mask_bot, ← EReal.coe_mul, ← coe_sum, ← EReal.coe_sub, exp_coe, ← EReal.coe_add]
  refine congrArg _ (groups_eq (fun r => A.P r (e + c.val) * (A.dP r (e + c.val) - A.D r) * A.Q r x) _ _ _ _ ?_ ?_ ?_ ?_) <;>
    exact fun i => congrArg (fun z => z * (A.dP _ _ - A.D _) * _) (H.off he _ (by omega) c)

/-- The rows before a block of keys give its accumulators nothing. -/
theorem before_zero (f : ℕ → ℝ) (c : ℕ) (hc : b ≤ c) : ∑ r ∈ Finset.range b, A.P r c * f r = 0 :=
  Finset.sum_eq_zero fun r hr => by rw [A.P_zero (by have := Finset.mem_range.1 hr; omega), zero_mul]

/-- On the diagonal: the values' accumulator. -/
theorem diagDv_at (H : Blk A L b e q k v o l g) (he : e = b) (c : Fin 1024) (x : Fin 128) :
    diagDv q k l g (ix2 c x) = ((∑ r ∈ Finset.range (b + 1024), A.P r (e + c.val) * A.G r x : ℝ) : EReal) := by
  unfold diagDv
  unfold_payloads
  pointwise []
  simp (disch := omega) only [sel_le, H.k', H.q0, H.l0, H.g0, H.q1, H.l1, H.g1, H.q2, H.l2, H.g2, H.q3, H.l3, H.g3, scR_coe, mask_bot, ← EReal.coe_mul, ← coe_sum, exp_masked, ← EReal.coe_add]
  rw [← groups_eq (fun r => A.P r (e + c.val) * A.G r x) _ _ _ _ (fun i => congrArg (· * _) (H.diag he 0 i.val (by omega) c))
    (fun i => congrArg (· * _) (H.diag he 256 i.val (by omega) c)) (fun i => congrArg (· * _) (H.diag he 512 i.val (by omega) c))
    (fun i => congrArg (· * _) (H.diag he 768 i.val (by omega) c)), before_zero (fun r => A.G r x) _ (by omega), zero_add]

/-- On the diagonal: the keys' accumulator. -/
theorem diagDk_at (H : Blk A L b e q k v o l g) (he : e = b) (c : Fin 1024) (x : Fin 256) :
    diagDk q k v o l g (ix2 c x)
      = ((∑ r ∈ Finset.range (b + 1024), A.P r (e + c.val) * (A.dP r (e + c.val) - A.D r) * A.Q r x : ℝ) : EReal) := by
  have hz : ∑ r ∈ Finset.range b, A.P r (e + c.val) * (A.dP r (e + c.val) - A.D r) * A.Q r x = 0 := by
    simp only [mul_assoc]
    exact before_zero (fun r => (A.dP r (e + c.val) - A.D r) * A.Q r x) _ (by omega)
  unfold diagDk
  unfold_payloads
  pointwise []
  simp (disch := omega) only [sel_le, H.k', H.v', H.q0, H.l0, H.g0, H.q1, H.l1, H.g1, H.q2, H.l2, H.g2, H.q3, H.l3, H.g3, H.o0, H.o1, H.o2, H.o3, scR_coe, mask_bot, ← EReal.coe_mul, ← coe_sum, ← EReal.coe_sub, exp_masked, ← EReal.coe_add]
  rw [← groups_eq (fun r => A.P r (e + c.val) * (A.dP r (e + c.val) - A.D r) * A.Q r x) _ _ _ _
    (fun i => congrArg (fun z => z * (A.dP _ _ - A.D _) * _) (H.diag he 0 i.val (by omega) c))
    (fun i => congrArg (fun z => z * (A.dP _ _ - A.D _) * _) (H.diag he 256 i.val (by omega) c))
    (fun i => congrArg (fun z => z * (A.dP _ _ - A.D _) * _) (H.diag he 512 i.val (by omega) c))
    (fun i => congrArg (fun z => z * (A.dP _ _ - A.D _) * _) (H.diag he 768 i.val (by omega) c)), hz, zero_add]
  rfl

end Cert.AttKV

end
-- ==== Proof.AttKV.Blocks.lean ====
/- What the kernel's blocks hold, of the arrays it is handed: blocks of 1024 rows and one head's lanes. -/
module

public import proofs.«01_k».proof.Proof.AttKV.Pay
public import proofs.«01_k».proof.Proof.AttKV.Region
public import Idealize.ShloMosaic.Lib.Pipeline.ValueKit

@[expose] public section

set_option maxRecDepth 16384

noncomputable section

namespace Cert.AttKV

open Cert.KernelIdeal Cert.KernelIdeal.Gen
open Idealize.ShloMosaic
open Idealize.ShloMosaic.TcCoe Idealize.ShloMosaic.Tactic

attribute [local instance] Cert.KernelIdeal.Gen.facts

/-- A window's block index at a point. -/
theorem wix0 (t : Fin (cfgA Ideal).N) : ((cfgA Ideal).win (0 : Fin 8)).index t = ![qAt (crd t), (crd t 0).val] := trQ (F := Ideal) (crd t)
theorem wix1 (t : Fin (cfgA Ideal).N) : ((cfgA Ideal).win (1 : Fin 8)).index t = ![kAt (crd t), (crd t 0).val] := trK (F := Ideal) (crd t)
theorem wix2 (t : Fin (cfgA Ideal).N) : ((cfgA Ideal).win (2 : Fin 8)).index t = ![kAt (crd t), (crd t 0).val] := trK (F := Ideal) (crd t)
theorem wix3 (t : Fin (cfgA Ideal).N) : ((cfgA Ideal).win (3 : Fin 8)).index t = ![qAt (crd t), (crd t 0).val] := trQ (F := Ideal) (crd t)
theorem wix4 (t : Fin (cfgA Ideal).N) : ((cfgA Ideal).win (4 : Fin 8)).index t = ![qAt (crd t), (crd t 0).val] := trQ (F := Ideal) (crd t)
theorem wix5 (t : Fin (cfgA Ideal).N) : ((cfgA Ideal).win (5 : Fin 8)).index t = ![qAt (crd t), (crd t 0).val] := trQ (F := Ideal) (crd t)
theorem wix6 (t : Fin (cfgA Ideal).N) : ((cfgA Ideal).win (6 : Fin 8)).index t = ![kAt (crd t), (crd t 0).val] := trK (F := Ideal) (crd t)
theorem wix7 (t : Fin (cfgA Ideal).N) : ((cfgA Ideal).win (7 : Fin 8)).index t = ![kAt (crd t), (crd t 0).val] := trK (F := Ideal) (crd t)
theorem row_lt (t : Fin (cfgA Ideal).N) (i : Fin 1024) : qAt (crd t) * 1024 + i.val < 8192 := by have := qAt_lt (crd t); omega
theorem krow_lt (t : Fin (cfgA Ideal).N) (i : Fin 1024) : kAt (crd t) * 1024 + i.val < 8192 := by
  have := qAt_lt (crd t); have := kAt_le (crd t); omega
theorem head_lt (t : Fin (cfgA Ideal).N) : (crd t 0).val < 8 := (crd t 0).isLt

section
variable (V : (c : Dev nD) → (b : Ref sig .tc) → Buf (Elt Ideal) ((c.tc : Thread nD τ).loc b))

theorem bQ_at (c : Dev nD) (t : Fin (cfgA Ideal).N) (i : Fin 1024) (d : Fin 256) :
    bQ V c t (ix2 i d) = (V c main_v0 : S8192x2048.Idx → EReal) (ix2 ⟨qAt (crd t) * 1024 + i.val, row_lt t i⟩ ⟨(crd t 0).val * 256 + d.val, by have := head_lt t; omega⟩) := by
  refine congrArg (V c main_v0) (funext fun a => Fin.ext ?_)
  refine (Pipeline.Window.rect_emb_val ((cfgA Ideal).win (0 : Fin 8)) t (ix2 i d) a).trans ?_
  rw [wix0]
  fin_cases a <;> rfl
theorem bK_at (c : Dev nD) (t : Fin (cfgA Ideal).N) (i : Fin 1024) (d : Fin 256) :
    bK V c t (ix2 i d) = (V c main_v1 : S8192x2048.Idx → EReal) (ix2 ⟨kAt (crd t) * 1024 + i.val, krow_lt t i⟩ ⟨(crd t 0).val * 256 + d.val, by have := head_lt t; omega⟩) := by
  refine congrArg (V c main_v1) (funext fun a => Fin.ext ?_)
  refine (Pipeline.Window.rect_emb_val ((cfgA Ideal).win (1 : Fin 8)) t (ix2 i d) a).trans ?_
  rw [wix1]
  fin_cases a <;> rfl
theorem bV_at (c : Dev nD) (t : Fin (cfgA Ideal).N) (i : Fin 1024) (d : Fin 128) :
    bV V c t (ix2 i d) = (V c main_v2 : S8192x1024.Idx → EReal) (ix2 ⟨kAt (crd t) * 1024 + i.val, krow_lt t i⟩ ⟨(crd t 0).val * 128 + d.val, by have := head_lt t; omega⟩) := by
  refine congrArg (V c main_v2) (funext fun a => Fin.ext ?_)
  refine (Pipeline.Window.rect_emb_val ((cfgA Ideal).win (2 : Fin 8)) t (ix2 i d) a).trans ?_
  rw [wix2]
  fin_cases a <;> rfl
theorem bO_at (c : Dev nD) (t : Fin (cfgA Ideal).N) (i : Fin 1024) (d : Fin 128) :
    bO V c t (ix2 i d) = (V c main_v30 : S8192x1024.Idx → EReal) (ix2 ⟨qAt (crd t) * 1024 + i.val, row_lt t i⟩ ⟨(crd t 0).val * 128 + d.val, by have := head_lt t; omega⟩) := by
  refine congrArg (V c main_v30) (funext fun a => Fin.ext ?_)
  refine (Pipeline.Window.rect_emb_val ((cfgA Ideal).win (3 : Fin 8)) t (ix2 i d) a).trans ?_
  rw [wix3]
  fin_cases a <;> rfl
theorem bL_at (c : Dev nD) (t : Fin (cfgA Ideal).N) (i : Fin 1024) (d : Fin 128) :
    bL V c t (ix2 i d) = (V c main_v54 : S8192x1024.Idx → EReal) (ix2 ⟨qAt (crd t) * 1024 + i.val, row_lt t i⟩ ⟨(crd t 0).val * 128 + d.val, by have := head_lt t; omega⟩) := by
  refine congrArg (V c main_v54) (funext fun a => Fin.ext ?_)
  refine (Pipeline.Window.rect_emb_val ((cfgA Ideal).win (4 : Fin 8)) t (ix2 i d) a).trans ?_
  rw [wix4]
  fin_cases a <;> rfl
theorem bG_at (c : Dev nD) (t : Fin (cfgA Ideal).N) (i : Fin 1024) (d : Fin 128) :
    bG V c t (ix2 i d) = (V c main_v3 : S8192x1024.Idx → EReal) (ix2 ⟨qAt (crd t) * 1024 + i.val, row_lt t i⟩ ⟨(crd t 0).val * 128 + d.val, by have := head_lt t; omega⟩) := by
  refine congrArg (V c main_v3) (funext fun a => Fin.ext ?_)
  refine (Pipeline.Window.rect_emb_val ((cfgA Ideal).win (5 : Fin 8)) t (ix2 i d) a).trans ?_
  rw [wix5]
  fin_cases a <;> rfl

end

end Cert.AttKV

end
-- ==== Proof.AttKV.Acc.lean ====
/- The accumulators along a head's walk, and the two gradients' arrays after it, where the kernel is handed attention's arrays. -/
module

public import proofs.«01_k».proof.Proof.AttKV.Blocks

@[expose] public section

set_option maxRecDepth 16384

noncomputable section

namespace Cert.AttKV

open Cert.KernelIdeal Cert.KernelIdeal.Gen
open Idealize.ShloMosaic
open Idealize.ShloMosaic.TcCoe Idealize.ShloMosaic.Tactic

attribute [local instance] Cert.KernelIdeal.Gen.facts

/-- Below the diagonal the point before is the block of queries before, of the same head and keys. -/
theorem pred_point (t : Fin grid0.N) (h : qAt (crd t) ≠ kAt (crd t)) : ∃ p : Fin grid0.N, p.val + 1 = t.val ∧ qAt (crd p) + 1 = qAt (crd t)
    ∧ kAt (crd p) = kAt (crd t) ∧ (crd p 0).val = (crd t 0).val := by
  have hp := (by decide +kernel : ∀ t : Fin grid0.N, qAt (crd t) ≠ kAt (crd t) → 0 < t.val ∧ qAt (crd ⟨t.val - 1, by omega⟩) + 1 = qAt (crd t)
    ∧ kAt (crd ⟨t.val - 1, by omega⟩) = kAt (crd t) ∧ (crd ⟨t.val - 1, by omega⟩ 0).val = (crd t 0).val) t h
  exact ⟨⟨t.val - 1, by omega⟩, by show t.val - 1 + 1 = t.val; omega, hp.2⟩

/-- The buffers handed to the kernel hold the heads' arrays, the results `O` and the logarithms `L` of the rows' sums. -/
structure Holds (V : (c : Dev nD) → (b : Ref sig .tc) → Buf (Elt Ideal) ((c.tc : Thread nD τ).loc b)) (c : Dev nD) (A : ℕ → Head) (L : ℕ → ℕ → ℝ) : Prop where
  sc : ∀ h, (A h).sc = scR
  q : ∀ (r : Fin 8192) (h : ℕ) (hh : h < 8) (d : Fin 256), (V c main_v0 : S8192x2048.Idx → EReal) (ix2 r ⟨h * 256 + d.val, by omega⟩) = (((A h).Q r.val d : ℝ) : EReal)
  k : ∀ (r : Fin 8192) (h : ℕ) (hh : h < 8) (d : Fin 256), (V c main_v1 : S8192x2048.Idx → EReal) (ix2 r ⟨h * 256 + d.val, by omega⟩) = (((A h).K r.val d : ℝ) : EReal)
  v : ∀ (r : Fin 8192) (h : ℕ) (hh : h < 8) (x : Fin 128), (V c main_v2 : S8192x1024.Idx → EReal) (ix2 r ⟨h * 128 + x.val, by omega⟩) = (((A h).W r.val x : ℝ) : EReal)
  o : ∀ (r : Fin 8192) (h : ℕ) (hh : h < 8) (x : Fin 128), (V c main_v30 : S8192x1024.Idx → EReal) (ix2 r ⟨h * 128 + x.val, by omega⟩) = (((A h).O r.val x : ℝ) : EReal)
  l : ∀ (r : Fin 8192) (h : ℕ) (hh : h < 8), (V c main_v54 : S8192x1024.Idx → EReal) (ix2 r ⟨h * 128 + 0, by omega⟩) = ((L h r.val : ℝ) : EReal)
  g : ∀ (r : Fin 8192) (h : ℕ) (hh : h < 8) (x : Fin 128), (V c main_v3 : S8192x1024.Idx → EReal) (ix2 r ⟨h * 128 + x.val, by omega⟩) = (((A h).G r.val x : ℝ) : EReal)
  hL : ∀ h r c : ℕ, r < 8192 → c ≤ r → Real.exp ((A h).S r c - L h r) = (A h).P r c

variable {V : (c : Dev nD) → (b : Ref sig .tc) → Buf (Elt Ideal) ((c.tc : Thread nD τ).loc b)} {c : Dev nD} {A : ℕ → Head} {L : ℕ → ℕ → ℝ}

theorem Holds.blk (H : Holds V c A L) (t : Fin (cfgA Ideal).N) : Blk (A (crd t 0).val) (L (crd t 0).val) (qAt (crd t) * 1024) (kAt (crd t) * 1024)
    (bQ V c t) (bK V c t) (bV V c t) (bO V c t) (bL V c t) (bG V c t) where
  sc := H.sc _
  q i d := (bQ_at V c t i d).trans (H.q _ _ (head_lt t) d)
  k i d := (bK_at V c t i d).trans (H.k _ _ (head_lt t) d)
  v i x := (bV_at V c t i x).trans (H.v _ _ (head_lt t) x)
  o i x := (bO_at V c t i x).trans (H.o _ _ (head_lt t) x)
  l i := (bL_at V c t i 0).trans (H.l _ _ (head_lt t))
  g i x := (bG_at V c t i x).trans (H.g _ _ (head_lt t) x)
  hL := H.hL _
  lt := by have := qAt_lt (crd t); omega

/-- The accumulators after a point: the sums over the queries' rows up to the point's block. -/
theorem accV_at (H : Holds V c A L) (n : ℕ) : ∀ (t : Fin (cfgA Ideal).N), t.val = n → ∀ (i : Fin 1024) (x : Fin 128),
    accV V c (t.val + 1) (ix2 i x) = ((∑ r ∈ Finset.range (qAt (crd t) * 1024 + 1024),
      (A (crd t 0).val).P r (kAt (crd t) * 1024 + i.val) * (A (crd t 0).val).G r x : ℝ) : EReal) := by
  induction n with
  | zero =>
    intro t ht i x
    have hd := start_diag t ht
    rw [accV_succ, stepV, if_pos hd]
    exact diagDv_at (H.blk t) (by rw [hd]) i x
  | succ n ih =>
    intro t ht i x
    by_cases hd : qAt (crd t) = kAt (crd t)
    · rw [accV_succ, stepV, if_pos hd]
      exact diagDv_at (H.blk t) (by rw [hd]) i x
    · rw [accV_succ, stepV, if_neg hd]
      obtain ⟨p, hp, hq, hk, hh⟩ := pred_point t hd
      refine offDv_at (H.blk t) (by have := kAt_le (crd t); omega) _ i x ?_
      have := ih p (by omega) i x
      rw [hp, hk, hh, show qAt (crd p) * 1024 + 1024 = qAt (crd t) * 1024 from by omega] at this
      exact this

theorem accK_at (H : Holds V c A L) (n : ℕ) : ∀ (t : Fin (cfgA Ideal).N), t.val = n → ∀ (i : Fin 1024) (d : Fin 256),
    accK V c (t.val + 1) (ix2 i d) = ((∑ r ∈ Finset.range (qAt (crd t) * 1024 + 1024),
      (A (crd t 0).val).P r (kAt (crd t) * 1024 + i.val) * ((A (crd t 0).val).dP r (kAt (crd t) * 1024 + i.val) - (A (crd t 0).val).D r)
        * (A (crd t 0).val).Q r d : ℝ) : EReal) := by
  induction n with
  | zero =>
    intro t ht i x
    have hd := start_diag t ht
    rw [accK_succ, stepK, if_pos hd]
    exact diagDk_at (H.blk t) (by rw [hd]) i x
  | succ n ih =>
    intro t ht i x
    by_cases hd : qAt (crd t) = kAt (crd t)
    · rw [accK_succ, stepK, if_pos hd]
      exact diagDk_at (H.blk t) (by rw [hd]) i x
    · rw [accK_succ, stepK, if_neg hd]
      obtain ⟨p, hp, hq, hk, hh⟩ := pred_point t hd
      refine offDk_at (H.blk t) (by have := kAt_le (crd t); omega) _ i x ?_
      have := ih p (by omega) i x
      rw [hp, hk, hh, show qAt (crd p) * 1024 + 1024 = qAt (crd t) * 1024 from by omega] at this
      exact this

/-- The gradients' arrays. -/
def dkArr (A : ℕ → Head) : S8192x2048.Idx → EReal := fun y =>
  (((A ((y 1).val / 256)).dK (y 0).val ⟨(y 1).val % 256, Nat.mod_lt _ (by norm_num)⟩ * scR : ℝ) : EReal)
def dvArr (A : ℕ → Head) : S8192x1024.Idx → EReal := fun y =>
  (((A ((y 1).val / 128)).dV (y 0).val ⟨(y 1).val % 128, Nat.mod_lt _ (by norm_num)⟩ : ℝ) : EReal)

theorem pay6_at (p : S1024x256.Idx → Elt Ideal .f32) (i : Fin 1024) (d : Fin 256) : k0_pay6 (F := Ideal) p (ix2 i d) = (p (ix2 i d) : EReal) * (scR : EReal) := by
  pointwise [k0_pay6]
  rw [scR_coe]

theorem covers6 : ((cfgA Ideal).win (6 : Fin 8)).Covers := by decide +kernel
theorem covers7 : ((cfgA Ideal).win (7 : Fin 8)).Covers := by decide +kernel

theorem dvArr_at (h k : ℕ) (i : Fin 1024) (x : Fin 128) (y : S8192x1024.Idx) (h0 : (y 0).val = k * 1024 + i.val) (h1 : (y 1).val = h * 128 + x.val) :
    dvArr A y = (((A h).dV (k * 1024 + i.val) x : ℝ) : EReal) := by
  have e1 : (y 1).val / 128 = h := by have := x.isLt; omega
  have e2 : (⟨(y 1).val % 128, Nat.mod_lt _ (by norm_num)⟩ : Fin 128) = x := Fin.ext (by have := x.isLt; show (y 1).val % 128 = x.val; omega)
  unfold dvArr
  rw [e1, e2, h0]
theorem dkArr_at (h k : ℕ) (i : Fin 1024) (x : Fin 256) (y : S8192x2048.Idx) (h0 : (y 0).val = k * 1024 + i.val) (h1 : (y 1).val = h * 256 + x.val) :
    dkArr A y = (((A h).dK (k * 1024 + i.val) x * scR : ℝ) : EReal) := by
  have e1 : (y 1).val / 256 = h := by have := x.isLt; omega
  have e2 : (⟨(y 1).val % 256, Nat.mod_lt _ (by norm_num)⟩ : Fin 256) = x := Fin.ext (by have := x.isLt; show (y 1).val % 256 = x.val; omega)
  unfold dkArr
  rw [e1, e2, h0]

theorem dv_arr (H : Holds V c A L) : (dats V 0 c).arrAt (7 : Fin 8) (cfgA Ideal).N = dvArr A := by
  refine (dats V 0 c).arrAt_eq_of_covers (7 : Fin 8) _ covers7 fun t hf y => ?_
  have h7 : qAt (crd t) = 7 := of_decide_eq_true ((flush7 (F := Ideal) t).symm.trans hf)
  have y0 : (y 0).val < 1024 := (y 0).isLt
  have y1 : (y 1).val < 128 := (y 1).isLt
  have e0 : ((((cfgA Ideal).win (7 : Fin 8)).blk t).view.emb y 0).val = kAt (crd t) * 1024 + (y 0).val :=
    (Pipeline.Window.rect_emb_val ((cfgA Ideal).win (7 : Fin 8)) t y 0).trans (by rw [wix7]; rfl)
  have e1 : ((((cfgA Ideal).win (7 : Fin 8)).blk t).view.emb y 1).val = (crd t 0).val * 128 + (y 1).val :=
    (Pipeline.Window.rect_emb_val ((cfgA Ideal).win (7 : Fin 8)) t y 1).trans (by rw [wix7]; rfl)
  refine Eq.trans ?_ ((accV_at H t.val t rfl ⟨(y 0).val, y0⟩ ⟨(y 1).val, y1⟩).trans ?_)
  · refine congrArg (accV V c (t.val + 1)) (funext fun a => ?_)
    fin_cases a <;> rfl
  · refine Eq.trans ?_ (dvArr_at (A := A) (crd t 0).val (kAt (crd t)) ⟨(y 0).val, y0⟩ ⟨(y 1).val, y1⟩ _ e0 e1).symm
    rw [h7]; rfl

theorem dk_arr (H : Holds V c A L) : (dats V 0 c).arrAt (6 : Fin 8) (cfgA Ideal).N = dkArr A := by
  refine (dats V 0 c).arrAt_eq_of_covers (6 : Fin 8) _ covers6 fun t hf y => ?_
  have h7 : qAt (crd t) = 7 := of_decide_eq_true ((flush6 (F := Ideal) t).symm.trans hf)
  have y0 : (y 0).val < 1024 := (y 0).isLt
  have y1 : (y 1).val < 256 := (y 1).isLt
  have e0 : ((((cfgA Ideal).win (6 : Fin 8)).blk t).view.emb y 0).val = kAt (crd t) * 1024 + (y 0).val :=
    (Pipeline.Window.rect_emb_val ((cfgA Ideal).win (6 : Fin 8)) t y 0).trans (by rw [wix6]; rfl)
  have e1 : ((((cfgA Ideal).win (6 : Fin 8)).blk t).view.emb y 1).val = (crd t 0).val * 256 + (y 1).val :=
    (Pipeline.Window.rect_emb_val ((cfgA Ideal).win (6 : Fin 8)) t y 1).trans (by rw [wix6]; rfl)
  refine Eq.trans ?_ ((pay6_at (accK V c (t.val + 1)) ⟨(y 0).val, y0⟩ ⟨(y 1).val, y1⟩).trans ?_)
  · refine congrArg (k0_pay6 (F := Ideal) (accK V c (t.val + 1))) (funext fun a => ?_)
    fin_cases a <;> rfl
  · refine Eq.trans ?_ (dkArr_at (A := A) (crd t 0).val (kAt (crd t)) ⟨(y 0).val, y0⟩ ⟨(y 1).val, y1⟩ _ e0 e1).symm
    rw [accK_at H t.val t rfl ⟨(y 0).val, y0⟩ ⟨(y 1).val, y1⟩, h7, ← EReal.coe_mul]; rfl

end Cert.AttKV

end
-- ==== Proof.AttKV.HostDefs.lean ====
/- The host lines' attention in stages, and each stage at an index. -/
module

public import proofs.«01_k».proof.Proof.AttKV.Acc

@[expose] public section

set_option maxRecDepth 16384

noncomputable section

namespace Cert.AttKV

open Cert.KernelIdeal Cert.KernelIdeal.Gen
open Idealize.ShloMosaic
open Idealize.ShloMosaic.TcCoe Idealize.ShloMosaic.Tactic

attribute [local instance] Cert.KernelIdeal.Gen.facts

/-- The masked scores; the largest of a row; a row's exponentials; their sum. -/
def hScore (q k : FVec Ideal S8192x2048 .f32) : FVec Ideal S8x8192x8192 .f32 :=
  select (broadcastInDim S8x8192x8192 ![1, 2] bcast_S8192x8192_S8x8192x8192_1_2
      (cmpi .sle (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0)))))
    (mulf (Host.dotGeneral dot_S8192x8x256_S8192x8x256_S8x8192x8192_2_2_0_0_1_1 none (shapeCast S8192x8x256 q shapeCasts_S8192x2048_S8192x8x256)
        (shapeCast S8192x8x256 k shapeCasts_S8192x2048_S8192x8x256))
      (broadcastInDim S8x8192x8192 ![] bcast_S_S8x8192x8192 (constant S_ .f32 1033096506#32)))
    (broadcastInDim S8x8192x8192 ![] bcast_S_S8x8192x8192 (constant S_ .f32 4286578688#32))
def hMax (s : FVec Ideal S8x8192x8192 .f32) : FVec Ideal S8x8192 .f32 :=
  Host.reduce FloatOps.maximumf s (constant S_ .f32 4286578688#32) reducesTo_S8x8192x8192_S8x8192_d2 h_S_
def hFloor (x : FVec Ideal S8x8192 .f32) : FVec Ideal S8x8192 .f32 :=
  maximumf (broadcastInDim S8x8192 ![] bcast_S_S8x8192 (constant S_ .f32 4286578688#32)) x
/-- One value for each row, along the row. -/
def hRow (x : FVec Ideal S8x8192 .f32) : FVec Ideal S8x8192x8192 .f32 :=
  broadcastInDim S8x8192x8192 ![0, 1, 2] bcast_S8x8192x1_S8x8192x8192_0_1_2 (broadcastInDim S8x8192x1 ![0, 1] bcast_S8x8192_S8x8192x1_0_1 x)
def hExp (s : FVec Ideal S8x8192x8192 .f32) (x : FVec Ideal S8x8192 .f32) : FVec Ideal S8x8192x8192 .f32 :=
  Host.exp (subf s (hRow x))
def hSum (e : FVec Ideal S8x8192x8192 .f32) : FVec Ideal S8x8192 .f32 :=
  Host.reduceAdd e (constant S_ .f32 0#32) reducesTo_S8x8192x8192_S8x8192_d2 h_S_
/-- Attention's result, and the logarithm of a row's sum. -/
def hO (e : FVec Ideal S8x8192x8192 .f32) (v : FVec Ideal S8192x1024 .f32) : FVec Ideal S8192x1024 .f32 :=
  shapeCast S8192x1024 (transpose S8192x8x128 [2, 0, 1]
    (Host.dotGeneral dot_S8192x8x128_S8x8192x8192_S8x128x8192_0_2_2_1_1_0 none (shapeCast S8192x8x128 v shapeCasts_S8192x1024_S8192x8x128)
      (Host.divf e (broadcastInDim S8x8192x8192 ![0, 1, 2] bcast_S8x8192x1_S8x8192x8192_0_1_2 (broadcastInDim S8x8192x1 ![0, 1] bcast_S8x8192_S8x8192x1_0_1 (hSum e)))))
    transposes_S8x128x8192_S8192x8x128_2_0_1) shapeCasts_S8192x8x128_S8192x1024
def hLse (x z : FVec Ideal S8x8192 .f32) : FVec Ideal S8192x1024 .f32 :=
  shapeCast S8192x1024 (broadcastInDim S8192x8x128 ![0, 1, 2] bcast_S8192x8x1_S8192x8x128_0_1_2 (broadcastInDim S8192x8x1 ![0, 1] bcast_S8192x8_S8192x8x1_0_1
    (transpose S8192x8 [1, 0] (addf x (Host.log z)) transposes_S8x8192_S8192x8_1_0))) shapeCasts_S8192x8x128_S8192x1024

/-- Each of them at an index. -/
theorem hScore_at (q k : FVec Ideal S8192x2048 .f32) (h : Fin 8) (r c : Fin 8192) :
    hScore q k (ix3 h r c) = Scalar.select (IntOp.cmpi CmpIPredicate.sle (BitVec.ofNat 32 c.val) (BitVec.ofNat 32 r.val))
      ((∑ x : Fin 256, q (ix2 r ⟨h.val * 256 + x.val, by omega⟩) * k (ix2 c ⟨h.val * 256 + x.val, by omega⟩)) * Ideal.ofBits FTy.f32 1033096506#32)
      (Ideal.ofBits FTy.f32 0xFF800000#32) := by
  pointwise [hScore]
theorem hMax_at (s : FVec Ideal S8x8192x8192 .f32) (h : Fin 8) (r : Fin 8192) :
    hMax s (ix2 h r) = Finset.fold max (Ideal.ofBits FTy.f32 0xFF800000#32) (fun x : Fin 8192 => s (ix3 h r x)) Finset.univ := by
  pointwise [hMax]
theorem hFloor_at (x : FVec Ideal S8x8192 .f32) (h : Fin 8) (r : Fin 8192) :
    hFloor x (ix2 h r) = max (Ideal.ofBits FTy.f32 0xFF800000#32) (x (ix2 h r)) := by
  pointwise [hFloor]
theorem hRow_at (x : FVec Ideal S8x8192 .f32) (h : Fin 8) (r c : Fin 8192) : hRow x (ix3 h r c) = x (ix2 h r) := by
  pointwise [hRow]
theorem hExp_at (s : FVec Ideal S8x8192x8192 .f32) (x : FVec Ideal S8x8192 .f32) (h : Fin 8) (r c : Fin 8192) :
    hExp s x (ix3 h r c) = Ideal.exp (s (ix3 h r c) - x (ix2 h r)) :=
  congrArg (fun t : EReal => Ideal.exp (s (ix3 h r c) - t)) (hRow_at x h r c)
theorem hSum_at (s : FVec Ideal S8x8192x8192 .f32) (h : Fin 8) (r : Fin 8192) : hSum s (ix2 h r) = ∑ x : Fin 8192, s (ix3 h r x) := by
  pointwise [hSum]
theorem hO_at (e : FVec Ideal S8x8192x8192 .f32) (v : FVec Ideal S8192x1024 .f32) (r : Fin 8192) (h : ℕ) (hh : h < 8) (x : Fin 128) :
    hO e v (ix2 r ⟨h * 128 + x.val, by omega⟩)
      = ∑ c : Fin 8192, v (ix2 c ⟨h * 128 + x.val, by omega⟩) * Ideal.div (e (ix3 ⟨h, hh⟩ r c)) (hSum e (ix2 ⟨h, hh⟩ r)) := by
  pointwise [hO]
  have e1 : (h * 128 + x.val) / 128 = h := by omega
  simp only [e1]
theorem hLse_at (s z : FVec Ideal S8x8192 .f32) (r : Fin 8192) (h : ℕ) (hh : h < 8) :
    hLse s z (ix2 r ⟨h * 128 + 0, by omega⟩) = s (ix2 ⟨h, hh⟩ r) + Ideal.log (z (ix2 ⟨h, hh⟩ r)) := by
  pointwise [hLse]
  have e1 : h * 128 / 128 = h := by omega
  simp only [e1]

end Cert.AttKV

end
-- ==== Proof.AttKV.Host.lean ====
/- What the host lines hand to the kernel: the arguments, attention's result, and the logarithms of the rows' sums, each along 128
   lanes. -/
module

public import proofs.«01_k».proof.Proof.AttKV.Launch
public import proofs.«01_k».proof.Proof.AttKV.HostDefs

@[expose] public section

set_option maxRecDepth 16384

noncomputable section

namespace Cert.AttKV

open Cert.KernelIdeal Cert.KernelIdeal.Gen
open Idealize.ShloMosaic
open Idealize.ShloMosaic.TcCoe Idealize.ShloMosaic.Tactic

attribute [local instance] Cert.KernelIdeal.Gen.facts

section
variable (m : (ℓ : Loc nD τ sig) → Buf (Elt Ideal) ℓ)

theorem entry_in (c : Dev nD) : hostV m c (Proc.devRef .tc main_v0) = m ((c.tc : Thread nD τ).loc main_arg0)
    ∧ hostV m c (Proc.devRef .tc main_v1) = m ((c.tc : Thread nD τ).loc main_arg1)
    ∧ hostV m c (Proc.devRef .tc main_v2) = m ((c.tc : Thread nD τ).loc main_arg2)
    ∧ hostV m c (Proc.devRef .tc main_v3) = m ((c.tc : Thread nD τ).loc main_arg3) := by
  unfold hostV opss
  simp only [List.flatten_cons, List.flatten_nil, List.append_nil, StableHlo.after_append]
  refine ⟨?_, ?_, ?_, ?_⟩ <;> after_reads_simp <;> rfl

theorem entry_o (c : Dev nD) : hostV m c (Proc.devRef .tc main_v30)
    = hO (hExp (hScore (m ((c.tc : Thread nD τ).loc main_arg0)) (m ((c.tc : Thread nD τ).loc main_arg1)))
        (hFloor (hMax (hScore (m ((c.tc : Thread nD τ).loc main_arg0)) (m ((c.tc : Thread nD τ).loc main_arg1)))))) (m ((c.tc : Thread nD τ).loc main_arg2)) := by
  unfold hostV opss
  simp only [List.flatten_cons, List.flatten_nil, List.append_nil, StableHlo.after_append]
  after_reads_simp
  rfl

theorem entry_l (c : Dev nD) : hostV m c (Proc.devRef .tc main_v54)
    = hLse (hMax (hScore (m ((c.tc : Thread nD τ).loc main_arg0)) (m ((c.tc : Thread nD τ).loc main_arg1))))
        (hSum (hExp (hScore (m ((c.tc : Thread nD τ).loc main_arg0)) (m ((c.tc : Thread nD τ).loc main_arg1)))
          (hMax (hScore (m ((c.tc : Thread nD τ).loc main_arg0)) (m ((c.tc : Thread nD τ).loc main_arg1)))))) := by
  unfold hostV opss
  simp only [List.flatten_cons, List.flatten_nil, List.append_nil, StableHlo.after_append]
  after_reads_simp
  rfl

end

end Cert.AttKV

end
-- ==== Proof.AttKV.Heads.lean ====
/- The heads of real arguments, and the stages of attention on the host in terms of them. -/
module

public import proofs.«01_k».proof.Proof.AttKV.HostDefs
public import proofs.«01_k».proof.Proof.AttKV.Model

@[expose] public section

set_option maxRecDepth 16384

noncomputable section

namespace Cert.AttKV

open Cert.KernelIdeal Cert.KernelIdeal.Gen
open Idealize.ShloMosaic
open Idealize.ShloMosaic.TcCoe Idealize.ShloMosaic.Tactic

attribute [local instance] Cert.KernelIdeal.Gen.facts

/-- Every element is a real number. -/
def IsReal {S : Shape} (x : S.Idx → EReal) : Prop := ∀ y, ((x y).toReal : EReal) = x y

/-- The head `h` of the arguments. -/
def wide (x : S8192x2048.Idx → EReal) (h r : ℕ) (d : Fin 256) : ℝ :=
  if hr : r < 8192 ∧ h < 8 then (x (ix2 ⟨r, hr.1⟩ ⟨h * 256 + d.val, by omega⟩)).toReal else 0
def narrow (x : S8192x1024.Idx → EReal) (h r : ℕ) (d : Fin 128) : ℝ :=
  if hr : r < 8192 ∧ h < 8 then (x (ix2 ⟨r, hr.1⟩ ⟨h * 128 + d.val, by omega⟩)).toReal else 0
def headOf (q k : S8192x2048.Idx → EReal) (v g : S8192x1024.Idx → EReal) (h : ℕ) : Head :=
  ⟨wide q h, wide k h, narrow v h, narrow g h, scR⟩

theorem wide_coe {x : S8192x2048.Idx → EReal} (hx : IsReal x) (r : Fin 8192) (h : ℕ) (hh : h < 8) (d : Fin 256) :
    x (ix2 r ⟨h * 256 + d.val, by omega⟩) = ((wide x h r.val d : ℝ) : EReal) := by
  unfold wide
  rw [dif_pos ⟨r.isLt, hh⟩]
  exact (hx _).symm
theorem narrow_coe {x : S8192x1024.Idx → EReal} (hx : IsReal x) (r : Fin 8192) (h : ℕ) (hh : h < 8) (d : Fin 128) :
    x (ix2 r ⟨h * 128 + d.val, by omega⟩) = ((narrow x h r.val d : ℝ) : EReal) := by
  unfold narrow
  rw [dif_pos ⟨r.isLt, hh⟩]
  exact (hx _).symm

/-- A quotient of reals. -/
theorem div_real (a b : ℝ) (hb : b ≠ 0) : Ideal.div (a : EReal) (b : EReal) = ((a / b : ℝ) : EReal) := by
  rw [Ideal.div_coe hb, ← EReal.coe_mul, mul_one_div]

section
variable {q k : S8192x2048.Idx → EReal} {v g : S8192x1024.Idx → EReal} (hq : IsReal q) (hk : IsReal k) (hv : IsReal v)
  (h : ℕ) (hh : h < 8)

include hq hk in
/-- A product of scores. -/
theorem dot_real (r c : Fin 8192) : (∑ x : Fin 256, q (ix2 r ⟨h * 256 + x.val, by omega⟩) * k (ix2 c ⟨h * 256 + x.val, by omega⟩))
    * Ideal.ofBits FTy.f32 1033096506#32 = (((headOf q k v g h).S r.val c.val : ℝ) : EReal) := by
  rw [scR_coe]
  unfold Head.S
  rw [EReal.coe_mul, coe_sum]
  refine congrArg (· * (scR : EReal)) (Finset.sum_congr rfl fun x _ => ?_)
  rw [wide_coe hq r h hh, wide_coe hk c h hh]
  exact (EReal.coe_mul _ _).symm

include hq hk in
theorem score_real (r c : Fin 8192) : hScore q k (ix3 ⟨h, hh⟩ r c)
    = if c.val ≤ r.val then (((headOf q k v g h).S r.val c.val : ℝ) : EReal) else ⊥ := by
  refine (hScore_at q k ⟨h, hh⟩ r c).trans ?_
  rw [neg_inf, dot_real (v := v) (g := g) hq hk h hh r c]
  have e := sel_le (c := c.val) (b := 0) (i := r.val) (by omega) (by omega) ((((headOf q k v g h).S r.val c.val : ℝ) : EReal)) ⊥
  rw [Nat.zero_add] at e
  rw [← e]
  unfold IntOp.addi
  rw [BitVec.zero_add]

/-- The largest score of a row is real. -/
def rowMax (q k : S8192x2048.Idx → EReal) (h r : ℕ) : ℝ := if hr : r < 8192 ∧ h < 8 then (hMax (hScore q k) (ix2 ⟨h, hr.2⟩ ⟨r, hr.1⟩)).toReal else 0
include hq hk in
theorem max_coe (r : Fin 8192) : hMax (hScore q k) (ix2 ⟨h, hh⟩ r) = ((rowMax q k h r.val : ℝ) : EReal) := by
  have e : ∃ m : ℝ, hMax (hScore q k) (ix2 ⟨h, hh⟩ r) = (m : EReal) := by
    rw [hMax_at, neg_inf]
    refine max_real _ _ (fun c _ => ?_) (Finset.mem_univ r) ?_
    · rw [score_real (v := fun _ => 0) (g := fun _ => 0) hq hk h hh r c]
      split
      · exact EReal.coe_ne_top _
      · exact bot_ne_top
    · rw [score_real (v := fun _ => 0) (g := fun _ => 0) hq hk h hh r r, if_pos (le_refl _)]
      exact EReal.coe_ne_bot _
  obtain ⟨m, e⟩ := e
  unfold rowMax
  rw [dif_pos ⟨r.isLt, hh⟩]
  rw [show (⟨r.val, r.isLt⟩ : Fin 8192) = r from rfl, e, EReal.toReal_coe]
include hq hk in
theorem floor_coe (r : Fin 8192) : hFloor (hMax (hScore q k)) (ix2 ⟨h, hh⟩ r) = ((rowMax q k h r.val : ℝ) : EReal) := by
  rw [hFloor_at, neg_inf, max_coe hq hk h hh r]
  exact max_eq_right bot_le

include hq hk in
/-- A row's exponentials and their sum, once the shift is real. -/
theorem exp_real {x : FVec Ideal S8x8192 .f32} {m : ℝ} (r : Fin 8192) (hx : x (ix2 ⟨h, hh⟩ r) = (m : EReal)) (c : Fin 8192) :
    hExp (hScore q k) x (ix3 ⟨h, hh⟩ r c) = (((headOf q k v g h).E m r.val c.val : ℝ) : EReal) := by
  rw [hExp_at, hx, score_real (v := v) (g := g) hq hk h hh r c, exp_masked]
  rfl
include hq hk in
theorem sum_real {x : FVec Ideal S8x8192 .f32} {m : ℝ} (r : Fin 8192) (hx : x (ix2 ⟨h, hh⟩ r) = (m : EReal)) :
    hSum (hExp (hScore q k) x) (ix2 ⟨h, hh⟩ r) = (((headOf q k v g h).Z m r.val : ℝ) : EReal) := by
  rw [hSum_at, Head.Z, coe_sum]
  exact Finset.sum_congr rfl fun c _ => exp_real hq hk h hh r hx c

include hq hk hv in
theorem out_real {x : FVec Ideal S8x8192 .f32} {m : ℝ} (r : Fin 8192) (hx : x (ix2 ⟨h, hh⟩ r) = (m : EReal)) (d : Fin 128) :
    hO (hExp (hScore q k) x) v (ix2 r ⟨h * 128 + d.val, by omega⟩) = (((headOf q k v g h).O r.val d : ℝ) : EReal) := by
  rw [hO_at _ _ _ _ hh, Head.O, coe_sum]
  refine Finset.sum_congr rfl fun c _ => ?_
  rw [exp_real (v := v) (g := g) hq hk h hh r hx c, sum_real (v := v) (g := g) hq hk h hh r hx, narrow_coe hv c h hh,
    div_real _ _ ((headOf q k v g h).Z_pos m r.isLt).ne', Head.P_eq, ← EReal.coe_mul, mul_comm]
  rfl

include hq hk in
theorem lse_real {x : FVec Ideal S8x8192 .f32} {m : ℝ} (r : Fin 8192) (hx : x (ix2 ⟨h, hh⟩ r) = (m : EReal)) :
    hLse x (hSum (hExp (hScore q k) x)) (ix2 r ⟨h * 128 + 0, by omega⟩)
      = ((m + Real.log ((headOf q k v g h).Z m r.val) : ℝ) : EReal) := by
  rw [hLse_at _ _ _ _ hh, hx, sum_real (v := v) (g := g) hq hk h hh r hx, EReal.coe_add]
  refine congrArg ((m : EReal) + ·) ((Ideal.log_coe _).trans ?_)
  rw [if_neg (not_le.2 ((headOf q k v g h).Z_pos m r.isLt))]

end

end Cert.AttKV

end
-- ==== Proof.AttKV.RefVal.lean ====
/- The reference's two results, of real arguments: the gradients of the heads. -/
module

public import proofs.«01_k».proof.Proof.AttKV.Heads
public import proofs.«01_k».proof.Proof.Gen.ReferenceIdeal.Read

@[expose] public section

set_option maxRecDepth 16384

noncomputable section

namespace Cert.AttKV

open Cert.ReferenceIdeal Cert.ReferenceIdeal.Read
open Idealize.ShloMosaic
open Idealize.ShloMosaic.TcCoe Idealize.ShloMosaic.Tactic

attribute [local instance] Cert.KernelIdeal.Gen.facts
attribute [local instance] Cert.ReferenceIdeal.Gen.facts

section
variable (q k : S8192x2048.Idx → EReal) (v g : S8192x1024.Idx → EReal)

/-- The stages of the reference at an index. -/
theorem ref_exp : val_main_v33 (F := Ideal) q k = hExp (hScore q k) (hFloor (hMax (hScore q k))) := rfl
theorem ref_sum : val_main_v34 (F := Ideal) q k = hSum (val_main_v33 (F := Ideal) q k) := rfl
theorem ref_weight (h : Fin 8) (r c : Fin 8192) : val_main_v37 (F := Ideal) q k (ix3 h r c)
    = Ideal.div (val_main_v33 (F := Ideal) q k (ix3 h r c)) (val_main_v34 (F := Ideal) q k (ix2 h r)) := by
  pointwise [val_main_v37, val_main_v36, val_main_v35]
theorem ref_dp (h : Fin 8) (r c : Fin 8192) : val_main_v46 (F := Ideal) v g (ix3 h r c)
    = ∑ x : Fin 128, g (ix2 r ⟨h.val * 128 + x.val, by omega⟩) * v (ix2 c ⟨h.val * 128 + x.val, by omega⟩) := by
  pointwise [val_main_v46, val_main_v45, val_main_v44, val_main_v2]
theorem ref_part (h : Fin 8) (r c : Fin 8192) : val_main_v51 (F := Ideal) q k v g (ix3 h r c)
    = val_main_v46 (F := Ideal) v g (ix3 h r c)
        * Ideal.div 1 (val_main_v34 (F := Ideal) q k (ix2 h r) * val_main_v34 (F := Ideal) q k (ix2 h r)) * val_main_v33 (F := Ideal) q k (ix3 h r c) := by
  pointwise [val_main_v51, val_main_v50, val_main_v49, val_main_v40, val_main_v39, val_main_v38, val_main_v35, val_main_cst_10]
theorem ref_neg (h : Fin 8) (r : Fin 8192) : val_main_v57 (F := Ideal) q k v g (ix2 h r)
    = ∑ _x : Fin 1, -∑ x : Fin 8192, val_main_v51 (F := Ideal) q k v g (ix3 h r x) := by
  pointwise [val_main_v57, val_main_v54, val_main_v53, val_main_v52, val_main_cst_11, val_main_cst_12]
theorem ref_grad (h : Fin 8) (r c : Fin 8192) : val_main_v60 (F := Ideal) q k v g (ix3 h r c)
    = (Ideal.div (val_main_v46 (F := Ideal) v g (ix3 h r c)) (val_main_v34 (F := Ideal) q k (ix2 h r)) + val_main_v57 (F := Ideal) q k v g (ix2 h r))
        * val_main_v33 (F := Ideal) q k (ix3 h r c) := by
  pointwise [val_main_v60, val_main_v59, val_main_v58, val_main_v56, val_main_v55, val_main_v35]
theorem ref_scaled (h : Fin 8) (r c : Fin 8192) : val_main_v63 (F := Ideal) q k v g (ix3 h r c)
    = Scalar.select (IntOp.cmpi CmpIPredicate.sle (BitVec.ofNat 32 c.val) (BitVec.ofNat 32 r.val))
      (val_main_v60 (F := Ideal) q k v g (ix3 h r c) * Ideal.ofBits FTy.f32 1033096506#32) 0 := by
  pointwise [val_main_v63, val_main_v62, val_main_v61, val_main_call1_v0, val_main_call1_cst, val_main_v12_1, val_main_v11, val_main_v10, val_main_v9,
    val_main_v8, val_main_v7, val_main_v6, val_main_cst_13]
theorem ref_dk (c : Fin 8192) (h : ℕ) (hh : h < 8) (d : Fin 256) : val_main_v69 (F := Ideal) q k v g (ix2 c ⟨h * 256 + d.val, by omega⟩)
    = ∑ x : Fin 8192, val_main_v63 (F := Ideal) q k v g (ix3 ⟨h, hh⟩ x c) * q (ix2 x ⟨h * 256 + d.val, by omega⟩) := by
  pointwise [val_main_v69, val_main_v65, val_main_v64, val_main_v0]
  have e1 : (h * 256 + d.val) / 256 = h := by omega
  simp only [e1]
theorem ref_dv (c : Fin 8192) (h : ℕ) (hh : h < 8) (d : Fin 128) : val_main_v68 (F := Ideal) q k g (ix2 c ⟨h * 128 + d.val, by omega⟩)
    = ∑ x : Fin 8192, g (ix2 x ⟨h * 128 + d.val, by omega⟩) * val_main_v37 (F := Ideal) q k (ix3 ⟨h, hh⟩ x c) := by
  pointwise [val_main_v68, val_main_v48, val_main_v47, val_main_v45, val_main_v44]
  have e1 : (h * 128 + d.val) / 128 = h := by omega
  simp only [e1]

end

section
variable {q k : S8192x2048.Idx → EReal} {v g : S8192x1024.Idx → EReal} (hq : IsReal q) (hk : IsReal k) (hv : IsReal v) (hg : IsReal g)
  (h : ℕ) (hh : h < 8)

include hq hk in
theorem rv_exp (r c : Fin 8192) : val_main_v33 (F := Ideal) q k (ix3 ⟨h, hh⟩ r c)
    = (((headOf q k v g h).E (rowMax q k h r.val) r.val c.val : ℝ) : EReal) := by
  rw [ref_exp]
  exact exp_real hq hk h hh r (floor_coe hq hk h hh r) c
include hq hk in
theorem rv_sum (r : Fin 8192) : val_main_v34 (F := Ideal) q k (ix2 ⟨h, hh⟩ r)
    = (((headOf q k v g h).Z (rowMax q k h r.val) r.val : ℝ) : EReal) := by
  rw [ref_sum, ref_exp]
  exact sum_real hq hk h hh r (floor_coe hq hk h hh r)
include hq hk in
theorem rv_weight (r c : Fin 8192) : val_main_v37 (F := Ideal) q k (ix3 ⟨h, hh⟩ r c)
    = (((headOf q k v g h).P r.val c.val : ℝ) : EReal) := by
  rw [ref_weight, rv_exp (v := v) (g := g) hq hk h hh r c, rv_sum (v := v) (g := g) hq hk h hh r,
    div_real _ _ ((headOf q k v g h).Z_pos _ r.isLt).ne', Head.P_eq]
include hv hg in
theorem rv_dp (r c : Fin 8192) : val_main_v46 (F := Ideal) v g (ix3 ⟨h, hh⟩ r c)
    = (((headOf q k v g h).dP r.val c.val : ℝ) : EReal) := by
  rw [ref_dp, Head.dP, coe_sum]
  refine Finset.sum_congr rfl fun x _ => ?_
  rw [narrow_coe hg r h hh, narrow_coe hv c h hh]
  exact (EReal.coe_mul _ _).symm
include hq hk hv hg in
theorem rv_neg (r : Fin 8192) : val_main_v57 (F := Ideal) q k v g (ix2 ⟨h, hh⟩ r)
    = ((-(∑ c : Fin 8192, (headOf q k v g h).dP r.val c.val * (headOf q k v g h).E (rowMax q k h r.val) r.val c.val
        * (1 / ((headOf q k v g h).Z (rowMax q k h r.val) r.val * (headOf q k v g h).Z (rowMax q k h r.val) r.val))) : ℝ) : EReal) := by
  rw [ref_neg, Finset.sum_const, Finset.card_univ, Fintype.card_fin, one_smul, EReal.coe_neg, coe_sum]
  refine congrArg (fun t : EReal => -t) (Finset.sum_congr rfl fun c _ => ?_)
  have hz := ((headOf q k v g h).Z_pos (rowMax q k h r.val) r.isLt).ne'
  rw [ref_part, rv_dp (q := q) (k := k) hv hg h hh r c, rv_sum (v := v) (g := g) hq hk h hh r, rv_exp (v := v) (g := g) hq hk h hh r c,
    ← EReal.coe_mul, ← EReal.coe_one, div_real _ _ (mul_ne_zero hz hz), ← EReal.coe_mul, ← EReal.coe_mul, mul_right_comm]
include hq hk hv hg in
theorem rv_scaled (r c : Fin 8192) : val_main_v63 (F := Ideal) q k v g (ix3 ⟨h, hh⟩ r c)
    = (((headOf q k v g h).P r.val c.val * ((headOf q k v g h).dP r.val c.val - (headOf q k v g h).D r.val) * scR : ℝ) : EReal) := by
  have hz := ((headOf q k v g h).Z_pos (rowMax q k h r.val) r.isLt).ne'
  rw [ref_scaled, ref_grad, rv_dp (q := q) (k := k) hv hg h hh r c, rv_neg hq hk hv hg h hh r, rv_sum (v := v) (g := g) hq hk h hh r,
    rv_exp (v := v) (g := g) hq hk h hh r c, div_real _ _ hz, ← EReal.coe_add, ← EReal.coe_mul, Head.grad_eq _ _ r.isLt, scR_coe, ← EReal.coe_mul]
  have e := sel_le (c := c.val) (b := 0) (i := r.val) (by omega) (by omega)
    ((((headOf q k v g h).P r.val c.val * ((headOf q k v g h).dP r.val c.val - (headOf q k v g h).D r.val) * scR : ℝ) : EReal)) 0
  rw [Nat.zero_add] at e
  unfold IntOp.addi at e
  rw [BitVec.zero_add] at e
  rw [e]
  split
  · rfl
  · rw [(headOf q k v g h).P_zero (by omega), zero_mul, zero_mul, EReal.coe_zero]

include hq hk hv hg in
theorem rv_dk (c : Fin 8192) (d : Fin 256) : val_main_v69 (F := Ideal) q k v g (ix2 c ⟨h * 256 + d.val, by omega⟩)
    = (((headOf q k v g h).dK c.val d * scR : ℝ) : EReal) := by
  rw [ref_dk _ _ _ _ _ _ hh, Head.dK, ← Fin.sum_univ_eq_sum_range (fun r => (headOf q k v g h).P r c.val
    * ((headOf q k v g h).dP r c.val - (headOf q k v g h).D r) * (headOf q k v g h).Q r d) 8192, Finset.sum_mul, coe_sum]
  refine Finset.sum_congr rfl fun r _ => ?_
  rw [rv_scaled hq hk hv hg h hh r c, wide_coe hq r h hh, ← EReal.coe_mul, mul_right_comm]
  rfl
include hq hk hg in
theorem rv_dv (c : Fin 8192) (d : Fin 128) : val_main_v68 (F := Ideal) q k g (ix2 c ⟨h * 128 + d.val, by omega⟩)
    = (((headOf q k v g h).dV c.val d : ℝ) : EReal) := by
  rw [ref_dv _ _ _ _ _ hh, Head.dV, ← Fin.sum_univ_eq_sum_range (fun r => (headOf q k v g h).P r c.val * (headOf q k v g h).G r d) 8192, coe_sum]
  refine Finset.sum_congr rfl fun r _ => ?_
  rw [rv_weight (v := v) (g := g) hq hk h hh r c, narrow_coe hg r h hh, ← EReal.coe_mul, mul_comm]
  rfl

end

end Cert.AttKV

end
-- ==== Proof.AttKV.Finite.lean ====
/- The precondition read: every element of the four arguments is a real number. -/
module

public import proofs.«01_k».proof.Proof.AttKV.Heads
public import proofs.«01_k».proof.Proof.Gen.Pre_finite
public import proofs.«01_k».proof.Defs
public import Idealize.ShloMosaic.Lib.ReduceAll

@[expose] public section

set_option maxRecDepth 16384

noncomputable section

namespace Cert.AttKV

open Idealize.ShloMosaic
open Idealize.ShloMosaic.TcCoe Idealize.ShloMosaic.Tactic

attribute [local instance] Cert.Pre_finite.Gen.facts

theorem and_one {a b : BitVec 1} (h : IntOp.andi a b = 1#1) : a = 1#1 ∧ b = 1#1 := by
  revert h; unfold IntOp.andi; revert a b; decide

theorem pos_inf : Ideal.ofBits .f32 0x7F800000#32 = ⊤ := by simp [Ideal.ofBits, Ideal.ieee]

theorem real_of_cmp {x : EReal} (h1 : Ideal.cmp .ogt x (Ideal.ofBits .f32 0xFF800000#32) = 1#1) (h2 : Ideal.cmp .olt x (Ideal.ofBits .f32 0x7F800000#32) = 1#1) :
    (x.toReal : EReal) = x := by
  rw [neg_inf] at h1
  rw [pos_inf] at h2
  refine EReal.coe_toReal ?_ ?_
  · rintro rfl; simp [Ideal.cmp] at h2
  · rintro rfl; simp [Ideal.cmp] at h1

/-- One argument's part of the precondition. -/
theorem real_of_all {S : Shape} {x : FVec Ideal S .f32} {lo hi : FVec Ideal S .f32} (hlo : ∀ i, lo i = Ideal.ofBits .f32 0xFF800000#32)
    (hhi : ∀ i, hi i = Ideal.ofBits .f32 0x7F800000#32) {axes : List (Fin S.rank)} {t : Shape} [Subsingleton t.Idx] {init : (⟨0, ![]⟩ : Shape).Idx → BitVec 1}
    (hr : S.ReducesTo axes t) (hu : 0 < (⟨0, ![]⟩ : Shape).numel) (j : t.Idx)
    (h : Host.reduce IntOp.andi (andi (cmpf .ogt x lo) (cmpf .olt x hi)) init hr hu j = 1#1) : IsReal x := by
  intro y
  have e := and_one (Host.reduce_andi_all _ _ _ _ j h y)
  have e1 : Ideal.cmp .ogt (x y) (lo y) = 1#1 := e.1
  have e2 : Ideal.cmp .olt (x y) (hi y) = 1#1 := e.2
  rw [hlo] at e1
  rw [hhi] at e2
  exact real_of_cmp e1 e2

theorem finite_real (q k : FVec Ideal Cert.Pre_finite.S8192x2048 .f32) (v g : FVec Ideal Cert.Pre_finite.S8192x1024 .f32)
    (h : Cert.Pre_finite.fn (F := Ideal) q k v g = fun _ => 1#1) :
    IsReal q ∧ IsReal k ∧ IsReal v ∧ IsReal g := by
  have h0 := congrFun h ix0
  dsimp only [Cert.Pre_finite.fn, Cert.Pre_finite.fn_part1] at h0
  obtain ⟨h1, hg⟩ := and_one h0
  obtain ⟨h2, hv⟩ := and_one h1
  obtain ⟨hq, hk⟩ := and_one h2
  exact ⟨real_of_all (fun _ => rfl) (fun _ => rfl) _ _ _ hq, real_of_all (fun _ => rfl) (fun _ => rfl) _ _ _ hk,
    real_of_all (fun _ => rfl) (fun _ => rfl) _ _ _ hv, real_of_all (fun _ => rfl) (fun _ => rfl) _ _ _ hg⟩

end Cert.AttKV

end
-- ==== Proof.AttKV.Value.lean ====
/- The two gradients of kernel and reference are the same arrays of reals. -/
module

public import proofs.«01_k».proof.Proof.AttKV.Host
public import proofs.«01_k».proof.Proof.AttKV.RefVal
public import proofs.«01_k».proof.Proof.AttKV.Finite
public import proofs.«01_k».proof.Proof.Gen.ReferenceIdeal.Run
public import Idealize.ShloMosaic.Lib.Claim

@[expose] public section

set_option maxRecDepth 16384

noncomputable section

namespace Cert.AttKV

open Cert.KernelIdeal Cert.KernelIdeal.Gen
open Idealize.ShloMosaic Idealize.SL.Sem
open Idealize.ShloMosaic.TcCoe Idealize.ShloMosaic.Tactic

attribute [local instance] Cert.KernelIdeal.Gen.facts
attribute [local instance] Cert.ReferenceIdeal.Gen.facts
attribute [local instance] Cert.Pre_finite.Gen.facts

section
variable (m : (ℓ : Loc nD τ sig) → Buf (Elt Ideal) ℓ) (c : Dev nD)

abbrev argQ : S8192x2048.Idx → EReal := m ((c.tc : Thread nD τ).loc main_arg0)
abbrev argK : S8192x2048.Idx → EReal := m ((c.tc : Thread nD τ).loc main_arg1)
abbrev argV : S8192x1024.Idx → EReal := m ((c.tc : Thread nD τ).loc main_arg2)
abbrev argG : S8192x1024.Idx → EReal := m ((c.tc : Thread nD τ).loc main_arg3)
abbrev heads : ℕ → Head := headOf (argQ m c) (argK m c) (argV m c) (argG m c)

variable {m c} (hq : IsReal (argQ m c)) (hk : IsReal (argK m c)) (hv : IsReal (argV m c)) (hg : IsReal (argG m c))

include hq hk hv hg in
/-- What the host lines hand to the kernel. -/
theorem holds : Holds (entryV m) c (heads m c)
    (fun h r => rowMax (argQ m c) (argK m c) h r + Real.log ((heads m c h).Z (rowMax (argQ m c) (argK m c) h r) r)) where
  sc _ := rfl
  q r h hh d := (congrFun (entry_in m c).1 _).trans (wide_coe hq r h hh d)
  k r h hh d := (congrFun (entry_in m c).2.1 _).trans (wide_coe hk r h hh d)
  v r h hh d := (congrFun (entry_in m c).2.2.1 _).trans (narrow_coe hv r h hh d)
  g r h hh d := (congrFun (entry_in m c).2.2.2 _).trans (narrow_coe hg r h hh d)
  o r h hh d := (congrFun (entry_o m c) _).trans (out_real hq hk hv h hh r (floor_coe hq hk h hh r) d)
  l r h hh := (congrFun (entry_l m c) _).trans (lse_real hq hk h hh r (max_coe hq hk h hh r))
  hL h _ _ hr hc := (heads m c h).exp_sub_lse _ hr hc

include hq hk hv hg in
theorem ref_dk_arr : Cert.ReferenceIdeal.Read.val_main_v69 (F := Ideal) (argQ m c) (argK m c) (argV m c) (argG m c) = dkArr (heads m c) := by
  funext y
  have hy : (y 1).val < 2048 := (y 1).isLt
  have e : y = ix2 (y 0) ⟨(y 1).val / 256 * 256 + (⟨(y 1).val % 256, Nat.mod_lt _ (by norm_num)⟩ : Fin 256).val, by show _ + (y 1).val % 256 < 2048; omega⟩ :=
    funext fun a => by
      fin_cases a
      · rfl
      · exact Fin.ext (by show (y 1).val = (y 1).val / 256 * 256 + (y 1).val % 256; omega)
  exact (congrArg _ e).trans (rv_dk hq hk hv hg ((y 1).val / 256) (by omega) (y 0) ⟨(y 1).val % 256, Nat.mod_lt _ (by norm_num)⟩)

include hq hk hg in
theorem ref_dv_arr : Cert.ReferenceIdeal.Read.val_main_v68 (F := Ideal) (argQ m c) (argK m c) (argG m c) = dvArr (heads m c) := by
  funext y
  have hy : (y 1).val < 1024 := (y 1).isLt
  have e : y = ix2 (y 0) ⟨(y 1).val / 128 * 128 + (⟨(y 1).val % 128, Nat.mod_lt _ (by norm_num)⟩ : Fin 128).val, by show _ + (y 1).val % 128 < 1024; omega⟩ :=
    funext fun a => by
      fin_cases a
      · rfl
      · exact Fin.ext (by show (y 1).val = (y 1).val / 128 * 128 + (y 1).val % 128; omega)
  exact (congrArg _ e).trans (rv_dv (v := argV m c) hq hk hg ((y 1).val / 128) (by omega) (y 0) ⟨(y 1).val % 128, Nat.mod_lt _ (by norm_num)⟩)

end

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  have hr := fun c => finite_real _ _ _ _ (hpre c)
  refine ⟨fun c => dkArr (heads m c), fun c => dvArr (heads m c), (θ_run _ _ _).mono (fun r h c => ?_) (run_read m g),
    (θ_run _ _ _).mono (fun r h c => ?_) (Cert.ReferenceIdeal.Value.run m' g')⟩
  · obtain ⟨hq, hk, hv, hg⟩ := hr c
    have H := holds hq hk hv hg
    exact ⟨((h.1 c).1.1).trans (dk_arr H), ((h.1 c).1.2).trans (dv_arr H), (h.1 c).2⟩
  · obtain ⟨hq, hk, hv, hg⟩ := hr c
    obtain ⟨e0, e1, e2, e3⟩ := hagree c
    refine ⟨(h c).1.trans ((Cert.ReferenceIdeal.Read.val_main_v69_eq m' c).trans ?_), (h c).2.1.trans ((Cert.ReferenceIdeal.Read.val_main_v68_eq m' c).trans ?_), (h c).2.2⟩
    · rw [e0, e1, e2, e3]; exact ref_dk_arr hq hk hv hg
    · rw [e0, e1, e3]; exact ref_dv_arr hq hk hg

end Cert.AttKV

end
-- ==== Proof.Products.InFwd.lean ====
/- InFwd: the input projection's product, a 8192 by 14080 array summed over 2048 terms in 2 parts. -/
module

public import proofs.«01_k».proof.Defs
public import proofs.«01_k».proof.Proof.Gen.InFwd.Frame
public import proofs.«01_k».proof.Proof.Gen.InFwdIdeal.Value
public import proofs.«01_k».proof.Proof.Gen.InFwdRefIdeal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

namespace Cert.InFwdIdeal.Prod

open Cert.InFwdIdeal Cert.InFwdIdeal.Gen Idealize.ShloMosaic Idealize.ShloMosaic.TcCoe Idealize.ShloMosaic.Tactic Idealize.SL.Sem

variable (m : (ℓ : Loc nD τ sig) → Buf (Elt Ideal) ℓ)

theorem ixA : ∀ t : Fin grid0.N, win0_0.index t = ![t.val / 20, t.val % 2] := by decide +kernel
theorem ixB : ∀ t : Fin grid0.N, win0_1.index t = ![t.val % 2, t.val / 2 % 10] := by decide +kernel
theorem ixO : ∀ t : Fin grid0.N, win0_2.index t = ![t.val / 20, t.val / 2 % 10] := by decide +kernel

abbrev blkA (c : Dev nD) (t : Fin cfg0.N) : S1024x1024.Idx → EReal := iblk m c 0 t
abbrev blkB (c : Dev nD) (t : Fin cfg0.N) : S1024x1408.Idx → EReal := iblk m c 1 t
abbrev argA (c : Dev nD) : S8192x2048.Idx → EReal := m ((c : Thread nD τ).loc main_arg0)
abbrev argB (c : Dev nD) : S2048x14080.Idx → EReal := m ((c : Thread nD τ).loc main_arg1)

/-- The product of a point's two blocks. -/
abbrev term (c : Dev nD) (t : Fin cfg0.N) (j : S1024x1408.Idx) : EReal :=
  ∑ k : Fin 1024, blkA m c t (ix2 (j 0) k) * blkB m c t (ix2 k (j 1))

/-- The first of a block's 2 points starts the sum. -/
theorem first (c : Dev nD) (t : Fin cfg0.N) (h : t.val % 2 = 0) (j : S1024x1408.Idx) :
    (outsAt0 m c t.val t.isLt).2 j = (0 : EReal) + term m c t j := by
  rw [outsAt0_A m c t h (by omega)]
  frame_out
  pointwise [k0_pay1, k0_pay2]

/-- Every later point adds to it. -/
theorem next (c : Dev nD) (t : Fin cfg0.N) (h : ¬t.val % 2 = 0) (j : S1024x1408.Idx) :
    (outsAt0 m c t.val t.isLt).2 j
      = ((outsAt0 m c (t.val - 1) (Nat.lt_of_le_of_lt (Nat.sub_le _ _) t.isLt)).2 j : EReal) + term m c t j := by
  rw [outsAt0_B m c t h (by omega)]
  frame_out [read_unread_whole]
  pointwise [k0_pay2]

/-- The last point writes the sum out. -/
theorem last (c : Dev nD) (t : Fin cfg0.N) (h : t.val % 2 = 1) (j : S1024x1408.Idx) :
    (outsAt0 m c t.val t.isLt).1 j = (outsAt0 m c t.val t.isLt).2 j := by
  rw [outsAt0_B m c t (by omega) h]
  frame_out

theorem written (c : Dev nD) (t : Fin cfg0.N) (h : t.val % 2 = 1) (j : S1024x1408.Idx) :
    ((outsAt0 m c t.val t.isLt).1 j : EReal)
      = ∑ s : Fin 2, term m c ⟨2 * (t.val / 2) + s.val, Pipeline.run_point_lt_of_flush t h s⟩ j := by
  rw [last m c t h, Pipeline.eq_sum_fin_of_reset_step_apply_of_flush (fun n h => (outsAt0 m c n h).2) 2 (fun _ => (0 : EReal)) (term m c)
    (first m c) (next m c) t h j, zero_add]

/-- The whole product. -/
abbrev total (c : Dev nD) : S8192x14080.Idx → EReal := fun i =>
  ∑ x : Fin 2048, argA m c (ix2 (i 0) x) * argB m c (ix2 x (i 1))

/-- The array the call leaves. -/
theorem arr (c : Dev nD) : (dats m 0 c).arrAt 2 cfg0.N = total m c := by
  refine (dats m 0 c).arrAt_eq_of_covers 2 _ (by decide +kernel) fun t hf y => ?_
  have ht : t.val % 2 = 1 := (flush0_2 t).mp hf
  blk_simp
  rw [after0_2]
  refine (written m c t ht _).trans ?_
  refine Fin.sum_mul_add_congr (n := 1024) fun s k hl => ?_
  have hN : t.val < 160 := t.isLt
  have hs := s.isLt
  congr 1
  · blk_ext! [iblk, V, ixA, ixO]
  · blk_ext! [iblk, V, ixB, ixO]

end Cert.InFwdIdeal.Prod

namespace Cert.InFwdIdeal.Claims

open Idealize.ShloMosaic Idealize.SL.Sem

theorem frame_kernel : Cert.quiescent_InFwd (hInFwd := Cert.InFwd.Gen.facts) := fun m ρ _ => Cert.InFwd.Gen.frame m ρ
theorem frame_ideal : Cert.quiescent_InFwdIdeal (hInFwdIdeal := Cert.InFwdIdeal.Gen.facts) := fun m ρ _ => Cert.InFwdIdeal.Gen.frame m ρ
theorem frame_ref : Cert.quiescent_InFwdRefIdeal (hInFwdRefIdeal := Cert.InFwdRefIdeal.Gen.facts) := fun m ρ _ =>
  (θ_run Cert.InFwdRefIdeal.defs _ _).mono (fun r h => ⟨fun c => (h c).2, sem_eq_zero_of_no_sems (by decide) r.2⟩)
    (Cert.InFwdRefIdeal.Value.run (F := Ideal) m ρ)

theorem algebraic : Cert.algebraic_InFwdIdeal_InFwdRefIdeal (hInFwdIdeal := Cert.InFwdIdeal.Gen.facts) (hInFwdRefIdeal := Cert.InFwdRefIdeal.Gen.facts) := by
  intro m ρ m' ρ' _ hagree
  refine ⟨Cert.InFwdIdeal.Prod.total m, ?_, ?_⟩
  · refine (θ_run Cert.InFwdIdeal.defs _ _).mono (fun _ h c => ⟨?_, (h c).2⟩) (Cert.InFwdIdeal.Value.run_blocks (F := Ideal) m ρ)
    exact (h c).1.trans (Cert.InFwdIdeal.Prod.arr m c)
  · refine (θ_run Cert.InFwdRefIdeal.defs _ _).mono (fun _ h c => ⟨?_, (h c).2⟩) (Cert.InFwdRefIdeal.Value.run (F := Ideal) m' ρ')
    rw [(h c).1]
    simp only [hagree c]
    refine funext fun (i : S8192x14080.Idx) => ?_
    idx_vars i
    pointwise [Cert.InFwdIdeal.Prod.total]

end Cert.InFwdIdeal.Claims

end
-- ==== Proof.Products.InDa.lean ====
/- InDa: the input projection's gradient in its rows, a 8192 by 2048 array summed over 14080 terms in 10 parts. -/
module

public import proofs.«01_k».proof.Defs
public import proofs.«01_k».proof.Proof.Gen.InDa.Frame
public import proofs.«01_k».proof.Proof.Gen.InDaIdeal.Value
public import proofs.«01_k».proof.Proof.Gen.InDaRefIdeal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

namespace Cert.InDaIdeal.Prod

open Cert.InDaIdeal Cert.InDaIdeal.Gen Idealize.ShloMosaic Idealize.ShloMosaic.TcCoe Idealize.ShloMosaic.Tactic Idealize.SL.Sem

variable (m : (ℓ : Loc nD τ sig) → Buf (Elt Ideal) ℓ)

theorem ixA : ∀ t : Fin grid0.N, win0_0.index t = ![t.val / 20, t.val % 10] := by decide +kernel
theorem ixB : ∀ t : Fin grid0.N, win0_1.index t = ![t.val / 10 % 2, t.val % 10] := by decide +kernel
theorem ixO : ∀ t : Fin grid0.N, win0_2.index t = ![t.val / 20, t.val / 10 % 2] := by decide +kernel

abbrev blkA (c : Dev nD) (t : Fin cfg0.N) : S1024x1408.Idx → EReal := iblk m c 0 t
abbrev blkB (c : Dev nD) (t : Fin cfg0.N) : S1024x1408.Idx → EReal := iblk m c 1 t
abbrev argA (c : Dev nD) : S8192x14080.Idx → EReal := m ((c : Thread nD τ).loc main_arg2)
abbrev argB (c : Dev nD) : S2048x14080.Idx → EReal := m ((c : Thread nD τ).loc main_arg1)

/-- The product of a point's two blocks. -/
abbrev term (c : Dev nD) (t : Fin cfg0.N) (j : S1024x1024.Idx) : EReal :=
  ∑ k : Fin 1408, blkA m c t (ix2 (j 0) k) * blkB m c t (ix2 (j 1) k)

/-- The first of a block's 10 points starts the sum. -/
theorem first (c : Dev nD) (t : Fin cfg0.N) (h : t.val % 10 = 0) (j : S1024x1024.Idx) :
    (outsAt0 m c t.val t.isLt).2 j = (0 : EReal) + term m c t j := by
  rw [outsAt0_A m c t h (by omega)]
  frame_out
  pointwise [k0_pay1, k0_pay2]

/-- Every later point adds to it. -/
theorem next (c : Dev nD) (t : Fin cfg0.N) (h : ¬t.val % 10 = 0) (j : S1024x1024.Idx) :
    (outsAt0 m c t.val t.isLt).2 j
      = ((outsAt0 m c (t.val - 1) (Nat.lt_of_le_of_lt (Nat.sub_le _ _) t.isLt)).2 j : EReal) + term m c t j := by
  by_cases h' : t.val % 10 = 9
  · rw [outsAt0_C m c t h h']
    frame_out [read_unread_whole]
    pointwise [k0_pay2]
  · rw [outsAt0_B m c t h h']
    frame_out [read_unread_whole]
    pointwise [k0_pay2]

/-- The last point writes the sum out. -/
theorem last (c : Dev nD) (t : Fin cfg0.N) (h : t.val % 10 = 9) (j : S1024x1024.Idx) :
    (outsAt0 m c t.val t.isLt).1 j = (outsAt0 m c t.val t.isLt).2 j := by
  rw [outsAt0_C m c t (by omega) h]
  frame_out

theorem written (c : Dev nD) (t : Fin cfg0.N) (h : t.val % 10 = 9) (j : S1024x1024.Idx) :
    ((outsAt0 m c t.val t.isLt).1 j : EReal)
      = ∑ s : Fin 10, term m c ⟨10 * (t.val / 10) + s.val, Pipeline.run_point_lt_of_flush t h s⟩ j := by
  rw [last m c t h, Pipeline.eq_sum_fin_of_reset_step_apply_of_flush (fun n h => (outsAt0 m c n h).2) 10 (fun _ => (0 : EReal)) (term m c)
    (first m c) (next m c) t h j, zero_add]

/-- The whole product. -/
abbrev total (c : Dev nD) : S8192x2048.Idx → EReal := fun i =>
  ∑ x : Fin 14080, argA m c (ix2 (i 0) x) * argB m c (ix2 (i 1) x)

/-- The array the call leaves. -/
theorem arr (c : Dev nD) : (dats m 0 c).arrAt 2 cfg0.N = total m c := by
  refine (dats m 0 c).arrAt_eq_of_covers 2 _ (by decide +kernel) fun t hf y => ?_
  have ht : t.val % 10 = 9 := (flush0_2 t).mp hf
  blk_simp
  rw [after0_2]
  refine (written m c t ht _).trans ?_
  refine Fin.sum_mul_add_congr (n := 1408) fun s k hl => ?_
  have hN : t.val < 160 := t.isLt
  have hs := s.isLt
  congr 1
  · blk_ext! [iblk, V, ixA, ixO]
  · blk_ext! [iblk, V, ixB, ixO]

end Cert.InDaIdeal.Prod

namespace Cert.InDaIdeal.Claims

open Idealize.ShloMosaic Idealize.SL.Sem

theorem frame_kernel : Cert.quiescent_InDa (hInDa := Cert.InDa.Gen.facts) := fun m ρ _ => Cert.InDa.Gen.frame m ρ
theorem frame_ideal : Cert.quiescent_InDaIdeal (hInDaIdeal := Cert.InDaIdeal.Gen.facts) := fun m ρ _ => Cert.InDaIdeal.Gen.frame m ρ
theorem frame_ref : Cert.quiescent_InDaRefIdeal (hInDaRefIdeal := Cert.InDaRefIdeal.Gen.facts) := fun m ρ _ =>
  (θ_run Cert.InDaRefIdeal.defs _ _).mono (fun r h => ⟨fun c => (h c).2, sem_eq_zero_of_no_sems (by decide) r.2⟩)
    (Cert.InDaRefIdeal.Value.run (F := Ideal) m ρ)

theorem algebraic : Cert.algebraic_InDaIdeal_InDaRefIdeal (hInDaIdeal := Cert.InDaIdeal.Gen.facts) (hInDaRefIdeal := Cert.InDaRefIdeal.Gen.facts) := by
  intro m ρ m' ρ' _ hagree
  refine ⟨Cert.InDaIdeal.Prod.total m, ?_, ?_⟩
  · refine (θ_run Cert.InDaIdeal.defs _ _).mono (fun _ h c => ⟨?_, (h c).2⟩) (Cert.InDaIdeal.Value.run_blocks (F := Ideal) m ρ)
    exact (h c).1.trans (Cert.InDaIdeal.Prod.arr m c)
  · refine (θ_run Cert.InDaRefIdeal.defs _ _).mono (fun _ h c => ⟨?_, (h c).2⟩) (Cert.InDaRefIdeal.Value.run (F := Ideal) m' ρ')
    rw [(h c).1]
    simp only [hagree c]
    refine funext fun (i : S8192x2048.Idx) => ?_
    idx_vars i
    pointwise [Cert.InDaIdeal.Prod.total]

end Cert.InDaIdeal.Claims

end
-- ==== Proof.Products.InDw.lean ====
/- InDw: the input projection's gradient in its weights, a 2048 by 14080 array summed over 8192 terms in 8 parts. -/
module

public import proofs.«01_k».proof.Defs
public import proofs.«01_k».proof.Proof.Gen.InDw.Frame
public import proofs.«01_k».proof.Proof.Gen.InDwIdeal.Value
public import proofs.«01_k».proof.Proof.Gen.InDwRefIdeal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

namespace Cert.InDwIdeal.Prod

open Cert.InDwIdeal Cert.InDwIdeal.Gen Idealize.ShloMosaic Idealize.ShloMosaic.TcCoe Idealize.ShloMosaic.Tactic Idealize.SL.Sem

variable (m : (ℓ : Loc nD τ sig) → Buf (Elt Ideal) ℓ)

theorem ixA : ∀ t : Fin grid0.N, win0_0.index t = ![t.val % 8, t.val / 80] := by decide +kernel
theorem ixB : ∀ t : Fin grid0.N, win0_1.index t = ![t.val % 8, t.val / 8 % 10] := by decide +kernel
theorem ixO : ∀ t : Fin grid0.N, win0_2.index t = ![t.val / 80, t.val / 8 % 10] := by decide +kernel

abbrev blkA (c : Dev nD) (t : Fin cfg0.N) : S1024x1024.Idx → EReal := iblk m c 0 t
abbrev blkB (c : Dev nD) (t : Fin cfg0.N) : S1024x1408.Idx → EReal := iblk m c 1 t
abbrev argA (c : Dev nD) : S8192x2048.Idx → EReal := m ((c : Thread nD τ).loc main_arg0)
abbrev argB (c : Dev nD) : S8192x14080.Idx → EReal := m ((c : Thread nD τ).loc main_arg2)

/-- The product of a point's two blocks. -/
abbrev term (c : Dev nD) (t : Fin cfg0.N) (j : S1024x1408.Idx) : EReal :=
  ∑ k : Fin 1024, blkA m c t (ix2 k (j 0)) * blkB m c t (ix2 k (j 1))

/-- The first of a block's 8 points starts the sum. -/
theorem first (c : Dev nD) (t : Fin cfg0.N) (h : t.val % 8 = 0) (j : S1024x1408.Idx) :
    (outsAt0 m c t.val t.isLt).2 j = (0 : EReal) + term m c t j := by
  rw [outsAt0_A m c t h (by omega)]
  frame_out
  pointwise [k0_pay1, k0_pay2]

/-- Every later point adds to it. -/
theorem next (c : Dev nD) (t : Fin cfg0.N) (h : ¬t.val % 8 = 0) (j : S1024x1408.Idx) :
    (outsAt0 m c t.val t.isLt).2 j
      = ((outsAt0 m c (t.val - 1) (Nat.lt_of_le_of_lt (Nat.sub_le _ _) t.isLt)).2 j : EReal) + term m c t j := by
  by_cases h' : t.val % 8 = 7
  · rw [outsAt0_C m c t h h']
    frame_out [read_unread_whole]
    pointwise [k0_pay2]
  · rw [outsAt0_B m c t h h']
    frame_out [read_unread_whole]
    pointwise [k0_pay2]

/-- The last point writes the sum out. -/
theorem last (c : Dev nD) (t : Fin cfg0.N) (h : t.val % 8 = 7) (j : S1024x1408.Idx) :
    (outsAt0 m c t.val t.isLt).1 j = (outsAt0 m c t.val t.isLt).2 j := by
  rw [outsAt0_C m c t (by omega) h]
  frame_out
  pointwise [k0_pay3]

theorem written (c : Dev nD) (t : Fin cfg0.N) (h : t.val % 8 = 7) (j : S1024x1408.Idx) :
    ((outsAt0 m c t.val t.isLt).1 j : EReal)
      = ∑ s : Fin 8, term m c ⟨8 * (t.val / 8) + s.val, Pipeline.run_point_lt_of_flush t h s⟩ j := by
  rw [last m c t h, Pipeline.eq_sum_fin_of_reset_step_apply_of_flush (fun n h => (outsAt0 m c n h).2) 8 (fun _ => (0 : EReal)) (term m c)
    (first m c) (next m c) t h j, zero_add]

/-- The whole product. -/
abbrev total (c : Dev nD) : S2048x14080.Idx → EReal := fun i =>
  ∑ x : Fin 8192, argA m c (ix2 x (i 0)) * argB m c (ix2 x (i 1))

/-- The array the call leaves. -/
theorem arr (c : Dev nD) : (dats m 0 c).arrAt 2 cfg0.N = total m c := by
  refine (dats m 0 c).arrAt_eq_of_covers 2 _ (by decide +kernel) fun t hf y => ?_
  have ht : t.val % 8 = 7 := (flush0_2 t).mp hf
  blk_simp
  rw [after0_2]
  refine (written m c t ht _).trans ?_
  refine Fin.sum_mul_add_congr (n := 1024) fun s k hl => ?_
  have hN : t.val < 160 := t.isLt
  have hs := s.isLt
  congr 1
  · blk_ext! [iblk, V, ixA, ixO]
  · blk_ext! [iblk, V, ixB, ixO]

end Cert.InDwIdeal.Prod

namespace Cert.InDwIdeal.Claims

open Idealize.ShloMosaic Idealize.SL.Sem

theorem frame_kernel : Cert.quiescent_InDw (hInDw := Cert.InDw.Gen.facts) := fun m ρ _ => Cert.InDw.Gen.frame m ρ
theorem frame_ideal : Cert.quiescent_InDwIdeal (hInDwIdeal := Cert.InDwIdeal.Gen.facts) := fun m ρ _ => Cert.InDwIdeal.Gen.frame m ρ
theorem frame_ref : Cert.quiescent_InDwRefIdeal (hInDwRefIdeal := Cert.InDwRefIdeal.Gen.facts) := fun m ρ _ =>
  (θ_run Cert.InDwRefIdeal.defs _ _).mono (fun r h => ⟨fun c => (h c).2, sem_eq_zero_of_no_sems (by decide) r.2⟩)
    (Cert.InDwRefIdeal.Value.run (F := Ideal) m ρ)

theorem algebraic : Cert.algebraic_InDwIdeal_InDwRefIdeal (hInDwIdeal := Cert.InDwIdeal.Gen.facts) (hInDwRefIdeal := Cert.InDwRefIdeal.Gen.facts) := by
  intro m ρ m' ρ' _ hagree
  refine ⟨Cert.InDwIdeal.Prod.total m, ?_, ?_⟩
  · refine (θ_run Cert.InDwIdeal.defs _ _).mono (fun _ h c => ⟨?_, (h c).2⟩) (Cert.InDwIdeal.Value.run_blocks (F := Ideal) m ρ)
    exact (h c).1.trans (Cert.InDwIdeal.Prod.arr m c)
  · refine (θ_run Cert.InDwRefIdeal.defs _ _).mono (fun _ h c => ⟨?_, (h c).2⟩) (Cert.InDwRefIdeal.Value.run (F := Ideal) m' ρ')
    rw [(h c).1]
    simp only [hagree c]
    refine funext fun (i : S2048x14080.Idx) => ?_
    idx_vars i
    pointwise [Cert.InDwIdeal.Prod.total]
    exact Fintype.sum_congr _ _ fun x => mul_comm (G := EReal) _ _

end Cert.InDwIdeal.Claims

end
-- ==== Proof.Products.GateFwd.lean ====
/- GateFwd: the feed-forward gate's product, a 8192 by 5632 array summed over 2048 terms in 2 parts. -/
module

public import proofs.«01_k».proof.Defs
public import proofs.«01_k».proof.Proof.Gen.GateFwd.Frame
public import proofs.«01_k».proof.Proof.Gen.GateFwdIdeal.Value
public import proofs.«01_k».proof.Proof.Gen.GateFwdRefIdeal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

namespace Cert.GateFwdIdeal.Prod

open Cert.GateFwdIdeal Cert.GateFwdIdeal.Gen Idealize.ShloMosaic Idealize.ShloMosaic.TcCoe Idealize.ShloMosaic.Tactic Idealize.SL.Sem

variable (m : (ℓ : Loc nD τ sig) → Buf (Elt Ideal) ℓ)

theorem ixA : ∀ t : Fin grid0.N, win0_0.index t = ![t.val / 8, t.val % 2] := by decide +kernel
theorem ixB : ∀ t : Fin grid0.N, win0_1.index t = ![t.val % 2, t.val / 2 % 4] := by decide +kernel
theorem ixO : ∀ t : Fin grid0.N, win0_2.index t = ![t.val / 8, t.val / 2 % 4] := by decide +kernel

abbrev blkA (c : Dev nD) (t : Fin cfg0.N) : S1024x1024.Idx → EReal := iblk m c 0 t
abbrev blkB (c : Dev nD) (t : Fin cfg0.N) : S1024x1408.Idx → EReal := iblk m c 1 t
abbrev argA (c : Dev nD) : S8192x2048.Idx → EReal := m ((c : Thread nD τ).loc main_arg0)
abbrev argB (c : Dev nD) : S2048x5632.Idx → EReal := m ((c : Thread nD τ).loc main_arg1)

/-- The product of a point's two blocks. -/
abbrev term (c : Dev nD) (t : Fin cfg0.N) (j : S1024x1408.Idx) : EReal :=
  ∑ k : Fin 1024, blkA m c t (ix2 (j 0) k) * blkB m c t (ix2 k (j 1))

/-- The first of a block's 2 points starts the sum. -/
theorem first (c : Dev nD) (t : Fin cfg0.N) (h : t.val % 2 = 0) (j : S1024x1408.Idx) :
    (outsAt0 m c t.val t.isLt).2 j = (0 : EReal) + term m c t j := by
  rw [outsAt0_A m c t h (by omega)]
  frame_out
  pointwise [k0_pay1, k0_pay2]

/-- Every later point adds to it. -/
theorem next (c : Dev nD) (t : Fin cfg0.N) (h : ¬t.val % 2 = 0) (j : S1024x1408.Idx) :
    (outsAt0 m c t.val t.isLt).2 j
      = ((outsAt0 m c (t.val - 1) (Nat.lt_of_le_of_lt (Nat.sub_le _ _) t.isLt)).2 j : EReal) + term m c t j := by
  rw [outsAt0_B m c t h (by omega)]
  frame_out [read_unread_whole]
  pointwise [k0_pay2]

/-- The last point writes the sum out. -/
theorem last (c : Dev nD) (t : Fin cfg0.N) (h : t.val % 2 = 1) (j : S1024x1408.Idx) :
    (outsAt0 m c t.val t.isLt).1 j = (outsAt0 m c t.val t.isLt).2 j := by
  rw [outsAt0_B m c t (by omega) h]
  frame_out

theorem written (c : Dev nD) (t : Fin cfg0.N) (h : t.val % 2 = 1) (j : S1024x1408.Idx) :
    ((outsAt0 m c t.val t.isLt).1 j : EReal)
      = ∑ s : Fin 2, term m c ⟨2 * (t.val / 2) + s.val, Pipeline.run_point_lt_of_flush t h s⟩ j := by
  rw [last m c t h, Pipeline.eq_sum_fin_of_reset_step_apply_of_flush (fun n h => (outsAt0 m c n h).2) 2 (fun _ => (0 : EReal)) (term m c)
    (first m c) (next m c) t h j, zero_add]

/-- The whole product. -/
abbrev total (c : Dev nD) : S8192x5632.Idx → EReal := fun i =>
  ∑ x : Fin 2048, argA m c (ix2 (i 0) x) * argB m c (ix2 x (i 1))

/-- The array the call leaves. -/
theorem arr (c : Dev nD) : (dats m 0 c).arrAt 2 cfg0.N = total m c := by
  refine (dats m 0 c).arrAt_eq_of_covers 2 _ (by decide +kernel) fun t hf y => ?_
  have ht : t.val % 2 = 1 := (flush0_2 t).mp hf
  blk_simp
  rw [after0_2]
  refine (written m c t ht _).trans ?_
  refine Fin.sum_mul_add_congr (n := 1024) fun s k hl => ?_
  have hN : t.val < 64 := t.isLt
  have hs := s.isLt
  congr 1
  · blk_ext! [iblk, V, ixA, ixO]
  · blk_ext! [iblk, V, ixB, ixO]

end Cert.GateFwdIdeal.Prod

namespace Cert.GateFwdIdeal.Claims

open Idealize.ShloMosaic Idealize.SL.Sem

theorem frame_kernel : Cert.quiescent_GateFwd (hGateFwd := Cert.GateFwd.Gen.facts) := fun m ρ _ => Cert.GateFwd.Gen.frame m ρ
theorem frame_ideal : Cert.quiescent_GateFwdIdeal (hGateFwdIdeal := Cert.GateFwdIdeal.Gen.facts) := fun m ρ _ => Cert.GateFwdIdeal.Gen.frame m ρ
theorem frame_ref : Cert.quiescent_GateFwdRefIdeal (hGateFwdRefIdeal := Cert.GateFwdRefIdeal.Gen.facts) := fun m ρ _ =>
  (θ_run Cert.GateFwdRefIdeal.defs _ _).mono (fun r h => ⟨fun c => (h c).2, sem_eq_zero_of_no_sems (by decide) r.2⟩)
    (Cert.GateFwdRefIdeal.Value.run (F := Ideal) m ρ)

theorem algebraic : Cert.algebraic_GateFwdIdeal_GateFwdRefIdeal (hGateFwdIdeal := Cert.GateFwdIdeal.Gen.facts) (hGateFwdRefIdeal := Cert.GateFwdRefIdeal.Gen.facts) := by
  intro m ρ m' ρ' _ hagree
  refine ⟨Cert.GateFwdIdeal.Prod.total m, ?_, ?_⟩
  · refine (θ_run Cert.GateFwdIdeal.defs _ _).mono (fun _ h c => ⟨?_, (h c).2⟩) (Cert.GateFwdIdeal.Value.run_blocks (F := Ideal) m ρ)
    exact (h c).1.trans (Cert.GateFwdIdeal.Prod.arr m c)
  · refine (θ_run Cert.GateFwdRefIdeal.defs _ _).mono (fun _ h c => ⟨?_, (h c).2⟩) (Cert.GateFwdRefIdeal.Value.run (F := Ideal) m' ρ')
    rw [(h c).1]
    simp only [hagree c]
    refine funext fun (i : S8192x5632.Idx) => ?_
    idx_vars i
    pointwise [Cert.GateFwdIdeal.Prod.total]

end Cert.GateFwdIdeal.Claims

end
-- ==== Proof.Products.GateDa.lean ====
/- GateDa: the feed-forward gate's gradient in its rows, a 8192 by 2048 array summed over 5632 terms in 4 parts. -/
module

public import proofs.«01_k».proof.Defs
public import proofs.«01_k».proof.Proof.Gen.GateDa.Frame
public import proofs.«01_k».proof.Proof.Gen.GateDaIdeal.Value
public import proofs.«01_k».proof.Proof.Gen.GateDaRefIdeal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

namespace Cert.GateDaIdeal.Prod

open Cert.GateDaIdeal Cert.GateDaIdeal.Gen Idealize.ShloMosaic Idealize.ShloMosaic.TcCoe Idealize.ShloMosaic.Tactic Idealize.SL.Sem

variable (m : (ℓ : Loc nD τ sig) → Buf (Elt Ideal) ℓ)

theorem ixA : ∀ t : Fin grid0.N, win0_0.index t = ![t.val / 8, t.val % 4] := by decide +kernel
theorem ixB : ∀ t : Fin grid0.N, win0_1.index t = ![t.val / 4 % 2, t.val % 4] := by decide +kernel
theorem ixO : ∀ t : Fin grid0.N, win0_2.index t = ![t.val / 8, t.val / 4 % 2] := by decide +kernel

abbrev blkA (c : Dev nD) (t : Fin cfg0.N) : S1024x1408.Idx → EReal := iblk m c 0 t
abbrev blkB (c : Dev nD) (t : Fin cfg0.N) : S1024x1408.Idx → EReal := iblk m c 1 t
abbrev argA (c : Dev nD) : S8192x5632.Idx → EReal := m ((c : Thread nD τ).loc main_arg2)
abbrev argB (c : Dev nD) : S2048x5632.Idx → EReal := m ((c : Thread nD τ).loc main_arg1)

/-- The product of a point's two blocks. -/
abbrev term (c : Dev nD) (t : Fin cfg0.N) (j : S1024x1024.Idx) : EReal :=
  ∑ k : Fin 1408, blkA m c t (ix2 (j 0) k) * blkB m c t (ix2 (j 1) k)

/-- The first of a block's 4 points starts the sum. -/
theorem first (c : Dev nD) (t : Fin cfg0.N) (h : t.val % 4 = 0) (j : S1024x1024.Idx) :
    (outsAt0 m c t.val t.isLt).2 j = (0 : EReal) + term m c t j := by
  rw [outsAt0_A m c t h (by omega)]
  frame_out
  pointwise [k0_pay1, k0_pay2]

/-- Every later point adds to it. -/
theorem next (c : Dev nD) (t : Fin cfg0.N) (h : ¬t.val % 4 = 0) (j : S1024x1024.Idx) :
    (outsAt0 m c t.val t.isLt).2 j
      = ((outsAt0 m c (t.val - 1) (Nat.lt_of_le_of_lt (Nat.sub_le _ _) t.isLt)).2 j : EReal) + term m c t j := by
  by_cases h' : t.val % 4 = 3
  · rw [outsAt0_C m c t h h']
    frame_out [read_unread_whole]
    pointwise [k0_pay2]
  · rw [outsAt0_B m c t h h']
    frame_out [read_unread_whole]
    pointwise [k0_pay2]

/-- The last point writes the sum out. -/
theorem last (c : Dev nD) (t : Fin cfg0.N) (h : t.val % 4 = 3) (j : S1024x1024.Idx) :
    (outsAt0 m c t.val t.isLt).1 j = (outsAt0 m c t.val t.isLt).2 j := by
  rw [outsAt0_C m c t (by omega) h]
  frame_out

theorem written (c : Dev nD) (t : Fin cfg0.N) (h : t.val % 4 = 3) (j : S1024x1024.Idx) :
    ((outsAt0 m c t.val t.isLt).1 j : EReal)
      = ∑ s : Fin 4, term m c ⟨4 * (t.val / 4) + s.val, Pipeline.run_point_lt_of_flush t h s⟩ j := by
  rw [last m c t h, Pipeline.eq_sum_fin_of_reset_step_apply_of_flush (fun n h => (outsAt0 m c n h).2) 4 (fun _ => (0 : EReal)) (term m c)
    (first m c) (next m c) t h j, zero_add]

/-- The whole product. -/
abbrev total (c : Dev nD) : S8192x2048.Idx → EReal := fun i =>
  ∑ x : Fin 5632, argA m c (ix2 (i 0) x) * argB m c (ix2 (i 1) x)

/-- The array the call leaves. -/
theorem arr (c : Dev nD) : (dats m 0 c).arrAt 2 cfg0.N = total m c := by
  refine (dats m 0 c).arrAt_eq_of_covers 2 _ (by decide +kernel) fun t hf y => ?_
  have ht : t.val % 4 = 3 := (flush0_2 t).mp hf
  blk_simp
  rw [after0_2]
  refine (written m c t ht _).trans ?_
  refine Fin.sum_mul_add_congr (n := 1408) fun s k hl => ?_
  have hN : t.val < 64 := t.isLt
  have hs := s.isLt
  congr 1
  · blk_ext! [iblk, V, ixA, ixO]
  · blk_ext! [iblk, V, ixB, ixO]

end Cert.GateDaIdeal.Prod

namespace Cert.GateDaIdeal.Claims

open Idealize.ShloMosaic Idealize.SL.Sem

theorem frame_kernel : Cert.quiescent_GateDa (hGateDa := Cert.GateDa.Gen.facts) := fun m ρ _ => Cert.GateDa.Gen.frame m ρ
theorem frame_ideal : Cert.quiescent_GateDaIdeal (hGateDaIdeal := Cert.GateDaIdeal.Gen.facts) := fun m ρ _ => Cert.GateDaIdeal.Gen.frame m ρ
theorem frame_ref : Cert.quiescent_GateDaRefIdeal (hGateDaRefIdeal := Cert.GateDaRefIdeal.Gen.facts) := fun m ρ _ =>
  (θ_run Cert.GateDaRefIdeal.defs _ _).mono (fun r h => ⟨fun c => (h c).2, sem_eq_zero_of_no_sems (by decide) r.2⟩)
    (Cert.GateDaRefIdeal.Value.run (F := Ideal) m ρ)

theorem algebraic : Cert.algebraic_GateDaIdeal_GateDaRefIdeal (hGateDaIdeal := Cert.GateDaIdeal.Gen.facts) (hGateDaRefIdeal := Cert.GateDaRefIdeal.Gen.facts) := by
  intro m ρ m' ρ' _ hagree
  refine ⟨Cert.GateDaIdeal.Prod.total m, ?_, ?_⟩
  · refine (θ_run Cert.GateDaIdeal.defs _ _).mono (fun _ h c => ⟨?_, (h c).2⟩) (Cert.GateDaIdeal.Value.run_blocks (F := Ideal) m ρ)
    exact (h c).1.trans (Cert.GateDaIdeal.Prod.arr m c)
  · refine (θ_run Cert.GateDaRefIdeal.defs _ _).mono (fun _ h c => ⟨?_, (h c).2⟩) (Cert.GateDaRefIdeal.Value.run (F := Ideal) m' ρ')
    rw [(h c).1]
    simp only [hagree c]
    refine funext fun (i : S8192x2048.Idx) => ?_
    idx_vars i
    pointwise [Cert.GateDaIdeal.Prod.total]

end Cert.GateDaIdeal.Claims

end
-- ==== Proof.Products.GateDw.lean ====
/- GateDw: the feed-forward gate's gradient in its weights, a 2048 by 5632 array summed over 8192 terms in 8 parts. -/
module

public import proofs.«01_k».proof.Defs
public import proofs.«01_k».proof.Proof.Gen.GateDw.Frame
public import proofs.«01_k».proof.Proof.Gen.GateDwIdeal.Value
public import proofs.«01_k».proof.Proof.Gen.GateDwRefIdeal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

namespace Cert.GateDwIdeal.Prod

open Cert.GateDwIdeal Cert.GateDwIdeal.Gen Idealize.ShloMosaic Idealize.ShloMosaic.TcCoe Idealize.ShloMosaic.Tactic Idealize.SL.Sem

variable (m : (ℓ : Loc nD τ sig) → Buf (Elt Ideal) ℓ)

theorem ixA : ∀ t : Fin grid0.N, win0_0.index t = ![t.val % 8, t.val / 32] := by decide +kernel
theorem ixB : ∀ t : Fin grid0.N, win0_1.index t = ![t.val % 8, t.val / 8 % 4] := by decide +kernel
theorem ixO : ∀ t : Fin grid0.N, win0_2.index t = ![t.val / 32, t.val / 8 % 4] := by decide +kernel

abbrev blkA (c : Dev nD) (t : Fin cfg0.N) : S1024x1024.Idx → EReal := iblk m c 0 t
abbrev blkB (c : Dev nD) (t : Fin cfg0.N) : S1024x1408.Idx → EReal := iblk m c 1 t
abbrev argA (c : Dev nD) : S8192x2048.Idx → EReal := m ((c : Thread nD τ).loc main_arg0)
abbrev argB (c : Dev nD) : S8192x5632.Idx → EReal := m ((c : Thread nD τ).loc main_arg2)

/-- The product of a point's two blocks. -/
abbrev term (c : Dev nD) (t : Fin cfg0.N) (j : S1024x1408.Idx) : EReal :=
  ∑ k : Fin 1024, blkA m c t (ix2 k (j 0)) * blkB m c t (ix2 k (j 1))

/-- The first of a block's 8 points starts the sum. -/
theorem first (c : Dev nD) (t : Fin cfg0.N) (h : t.val % 8 = 0) (j : S1024x1408.Idx) :
    (outsAt0 m c t.val t.isLt).2 j = (0 : EReal) + term m c t j := by
  rw [outsAt0_A m c t h (by omega)]
  frame_out
  pointwise [k0_pay1, k0_pay2]

/-- Every later point adds to it. -/
theorem next (c : Dev nD) (t : Fin cfg0.N) (h : ¬t.val % 8 = 0) (j : S1024x1408.Idx) :
    (outsAt0 m c t.val t.isLt).2 j
      = ((outsAt0 m c (t.val - 1) (Nat.lt_of_le_of_lt (Nat.sub_le _ _) t.isLt)).2 j : EReal) + term m c t j := by
  by_cases h' : t.val % 8 = 7
  · rw [outsAt0_C m c t h h']
    frame_out [read_unread_whole]
    pointwise [k0_pay2]
  · rw [outsAt0_B m c t h h']
    frame_out [read_unread_whole]
    pointwise [k0_pay2]

/-- The last point writes the sum out. -/
theorem last (c : Dev nD) (t : Fin cfg0.N) (h : t.val % 8 = 7) (j : S1024x1408.Idx) :
    (outsAt0 m c t.val t.isLt).1 j = (outsAt0 m c t.val t.isLt).2 j := by
  rw [outsAt0_C m c t (by omega) h]
  frame_out
  pointwise [k0_pay3]

theorem written (c : Dev nD) (t : Fin cfg0.N) (h : t.val % 8 = 7) (j : S1024x1408.Idx) :
    ((outsAt0 m c t.val t.isLt).1 j : EReal)
      = ∑ s : Fin 8, term m c ⟨8 * (t.val / 8) + s.val, Pipeline.run_point_lt_of_flush t h s⟩ j := by
  rw [last m c t h, Pipeline.eq_sum_fin_of_reset_step_apply_of_flush (fun n h => (outsAt0 m c n h).2) 8 (fun _ => (0 : EReal)) (term m c)
    (first m c) (next m c) t h j, zero_add]

/-- The whole product. -/
abbrev total (c : Dev nD) : S2048x5632.Idx → EReal := fun i =>
  ∑ x : Fin 8192, argA m c (ix2 x (i 0)) * argB m c (ix2 x (i 1))

/-- The array the call leaves. -/
theorem arr (c : Dev nD) : (dats m 0 c).arrAt 2 cfg0.N = total m c := by
  refine (dats m 0 c).arrAt_eq_of_covers 2 _ (by decide +kernel) fun t hf y => ?_
  have ht : t.val % 8 = 7 := (flush0_2 t).mp hf
  blk_simp
  rw [after0_2]
  refine (written m c t ht _).trans ?_
  refine Fin.sum_mul_add_congr (n := 1024) fun s k hl => ?_
  have hN : t.val < 64 := t.isLt
  have hs := s.isLt
  congr 1
  · blk_ext! [iblk, V, ixA, ixO]
  · blk_ext! [iblk, V, ixB, ixO]

end Cert.GateDwIdeal.Prod

namespace Cert.GateDwIdeal.Claims

open Idealize.ShloMosaic Idealize.SL.Sem

theorem frame_kernel : Cert.quiescent_GateDw (hGateDw := Cert.GateDw.Gen.facts) := fun m ρ _ => Cert.GateDw.Gen.frame m ρ
theorem frame_ideal : Cert.quiescent_GateDwIdeal (hGateDwIdeal := Cert.GateDwIdeal.Gen.facts) := fun m ρ _ => Cert.GateDwIdeal.Gen.frame m ρ
theorem frame_ref : Cert.quiescent_GateDwRefIdeal (hGateDwRefIdeal := Cert.GateDwRefIdeal.Gen.facts) := fun m ρ _ =>
  (θ_run Cert.GateDwRefIdeal.defs _ _).mono (fun r h => ⟨fun c => (h c).2, sem_eq_zero_of_no_sems (by decide) r.2⟩)
    (Cert.GateDwRefIdeal.Value.run (F := Ideal) m ρ)

theorem algebraic : Cert.algebraic_GateDwIdeal_GateDwRefIdeal (hGateDwIdeal := Cert.GateDwIdeal.Gen.facts) (hGateDwRefIdeal := Cert.GateDwRefIdeal.Gen.facts) := by
  intro m ρ m' ρ' _ hagree
  refine ⟨Cert.GateDwIdeal.Prod.total m, ?_, ?_⟩
  · refine (θ_run Cert.GateDwIdeal.defs _ _).mono (fun _ h c => ⟨?_, (h c).2⟩) (Cert.GateDwIdeal.Value.run_blocks (F := Ideal) m ρ)
    exact (h c).1.trans (Cert.GateDwIdeal.Prod.arr m c)
  · refine (θ_run Cert.GateDwRefIdeal.defs _ _).mono (fun _ h c => ⟨?_, (h c).2⟩) (Cert.GateDwRefIdeal.Value.run (F := Ideal) m' ρ')
    rw [(h c).1]
    simp only [hagree c]
    refine funext fun (i : S2048x5632.Idx) => ?_
    idx_vars i
    pointwise [Cert.GateDwIdeal.Prod.total]
    exact Fintype.sum_congr _ _ fun x => mul_comm (G := EReal) _ _

end Cert.GateDwIdeal.Claims

end
-- ==== Proof.Products.DownFwd.lean ====
/- DownFwd: the feed-forward block's last product, a 8192 by 2048 array summed over 5632 terms in 4 parts. -/
module

public import proofs.«01_k».proof.Defs
public import proofs.«01_k».proof.Proof.Gen.DownFwd.Frame
public import proofs.«01_k».proof.Proof.Gen.DownFwdIdeal.Value
public import proofs.«01_k».proof.Proof.Gen.DownFwdRefIdeal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

namespace Cert.DownFwdIdeal.Prod

open Cert.DownFwdIdeal Cert.DownFwdIdeal.Gen Idealize.ShloMosaic Idealize.ShloMosaic.TcCoe Idealize.ShloMosaic.Tactic Idealize.SL.Sem

variable (m : (ℓ : Loc nD τ sig) → Buf (Elt Ideal) ℓ)

theorem ixA : ∀ t : Fin grid0.N, win0_0.index t = ![t.val / 8, t.val % 4] := by decide +kernel
theorem ixB : ∀ t : Fin grid0.N, win0_1.index t = ![t.val % 4, t.val / 4 % 2] := by decide +kernel
theorem ixO : ∀ t : Fin grid0.N, win0_2.index t = ![t.val / 8, t.val / 4 % 2] := by decide +kernel

abbrev blkA (c : Dev nD) (t : Fin cfg0.N) : S1024x1408.Idx → EReal := iblk m c 0 t
abbrev blkB (c : Dev nD) (t : Fin cfg0.N) : S1408x1024.Idx → EReal := iblk m c 1 t
abbrev argA (c : Dev nD) : S8192x5632.Idx → EReal := m ((c : Thread nD τ).loc main_arg0)
abbrev argB (c : Dev nD) : S5632x2048.Idx → EReal := m ((c : Thread nD τ).loc main_arg1)

/-- The product of a point's two blocks. -/
abbrev term (c : Dev nD) (t : Fin cfg0.N) (j : S1024x1024.Idx) : EReal :=
  ∑ k : Fin 1408, blkA m c t (ix2 (j 0) k) * blkB m c t (ix2 k (j 1))

/-- The first of a block's 4 points starts the sum. -/
theorem first (c : Dev nD) (t : Fin cfg0.N) (h : t.val % 4 = 0) (j : S1024x1024.Idx) :
    (outsAt0 m c t.val t.isLt).2 j = (0 : EReal) + term m c t j := by
  rw [outsAt0_A m c t h (by omega)]
  frame_out
  pointwise [k0_pay1, k0_pay2]

/-- Every later point adds to it. -/
theorem next (c : Dev nD) (t : Fin cfg0.N) (h : ¬t.val % 4 = 0) (j : S1024x1024.Idx) :
    (outsAt0 m c t.val t.isLt).2 j
      = ((outsAt0 m c (t.val - 1) (Nat.lt_of_le_of_lt (Nat.sub_le _ _) t.isLt)).2 j : EReal) + term m c t j := by
  by_cases h' : t.val % 4 = 3
  · rw [outsAt0_C m c t h h']
    frame_out [read_unread_whole]
    pointwise [k0_pay2]
  · rw [outsAt0_B m c t h h']
    frame_out [read_unread_whole]
    pointwise [k0_pay2]

/-- The last point writes the sum out. -/
theorem last (c : Dev nD) (t : Fin cfg0.N) (h : t.val % 4 = 3) (j : S1024x1024.Idx) :
    (outsAt0 m c t.val t.isLt).1 j = (outsAt0 m c t.val t.isLt).2 j := by
  rw [outsAt0_C m c t (by omega) h]
  frame_out

theorem written (c : Dev nD) (t : Fin cfg0.N) (h : t.val % 4 = 3) (j : S1024x1024.Idx) :
    ((outsAt0 m c t.val t.isLt).1 j : EReal)
      = ∑ s : Fin 4, term m c ⟨4 * (t.val / 4) + s.val, Pipeline.run_point_lt_of_flush t h s⟩ j := by
  rw [last m c t h, Pipeline.eq_sum_fin_of_reset_step_apply_of_flush (fun n h => (outsAt0 m c n h).2) 4 (fun _ => (0 : EReal)) (term m c)
    (first m c) (next m c) t h j, zero_add]

/-- The whole product. -/
abbrev total (c : Dev nD) : S8192x2048.Idx → EReal := fun i =>
  ∑ x : Fin 5632, argA m c (ix2 (i 0) x) * argB m c (ix2 x (i 1))

/-- The array the call leaves. -/
theorem arr (c : Dev nD) : (dats m 0 c).arrAt 2 cfg0.N = total m c := by
  refine (dats m 0 c).arrAt_eq_of_covers 2 _ (by decide +kernel) fun t hf y => ?_
  have ht : t.val % 4 = 3 := (flush0_2 t).mp hf
  blk_simp
  rw [after0_2]
  refine (written m c t ht _).trans ?_
  refine Fin.sum_mul_add_congr (n := 1408) fun s k hl => ?_
  have hN : t.val < 64 := t.isLt
  have hs := s.isLt
  congr 1
  · blk_ext! [iblk, V, ixA, ixO]
  · blk_ext! [iblk, V, ixB, ixO]

end Cert.DownFwdIdeal.Prod

namespace Cert.DownFwdIdeal.Claims

open Idealize.ShloMosaic Idealize.SL.Sem

theorem frame_kernel : Cert.quiescent_DownFwd (hDownFwd := Cert.DownFwd.Gen.facts) := fun m ρ _ => Cert.DownFwd.Gen.frame m ρ
theorem frame_ideal : Cert.quiescent_DownFwdIdeal (hDownFwdIdeal := Cert.DownFwdIdeal.Gen.facts) := fun m ρ _ => Cert.DownFwdIdeal.Gen.frame m ρ
theorem frame_ref : Cert.quiescent_DownFwdRefIdeal (hDownFwdRefIdeal := Cert.DownFwdRefIdeal.Gen.facts) := fun m ρ _ =>
  (θ_run Cert.DownFwdRefIdeal.defs _ _).mono (fun r h => ⟨fun c => (h c).2, sem_eq_zero_of_no_sems (by decide) r.2⟩)
    (Cert.DownFwdRefIdeal.Value.run (F := Ideal) m ρ)

theorem algebraic : Cert.algebraic_DownFwdIdeal_DownFwdRefIdeal (hDownFwdIdeal := Cert.DownFwdIdeal.Gen.facts) (hDownFwdRefIdeal := Cert.DownFwdRefIdeal.Gen.facts) := by
  intro m ρ m' ρ' _ hagree
  refine ⟨Cert.DownFwdIdeal.Prod.total m, ?_, ?_⟩
  · refine (θ_run Cert.DownFwdIdeal.defs _ _).mono (fun _ h c => ⟨?_, (h c).2⟩) (Cert.DownFwdIdeal.Value.run_blocks (F := Ideal) m ρ)
    exact (h c).1.trans (Cert.DownFwdIdeal.Prod.arr m c)
  · refine (θ_run Cert.DownFwdRefIdeal.defs _ _).mono (fun _ h c => ⟨?_, (h c).2⟩) (Cert.DownFwdRefIdeal.Value.run (F := Ideal) m' ρ')
    rw [(h c).1]
    simp only [hagree c]
    refine funext fun (i : S8192x2048.Idx) => ?_
    idx_vars i
    pointwise [Cert.DownFwdIdeal.Prod.total]

end Cert.DownFwdIdeal.Claims

end
-- ==== Proof.Products.DownDa.lean ====
/- DownDa: the feed-forward block's last gradient in its rows, a 8192 by 5632 array summed over 2048 terms in 2 parts. -/
module

public import proofs.«01_k».proof.Defs
public import proofs.«01_k».proof.Proof.Gen.DownDa.Frame
public import proofs.«01_k».proof.Proof.Gen.DownDaIdeal.Value
public import proofs.«01_k».proof.Proof.Gen.DownDaRefIdeal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

namespace Cert.DownDaIdeal.Prod

open Cert.DownDaIdeal Cert.DownDaIdeal.Gen Idealize.ShloMosaic Idealize.ShloMosaic.TcCoe Idealize.ShloMosaic.Tactic Idealize.SL.Sem

variable (m : (ℓ : Loc nD τ sig) → Buf (Elt Ideal) ℓ)

theorem ixA : ∀ t : Fin grid0.N, win0_0.index t = ![t.val / 8, t.val % 2] := by decide +kernel
theorem ixB : ∀ t : Fin grid0.N, win0_1.index t = ![t.val / 2 % 4, t.val % 2] := by decide +kernel
theorem ixO : ∀ t : Fin grid0.N, win0_2.index t = ![t.val / 8, t.val / 2 % 4] := by decide +kernel

abbrev blkA (c : Dev nD) (t : Fin cfg0.N) : S1024x1024.Idx → EReal := iblk m c 0 t
abbrev blkB (c : Dev nD) (t : Fin cfg0.N) : S1408x1024.Idx → EReal := iblk m c 1 t
abbrev argA (c : Dev nD) : S8192x2048.Idx → EReal := m ((c : Thread nD τ).loc main_arg2)
abbrev argB (c : Dev nD) : S5632x2048.Idx → EReal := m ((c : Thread nD τ).loc main_arg1)

/-- The product of a point's two blocks. -/
abbrev term (c : Dev nD) (t : Fin cfg0.N) (j : S1024x1408.Idx) : EReal :=
  ∑ k : Fin 1024, blkA m c t (ix2 (j 0) k) * blkB m c t (ix2 (j 1) k)

/-- The first of a block's 2 points starts the sum. -/
theorem first (c : Dev nD) (t : Fin cfg0.N) (h : t.val % 2 = 0) (j : S1024x1408.Idx) :
    (outsAt0 m c t.val t.isLt).2 j = (0 : EReal) + term m c t j := by
  rw [outsAt0_A m c t h (by omega)]
  frame_out
  pointwise [k0_pay1, k0_pay2]

/-- Every later point adds to it. -/
theorem next (c : Dev nD) (t : Fin cfg0.N) (h : ¬t.val % 2 = 0) (j : S1024x1408.Idx) :
    (outsAt0 m c t.val t.isLt).2 j
      = ((outsAt0 m c (t.val - 1) (Nat.lt_of_le_of_lt (Nat.sub_le _ _) t.isLt)).2 j : EReal) + term m c t j := by
  rw [outsAt0_B m c t h (by omega)]
  frame_out [read_unread_whole]
  pointwise [k0_pay2]

/-- The last point writes the sum out. -/
theorem last (c : Dev nD) (t : Fin cfg0.N) (h : t.val % 2 = 1) (j : S1024x1408.Idx) :
    (outsAt0 m c t.val t.isLt).1 j = (outsAt0 m c t.val t.isLt).2 j := by
  rw [outsAt0_B m c t (by omega) h]
  frame_out

theorem written (c : Dev nD) (t : Fin cfg0.N) (h : t.val % 2 = 1) (j : S1024x1408.Idx) :
    ((outsAt0 m c t.val t.isLt).1 j : EReal)
      = ∑ s : Fin 2, term m c ⟨2 * (t.val / 2) + s.val, Pipeline.run_point_lt_of_flush t h s⟩ j := by
  rw [last m c t h, Pipeline.eq_sum_fin_of_reset_step_apply_of_flush (fun n h => (outsAt0 m c n h).2) 2 (fun _ => (0 : EReal)) (term m c)
    (first m c) (next m c) t h j, zero_add]

/-- The whole product. -/
abbrev total (c : Dev nD) : S8192x5632.Idx → EReal := fun i =>
  ∑ x : Fin 2048, argA m c (ix2 (i 0) x) * argB m c (ix2 (i 1) x)

/-- The array the call leaves. -/
theorem arr (c : Dev nD) : (dats m 0 c).arrAt 2 cfg0.N = total m c := by
  refine (dats m 0 c).arrAt_eq_of_covers 2 _ (by decide +kernel) fun t hf y => ?_
  have ht : t.val % 2 = 1 := (flush0_2 t).mp hf
  blk_simp
  rw [after0_2]
  refine (written m c t ht _).trans ?_
  refine Fin.sum_mul_add_congr (n := 1024) fun s k hl => ?_
  have hN : t.val < 64 := t.isLt
  have hs := s.isLt
  congr 1
  · blk_ext! [iblk, V, ixA, ixO]
  · blk_ext! [iblk, V, ixB, ixO]

end Cert.DownDaIdeal.Prod

namespace Cert.DownDaIdeal.Claims

open Idealize.ShloMosaic Idealize.SL.Sem

theorem frame_kernel : Cert.quiescent_DownDa (hDownDa := Cert.DownDa.Gen.facts) := fun m ρ _ => Cert.DownDa.Gen.frame m ρ
theorem frame_ideal : Cert.quiescent_DownDaIdeal (hDownDaIdeal := Cert.DownDaIdeal.Gen.facts) := fun m ρ _ => Cert.DownDaIdeal.Gen.frame m ρ
theorem frame_ref : Cert.quiescent_DownDaRefIdeal (hDownDaRefIdeal := Cert.DownDaRefIdeal.Gen.facts) := fun m ρ _ =>
  (θ_run Cert.DownDaRefIdeal.defs _ _).mono (fun r h => ⟨fun c => (h c).2, sem_eq_zero_of_no_sems (by decide) r.2⟩)
    (Cert.DownDaRefIdeal.Value.run (F := Ideal) m ρ)

theorem algebraic : Cert.algebraic_DownDaIdeal_DownDaRefIdeal (hDownDaIdeal := Cert.DownDaIdeal.Gen.facts) (hDownDaRefIdeal := Cert.DownDaRefIdeal.Gen.facts) := by
  intro m ρ m' ρ' _ hagree
  refine ⟨Cert.DownDaIdeal.Prod.total m, ?_, ?_⟩
  · refine (θ_run Cert.DownDaIdeal.defs _ _).mono (fun _ h c => ⟨?_, (h c).2⟩) (Cert.DownDaIdeal.Value.run_blocks (F := Ideal) m ρ)
    exact (h c).1.trans (Cert.DownDaIdeal.Prod.arr m c)
  · refine (θ_run Cert.DownDaRefIdeal.defs _ _).mono (fun _ h c => ⟨?_, (h c).2⟩) (Cert.DownDaRefIdeal.Value.run (F := Ideal) m' ρ')
    rw [(h c).1]
    simp only [hagree c]
    refine funext fun (i : S8192x5632.Idx) => ?_
    idx_vars i
    pointwise [Cert.DownDaIdeal.Prod.total]

end Cert.DownDaIdeal.Claims

end
-- ==== Proof.Products.DownDw.lean ====
/- DownDw: the feed-forward block's last gradient in its weights, a 5632 by 2048 array summed over 8192 terms in 8 parts. -/
module

public import proofs.«01_k».proof.Defs
public import proofs.«01_k».proof.Proof.Gen.DownDw.Frame
public import proofs.«01_k».proof.Proof.Gen.DownDwIdeal.Value
public import proofs.«01_k».proof.Proof.Gen.DownDwRefIdeal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

namespace Cert.DownDwIdeal.Prod

open Cert.DownDwIdeal Cert.DownDwIdeal.Gen Idealize.ShloMosaic Idealize.ShloMosaic.TcCoe Idealize.ShloMosaic.Tactic Idealize.SL.Sem

variable (m : (ℓ : Loc nD τ sig) → Buf (Elt Ideal) ℓ)

theorem ixA : ∀ t : Fin grid0.N, win0_0.index t = ![t.val % 8, t.val / 16] := by decide +kernel
theorem ixB : ∀ t : Fin grid0.N, win0_1.index t = ![t.val % 8, t.val / 8 % 2] := by decide +kernel
theorem ixO : ∀ t : Fin grid0.N, win0_2.index t = ![t.val / 16, t.val / 8 % 2] := by decide +kernel

abbrev blkA (c : Dev nD) (t : Fin cfg0.N) : S1024x512.Idx → EReal := iblk m c 0 t
abbrev blkB (c : Dev nD) (t : Fin cfg0.N) : S1024x1024.Idx → EReal := iblk m c 1 t
abbrev argA (c : Dev nD) : S8192x5632.Idx → EReal := m ((c : Thread nD τ).loc main_arg0)
abbrev argB (c : Dev nD) : S8192x2048.Idx → EReal := m ((c : Thread nD τ).loc main_arg2)

/-- The product of a point's two blocks. -/
abbrev term (c : Dev nD) (t : Fin cfg0.N) (j : S512x1024.Idx) : EReal :=
  ∑ k : Fin 1024, blkA m c t (ix2 k (j 0)) * blkB m c t (ix2 k (j 1))

/-- The first of a block's 8 points starts the sum. -/
theorem first (c : Dev nD) (t : Fin cfg0.N) (h : t.val % 8 = 0) (j : S512x1024.Idx) :
    (outsAt0 m c t.val t.isLt).2 j = (0 : EReal) + term m c t j := by
  rw [outsAt0_A m c t h (by omega)]
  frame_out
  pointwise [k0_pay1, k0_pay2]

/-- Every later point adds to it. -/
theorem next (c : Dev nD) (t : Fin cfg0.N) (h : ¬t.val % 8 = 0) (j : S512x1024.Idx) :
    (outsAt0 m c t.val t.isLt).2 j
      = ((outsAt0 m c (t.val - 1) (Nat.lt_of_le_of_lt (Nat.sub_le _ _) t.isLt)).2 j : EReal) + term m c t j := by
  by_cases h' : t.val % 8 = 7
  · rw [outsAt0_C m c t h h']
    frame_out [read_unread_whole]
    pointwise [k0_pay2]
  · rw [outsAt0_B m c t h h']
    frame_out [read_unread_whole]
    pointwise [k0_pay2]

/-- The last point writes the sum out. -/
theorem last (c : Dev nD) (t : Fin cfg0.N) (h : t.val % 8 = 7) (j : S512x1024.Idx) :
    (outsAt0 m c t.val t.isLt).1 j = (outsAt0 m c t.val t.isLt).2 j := by
  rw [outsAt0_C m c t (by omega) h]
  frame_out
  pointwise [k0_pay3]

theorem written (c : Dev nD) (t : Fin cfg0.N) (h : t.val % 8 = 7) (j : S512x1024.Idx) :
    ((outsAt0 m c t.val t.isLt).1 j : EReal)
      = ∑ s : Fin 8, term m c ⟨8 * (t.val / 8) + s.val, Pipeline.run_point_lt_of_flush t h s⟩ j := by
  rw [last m c t h, Pipeline.eq_sum_fin_of_reset_step_apply_of_flush (fun n h => (outsAt0 m c n h).2) 8 (fun _ => (0 : EReal)) (term m c)
    (first m c) (next m c) t h j, zero_add]

/-- The whole product. -/
abbrev total (c : Dev nD) : S5632x2048.Idx → EReal := fun i =>
  ∑ x : Fin 8192, argA m c (ix2 x (i 0)) * argB m c (ix2 x (i 1))

/-- The array the call leaves. -/
theorem arr (c : Dev nD) : (dats m 0 c).arrAt 2 cfg0.N = total m c := by
  refine (dats m 0 c).arrAt_eq_of_covers 2 _ (by decide +kernel) fun t hf y => ?_
  have ht : t.val % 8 = 7 := (flush0_2 t).mp hf
  blk_simp
  rw [after0_2]
  refine (written m c t ht _).trans ?_
  refine Fin.sum_mul_add_congr (n := 1024) fun s k hl => ?_
  have hN : t.val < 176 := t.isLt
  have hs := s.isLt
  congr 1
  · blk_ext! [iblk, V, ixA, ixO]
  · blk_ext! [iblk, V, ixB, ixO]

end Cert.DownDwIdeal.Prod

namespace Cert.DownDwIdeal.Claims

open Idealize.ShloMosaic Idealize.SL.Sem

theorem frame_kernel : Cert.quiescent_DownDw (hDownDw := Cert.DownDw.Gen.facts) := fun m ρ _ => Cert.DownDw.Gen.frame m ρ
theorem frame_ideal : Cert.quiescent_DownDwIdeal (hDownDwIdeal := Cert.DownDwIdeal.Gen.facts) := fun m ρ _ => Cert.DownDwIdeal.Gen.frame m ρ
theorem frame_ref : Cert.quiescent_DownDwRefIdeal (hDownDwRefIdeal := Cert.DownDwRefIdeal.Gen.facts) := fun m ρ _ =>
  (θ_run Cert.DownDwRefIdeal.defs _ _).mono (fun r h => ⟨fun c => (h c).2, sem_eq_zero_of_no_sems (by decide) r.2⟩)
    (Cert.DownDwRefIdeal.Value.run (F := Ideal) m ρ)

theorem algebraic : Cert.algebraic_DownDwIdeal_DownDwRefIdeal (hDownDwIdeal := Cert.DownDwIdeal.Gen.facts) (hDownDwRefIdeal := Cert.DownDwRefIdeal.Gen.facts) := by
  intro m ρ m' ρ' _ hagree
  refine ⟨Cert.DownDwIdeal.Prod.total m, ?_, ?_⟩
  · refine (θ_run Cert.DownDwIdeal.defs _ _).mono (fun _ h c => ⟨?_, (h c).2⟩) (Cert.DownDwIdeal.Value.run_blocks (F := Ideal) m ρ)
    exact (h c).1.trans (Cert.DownDwIdeal.Prod.arr m c)
  · refine (θ_run Cert.DownDwRefIdeal.defs _ _).mono (fun _ h c => ⟨?_, (h c).2⟩) (Cert.DownDwRefIdeal.Value.run (F := Ideal) m' ρ')
    rw [(h c).1]
    simp only [hagree c]
    refine funext fun (i : S5632x2048.Idx) => ?_
    idx_vars i
    pointwise [Cert.DownDwIdeal.Prod.total]
    exact Fintype.sum_congr _ _ fun x => mul_comm (G := EReal) _ _

end Cert.DownDwIdeal.Claims

end
-- ==== Proof.Products.OutFwd.lean ====
/- OutFwd: the mixer's last product, a 8192 by 2048 array summed over 2048 terms in 2 parts. -/
module

public import proofs.«01_k».proof.Defs
public import proofs.«01_k».proof.Proof.Gen.OutFwd.Frame
public import proofs.«01_k».proof.Proof.Gen.OutFwdIdeal.Value
public import proofs.«01_k».proof.Proof.Gen.OutFwdRefIdeal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

namespace Cert.OutFwdIdeal.Prod

open Cert.OutFwdIdeal Cert.OutFwdIdeal.Gen Idealize.ShloMosaic Idealize.ShloMosaic.TcCoe Idealize.ShloMosaic.Tactic Idealize.SL.Sem

variable (m : (ℓ : Loc nD τ sig) → Buf (Elt Ideal) ℓ)

theorem ixA : ∀ t : Fin grid0.N, win0_0.index t = ![t.val / 4, t.val % 2] := by decide +kernel
theorem ixB : ∀ t : Fin grid0.N, win0_1.index t = ![t.val % 2, t.val / 2 % 2] := by decide +kernel
theorem ixO : ∀ t : Fin grid0.N, win0_2.index t = ![t.val / 4, t.val / 2 % 2] := by decide +kernel

abbrev blkA (c : Dev nD) (t : Fin cfg0.N) : S1024x1024.Idx → EReal := iblk m c 0 t
abbrev blkB (c : Dev nD) (t : Fin cfg0.N) : S1024x1024.Idx → EReal := iblk m c 1 t
abbrev argA (c : Dev nD) : S8192x2048.Idx → EReal := m ((c : Thread nD τ).loc main_arg0)
abbrev argB (c : Dev nD) : S2048x2048.Idx → EReal := m ((c : Thread nD τ).loc main_arg1)

/-- The product of a point's two blocks. -/
abbrev term (c : Dev nD) (t : Fin cfg0.N) (j : S1024x1024.Idx) : EReal :=
  ∑ k : Fin 1024, blkA m c t (ix2 (j 0) k) * blkB m c t (ix2 k (j 1))

/-- The first of a block's 2 points starts the sum. -/
theorem first (c : Dev nD) (t : Fin cfg0.N) (h : t.val % 2 = 0) (j : S1024x1024.Idx) :
    (outsAt0 m c t.val t.isLt).2 j = (0 : EReal) + term m c t j := by
  rw [outsAt0_A m c t h (by omega)]
  frame_out
  pointwise [k0_pay1, k0_pay2]

/-- Every later point adds to it. -/
theorem next (c : Dev nD) (t : Fin cfg0.N) (h : ¬t.val % 2 = 0) (j : S1024x1024.Idx) :
    (outsAt0 m c t.val t.isLt).2 j
      = ((outsAt0 m c (t.val - 1) (Nat.lt_of_le_of_lt (Nat.sub_le _ _) t.isLt)).2 j : EReal) + term m c t j := by
  rw [outsAt0_B m c t h (by omega)]
  frame_out [read_unread_whole]
  pointwise [k0_pay2]

/-- The last point writes the sum out. -/
theorem last (c : Dev nD) (t : Fin cfg0.N) (h : t.val % 2 = 1) (j : S1024x1024.Idx) :
    (outsAt0 m c t.val t.isLt).1 j = (outsAt0 m c t.val t.isLt).2 j := by
  rw [outsAt0_B m c t (by omega) h]
  frame_out

theorem written (c : Dev nD) (t : Fin cfg0.N) (h : t.val % 2 = 1) (j : S1024x1024.Idx) :
    ((outsAt0 m c t.val t.isLt).1 j : EReal)
      = ∑ s : Fin 2, term m c ⟨2 * (t.val / 2) + s.val, Pipeline.run_point_lt_of_flush t h s⟩ j := by
  rw [last m c t h, Pipeline.eq_sum_fin_of_reset_step_apply_of_flush (fun n h => (outsAt0 m c n h).2) 2 (fun _ => (0 : EReal)) (term m c)
    (first m c) (next m c) t h j, zero_add]

/-- The whole product. -/
abbrev total (c : Dev nD) : S8192x2048.Idx → EReal := fun i =>
  ∑ x : Fin 2048, argA m c (ix2 (i 0) x) * argB m c (ix2 x (i 1))

/-- The array the call leaves. -/
theorem arr (c : Dev nD) : (dats m 0 c).arrAt 2 cfg0.N = total m c := by
  refine (dats m 0 c).arrAt_eq_of_covers 2 _ (by decide +kernel) fun t hf y => ?_
  have ht : t.val % 2 = 1 := (flush0_2 t).mp hf
  blk_simp
  rw [after0_2]
  refine (written m c t ht _).trans ?_
  refine Fin.sum_mul_add_congr (n := 1024) fun s k hl => ?_
  have hN : t.val < 32 := t.isLt
  have hs := s.isLt
  congr 1
  · blk_ext! [iblk, V, ixA, ixO]
  · blk_ext! [iblk, V, ixB, ixO]

end Cert.OutFwdIdeal.Prod

namespace Cert.OutFwdIdeal.Claims

open Idealize.ShloMosaic Idealize.SL.Sem

theorem frame_kernel : Cert.quiescent_OutFwd (hOutFwd := Cert.OutFwd.Gen.facts) := fun m ρ _ => Cert.OutFwd.Gen.frame m ρ
theorem frame_ideal : Cert.quiescent_OutFwdIdeal (hOutFwdIdeal := Cert.OutFwdIdeal.Gen.facts) := fun m ρ _ => Cert.OutFwdIdeal.Gen.frame m ρ
theorem frame_ref : Cert.quiescent_OutFwdRefIdeal (hOutFwdRefIdeal := Cert.OutFwdRefIdeal.Gen.facts) := fun m ρ _ =>
  (θ_run Cert.OutFwdRefIdeal.defs _ _).mono (fun r h => ⟨fun c => (h c).2, sem_eq_zero_of_no_sems (by decide) r.2⟩)
    (Cert.OutFwdRefIdeal.Value.run (F := Ideal) m ρ)

theorem algebraic : Cert.algebraic_OutFwdIdeal_OutFwdRefIdeal (hOutFwdIdeal := Cert.OutFwdIdeal.Gen.facts) (hOutFwdRefIdeal := Cert.OutFwdRefIdeal.Gen.facts) := by
  intro m ρ m' ρ' _ hagree
  refine ⟨Cert.OutFwdIdeal.Prod.total m, ?_, ?_⟩
  · refine (θ_run Cert.OutFwdIdeal.defs _ _).mono (fun _ h c => ⟨?_, (h c).2⟩) (Cert.OutFwdIdeal.Value.run_blocks (F := Ideal) m ρ)
    exact (h c).1.trans (Cert.OutFwdIdeal.Prod.arr m c)
  · refine (θ_run Cert.OutFwdRefIdeal.defs _ _).mono (fun _ h c => ⟨?_, (h c).2⟩) (Cert.OutFwdRefIdeal.Value.run (F := Ideal) m' ρ')
    rw [(h c).1]
    simp only [hagree c]
    refine funext fun (i : S8192x2048.Idx) => ?_
    idx_vars i
    pointwise [Cert.OutFwdIdeal.Prod.total]

end Cert.OutFwdIdeal.Claims

end
-- ==== Proof.Products.OutDa.lean ====
/- OutDa: the mixer's last gradient in its rows, a 8192 by 2048 array summed over 2048 terms in 2 parts. -/
module

public import proofs.«01_k».proof.Defs
public import proofs.«01_k».proof.Proof.Gen.OutDa.Frame
public import proofs.«01_k».proof.Proof.Gen.OutDaIdeal.Value
public import proofs.«01_k».proof.Proof.Gen.OutDaRefIdeal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

namespace Cert.OutDaIdeal.Prod

open Cert.OutDaIdeal Cert.OutDaIdeal.Gen Idealize.ShloMosaic Idealize.ShloMosaic.TcCoe Idealize.ShloMosaic.Tactic Idealize.SL.Sem

variable (m : (ℓ : Loc nD τ sig) → Buf (Elt Ideal) ℓ)

theorem ixA : ∀ t : Fin grid0.N, win0_0.index t = ![t.val / 4, t.val % 2] := by decide +kernel
theorem ixB : ∀ t : Fin grid0.N, win0_1.index t = ![t.val / 2 % 2, t.val % 2] := by decide +kernel
theorem ixO : ∀ t : Fin grid0.N, win0_2.index t = ![t.val / 4, t.val / 2 % 2] := by decide +kernel

abbrev blkA (c : Dev nD) (t : Fin cfg0.N) : S1024x1024.Idx → EReal := iblk m c 0 t
abbrev blkB (c : Dev nD) (t : Fin cfg0.N) : S1024x1024.Idx → EReal := iblk m c 1 t
abbrev argA (c : Dev nD) : S8192x2048.Idx → EReal := m ((c : Thread nD τ).loc main_arg2)
abbrev argB (c : Dev nD) : S2048x2048.Idx → EReal := m ((c : Thread nD τ).loc main_arg1)

/-- The product of a point's two blocks. -/
abbrev term (c : Dev nD) (t : Fin cfg0.N) (j : S1024x1024.Idx) : EReal :=
  ∑ k : Fin 1024, blkA m c t (ix2 (j 0) k) * blkB m c t (ix2 (j 1) k)

/-- The first of a block's 2 points starts the sum. -/
theorem first (c : Dev nD) (t : Fin cfg0.N) (h : t.val % 2 = 0) (j : S1024x1024.Idx) :
    (outsAt0 m c t.val t.isLt).2 j = (0 : EReal) + term m c t j := by
  rw [outsAt0_A m c t h (by omega)]
  frame_out
  pointwise [k0_pay1, k0_pay2]

/-- Every later point adds to it. -/
theorem next (c : Dev nD) (t : Fin cfg0.N) (h : ¬t.val % 2 = 0) (j : S1024x1024.Idx) :
    (outsAt0 m c t.val t.isLt).2 j
      = ((outsAt0 m c (t.val - 1) (Nat.lt_of_le_of_lt (Nat.sub_le _ _) t.isLt)).2 j : EReal) + term m c t j := by
  rw [outsAt0_B m c t h (by omega)]
  frame_out [read_unread_whole]
  pointwise [k0_pay2]

/-- The last point writes the sum out. -/
theorem last (c : Dev nD) (t : Fin cfg0.N) (h : t.val % 2 = 1) (j : S1024x1024.Idx) :
    (outsAt0 m c t.val t.isLt).1 j = (outsAt0 m c t.val t.isLt).2 j := by
  rw [outsAt0_B m c t (by omega) h]
  frame_out

theorem written (c : Dev nD) (t : Fin cfg0.N) (h : t.val % 2 = 1) (j : S1024x1024.Idx) :
    ((outsAt0 m c t.val t.isLt).1 j : EReal)
      = ∑ s : Fin 2, term m c ⟨2 * (t.val / 2) + s.val, Pipeline.run_point_lt_of_flush t h s⟩ j := by
  rw [last m c t h, Pipeline.eq_sum_fin_of_reset_step_apply_of_flush (fun n h => (outsAt0 m c n h).2) 2 (fun _ => (0 : EReal)) (term m c)
    (first m c) (next m c) t h j, zero_add]

/-- The whole product. -/
abbrev total (c : Dev nD) : S8192x2048.Idx → EReal := fun i =>
  ∑ x : Fin 2048, argA m c (ix2 (i 0) x) * argB m c (ix2 (i 1) x)

/-- The array the call leaves. -/
theorem arr (c : Dev nD) : (dats m 0 c).arrAt 2 cfg0.N = total m c := by
  refine (dats m 0 c).arrAt_eq_of_covers 2 _ (by decide +kernel) fun t hf y => ?_
  have ht : t.val % 2 = 1 := (flush0_2 t).mp hf
  blk_simp
  rw [after0_2]
  refine (written m c t ht _).trans ?_
  refine Fin.sum_mul_add_congr (n := 1024) fun s k hl => ?_
  have hN : t.val < 32 := t.isLt
  have hs := s.isLt
  congr 1
  · blk_ext! [iblk, V, ixA, ixO]
  · blk_ext! [iblk, V, ixB, ixO]

end Cert.OutDaIdeal.Prod

namespace Cert.OutDaIdeal.Claims

open Idealize.ShloMosaic Idealize.SL.Sem

theorem frame_kernel : Cert.quiescent_OutDa (hOutDa := Cert.OutDa.Gen.facts) := fun m ρ _ => Cert.OutDa.Gen.frame m ρ
theorem frame_ideal : Cert.quiescent_OutDaIdeal (hOutDaIdeal := Cert.OutDaIdeal.Gen.facts) := fun m ρ _ => Cert.OutDaIdeal.Gen.frame m ρ
theorem frame_ref : Cert.quiescent_OutDaRefIdeal (hOutDaRefIdeal := Cert.OutDaRefIdeal.Gen.facts) := fun m ρ _ =>
  (θ_run Cert.OutDaRefIdeal.defs _ _).mono (fun r h => ⟨fun c => (h c).2, sem_eq_zero_of_no_sems (by decide) r.2⟩)
    (Cert.OutDaRefIdeal.Value.run (F := Ideal) m ρ)

theorem algebraic : Cert.algebraic_OutDaIdeal_OutDaRefIdeal (hOutDaIdeal := Cert.OutDaIdeal.Gen.facts) (hOutDaRefIdeal := Cert.OutDaRefIdeal.Gen.facts) := by
  intro m ρ m' ρ' _ hagree
  refine ⟨Cert.OutDaIdeal.Prod.total m, ?_, ?_⟩
  · refine (θ_run Cert.OutDaIdeal.defs _ _).mono (fun _ h c => ⟨?_, (h c).2⟩) (Cert.OutDaIdeal.Value.run_blocks (F := Ideal) m ρ)
    exact (h c).1.trans (Cert.OutDaIdeal.Prod.arr m c)
  · refine (θ_run Cert.OutDaRefIdeal.defs _ _).mono (fun _ h c => ⟨?_, (h c).2⟩) (Cert.OutDaRefIdeal.Value.run (F := Ideal) m' ρ')
    rw [(h c).1]
    simp only [hagree c]
    refine funext fun (i : S8192x2048.Idx) => ?_
    idx_vars i
    pointwise [Cert.OutDaIdeal.Prod.total]

end Cert.OutDaIdeal.Claims

end
-- ==== Proof.Products.OutDw.lean ====
/- OutDw: the mixer's last gradient in its weights, a 2048 by 2048 array summed over 8192 terms in 8 parts. -/
module

public import proofs.«01_k».proof.Defs
public import proofs.«01_k».proof.Proof.Gen.OutDw.Frame
public import proofs.«01_k».proof.Proof.Gen.OutDwIdeal.Value
public import proofs.«01_k».proof.Proof.Gen.OutDwRefIdeal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

namespace Cert.OutDwIdeal.Prod

open Cert.OutDwIdeal Cert.OutDwIdeal.Gen Idealize.ShloMosaic Idealize.ShloMosaic.TcCoe Idealize.ShloMosaic.Tactic Idealize.SL.Sem

variable (m : (ℓ : Loc nD τ sig) → Buf (Elt Ideal) ℓ)

theorem ixA : ∀ t : Fin grid0.N, win0_0.index t = ![t.val % 8, t.val / 16] := by decide +kernel
theorem ixB : ∀ t : Fin grid0.N, win0_1.index t = ![t.val % 8, t.val / 8 % 2] := by decide +kernel
theorem ixO : ∀ t : Fin grid0.N, win0_2.index t = ![t.val / 16, t.val / 8 % 2] := by decide +kernel

abbrev blkA (c : Dev nD) (t : Fin cfg0.N) : S1024x1024.Idx → EReal := iblk m c 0 t
abbrev blkB (c : Dev nD) (t : Fin cfg0.N) : S1024x1024.Idx → EReal := iblk m c 1 t
abbrev argA (c : Dev nD) : S8192x2048.Idx → EReal := m ((c : Thread nD τ).loc main_arg0)
abbrev argB (c : Dev nD) : S8192x2048.Idx → EReal := m ((c : Thread nD τ).loc main_arg2)

/-- The product of a point's two blocks. -/
abbrev term (c : Dev nD) (t : Fin cfg0.N) (j : S1024x1024.Idx) : EReal :=
  ∑ k : Fin 1024, blkA m c t (ix2 k (j 0)) * blkB m c t (ix2 k (j 1))

/-- The first of a block's 8 points starts the sum. -/
theorem first (c : Dev nD) (t : Fin cfg0.N) (h : t.val % 8 = 0) (j : S1024x1024.Idx) :
    (outsAt0 m c t.val t.isLt).2 j = (0 : EReal) + term m c t j := by
  rw [outsAt0_A m c t h (by omega)]
  frame_out
  pointwise [k0_pay1, k0_pay2]

/-- Every later point adds to it. -/
theorem next (c : Dev nD) (t : Fin cfg0.N) (h : ¬t.val % 8 = 0) (j : S1024x1024.Idx) :
    (outsAt0 m c t.val t.isLt).2 j
      = ((outsAt0 m c (t.val - 1) (Nat.lt_of_le_of_lt (Nat.sub_le _ _) t.isLt)).2 j : EReal) + term m c t j := by
  by_cases h' : t.val % 8 = 7
  · rw [outsAt0_C m c t h h']
    frame_out [read_unread_whole]
    pointwise [k0_pay2]
  · rw [outsAt0_B m c t h h']
    frame_out [read_unread_whole]
    pointwise [k0_pay2]

/-- The last point writes the sum out. -/
theorem last (c : Dev nD) (t : Fin cfg0.N) (h : t.val % 8 = 7) (j : S1024x1024.Idx) :
    (outsAt0 m c t.val t.isLt).1 j = (outsAt0 m c t.val t.isLt).2 j := by
  rw [outsAt0_C m c t (by omega) h]
  frame_out
  pointwise [k0_pay3]

theorem written (c : Dev nD) (t : Fin cfg0.N) (h : t.val % 8 = 7) (j : S1024x1024.Idx) :
    ((outsAt0 m c t.val t.isLt).1 j : EReal)
      = ∑ s : Fin 8, term m c ⟨8 * (t.val / 8) + s.val, Pipeline.run_point_lt_of_flush t h s⟩ j := by
  rw [last m c t h, Pipeline.eq_sum_fin_of_reset_step_apply_of_flush (fun n h => (outsAt0 m c n h).2) 8 (fun _ => (0 : EReal)) (term m c)
    (first m c) (next m c) t h j, zero_add]

/-- The whole product. -/
abbrev total (c : Dev nD) : S2048x2048.Idx → EReal := fun i =>
  ∑ x : Fin 8192, argA m c (ix2 x (i 0)) * argB m c (ix2 x (i 1))

/-- The array the call leaves. -/
theorem arr (c : Dev nD) : (dats m 0 c).arrAt 2 cfg0.N = total m c := by
  refine (dats m 0 c).arrAt_eq_of_covers 2 _ (by decide +kernel) fun t hf y => ?_
  have ht : t.val % 8 = 7 := (flush0_2 t).mp hf
  blk_simp
  rw [after0_2]
  refine (written m c t ht _).trans ?_
  refine Fin.sum_mul_add_congr (n := 1024) fun s k hl => ?_
  have hN : t.val < 32 := t.isLt
  have hs := s.isLt
  congr 1
  · blk_ext! [iblk, V, ixA, ixO]
  · blk_ext! [iblk, V, ixB, ixO]

end Cert.OutDwIdeal.Prod

namespace Cert.OutDwIdeal.Claims

open Idealize.ShloMosaic Idealize.SL.Sem

theorem frame_kernel : Cert.quiescent_OutDw (hOutDw := Cert.OutDw.Gen.facts) := fun m ρ _ => Cert.OutDw.Gen.frame m ρ
theorem frame_ideal : Cert.quiescent_OutDwIdeal (hOutDwIdeal := Cert.OutDwIdeal.Gen.facts) := fun m ρ _ => Cert.OutDwIdeal.Gen.frame m ρ
theorem frame_ref : Cert.quiescent_OutDwRefIdeal (hOutDwRefIdeal := Cert.OutDwRefIdeal.Gen.facts) := fun m ρ _ =>
  (θ_run Cert.OutDwRefIdeal.defs _ _).mono (fun r h => ⟨fun c => (h c).2, sem_eq_zero_of_no_sems (by decide) r.2⟩)
    (Cert.OutDwRefIdeal.Value.run (F := Ideal) m ρ)

theorem algebraic : Cert.algebraic_OutDwIdeal_OutDwRefIdeal (hOutDwIdeal := Cert.OutDwIdeal.Gen.facts) (hOutDwRefIdeal := Cert.OutDwRefIdeal.Gen.facts) := by
  intro m ρ m' ρ' _ hagree
  refine ⟨Cert.OutDwIdeal.Prod.total m, ?_, ?_⟩
  · refine (θ_run Cert.OutDwIdeal.defs _ _).mono (fun _ h c => ⟨?_, (h c).2⟩) (Cert.OutDwIdeal.Value.run_blocks (F := Ideal) m ρ)
    exact (h c).1.trans (Cert.OutDwIdeal.Prod.arr m c)
  · refine (θ_run Cert.OutDwRefIdeal.defs _ _).mono (fun _ h c => ⟨?_, (h c).2⟩) (Cert.OutDwRefIdeal.Value.run (F := Ideal) m' ρ')
    rw [(h c).1]
    simp only [hagree c]
    refine funext fun (i : S2048x2048.Idx) => ?_
    idx_vars i
    pointwise [Cert.OutDwIdeal.Prod.total]
    exact Fintype.sum_congr _ _ fun x => mul_comm (G := EReal) _ _

end Cert.OutDwIdeal.Claims

end
-- ==== Proof.Products.BranchFwd.lean ====
/- BranchFwd: a branch's product, a 8192 by 2048 array summed over 1024 terms in 1 part. -/
module

public import proofs.«01_k».proof.Defs
public import proofs.«01_k».proof.Proof.Gen.BranchFwd.Frame
public import proofs.«01_k».proof.Proof.Gen.BranchFwdIdeal.Value
public import proofs.«01_k».proof.Proof.Gen.BranchFwdRefIdeal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

namespace Cert.BranchFwdIdeal.Prod

open Cert.BranchFwdIdeal Cert.BranchFwdIdeal.Gen Idealize.ShloMosaic Idealize.ShloMosaic.TcCoe Idealize.ShloMosaic.Tactic Idealize.SL.Sem

variable (m : (ℓ : Loc nD τ sig) → Buf (Elt Ideal) ℓ)

theorem ixA : ∀ t : Fin grid0.N, win0_0.index t = ![t.val / 2, t.val % 1] := by decide +kernel
theorem ixB : ∀ t : Fin grid0.N, win0_1.index t = ![t.val % 1, t.val / 1 % 2] := by decide +kernel
theorem ixO : ∀ t : Fin grid0.N, win0_2.index t = ![t.val / 2, t.val / 1 % 2] := by decide +kernel

abbrev blkA (c : Dev nD) (t : Fin cfg0.N) : S1024x1024.Idx → EReal := iblk m c 0 t
abbrev blkB (c : Dev nD) (t : Fin cfg0.N) : S1024x1024.Idx → EReal := iblk m c 1 t
abbrev argA (c : Dev nD) : S8192x1024.Idx → EReal := m ((c : Thread nD τ).loc main_arg0)
abbrev argB (c : Dev nD) : S1024x2048.Idx → EReal := m ((c : Thread nD τ).loc main_arg1)

/-- The product of a point's two blocks. -/
abbrev term (c : Dev nD) (t : Fin cfg0.N) (j : S1024x1024.Idx) : EReal :=
  ∑ k : Fin 1024, blkA m c t (ix2 (j 0) k) * blkB m c t (ix2 k (j 1))

theorem written (c : Dev nD) (t : Fin cfg0.N) (j : S1024x1024.Idx) :
    (outsAt0 m c t j : EReal) = term m c t j := by
  unfold outsAt0
  frame_out [read_unread_whole]
  pointwise [k0_pay1, k0_pay2]

/-- The whole product. -/
abbrev total (c : Dev nD) : S8192x2048.Idx → EReal := fun i =>
  ∑ x : Fin 1024, argA m c (ix2 (i 0) x) * argB m c (ix2 x (i 1))

/-- The array the call leaves. -/
theorem arr (c : Dev nD) : (dats m 0 c).arrAt 2 cfg0.N = total m c := by
  refine (dats m 0 c).arrAt_eq_of_covers 2 _ (by decide +kernel) fun t hf y => ?_
  have hN : t.val < 16 := t.isLt
  blk_simp
  rw [after0_2]
  refine (written m c t _).trans ?_
  refine Fintype.sum_congr _ _ fun k => ?_
  congr 1
  · blk_ext! [iblk, V, ixA, ixO]
  · blk_ext! [iblk, V, ixB, ixO]

end Cert.BranchFwdIdeal.Prod

namespace Cert.BranchFwdIdeal.Claims

open Idealize.ShloMosaic Idealize.SL.Sem

theorem frame_kernel : Cert.quiescent_BranchFwd (hBranchFwd := Cert.BranchFwd.Gen.facts) := fun m ρ _ => Cert.BranchFwd.Gen.frame m ρ
theorem frame_ideal : Cert.quiescent_BranchFwdIdeal (hBranchFwdIdeal := Cert.BranchFwdIdeal.Gen.facts) := fun m ρ _ => Cert.BranchFwdIdeal.Gen.frame m ρ
theorem frame_ref : Cert.quiescent_BranchFwdRefIdeal (hBranchFwdRefIdeal := Cert.BranchFwdRefIdeal.Gen.facts) := fun m ρ _ =>
  (θ_run Cert.BranchFwdRefIdeal.defs _ _).mono (fun r h => ⟨fun c => (h c).2, sem_eq_zero_of_no_sems (by decide) r.2⟩)
    (Cert.BranchFwdRefIdeal.Value.run (F := Ideal) m ρ)

theorem algebraic : Cert.algebraic_BranchFwdIdeal_BranchFwdRefIdeal (hBranchFwdIdeal := Cert.BranchFwdIdeal.Gen.facts) (hBranchFwdRefIdeal := Cert.BranchFwdRefIdeal.Gen.facts) := by
  intro m ρ m' ρ' _ hagree
  refine ⟨Cert.BranchFwdIdeal.Prod.total m, ?_, ?_⟩
  · refine (θ_run Cert.BranchFwdIdeal.defs _ _).mono (fun _ h c => ⟨?_, (h c).2⟩) (Cert.BranchFwdIdeal.Value.run_blocks (F := Ideal) m ρ)
    exact (h c).1.trans (Cert.BranchFwdIdeal.Prod.arr m c)
  · refine (θ_run Cert.BranchFwdRefIdeal.defs _ _).mono (fun _ h c => ⟨?_, (h c).2⟩) (Cert.BranchFwdRefIdeal.Value.run (F := Ideal) m' ρ')
    rw [(h c).1]
    simp only [hagree c]
    refine funext fun (i : S8192x2048.Idx) => ?_
    idx_vars i
    pointwise [Cert.BranchFwdIdeal.Prod.total]

end Cert.BranchFwdIdeal.Claims

end
-- ==== Proof.Products.BranchDa.lean ====
/- BranchDa: a branch's gradient in its rows, a 8192 by 1024 array summed over 2048 terms in 2 parts. -/
module

public import proofs.«01_k».proof.Defs
public import proofs.«01_k».proof.Proof.Gen.BranchDa.Frame
public import proofs.«01_k».proof.Proof.Gen.BranchDaIdeal.Value
public import proofs.«01_k».proof.Proof.Gen.BranchDaRefIdeal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

namespace Cert.BranchDaIdeal.Prod

open Cert.BranchDaIdeal Cert.BranchDaIdeal.Gen Idealize.ShloMosaic Idealize.ShloMosaic.TcCoe Idealize.ShloMosaic.Tactic Idealize.SL.Sem

variable (m : (ℓ : Loc nD τ sig) → Buf (Elt Ideal) ℓ)

theorem ixA : ∀ t : Fin grid0.N, win0_0.index t = ![t.val / 2, t.val % 2] := by decide +kernel
theorem ixB : ∀ t : Fin grid0.N, win0_1.index t = ![t.val / 2 % 1, t.val % 2] := by decide +kernel
theorem ixO : ∀ t : Fin grid0.N, win0_2.index t = ![t.val / 2, t.val / 2 % 1] := by decide +kernel

abbrev blkA (c : Dev nD) (t : Fin cfg0.N) : S1024x1024.Idx → EReal := iblk m c 0 t
abbrev blkB (c : Dev nD) (t : Fin cfg0.N) : S1024x1024.Idx → EReal := iblk m c 1 t
abbrev argA (c : Dev nD) : S8192x2048.Idx → EReal := m ((c : Thread nD τ).loc main_arg2)
abbrev argB (c : Dev nD) : S1024x2048.Idx → EReal := m ((c : Thread nD τ).loc main_arg1)

/-- The product of a point's two blocks. -/
abbrev term (c : Dev nD) (t : Fin cfg0.N) (j : S1024x1024.Idx) : EReal :=
  ∑ k : Fin 1024, blkA m c t (ix2 (j 0) k) * blkB m c t (ix2 (j 1) k)

/-- The first of a block's 2 points starts the sum. -/
theorem first (c : Dev nD) (t : Fin cfg0.N) (h : t.val % 2 = 0) (j : S1024x1024.Idx) :
    (outsAt0 m c t.val t.isLt).2 j = (0 : EReal) + term m c t j := by
  rw [outsAt0_A m c t h (by omega)]
  frame_out
  pointwise [k0_pay1, k0_pay2]

/-- Every later point adds to it. -/
theorem next (c : Dev nD) (t : Fin cfg0.N) (h : ¬t.val % 2 = 0) (j : S1024x1024.Idx) :
    (outsAt0 m c t.val t.isLt).2 j
      = ((outsAt0 m c (t.val - 1) (Nat.lt_of_le_of_lt (Nat.sub_le _ _) t.isLt)).2 j : EReal) + term m c t j := by
  rw [outsAt0_B m c t h (by omega)]
  frame_out [read_unread_whole]
  pointwise [k0_pay2]

/-- The last point writes the sum out. -/
theorem last (c : Dev nD) (t : Fin cfg0.N) (h : t.val % 2 = 1) (j : S1024x1024.Idx) :
    (outsAt0 m c t.val t.isLt).1 j = (outsAt0 m c t.val t.isLt).2 j := by
  rw [outsAt0_B m c t (by omega) h]
  frame_out

theorem written (c : Dev nD) (t : Fin cfg0.N) (h : t.val % 2 = 1) (j : S1024x1024.Idx) :
    ((outsAt0 m c t.val t.isLt).1 j : EReal)
      = ∑ s : Fin 2, term m c ⟨2 * (t.val / 2) + s.val, Pipeline.run_point_lt_of_flush t h s⟩ j := by
  rw [last m c t h, Pipeline.eq_sum_fin_of_reset_step_apply_of_flush (fun n h => (outsAt0 m c n h).2) 2 (fun _ => (0 : EReal)) (term m c)
    (first m c) (next m c) t h j, zero_add]

/-- The whole product. -/
abbrev total (c : Dev nD) : S8192x1024.Idx → EReal := fun i =>
  ∑ x : Fin 2048, argA m c (ix2 (i 0) x) * argB m c (ix2 (i 1) x)

/-- The array the call leaves. -/
theorem arr (c : Dev nD) : (dats m 0 c).arrAt 2 cfg0.N = total m c := by
  refine (dats m 0 c).arrAt_eq_of_covers 2 _ (by decide +kernel) fun t hf y => ?_
  have ht : t.val % 2 = 1 := (flush0_2 t).mp hf
  blk_simp
  rw [after0_2]
  refine (written m c t ht _).trans ?_
  refine Fin.sum_mul_add_congr (n := 1024) fun s k hl => ?_
  have hN : t.val < 16 := t.isLt
  have hs := s.isLt
  congr 1
  · blk_ext! [iblk, V, ixA, ixO]
  · blk_ext! [iblk, V, ixB, ixO]

end Cert.BranchDaIdeal.Prod

namespace Cert.BranchDaIdeal.Claims

open Idealize.ShloMosaic Idealize.SL.Sem

theorem frame_kernel : Cert.quiescent_BranchDa (hBranchDa := Cert.BranchDa.Gen.facts) := fun m ρ _ => Cert.BranchDa.Gen.frame m ρ
theorem frame_ideal : Cert.quiescent_BranchDaIdeal (hBranchDaIdeal := Cert.BranchDaIdeal.Gen.facts) := fun m ρ _ => Cert.BranchDaIdeal.Gen.frame m ρ
theorem frame_ref : Cert.quiescent_BranchDaRefIdeal (hBranchDaRefIdeal := Cert.BranchDaRefIdeal.Gen.facts) := fun m ρ _ =>
  (θ_run Cert.BranchDaRefIdeal.defs _ _).mono (fun r h => ⟨fun c => (h c).2, sem_eq_zero_of_no_sems (by decide) r.2⟩)
    (Cert.BranchDaRefIdeal.Value.run (F := Ideal) m ρ)

theorem algebraic : Cert.algebraic_BranchDaIdeal_BranchDaRefIdeal (hBranchDaIdeal := Cert.BranchDaIdeal.Gen.facts) (hBranchDaRefIdeal := Cert.BranchDaRefIdeal.Gen.facts) := by
  intro m ρ m' ρ' _ hagree
  refine ⟨Cert.BranchDaIdeal.Prod.total m, ?_, ?_⟩
  · refine (θ_run Cert.BranchDaIdeal.defs _ _).mono (fun _ h c => ⟨?_, (h c).2⟩) (Cert.BranchDaIdeal.Value.run_blocks (F := Ideal) m ρ)
    exact (h c).1.trans (Cert.BranchDaIdeal.Prod.arr m c)
  · refine (θ_run Cert.BranchDaRefIdeal.defs _ _).mono (fun _ h c => ⟨?_, (h c).2⟩) (Cert.BranchDaRefIdeal.Value.run (F := Ideal) m' ρ')
    rw [(h c).1]
    simp only [hagree c]
    refine funext fun (i : S8192x1024.Idx) => ?_
    idx_vars i
    pointwise [Cert.BranchDaIdeal.Prod.total]

end Cert.BranchDaIdeal.Claims

end
-- ==== Proof.Products.BranchDw.lean ====
/- BranchDw: a branch's gradient in its weights, a 1024 by 2048 array summed over 8192 terms in 8 parts. -/
module

public import proofs.«01_k».proof.Defs
public import proofs.«01_k».proof.Proof.Gen.BranchDw.Frame
public import proofs.«01_k».proof.Proof.Gen.BranchDwIdeal.Value
public import proofs.«01_k».proof.Proof.Gen.BranchDwRefIdeal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

namespace Cert.BranchDwIdeal.Prod

open Cert.BranchDwIdeal Cert.BranchDwIdeal.Gen Idealize.ShloMosaic Idealize.ShloMosaic.TcCoe Idealize.ShloMosaic.Tactic Idealize.SL.Sem

variable (m : (ℓ : Loc nD τ sig) → Buf (Elt Ideal) ℓ)

theorem ixA : ∀ t : Fin grid0.N, win0_0.index t = ![t.val % 8, t.val / 16] := by decide +kernel
theorem ixB : ∀ t : Fin grid0.N, win0_1.index t = ![t.val % 8, t.val / 8 % 2] := by decide +kernel
theorem ixO : ∀ t : Fin grid0.N, win0_2.index t = ![t.val / 16, t.val / 8 % 2] := by decide +kernel

abbrev blkA (c : Dev nD) (t : Fin cfg0.N) : S1024x1024.Idx → EReal := iblk m c 0 t
abbrev blkB (c : Dev nD) (t : Fin cfg0.N) : S1024x1024.Idx → EReal := iblk m c 1 t
abbrev argA (c : Dev nD) : S8192x1024.Idx → EReal := m ((c : Thread nD τ).loc main_arg0)
abbrev argB (c : Dev nD) : S8192x2048.Idx → EReal := m ((c : Thread nD τ).loc main_arg2)

/-- The product of a point's two blocks. -/
abbrev term (c : Dev nD) (t : Fin cfg0.N) (j : S1024x1024.Idx) : EReal :=
  ∑ k : Fin 1024, blkA m c t (ix2 k (j 0)) * blkB m c t (ix2 k (j 1))

/-- The first of a block's 8 points starts the sum. -/
theorem first (c : Dev nD) (t : Fin cfg0.N) (h : t.val % 8 = 0) (j : S1024x1024.Idx) :
    (outsAt0 m c t.val t.isLt).2 j = (0 : EReal) + term m c t j := by
  rw [outsAt0_A m c t h (by omega)]
  frame_out
  pointwise [k0_pay1, k0_pay2]

/-- Every later point adds to it. -/
theorem next (c : Dev nD) (t : Fin cfg0.N) (h : ¬t.val % 8 = 0) (j : S1024x1024.Idx) :
    (outsAt0 m c t.val t.isLt).2 j
      = ((outsAt0 m c (t.val - 1) (Nat.lt_of_le_of_lt (Nat.sub_le _ _) t.isLt)).2 j : EReal) + term m c t j := by
  by_cases h' : t.val % 8 = 7
  · rw [outsAt0_C m c t h h']
    frame_out [read_unread_whole]
    pointwise [k0_pay2]
  · rw [outsAt0_B m c t h h']
    frame_out [read_unread_whole]
    pointwise [k0_pay2]

/-- The last point writes the sum out. -/
theorem last (c : Dev nD) (t : Fin cfg0.N) (h : t.val % 8 = 7) (j : S1024x1024.Idx) :
    (outsAt0 m c t.val t.isLt).1 j = (outsAt0 m c t.val t.isLt).2 j := by
  rw [outsAt0_C m c t (by omega) h]
  frame_out
  pointwise [k0_pay3]

theorem written (c : Dev nD) (t : Fin cfg0.N) (h : t.val % 8 = 7) (j : S1024x1024.Idx) :
    ((outsAt0 m c t.val t.isLt).1 j : EReal)
      = ∑ s : Fin 8, term m c ⟨8 * (t.val / 8) + s.val, Pipeline.run_point_lt_of_flush t h s⟩ j := by
  rw [last m c t h, Pipeline.eq_sum_fin_of_reset_step_apply_of_flush (fun n h => (outsAt0 m c n h).2) 8 (fun _ => (0 : EReal)) (term m c)
    (first m c) (next m c) t h j, zero_add]

/-- The whole product. -/
abbrev total (c : Dev nD) : S1024x2048.Idx → EReal := fun i =>
  ∑ x : Fin 8192, argA m c (ix2 x (i 0)) * argB m c (ix2 x (i 1))

/-- The array the call leaves. -/
theorem arr (c : Dev nD) : (dats m 0 c).arrAt 2 cfg0.N = total m c := by
  refine (dats m 0 c).arrAt_eq_of_covers 2 _ (by decide +kernel) fun t hf y => ?_
  have ht : t.val % 8 = 7 := (flush0_2 t).mp hf
  blk_simp
  rw [after0_2]
  refine (written m c t ht _).trans ?_
  refine Fin.sum_mul_add_congr (n := 1024) fun s k hl => ?_
  have hN : t.val < 16 := t.isLt
  have hs := s.isLt
  congr 1
  · blk_ext! [iblk, V, ixA, ixO]
  · blk_ext! [iblk, V, ixB, ixO]

end Cert.BranchDwIdeal.Prod

namespace Cert.BranchDwIdeal.Claims

open Idealize.ShloMosaic Idealize.SL.Sem

theorem frame_kernel : Cert.quiescent_BranchDw (hBranchDw := Cert.BranchDw.Gen.facts) := fun m ρ _ => Cert.BranchDw.Gen.frame m ρ
theorem frame_ideal : Cert.quiescent_BranchDwIdeal (hBranchDwIdeal := Cert.BranchDwIdeal.Gen.facts) := fun m ρ _ => Cert.BranchDwIdeal.Gen.frame m ρ
theorem frame_ref : Cert.quiescent_BranchDwRefIdeal (hBranchDwRefIdeal := Cert.BranchDwRefIdeal.Gen.facts) := fun m ρ _ =>
  (θ_run Cert.BranchDwRefIdeal.defs _ _).mono (fun r h => ⟨fun c => (h c).2, sem_eq_zero_of_no_sems (by decide) r.2⟩)
    (Cert.BranchDwRefIdeal.Value.run (F := Ideal) m ρ)

theorem algebraic : Cert.algebraic_BranchDwIdeal_BranchDwRefIdeal (hBranchDwIdeal := Cert.BranchDwIdeal.Gen.facts) (hBranchDwRefIdeal := Cert.BranchDwRefIdeal.Gen.facts) := by
  intro m ρ m' ρ' _ hagree
  refine ⟨Cert.BranchDwIdeal.Prod.total m, ?_, ?_⟩
  · refine (θ_run Cert.BranchDwIdeal.defs _ _).mono (fun _ h c => ⟨?_, (h c).2⟩) (Cert.BranchDwIdeal.Value.run_blocks (F := Ideal) m ρ)
    exact (h c).1.trans (Cert.BranchDwIdeal.Prod.arr m c)
  · refine (θ_run Cert.BranchDwRefIdeal.defs _ _).mono (fun _ h c => ⟨?_, (h c).2⟩) (Cert.BranchDwRefIdeal.Value.run (F := Ideal) m' ρ')
    rw [(h c).1]
    simp only [hagree c]
    refine funext fun (i : S1024x2048.Idx) => ?_
    idx_vars i
    pointwise [Cert.BranchDwIdeal.Prod.total]
    exact Fintype.sum_congr _ _ fun x => mul_comm (G := EReal) _ _

end Cert.BranchDwIdeal.Claims

end
-- ==== Proof.Products.UqFwd.lean ====
/- UqFwd: the query projection's product, a 8192 by 4096 array summed over 512 terms in 1 part. -/
module

public import proofs.«01_k».proof.Defs
public import proofs.«01_k».proof.Proof.Gen.UqFwd.Frame
public import proofs.«01_k».proof.Proof.Gen.UqFwdIdeal.Value
public import proofs.«01_k».proof.Proof.Gen.UqFwdRefIdeal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

namespace Cert.UqFwdIdeal.Prod

open Cert.UqFwdIdeal Cert.UqFwdIdeal.Gen Idealize.ShloMosaic Idealize.ShloMosaic.TcCoe Idealize.ShloMosaic.Tactic Idealize.SL.Sem

variable (m : (ℓ : Loc nD τ sig) → Buf (Elt Ideal) ℓ)

theorem ixA : ∀ t : Fin grid0.N, win0_0.index t = ![t.val / 4, t.val % 1] := by decide +kernel
theorem ixB : ∀ t : Fin grid0.N, win0_1.index t = ![t.val % 1, t.val / 1 % 4] := by decide +kernel
theorem ixO : ∀ t : Fin grid0.N, win0_2.index t = ![t.val / 4, t.val / 1 % 4] := by decide +kernel

abbrev blkA (c : Dev nD) (t : Fin cfg0.N) : S1024x512.Idx → EReal := iblk m c 0 t
abbrev blkB (c : Dev nD) (t : Fin cfg0.N) : S512x1024.Idx → EReal := iblk m c 1 t
abbrev argA (c : Dev nD) : S8192x512.Idx → EReal := m ((c : Thread nD τ).loc main_arg0)
abbrev argB (c : Dev nD) : S512x4096.Idx → EReal := m ((c : Thread nD τ).loc main_arg1)

/-- The product of a point's two blocks. -/
abbrev term (c : Dev nD) (t : Fin cfg0.N) (j : S1024x1024.Idx) : EReal :=
  ∑ k : Fin 512, blkA m c t (ix2 (j 0) k) * blkB m c t (ix2 k (j 1))

theorem written (c : Dev nD) (t : Fin cfg0.N) (j : S1024x1024.Idx) :
    (outsAt0 m c t j : EReal) = term m c t j := by
  unfold outsAt0
  frame_out [read_unread_whole]
  pointwise [k0_pay1, k0_pay2]

/-- The whole product. -/
abbrev total (c : Dev nD) : S8192x4096.Idx → EReal := fun i =>
  ∑ x : Fin 512, argA m c (ix2 (i 0) x) * argB m c (ix2 x (i 1))

/-- The array the call leaves. -/
theorem arr (c : Dev nD) : (dats m 0 c).arrAt 2 cfg0.N = total m c := by
  refine (dats m 0 c).arrAt_eq_of_covers 2 _ (by decide +kernel) fun t hf y => ?_
  have hN : t.val < 32 := t.isLt
  blk_simp
  rw [after0_2]
  refine (written m c t _).trans ?_
  refine Fintype.sum_congr _ _ fun k => ?_
  congr 1
  · blk_ext! [iblk, V, ixA, ixO]
  · blk_ext! [iblk, V, ixB, ixO]

end Cert.UqFwdIdeal.Prod

namespace Cert.UqFwdIdeal.Claims

open Idealize.ShloMosaic Idealize.SL.Sem

theorem frame_kernel : Cert.quiescent_UqFwd (hUqFwd := Cert.UqFwd.Gen.facts) := fun m ρ _ => Cert.UqFwd.Gen.frame m ρ
theorem frame_ideal : Cert.quiescent_UqFwdIdeal (hUqFwdIdeal := Cert.UqFwdIdeal.Gen.facts) := fun m ρ _ => Cert.UqFwdIdeal.Gen.frame m ρ
theorem frame_ref : Cert.quiescent_UqFwdRefIdeal (hUqFwdRefIdeal := Cert.UqFwdRefIdeal.Gen.facts) := fun m ρ _ =>
  (θ_run Cert.UqFwdRefIdeal.defs _ _).mono (fun r h => ⟨fun c => (h c).2, sem_eq_zero_of_no_sems (by decide) r.2⟩)
    (Cert.UqFwdRefIdeal.Value.run (F := Ideal) m ρ)

theorem algebraic : Cert.algebraic_UqFwdIdeal_UqFwdRefIdeal (hUqFwdIdeal := Cert.UqFwdIdeal.Gen.facts) (hUqFwdRefIdeal := Cert.UqFwdRefIdeal.Gen.facts) := by
  intro m ρ m' ρ' _ hagree
  refine ⟨Cert.UqFwdIdeal.Prod.total m, ?_, ?_⟩
  · refine (θ_run Cert.UqFwdIdeal.defs _ _).mono (fun _ h c => ⟨?_, (h c).2⟩) (Cert.UqFwdIdeal.Value.run_blocks (F := Ideal) m ρ)
    exact (h c).1.trans (Cert.UqFwdIdeal.Prod.arr m c)
  · refine (θ_run Cert.UqFwdRefIdeal.defs _ _).mono (fun _ h c => ⟨?_, (h c).2⟩) (Cert.UqFwdRefIdeal.Value.run (F := Ideal) m' ρ')
    rw [(h c).1]
    simp only [hagree c]
    refine funext fun (i : S8192x4096.Idx) => ?_
    idx_vars i
    pointwise [Cert.UqFwdIdeal.Prod.total]

end Cert.UqFwdIdeal.Claims

end
-- ==== Proof.Products.UqDa.lean ====
/- UqDa: the query projection's gradient in its rows, a 8192 by 512 array summed over 4096 terms in 4 parts. -/
module

public import proofs.«01_k».proof.Defs
public import proofs.«01_k».proof.Proof.Gen.UqDa.Frame
public import proofs.«01_k».proof.Proof.Gen.UqDaIdeal.Value
public import proofs.«01_k».proof.Proof.Gen.UqDaRefIdeal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

namespace Cert.UqDaIdeal.Prod

open Cert.UqDaIdeal Cert.UqDaIdeal.Gen Idealize.ShloMosaic Idealize.ShloMosaic.TcCoe Idealize.ShloMosaic.Tactic Idealize.SL.Sem

variable (m : (ℓ : Loc nD τ sig) → Buf (Elt Ideal) ℓ)

theorem ixA : ∀ t : Fin grid0.N, win0_0.index t = ![t.val / 4, t.val % 4] := by decide +kernel
theorem ixB : ∀ t : Fin grid0.N, win0_1.index t = ![t.val / 4 % 1, t.val % 4] := by decide +kernel
theorem ixO : ∀ t : Fin grid0.N, win0_2.index t = ![t.val / 4, t.val / 4 % 1] := by decide +kernel

abbrev blkA (c : Dev nD) (t : Fin cfg0.N) : S1024x1024.Idx → EReal := iblk m c 0 t
abbrev blkB (c : Dev nD) (t : Fin cfg0.N) : S512x1024.Idx → EReal := iblk m c 1 t
abbrev argA (c : Dev nD) : S8192x4096.Idx → EReal := m ((c : Thread nD τ).loc main_arg2)
abbrev argB (c : Dev nD) : S512x4096.Idx → EReal := m ((c : Thread nD τ).loc main_arg1)

/-- The product of a point's two blocks. -/
abbrev term (c : Dev nD) (t : Fin cfg0.N) (j : S1024x512.Idx) : EReal :=
  ∑ k : Fin 1024, blkA m c t (ix2 (j 0) k) * blkB m c t (ix2 (j 1) k)

/-- The first of a block's 4 points starts the sum. -/
theorem first (c : Dev nD) (t : Fin cfg0.N) (h : t.val % 4 = 0) (j : S1024x512.Idx) :
    (outsAt0 m c t.val t.isLt).2 j = (0 : EReal) + term m c t j := by
  rw [outsAt0_A m c t h (by omega)]
  frame_out
  pointwise [k0_pay1, k0_pay2]

/-- Every later point adds to it. -/
theorem next (c : Dev nD) (t : Fin cfg0.N) (h : ¬t.val % 4 = 0) (j : S1024x512.Idx) :
    (outsAt0 m c t.val t.isLt).2 j
      = ((outsAt0 m c (t.val - 1) (Nat.lt_of_le_of_lt (Nat.sub_le _ _) t.isLt)).2 j : EReal) + term m c t j := by
  by_cases h' : t.val % 4 = 3
  · rw [outsAt0_C m c t h h']
    frame_out [read_unread_whole]
    pointwise [k0_pay2]
  · rw [outsAt0_B m c t h h']
    frame_out [read_unread_whole]
    pointwise [k0_pay2]

/-- The last point writes the sum out. -/
theorem last (c : Dev nD) (t : Fin cfg0.N) (h : t.val % 4 = 3) (j : S1024x512.Idx) :
    (outsAt0 m c t.val t.isLt).1 j = (outsAt0 m c t.val t.isLt).2 j := by
  rw [outsAt0_C m c t (by omega) h]
  frame_out

theorem written (c : Dev nD) (t : Fin cfg0.N) (h : t.val % 4 = 3) (j : S1024x512.Idx) :
    ((outsAt0 m c t.val t.isLt).1 j : EReal)
      = ∑ s : Fin 4, term m c ⟨4 * (t.val / 4) + s.val, Pipeline.run_point_lt_of_flush t h s⟩ j := by
  rw [last m c t h, Pipeline.eq_sum_fin_of_reset_step_apply_of_flush (fun n h => (outsAt0 m c n h).2) 4 (fun _ => (0 : EReal)) (term m c)
    (first m c) (next m c) t h j, zero_add]

/-- The whole product. -/
abbrev total (c : Dev nD) : S8192x512.Idx → EReal := fun i =>
  ∑ x : Fin 4096, argA m c (ix2 (i 0) x) * argB m c (ix2 (i 1) x)

/-- The array the call leaves. -/
theorem arr (c : Dev nD) : (dats m 0 c).arrAt 2 cfg0.N = total m c := by
  refine (dats m 0 c).arrAt_eq_of_covers 2 _ (by decide +kernel) fun t hf y => ?_
  have ht : t.val % 4 = 3 := (flush0_2 t).mp hf
  blk_simp
  rw [after0_2]
  refine (written m c t ht _).trans ?_
  refine Fin.sum_mul_add_congr (n := 1024) fun s k hl => ?_
  have hN : t.val < 32 := t.isLt
  have hs := s.isLt
  congr 1
  · blk_ext! [iblk, V, ixA, ixO]
  · blk_ext! [iblk, V, ixB, ixO]

end Cert.UqDaIdeal.Prod

namespace Cert.UqDaIdeal.Claims

open Idealize.ShloMosaic Idealize.SL.Sem

theorem frame_kernel : Cert.quiescent_UqDa (hUqDa := Cert.UqDa.Gen.facts) := fun m ρ _ => Cert.UqDa.Gen.frame m ρ
theorem frame_ideal : Cert.quiescent_UqDaIdeal (hUqDaIdeal := Cert.UqDaIdeal.Gen.facts) := fun m ρ _ => Cert.UqDaIdeal.Gen.frame m ρ
theorem frame_ref : Cert.quiescent_UqDaRefIdeal (hUqDaRefIdeal := Cert.UqDaRefIdeal.Gen.facts) := fun m ρ _ =>
  (θ_run Cert.UqDaRefIdeal.defs _ _).mono (fun r h => ⟨fun c => (h c).2, sem_eq_zero_of_no_sems (by decide) r.2⟩)
    (Cert.UqDaRefIdeal.Value.run (F := Ideal) m ρ)

theorem algebraic : Cert.algebraic_UqDaIdeal_UqDaRefIdeal (hUqDaIdeal := Cert.UqDaIdeal.Gen.facts) (hUqDaRefIdeal := Cert.UqDaRefIdeal.Gen.facts) := by
  intro m ρ m' ρ' _ hagree
  refine ⟨Cert.UqDaIdeal.Prod.total m, ?_, ?_⟩
  · refine (θ_run Cert.UqDaIdeal.defs _ _).mono (fun _ h c => ⟨?_, (h c).2⟩) (Cert.UqDaIdeal.Value.run_blocks (F := Ideal) m ρ)
    exact (h c).1.trans (Cert.UqDaIdeal.Prod.arr m c)
  · refine (θ_run Cert.UqDaRefIdeal.defs _ _).mono (fun _ h c => ⟨?_, (h c).2⟩) (Cert.UqDaRefIdeal.Value.run (F := Ideal) m' ρ')
    rw [(h c).1]
    simp only [hagree c]
    refine funext fun (i : S8192x512.Idx) => ?_
    idx_vars i
    pointwise [Cert.UqDaIdeal.Prod.total]

end Cert.UqDaIdeal.Claims

end
-- ==== Proof.Products.UqDw.lean ====
/- UqDw: the query projection's gradient in its weights, a 512 by 4096 array summed over 8192 terms in 8 parts. -/
module

public import proofs.«01_k».proof.Defs
public import proofs.«01_k».proof.Proof.Gen.UqDw.Frame
public import proofs.«01_k».proof.Proof.Gen.UqDwIdeal.Value
public import proofs.«01_k».proof.Proof.Gen.UqDwRefIdeal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

namespace Cert.UqDwIdeal.Prod

open Cert.UqDwIdeal Cert.UqDwIdeal.Gen Idealize.ShloMosaic Idealize.ShloMosaic.TcCoe Idealize.ShloMosaic.Tactic Idealize.SL.Sem

variable (m : (ℓ : Loc nD τ sig) → Buf (Elt Ideal) ℓ)

theorem ixA : ∀ t : Fin grid0.N, win0_0.index t = ![t.val % 8, t.val / 32] := by decide +kernel
theorem ixB : ∀ t : Fin grid0.N, win0_1.index t = ![t.val % 8, t.val / 8 % 4] := by decide +kernel
theorem ixO : ∀ t : Fin grid0.N, win0_2.index t = ![t.val / 32, t.val / 8 % 4] := by decide +kernel

abbrev blkA (c : Dev nD) (t : Fin cfg0.N) : S1024x512.Idx → EReal := iblk m c 0 t
abbrev blkB (c : Dev nD) (t : Fin cfg0.N) : S1024x1024.Idx → EReal := iblk m c 1 t
abbrev argA (c : Dev nD) : S8192x512.Idx → EReal := m ((c : Thread nD τ).loc main_arg0)
abbrev argB (c : Dev nD) : S8192x4096.Idx → EReal := m ((c : Thread nD τ).loc main_arg2)

/-- The product of a point's two blocks. -/
abbrev term (c : Dev nD) (t : Fin cfg0.N) (j : S512x1024.Idx) : EReal :=
  ∑ k : Fin 1024, blkA m c t (ix2 k (j 0)) * blkB m c t (ix2 k (j 1))

/-- The first of a block's 8 points starts the sum. -/
theorem first (c : Dev nD) (t : Fin cfg0.N) (h : t.val % 8 = 0) (j : S512x1024.Idx) :
    (outsAt0 m c t.val t.isLt).2 j = (0 : EReal) + term m c t j := by
  rw [outsAt0_A m c t h (by omega)]
  frame_out
  pointwise [k0_pay1, k0_pay2]

/-- Every later point adds to it. -/
theorem next (c : Dev nD) (t : Fin cfg0.N) (h : ¬t.val % 8 = 0) (j : S512x1024.Idx) :
    (outsAt0 m c t.val t.isLt).2 j
      = ((outsAt0 m c (t.val - 1) (Nat.lt_of_le_of_lt (Nat.sub_le _ _) t.isLt)).2 j : EReal) + term m c t j := by
  by_cases h' : t.val % 8 = 7
  · rw [outsAt0_C m c t h h']
    frame_out [read_unread_whole]
    pointwise [k0_pay2]
  · rw [outsAt0_B m c t h h']
    frame_out [read_unread_whole]
    pointwise [k0_pay2]

/-- The last point writes the sum out. -/
theorem last (c : Dev nD) (t : Fin cfg0.N) (h : t.val % 8 = 7) (j : S512x1024.Idx) :
    (outsAt0 m c t.val t.isLt).1 j = (outsAt0 m c t.val t.isLt).2 j := by
  rw [outsAt0_C m c t (by omega) h]
  frame_out
  pointwise [k0_pay3]

theorem written (c : Dev nD) (t : Fin cfg0.N) (h : t.val % 8 = 7) (j : S512x1024.Idx) :
    ((outsAt0 m c t.val t.isLt).1 j : EReal)
      = ∑ s : Fin 8, term m c ⟨8 * (t.val / 8) + s.val, Pipeline.run_point_lt_of_flush t h s⟩ j := by
  rw [last m c t h, Pipeline.eq_sum_fin_of_reset_step_apply_of_flush (fun n h => (outsAt0 m c n h).2) 8 (fun _ => (0 : EReal)) (term m c)
    (first m c) (next m c) t h j, zero_add]

/-- The whole product. -/
abbrev total (c : Dev nD) : S512x4096.Idx → EReal := fun i =>
  ∑ x : Fin 8192, argA m c (ix2 x (i 0)) * argB m c (ix2 x (i 1))

/-- The array the call leaves. -/
theorem arr (c : Dev nD) : (dats m 0 c).arrAt 2 cfg0.N = total m c := by
  refine (dats m 0 c).arrAt_eq_of_covers 2 _ (by decide +kernel) fun t hf y => ?_
  have ht : t.val % 8 = 7 := (flush0_2 t).mp hf
  blk_simp
  rw [after0_2]
  refine (written m c t ht _).trans ?_
  refine Fin.sum_mul_add_congr (n := 1024) fun s k hl => ?_
  have hN : t.val < 32 := t.isLt
  have hs := s.isLt
  congr 1
  · blk_ext! [iblk, V, ixA, ixO]
  · blk_ext! [iblk, V, ixB, ixO]

end Cert.UqDwIdeal.Prod

namespace Cert.UqDwIdeal.Claims

open Idealize.ShloMosaic Idealize.SL.Sem

theorem frame_kernel : Cert.quiescent_UqDw (hUqDw := Cert.UqDw.Gen.facts) := fun m ρ _ => Cert.UqDw.Gen.frame m ρ
theorem frame_ideal : Cert.quiescent_UqDwIdeal (hUqDwIdeal := Cert.UqDwIdeal.Gen.facts) := fun m ρ _ => Cert.UqDwIdeal.Gen.frame m ρ
theorem frame_ref : Cert.quiescent_UqDwRefIdeal (hUqDwRefIdeal := Cert.UqDwRefIdeal.Gen.facts) := fun m ρ _ =>
  (θ_run Cert.UqDwRefIdeal.defs _ _).mono (fun r h => ⟨fun c => (h c).2, sem_eq_zero_of_no_sems (by decide) r.2⟩)
    (Cert.UqDwRefIdeal.Value.run (F := Ideal) m ρ)

theorem algebraic : Cert.algebraic_UqDwIdeal_UqDwRefIdeal (hUqDwIdeal := Cert.UqDwIdeal.Gen.facts) (hUqDwRefIdeal := Cert.UqDwRefIdeal.Gen.facts) := by
  intro m ρ m' ρ' _ hagree
  refine ⟨Cert.UqDwIdeal.Prod.total m, ?_, ?_⟩
  · refine (θ_run Cert.UqDwIdeal.defs _ _).mono (fun _ h c => ⟨?_, (h c).2⟩) (Cert.UqDwIdeal.Value.run_blocks (F := Ideal) m ρ)
    exact (h c).1.trans (Cert.UqDwIdeal.Prod.arr m c)
  · refine (θ_run Cert.UqDwRefIdeal.defs _ _).mono (fun _ h c => ⟨?_, (h c).2⟩) (Cert.UqDwRefIdeal.Value.run (F := Ideal) m' ρ')
    rw [(h c).1]
    simp only [hagree c]
    refine funext fun (i : S512x4096.Idx) => ?_
    idx_vars i
    pointwise [Cert.UqDwIdeal.Prod.total]
    exact Fintype.sum_congr _ _ fun x => mul_comm (G := EReal) _ _

end Cert.UqDwIdeal.Claims

end
-- ==== Proof.Products.UkvFwd.lean ====
/- UkvFwd: the key and value projection's product, a 8192 by 3072 array summed over 512 terms in 1 part. -/
module

public import proofs.«01_k».proof.Defs
public import proofs.«01_k».proof.Proof.Gen.UkvFwd.Frame
public import proofs.«01_k».proof.Proof.Gen.UkvFwdIdeal.Value
public import proofs.«01_k».proof.Proof.Gen.UkvFwdRefIdeal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

namespace Cert.UkvFwdIdeal.Prod

open Cert.UkvFwdIdeal Cert.UkvFwdIdeal.Gen Idealize.ShloMosaic Idealize.ShloMosaic.TcCoe Idealize.ShloMosaic.Tactic Idealize.SL.Sem

variable (m : (ℓ : Loc nD τ sig) → Buf (Elt Ideal) ℓ)

theorem ixA : ∀ t : Fin grid0.N, win0_0.index t = ![t.val / 2, t.val % 1] := by decide +kernel
theorem ixB : ∀ t : Fin grid0.N, win0_1.index t = ![t.val % 1, t.val / 1 % 2] := by decide +kernel
theorem ixO : ∀ t : Fin grid0.N, win0_2.index t = ![t.val / 2, t.val / 1 % 2] := by decide +kernel

abbrev blkA (c : Dev nD) (t : Fin cfg0.N) : S1024x512.Idx → EReal := iblk m c 0 t
abbrev blkB (c : Dev nD) (t : Fin cfg0.N) : S512x1536.Idx → EReal := iblk m c 1 t
abbrev argA (c : Dev nD) : S8192x512.Idx → EReal := m ((c : Thread nD τ).loc main_arg0)
abbrev argB (c : Dev nD) : S512x3072.Idx → EReal := m ((c : Thread nD τ).loc main_arg1)

/-- The product of a point's two blocks. -/
abbrev term (c : Dev nD) (t : Fin cfg0.N) (j : S1024x1536.Idx) : EReal :=
  ∑ k : Fin 512, blkA m c t (ix2 (j 0) k) * blkB m c t (ix2 k (j 1))

theorem written (c : Dev nD) (t : Fin cfg0.N) (j : S1024x1536.Idx) :
    (outsAt0 m c t j : EReal) = term m c t j := by
  unfold outsAt0
  frame_out [read_unread_whole]
  pointwise [k0_pay1, k0_pay2]

/-- The whole product. -/
abbrev total (c : Dev nD) : S8192x3072.Idx → EReal := fun i =>
  ∑ x : Fin 512, argA m c (ix2 (i 0) x) * argB m c (ix2 x (i 1))

/-- The array the call leaves. -/
theorem arr (c : Dev nD) : (dats m 0 c).arrAt 2 cfg0.N = total m c := by
  refine (dats m 0 c).arrAt_eq_of_covers 2 _ (by decide +kernel) fun t hf y => ?_
  have hN : t.val < 16 := t.isLt
  blk_simp
  rw [after0_2]
  refine (written m c t _).trans ?_
  refine Fintype.sum_congr _ _ fun k => ?_
  congr 1
  · blk_ext! [iblk, V, ixA, ixO]
  · blk_ext! [iblk, V, ixB, ixO]

end Cert.UkvFwdIdeal.Prod

namespace Cert.UkvFwdIdeal.Claims

open Idealize.ShloMosaic Idealize.SL.Sem

theorem frame_kernel : Cert.quiescent_UkvFwd (hUkvFwd := Cert.UkvFwd.Gen.facts) := fun m ρ _ => Cert.UkvFwd.Gen.frame m ρ
theorem frame_ideal : Cert.quiescent_UkvFwdIdeal (hUkvFwdIdeal := Cert.UkvFwdIdeal.Gen.facts) := fun m ρ _ => Cert.UkvFwdIdeal.Gen.frame m ρ
theorem frame_ref : Cert.quiescent_UkvFwdRefIdeal (hUkvFwdRefIdeal := Cert.UkvFwdRefIdeal.Gen.facts) := fun m ρ _ =>
  (θ_run Cert.UkvFwdRefIdeal.defs _ _).mono (fun r h => ⟨fun c => (h c).2, sem_eq_zero_of_no_sems (by decide) r.2⟩)
    (Cert.UkvFwdRefIdeal.Value.run (F := Ideal) m ρ)

theorem algebraic : Cert.algebraic_UkvFwdIdeal_UkvFwdRefIdeal (hUkvFwdIdeal := Cert.UkvFwdIdeal.Gen.facts) (hUkvFwdRefIdeal := Cert.UkvFwdRefIdeal.Gen.facts) := by
  intro m ρ m' ρ' _ hagree
  refine ⟨Cert.UkvFwdIdeal.Prod.total m, ?_, ?_⟩
  · refine (θ_run Cert.UkvFwdIdeal.defs _ _).mono (fun _ h c => ⟨?_, (h c).2⟩) (Cert.UkvFwdIdeal.Value.run_blocks (F := Ideal) m ρ)
    exact (h c).1.trans (Cert.UkvFwdIdeal.Prod.arr m c)
  · refine (θ_run Cert.UkvFwdRefIdeal.defs _ _).mono (fun _ h c => ⟨?_, (h c).2⟩) (Cert.UkvFwdRefIdeal.Value.run (F := Ideal) m' ρ')
    rw [(h c).1]
    simp only [hagree c]
    refine funext fun (i : S8192x3072.Idx) => ?_
    idx_vars i
    pointwise [Cert.UkvFwdIdeal.Prod.total]

end Cert.UkvFwdIdeal.Claims

end
-- ==== Proof.Products.UkvDa.lean ====
/- UkvDa: the key and value projection's gradient in its rows, a 8192 by 512 array summed over 3072 terms in 2 parts. -/
module

public import proofs.«01_k».proof.Defs
public import proofs.«01_k».proof.Proof.Gen.UkvDa.Frame
public import proofs.«01_k».proof.Proof.Gen.UkvDaIdeal.Value
public import proofs.«01_k».proof.Proof.Gen.UkvDaRefIdeal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

namespace Cert.UkvDaIdeal.Prod

open Cert.UkvDaIdeal Cert.UkvDaIdeal.Gen Idealize.ShloMosaic Idealize.ShloMosaic.TcCoe Idealize.ShloMosaic.Tactic Idealize.SL.Sem

variable (m : (ℓ : Loc nD τ sig) → Buf (Elt Ideal) ℓ)

theorem ixA : ∀ t : Fin grid0.N, win0_0.index t = ![t.val / 2, t.val % 2] := by decide +kernel
theorem ixB : ∀ t : Fin grid0.N, win0_1.index t = ![t.val / 2 % 1, t.val % 2] := by decide +kernel
theorem ixO : ∀ t : Fin grid0.N, win0_2.index t = ![t.val / 2, t.val / 2 % 1] := by decide +kernel

abbrev blkA (c : Dev nD) (t : Fin cfg0.N) : S1024x1536.Idx → EReal := iblk m c 0 t
abbrev blkB (c : Dev nD) (t : Fin cfg0.N) : S512x1536.Idx → EReal := iblk m c 1 t
abbrev argA (c : Dev nD) : S8192x3072.Idx → EReal := m ((c : Thread nD τ).loc main_arg2)
abbrev argB (c : Dev nD) : S512x3072.Idx → EReal := m ((c : Thread nD τ).loc main_arg1)

/-- The product of a point's two blocks. -/
abbrev term (c : Dev nD) (t : Fin cfg0.N) (j : S1024x512.Idx) : EReal :=
  ∑ k : Fin 1536, blkA m c t (ix2 (j 0) k) * blkB m c t (ix2 (j 1) k)

/-- The first of a block's 2 points starts the sum. -/
theorem first (c : Dev nD) (t : Fin cfg0.N) (h : t.val % 2 = 0) (j : S1024x512.Idx) :
    (outsAt0 m c t.val t.isLt).2 j = (0 : EReal) + term m c t j := by
  rw [outsAt0_A m c t h (by omega)]
  frame_out
  pointwise [k0_pay1, k0_pay2]

/-- Every later point adds to it. -/
theorem next (c : Dev nD) (t : Fin cfg0.N) (h : ¬t.val % 2 = 0) (j : S1024x512.Idx) :
    (outsAt0 m c t.val t.isLt).2 j
      = ((outsAt0 m c (t.val - 1) (Nat.lt_of_le_of_lt (Nat.sub_le _ _) t.isLt)).2 j : EReal) + term m c t j := by
  rw [outsAt0_B m c t h (by omega)]
  frame_out [read_unread_whole]
  pointwise [k0_pay2]

/-- The last point writes the sum out. -/
theorem last (c : Dev nD) (t : Fin cfg0.N) (h : t.val % 2 = 1) (j : S1024x512.Idx) :
    (outsAt0 m c t.val t.isLt).1 j = (outsAt0 m c t.val t.isLt).2 j := by
  rw [outsAt0_B m c t (by omega) h]
  frame_out

theorem written (c : Dev nD) (t : Fin cfg0.N) (h : t.val % 2 = 1) (j : S1024x512.Idx) :
    ((outsAt0 m c t.val t.isLt).1 j : EReal)
      = ∑ s : Fin 2, term m c ⟨2 * (t.val / 2) + s.val, Pipeline.run_point_lt_of_flush t h s⟩ j := by
  rw [last m c t h, Pipeline.eq_sum_fin_of_reset_step_apply_of_flush (fun n h => (outsAt0 m c n h).2) 2 (fun _ => (0 : EReal)) (term m c)
    (first m c) (next m c) t h j, zero_add]

/-- The whole product. -/
abbrev total (c : Dev nD) : S8192x512.Idx → EReal := fun i =>
  ∑ x : Fin 3072, argA m c (ix2 (i 0) x) * argB m c (ix2 (i 1) x)

/-- The array the call leaves. -/
theorem arr (c : Dev nD) : (dats m 0 c).arrAt 2 cfg0.N = total m c := by
  refine (dats m 0 c).arrAt_eq_of_covers 2 _ (by decide +kernel) fun t hf y => ?_
  have ht : t.val % 2 = 1 := (flush0_2 t).mp hf
  blk_simp
  rw [after0_2]
  refine (written m c t ht _).trans ?_
  refine Fin.sum_mul_add_congr (n := 1536) fun s k hl => ?_
  have hN : t.val < 16 := t.isLt
  have hs := s.isLt
  congr 1
  · blk_ext! [iblk, V, ixA, ixO]
  · blk_ext! [iblk, V, ixB, ixO]

end Cert.UkvDaIdeal.Prod

namespace Cert.UkvDaIdeal.Claims

open Idealize.ShloMosaic Idealize.SL.Sem

theorem frame_kernel : Cert.quiescent_UkvDa (hUkvDa := Cert.UkvDa.Gen.facts) := fun m ρ _ => Cert.UkvDa.Gen.frame m ρ
theorem frame_ideal : Cert.quiescent_UkvDaIdeal (hUkvDaIdeal := Cert.UkvDaIdeal.Gen.facts) := fun m ρ _ => Cert.UkvDaIdeal.Gen.frame m ρ
theorem frame_ref : Cert.quiescent_UkvDaRefIdeal (hUkvDaRefIdeal := Cert.UkvDaRefIdeal.Gen.facts) := fun m ρ _ =>
  (θ_run Cert.UkvDaRefIdeal.defs _ _).mono (fun r h => ⟨fun c => (h c).2, sem_eq_zero_of_no_sems (by decide) r.2⟩)
    (Cert.UkvDaRefIdeal.Value.run (F := Ideal) m ρ)

theorem algebraic : Cert.algebraic_UkvDaIdeal_UkvDaRefIdeal (hUkvDaIdeal := Cert.UkvDaIdeal.Gen.facts) (hUkvDaRefIdeal := Cert.UkvDaRefIdeal.Gen.facts) := by
  intro m ρ m' ρ' _ hagree
  refine ⟨Cert.UkvDaIdeal.Prod.total m, ?_, ?_⟩
  · refine (θ_run Cert.UkvDaIdeal.defs _ _).mono (fun _ h c => ⟨?_, (h c).2⟩) (Cert.UkvDaIdeal.Value.run_blocks (F := Ideal) m ρ)
    exact (h c).1.trans (Cert.UkvDaIdeal.Prod.arr m c)
  · refine (θ_run Cert.UkvDaRefIdeal.defs _ _).mono (fun _ h c => ⟨?_, (h c).2⟩) (Cert.UkvDaRefIdeal.Value.run (F := Ideal) m' ρ')
    rw [(h c).1]
    simp only [hagree c]
    refine funext fun (i : S8192x512.Idx) => ?_
    idx_vars i
    pointwise [Cert.UkvDaIdeal.Prod.total]

end Cert.UkvDaIdeal.Claims

end
-- ==== Proof.Products.UkvDw.lean ====
/- UkvDw: the key and value projection's gradient in its weights, a 512 by 3072 array summed over 8192 terms in 8 parts. -/
module

public import proofs.«01_k».proof.Defs
public import proofs.«01_k».proof.Proof.Gen.UkvDw.Frame
public import proofs.«01_k».proof.Proof.Gen.UkvDwIdeal.Value
public import proofs.«01_k».proof.Proof.Gen.UkvDwRefIdeal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

namespace Cert.UkvDwIdeal.Prod

open Cert.UkvDwIdeal Cert.UkvDwIdeal.Gen Idealize.ShloMosaic Idealize.ShloMosaic.TcCoe Idealize.ShloMosaic.Tactic Idealize.SL.Sem

variable (m : (ℓ : Loc nD τ sig) → Buf (Elt Ideal) ℓ)

theorem ixA : ∀ t : Fin grid0.N, win0_0.index t = ![t.val % 8, t.val / 16] := by decide +kernel
theorem ixB : ∀ t : Fin grid0.N, win0_1.index t = ![t.val % 8, t.val / 8 % 2] := by decide +kernel
theorem ixO : ∀ t : Fin grid0.N, win0_2.index t = ![t.val / 16, t.val / 8 % 2] := by decide +kernel

abbrev blkA (c : Dev nD) (t : Fin cfg0.N) : S1024x512.Idx → EReal := iblk m c 0 t
abbrev blkB (c : Dev nD) (t : Fin cfg0.N) : S1024x1536.Idx → EReal := iblk m c 1 t
abbrev argA (c : Dev nD) : S8192x512.Idx → EReal := m ((c : Thread nD τ).loc main_arg0)
abbrev argB (c : Dev nD) : S8192x3072.Idx → EReal := m ((c : Thread nD τ).loc main_arg2)

/-- The product of a point's two blocks. -/
abbrev term (c : Dev nD) (t : Fin cfg0.N) (j : S512x1536.Idx) : EReal :=
  ∑ k : Fin 1024, blkA m c t (ix2 k (j 0)) * blkB m c t (ix2 k (j 1))

/-- The first of a block's 8 points starts the sum. -/
theorem first (c : Dev nD) (t : Fin cfg0.N) (h : t.val % 8 = 0) (j : S512x1536.Idx) :
    (outsAt0 m c t.val t.isLt).2 j = (0 : EReal) + term m c t j := by
  rw [outsAt0_A m c t h (by omega)]
  frame_out
  pointwise [k0_pay1, k0_pay2]

/-- Every later point adds to it. -/
theorem next (c : Dev nD) (t : Fin cfg0.N) (h : ¬t.val % 8 = 0) (j : S512x1536.Idx) :
    (outsAt0 m c t.val t.isLt).2 j
      = ((outsAt0 m c (t.val - 1) (Nat.lt_of_le_of_lt (Nat.sub_le _ _) t.isLt)).2 j : EReal) + term m c t j := by
  by_cases h' : t.val % 8 = 7
  · rw [outsAt0_C m c t h h']
    frame_out [read_unread_whole]
    pointwise [k0_pay2]
  · rw [outsAt0_B m c t h h']
    frame_out [read_unread_whole]
    pointwise [k0_pay2]

/-- The last point writes the sum out. -/
theorem last (c : Dev nD) (t : Fin cfg0.N) (h : t.val % 8 = 7) (j : S512x1536.Idx) :
    (outsAt0 m c t.val t.isLt).1 j = (outsAt0 m c t.val t.isLt).2 j := by
  rw [outsAt0_C m c t (by omega) h]
  frame_out
  pointwise [k0_pay3]

theorem written (c : Dev nD) (t : Fin cfg0.N) (h : t.val % 8 = 7) (j : S512x1536.Idx) :
    ((outsAt0 m c t.val t.isLt).1 j : EReal)
      = ∑ s : Fin 8, term m c ⟨8 * (t.val / 8) + s.val, Pipeline.run_point_lt_of_flush t h s⟩ j := by
  rw [last m c t h, Pipeline.eq_sum_fin_of_reset_step_apply_of_flush (fun n h => (outsAt0 m c n h).2) 8 (fun _ => (0 : EReal)) (term m c)
    (first m c) (next m c) t h j, zero_add]

/-- The whole product. -/
abbrev total (c : Dev nD) : S512x3072.Idx → EReal := fun i =>
  ∑ x : Fin 8192, argA m c (ix2 x (i 0)) * argB m c (ix2 x (i 1))

/-- The array the call leaves. -/
theorem arr (c : Dev nD) : (dats m 0 c).arrAt 2 cfg0.N = total m c := by
  refine (dats m 0 c).arrAt_eq_of_covers 2 _ (by decide +kernel) fun t hf y => ?_
  have ht : t.val % 8 = 7 := (flush0_2 t).mp hf
  blk_simp
  rw [after0_2]
  refine (written m c t ht _).trans ?_
  refine Fin.sum_mul_add_congr (n := 1024) fun s k hl => ?_
  have hN : t.val < 16 := t.isLt
  have hs := s.isLt
  congr 1
  · blk_ext! [iblk, V, ixA, ixO]
  · blk_ext! [iblk, V, ixB, ixO]

end Cert.UkvDwIdeal.Prod

namespace Cert.UkvDwIdeal.Claims

open Idealize.ShloMosaic Idealize.SL.Sem

theorem frame_kernel : Cert.quiescent_UkvDw (hUkvDw := Cert.UkvDw.Gen.facts) := fun m ρ _ => Cert.UkvDw.Gen.frame m ρ
theorem frame_ideal : Cert.quiescent_UkvDwIdeal (hUkvDwIdeal := Cert.UkvDwIdeal.Gen.facts) := fun m ρ _ => Cert.UkvDwIdeal.Gen.frame m ρ
theorem frame_ref : Cert.quiescent_UkvDwRefIdeal (hUkvDwRefIdeal := Cert.UkvDwRefIdeal.Gen.facts) := fun m ρ _ =>
  (θ_run Cert.UkvDwRefIdeal.defs _ _).mono (fun r h => ⟨fun c => (h c).2, sem_eq_zero_of_no_sems (by decide) r.2⟩)
    (Cert.UkvDwRefIdeal.Value.run (F := Ideal) m ρ)

theorem algebraic : Cert.algebraic_UkvDwIdeal_UkvDwRefIdeal (hUkvDwIdeal := Cert.UkvDwIdeal.Gen.facts) (hUkvDwRefIdeal := Cert.UkvDwRefIdeal.Gen.facts) := by
  intro m ρ m' ρ' _ hagree
  refine ⟨Cert.UkvDwIdeal.Prod.total m, ?_, ?_⟩
  · refine (θ_run Cert.UkvDwIdeal.defs _ _).mono (fun _ h c => ⟨?_, (h c).2⟩) (Cert.UkvDwIdeal.Value.run_blocks (F := Ideal) m ρ)
    exact (h c).1.trans (Cert.UkvDwIdeal.Prod.arr m c)
  · refine (θ_run Cert.UkvDwRefIdeal.defs _ _).mono (fun _ h c => ⟨?_, (h c).2⟩) (Cert.UkvDwRefIdeal.Value.run (F := Ideal) m' ρ')
    rw [(h c).1]
    simp only [hagree c]
    refine funext fun (i : S512x3072.Idx) => ?_
    idx_vars i
    pointwise [Cert.UkvDwIdeal.Prod.total]
    exact Fintype.sum_congr _ _ fun x => mul_comm (G := EReal) _ _

end Cert.UkvDwIdeal.Claims

end
-- ==== Proof.Adam.Rule.lean ====
/- The optimiser's rule at one weight, over the extended reals: its two moments and its change. -/
module

public import Idealize.ShloMosaic.Lib.Pipeline.ValueKit
public import Idealize.ShloMosaic.Lib.Pointwise
public import Idealize.ShloMosaic.Lib.IdealHost

@[expose] public section

noncomputable section

namespace Cert.AdamRule

open Idealize.ShloMosaic

/-- A printed number. -/
abbrev num (b : BitVec 32) : EReal := Ideal.ofBits .f32 b

/-- The first moment: 0.9 of the old one, 0.1 of the gradient. -/
abbrev mean (g mu : EReal) : EReal := num 0x3F666666#32 * mu + num 0x3DCCCCCD#32 * g

/-- The second moment: 0.999 of the old one, 0.001 of the gradient's square. -/
abbrev spread (g nu : EReal) : EReal := num 0x3F7FBE77#32 * nu + num 0x3A83126F#32 * (g * g)

/-- The weight's change: the corrected first moment over the root of the corrected second one, with the decay. -/
abbrev change (w g mu nu : EReal) : EReal :=
  num 0xBA83126F#32 * (Ideal.div (Ideal.div (mean g mu) (num 0x3F26BD02#32))
      (Ideal.sqrt (Ideal.div (spread g nu) (num 0x3C231ACC#32)) + num 0x322BCC77#32)
    + num 0x3C23D70A#32 * w)

end Cert.AdamRule

end
-- ==== Proof.Adam.AdamIn.lean ====
/- AdamIn: one optimiser step of the input projection's weight, 4096 rows of 3348. -/
module

public import proofs.«01_k».proof.Defs
public import proofs.«01_k».proof.Proof.Adam.Rule
public import proofs.«01_k».proof.Proof.Gen.AdamIn.Frame
public import proofs.«01_k».proof.Proof.Gen.AdamInIdeal.Value
public import proofs.«01_k».proof.Proof.Gen.AdamInRefIdeal.Run
public import Idealize.ShloMosaic.Adequacy
public import Idealize.ShloMosaic.Init
public import Idealize.ShloMosaic.Lib.Quiescent
public import Idealize.ShloMosaic.Lib.Pipeline.ReadBack

@[expose] public section

set_option maxRecDepth 16384

noncomputable section

namespace Cert.AdamInIdeal.Step

open Cert.AdamInIdeal Cert.AdamInIdeal.Gen Idealize.ShloMosaic Idealize.ShloMosaic.TcCoe Idealize.ShloMosaic.Tactic Idealize.SL.Sem

variable (m : (ℓ : Loc nD τ sig) → Buf (Elt Ideal) ℓ)

abbrev argW (c : Dev nD) : S2x2048x3348.Idx → EReal := m ((c : Thread nD τ).loc main_arg0)
abbrev argG (c : Dev nD) : S2x2048x3348.Idx → EReal := m ((c : Thread nD τ).loc main_arg1)
abbrev argM (c : Dev nD) : S2x2048x3348.Idx → EReal := m ((c : Thread nD τ).loc main_arg2)
abbrev argV (c : Dev nD) : S2x2048x3348.Idx → EReal := m ((c : Thread nD τ).loc main_arg3)

abbrev rowW (c : Dev nD) : S4096x3348.Idx → EReal := shapeCast S4096x3348 (argW m c) shapeCasts_S2x2048x3348_S4096x3348
abbrev rowG (c : Dev nD) : S4096x3348.Idx → EReal := shapeCast S4096x3348 (argG m c) shapeCasts_S2x2048x3348_S4096x3348
abbrev rowM (c : Dev nD) : S4096x3348.Idx → EReal := shapeCast S4096x3348 (argM m c) shapeCasts_S2x2048x3348_S4096x3348
abbrev rowV (c : Dev nD) : S4096x3348.Idx → EReal := shapeCast S4096x3348 (argV m c) shapeCasts_S2x2048x3348_S4096x3348

abbrev change (c : Dev nD) : S4096x3348.Idx → EReal := fun i => Cert.AdamRule.change (rowW m c i) (rowG m c i) (rowM m c i) (rowV m c i)
abbrev mean (c : Dev nD) : S4096x3348.Idx → EReal := fun i => Cert.AdamRule.mean (rowG m c i) (rowM m c i)
abbrev spread (c : Dev nD) : S4096x3348.Idx → EReal := fun i => Cert.AdamRule.spread (rowG m c i) (rowV m c i)

/-- The three arrays the call leaves. -/
theorem arr4 (c : Dev nD) : (dats m 0 c).arrAt 4 cfg0.N = change m c := by
  refine (dats m 0 c).arrAt_eq_of_covers 4 _ (by decide +kernel) fun t hf y => ?_
  blk_simp
  rw [after0_4]
  frame_out
  pointwise [k0_pay1, k0_pay2, k0_pay3, k0_pay4]
  rfl

theorem arr5 (c : Dev nD) : (dats m 0 c).arrAt 5 cfg0.N = mean m c := by
  refine (dats m 0 c).arrAt_eq_of_covers 5 _ (by decide +kernel) fun t hf y => ?_
  blk_simp
  rw [after0_5]
  frame_out
  pointwise [k0_pay1, k0_pay2]
  rfl

theorem arr6 (c : Dev nD) : (dats m 0 c).arrAt 6 cfg0.N = spread m c := by
  refine (dats m 0 c).arrAt_eq_of_covers 6 _ (by decide +kernel) fun t hf y => ?_
  blk_simp
  rw [after0_6]
  frame_out
  pointwise [k0_pay1, k0_pay3]
  rfl

end Cert.AdamInIdeal.Step

namespace Cert.AdamInIdeal.Claims

open Idealize.ShloMosaic Idealize.SL.Sem Idealize.ShloMosaic.Tactic

theorem frame_kernel : Cert.quiescent_AdamIn (hAdamIn := Cert.AdamIn.Gen.facts) := fun m ρ _ => Cert.AdamIn.Gen.frame m ρ
theorem frame_ideal : Cert.quiescent_AdamInIdeal (hAdamInIdeal := Cert.AdamInIdeal.Gen.facts) := fun m ρ _ => Cert.AdamInIdeal.Gen.frame m ρ
theorem frame_ref : Cert.quiescent_AdamInRefIdeal (hAdamInRefIdeal := Cert.AdamInRefIdeal.Gen.facts) := fun m ρ _ =>
  (θ_run Cert.AdamInRefIdeal.defs _ _).mono (fun r h => ⟨fun c => (h c).2.2.2, sem_eq_zero_of_no_sems (by decide) r.2⟩)
    (Cert.AdamInRefIdeal.Value.run (F := Ideal) m ρ)

theorem algebraic : Cert.algebraic_AdamInIdeal_AdamInRefIdeal (hAdamInIdeal := Cert.AdamInIdeal.Gen.facts) (hAdamInRefIdeal := Cert.AdamInRefIdeal.Gen.facts) := by
  intro m ρ m' ρ' _ hagree
  refine ⟨Cert.AdamInIdeal.Step.change m, Cert.AdamInIdeal.Step.mean m, Cert.AdamInIdeal.Step.spread m, ?_, ?_⟩
  · refine (θ_run Cert.AdamInIdeal.defs _ _).mono (fun _ h c => ⟨?_, ?_, ?_, (h c).2.2.2⟩) (Cert.AdamInIdeal.Value.run_blocks (F := Ideal) m ρ)
    · exact (h c).1.trans (Cert.AdamInIdeal.Step.arr4 m c)
    · exact (h c).2.1.trans (Cert.AdamInIdeal.Step.arr5 m c)
    · exact (h c).2.2.1.trans (Cert.AdamInIdeal.Step.arr6 m c)
  · refine (θ_run Cert.AdamInRefIdeal.defs _ _).mono (fun _ h c => ⟨?_, ?_, ?_, (h c).2.2.2⟩) (Cert.AdamInRefIdeal.Value.run (F := Ideal) m' ρ')
    · rw [(h c).1]
      simp only [hagree c]
      refine funext fun (i : Cert.AdamInIdeal.S4096x3348.Idx) => ?_
      idx_vars i
      pointwise [Cert.AdamInIdeal.Step.change, Cert.AdamInIdeal.Step.rowW, Cert.AdamInIdeal.Step.rowG, Cert.AdamInIdeal.Step.rowM, Cert.AdamInIdeal.Step.rowV, Cert.AdamInIdeal.Step.argW, Cert.AdamInIdeal.Step.argG, Cert.AdamInIdeal.Step.argM, Cert.AdamInIdeal.Step.argV, Cert.AdamRule.num, Cert.AdamRule.mean, Cert.AdamRule.spread, Cert.AdamRule.change]
    · rw [(h c).2.1]
      simp only [hagree c]
      refine funext fun (i : Cert.AdamInIdeal.S4096x3348.Idx) => ?_
      idx_vars i
      pointwise [Cert.AdamInIdeal.Step.mean, Cert.AdamInIdeal.Step.rowW, Cert.AdamInIdeal.Step.rowG, Cert.AdamInIdeal.Step.rowM, Cert.AdamInIdeal.Step.rowV, Cert.AdamInIdeal.Step.argW, Cert.AdamInIdeal.Step.argG, Cert.AdamInIdeal.Step.argM, Cert.AdamInIdeal.Step.argV, Cert.AdamRule.num, Cert.AdamRule.mean, Cert.AdamRule.spread, Cert.AdamRule.change]
    · rw [(h c).2.2.1]
      simp only [hagree c]
      refine funext fun (i : Cert.AdamInIdeal.S4096x3348.Idx) => ?_
      idx_vars i
      pointwise [Cert.AdamInIdeal.Step.spread, Cert.AdamInIdeal.Step.rowW, Cert.AdamInIdeal.Step.rowG, Cert.AdamInIdeal.Step.rowM, Cert.AdamInIdeal.Step.rowV, Cert.AdamInIdeal.Step.argW, Cert.AdamInIdeal.Step.argG, Cert.AdamInIdeal.Step.argM, Cert.AdamInIdeal.Step.argV, Cert.AdamRule.num, Cert.AdamRule.mean, Cert.AdamRule.spread, Cert.AdamRule.change]

end Cert.AdamInIdeal.Claims

end
-- ==== Proof.Adam.AdamUq.lean ====
/- AdamUq: one optimiser step of the attention's query weight, 1024 rows of 384. -/
module

public import proofs.«01_k».proof.Defs
public import proofs.«01_k».proof.Proof.Adam.Rule
public import proofs.«01_k».proof.Proof.Gen.AdamUq.Frame
public import proofs.«01_k».proof.Proof.Gen.AdamUqIdeal.Value
public import proofs.«01_k».proof.Proof.Gen.AdamUqRefIdeal.Run
public import Idealize.ShloMosaic.Adequacy
public import Idealize.ShloMosaic.Init
public import Idealize.ShloMosaic.Lib.Quiescent
public import Idealize.ShloMosaic.Lib.Pipeline.ReadBack

@[expose] public section

set_option maxRecDepth 16384

noncomputable section

namespace Cert.AdamUqIdeal.Step

open Cert.AdamUqIdeal Cert.AdamUqIdeal.Gen Idealize.ShloMosaic Idealize.ShloMosaic.TcCoe Idealize.ShloMosaic.Tactic Idealize.SL.Sem

variable (m : (ℓ : Loc nD τ sig) → Buf (Elt Ideal) ℓ)

abbrev argW (c : Dev nD) : S2x512x384.Idx → EReal := m ((c : Thread nD τ).loc main_arg0)
abbrev argG (c : Dev nD) : S2x512x384.Idx → EReal := m ((c : Thread nD τ).loc main_arg1)
abbrev argM (c : Dev nD) : S2x512x384.Idx → EReal := m ((c : Thread nD τ).loc main_arg2)
abbrev argV (c : Dev nD) : S2x512x384.Idx → EReal := m ((c : Thread nD τ).loc main_arg3)

abbrev rowW (c : Dev nD) : S1024x384.Idx → EReal := shapeCast S1024x384 (argW m c) shapeCasts_S2x512x384_S1024x384
abbrev rowG (c : Dev nD) : S1024x384.Idx → EReal := shapeCast S1024x384 (argG m c) shapeCasts_S2x512x384_S1024x384
abbrev rowM (c : Dev nD) : S1024x384.Idx → EReal := shapeCast S1024x384 (argM m c) shapeCasts_S2x512x384_S1024x384
abbrev rowV (c : Dev nD) : S1024x384.Idx → EReal := shapeCast S1024x384 (argV m c) shapeCasts_S2x512x384_S1024x384

abbrev change (c : Dev nD) : S1024x384.Idx → EReal := fun i => Cert.AdamRule.change (rowW m c i) (rowG m c i) (rowM m c i) (rowV m c i)
abbrev mean (c : Dev nD) : S1024x384.Idx → EReal := fun i => Cert.AdamRule.mean (rowG m c i) (rowM m c i)
abbrev spread (c : Dev nD) : S1024x384.Idx → EReal := fun i => Cert.AdamRule.spread (rowG m c i) (rowV m c i)

/-- The three arrays the call leaves. -/
theorem arr4 (c : Dev nD) : (dats m 0 c).arrAt 4 cfg0.N = change m c := by
  refine (dats m 0 c).arrAt_eq_of_covers 4 _ (by decide +kernel) fun t hf y => ?_
  blk_simp
  rw [after0_4]
  frame_out
  pointwise [k0_pay1, k0_pay2, k0_pay3, k0_pay4]
  rfl

theorem arr5 (c : Dev nD) : (dats m 0 c).arrAt 5 cfg0.N = mean m c := by
  refine (dats m 0 c).arrAt_eq_of_covers 5 _ (by decide +kernel) fun t hf y => ?_
  blk_simp
  rw [after0_5]
  frame_out
  pointwise [k0_pay1, k0_pay2]
  rfl

theorem arr6 (c : Dev nD) : (dats m 0 c).arrAt 6 cfg0.N = spread m c := by
  refine (dats m 0 c).arrAt_eq_of_covers 6 _ (by decide +kernel) fun t hf y => ?_
  blk_simp
  rw [after0_6]
  frame_out
  pointwise [k0_pay1, k0_pay3]
  rfl

end Cert.AdamUqIdeal.Step

namespace Cert.AdamUqIdeal.Claims

open Idealize.ShloMosaic Idealize.SL.Sem Idealize.ShloMosaic.Tactic

theorem frame_kernel : Cert.quiescent_AdamUq (hAdamUq := Cert.AdamUq.Gen.facts) := fun m ρ _ => Cert.AdamUq.Gen.frame m ρ
theorem frame_ideal : Cert.quiescent_AdamUqIdeal (hAdamUqIdeal := Cert.AdamUqIdeal.Gen.facts) := fun m ρ _ => Cert.AdamUqIdeal.Gen.frame m ρ
theorem frame_ref : Cert.quiescent_AdamUqRefIdeal (hAdamUqRefIdeal := Cert.AdamUqRefIdeal.Gen.facts) := fun m ρ _ =>
  (θ_run Cert.AdamUqRefIdeal.defs _ _).mono (fun r h => ⟨fun c => (h c).2.2.2, sem_eq_zero_of_no_sems (by decide) r.2⟩)
    (Cert.AdamUqRefIdeal.Value.run (F := Ideal) m ρ)

theorem algebraic : Cert.algebraic_AdamUqIdeal_AdamUqRefIdeal (hAdamUqIdeal := Cert.AdamUqIdeal.Gen.facts) (hAdamUqRefIdeal := Cert.AdamUqRefIdeal.Gen.facts) := by
  intro m ρ m' ρ' _ hagree
  refine ⟨Cert.AdamUqIdeal.Step.change m, Cert.AdamUqIdeal.Step.mean m, Cert.AdamUqIdeal.Step.spread m, ?_, ?_⟩
  · refine (θ_run Cert.AdamUqIdeal.defs _ _).mono (fun _ h c => ⟨?_, ?_, ?_, (h c).2.2.2⟩) (Cert.AdamUqIdeal.Value.run_blocks (F := Ideal) m ρ)
    · exact (h c).1.trans (Cert.AdamUqIdeal.Step.arr4 m c)
    · exact (h c).2.1.trans (Cert.AdamUqIdeal.Step.arr5 m c)
    · exact (h c).2.2.1.trans (Cert.AdamUqIdeal.Step.arr6 m c)
  · refine (θ_run Cert.AdamUqRefIdeal.defs _ _).mono (fun _ h c => ⟨?_, ?_, ?_, (h c).2.2.2⟩) (Cert.AdamUqRefIdeal.Value.run (F := Ideal) m' ρ')
    · rw [(h c).1]
      simp only [hagree c]
      refine funext fun (i : Cert.AdamUqIdeal.S1024x384.Idx) => ?_
      idx_vars i
      pointwise [Cert.AdamUqIdeal.Step.change, Cert.AdamUqIdeal.Step.rowW, Cert.AdamUqIdeal.Step.rowG, Cert.AdamUqIdeal.Step.rowM, Cert.AdamUqIdeal.Step.rowV, Cert.AdamUqIdeal.Step.argW, Cert.AdamUqIdeal.Step.argG, Cert.AdamUqIdeal.Step.argM, Cert.AdamUqIdeal.Step.argV, Cert.AdamRule.num, Cert.AdamRule.mean, Cert.AdamRule.spread, Cert.AdamRule.change]
    · rw [(h c).2.1]
      simp only [hagree c]
      refine funext fun (i : Cert.AdamUqIdeal.S1024x384.Idx) => ?_
      idx_vars i
      pointwise [Cert.AdamUqIdeal.Step.mean, Cert.AdamUqIdeal.Step.rowW, Cert.AdamUqIdeal.Step.rowG, Cert.AdamUqIdeal.Step.rowM, Cert.AdamUqIdeal.Step.rowV, Cert.AdamUqIdeal.Step.argW, Cert.AdamUqIdeal.Step.argG, Cert.AdamUqIdeal.Step.argM, Cert.AdamUqIdeal.Step.argV, Cert.AdamRule.num, Cert.AdamRule.mean, Cert.AdamRule.spread, Cert.AdamRule.change]
    · rw [(h c).2.2.1]
      simp only [hagree c]
      refine funext fun (i : Cert.AdamUqIdeal.S1024x384.Idx) => ?_
      idx_vars i
      pointwise [Cert.AdamUqIdeal.Step.spread, Cert.AdamUqIdeal.Step.rowW, Cert.AdamUqIdeal.Step.rowG, Cert.AdamUqIdeal.Step.rowM, Cert.AdamUqIdeal.Step.rowV, Cert.AdamUqIdeal.Step.argW, Cert.AdamUqIdeal.Step.argG, Cert.AdamUqIdeal.Step.argM, Cert.AdamUqIdeal.Step.argV, Cert.AdamRule.num, Cert.AdamRule.mean, Cert.AdamRule.spread, Cert.AdamRule.change]

end Cert.AdamUqIdeal.Claims

end
-- ==== Proof.Adam.AdamUkv.lean ====
/- AdamUkv: one optimiser step of the attention's key and value weight, 1024 rows of 512. -/
module

public import proofs.«01_k».proof.Defs
public import proofs.«01_k».proof.Proof.Adam.Rule
public import proofs.«01_k».proof.Proof.Gen.AdamUkv.Frame
public import proofs.«01_k».proof.Proof.Gen.AdamUkvIdeal.Value
public import proofs.«01_k».proof.Proof.Gen.AdamUkvRefIdeal.Run
public import Idealize.ShloMosaic.Adequacy
public import Idealize.ShloMosaic.Init
public import Idealize.ShloMosaic.Lib.Quiescent
public import Idealize.ShloMosaic.Lib.Pipeline.ReadBack

@[expose] public section

set_option maxRecDepth 16384

noncomputable section

namespace Cert.AdamUkvIdeal.Step

open Cert.AdamUkvIdeal Cert.AdamUkvIdeal.Gen Idealize.ShloMosaic Idealize.ShloMosaic.TcCoe Idealize.ShloMosaic.Tactic Idealize.SL.Sem

variable (m : (ℓ : Loc nD τ sig) → Buf (Elt Ideal) ℓ)

abbrev argW (c : Dev nD) : S2x512x512.Idx → EReal := m ((c : Thread nD τ).loc main_arg0)
abbrev argG (c : Dev nD) : S2x512x512.Idx → EReal := m ((c : Thread nD τ).loc main_arg1)
abbrev argM (c : Dev nD) : S2x512x512.Idx → EReal := m ((c : Thread nD τ).loc main_arg2)
abbrev argV (c : Dev nD) : S2x512x512.Idx → EReal := m ((c : Thread nD τ).loc main_arg3)

abbrev rowW (c : Dev nD) : S1024x512.Idx → EReal := shapeCast S1024x512 (argW m c) shapeCasts_S2x512x512_S1024x512
abbrev rowG (c : Dev nD) : S1024x512.Idx → EReal := shapeCast S1024x512 (argG m c) shapeCasts_S2x512x512_S1024x512
abbrev rowM (c : Dev nD) : S1024x512.Idx → EReal := shapeCast S1024x512 (argM m c) shapeCasts_S2x512x512_S1024x512
abbrev rowV (c : Dev nD) : S1024x512.Idx → EReal := shapeCast S1024x512 (argV m c) shapeCasts_S2x512x512_S1024x512

abbrev change (c : Dev nD) : S1024x512.Idx → EReal := fun i => Cert.AdamRule.change (rowW m c i) (rowG m c i) (rowM m c i) (rowV m c i)
abbrev mean (c : Dev nD) : S1024x512.Idx → EReal := fun i => Cert.AdamRule.mean (rowG m c i) (rowM m c i)
abbrev spread (c : Dev nD) : S1024x512.Idx → EReal := fun i => Cert.AdamRule.spread (rowG m c i) (rowV m c i)

/-- The three arrays the call leaves. -/
theorem arr4 (c : Dev nD) : (dats m 0 c).arrAt 4 cfg0.N = change m c := by
  refine (dats m 0 c).arrAt_eq_of_covers 4 _ (by decide +kernel) fun t hf y => ?_
  blk_simp
  rw [after0_4]
  frame_out
  pointwise [k0_pay1, k0_pay2, k0_pay3, k0_pay4]
  rfl

theorem arr5 (c : Dev nD) : (dats m 0 c).arrAt 5 cfg0.N = mean m c := by
  refine (dats m 0 c).arrAt_eq_of_covers 5 _ (by decide +kernel) fun t hf y => ?_
  blk_simp
  rw [after0_5]
  frame_out
  pointwise [k0_pay1, k0_pay2]
  rfl

theorem arr6 (c : Dev nD) : (dats m 0 c).arrAt 6 cfg0.N = spread m c := by
  refine (dats m 0 c).arrAt_eq_of_covers 6 _ (by decide +kernel) fun t hf y => ?_
  blk_simp
  rw [after0_6]
  frame_out
  pointwise [k0_pay1, k0_pay3]
  rfl

end Cert.AdamUkvIdeal.Step

namespace Cert.AdamUkvIdeal.Claims

open Idealize.ShloMosaic Idealize.SL.Sem Idealize.ShloMosaic.Tactic

theorem frame_kernel : Cert.quiescent_AdamUkv (hAdamUkv := Cert.AdamUkv.Gen.facts) := fun m ρ _ => Cert.AdamUkv.Gen.frame m ρ
theorem frame_ideal : Cert.quiescent_AdamUkvIdeal (hAdamUkvIdeal := Cert.AdamUkvIdeal.Gen.facts) := fun m ρ _ => Cert.AdamUkvIdeal.Gen.frame m ρ
theorem frame_ref : Cert.quiescent_AdamUkvRefIdeal (hAdamUkvRefIdeal := Cert.AdamUkvRefIdeal.Gen.facts) := fun m ρ _ =>
  (θ_run Cert.AdamUkvRefIdeal.defs _ _).mono (fun r h => ⟨fun c => (h c).2.2.2, sem_eq_zero_of_no_sems (by decide) r.2⟩)
    (Cert.AdamUkvRefIdeal.Value.run (F := Ideal) m ρ)

theorem algebraic : Cert.algebraic_AdamUkvIdeal_AdamUkvRefIdeal (hAdamUkvIdeal := Cert.AdamUkvIdeal.Gen.facts) (hAdamUkvRefIdeal := Cert.AdamUkvRefIdeal.Gen.facts) := by
  intro m ρ m' ρ' _ hagree
  refine ⟨Cert.AdamUkvIdeal.Step.change m, Cert.AdamUkvIdeal.Step.mean m, Cert.AdamUkvIdeal.Step.spread m, ?_, ?_⟩
  · refine (θ_run Cert.AdamUkvIdeal.defs _ _).mono (fun _ h c => ⟨?_, ?_, ?_, (h c).2.2.2⟩) (Cert.AdamUkvIdeal.Value.run_blocks (F := Ideal) m ρ)
    · exact (h c).1.trans (Cert.AdamUkvIdeal.Step.arr4 m c)
    · exact (h c).2.1.trans (Cert.AdamUkvIdeal.Step.arr5 m c)
    · exact (h c).2.2.1.trans (Cert.AdamUkvIdeal.Step.arr6 m c)
  · refine (θ_run Cert.AdamUkvRefIdeal.defs _ _).mono (fun _ h c => ⟨?_, ?_, ?_, (h c).2.2.2⟩) (Cert.AdamUkvRefIdeal.Value.run (F := Ideal) m' ρ')
    · rw [(h c).1]
      simp only [hagree c]
      refine funext fun (i : Cert.AdamUkvIdeal.S1024x512.Idx) => ?_
      idx_vars i
      pointwise [Cert.AdamUkvIdeal.Step.change, Cert.AdamUkvIdeal.Step.rowW, Cert.AdamUkvIdeal.Step.rowG, Cert.AdamUkvIdeal.Step.rowM, Cert.AdamUkvIdeal.Step.rowV, Cert.AdamUkvIdeal.Step.argW, Cert.AdamUkvIdeal.Step.argG, Cert.AdamUkvIdeal.Step.argM, Cert.AdamUkvIdeal.Step.argV, Cert.AdamRule.num, Cert.AdamRule.mean, Cert.AdamRule.spread, Cert.AdamRule.change]
    · rw [(h c).2.1]
      simp only [hagree c]
      refine funext fun (i : Cert.AdamUkvIdeal.S1024x512.Idx) => ?_
      idx_vars i
      pointwise [Cert.AdamUkvIdeal.Step.mean, Cert.AdamUkvIdeal.Step.rowW, Cert.AdamUkvIdeal.Step.rowG, Cert.AdamUkvIdeal.Step.rowM, Cert.AdamUkvIdeal.Step.rowV, Cert.AdamUkvIdeal.Step.argW, Cert.AdamUkvIdeal.Step.argG, Cert.AdamUkvIdeal.Step.argM, Cert.AdamUkvIdeal.Step.argV, Cert.AdamRule.num, Cert.AdamRule.mean, Cert.AdamRule.spread, Cert.AdamRule.change]
    · rw [(h c).2.2.1]
      simp only [hagree c]
      refine funext fun (i : Cert.AdamUkvIdeal.S1024x512.Idx) => ?_
      idx_vars i
      pointwise [Cert.AdamUkvIdeal.Step.spread, Cert.AdamUkvIdeal.Step.rowW, Cert.AdamUkvIdeal.Step.rowG, Cert.AdamUkvIdeal.Step.rowM, Cert.AdamUkvIdeal.Step.rowV, Cert.AdamUkvIdeal.Step.argW, Cert.AdamUkvIdeal.Step.argG, Cert.AdamUkvIdeal.Step.argM, Cert.AdamUkvIdeal.Step.argV, Cert.AdamRule.num, Cert.AdamRule.mean, Cert.AdamRule.spread, Cert.AdamRule.change]

end Cert.AdamUkvIdeal.Claims

end
-- ==== Proof.Adam.AdamLru.lean ====
/- AdamLru: one optimiser step of the linear recurrence's convolution weight, 8 rows of 256. -/
module

public import proofs.«01_k».proof.Defs
public import proofs.«01_k».proof.Proof.Adam.Rule
public import proofs.«01_k».proof.Proof.Gen.AdamLru.Frame
public import proofs.«01_k».proof.Proof.Gen.AdamLruIdeal.Value
public import proofs.«01_k».proof.Proof.Gen.AdamLruRefIdeal.Run
public import Idealize.ShloMosaic.Adequacy
public import Idealize.ShloMosaic.Init
public import Idealize.ShloMosaic.Lib.Quiescent
public import Idealize.ShloMosaic.Lib.Pipeline.ReadBack

@[expose] public section

set_option maxRecDepth 16384

noncomputable section

namespace Cert.AdamLruIdeal.Step

open Cert.AdamLruIdeal Cert.AdamLruIdeal.Gen Idealize.ShloMosaic Idealize.ShloMosaic.TcCoe Idealize.ShloMosaic.Tactic Idealize.SL.Sem

variable (m : (ℓ : Loc nD τ sig) → Buf (Elt Ideal) ℓ)

abbrev argW (c : Dev nD) : S2x4x256.Idx → EReal := m ((c : Thread nD τ).loc main_arg0)
abbrev argG (c : Dev nD) : S2x4x256.Idx → EReal := m ((c : Thread nD τ).loc main_arg1)
abbrev argM (c : Dev nD) : S2x4x256.Idx → EReal := m ((c : Thread nD τ).loc main_arg2)
abbrev argV (c : Dev nD) : S2x4x256.Idx → EReal := m ((c : Thread nD τ).loc main_arg3)

abbrev rowW (c : Dev nD) : S8x256.Idx → EReal := shapeCast S8x256 (argW m c) shapeCasts_S2x4x256_S8x256
abbrev rowG (c : Dev nD) : S8x256.Idx → EReal := shapeCast S8x256 (argG m c) shapeCasts_S2x4x256_S8x256
abbrev rowM (c : Dev nD) : S8x256.Idx → EReal := shapeCast S8x256 (argM m c) shapeCasts_S2x4x256_S8x256
abbrev rowV (c : Dev nD) : S8x256.Idx → EReal := shapeCast S8x256 (argV m c) shapeCasts_S2x4x256_S8x256

abbrev change (c : Dev nD) : S8x256.Idx → EReal := fun i => Cert.AdamRule.change (rowW m c i) (rowG m c i) (rowM m c i) (rowV m c i)
abbrev mean (c : Dev nD) : S8x256.Idx → EReal := fun i => Cert.AdamRule.mean (rowG m c i) (rowM m c i)
abbrev spread (c : Dev nD) : S8x256.Idx → EReal := fun i => Cert.AdamRule.spread (rowG m c i) (rowV m c i)

/-- The three arrays the call leaves. -/
theorem arr4 (c : Dev nD) : (dats m 0 c).arrAt 4 cfg0.N = change m c := by
  refine (dats m 0 c).arrAt_eq_of_covers 4 _ (by decide +kernel) fun t hf y => ?_
  blk_simp
  rw [after0_4]
  frame_out
  pointwise [k0_pay1, k0_pay2, k0_pay3, k0_pay4]
  rfl

theorem arr5 (c : Dev nD) : (dats m 0 c).arrAt 5 cfg0.N = mean m c := by
  refine (dats m 0 c).arrAt_eq_of_covers 5 _ (by decide +kernel) fun t hf y => ?_
  blk_simp
  rw [after0_5]
  frame_out
  pointwise [k0_pay1, k0_pay2]
  rfl

theorem arr6 (c : Dev nD) : (dats m 0 c).arrAt 6 cfg0.N = spread m c := by
  refine (dats m 0 c).arrAt_eq_of_covers 6 _ (by decide +kernel) fun t hf y => ?_
  blk_simp
  rw [after0_6]
  frame_out
  pointwise [k0_pay1, k0_pay3]
  rfl

end Cert.AdamLruIdeal.Step

namespace Cert.AdamLruIdeal.Claims

open Idealize.ShloMosaic Idealize.SL.Sem Idealize.ShloMosaic.Tactic

theorem frame_kernel : Cert.quiescent_AdamLru (hAdamLru := Cert.AdamLru.Gen.facts) := fun m ρ _ => Cert.AdamLru.Gen.frame m ρ
theorem frame_ideal : Cert.quiescent_AdamLruIdeal (hAdamLruIdeal := Cert.AdamLruIdeal.Gen.facts) := fun m ρ _ => Cert.AdamLruIdeal.Gen.frame m ρ
theorem frame_ref : Cert.quiescent_AdamLruRefIdeal (hAdamLruRefIdeal := Cert.AdamLruRefIdeal.Gen.facts) := fun m ρ _ =>
  (θ_run Cert.AdamLruRefIdeal.defs _ _).mono (fun r h => ⟨fun c => (h c).2.2.2, sem_eq_zero_of_no_sems (by decide) r.2⟩)
    (Cert.AdamLruRefIdeal.Value.run (F := Ideal) m ρ)

theorem algebraic : Cert.algebraic_AdamLruIdeal_AdamLruRefIdeal (hAdamLruIdeal := Cert.AdamLruIdeal.Gen.facts) (hAdamLruRefIdeal := Cert.AdamLruRefIdeal.Gen.facts) := by
  intro m ρ m' ρ' _ hagree
  refine ⟨Cert.AdamLruIdeal.Step.change m, Cert.AdamLruIdeal.Step.mean m, Cert.AdamLruIdeal.Step.spread m, ?_, ?_⟩
  · refine (θ_run Cert.AdamLruIdeal.defs _ _).mono (fun _ h c => ⟨?_, ?_, ?_, (h c).2.2.2⟩) (Cert.AdamLruIdeal.Value.run_blocks (F := Ideal) m ρ)
    · exact (h c).1.trans (Cert.AdamLruIdeal.Step.arr4 m c)
    · exact (h c).2.1.trans (Cert.AdamLruIdeal.Step.arr5 m c)
    · exact (h c).2.2.1.trans (Cert.AdamLruIdeal.Step.arr6 m c)
  · refine (θ_run Cert.AdamLruRefIdeal.defs _ _).mono (fun _ h c => ⟨?_, ?_, ?_, (h c).2.2.2⟩) (Cert.AdamLruRefIdeal.Value.run (F := Ideal) m' ρ')
    · rw [(h c).1]
      simp only [hagree c]
      refine funext fun (i : Cert.AdamLruIdeal.S8x256.Idx) => ?_
      idx_vars i
      pointwise [Cert.AdamLruIdeal.Step.change, Cert.AdamLruIdeal.Step.rowW, Cert.AdamLruIdeal.Step.rowG, Cert.AdamLruIdeal.Step.rowM, Cert.AdamLruIdeal.Step.rowV, Cert.AdamLruIdeal.Step.argW, Cert.AdamLruIdeal.Step.argG, Cert.AdamLruIdeal.Step.argM, Cert.AdamLruIdeal.Step.argV, Cert.AdamRule.num, Cert.AdamRule.mean, Cert.AdamRule.spread, Cert.AdamRule.change]
    · rw [(h c).2.1]
      simp only [hagree c]
      refine funext fun (i : Cert.AdamLruIdeal.S8x256.Idx) => ?_
      idx_vars i
      pointwise [Cert.AdamLruIdeal.Step.mean, Cert.AdamLruIdeal.Step.rowW, Cert.AdamLruIdeal.Step.rowG, Cert.AdamLruIdeal.Step.rowM, Cert.AdamLruIdeal.Step.rowV, Cert.AdamLruIdeal.Step.argW, Cert.AdamLruIdeal.Step.argG, Cert.AdamLruIdeal.Step.argM, Cert.AdamLruIdeal.Step.argV, Cert.AdamRule.num, Cert.AdamRule.mean, Cert.AdamRule.spread, Cert.AdamRule.change]
    · rw [(h c).2.2.1]
      simp only [hagree c]
      refine funext fun (i : Cert.AdamLruIdeal.S8x256.Idx) => ?_
      idx_vars i
      pointwise [Cert.AdamLruIdeal.Step.spread, Cert.AdamLruIdeal.Step.rowW, Cert.AdamLruIdeal.Step.rowG, Cert.AdamLruIdeal.Step.rowM, Cert.AdamLruIdeal.Step.rowV, Cert.AdamLruIdeal.Step.argW, Cert.AdamLruIdeal.Step.argG, Cert.AdamLruIdeal.Step.argM, Cert.AdamLruIdeal.Step.argV, Cert.AdamRule.num, Cert.AdamRule.mean, Cert.AdamRule.spread, Cert.AdamRule.change]

end Cert.AdamLruIdeal.Claims

end
-- ==== Proof.Adam.AdamGdn.lean ====
/- AdamGdn: one optimiser step of the delta rule's convolution weight, 8 rows of 768. -/
module

public import proofs.«01_k».proof.Defs
public import proofs.«01_k».proof.Proof.Adam.Rule
public import proofs.«01_k».proof.Proof.Gen.AdamGdn.Frame
public import proofs.«01_k».proof.Proof.Gen.AdamGdnIdeal.Value
public import proofs.«01_k».proof.Proof.Gen.AdamGdnRefIdeal.Run
public import Idealize.ShloMosaic.Adequacy
public import Idealize.ShloMosaic.Init
public import Idealize.ShloMosaic.Lib.Quiescent
public import Idealize.ShloMosaic.Lib.Pipeline.ReadBack

@[expose] public section

set_option maxRecDepth 16384

noncomputable section

namespace Cert.AdamGdnIdeal.Step

open Cert.AdamGdnIdeal Cert.AdamGdnIdeal.Gen Idealize.ShloMosaic Idealize.ShloMosaic.TcCoe Idealize.ShloMosaic.Tactic Idealize.SL.Sem

variable (m : (ℓ : Loc nD τ sig) → Buf (Elt Ideal) ℓ)

abbrev argW (c : Dev nD) : S2x4x768.Idx → EReal := m ((c : Thread nD τ).loc main_arg0)
abbrev argG (c : Dev nD) : S2x4x768.Idx → EReal := m ((c : Thread nD τ).loc main_arg1)
abbrev argM (c : Dev nD) : S2x4x768.Idx → EReal := m ((c : Thread nD τ).loc main_arg2)
abbrev argV (c : Dev nD) : S2x4x768.Idx → EReal := m ((c : Thread nD τ).loc main_arg3)

abbrev rowW (c : Dev nD) : S8x768.Idx → EReal := shapeCast S8x768 (argW m c) shapeCasts_S2x4x768_S8x768
abbrev rowG (c : Dev nD) : S8x768.Idx → EReal := shapeCast S8x768 (argG m c) shapeCasts_S2x4x768_S8x768
abbrev rowM (c : Dev nD) : S8x768.Idx → EReal := shapeCast S8x768 (argM m c) shapeCasts_S2x4x768_S8x768
abbrev rowV (c : Dev nD) : S8x768.Idx → EReal := shapeCast S8x768 (argV m c) shapeCasts_S2x4x768_S8x768

abbrev change (c : Dev nD) : S8x768.Idx → EReal := fun i => Cert.AdamRule.change (rowW m c i) (rowG m c i) (rowM m c i) (rowV m c i)
abbrev mean (c : Dev nD) : S8x768.Idx → EReal := fun i => Cert.AdamRule.mean (rowG m c i) (rowM m c i)
abbrev spread (c : Dev nD) : S8x768.Idx → EReal := fun i => Cert.AdamRule.spread (rowG m c i) (rowV m c i)

/-- The three arrays the call leaves. -/
theorem arr4 (c : Dev nD) : (dats m 0 c).arrAt 4 cfg0.N = change m c := by
  refine (dats m 0 c).arrAt_eq_of_covers 4 _ (by decide +kernel) fun t hf y => ?_
  blk_simp
  rw [after0_4]
  frame_out
  pointwise [k0_pay1, k0_pay2, k0_pay3, k0_pay4]
  rfl

theorem arr5 (c : Dev nD) : (dats m 0 c).arrAt 5 cfg0.N = mean m c := by
  refine (dats m 0 c).arrAt_eq_of_covers 5 _ (by decide +kernel) fun t hf y => ?_
  blk_simp
  rw [after0_5]
  frame_out
  pointwise [k0_pay1, k0_pay2]
  rfl

theorem arr6 (c : Dev nD) : (dats m 0 c).arrAt 6 cfg0.N = spread m c := by
  refine (dats m 0 c).arrAt_eq_of_covers 6 _ (by decide +kernel) fun t hf y => ?_
  blk_simp
  rw [after0_6]
  frame_out
  pointwise [k0_pay1, k0_pay3]
  rfl

end Cert.AdamGdnIdeal.Step

namespace Cert.AdamGdnIdeal.Claims

open Idealize.ShloMosaic Idealize.SL.Sem Idealize.ShloMosaic.Tactic

theorem frame_kernel : Cert.quiescent_AdamGdn (hAdamGdn := Cert.AdamGdn.Gen.facts) := fun m ρ _ => Cert.AdamGdn.Gen.frame m ρ
theorem frame_ideal : Cert.quiescent_AdamGdnIdeal (hAdamGdnIdeal := Cert.AdamGdnIdeal.Gen.facts) := fun m ρ _ => Cert.AdamGdnIdeal.Gen.frame m ρ
theorem frame_ref : Cert.quiescent_AdamGdnRefIdeal (hAdamGdnRefIdeal := Cert.AdamGdnRefIdeal.Gen.facts) := fun m ρ _ =>
  (θ_run Cert.AdamGdnRefIdeal.defs _ _).mono (fun r h => ⟨fun c => (h c).2.2.2, sem_eq_zero_of_no_sems (by decide) r.2⟩)
    (Cert.AdamGdnRefIdeal.Value.run (F := Ideal) m ρ)

theorem algebraic : Cert.algebraic_AdamGdnIdeal_AdamGdnRefIdeal (hAdamGdnIdeal := Cert.AdamGdnIdeal.Gen.facts) (hAdamGdnRefIdeal := Cert.AdamGdnRefIdeal.Gen.facts) := by
  intro m ρ m' ρ' _ hagree
  refine ⟨Cert.AdamGdnIdeal.Step.change m, Cert.AdamGdnIdeal.Step.mean m, Cert.AdamGdnIdeal.Step.spread m, ?_, ?_⟩
  · refine (θ_run Cert.AdamGdnIdeal.defs _ _).mono (fun _ h c => ⟨?_, ?_, ?_, (h c).2.2.2⟩) (Cert.AdamGdnIdeal.Value.run_blocks (F := Ideal) m ρ)
    · exact (h c).1.trans (Cert.AdamGdnIdeal.Step.arr4 m c)
    · exact (h c).2.1.trans (Cert.AdamGdnIdeal.Step.arr5 m c)
    · exact (h c).2.2.1.trans (Cert.AdamGdnIdeal.Step.arr6 m c)
  · refine (θ_run Cert.AdamGdnRefIdeal.defs _ _).mono (fun _ h c => ⟨?_, ?_, ?_, (h c).2.2.2⟩) (Cert.AdamGdnRefIdeal.Value.run (F := Ideal) m' ρ')
    · rw [(h c).1]
      simp only [hagree c]
      refine funext fun (i : Cert.AdamGdnIdeal.S8x768.Idx) => ?_
      idx_vars i
      pointwise [Cert.AdamGdnIdeal.Step.change, Cert.AdamGdnIdeal.Step.rowW, Cert.AdamGdnIdeal.Step.rowG, Cert.AdamGdnIdeal.Step.rowM, Cert.AdamGdnIdeal.Step.rowV, Cert.AdamGdnIdeal.Step.argW, Cert.AdamGdnIdeal.Step.argG, Cert.AdamGdnIdeal.Step.argM, Cert.AdamGdnIdeal.Step.argV, Cert.AdamRule.num, Cert.AdamRule.mean, Cert.AdamRule.spread, Cert.AdamRule.change]
    · rw [(h c).2.1]
      simp only [hagree c]
      refine funext fun (i : Cert.AdamGdnIdeal.S8x768.Idx) => ?_
      idx_vars i
      pointwise [Cert.AdamGdnIdeal.Step.mean, Cert.AdamGdnIdeal.Step.rowW, Cert.AdamGdnIdeal.Step.rowG, Cert.AdamGdnIdeal.Step.rowM, Cert.AdamGdnIdeal.Step.rowV, Cert.AdamGdnIdeal.Step.argW, Cert.AdamGdnIdeal.Step.argG, Cert.AdamGdnIdeal.Step.argM, Cert.AdamGdnIdeal.Step.argV, Cert.AdamRule.num, Cert.AdamRule.mean, Cert.AdamRule.spread, Cert.AdamRule.change]
    · rw [(h c).2.2.1]
      simp only [hagree c]
      refine funext fun (i : Cert.AdamGdnIdeal.S8x768.Idx) => ?_
      idx_vars i
      pointwise [Cert.AdamGdnIdeal.Step.spread, Cert.AdamGdnIdeal.Step.rowW, Cert.AdamGdnIdeal.Step.rowG, Cert.AdamGdnIdeal.Step.rowM, Cert.AdamGdnIdeal.Step.rowV, Cert.AdamGdnIdeal.Step.argW, Cert.AdamGdnIdeal.Step.argG, Cert.AdamGdnIdeal.Step.argM, Cert.AdamGdnIdeal.Step.argV, Cert.AdamRule.num, Cert.AdamRule.mean, Cert.AdamRule.spread, Cert.AdamRule.change]

end Cert.AdamGdnIdeal.Claims

end
-- ==== Proof.Adam.AdamBranch.lean ====
/- AdamBranch: one optimiser step of the three branches' weight, 6144 rows of 512. -/
module

public import proofs.«01_k».proof.Defs
public import proofs.«01_k».proof.Proof.Adam.Rule
public import proofs.«01_k».proof.Proof.Gen.AdamBranch.Frame
public import proofs.«01_k».proof.Proof.Gen.AdamBranchIdeal.Value
public import proofs.«01_k».proof.Proof.Gen.AdamBranchRefIdeal.Run
public import Idealize.ShloMosaic.Adequacy
public import Idealize.ShloMosaic.Init
public import Idealize.ShloMosaic.Lib.Quiescent
public import Idealize.ShloMosaic.Lib.Pipeline.ReadBack

@[expose] public section

set_option maxRecDepth 16384

noncomputable section

namespace Cert.AdamBranchIdeal.Step

open Cert.AdamBranchIdeal Cert.AdamBranchIdeal.Gen Idealize.ShloMosaic Idealize.ShloMosaic.TcCoe Idealize.ShloMosaic.Tactic Idealize.SL.Sem

variable (m : (ℓ : Loc nD τ sig) → Buf (Elt Ideal) ℓ)

abbrev argW (c : Dev nD) : S2x3x1024x512.Idx → EReal := m ((c : Thread nD τ).loc main_arg0)
abbrev argG (c : Dev nD) : S2x3x1024x512.Idx → EReal := m ((c : Thread nD τ).loc main_arg1)
abbrev argM (c : Dev nD) : S2x3x1024x512.Idx → EReal := m ((c : Thread nD τ).loc main_arg2)
abbrev argV (c : Dev nD) : S2x3x1024x512.Idx → EReal := m ((c : Thread nD τ).loc main_arg3)

abbrev rowW (c : Dev nD) : S6144x512.Idx → EReal := shapeCast S6144x512 (argW m c) shapeCasts_S2x3x1024x512_S6144x512
abbrev rowG (c : Dev nD) : S6144x512.Idx → EReal := shapeCast S6144x512 (argG m c) shapeCasts_S2x3x1024x512_S6144x512
abbrev rowM (c : Dev nD) : S6144x512.Idx → EReal := shapeCast S6144x512 (argM m c) shapeCasts_S2x3x1024x512_S6144x512
abbrev rowV (c : Dev nD) : S6144x512.Idx → EReal := shapeCast S6144x512 (argV m c) shapeCasts_S2x3x1024x512_S6144x512

abbrev change (c : Dev nD) : S6144x512.Idx → EReal := fun i => Cert.AdamRule.change (rowW m c i) (rowG m c i) (rowM m c i) (rowV m c i)
abbrev mean (c : Dev nD) : S6144x512.Idx → EReal := fun i => Cert.AdamRule.mean (rowG m c i) (rowM m c i)
abbrev spread (c : Dev nD) : S6144x512.Idx → EReal := fun i => Cert.AdamRule.spread (rowG m c i) (rowV m c i)

/-- The three arrays the call leaves. -/
theorem arr4 (c : Dev nD) : (dats m 0 c).arrAt 4 cfg0.N = change m c := by
  refine (dats m 0 c).arrAt_eq_of_covers 4 _ (by decide +kernel) fun t hf y => ?_
  blk_simp
  rw [after0_4]
  frame_out
  pointwise [k0_pay1, k0_pay2, k0_pay3, k0_pay4]
  rfl

theorem arr5 (c : Dev nD) : (dats m 0 c).arrAt 5 cfg0.N = mean m c := by
  refine (dats m 0 c).arrAt_eq_of_covers 5 _ (by decide +kernel) fun t hf y => ?_
  blk_simp
  rw [after0_5]
  frame_out
  pointwise [k0_pay1, k0_pay2]
  rfl

theorem arr6 (c : Dev nD) : (dats m 0 c).arrAt 6 cfg0.N = spread m c := by
  refine (dats m 0 c).arrAt_eq_of_covers 6 _ (by decide +kernel) fun t hf y => ?_
  blk_simp
  rw [after0_6]
  frame_out
  pointwise [k0_pay1, k0_pay3]
  rfl

end Cert.AdamBranchIdeal.Step

namespace Cert.AdamBranchIdeal.Claims

open Idealize.ShloMosaic Idealize.SL.Sem Idealize.ShloMosaic.Tactic

theorem frame_kernel : Cert.quiescent_AdamBranch (hAdamBranch := Cert.AdamBranch.Gen.facts) := fun m ρ _ => Cert.AdamBranch.Gen.frame m ρ
theorem frame_ideal : Cert.quiescent_AdamBranchIdeal (hAdamBranchIdeal := Cert.AdamBranchIdeal.Gen.facts) := fun m ρ _ => Cert.AdamBranchIdeal.Gen.frame m ρ
theorem frame_ref : Cert.quiescent_AdamBranchRefIdeal (hAdamBranchRefIdeal := Cert.AdamBranchRefIdeal.Gen.facts) := fun m ρ _ =>
  (θ_run Cert.AdamBranchRefIdeal.defs _ _).mono (fun r h => ⟨fun c => (h c).2.2.2, sem_eq_zero_of_no_sems (by decide) r.2⟩)
    (Cert.AdamBranchRefIdeal.Value.run (F := Ideal) m ρ)

theorem algebraic : Cert.algebraic_AdamBranchIdeal_AdamBranchRefIdeal (hAdamBranchIdeal := Cert.AdamBranchIdeal.Gen.facts) (hAdamBranchRefIdeal := Cert.AdamBranchRefIdeal.Gen.facts) := by
  intro m ρ m' ρ' _ hagree
  refine ⟨Cert.AdamBranchIdeal.Step.change m, Cert.AdamBranchIdeal.Step.mean m, Cert.AdamBranchIdeal.Step.spread m, ?_, ?_⟩
  · refine (θ_run Cert.AdamBranchIdeal.defs _ _).mono (fun _ h c => ⟨?_, ?_, ?_, (h c).2.2.2⟩) (Cert.AdamBranchIdeal.Value.run_blocks (F := Ideal) m ρ)
    · exact (h c).1.trans (Cert.AdamBranchIdeal.Step.arr4 m c)
    · exact (h c).2.1.trans (Cert.AdamBranchIdeal.Step.arr5 m c)
    · exact (h c).2.2.1.trans (Cert.AdamBranchIdeal.Step.arr6 m c)
  · refine (θ_run Cert.AdamBranchRefIdeal.defs _ _).mono (fun _ h c => ⟨?_, ?_, ?_, (h c).2.2.2⟩) (Cert.AdamBranchRefIdeal.Value.run (F := Ideal) m' ρ')
    · rw [(h c).1]
      simp only [hagree c]
      refine funext fun (i : Cert.AdamBranchIdeal.S6144x512.Idx) => ?_
      idx_vars i
      pointwise [Cert.AdamBranchIdeal.Step.change, Cert.AdamBranchIdeal.Step.rowW, Cert.AdamBranchIdeal.Step.rowG, Cert.AdamBranchIdeal.Step.rowM, Cert.AdamBranchIdeal.Step.rowV, Cert.AdamBranchIdeal.Step.argW, Cert.AdamBranchIdeal.Step.argG, Cert.AdamBranchIdeal.Step.argM, Cert.AdamBranchIdeal.Step.argV, Cert.AdamRule.num, Cert.AdamRule.mean, Cert.AdamRule.spread, Cert.AdamRule.change]
    · rw [(h c).2.1]
      simp only [hagree c]
      refine funext fun (i : Cert.AdamBranchIdeal.S6144x512.Idx) => ?_
      idx_vars i
      pointwise [Cert.AdamBranchIdeal.Step.mean, Cert.AdamBranchIdeal.Step.rowW, Cert.AdamBranchIdeal.Step.rowG, Cert.AdamBranchIdeal.Step.rowM, Cert.AdamBranchIdeal.Step.rowV, Cert.AdamBranchIdeal.Step.argW, Cert.AdamBranchIdeal.Step.argG, Cert.AdamBranchIdeal.Step.argM, Cert.AdamBranchIdeal.Step.argV, Cert.AdamRule.num, Cert.AdamRule.mean, Cert.AdamRule.spread, Cert.AdamRule.change]
    · rw [(h c).2.2.1]
      simp only [hagree c]
      refine funext fun (i : Cert.AdamBranchIdeal.S6144x512.Idx) => ?_
      idx_vars i
      pointwise [Cert.AdamBranchIdeal.Step.spread, Cert.AdamBranchIdeal.Step.rowW, Cert.AdamBranchIdeal.Step.rowG, Cert.AdamBranchIdeal.Step.rowM, Cert.AdamBranchIdeal.Step.rowV, Cert.AdamBranchIdeal.Step.argW, Cert.AdamBranchIdeal.Step.argG, Cert.AdamBranchIdeal.Step.argM, Cert.AdamBranchIdeal.Step.argV, Cert.AdamRule.num, Cert.AdamRule.mean, Cert.AdamRule.spread, Cert.AdamRule.change]

end Cert.AdamBranchIdeal.Claims

end
-- ==== Proof.Adam.AdamBias.lean ====
/- AdamBias: one optimiser step of the gates' bias, 6 rows of 512. -/
module

public import proofs.«01_k».proof.Defs
public import proofs.«01_k».proof.Proof.Adam.Rule
public import proofs.«01_k».proof.Proof.Gen.AdamBias.Frame
public import proofs.«01_k».proof.Proof.Gen.AdamBiasIdeal.Value
public import proofs.«01_k».proof.Proof.Gen.AdamBiasRefIdeal.Run
public import Idealize.ShloMosaic.Adequacy
public import Idealize.ShloMosaic.Init
public import Idealize.ShloMosaic.Lib.Quiescent
public import Idealize.ShloMosaic.Lib.Pipeline.ReadBack

@[expose] public section

set_option maxRecDepth 16384

noncomputable section

namespace Cert.AdamBiasIdeal.Step

open Cert.AdamBiasIdeal Cert.AdamBiasIdeal.Gen Idealize.ShloMosaic Idealize.ShloMosaic.TcCoe Idealize.ShloMosaic.Tactic Idealize.SL.Sem

variable (m : (ℓ : Loc nD τ sig) → Buf (Elt Ideal) ℓ)

abbrev argW (c : Dev nD) : S2x3x512.Idx → EReal := m ((c : Thread nD τ).loc main_arg0)
abbrev argG (c : Dev nD) : S2x3x512.Idx → EReal := m ((c : Thread nD τ).loc main_arg1)
abbrev argM (c : Dev nD) : S2x3x512.Idx → EReal := m ((c : Thread nD τ).loc main_arg2)
abbrev argV (c : Dev nD) : S2x3x512.Idx → EReal := m ((c : Thread nD τ).loc main_arg3)

abbrev rowW (c : Dev nD) : S6x512.Idx → EReal := shapeCast S6x512 (argW m c) shapeCasts_S2x3x512_S6x512
abbrev rowG (c : Dev nD) : S6x512.Idx → EReal := shapeCast S6x512 (argG m c) shapeCasts_S2x3x512_S6x512
abbrev rowM (c : Dev nD) : S6x512.Idx → EReal := shapeCast S6x512 (argM m c) shapeCasts_S2x3x512_S6x512
abbrev rowV (c : Dev nD) : S6x512.Idx → EReal := shapeCast S6x512 (argV m c) shapeCasts_S2x3x512_S6x512

abbrev change (c : Dev nD) : S6x512.Idx → EReal := fun i => Cert.AdamRule.change (rowW m c i) (rowG m c i) (rowM m c i) (rowV m c i)
abbrev mean (c : Dev nD) : S6x512.Idx → EReal := fun i => Cert.AdamRule.mean (rowG m c i) (rowM m c i)
abbrev spread (c : Dev nD) : S6x512.Idx → EReal := fun i => Cert.AdamRule.spread (rowG m c i) (rowV m c i)

/-- The three arrays the call leaves. -/
theorem arr4 (c : Dev nD) : (dats m 0 c).arrAt 4 cfg0.N = change m c := by
  refine (dats m 0 c).arrAt_eq_of_covers 4 _ (by decide +kernel) fun t hf y => ?_
  blk_simp
  rw [after0_4]
  frame_out
  pointwise [k0_pay1, k0_pay2, k0_pay3, k0_pay4]
  rfl

theorem arr5 (c : Dev nD) : (dats m 0 c).arrAt 5 cfg0.N = mean m c := by
  refine (dats m 0 c).arrAt_eq_of_covers 5 _ (by decide +kernel) fun t hf y => ?_
  blk_simp
  rw [after0_5]
  frame_out
  pointwise [k0_pay1, k0_pay2]
  rfl

theorem arr6 (c : Dev nD) : (dats m 0 c).arrAt 6 cfg0.N = spread m c := by
  refine (dats m 0 c).arrAt_eq_of_covers 6 _ (by decide +kernel) fun t hf y => ?_
  blk_simp
  rw [after0_6]
  frame_out
  pointwise [k0_pay1, k0_pay3]
  rfl

end Cert.AdamBiasIdeal.Step

namespace Cert.AdamBiasIdeal.Claims

open Idealize.ShloMosaic Idealize.SL.Sem Idealize.ShloMosaic.Tactic

theorem frame_kernel : Cert.quiescent_AdamBias (hAdamBias := Cert.AdamBias.Gen.facts) := fun m ρ _ => Cert.AdamBias.Gen.frame m ρ
theorem frame_ideal : Cert.quiescent_AdamBiasIdeal (hAdamBiasIdeal := Cert.AdamBiasIdeal.Gen.facts) := fun m ρ _ => Cert.AdamBiasIdeal.Gen.frame m ρ
theorem frame_ref : Cert.quiescent_AdamBiasRefIdeal (hAdamBiasRefIdeal := Cert.AdamBiasRefIdeal.Gen.facts) := fun m ρ _ =>
  (θ_run Cert.AdamBiasRefIdeal.defs _ _).mono (fun r h => ⟨fun c => (h c).2.2.2, sem_eq_zero_of_no_sems (by decide) r.2⟩)
    (Cert.AdamBiasRefIdeal.Value.run (F := Ideal) m ρ)

theorem algebraic : Cert.algebraic_AdamBiasIdeal_AdamBiasRefIdeal (hAdamBiasIdeal := Cert.AdamBiasIdeal.Gen.facts) (hAdamBiasRefIdeal := Cert.AdamBiasRefIdeal.Gen.facts) := by
  intro m ρ m' ρ' _ hagree
  refine ⟨Cert.AdamBiasIdeal.Step.change m, Cert.AdamBiasIdeal.Step.mean m, Cert.AdamBiasIdeal.Step.spread m, ?_, ?_⟩
  · refine (θ_run Cert.AdamBiasIdeal.defs _ _).mono (fun _ h c => ⟨?_, ?_, ?_, (h c).2.2.2⟩) (Cert.AdamBiasIdeal.Value.run_blocks (F := Ideal) m ρ)
    · exact (h c).1.trans (Cert.AdamBiasIdeal.Step.arr4 m c)
    · exact (h c).2.1.trans (Cert.AdamBiasIdeal.Step.arr5 m c)
    · exact (h c).2.2.1.trans (Cert.AdamBiasIdeal.Step.arr6 m c)
  · refine (θ_run Cert.AdamBiasRefIdeal.defs _ _).mono (fun _ h c => ⟨?_, ?_, ?_, (h c).2.2.2⟩) (Cert.AdamBiasRefIdeal.Value.run (F := Ideal) m' ρ')
    · rw [(h c).1]
      simp only [hagree c]
      refine funext fun (i : Cert.AdamBiasIdeal.S6x512.Idx) => ?_
      idx_vars i
      pointwise [Cert.AdamBiasIdeal.Step.change, Cert.AdamBiasIdeal.Step.rowW, Cert.AdamBiasIdeal.Step.rowG, Cert.AdamBiasIdeal.Step.rowM, Cert.AdamBiasIdeal.Step.rowV, Cert.AdamBiasIdeal.Step.argW, Cert.AdamBiasIdeal.Step.argG, Cert.AdamBiasIdeal.Step.argM, Cert.AdamBiasIdeal.Step.argV, Cert.AdamRule.num, Cert.AdamRule.mean, Cert.AdamRule.spread, Cert.AdamRule.change]
    · rw [(h c).2.1]
      simp only [hagree c]
      refine funext fun (i : Cert.AdamBiasIdeal.S6x512.Idx) => ?_
      idx_vars i
      pointwise [Cert.AdamBiasIdeal.Step.mean, Cert.AdamBiasIdeal.Step.rowW, Cert.AdamBiasIdeal.Step.rowG, Cert.AdamBiasIdeal.Step.rowM, Cert.AdamBiasIdeal.Step.rowV, Cert.AdamBiasIdeal.Step.argW, Cert.AdamBiasIdeal.Step.argG, Cert.AdamBiasIdeal.Step.argM, Cert.AdamBiasIdeal.Step.argV, Cert.AdamRule.num, Cert.AdamRule.mean, Cert.AdamRule.spread, Cert.AdamRule.change]
    · rw [(h c).2.2.1]
      simp only [hagree c]
      refine funext fun (i : Cert.AdamBiasIdeal.S6x512.Idx) => ?_
      idx_vars i
      pointwise [Cert.AdamBiasIdeal.Step.spread, Cert.AdamBiasIdeal.Step.rowW, Cert.AdamBiasIdeal.Step.rowG, Cert.AdamBiasIdeal.Step.rowM, Cert.AdamBiasIdeal.Step.rowV, Cert.AdamBiasIdeal.Step.argW, Cert.AdamBiasIdeal.Step.argG, Cert.AdamBiasIdeal.Step.argM, Cert.AdamBiasIdeal.Step.argV, Cert.AdamRule.num, Cert.AdamRule.mean, Cert.AdamRule.spread, Cert.AdamRule.change]

end Cert.AdamBiasIdeal.Claims

end
-- ==== Proof.Adam.AdamOut.lean ====
/- AdamOut: one optimiser step of the output projection's weight, 1024 rows of 2048. -/
module

public import proofs.«01_k».proof.Defs
public import proofs.«01_k».proof.Proof.Adam.Rule
public import proofs.«01_k».proof.Proof.Gen.AdamOut.Frame
public import proofs.«01_k».proof.Proof.Gen.AdamOutIdeal.Value
public import proofs.«01_k».proof.Proof.Gen.AdamOutRefIdeal.Run
public import Idealize.ShloMosaic.Adequacy
public import Idealize.ShloMosaic.Init
public import Idealize.ShloMosaic.Lib.Quiescent
public import Idealize.ShloMosaic.Lib.Pipeline.ReadBack

@[expose] public section

set_option maxRecDepth 16384

noncomputable section

namespace Cert.AdamOutIdeal.Step

open Cert.AdamOutIdeal Cert.AdamOutIdeal.Gen Idealize.ShloMosaic Idealize.ShloMosaic.TcCoe Idealize.ShloMosaic.Tactic Idealize.SL.Sem

variable (m : (ℓ : Loc nD τ sig) → Buf (Elt Ideal) ℓ)

abbrev argW (c : Dev nD) : S2x512x2048.Idx → EReal := m ((c : Thread nD τ).loc main_arg0)
abbrev argG (c : Dev nD) : S2x512x2048.Idx → EReal := m ((c : Thread nD τ).loc main_arg1)
abbrev argM (c : Dev nD) : S2x512x2048.Idx → EReal := m ((c : Thread nD τ).loc main_arg2)
abbrev argV (c : Dev nD) : S2x512x2048.Idx → EReal := m ((c : Thread nD τ).loc main_arg3)

abbrev rowW (c : Dev nD) : S1024x2048.Idx → EReal := shapeCast S1024x2048 (argW m c) shapeCasts_S2x512x2048_S1024x2048
abbrev rowG (c : Dev nD) : S1024x2048.Idx → EReal := shapeCast S1024x2048 (argG m c) shapeCasts_S2x512x2048_S1024x2048
abbrev rowM (c : Dev nD) : S1024x2048.Idx → EReal := shapeCast S1024x2048 (argM m c) shapeCasts_S2x512x2048_S1024x2048
abbrev rowV (c : Dev nD) : S1024x2048.Idx → EReal := shapeCast S1024x2048 (argV m c) shapeCasts_S2x512x2048_S1024x2048

abbrev change (c : Dev nD) : S1024x2048.Idx → EReal := fun i => Cert.AdamRule.change (rowW m c i) (rowG m c i) (rowM m c i) (rowV m c i)
abbrev mean (c : Dev nD) : S1024x2048.Idx → EReal := fun i => Cert.AdamRule.mean (rowG m c i) (rowM m c i)
abbrev spread (c : Dev nD) : S1024x2048.Idx → EReal := fun i => Cert.AdamRule.spread (rowG m c i) (rowV m c i)

/-- The three arrays the call leaves. -/
theorem arr4 (c : Dev nD) : (dats m 0 c).arrAt 4 cfg0.N = change m c := by
  refine (dats m 0 c).arrAt_eq_of_covers 4 _ (by decide +kernel) fun t hf y => ?_
  blk_simp
  rw [after0_4]
  frame_out
  pointwise [k0_pay1, k0_pay2, k0_pay3, k0_pay4]
  rfl

theorem arr5 (c : Dev nD) : (dats m 0 c).arrAt 5 cfg0.N = mean m c := by
  refine (dats m 0 c).arrAt_eq_of_covers 5 _ (by decide +kernel) fun t hf y => ?_
  blk_simp
  rw [after0_5]
  frame_out
  pointwise [k0_pay1, k0_pay2]
  rfl

theorem arr6 (c : Dev nD) : (dats m 0 c).arrAt 6 cfg0.N = spread m c := by
  refine (dats m 0 c).arrAt_eq_of_covers 6 _ (by decide +kernel) fun t hf y => ?_
  blk_simp
  rw [after0_6]
  frame_out
  pointwise [k0_pay1, k0_pay3]
  rfl

end Cert.AdamOutIdeal.Step

namespace Cert.AdamOutIdeal.Claims

open Idealize.ShloMosaic Idealize.SL.Sem Idealize.ShloMosaic.Tactic

theorem frame_kernel : Cert.quiescent_AdamOut (hAdamOut := Cert.AdamOut.Gen.facts) := fun m ρ _ => Cert.AdamOut.Gen.frame m ρ
theorem frame_ideal : Cert.quiescent_AdamOutIdeal (hAdamOutIdeal := Cert.AdamOutIdeal.Gen.facts) := fun m ρ _ => Cert.AdamOutIdeal.Gen.frame m ρ
theorem frame_ref : Cert.quiescent_AdamOutRefIdeal (hAdamOutRefIdeal := Cert.AdamOutRefIdeal.Gen.facts) := fun m ρ _ =>
  (θ_run Cert.AdamOutRefIdeal.defs _ _).mono (fun r h => ⟨fun c => (h c).2.2.2, sem_eq_zero_of_no_sems (by decide) r.2⟩)
    (Cert.AdamOutRefIdeal.Value.run (F := Ideal) m ρ)

theorem algebraic : Cert.algebraic_AdamOutIdeal_AdamOutRefIdeal (hAdamOutIdeal := Cert.AdamOutIdeal.Gen.facts) (hAdamOutRefIdeal := Cert.AdamOutRefIdeal.Gen.facts) := by
  intro m ρ m' ρ' _ hagree
  refine ⟨Cert.AdamOutIdeal.Step.change m, Cert.AdamOutIdeal.Step.mean m, Cert.AdamOutIdeal.Step.spread m, ?_, ?_⟩
  · refine (θ_run Cert.AdamOutIdeal.defs _ _).mono (fun _ h c => ⟨?_, ?_, ?_, (h c).2.2.2⟩) (Cert.AdamOutIdeal.Value.run_blocks (F := Ideal) m ρ)
    · exact (h c).1.trans (Cert.AdamOutIdeal.Step.arr4 m c)
    · exact (h c).2.1.trans (Cert.AdamOutIdeal.Step.arr5 m c)
    · exact (h c).2.2.1.trans (Cert.AdamOutIdeal.Step.arr6 m c)
  · refine (θ_run Cert.AdamOutRefIdeal.defs _ _).mono (fun _ h c => ⟨?_, ?_, ?_, (h c).2.2.2⟩) (Cert.AdamOutRefIdeal.Value.run (F := Ideal) m' ρ')
    · rw [(h c).1]
      simp only [hagree c]
      refine funext fun (i : Cert.AdamOutIdeal.S1024x2048.Idx) => ?_
      idx_vars i
      pointwise [Cert.AdamOutIdeal.Step.change, Cert.AdamOutIdeal.Step.rowW, Cert.AdamOutIdeal.Step.rowG, Cert.AdamOutIdeal.Step.rowM, Cert.AdamOutIdeal.Step.rowV, Cert.AdamOutIdeal.Step.argW, Cert.AdamOutIdeal.Step.argG, Cert.AdamOutIdeal.Step.argM, Cert.AdamOutIdeal.Step.argV, Cert.AdamRule.num, Cert.AdamRule.mean, Cert.AdamRule.spread, Cert.AdamRule.change]
    · rw [(h c).2.1]
      simp only [hagree c]
      refine funext fun (i : Cert.AdamOutIdeal.S1024x2048.Idx) => ?_
      idx_vars i
      pointwise [Cert.AdamOutIdeal.Step.mean, Cert.AdamOutIdeal.Step.rowW, Cert.AdamOutIdeal.Step.rowG, Cert.AdamOutIdeal.Step.rowM, Cert.AdamOutIdeal.Step.rowV, Cert.AdamOutIdeal.Step.argW, Cert.AdamOutIdeal.Step.argG, Cert.AdamOutIdeal.Step.argM, Cert.AdamOutIdeal.Step.argV, Cert.AdamRule.num, Cert.AdamRule.mean, Cert.AdamRule.spread, Cert.AdamRule.change]
    · rw [(h c).2.2.1]
      simp only [hagree c]
      refine funext fun (i : Cert.AdamOutIdeal.S1024x2048.Idx) => ?_
      idx_vars i
      pointwise [Cert.AdamOutIdeal.Step.spread, Cert.AdamOutIdeal.Step.rowW, Cert.AdamOutIdeal.Step.rowG, Cert.AdamOutIdeal.Step.rowM, Cert.AdamOutIdeal.Step.rowV, Cert.AdamOutIdeal.Step.argW, Cert.AdamOutIdeal.Step.argG, Cert.AdamOutIdeal.Step.argM, Cert.AdamOutIdeal.Step.argV, Cert.AdamRule.num, Cert.AdamRule.mean, Cert.AdamRule.spread, Cert.AdamRule.change]

end Cert.AdamOutIdeal.Claims

end
-- ==== Proof.Adam.AdamGate.lean ====
/- AdamGate: one optimiser step of a gate or up weight of the feed-forward block, 4096 rows of 1408. -/
module

public import proofs.«01_k».proof.Defs
public import proofs.«01_k».proof.Proof.Adam.Rule
public import proofs.«01_k».proof.Proof.Gen.AdamGate.Frame
public import proofs.«01_k».proof.Proof.Gen.AdamGateIdeal.Value
public import proofs.«01_k».proof.Proof.Gen.AdamGateRefIdeal.Run
public import Idealize.ShloMosaic.Adequacy
public import Idealize.ShloMosaic.Init
public import Idealize.ShloMosaic.Lib.Quiescent
public import Idealize.ShloMosaic.Lib.Pipeline.ReadBack

@[expose] public section

set_option maxRecDepth 16384

noncomputable section

namespace Cert.AdamGateIdeal.Step

open Cert.AdamGateIdeal Cert.AdamGateIdeal.Gen Idealize.ShloMosaic Idealize.ShloMosaic.TcCoe Idealize.ShloMosaic.Tactic Idealize.SL.Sem

variable (m : (ℓ : Loc nD τ sig) → Buf (Elt Ideal) ℓ)

abbrev argW (c : Dev nD) : S2x2048x1408.Idx → EReal := m ((c : Thread nD τ).loc main_arg0)
abbrev argG (c : Dev nD) : S2x2048x1408.Idx → EReal := m ((c : Thread nD τ).loc main_arg1)
abbrev argM (c : Dev nD) : S2x2048x1408.Idx → EReal := m ((c : Thread nD τ).loc main_arg2)
abbrev argV (c : Dev nD) : S2x2048x1408.Idx → EReal := m ((c : Thread nD τ).loc main_arg3)

abbrev rowW (c : Dev nD) : S4096x1408.Idx → EReal := shapeCast S4096x1408 (argW m c) shapeCasts_S2x2048x1408_S4096x1408
abbrev rowG (c : Dev nD) : S4096x1408.Idx → EReal := shapeCast S4096x1408 (argG m c) shapeCasts_S2x2048x1408_S4096x1408
abbrev rowM (c : Dev nD) : S4096x1408.Idx → EReal := shapeCast S4096x1408 (argM m c) shapeCasts_S2x2048x1408_S4096x1408
abbrev rowV (c : Dev nD) : S4096x1408.Idx → EReal := shapeCast S4096x1408 (argV m c) shapeCasts_S2x2048x1408_S4096x1408

abbrev change (c : Dev nD) : S4096x1408.Idx → EReal := fun i => Cert.AdamRule.change (rowW m c i) (rowG m c i) (rowM m c i) (rowV m c i)
abbrev mean (c : Dev nD) : S4096x1408.Idx → EReal := fun i => Cert.AdamRule.mean (rowG m c i) (rowM m c i)
abbrev spread (c : Dev nD) : S4096x1408.Idx → EReal := fun i => Cert.AdamRule.spread (rowG m c i) (rowV m c i)

/-- The three arrays the call leaves. -/
theorem arr4 (c : Dev nD) : (dats m 0 c).arrAt 4 cfg0.N = change m c := by
  refine (dats m 0 c).arrAt_eq_of_covers 4 _ (by decide +kernel) fun t hf y => ?_
  blk_simp
  rw [after0_4]
  frame_out
  pointwise [k0_pay1, k0_pay2, k0_pay3, k0_pay4]
  rfl

theorem arr5 (c : Dev nD) : (dats m 0 c).arrAt 5 cfg0.N = mean m c := by
  refine (dats m 0 c).arrAt_eq_of_covers 5 _ (by decide +kernel) fun t hf y => ?_
  blk_simp
  rw [after0_5]
  frame_out
  pointwise [k0_pay1, k0_pay2]
  rfl

theorem arr6 (c : Dev nD) : (dats m 0 c).arrAt 6 cfg0.N = spread m c := by
  refine (dats m 0 c).arrAt_eq_of_covers 6 _ (by decide +kernel) fun t hf y => ?_
  blk_simp
  rw [after0_6]
  frame_out
  pointwise [k0_pay1, k0_pay3]
  rfl

end Cert.AdamGateIdeal.Step

namespace Cert.AdamGateIdeal.Claims

open Idealize.ShloMosaic Idealize.SL.Sem Idealize.ShloMosaic.Tactic

theorem frame_kernel : Cert.quiescent_AdamGate (hAdamGate := Cert.AdamGate.Gen.facts) := fun m ρ _ => Cert.AdamGate.Gen.frame m ρ
theorem frame_ideal : Cert.quiescent_AdamGateIdeal (hAdamGateIdeal := Cert.AdamGateIdeal.Gen.facts) := fun m ρ _ => Cert.AdamGateIdeal.Gen.frame m ρ
theorem frame_ref : Cert.quiescent_AdamGateRefIdeal (hAdamGateRefIdeal := Cert.AdamGateRefIdeal.Gen.facts) := fun m ρ _ =>
  (θ_run Cert.AdamGateRefIdeal.defs _ _).mono (fun r h => ⟨fun c => (h c).2.2.2, sem_eq_zero_of_no_sems (by decide) r.2⟩)
    (Cert.AdamGateRefIdeal.Value.run (F := Ideal) m ρ)

theorem algebraic : Cert.algebraic_AdamGateIdeal_AdamGateRefIdeal (hAdamGateIdeal := Cert.AdamGateIdeal.Gen.facts) (hAdamGateRefIdeal := Cert.AdamGateRefIdeal.Gen.facts) := by
  intro m ρ m' ρ' _ hagree
  refine ⟨Cert.AdamGateIdeal.Step.change m, Cert.AdamGateIdeal.Step.mean m, Cert.AdamGateIdeal.Step.spread m, ?_, ?_⟩
  · refine (θ_run Cert.AdamGateIdeal.defs _ _).mono (fun _ h c => ⟨?_, ?_, ?_, (h c).2.2.2⟩) (Cert.AdamGateIdeal.Value.run_blocks (F := Ideal) m ρ)
    · exact (h c).1.trans (Cert.AdamGateIdeal.Step.arr4 m c)
    · exact (h c).2.1.trans (Cert.AdamGateIdeal.Step.arr5 m c)
    · exact (h c).2.2.1.trans (Cert.AdamGateIdeal.Step.arr6 m c)
  · refine (θ_run Cert.AdamGateRefIdeal.defs _ _).mono (fun _ h c => ⟨?_, ?_, ?_, (h c).2.2.2⟩) (Cert.AdamGateRefIdeal.Value.run (F := Ideal) m' ρ')
    · rw [(h c).1]
      simp only [hagree c]
      refine funext fun (i : Cert.AdamGateIdeal.S4096x1408.Idx) => ?_
      idx_vars i
      pointwise [Cert.AdamGateIdeal.Step.change, Cert.AdamGateIdeal.Step.rowW, Cert.AdamGateIdeal.Step.rowG, Cert.AdamGateIdeal.Step.rowM, Cert.AdamGateIdeal.Step.rowV, Cert.AdamGateIdeal.Step.argW, Cert.AdamGateIdeal.Step.argG, Cert.AdamGateIdeal.Step.argM, Cert.AdamGateIdeal.Step.argV, Cert.AdamRule.num, Cert.AdamRule.mean, Cert.AdamRule.spread, Cert.AdamRule.change]
    · rw [(h c).2.1]
      simp only [hagree c]
      refine funext fun (i : Cert.AdamGateIdeal.S4096x1408.Idx) => ?_
      idx_vars i
      pointwise [Cert.AdamGateIdeal.Step.mean, Cert.AdamGateIdeal.Step.rowW, Cert.AdamGateIdeal.Step.rowG, Cert.AdamGateIdeal.Step.rowM, Cert.AdamGateIdeal.Step.rowV, Cert.AdamGateIdeal.Step.argW, Cert.AdamGateIdeal.Step.argG, Cert.AdamGateIdeal.Step.argM, Cert.AdamGateIdeal.Step.argV, Cert.AdamRule.num, Cert.AdamRule.mean, Cert.AdamRule.spread, Cert.AdamRule.change]
    · rw [(h c).2.2.1]
      simp only [hagree c]
      refine funext fun (i : Cert.AdamGateIdeal.S4096x1408.Idx) => ?_
      idx_vars i
      pointwise [Cert.AdamGateIdeal.Step.spread, Cert.AdamGateIdeal.Step.rowW, Cert.AdamGateIdeal.Step.rowG, Cert.AdamGateIdeal.Step.rowM, Cert.AdamGateIdeal.Step.rowV, Cert.AdamGateIdeal.Step.argW, Cert.AdamGateIdeal.Step.argG, Cert.AdamGateIdeal.Step.argM, Cert.AdamGateIdeal.Step.argV, Cert.AdamRule.num, Cert.AdamRule.mean, Cert.AdamRule.spread, Cert.AdamRule.change]

end Cert.AdamGateIdeal.Claims

end
-- ==== Proof.Adam.AdamDown.lean ====
/- AdamDown: one optimiser step of the feed-forward block's last weight, 2816 rows of 2048. -/
module

public import proofs.«01_k».proof.Defs
public import proofs.«01_k».proof.Proof.Adam.Rule
public import proofs.«01_k».proof.Proof.Gen.AdamDown.Frame
public import proofs.«01_k».proof.Proof.Gen.AdamDownIdeal.Value
public import proofs.«01_k».proof.Proof.Gen.AdamDownRefIdeal.Run
public import Idealize.ShloMosaic.Adequacy
public import Idealize.ShloMosaic.Init
public import Idealize.ShloMosaic.Lib.Quiescent
public import Idealize.ShloMosaic.Lib.Pipeline.ReadBack

@[expose] public section

set_option maxRecDepth 16384

noncomputable section

namespace Cert.AdamDownIdeal.Step

open Cert.AdamDownIdeal Cert.AdamDownIdeal.Gen Idealize.ShloMosaic Idealize.ShloMosaic.TcCoe Idealize.ShloMosaic.Tactic Idealize.SL.Sem

variable (m : (ℓ : Loc nD τ sig) → Buf (Elt Ideal) ℓ)

abbrev argW (c : Dev nD) : S2x1408x2048.Idx → EReal := m ((c : Thread nD τ).loc main_arg0)
abbrev argG (c : Dev nD) : S2x1408x2048.Idx → EReal := m ((c : Thread nD τ).loc main_arg1)
abbrev argM (c : Dev nD) : S2x1408x2048.Idx → EReal := m ((c : Thread nD τ).loc main_arg2)
abbrev argV (c : Dev nD) : S2x1408x2048.Idx → EReal := m ((c : Thread nD τ).loc main_arg3)

abbrev rowW (c : Dev nD) : S2816x2048.Idx → EReal := shapeCast S2816x2048 (argW m c) shapeCasts_S2x1408x2048_S2816x2048
abbrev rowG (c : Dev nD) : S2816x2048.Idx → EReal := shapeCast S2816x2048 (argG m c) shapeCasts_S2x1408x2048_S2816x2048
abbrev rowM (c : Dev nD) : S2816x2048.Idx → EReal := shapeCast S2816x2048 (argM m c) shapeCasts_S2x1408x2048_S2816x2048
abbrev rowV (c : Dev nD) : S2816x2048.Idx → EReal := shapeCast S2816x2048 (argV m c) shapeCasts_S2x1408x2048_S2816x2048

abbrev change (c : Dev nD) : S2816x2048.Idx → EReal := fun i => Cert.AdamRule.change (rowW m c i) (rowG m c i) (rowM m c i) (rowV m c i)
abbrev mean (c : Dev nD) : S2816x2048.Idx → EReal := fun i => Cert.AdamRule.mean (rowG m c i) (rowM m c i)
abbrev spread (c : Dev nD) : S2816x2048.Idx → EReal := fun i => Cert.AdamRule.spread (rowG m c i) (rowV m c i)

/-- The three arrays the call leaves. -/
theorem arr4 (c : Dev nD) : (dats m 0 c).arrAt 4 cfg0.N = change m c := by
  refine (dats m 0 c).arrAt_eq_of_covers 4 _ (by decide +kernel) fun t hf y => ?_
  blk_simp
  rw [after0_4]
  frame_out
  pointwise [k0_pay1, k0_pay2, k0_pay3, k0_pay4]
  rfl

theorem arr5 (c : Dev nD) : (dats m 0 c).arrAt 5 cfg0.N = mean m c := by
  refine (dats m 0 c).arrAt_eq_of_covers 5 _ (by decide +kernel) fun t hf y => ?_
  blk_simp
  rw [after0_5]
  frame_out
  pointwise [k0_pay1, k0_pay2]
  rfl

theorem arr6 (c : Dev nD) : (dats m 0 c).arrAt 6 cfg0.N = spread m c := by
  refine (dats m 0 c).arrAt_eq_of_covers 6 _ (by decide +kernel) fun t hf y => ?_
  blk_simp
  rw [after0_6]
  frame_out
  pointwise [k0_pay1, k0_pay3]
  rfl

end Cert.AdamDownIdeal.Step

namespace Cert.AdamDownIdeal.Claims

open Idealize.ShloMosaic Idealize.SL.Sem Idealize.ShloMosaic.Tactic

theorem frame_kernel : Cert.quiescent_AdamDown (hAdamDown := Cert.AdamDown.Gen.facts) := fun m ρ _ => Cert.AdamDown.Gen.frame m ρ
theorem frame_ideal : Cert.quiescent_AdamDownIdeal (hAdamDownIdeal := Cert.AdamDownIdeal.Gen.facts) := fun m ρ _ => Cert.AdamDownIdeal.Gen.frame m ρ
theorem frame_ref : Cert.quiescent_AdamDownRefIdeal (hAdamDownRefIdeal := Cert.AdamDownRefIdeal.Gen.facts) := fun m ρ _ =>
  (θ_run Cert.AdamDownRefIdeal.defs _ _).mono (fun r h => ⟨fun c => (h c).2.2.2, sem_eq_zero_of_no_sems (by decide) r.2⟩)
    (Cert.AdamDownRefIdeal.Value.run (F := Ideal) m ρ)

theorem algebraic : Cert.algebraic_AdamDownIdeal_AdamDownRefIdeal (hAdamDownIdeal := Cert.AdamDownIdeal.Gen.facts) (hAdamDownRefIdeal := Cert.AdamDownRefIdeal.Gen.facts) := by
  intro m ρ m' ρ' _ hagree
  refine ⟨Cert.AdamDownIdeal.Step.change m, Cert.AdamDownIdeal.Step.mean m, Cert.AdamDownIdeal.Step.spread m, ?_, ?_⟩
  · refine (θ_run Cert.AdamDownIdeal.defs _ _).mono (fun _ h c => ⟨?_, ?_, ?_, (h c).2.2.2⟩) (Cert.AdamDownIdeal.Value.run_blocks (F := Ideal) m ρ)
    · exact (h c).1.trans (Cert.AdamDownIdeal.Step.arr4 m c)
    · exact (h c).2.1.trans (Cert.AdamDownIdeal.Step.arr5 m c)
    · exact (h c).2.2.1.trans (Cert.AdamDownIdeal.Step.arr6 m c)
  · refine (θ_run Cert.AdamDownRefIdeal.defs _ _).mono (fun _ h c => ⟨?_, ?_, ?_, (h c).2.2.2⟩) (Cert.AdamDownRefIdeal.Value.run (F := Ideal) m' ρ')
    · rw [(h c).1]
      simp only [hagree c]
      refine funext fun (i : Cert.AdamDownIdeal.S2816x2048.Idx) => ?_
      idx_vars i
      pointwise [Cert.AdamDownIdeal.Step.change, Cert.AdamDownIdeal.Step.rowW, Cert.AdamDownIdeal.Step.rowG, Cert.AdamDownIdeal.Step.rowM, Cert.AdamDownIdeal.Step.rowV, Cert.AdamDownIdeal.Step.argW, Cert.AdamDownIdeal.Step.argG, Cert.AdamDownIdeal.Step.argM, Cert.AdamDownIdeal.Step.argV, Cert.AdamRule.num, Cert.AdamRule.mean, Cert.AdamRule.spread, Cert.AdamRule.change]
    · rw [(h c).2.1]
      simp only [hagree c]
      refine funext fun (i : Cert.AdamDownIdeal.S2816x2048.Idx) => ?_
      idx_vars i
      pointwise [Cert.AdamDownIdeal.Step.mean, Cert.AdamDownIdeal.Step.rowW, Cert.AdamDownIdeal.Step.rowG, Cert.AdamDownIdeal.Step.rowM, Cert.AdamDownIdeal.Step.rowV, Cert.AdamDownIdeal.Step.argW, Cert.AdamDownIdeal.Step.argG, Cert.AdamDownIdeal.Step.argM, Cert.AdamDownIdeal.Step.argV, Cert.AdamRule.num, Cert.AdamRule.mean, Cert.AdamRule.spread, Cert.AdamRule.change]
    · rw [(h c).2.2.1]
      simp only [hagree c]
      refine funext fun (i : Cert.AdamDownIdeal.S2816x2048.Idx) => ?_
      idx_vars i
      pointwise [Cert.AdamDownIdeal.Step.spread, Cert.AdamDownIdeal.Step.rowW, Cert.AdamDownIdeal.Step.rowG, Cert.AdamDownIdeal.Step.rowM, Cert.AdamDownIdeal.Step.rowV, Cert.AdamDownIdeal.Step.argW, Cert.AdamDownIdeal.Step.argG, Cert.AdamDownIdeal.Step.argM, Cert.AdamDownIdeal.Step.argV, Cert.AdamRule.num, Cert.AdamRule.mean, Cert.AdamRule.spread, Cert.AdamRule.change]

end Cert.AdamDownIdeal.Claims

end
-- ==== Proof.Adam.AdamRep.lean ====
/- AdamRep: one optimiser step of the packed replicated weights, 8704 rows of 128. -/
module

public import proofs.«01_k».proof.Defs
public import proofs.«01_k».proof.Proof.Adam.Rule
public import proofs.«01_k».proof.Proof.Gen.AdamRep.Frame
public import proofs.«01_k».proof.Proof.Gen.AdamRepIdeal.Value
public import proofs.«01_k».proof.Proof.Gen.AdamRepRefIdeal.Run
public import Idealize.ShloMosaic.Adequacy
public import Idealize.ShloMosaic.Init
public import Idealize.ShloMosaic.Lib.Quiescent
public import Idealize.ShloMosaic.Lib.Pipeline.ReadBack

@[expose] public section

set_option maxRecDepth 16384

noncomputable section

namespace Cert.AdamRepIdeal.Step

open Cert.AdamRepIdeal Cert.AdamRepIdeal.Gen Idealize.ShloMosaic Idealize.ShloMosaic.TcCoe Idealize.ShloMosaic.Tactic Idealize.SL.Sem

variable (m : (ℓ : Loc nD τ sig) → Buf (Elt Ideal) ℓ)

abbrev argW (c : Dev nD) : S8704x128.Idx → EReal := m ((c : Thread nD τ).loc main_arg0)
abbrev argG (c : Dev nD) : S8704x128.Idx → EReal := m ((c : Thread nD τ).loc main_arg1)
abbrev argM (c : Dev nD) : S8704x128.Idx → EReal := m ((c : Thread nD τ).loc main_arg2)
abbrev argV (c : Dev nD) : S8704x128.Idx → EReal := m ((c : Thread nD τ).loc main_arg3)

abbrev change (c : Dev nD) : S8704x128.Idx → EReal := fun i => Cert.AdamRule.change (argW m c i) (argG m c i) (argM m c i) (argV m c i)
abbrev mean (c : Dev nD) : S8704x128.Idx → EReal := fun i => Cert.AdamRule.mean (argG m c i) (argM m c i)
abbrev spread (c : Dev nD) : S8704x128.Idx → EReal := fun i => Cert.AdamRule.spread (argG m c i) (argV m c i)

/-- The three arrays the call leaves. -/
theorem arr4 (c : Dev nD) : (dats m 0 c).arrAt 4 cfg0.N = change m c := by
  refine (dats m 0 c).arrAt_eq_of_covers 4 _ (by decide +kernel) fun t hf y => ?_
  blk_simp
  rw [after0_4]
  frame_out
  pointwise [k0_pay1, k0_pay2, k0_pay3]
  rfl

theorem arr5 (c : Dev nD) : (dats m 0 c).arrAt 5 cfg0.N = mean m c := by
  refine (dats m 0 c).arrAt_eq_of_covers 5 _ (by decide +kernel) fun t hf y => ?_
  blk_simp
  rw [after0_5]
  frame_out
  pointwise [k0_pay1]
  rfl

theorem arr6 (c : Dev nD) : (dats m 0 c).arrAt 6 cfg0.N = spread m c := by
  refine (dats m 0 c).arrAt_eq_of_covers 6 _ (by decide +kernel) fun t hf y => ?_
  blk_simp
  rw [after0_6]
  frame_out
  pointwise [k0_pay2]
  rfl

end Cert.AdamRepIdeal.Step

namespace Cert.AdamRepIdeal.Claims

open Idealize.ShloMosaic Idealize.SL.Sem Idealize.ShloMosaic.Tactic

theorem frame_kernel : Cert.quiescent_AdamRep (hAdamRep := Cert.AdamRep.Gen.facts) := fun m ρ _ => Cert.AdamRep.Gen.frame m ρ
theorem frame_ideal : Cert.quiescent_AdamRepIdeal (hAdamRepIdeal := Cert.AdamRepIdeal.Gen.facts) := fun m ρ _ => Cert.AdamRepIdeal.Gen.frame m ρ
theorem frame_ref : Cert.quiescent_AdamRepRefIdeal (hAdamRepRefIdeal := Cert.AdamRepRefIdeal.Gen.facts) := fun m ρ _ =>
  (θ_run Cert.AdamRepRefIdeal.defs _ _).mono (fun r h => ⟨fun c => (h c).2.2.2, sem_eq_zero_of_no_sems (by decide) r.2⟩)
    (Cert.AdamRepRefIdeal.Value.run (F := Ideal) m ρ)

theorem algebraic : Cert.algebraic_AdamRepIdeal_AdamRepRefIdeal (hAdamRepIdeal := Cert.AdamRepIdeal.Gen.facts) (hAdamRepRefIdeal := Cert.AdamRepRefIdeal.Gen.facts) := by
  intro m ρ m' ρ' _ hagree
  refine ⟨Cert.AdamRepIdeal.Step.change m, Cert.AdamRepIdeal.Step.mean m, Cert.AdamRepIdeal.Step.spread m, ?_, ?_⟩
  · refine (θ_run Cert.AdamRepIdeal.defs _ _).mono (fun _ h c => ⟨?_, ?_, ?_, (h c).2.2.2⟩) (Cert.AdamRepIdeal.Value.run_blocks (F := Ideal) m ρ)
    · exact (h c).1.trans (Cert.AdamRepIdeal.Step.arr4 m c)
    · exact (h c).2.1.trans (Cert.AdamRepIdeal.Step.arr5 m c)
    · exact (h c).2.2.1.trans (Cert.AdamRepIdeal.Step.arr6 m c)
  · refine (θ_run Cert.AdamRepRefIdeal.defs _ _).mono (fun _ h c => ⟨?_, ?_, ?_, (h c).2.2.2⟩) (Cert.AdamRepRefIdeal.Value.run (F := Ideal) m' ρ')
    · rw [(h c).1]
      simp only [hagree c]
      refine funext fun (i : Cert.AdamRepIdeal.S8704x128.Idx) => ?_
      idx_vars i
      pointwise [Cert.AdamRepIdeal.Step.change, Cert.AdamRepIdeal.Step.argW, Cert.AdamRepIdeal.Step.argG, Cert.AdamRepIdeal.Step.argM, Cert.AdamRepIdeal.Step.argV, Cert.AdamRule.num, Cert.AdamRule.mean, Cert.AdamRule.spread, Cert.AdamRule.change]
    · rw [(h c).2.1]
      simp only [hagree c]
      refine funext fun (i : Cert.AdamRepIdeal.S8704x128.Idx) => ?_
      idx_vars i
      pointwise [Cert.AdamRepIdeal.Step.mean, Cert.AdamRepIdeal.Step.argW, Cert.AdamRepIdeal.Step.argG, Cert.AdamRepIdeal.Step.argM, Cert.AdamRepIdeal.Step.argV, Cert.AdamRule.num, Cert.AdamRule.mean, Cert.AdamRule.spread, Cert.AdamRule.change]
    · rw [(h c).2.2.1]
      simp only [hagree c]
      refine funext fun (i : Cert.AdamRepIdeal.S8704x128.Idx) => ?_
      idx_vars i
      pointwise [Cert.AdamRepIdeal.Step.spread, Cert.AdamRepIdeal.Step.argW, Cert.AdamRepIdeal.Step.argG, Cert.AdamRepIdeal.Step.argM, Cert.AdamRepIdeal.Step.argV, Cert.AdamRule.num, Cert.AdamRule.mean, Cert.AdamRule.spread, Cert.AdamRule.change]

end Cert.AdamRepIdeal.Claims

end
-- ==== Proof.Adam.RepSum.lean ====
/- RepSum: the eight devices' packed gradients of the replicated weights, added up. -/
module

public import proofs.«01_k».proof.Defs
public import proofs.«01_k».proof.Proof.Gen.RepSum.Frame
public import proofs.«01_k».proof.Proof.Gen.RepSumIdeal.Value
public import proofs.«01_k».proof.Proof.Gen.RepSumRefIdeal.Run
public import Idealize.ShloMosaic.Adequacy
public import Idealize.ShloMosaic.Init
public import Idealize.ShloMosaic.Lib.Quiescent
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

namespace Cert.RepSumIdeal.Step

open Cert.RepSumIdeal Cert.RepSumIdeal.Gen Idealize.ShloMosaic Idealize.ShloMosaic.TcCoe Idealize.ShloMosaic.Tactic Idealize.SL.Sem

variable (m : (ℓ : Loc nD τ sig) → Buf (Elt Ideal) ℓ)

abbrev arg (c : Dev nD) : S8x8704x128.Idx → EReal := m ((c : Thread nD τ).loc main_arg0)

/-- One device's packed gradients, as the call is handed them. -/
abbrev dev0 (c : Dev nD) : S8704x128.Idx → EReal := V m c main_v1
abbrev dev1 (c : Dev nD) : S8704x128.Idx → EReal := V m c main_v3
abbrev dev2 (c : Dev nD) : S8704x128.Idx → EReal := V m c main_v5
abbrev dev3 (c : Dev nD) : S8704x128.Idx → EReal := V m c main_v7
abbrev dev4 (c : Dev nD) : S8704x128.Idx → EReal := V m c main_v9
abbrev dev5 (c : Dev nD) : S8704x128.Idx → EReal := V m c main_v11
abbrev dev6 (c : Dev nD) : S8704x128.Idx → EReal := V m c main_v13
abbrev dev7 (c : Dev nD) : S8704x128.Idx → EReal := V m c main_v15

theorem part0 (c : Dev nD) (i : S8704x128.Idx) : dev0 m c i = arg m c (ix3 0 (i 0) (i 1)) := by
  idx_vars i
  unfold dev0
  entry_read
  pointwise [arg]
theorem part1 (c : Dev nD) (i : S8704x128.Idx) : dev1 m c i = arg m c (ix3 1 (i 0) (i 1)) := by
  idx_vars i
  unfold dev1
  entry_read
  pointwise [arg]
theorem part2 (c : Dev nD) (i : S8704x128.Idx) : dev2 m c i = arg m c (ix3 2 (i 0) (i 1)) := by
  idx_vars i
  unfold dev2
  entry_read
  pointwise [arg]
theorem part3 (c : Dev nD) (i : S8704x128.Idx) : dev3 m c i = arg m c (ix3 3 (i 0) (i 1)) := by
  idx_vars i
  unfold dev3
  entry_read
  pointwise [arg]
theorem part4 (c : Dev nD) (i : S8704x128.Idx) : dev4 m c i = arg m c (ix3 4 (i 0) (i 1)) := by
  idx_vars i
  unfold dev4
  entry_read
  pointwise [arg]
theorem part5 (c : Dev nD) (i : S8704x128.Idx) : dev5 m c i = arg m c (ix3 5 (i 0) (i 1)) := by
  idx_vars i
  unfold dev5
  entry_read
  pointwise [arg]
theorem part6 (c : Dev nD) (i : S8704x128.Idx) : dev6 m c i = arg m c (ix3 6 (i 0) (i 1)) := by
  idx_vars i
  unfold dev6
  entry_read
  pointwise [arg]
theorem part7 (c : Dev nD) (i : S8704x128.Idx) : dev7 m c i = arg m c (ix3 7 (i 0) (i 1)) := by
  idx_vars i
  unfold dev7
  entry_read
  pointwise [arg]

/-- The sum over the devices. -/
abbrev total (c : Dev nD) : S8704x128.Idx → EReal := fun i => ∑ d : Fin 8, arg m c (ix3 d (i 0) (i 1))

theorem total_eq (c : Dev nD) : total m c = fun i => dev0 m c i + dev1 m c i + dev2 m c i + dev3 m c i + dev4 m c i + dev5 m c i + dev6 m c i + dev7 m c i := by
  funext i
  rw [part0, part1, part2, part3, part4, part5, part6, part7]
  exact Fin.sum_univ_eight _

/-- The array the call leaves. -/
theorem arr (c : Dev nD) : (dats m 0 c).arrAt 8 cfg0.N = total m c := by
  rw [total_eq]
  refine (dats m 0 c).arrAt_eq_of_covers 8 _ (by decide +kernel) fun t hf y => ?_
  blk_simp
  rw [after0_8]
  frame_out
  pointwise [k0_pay1]
  rfl

end Cert.RepSumIdeal.Step

namespace Cert.RepSumIdeal.Claims

open Idealize.ShloMosaic Idealize.SL.Sem Idealize.ShloMosaic.Tactic

theorem frame_kernel : Cert.quiescent_RepSum (hRepSum := Cert.RepSum.Gen.facts) := fun m ρ _ => Cert.RepSum.Gen.frame m ρ
theorem frame_ideal : Cert.quiescent_RepSumIdeal (hRepSumIdeal := Cert.RepSumIdeal.Gen.facts) := fun m ρ _ => Cert.RepSumIdeal.Gen.frame m ρ
theorem frame_ref : Cert.quiescent_RepSumRefIdeal (hRepSumRefIdeal := Cert.RepSumRefIdeal.Gen.facts) := fun m ρ _ =>
  (θ_run Cert.RepSumRefIdeal.defs _ _).mono (fun r h => ⟨fun c => (h c).2, sem_eq_zero_of_no_sems (by decide) r.2⟩)
    (Cert.RepSumRefIdeal.Value.run (F := Ideal) m ρ)

theorem algebraic : Cert.algebraic_RepSumIdeal_RepSumRefIdeal (hRepSumIdeal := Cert.RepSumIdeal.Gen.facts) (hRepSumRefIdeal := Cert.RepSumRefIdeal.Gen.facts) := by
  intro m ρ m' ρ' _ hagree
  refine ⟨Cert.RepSumIdeal.Step.total m, ?_, ?_⟩
  · refine (θ_run Cert.RepSumIdeal.defs _ _).mono (fun _ h c => ⟨?_, (h c).2⟩) (Cert.RepSumIdeal.Value.run_blocks (F := Ideal) m ρ)
    exact (h c).1.trans (Cert.RepSumIdeal.Step.arr m c)
  · refine (θ_run Cert.RepSumRefIdeal.defs _ _).mono (fun _ h c => ⟨?_, (h c).2⟩) (Cert.RepSumRefIdeal.Value.run (F := Ideal) m' ρ')
    rw [(h c).1]
    simp only [hagree c]
    refine funext fun (i : Cert.RepSumIdeal.S8704x128.Idx) => ?_
    idx_vars i
    pointwise [Cert.RepSumIdeal.Step.total, Cert.RepSumIdeal.Step.arg]

end Cert.RepSumIdeal.Claims

end
-- ==== Proof.Head.Rule.lean ====
/- The final norm and the loss at one row of 2048 numbers, over the extended reals: the row's loss and its gradients. -/
module

public import Idealize.ShloMosaic.Lib.Pipeline.ValueKit
public import Idealize.ShloMosaic.Lib.Pointwise
public import Idealize.ShloMosaic.Lib.IdealHost

@[expose] public section

noncomputable section

namespace Cert.HeadRule

open Idealize.ShloMosaic

/-- A printed number. -/
abbrev num (b : BitVec 32) : EReal := Ideal.ofBits .f32 b

/-- The row's length, 2048. -/
abbrev len : EReal := num 0x45000000#32

variable (x t w : Fin 2048 → EReal)

/-- The mean square, with the norm's small addition. -/
abbrev square : EReal := Ideal.div (∑ k, x k * x k) len + num 0x358637BD#32

/-- The normed and scaled row against its target. -/
abbrev miss (k : Fin 2048) : EReal := x k * Ideal.rsqrt (square x) * w k - t k

/-- The row's mean squared error. -/
abbrev error : EReal := Ideal.div (∑ k, miss x t w k * miss x t w k) len

/-- The loss's derivative in the normed and scaled row. -/
abbrev pull (k : Fin 2048) : EReal := Ideal.div (num 0x3F000000#32) len * (num 0x40000000#32 * miss x t w k)

/-- What reaches one entry of the row through the mean square. -/
abbrev back : EReal :=
  Ideal.div ((∑ k, x k * (pull x t w k * w k)) * (num 0xBF000000#32 * Ideal.div (Ideal.rsqrt (square x)) (square x))) len

/-- The gradient in the row. -/
abbrev rowGrad (k : Fin 2048) : EReal :=
  pull x t w k * w k * Ideal.rsqrt (square x) + x k * back x t w + back x t w * x k

/-- The row's part of the gradient in the scale. -/
abbrev scaleGrad (k : Fin 2048) : EReal := x k * Ideal.rsqrt (square x) * pull x t w k

theorem len_eq : len = ((2048 : ℝ) : EReal) := by
  simp [Ideal.ofBits, Ideal.ieee, -EReal.coe_mul]; norm_num

theorem half_eq : num 0x3F000000#32 = ((1 / 2 : ℝ) : EReal) := by
  simp [Ideal.ofBits, Ideal.ieee, -EReal.coe_mul]; norm_num

theorem square_nonneg (a : EReal) : 0 ≤ a * a := by
  rcases le_total 0 a with h | h
  · exact mul_nonneg h h
  · rw [← neg_mul_neg]; exact mul_nonneg (EReal.neg_nonneg.mpr h) (EReal.neg_nonneg.mpr h)

theorem error_nonneg : 0 ≤ error x t w := by
  unfold error
  rw [len_eq, Ideal.div_coe (by norm_num)]
  refine mul_nonneg (Finset.sum_nonneg fun k _ => square_nonneg _) ?_
  exact_mod_cast (by norm_num : (0 : ℝ) ≤ 1 / 2048)

/-- A factor goes into a sum of terms that are not negative. -/
theorem mul_sum_of_nonneg {ι : Type} (a : EReal) (s : Finset ι) (f : ι → EReal) (h : ∀ i, 0 ≤ f i) :
    a * ∑ i ∈ s, f i = ∑ i ∈ s, a * f i := by
  classical
  induction s using Finset.induction_on with
  | empty => simp
  | insert i s hi ih =>
    rw [Finset.sum_insert hi, Finset.sum_insert hi, EReal.left_distrib_of_nonneg (h i) (Finset.sum_nonneg fun j _ => h j), ih]

end Cert.HeadRule

end
-- ==== Proof.Head.Loss.lean ====
/- Loss: the final norm and the loss over one device's 8192 rows, with its gradients in the rows and in the norm's scale. -/
module

public import proofs.«01_k».proof.Defs
public import proofs.«01_k».proof.Proof.Head.Rule
public import proofs.«01_k».proof.Proof.Gen.Loss.Frame
public import proofs.«01_k».proof.Proof.Gen.LossIdeal.Value
public import proofs.«01_k».proof.Proof.Gen.LossRefIdeal.Run
public import Idealize.ShloMosaic.Adequacy
public import Idealize.ShloMosaic.Init
public import Idealize.ShloMosaic.Lib.Quiescent
public import Idealize.ShloMosaic.Lib.Pipeline.ReadBack

@[expose] public section

set_option maxRecDepth 16384

noncomputable section

namespace Cert.LossIdeal.Head

open Cert.LossIdeal Cert.LossIdeal.Gen Idealize.ShloMosaic Idealize.ShloMosaic.TcCoe Idealize.ShloMosaic.Tactic Idealize.SL.Sem
open Cert.HeadRule

variable (m : (ℓ : Loc nD τ sig) → Buf (Elt Ideal) ℓ)

theorem ixX : ∀ t : Fin grid0.N, win0_0.index t = ![t.val, 0] := by decide +kernel
theorem ixT : ∀ t : Fin grid0.N, win0_1.index t = ![t.val, 0] := by decide +kernel
theorem ixW : ∀ t : Fin grid0.N, win0_2.index t = ![0, 0] := by decide +kernel
theorem ixL : ∀ t : Fin grid0.N, win0_3.index t = ![0, 0] := by decide +kernel
theorem ixG : ∀ t : Fin grid0.N, win0_4.index t = ![t.val, 0] := by decide +kernel
theorem ixS : ∀ t : Fin grid0.N, win0_5.index t = ![0, 0] := by decide +kernel

abbrev argX (c : Dev nD) : S8192x2048.Idx → EReal := m ((c : Thread nD τ).loc main_arg0)
abbrev argT (c : Dev nD) : S8192x2048.Idx → EReal := m ((c : Thread nD τ).loc main_arg1)
abbrev argW (c : Dev nD) : S2048.Idx → EReal := m ((c : Thread nD τ).loc main_arg2)

abbrev blkX (c : Dev nD) (t : Fin cfg0.N) : S256x2048.Idx → EReal := iblk m c 0 t
abbrev blkT (c : Dev nD) (t : Fin cfg0.N) : S256x2048.Idx → EReal := iblk m c 1 t
abbrev blkW (c : Dev nD) (t : Fin cfg0.N) : S1x2048.Idx → EReal := iblk m c 2 t

abbrev wholeRow (X : S8192x2048.Idx → EReal) (r : Fin 8192) : Fin 2048 → EReal := fun k => X (ix2 r k)
abbrev scale (W : S2048.Idx → EReal) : Fin 2048 → EReal := fun k => W (ix1 k)

/-- One row of a block of 256. -/
abbrev row (X : S256x2048.Idx → EReal) (r : Fin 256) : Fin 2048 → EReal := fun k => X (ix2 r k)
abbrev one (W : S1x2048.Idx → EReal) : Fin 2048 → EReal := fun k => W (ix2 0 k)

theorem pay_loss (T X : S256x2048.Idx → EReal) (W : S1x2048.Idx → EReal) (L : S8x128.Idx → EReal) (j : S8x128.Idx) :
    (k0_pay14 (F := Ideal) (k0_pay10 T X W) L j : EReal)
      = L j + num 0x3F000000#32 * ∑ r : Fin 256, error (row X r) (row T r) (one W) := by
  idx_vars j
  pointwise [k0_pay14, k0_pay10, k0_pay8, k0_pay3, k0_pay7, k0_pay5, k0_pay4, row, one, error, miss, square, len, num]

theorem pay_row (T X : S256x2048.Idx → EReal) (W : S1x2048.Idx → EReal) (j : S256x2048.Idx) :
    (k0_pay13 (F := Ideal) X (k0_pay3 W) (k0_pay5 X) (k0_pay6 X) (k0_pay9 T X W) k0_pay11 j : EReal)
      = rowGrad (row X (j 0)) (row T (j 0)) (one W) (j 1) := by
  idx_vars j
  pointwise [k0_pay13, k0_pay12, k0_pay11, k0_pay9, k0_pay8, k0_pay7, k0_pay6, k0_pay5, k0_pay4, k0_pay3, row, one, rowGrad,
    back, pull, miss, square, len, num, Fin.sum_univ_one]

theorem pay_scale (T X : S256x2048.Idx → EReal) (W S : S1x2048.Idx → EReal) (j : S1x2048.Idx) :
    (k0_pay15 (F := Ideal) (k0_pay7 X) (k0_pay9 T X W) k0_pay11 S j : EReal)
      = S j + ∑ r : Fin 256, scaleGrad (row X r) (row T r) (one W) (j 1) := by
  idx_vars j
  pointwise [k0_pay15, k0_pay12, k0_pay11, k0_pay9, k0_pay8, k0_pay7, k0_pay5, k0_pay4, k0_pay3, row, one, scaleGrad,
    pull, miss, square, len, num, Fin.sum_univ_one]

/-- A point's part of the loss, and of the gradient in the scale. -/
abbrev lossTerm (c : Dev nD) (t : Fin cfg0.N) (_ : S8x128.Idx) : EReal :=
  num 0x3F000000#32 * ∑ r : Fin 256, error (row (blkX m c t) r) (row (blkT m c t) r) (one (blkW m c t))
abbrev scaleTerm (c : Dev nD) (t : Fin cfg0.N) (j : S1x2048.Idx) : EReal :=
  ∑ r : Fin 256, scaleGrad (row (blkX m c t) r) (row (blkT m c t) r) (one (blkW m c t)) (j 1)

theorem loss_first (c : Dev nD) (t : Fin cfg0.N) (h : t.val % 32 = 0) (j : S8x128.Idx) :
    (outsAt0 m c t.val t.isLt).1 j = (0 : EReal) + lossTerm m c t j := by
  rw [outsAt0_A m c t h]
  frame_out
  refine (pay_loss _ _ _ _ j).trans ?_
  pointwise [k0_pay1]

theorem loss_next (c : Dev nD) (t : Fin cfg0.N) (h : ¬t.val % 32 = 0) (j : S8x128.Idx) :
    (outsAt0 m c t.val t.isLt).1 j
      = ((outsAt0 m c (t.val - 1) (Nat.lt_of_le_of_lt (Nat.sub_le _ _) t.isLt)).1 j : EReal) + lossTerm m c t j := by
  rw [outsAt0_B m c t h]
  frame_out [read_unread_whole]
  exact pay_loss _ _ _ _ j

theorem scale_first (c : Dev nD) (t : Fin cfg0.N) (h : t.val % 32 = 0) (j : S1x2048.Idx) :
    (outsAt0 m c t.val t.isLt).2.2 j = (0 : EReal) + scaleTerm m c t j := by
  rw [outsAt0_A m c t h]
  frame_out
  refine (pay_scale _ _ _ _ j).trans ?_
  pointwise [k0_pay2]

theorem scale_next (c : Dev nD) (t : Fin cfg0.N) (h : ¬t.val % 32 = 0) (j : S1x2048.Idx) :
    (outsAt0 m c t.val t.isLt).2.2 j
      = ((outsAt0 m c (t.val - 1) (Nat.lt_of_le_of_lt (Nat.sub_le _ _) t.isLt)).2.2 j : EReal) + scaleTerm m c t j := by
  rw [outsAt0_B m c t h]
  frame_out [read_unread_whole]
  exact pay_scale _ _ _ _ j

theorem rows (c : Dev nD) (t : Fin cfg0.N) (j : S256x2048.Idx) :
    ((outsAt0 m c t.val t.isLt).2.1 j : EReal)
      = rowGrad (row (blkX m c t) (j 0)) (row (blkT m c t) (j 0)) (one (blkW m c t)) (j 1) := by
  by_cases h : t.val % 32 = 0
  · rw [outsAt0_A m c t h]
    frame_out
    exact pay_row _ _ _ j
  · rw [outsAt0_B m c t h]
    frame_out
    exact pay_row _ _ _ j

/-- A point's rows are the argument's. -/
theorem rowX (c : Dev nD) (t : Fin cfg0.N) (r : Fin 256) (R : Fin 8192) (e : R.val = t.val * 256 + r.val) :
    row (blkX m c t) r = wholeRow (argX m c) R := by
  obtain ⟨R, h⟩ := R
  obtain rfl : R = t.val * 256 + r.val := e
  refine funext fun k => ?_
  change blkX m c t (ix2 r k) = argX m c (ix2 ⟨t.val * 256 + r.val, h⟩ k)
  blk_ext! [iblk, V, ixX]

theorem rowT (c : Dev nD) (t : Fin cfg0.N) (r : Fin 256) (R : Fin 8192) (e : R.val = t.val * 256 + r.val) :
    row (blkT m c t) r = wholeRow (argT m c) R := by
  obtain ⟨R, h⟩ := R
  obtain rfl : R = t.val * 256 + r.val := e
  refine funext fun k => ?_
  change blkT m c t (ix2 r k) = argT m c (ix2 ⟨t.val * 256 + r.val, h⟩ k)
  blk_ext! [iblk, V, ixT]

theorem rowW (c : Dev nD) (t : Fin cfg0.N) : one (blkW m c t) = scale (argW m c) := by
  refine funext fun k => ?_
  change blkW m c t (ix2 0 k) = argW m c (ix1 k)
  have hb : blkW m c t (ix2 0 k) = (V m c main_v0 : S1x2048.Idx → EReal) (ix2 0 k) := by
    blk_ext! [iblk, ixW]
  rw [hb]
  entry_read
  pointwise [argW]

/-- The loss: half the sum of the rows' mean squared errors, in every entry of its array. -/
abbrev totalLoss (c : Dev nD) : S8x128.Idx → EReal := fun _ =>
  num 0x3F000000#32 * ∑ r : Fin 8192, error (wholeRow (argX m c) r) (wholeRow (argT m c) r) (scale (argW m c))

abbrev totalRows (c : Dev nD) : S8192x2048.Idx → EReal := fun i =>
  rowGrad (wholeRow (argX m c) (i 0)) (wholeRow (argT m c) (i 0)) (scale (argW m c)) (i 1)

abbrev totalScale (c : Dev nD) : S1x2048.Idx → EReal := fun i =>
  ∑ r : Fin 8192, scaleGrad (wholeRow (argX m c) r) (wholeRow (argT m c) r) (scale (argW m c)) (i 1)

theorem arrRows (c : Dev nD) : (dats m 0 c).arrAt 4 cfg0.N = totalRows m c := by
  refine (dats m 0 c).arrAt_eq_of_covers 4 _ (by decide +kernel) fun t hf y => ?_
  blk_simp
  rw [after0_4]
  refine (rows m c t _).trans ?_
  have hN : t.val < 32 := t.isLt
  have hy : (y 0).val < 256 := (y 0).isLt
  have h : t.val * 256 + (y 0).val < 8192 := by omega
  have e : (win0_4.blk t).view.emb y = (ix2 ⟨t.val * 256 + (y 0).val, h⟩ (y 1) : S8192x2048.Idx) := by
    blk_ext! [ixG]
  rw [e]
  refine (congrArg₂ (fun a b => rowGrad a b (one (blkW m c t)) (y 1)) (rowX m c t (y 0) ⟨_, h⟩ rfl) (rowT m c t (y 0) ⟨_, h⟩ rfl)).trans ?_
  rw [rowW]
  rfl

theorem lossSum (c : Dev nD) (t : Fin cfg0.N) (h : t.val % 32 = 31) (j : S8x128.Idx) :
    ((outsAt0 m c t.val t.isLt).1 j : EReal)
      = ∑ s : Fin 32, lossTerm m c ⟨32 * (t.val / 32) + s.val, Pipeline.run_point_lt_of_flush t h s⟩ j := by
  rw [Pipeline.eq_sum_fin_of_reset_step_apply_of_flush (fun n h => (outsAt0 m c n h).1) 32 (fun _ => (0 : EReal)) (lossTerm m c)
    (loss_first m c) (loss_next m c) t h j, zero_add]

theorem scaleSum (c : Dev nD) (t : Fin cfg0.N) (h : t.val % 32 = 31) (j : S1x2048.Idx) :
    ((outsAt0 m c t.val t.isLt).2.2 j : EReal)
      = ∑ s : Fin 32, scaleTerm m c ⟨32 * (t.val / 32) + s.val, Pipeline.run_point_lt_of_flush t h s⟩ j := by
  rw [Pipeline.eq_sum_fin_of_reset_step_apply_of_flush (fun n h => (outsAt0 m c n h).2.2) 32 (fun _ => (0 : EReal)) (scaleTerm m c)
    (scale_first m c) (scale_next m c) t h j, zero_add]

/-- The points' parts are the rows'. -/
theorem lossRows (c : Dev nD) (j : S8x128.Idx) (u : Fin 32 → Fin cfg0.N) (hu : ∀ s, (u s).val = s.val) :
    ∑ s : Fin 32, lossTerm m c (u s) j
      = num 0x3F000000#32 * ∑ r : Fin 8192, error (wholeRow (argX m c) r) (wholeRow (argT m c) r) (scale (argW m c)) := by
  rw [mul_sum_of_nonneg _ _ _ fun r => error_nonneg _ _ _]
  have split : ∀ s : Fin 32, lossTerm m c (u s) j
      = ∑ r : Fin 256, num 0x3F000000#32 * error (row (blkX m c (u s)) r) (row (blkT m c (u s)) r) (one (blkW m c (u s))) := fun s =>
    mul_sum_of_nonneg _ _ _ fun r => error_nonneg _ _ _
  refine (Fin.sum_fin_congr split).trans ?_
  refine Fin.sum_mul_add_congr (n := 256) fun s r hl => ?_
  have hp : s.val * 256 + r.val = (u s).val * 256 + r.val := by rw [hu]
  rw [rowX m c _ r ⟨_, hl⟩ hp, rowT m c _ r ⟨_, hl⟩ hp, rowW]

theorem scaleRows (c : Dev nD) (j : S1x2048.Idx) (u : Fin 32 → Fin cfg0.N) (hu : ∀ s, (u s).val = s.val) :
    ∑ s : Fin 32, scaleTerm m c (u s) j
      = ∑ r : Fin 8192, scaleGrad (wholeRow (argX m c) r) (wholeRow (argT m c) r) (scale (argW m c)) (j 1) := by
  refine Fin.sum_mul_add_congr (n := 256) fun s r hl => ?_
  have hp : s.val * 256 + r.val = (u s).val * 256 + r.val := by rw [hu]
  rw [rowX m c _ r ⟨_, hl⟩ hp, rowT m c _ r ⟨_, hl⟩ hp, rowW]

theorem arrLoss (c : Dev nD) : (dats m 0 c).arrAt 3 cfg0.N = totalLoss m c := by
  refine (dats m 0 c).arrAt_eq_of_covers 3 _ (by decide +kernel) fun t hf y => ?_
  have ht := (flush0_3 t).mp hf
  have hN : t.val < 32 := t.isLt
  blk_simp
  rw [after0_3]
  refine (lossSum m c t ht _).trans ?_
  exact lossRows m c _ _ fun s => by dsimp only; omega

theorem arrScale (c : Dev nD) : (dats m 0 c).arrAt 5 cfg0.N = totalScale m c := by
  refine (dats m 0 c).arrAt_eq_of_covers 5 _ (by decide +kernel) fun t hf y => ?_
  have ht := (flush0_5 t).mp hf
  have hN : t.val < 32 := t.isLt
  blk_simp
  rw [after0_5]
  refine (scaleSum m c t ht _).trans ?_
  have e : (win0_5.blk t).view.emb y = (ix2 0 (y 1) : S1x2048.Idx) := by
    blk_ext! [ixS]
  rw [e]
  exact scaleRows m c _ _ fun s => by dsimp only; omega

end Cert.LossIdeal.Head

namespace Cert.LossIdeal.Claims

open Idealize.ShloMosaic Idealize.SL.Sem

theorem frame_kernel : Cert.quiescent_Loss (hLoss := Cert.Loss.Gen.facts) := fun m ρ _ => Cert.Loss.Gen.frame m ρ
theorem frame_ideal : Cert.quiescent_LossIdeal (hLossIdeal := Cert.LossIdeal.Gen.facts) := fun m ρ _ => Cert.LossIdeal.Gen.frame m ρ
theorem frame_ref : Cert.quiescent_LossRefIdeal (hLossRefIdeal := Cert.LossRefIdeal.Gen.facts) := fun m ρ _ =>
  (θ_run Cert.LossRefIdeal.defs _ _).mono (fun r h => ⟨fun c => (h c).2.2.2, sem_eq_zero_of_no_sems (by decide) r.2⟩)
    (Cert.LossRefIdeal.Value.run (F := Ideal) m ρ)

theorem algebraic : Cert.algebraic_LossIdeal_LossRefIdeal (hLossIdeal := Cert.LossIdeal.Gen.facts) (hLossRefIdeal := Cert.LossRefIdeal.Gen.facts) := by
  intro m ρ m' ρ' _ hagree
  refine ⟨Cert.LossIdeal.Head.totalLoss m, Cert.LossIdeal.Head.totalRows m, Cert.LossIdeal.Head.totalScale m, ?_, ?_⟩
  · refine (θ_run Cert.LossIdeal.defs _ _).mono (fun _ h c => ⟨?_, ?_, ?_, (h c).2.2.2⟩) (Cert.LossIdeal.Value.run_blocks (F := Ideal) m ρ)
    · exact (h c).1.trans (Cert.LossIdeal.Head.arrLoss m c)
    · exact (h c).2.1.trans (Cert.LossIdeal.Head.arrRows m c)
    · exact (h c).2.2.1.trans (Cert.LossIdeal.Head.arrScale m c)
  · refine (θ_run Cert.LossRefIdeal.defs _ _).mono (fun _ h c => ⟨?_, ?_, ?_, (h c).2.2.2⟩) (Cert.LossRefIdeal.Value.run (F := Ideal) m' ρ')
    · rw [(h c).1]
      simp only [hagree c]
      refine funext fun (i : S8x128.Idx) => ?_
      idx_vars i
      pointwise [Cert.LossIdeal.Head.totalLoss]
    · rw [(h c).2.1]
      unfold Cert.LossRefIdeal.Value.res_main_v50
      simp only [hagree c]
      refine funext fun (i : S8192x2048.Idx) => ?_
      idx_vars i
      pointwise [Cert.LossIdeal.Head.totalRows, Fin.sum_univ_one]
    · rw [(h c).2.2.1]
      simp only [hagree c]
      refine funext fun (i : S1x2048.Idx) => ?_
      idx_vars i
      pointwise [Cert.LossIdeal.Head.totalScale]
      exact Fin.sum_univ_one _

end Cert.LossIdeal.Claims

end
-- ==== Proof.Rows.Rule.lean ====
/- The block's row by row operations over the extended reals: the norm with its gradients, the gated product, the merge of branches. -/
module

public import Idealize.ShloMosaic.Lib.Pipeline.ValueKit
public import Idealize.ShloMosaic.Lib.Pointwise
public import Idealize.ShloMosaic.Lib.IdealHost

@[expose] public section

noncomputable section

namespace Cert.RowRule

open Idealize.ShloMosaic

/-- A printed number. -/
abbrev num (b : BitVec 32) : EReal := Ideal.ofBits .f32 b

section Norm

/-! The norm of a row of `n` numbers, `len` its printed length. -/

variable {n : ℕ} (len : BitVec 32) (x w d : Fin n → EReal)

/-- The mean square, with the norm's small addition. -/
abbrev square : EReal := Ideal.div (∑ k, x k * x k) (num len) + num 0x358637BD#32

/-- The normed and scaled row. -/
abbrev normed (k : Fin n) : EReal := x k * Ideal.rsqrt (square len x) * w k

/-- What reaches one entry of the row through the mean square. -/
abbrev back : EReal :=
  Ideal.div ((∑ k, x k * (d k * w k)) * (num 0xBF000000#32 * Ideal.div (Ideal.rsqrt (square len x)) (square len x))) (num len)

/-- The gradient in the row. -/
abbrev rowGrad (k : Fin n) : EReal :=
  d k * w k * Ideal.rsqrt (square len x) + x k * back len x w d + back len x w d * x k

/-- The row's part of the gradient in the scale. -/
abbrev scaleGrad (k : Fin n) : EReal := x k * Ideal.rsqrt (square len x) * d k

end Norm

section Gate

/-! One entry of a gate. -/

variable (x y d : EReal)

/-- A gate's opening and its slope. -/
abbrev opening : EReal := Ideal.logistic x
abbrev slope : EReal := opening x * (1 - opening x)

/-- The gated product and its gradients in the gate and in the other factor. -/
abbrev gated : EReal := x * opening x * y
abbrev gateGrad : EReal := d * y * opening x + x * (d * y) * slope x
abbrev factorGrad : EReal := x * opening x * d

/-- A branch's gradient through its gate, and the gate's. -/
abbrev branchGrad : EReal := opening x * d
abbrev mergeGrad : EReal := d * y * slope x

end Gate

end Cert.RowRule

end
-- ==== Proof.Rows.NormFwd.lean ====
/- NormFwd: the norm of 8192 rows of 2048, with its scale. -/
module

public import proofs.«01_k».proof.Defs
public import proofs.«01_k».proof.Proof.Rows.Rule
public import proofs.«01_k».proof.Proof.Gen.NormFwd.Frame
public import proofs.«01_k».proof.Proof.Gen.NormFwdIdeal.Value
public import proofs.«01_k».proof.Proof.Gen.NormFwdRefIdeal.Run
public import Idealize.ShloMosaic.Adequacy
public import Idealize.ShloMosaic.Init
public import Idealize.ShloMosaic.Lib.Quiescent
public import Idealize.ShloMosaic.Lib.Pipeline.ReadBack

@[expose] public section

set_option maxRecDepth 16384

noncomputable section

namespace Cert.NormFwdIdeal.Rows

open Cert.NormFwdIdeal Cert.NormFwdIdeal.Gen Idealize.ShloMosaic Idealize.ShloMosaic.TcCoe Idealize.ShloMosaic.Tactic Idealize.SL.Sem
open Cert.RowRule

variable (m : (ℓ : Loc nD τ sig) → Buf (Elt Ideal) ℓ)

theorem ixX : ∀ t : Fin grid0.N, win0_0.index t = ![t.val, 0] := by decide +kernel
theorem ixW : ∀ t : Fin grid0.N, win0_1.index t = ![0, 0] := by decide +kernel
theorem ixY : ∀ t : Fin grid0.N, win0_2.index t = ![t.val, 0] := by decide +kernel

abbrev argX (c : Dev nD) : S8192x2048.Idx → EReal := m ((c : Thread nD τ).loc main_arg0)
abbrev argW (c : Dev nD) : S2048.Idx → EReal := m ((c : Thread nD τ).loc main_arg1)

abbrev blkX (c : Dev nD) (t : Fin cfg0.N) : S256x2048.Idx → EReal := iblk m c 0 t
abbrev blkW (c : Dev nD) (t : Fin cfg0.N) : S1x2048.Idx → EReal := iblk m c 1 t

abbrev wholeRow (X : S8192x2048.Idx → EReal) (r : Fin 8192) : Fin 2048 → EReal := fun k => X (ix2 r k)
abbrev scale (W : S2048.Idx → EReal) : Fin 2048 → EReal := fun k => W (ix1 k)

/-- One row of a block of 256. -/
abbrev row (X : S256x2048.Idx → EReal) (r : Fin 256) : Fin 2048 → EReal := fun k => X (ix2 r k)
abbrev one (W : S1x2048.Idx → EReal) : Fin 2048 → EReal := fun k => W (ix2 0 k)

theorem pay (X : S256x2048.Idx → EReal) (W : S1x2048.Idx → EReal) (j : S256x2048.Idx) :
    (k0_pay1 (F := Ideal) X W j : EReal) = normed 0x45000000#32 (row X (j 0)) (one W) (j 1) := by
  idx_vars j
  pointwise [k0_pay1, row, one, normed, square, num]

/-- A point's rows are the argument's. -/
theorem rowX (c : Dev nD) (t : Fin cfg0.N) (r : Fin 256) (R : Fin 8192) (e : R.val = t.val * 256 + r.val) :
    row (blkX m c t) r = wholeRow (argX m c) R := by
  obtain ⟨R, h⟩ := R
  obtain rfl : R = t.val * 256 + r.val := e
  refine funext fun k => ?_
  change blkX m c t (ix2 r k) = argX m c (ix2 ⟨t.val * 256 + r.val, h⟩ k)
  blk_ext! [iblk, V, ixX]

theorem rowW (c : Dev nD) (t : Fin cfg0.N) : one (blkW m c t) = scale (argW m c) := by
  refine funext fun k => ?_
  change blkW m c t (ix2 0 k) = argW m c (ix1 k)
  have hb : blkW m c t (ix2 0 k) = (V m c main_v0 : S1x2048.Idx → EReal) (ix2 0 k) := by
    blk_ext! [iblk, ixW]
  rw [hb]
  entry_read
  pointwise [argW]

/-- The normed rows. -/
abbrev total (c : Dev nD) : S8192x2048.Idx → EReal := fun i => normed 0x45000000#32 (wholeRow (argX m c) (i 0)) (scale (argW m c)) (i 1)

theorem arr (c : Dev nD) : (dats m 0 c).arrAt 2 cfg0.N = total m c := by
  refine (dats m 0 c).arrAt_eq_of_covers 2 _ (by decide +kernel) fun t hf y => ?_
  blk_simp
  rw [after0_2]
  frame_out
  refine (pay _ _ y).trans ?_
  have hN : t.val < 32 := t.isLt
  have hy : (y 0).val < 256 := (y 0).isLt
  have h : t.val * 256 + (y 0).val < 8192 := by omega
  have e : (win0_2.blk t).view.emb y = (ix2 ⟨t.val * 256 + (y 0).val, h⟩ (y 1) : S8192x2048.Idx) := by
    blk_ext! [ixY]
  rw [e]
  refine (congrArg (fun a => normed 0x45000000#32 a (one (blkW m c t)) (y 1)) (rowX m c t (y 0) ⟨_, h⟩ rfl)).trans ?_
  rw [rowW]
  rfl

end Cert.NormFwdIdeal.Rows

namespace Cert.NormFwdIdeal.Claims

open Idealize.ShloMosaic Idealize.SL.Sem Idealize.ShloMosaic.Tactic

theorem frame_kernel : Cert.quiescent_NormFwd (hNormFwd := Cert.NormFwd.Gen.facts) := fun m ρ _ => Cert.NormFwd.Gen.frame m ρ
theorem frame_ideal : Cert.quiescent_NormFwdIdeal (hNormFwdIdeal := Cert.NormFwdIdeal.Gen.facts) := fun m ρ _ => Cert.NormFwdIdeal.Gen.frame m ρ
theorem frame_ref : Cert.quiescent_NormFwdRefIdeal (hNormFwdRefIdeal := Cert.NormFwdRefIdeal.Gen.facts) := fun m ρ _ =>
  (θ_run Cert.NormFwdRefIdeal.defs _ _).mono (fun r h => ⟨fun c => (h c).2, sem_eq_zero_of_no_sems (by decide) r.2⟩)
    (Cert.NormFwdRefIdeal.Value.run (F := Ideal) m ρ)

theorem algebraic : Cert.algebraic_NormFwdIdeal_NormFwdRefIdeal (hNormFwdIdeal := Cert.NormFwdIdeal.Gen.facts) (hNormFwdRefIdeal := Cert.NormFwdRefIdeal.Gen.facts) := by
  intro m ρ m' ρ' _ hagree
  refine ⟨Cert.NormFwdIdeal.Rows.total m, ?_, ?_⟩
  · refine (θ_run Cert.NormFwdIdeal.defs _ _).mono (fun _ h c => ⟨?_, (h c).2⟩) (Cert.NormFwdIdeal.Value.run_blocks (F := Ideal) m ρ)
    · exact (h c).1.trans (Cert.NormFwdIdeal.Rows.arr m c)
  · refine (θ_run Cert.NormFwdRefIdeal.defs _ _).mono (fun _ h c => ⟨?_, (h c).2⟩) (Cert.NormFwdRefIdeal.Value.run (F := Ideal) m' ρ')
    · rw [(h c).1]
      simp only [hagree c]
      refine funext fun (i : Cert.NormFwdIdeal.S8192x2048.Idx) => ?_
      idx_vars i
      pointwise [Cert.NormFwdIdeal.Rows.total]

end Cert.NormFwdIdeal.Claims

end
-- ==== Proof.Rows.NormBwd.lean ====
/- NormBwd: the gradients of the norm of 8192 rows of 2048, in the rows and in the scale. -/
module

public import proofs.«01_k».proof.Defs
public import proofs.«01_k».proof.Proof.Rows.Rule
public import proofs.«01_k».proof.Proof.Gen.NormBwd.Frame
public import proofs.«01_k».proof.Proof.Gen.NormBwdIdeal.Value
public import proofs.«01_k».proof.Proof.Gen.NormBwdRefIdeal.Run
public import Idealize.ShloMosaic.Adequacy
public import Idealize.ShloMosaic.Init
public import Idealize.ShloMosaic.Lib.Quiescent
public import Idealize.ShloMosaic.Lib.Pipeline.ReadBack

@[expose] public section

set_option maxRecDepth 16384

noncomputable section

namespace Cert.NormBwdIdeal.Rows

open Cert.NormBwdIdeal Cert.NormBwdIdeal.Gen Idealize.ShloMosaic Idealize.ShloMosaic.TcCoe Idealize.ShloMosaic.Tactic Idealize.SL.Sem
open Cert.RowRule

variable (m : (ℓ : Loc nD τ sig) → Buf (Elt Ideal) ℓ)

theorem ixX : ∀ t : Fin grid0.N, win0_0.index t = ![t.val, 0] := by decide +kernel
theorem ixW : ∀ t : Fin grid0.N, win0_1.index t = ![0, 0] := by decide +kernel
theorem ixD : ∀ t : Fin grid0.N, win0_2.index t = ![t.val, 0] := by decide +kernel
theorem ixG : ∀ t : Fin grid0.N, win0_3.index t = ![t.val, 0] := by decide +kernel
theorem ixS : ∀ t : Fin grid0.N, win0_4.index t = ![0, 0] := by decide +kernel

abbrev argX (c : Dev nD) : S8192x2048.Idx → EReal := m ((c : Thread nD τ).loc main_arg0)
abbrev argW (c : Dev nD) : S2048.Idx → EReal := m ((c : Thread nD τ).loc main_arg1)
abbrev argD (c : Dev nD) : S8192x2048.Idx → EReal := m ((c : Thread nD τ).loc main_arg2)

abbrev blkX (c : Dev nD) (t : Fin cfg0.N) : S128x2048.Idx → EReal := iblk m c 0 t
abbrev blkW (c : Dev nD) (t : Fin cfg0.N) : S1x2048.Idx → EReal := iblk m c 1 t
abbrev blkD (c : Dev nD) (t : Fin cfg0.N) : S128x2048.Idx → EReal := iblk m c 2 t

abbrev wholeRow (X : S8192x2048.Idx → EReal) (r : Fin 8192) : Fin 2048 → EReal := fun k => X (ix2 r k)
abbrev scale (W : S2048.Idx → EReal) : Fin 2048 → EReal := fun k => W (ix1 k)

/-- One row of a block of 128. -/
abbrev row (X : S128x2048.Idx → EReal) (r : Fin 128) : Fin 2048 → EReal := fun k => X (ix2 r k)
abbrev one (W : S1x2048.Idx → EReal) : Fin 2048 → EReal := fun k => W (ix2 0 k)

theorem pay_row (X D : S128x2048.Idx → EReal) (W : S1x2048.Idx → EReal) (j : S128x2048.Idx) :
    (k0_pay1 (F := Ideal) X (k0_pay8 X W D) (k0_pay9 X W D) j : EReal)
      = rowGrad 0x45000000#32 (row X (j 0)) (one W) (row D (j 0)) (j 1) := by
  idx_vars j
  pointwise [k0_pay1, k0_pay9, k0_pay8, k0_pay7, k0_pay5, k0_pay4, row, one, rowGrad, back, square, num, Fin.sum_univ_one]

theorem pay_scale (X D : S128x2048.Idx → EReal) (S : S1x2048.Idx → EReal) (j : S1x2048.Idx) :
    (k0_pay2 (F := Ideal) (k0_pay6 X D) S j : EReal)
      = S j + ∑ r : Fin 128, scaleGrad 0x45000000#32 (row X r) (row D r) (j 1) := by
  idx_vars j
  pointwise [k0_pay2, k0_pay6, k0_pay5, k0_pay4, row, scaleGrad, square, num, Fin.sum_univ_one]

/-- A point's part of the gradient in the scale. -/
abbrev term (c : Dev nD) (t : Fin cfg0.N) (j : S1x2048.Idx) : EReal :=
  ∑ r : Fin 128, scaleGrad 0x45000000#32 (row (blkX m c t) r) (row (blkD m c t) r) (j 1)

theorem scale_first (c : Dev nD) (t : Fin cfg0.N) (h : t.val % 64 = 0) (j : S1x2048.Idx) :
    (outsAt0 m c t.val t.isLt).2 j = (0 : EReal) + term m c t j := by
  rw [outsAt0_A m c t h]
  frame_out
  refine (pay_scale _ _ _ j).trans ?_
  pointwise [k0_pay3]

theorem scale_next (c : Dev nD) (t : Fin cfg0.N) (h : ¬t.val % 64 = 0) (j : S1x2048.Idx) :
    (outsAt0 m c t.val t.isLt).2 j
      = ((outsAt0 m c (t.val - 1) (Nat.lt_of_le_of_lt (Nat.sub_le _ _) t.isLt)).2 j : EReal) + term m c t j := by
  rw [outsAt0_B m c t h]
  frame_out [read_unread_whole]
  exact pay_scale _ _ _ j

theorem rows (c : Dev nD) (t : Fin cfg0.N) (j : S128x2048.Idx) :
    ((outsAt0 m c t.val t.isLt).1 j : EReal)
      = rowGrad 0x45000000#32 (row (blkX m c t) (j 0)) (one (blkW m c t)) (row (blkD m c t) (j 0)) (j 1) := by
  by_cases h : t.val % 64 = 0
  · rw [outsAt0_A m c t h]
    frame_out
    exact pay_row _ _ _ j
  · rw [outsAt0_B m c t h]
    frame_out
    exact pay_row _ _ _ j

/-- A point's rows are the argument's. -/
theorem rowX (c : Dev nD) (t : Fin cfg0.N) (r : Fin 128) (R : Fin 8192) (e : R.val = t.val * 128 + r.val) :
    row (blkX m c t) r = wholeRow (argX m c) R := by
  obtain ⟨R, h⟩ := R
  obtain rfl : R = t.val * 128 + r.val := e
  refine funext fun k => ?_
  change blkX m c t (ix2 r k) = argX m c (ix2 ⟨t.val * 128 + r.val, h⟩ k)
  blk_ext! [iblk, V, ixX]

theorem rowD (c : Dev nD) (t : Fin cfg0.N) (r : Fin 128) (R : Fin 8192) (e : R.val = t.val * 128 + r.val) :
    row (blkD m c t) r = wholeRow (argD m c) R := by
  obtain ⟨R, h⟩ := R
  obtain rfl : R = t.val * 128 + r.val := e
  refine funext fun k => ?_
  change blkD m c t (ix2 r k) = argD m c (ix2 ⟨t.val * 128 + r.val, h⟩ k)
  blk_ext! [iblk, V, ixD]

theorem rowW (c : Dev nD) (t : Fin cfg0.N) : one (blkW m c t) = scale (argW m c) := by
  refine funext fun k => ?_
  change blkW m c t (ix2 0 k) = argW m c (ix1 k)
  have hb : blkW m c t (ix2 0 k) = (V m c main_v0 : S1x2048.Idx → EReal) (ix2 0 k) := by
    blk_ext! [iblk, ixW]
  rw [hb]
  entry_read
  pointwise [argW]

/-- The gradients. -/
abbrev totalRows (c : Dev nD) : S8192x2048.Idx → EReal := fun i =>
  rowGrad 0x45000000#32 (wholeRow (argX m c) (i 0)) (scale (argW m c)) (wholeRow (argD m c) (i 0)) (i 1)

abbrev totalScale (c : Dev nD) : S1x2048.Idx → EReal := fun i =>
  ∑ r : Fin 8192, scaleGrad 0x45000000#32 (wholeRow (argX m c) r) (wholeRow (argD m c) r) (i 1)

theorem arrRows (c : Dev nD) : (dats m 0 c).arrAt 3 cfg0.N = totalRows m c := by
  refine (dats m 0 c).arrAt_eq_of_covers 3 _ (by decide +kernel) fun t hf y => ?_
  blk_simp
  rw [after0_3]
  refine (rows m c t _).trans ?_
  have hN : t.val < 64 := t.isLt
  have hy : (y 0).val < 128 := (y 0).isLt
  have h : t.val * 128 + (y 0).val < 8192 := by omega
  have e : (win0_3.blk t).view.emb y = (ix2 ⟨t.val * 128 + (y 0).val, h⟩ (y 1) : S8192x2048.Idx) := by
    blk_ext! [ixG]
  rw [e]
  refine (congrArg₂ (fun a b => rowGrad 0x45000000#32 a (one (blkW m c t)) b (y 1)) (rowX m c t (y 0) ⟨_, h⟩ rfl) (rowD m c t (y 0) ⟨_, h⟩ rfl)).trans ?_
  rw [rowW]
  rfl

theorem scaleSum (c : Dev nD) (t : Fin cfg0.N) (h : t.val % 64 = 63) (j : S1x2048.Idx) :
    ((outsAt0 m c t.val t.isLt).2 j : EReal)
      = ∑ s : Fin 64, term m c ⟨64 * (t.val / 64) + s.val, Pipeline.run_point_lt_of_flush t h s⟩ j := by
  rw [Pipeline.eq_sum_fin_of_reset_step_apply_of_flush (fun n h => (outsAt0 m c n h).2) 64 (fun _ => (0 : EReal)) (term m c)
    (scale_first m c) (scale_next m c) t h j, zero_add]

/-- The points' parts are the rows'. -/
theorem scaleRows (c : Dev nD) (j : S1x2048.Idx) (u : Fin 64 → Fin cfg0.N) (hu : ∀ s, (u s).val = s.val) :
    ∑ s : Fin 64, term m c (u s) j
      = ∑ r : Fin 8192, scaleGrad 0x45000000#32 (wholeRow (argX m c) r) (wholeRow (argD m c) r) (j 1) := by
  refine Fin.sum_mul_add_congr (n := 128) fun s r hl => ?_
  have hp : s.val * 128 + r.val = (u s).val * 128 + r.val := by rw [hu]
  rw [rowX m c _ r ⟨_, hl⟩ hp, rowD m c _ r ⟨_, hl⟩ hp]

theorem arrScale (c : Dev nD) : (dats m 0 c).arrAt 4 cfg0.N = totalScale m c := by
  refine (dats m 0 c).arrAt_eq_of_covers 4 _ (by decide +kernel) fun t hf y => ?_
  have ht := (flush0_4 t).mp hf
  have hN : t.val < 64 := t.isLt
  blk_simp
  rw [after0_4]
  refine (scaleSum m c t ht _).trans ?_
  have e : (win0_4.blk t).view.emb y = (ix2 0 (y 1) : S1x2048.Idx) := by
    blk_ext! [ixS]
  rw [e]
  exact scaleRows m c _ _ fun s => by dsimp only; omega

end Cert.NormBwdIdeal.Rows

namespace Cert.NormBwdIdeal.Claims

open Idealize.ShloMosaic Idealize.SL.Sem Idealize.ShloMosaic.Tactic

theorem frame_kernel : Cert.quiescent_NormBwd (hNormBwd := Cert.NormBwd.Gen.facts) := fun m ρ _ => Cert.NormBwd.Gen.frame m ρ
theorem frame_ideal : Cert.quiescent_NormBwdIdeal (hNormBwdIdeal := Cert.NormBwdIdeal.Gen.facts) := fun m ρ _ => Cert.NormBwdIdeal.Gen.frame m ρ
theorem frame_ref : Cert.quiescent_NormBwdRefIdeal (hNormBwdRefIdeal := Cert.NormBwdRefIdeal.Gen.facts) := fun m ρ _ =>
  (θ_run Cert.NormBwdRefIdeal.defs _ _).mono (fun r h => ⟨fun c => (h c).2.2, sem_eq_zero_of_no_sems (by decide) r.2⟩)
    (Cert.NormBwdRefIdeal.Value.run (F := Ideal) m ρ)

theorem algebraic : Cert.algebraic_NormBwdIdeal_NormBwdRefIdeal (hNormBwdIdeal := Cert.NormBwdIdeal.Gen.facts) (hNormBwdRefIdeal := Cert.NormBwdRefIdeal.Gen.facts) := by
  intro m ρ m' ρ' _ hagree
  refine ⟨Cert.NormBwdIdeal.Rows.totalRows m, Cert.NormBwdIdeal.Rows.totalScale m, ?_, ?_⟩
  · refine (θ_run Cert.NormBwdIdeal.defs _ _).mono (fun _ h c => ⟨?_, ?_, (h c).2.2⟩) (Cert.NormBwdIdeal.Value.run_blocks (F := Ideal) m ρ)
    · exact (h c).1.trans (Cert.NormBwdIdeal.Rows.arrRows m c)
    · exact (h c).2.1.trans (Cert.NormBwdIdeal.Rows.arrScale m c)
  · refine (θ_run Cert.NormBwdRefIdeal.defs _ _).mono (fun _ h c => ⟨?_, ?_, (h c).2.2⟩) (Cert.NormBwdRefIdeal.Value.run (F := Ideal) m' ρ')
    · rw [(h c).1]
      simp only [hagree c]
      refine funext fun (i : Cert.NormBwdIdeal.S8192x2048.Idx) => ?_
      idx_vars i
      pointwise [Cert.NormBwdIdeal.Rows.totalRows, Fin.sum_univ_one]
    · rw [(h c).2.1]
      simp only [hagree c]
      refine funext fun (i : Cert.NormBwdIdeal.S1x2048.Idx) => ?_
      idx_vars i
      pointwise [Cert.NormBwdIdeal.Rows.totalScale]
      exact Fin.sum_univ_one _

end Cert.NormBwdIdeal.Claims

end
-- ==== Proof.Rows.LoraFwd.lean ====
/- LoraFwd: the norm of 8192 rows of 512, with its scale. -/
module

public import proofs.«01_k».proof.Defs
public import proofs.«01_k».proof.Proof.Rows.Rule
public import proofs.«01_k».proof.Proof.Gen.LoraFwd.Frame
public import proofs.«01_k».proof.Proof.Gen.LoraFwdIdeal.Value
public import proofs.«01_k».proof.Proof.Gen.LoraFwdRefIdeal.Run
public import Idealize.ShloMosaic.Adequacy
public import Idealize.ShloMosaic.Init
public import Idealize.ShloMosaic.Lib.Quiescent
public import Idealize.ShloMosaic.Lib.Pipeline.ReadBack

@[expose] public section

set_option maxRecDepth 16384

noncomputable section

namespace Cert.LoraFwdIdeal.Rows

open Cert.LoraFwdIdeal Cert.LoraFwdIdeal.Gen Idealize.ShloMosaic Idealize.ShloMosaic.TcCoe Idealize.ShloMosaic.Tactic Idealize.SL.Sem
open Cert.RowRule

variable (m : (ℓ : Loc nD τ sig) → Buf (Elt Ideal) ℓ)

theorem ixX : ∀ t : Fin grid0.N, win0_0.index t = ![t.val, 0] := by decide +kernel
theorem ixW : ∀ t : Fin grid0.N, win0_1.index t = ![0, 0] := by decide +kernel
theorem ixY : ∀ t : Fin grid0.N, win0_2.index t = ![t.val, 0] := by decide +kernel

abbrev argX (c : Dev nD) : S8192x512.Idx → EReal := m ((c : Thread nD τ).loc main_arg0)
abbrev argW (c : Dev nD) : S512.Idx → EReal := m ((c : Thread nD τ).loc main_arg1)

abbrev blkX (c : Dev nD) (t : Fin cfg0.N) : S512x512.Idx → EReal := iblk m c 0 t
abbrev blkW (c : Dev nD) (t : Fin cfg0.N) : S1x512.Idx → EReal := iblk m c 1 t

abbrev wholeRow (X : S8192x512.Idx → EReal) (r : Fin 8192) : Fin 512 → EReal := fun k => X (ix2 r k)
abbrev scale (W : S512.Idx → EReal) : Fin 512 → EReal := fun k => W (ix1 k)

/-- One row of a block of 512. -/
abbrev row (X : S512x512.Idx → EReal) (r : Fin 512) : Fin 512 → EReal := fun k => X (ix2 r k)
abbrev one (W : S1x512.Idx → EReal) : Fin 512 → EReal := fun k => W (ix2 0 k)

theorem pay (X : S512x512.Idx → EReal) (W : S1x512.Idx → EReal) (j : S512x512.Idx) :
    (k0_pay1 (F := Ideal) X W j : EReal) = normed 0x44000000#32 (row X (j 0)) (one W) (j 1) := by
  idx_vars j
  pointwise [k0_pay1, row, one, normed, square, num]

/-- A point's rows are the argument's. -/
theorem rowX (c : Dev nD) (t : Fin cfg0.N) (r : Fin 512) (R : Fin 8192) (e : R.val = t.val * 512 + r.val) :
    row (blkX m c t) r = wholeRow (argX m c) R := by
  obtain ⟨R, h⟩ := R
  obtain rfl : R = t.val * 512 + r.val := e
  refine funext fun k => ?_
  change blkX m c t (ix2 r k) = argX m c (ix2 ⟨t.val * 512 + r.val, h⟩ k)
  blk_ext! [iblk, V, ixX]

theorem rowW (c : Dev nD) (t : Fin cfg0.N) : one (blkW m c t) = scale (argW m c) := by
  refine funext fun k => ?_
  change blkW m c t (ix2 0 k) = argW m c (ix1 k)
  have hb : blkW m c t (ix2 0 k) = (V m c main_v0 : S1x512.Idx → EReal) (ix2 0 k) := by
    blk_ext! [iblk, ixW]
  rw [hb]
  entry_read
  pointwise [argW]

/-- The normed rows. -/
abbrev total (c : Dev nD) : S8192x512.Idx → EReal := fun i => normed 0x44000000#32 (wholeRow (argX m c) (i 0)) (scale (argW m c)) (i 1)

theorem arr (c : Dev nD) : (dats m 0 c).arrAt 2 cfg0.N = total m c := by
  refine (dats m 0 c).arrAt_eq_of_covers 2 _ (by decide +kernel) fun t hf y => ?_
  blk_simp
  rw [after0_2]
  frame_out
  refine (pay _ _ y).trans ?_
  have hN : t.val < 16 := t.isLt
  have hy : (y 0).val < 512 := (y 0).isLt
  have h : t.val * 512 + (y 0).val < 8192 := by omega
  have e : (win0_2.blk t).view.emb y = (ix2 ⟨t.val * 512 + (y 0).val, h⟩ (y 1) : S8192x512.Idx) := by
    blk_ext! [ixY]
  rw [e]
  refine (congrArg (fun a => normed 0x44000000#32 a (one (blkW m c t)) (y 1)) (rowX m c t (y 0) ⟨_, h⟩ rfl)).trans ?_
  rw [rowW]
  rfl

end Cert.LoraFwdIdeal.Rows

namespace Cert.LoraFwdIdeal.Claims

open Idealize.ShloMosaic Idealize.SL.Sem Idealize.ShloMosaic.Tactic

theorem frame_kernel : Cert.quiescent_LoraFwd (hLoraFwd := Cert.LoraFwd.Gen.facts) := fun m ρ _ => Cert.LoraFwd.Gen.frame m ρ
theorem frame_ideal : Cert.quiescent_LoraFwdIdeal (hLoraFwdIdeal := Cert.LoraFwdIdeal.Gen.facts) := fun m ρ _ => Cert.LoraFwdIdeal.Gen.frame m ρ
theorem frame_ref : Cert.quiescent_LoraFwdRefIdeal (hLoraFwdRefIdeal := Cert.LoraFwdRefIdeal.Gen.facts) := fun m ρ _ =>
  (θ_run Cert.LoraFwdRefIdeal.defs _ _).mono (fun r h => ⟨fun c => (h c).2, sem_eq_zero_of_no_sems (by decide) r.2⟩)
    (Cert.LoraFwdRefIdeal.Value.run (F := Ideal) m ρ)

theorem algebraic : Cert.algebraic_LoraFwdIdeal_LoraFwdRefIdeal (hLoraFwdIdeal := Cert.LoraFwdIdeal.Gen.facts) (hLoraFwdRefIdeal := Cert.LoraFwdRefIdeal.Gen.facts) := by
  intro m ρ m' ρ' _ hagree
  refine ⟨Cert.LoraFwdIdeal.Rows.total m, ?_, ?_⟩
  · refine (θ_run Cert.LoraFwdIdeal.defs _ _).mono (fun _ h c => ⟨?_, (h c).2⟩) (Cert.LoraFwdIdeal.Value.run_blocks (F := Ideal) m ρ)
    · exact (h c).1.trans (Cert.LoraFwdIdeal.Rows.arr m c)
  · refine (θ_run Cert.LoraFwdRefIdeal.defs _ _).mono (fun _ h c => ⟨?_, (h c).2⟩) (Cert.LoraFwdRefIdeal.Value.run (F := Ideal) m' ρ')
    · rw [(h c).1]
      simp only [hagree c]
      refine funext fun (i : Cert.LoraFwdIdeal.S8192x512.Idx) => ?_
      idx_vars i
      pointwise [Cert.LoraFwdIdeal.Rows.total]

end Cert.LoraFwdIdeal.Claims

end
-- ==== Proof.Rows.LoraBwd.lean ====
/- LoraBwd: the gradients of the norm of 8192 rows of 512, in the rows and in the scale. -/
module

public import proofs.«01_k».proof.Defs
public import proofs.«01_k».proof.Proof.Rows.Rule
public import proofs.«01_k».proof.Proof.Gen.LoraBwd.Frame
public import proofs.«01_k».proof.Proof.Gen.LoraBwdIdeal.Value
public import proofs.«01_k».proof.Proof.Gen.LoraBwdRefIdeal.Run
public import Idealize.ShloMosaic.Adequacy
public import Idealize.ShloMosaic.Init
public import Idealize.ShloMosaic.Lib.Quiescent
public import Idealize.ShloMosaic.Lib.Pipeline.ReadBack

@[expose] public section

set_option maxRecDepth 16384

noncomputable section

namespace Cert.LoraBwdIdeal.Rows

open Cert.LoraBwdIdeal Cert.LoraBwdIdeal.Gen Idealize.ShloMosaic Idealize.ShloMosaic.TcCoe Idealize.ShloMosaic.Tactic Idealize.SL.Sem
open Cert.RowRule

variable (m : (ℓ : Loc nD τ sig) → Buf (Elt Ideal) ℓ)

theorem ixX : ∀ t : Fin grid0.N, win0_0.index t = ![t.val, 0] := by decide +kernel
theorem ixW : ∀ t : Fin grid0.N, win0_1.index t = ![0, 0] := by decide +kernel
theorem ixD : ∀ t : Fin grid0.N, win0_2.index t = ![t.val, 0] := by decide +kernel
theorem ixG : ∀ t : Fin grid0.N, win0_3.index t = ![t.val, 0] := by decide +kernel
theorem ixS : ∀ t : Fin grid0.N, win0_4.index t = ![0, 0] := by decide +kernel

abbrev argX (c : Dev nD) : S8192x512.Idx → EReal := m ((c : Thread nD τ).loc main_arg0)
abbrev argW (c : Dev nD) : S512.Idx → EReal := m ((c : Thread nD τ).loc main_arg1)
abbrev argD (c : Dev nD) : S8192x512.Idx → EReal := m ((c : Thread nD τ).loc main_arg2)

abbrev blkX (c : Dev nD) (t : Fin cfg0.N) : S512x512.Idx → EReal := iblk m c 0 t
abbrev blkW (c : Dev nD) (t : Fin cfg0.N) : S1x512.Idx → EReal := iblk m c 1 t
abbrev blkD (c : Dev nD) (t : Fin cfg0.N) : S512x512.Idx → EReal := iblk m c 2 t

abbrev wholeRow (X : S8192x512.Idx → EReal) (r : Fin 8192) : Fin 512 → EReal := fun k => X (ix2 r k)
abbrev scale (W : S512.Idx → EReal) : Fin 512 → EReal := fun k => W (ix1 k)

/-- One row of a block of 512. -/
abbrev row (X : S512x512.Idx → EReal) (r : Fin 512) : Fin 512 → EReal := fun k => X (ix2 r k)
abbrev one (W : S1x512.Idx → EReal) : Fin 512 → EReal := fun k => W (ix2 0 k)

theorem pay_row (X D : S512x512.Idx → EReal) (W : S1x512.Idx → EReal) (j : S512x512.Idx) :
    (k0_pay1 (F := Ideal) X (k0_pay8 X W D) (k0_pay9 X W D) j : EReal)
      = rowGrad 0x44000000#32 (row X (j 0)) (one W) (row D (j 0)) (j 1) := by
  idx_vars j
  pointwise [k0_pay1, k0_pay9, k0_pay8, k0_pay7, k0_pay5, k0_pay4, row, one, rowGrad, back, square, num, Fin.sum_univ_one]

theorem pay_scale (X D : S512x512.Idx → EReal) (S : S1x512.Idx → EReal) (j : S1x512.Idx) :
    (k0_pay2 (F := Ideal) (k0_pay6 X D) S j : EReal)
      = S j + ∑ r : Fin 512, scaleGrad 0x44000000#32 (row X r) (row D r) (j 1) := by
  idx_vars j
  pointwise [k0_pay2, k0_pay6, k0_pay5, k0_pay4, row, scaleGrad, square, num, Fin.sum_univ_one]

/-- A point's part of the gradient in the scale. -/
abbrev term (c : Dev nD) (t : Fin cfg0.N) (j : S1x512.Idx) : EReal :=
  ∑ r : Fin 512, scaleGrad 0x44000000#32 (row (blkX m c t) r) (row (blkD m c t) r) (j 1)

theorem scale_first (c : Dev nD) (t : Fin cfg0.N) (h : t.val % 16 = 0) (j : S1x512.Idx) :
    (outsAt0 m c t.val t.isLt).2 j = (0 : EReal) + term m c t j := by
  rw [outsAt0_A m c t h]
  frame_out
  refine (pay_scale _ _ _ j).trans ?_
  pointwise [k0_pay3]

theorem scale_next (c : Dev nD) (t : Fin cfg0.N) (h : ¬t.val % 16 = 0) (j : S1x512.Idx) :
    (outsAt0 m c t.val t.isLt).2 j
      = ((outsAt0 m c (t.val - 1) (Nat.lt_of_le_of_lt (Nat.sub_le _ _) t.isLt)).2 j : EReal) + term m c t j := by
  rw [outsAt0_B m c t h]
  frame_out [read_unread_whole]
  exact pay_scale _ _ _ j

theorem rows (c : Dev nD) (t : Fin cfg0.N) (j : S512x512.Idx) :
    ((outsAt0 m c t.val t.isLt).1 j : EReal)
      = rowGrad 0x44000000#32 (row (blkX m c t) (j 0)) (one (blkW m c t)) (row (blkD m c t) (j 0)) (j 1) := by
  by_cases h : t.val % 16 = 0
  · rw [outsAt0_A m c t h]
    frame_out
    exact pay_row _ _ _ j
  · rw [outsAt0_B m c t h]
    frame_out
    exact pay_row _ _ _ j

/-- A point's rows are the argument's. -/
theorem rowX (c : Dev nD) (t : Fin cfg0.N) (r : Fin 512) (R : Fin 8192) (e : R.val = t.val * 512 + r.val) :
    row (blkX m c t) r = wholeRow (argX m c) R := by
  obtain ⟨R, h⟩ := R
  obtain rfl : R = t.val * 512 + r.val := e
  refine funext fun k => ?_
  change blkX m c t (ix2 r k) = argX m c (ix2 ⟨t.val * 512 + r.val, h⟩ k)
  blk_ext! [iblk, V, ixX]

theorem rowD (c : Dev nD) (t : Fin cfg0.N) (r : Fin 512) (R : Fin 8192) (e : R.val = t.val * 512 + r.val) :
    row (blkD m c t) r = wholeRow (argD m c) R := by
  obtain ⟨R, h⟩ := R
  obtain rfl : R = t.val * 512 + r.val := e
  refine funext fun k => ?_
  change blkD m c t (ix2 r k) = argD m c (ix2 ⟨t.val * 512 + r.val, h⟩ k)
  blk_ext! [iblk, V, ixD]

theorem rowW (c : Dev nD) (t : Fin cfg0.N) : one (blkW m c t) = scale (argW m c) := by
  refine funext fun k => ?_
  change blkW m c t (ix2 0 k) = argW m c (ix1 k)
  have hb : blkW m c t (ix2 0 k) = (V m c main_v0 : S1x512.Idx → EReal) (ix2 0 k) := by
    blk_ext! [iblk, ixW]
  rw [hb]
  entry_read
  pointwise [argW]

/-- The gradients. -/
abbrev totalRows (c : Dev nD) : S8192x512.Idx → EReal := fun i =>
  rowGrad 0x44000000#32 (wholeRow (argX m c) (i 0)) (scale (argW m c)) (wholeRow (argD m c) (i 0)) (i 1)

abbrev totalScale (c : Dev nD) : S1x512.Idx → EReal := fun i =>
  ∑ r : Fin 8192, scaleGrad 0x44000000#32 (wholeRow (argX m c) r) (wholeRow (argD m c) r) (i 1)

theorem arrRows (c : Dev nD) : (dats m 0 c).arrAt 3 cfg0.N = totalRows m c := by
  refine (dats m 0 c).arrAt_eq_of_covers 3 _ (by decide +kernel) fun t hf y => ?_
  blk_simp
  rw [after0_3]
  refine (rows m c t _).trans ?_
  have hN : t.val < 16 := t.isLt
  have hy : (y 0).val < 512 := (y 0).isLt
  have h : t.val * 512 + (y 0).val < 8192 := by omega
  have e : (win0_3.blk t).view.emb y = (ix2 ⟨t.val * 512 + (y 0).val, h⟩ (y 1) : S8192x512.Idx) := by
    blk_ext! [ixG]
  rw [e]
  refine (congrArg₂ (fun a b => rowGrad 0x44000000#32 a (one (blkW m c t)) b (y 1)) (rowX m c t (y 0) ⟨_, h⟩ rfl) (rowD m c t (y 0) ⟨_, h⟩ rfl)).trans ?_
  rw [rowW]
  rfl

theorem scaleSum (c : Dev nD) (t : Fin cfg0.N) (h : t.val % 16 = 15) (j : S1x512.Idx) :
    ((outsAt0 m c t.val t.isLt).2 j : EReal)
      = ∑ s : Fin 16, term m c ⟨16 * (t.val / 16) + s.val, Pipeline.run_point_lt_of_flush t h s⟩ j := by
  rw [Pipeline.eq_sum_fin_of_reset_step_apply_of_flush (fun n h => (outsAt0 m c n h).2) 16 (fun _ => (0 : EReal)) (term m c)
    (scale_first m c) (scale_next m c) t h j, zero_add]

/-- The points' parts are the rows'. -/
theorem scaleRows (c : Dev nD) (j : S1x512.Idx) (u : Fin 16 → Fin cfg0.N) (hu : ∀ s, (u s).val = s.val) :
    ∑ s : Fin 16, term m c (u s) j
      = ∑ r : Fin 8192, scaleGrad 0x44000000#32 (wholeRow (argX m c) r) (wholeRow (argD m c) r) (j 1) := by
  refine Fin.sum_mul_add_congr (n := 512) fun s r hl => ?_
  have hp : s.val * 512 + r.val = (u s).val * 512 + r.val := by rw [hu]
  rw [rowX m c _ r ⟨_, hl⟩ hp, rowD m c _ r ⟨_, hl⟩ hp]

theorem arrScale (c : Dev nD) : (dats m 0 c).arrAt 4 cfg0.N = totalScale m c := by
  refine (dats m 0 c).arrAt_eq_of_covers 4 _ (by decide +kernel) fun t hf y => ?_
  have ht := (flush0_4 t).mp hf
  have hN : t.val < 16 := t.isLt
  blk_simp
  rw [after0_4]
  refine (scaleSum m c t ht _).trans ?_
  have e : (win0_4.blk t).view.emb y = (ix2 0 (y 1) : S1x512.Idx) := by
    blk_ext! [ixS]
  rw [e]
  exact scaleRows m c _ _ fun s => by dsimp only; omega

end Cert.LoraBwdIdeal.Rows

namespace Cert.LoraBwdIdeal.Claims

open Idealize.ShloMosaic Idealize.SL.Sem Idealize.ShloMosaic.Tactic

theorem frame_kernel : Cert.quiescent_LoraBwd (hLoraBwd := Cert.LoraBwd.Gen.facts) := fun m ρ _ => Cert.LoraBwd.Gen.frame m ρ
theorem frame_ideal : Cert.quiescent_LoraBwdIdeal (hLoraBwdIdeal := Cert.LoraBwdIdeal.Gen.facts) := fun m ρ _ => Cert.LoraBwdIdeal.Gen.frame m ρ
theorem frame_ref : Cert.quiescent_LoraBwdRefIdeal (hLoraBwdRefIdeal := Cert.LoraBwdRefIdeal.Gen.facts) := fun m ρ _ =>
  (θ_run Cert.LoraBwdRefIdeal.defs _ _).mono (fun r h => ⟨fun c => (h c).2.2, sem_eq_zero_of_no_sems (by decide) r.2⟩)
    (Cert.LoraBwdRefIdeal.Value.run (F := Ideal) m ρ)

theorem algebraic : Cert.algebraic_LoraBwdIdeal_LoraBwdRefIdeal (hLoraBwdIdeal := Cert.LoraBwdIdeal.Gen.facts) (hLoraBwdRefIdeal := Cert.LoraBwdRefIdeal.Gen.facts) := by
  intro m ρ m' ρ' _ hagree
  refine ⟨Cert.LoraBwdIdeal.Rows.totalRows m, Cert.LoraBwdIdeal.Rows.totalScale m, ?_, ?_⟩
  · refine (θ_run Cert.LoraBwdIdeal.defs _ _).mono (fun _ h c => ⟨?_, ?_, (h c).2.2⟩) (Cert.LoraBwdIdeal.Value.run_blocks (F := Ideal) m ρ)
    · exact (h c).1.trans (Cert.LoraBwdIdeal.Rows.arrRows m c)
    · exact (h c).2.1.trans (Cert.LoraBwdIdeal.Rows.arrScale m c)
  · refine (θ_run Cert.LoraBwdRefIdeal.defs _ _).mono (fun _ h c => ⟨?_, ?_, (h c).2.2⟩) (Cert.LoraBwdRefIdeal.Value.run (F := Ideal) m' ρ')
    · rw [(h c).1]
      simp only [hagree c]
      refine funext fun (i : Cert.LoraBwdIdeal.S8192x512.Idx) => ?_
      idx_vars i
      pointwise [Cert.LoraBwdIdeal.Rows.totalRows, Fin.sum_univ_one]
    · rw [(h c).2.1]
      simp only [hagree c]
      refine funext fun (i : Cert.LoraBwdIdeal.S1x512.Idx) => ?_
      idx_vars i
      pointwise [Cert.LoraBwdIdeal.Rows.totalScale]
      exact Fin.sum_univ_one _

end Cert.LoraBwdIdeal.Claims

end
-- ==== Proof.Rows.SwigluFwd.lean ====
/- SwigluFwd: the gated product of 8192 rows of 5632. -/
module

public import proofs.«01_k».proof.Defs
public import proofs.«01_k».proof.Proof.Rows.Rule
public import proofs.«01_k».proof.Proof.Gen.SwigluFwd.Frame
public import proofs.«01_k».proof.Proof.Gen.SwigluFwdIdeal.Value
public import proofs.«01_k».proof.Proof.Gen.SwigluFwdRefIdeal.Run
public import Idealize.ShloMosaic.Adequacy
public import Idealize.ShloMosaic.Init
public import Idealize.ShloMosaic.Lib.Quiescent
public import Idealize.ShloMosaic.Lib.Pipeline.ReadBack

@[expose] public section

set_option maxRecDepth 16384

noncomputable section

namespace Cert.SwigluFwdIdeal.Rows

open Cert.SwigluFwdIdeal Cert.SwigluFwdIdeal.Gen Idealize.ShloMosaic Idealize.ShloMosaic.TcCoe Idealize.ShloMosaic.Tactic Idealize.SL.Sem
open Cert.RowRule

variable (m : (ℓ : Loc nD τ sig) → Buf (Elt Ideal) ℓ)

abbrev argX (c : Dev nD) : S8192x5632.Idx → EReal := m ((c : Thread nD τ).loc main_arg0)
abbrev argY (c : Dev nD) : S8192x5632.Idx → EReal := m ((c : Thread nD τ).loc main_arg1)

abbrev total (c : Dev nD) : S8192x5632.Idx → EReal := fun i => gated (argX m c i) (argY m c i)

theorem arr (c : Dev nD) : (dats m 0 c).arrAt 2 cfg0.N = total m c := by
  refine (dats m 0 c).arrAt_eq_of_covers 2 _ (by decide +kernel) fun t hf y => ?_
  blk_simp
  rw [after0_2]
  frame_out
  pointwise [k0_pay1]
  rfl

end Cert.SwigluFwdIdeal.Rows

namespace Cert.SwigluFwdIdeal.Claims

open Idealize.ShloMosaic Idealize.SL.Sem Idealize.ShloMosaic.Tactic

theorem frame_kernel : Cert.quiescent_SwigluFwd (hSwigluFwd := Cert.SwigluFwd.Gen.facts) := fun m ρ _ => Cert.SwigluFwd.Gen.frame m ρ
theorem frame_ideal : Cert.quiescent_SwigluFwdIdeal (hSwigluFwdIdeal := Cert.SwigluFwdIdeal.Gen.facts) := fun m ρ _ => Cert.SwigluFwdIdeal.Gen.frame m ρ
theorem frame_ref : Cert.quiescent_SwigluFwdRefIdeal (hSwigluFwdRefIdeal := Cert.SwigluFwdRefIdeal.Gen.facts) := fun m ρ _ =>
  (θ_run Cert.SwigluFwdRefIdeal.defs _ _).mono (fun r h => ⟨fun c => (h c).2, sem_eq_zero_of_no_sems (by decide) r.2⟩)
    (Cert.SwigluFwdRefIdeal.Value.run (F := Ideal) m ρ)

theorem algebraic : Cert.algebraic_SwigluFwdIdeal_SwigluFwdRefIdeal (hSwigluFwdIdeal := Cert.SwigluFwdIdeal.Gen.facts) (hSwigluFwdRefIdeal := Cert.SwigluFwdRefIdeal.Gen.facts) := by
  intro m ρ m' ρ' _ hagree
  refine ⟨Cert.SwigluFwdIdeal.Rows.total m, ?_, ?_⟩
  · refine (θ_run Cert.SwigluFwdIdeal.defs _ _).mono (fun _ h c => ⟨?_, (h c).2⟩) (Cert.SwigluFwdIdeal.Value.run_blocks (F := Ideal) m ρ)
    · exact (h c).1.trans (Cert.SwigluFwdIdeal.Rows.arr m c)
  · refine (θ_run Cert.SwigluFwdRefIdeal.defs _ _).mono (fun _ h c => ⟨?_, (h c).2⟩) (Cert.SwigluFwdRefIdeal.Value.run (F := Ideal) m' ρ')
    · rw [(h c).1]
      simp only [hagree c]
      refine funext fun (i : Cert.SwigluFwdIdeal.S8192x5632.Idx) => ?_
      idx_vars i
      pointwise [Cert.SwigluFwdIdeal.Rows.total, Cert.SwigluFwdIdeal.Rows.argX, Cert.SwigluFwdIdeal.Rows.argY]
      rfl

end Cert.SwigluFwdIdeal.Claims

end
-- ==== Proof.Rows.SwigluBwd.lean ====
/- SwigluBwd: the gradients of the gated product of 8192 rows of 5632. -/
module

public import proofs.«01_k».proof.Defs
public import proofs.«01_k».proof.Proof.Rows.Rule
public import proofs.«01_k».proof.Proof.Gen.SwigluBwd.Frame
public import proofs.«01_k».proof.Proof.Gen.SwigluBwdIdeal.Value
public import proofs.«01_k».proof.Proof.Gen.SwigluBwdRefIdeal.Run
public import Idealize.ShloMosaic.Adequacy
public import Idealize.ShloMosaic.Init
public import Idealize.ShloMosaic.Lib.Quiescent
public import Idealize.ShloMosaic.Lib.Pipeline.ReadBack

@[expose] public section

set_option maxRecDepth 16384

noncomputable section

namespace Cert.SwigluBwdIdeal.Rows

open Cert.SwigluBwdIdeal Cert.SwigluBwdIdeal.Gen Idealize.ShloMosaic Idealize.ShloMosaic.TcCoe Idealize.ShloMosaic.Tactic Idealize.SL.Sem
open Cert.RowRule

variable (m : (ℓ : Loc nD τ sig) → Buf (Elt Ideal) ℓ)

abbrev argX (c : Dev nD) : S8192x5632.Idx → EReal := m ((c : Thread nD τ).loc main_arg0)
abbrev argY (c : Dev nD) : S8192x5632.Idx → EReal := m ((c : Thread nD τ).loc main_arg1)
abbrev argD (c : Dev nD) : S8192x5632.Idx → EReal := m ((c : Thread nD τ).loc main_arg2)

abbrev totalGate (c : Dev nD) : S8192x5632.Idx → EReal := fun i => gateGrad (argX m c i) (argY m c i) (argD m c i)
abbrev totalFactor (c : Dev nD) : S8192x5632.Idx → EReal := fun i => factorGrad (argX m c i) (argD m c i)

theorem arrGate (c : Dev nD) : (dats m 0 c).arrAt 3 cfg0.N = totalGate m c := by
  refine (dats m 0 c).arrAt_eq_of_covers 3 _ (by decide +kernel) fun t hf y => ?_
  blk_simp
  rw [after0_3]
  frame_out
  pointwise [k0_pay1, k0_pay3]
  rfl

theorem arrFactor (c : Dev nD) : (dats m 0 c).arrAt 4 cfg0.N = totalFactor m c := by
  refine (dats m 0 c).arrAt_eq_of_covers 4 _ (by decide +kernel) fun t hf y => ?_
  blk_simp
  rw [after0_4]
  frame_out
  pointwise [k0_pay1, k0_pay2]
  rfl

end Cert.SwigluBwdIdeal.Rows

namespace Cert.SwigluBwdIdeal.Claims

open Idealize.ShloMosaic Idealize.SL.Sem Idealize.ShloMosaic.Tactic

theorem frame_kernel : Cert.quiescent_SwigluBwd (hSwigluBwd := Cert.SwigluBwd.Gen.facts) := fun m ρ _ => Cert.SwigluBwd.Gen.frame m ρ
theorem frame_ideal : Cert.quiescent_SwigluBwdIdeal (hSwigluBwdIdeal := Cert.SwigluBwdIdeal.Gen.facts) := fun m ρ _ => Cert.SwigluBwdIdeal.Gen.frame m ρ
theorem frame_ref : Cert.quiescent_SwigluBwdRefIdeal (hSwigluBwdRefIdeal := Cert.SwigluBwdRefIdeal.Gen.facts) := fun m ρ _ =>
  (θ_run Cert.SwigluBwdRefIdeal.defs _ _).mono (fun r h => ⟨fun c => (h c).2.2, sem_eq_zero_of_no_sems (by decide) r.2⟩)
    (Cert.SwigluBwdRefIdeal.Value.run (F := Ideal) m ρ)

theorem algebraic : Cert.algebraic_SwigluBwdIdeal_SwigluBwdRefIdeal (hSwigluBwdIdeal := Cert.SwigluBwdIdeal.Gen.facts) (hSwigluBwdRefIdeal := Cert.SwigluBwdRefIdeal.Gen.facts) := by
  intro m ρ m' ρ' _ hagree
  refine ⟨Cert.SwigluBwdIdeal.Rows.totalGate m, Cert.SwigluBwdIdeal.Rows.totalFactor m, ?_, ?_⟩
  · refine (θ_run Cert.SwigluBwdIdeal.defs _ _).mono (fun _ h c => ⟨?_, ?_, (h c).2.2⟩) (Cert.SwigluBwdIdeal.Value.run_blocks (F := Ideal) m ρ)
    · exact (h c).1.trans (Cert.SwigluBwdIdeal.Rows.arrGate m c)
    · exact (h c).2.1.trans (Cert.SwigluBwdIdeal.Rows.arrFactor m c)
  · refine (θ_run Cert.SwigluBwdRefIdeal.defs _ _).mono (fun _ h c => ⟨?_, ?_, (h c).2.2⟩) (Cert.SwigluBwdRefIdeal.Value.run (F := Ideal) m' ρ')
    · rw [(h c).1]
      simp only [hagree c]
      refine funext fun (i : Cert.SwigluBwdIdeal.S8192x5632.Idx) => ?_
      idx_vars i
      pointwise [Cert.SwigluBwdIdeal.Rows.totalGate, Cert.SwigluBwdIdeal.Rows.argX, Cert.SwigluBwdIdeal.Rows.argY, Cert.SwigluBwdIdeal.Rows.argD]
      rfl
    · rw [(h c).2.1]
      simp only [hagree c]
      refine funext fun (i : Cert.SwigluBwdIdeal.S8192x5632.Idx) => ?_
      idx_vars i
      pointwise [Cert.SwigluBwdIdeal.Rows.totalFactor, Cert.SwigluBwdIdeal.Rows.argX, Cert.SwigluBwdIdeal.Rows.argD]
      rfl

end Cert.SwigluBwdIdeal.Claims

end
-- ==== Proof.Rows.MergeFwd.lean ====
/- MergeFwd: the three branches of the block, gated and added, over 8192 rows of 2048. -/
module

public import proofs.«01_k».proof.Defs
public import proofs.«01_k».proof.Proof.Rows.Rule
public import proofs.«01_k».proof.Proof.Gen.MergeFwd.Frame
public import proofs.«01_k».proof.Proof.Gen.MergeFwdIdeal.Value
public import proofs.«01_k».proof.Proof.Gen.MergeFwdRefIdeal.Run
public import Idealize.ShloMosaic.Adequacy
public import Idealize.ShloMosaic.Init
public import Idealize.ShloMosaic.Lib.Quiescent
public import Idealize.ShloMosaic.Lib.Pipeline.ReadBack

@[expose] public section

set_option maxRecDepth 16384

noncomputable section

namespace Cert.MergeFwdIdeal.Rows

open Cert.MergeFwdIdeal Cert.MergeFwdIdeal.Gen Idealize.ShloMosaic Idealize.ShloMosaic.TcCoe Idealize.ShloMosaic.Tactic Idealize.SL.Sem
open Cert.RowRule

variable (m : (ℓ : Loc nD τ sig) → Buf (Elt Ideal) ℓ)

theorem ixU0 : ∀ t : Fin grid0.N, win0_0.index t = ![t.val, 0] := by decide +kernel
theorem ixU1 : ∀ t : Fin grid0.N, win0_1.index t = ![t.val, 0] := by decide +kernel
theorem ixU2 : ∀ t : Fin grid0.N, win0_2.index t = ![t.val, 0] := by decide +kernel
theorem ixG0 : ∀ t : Fin grid0.N, win0_3.index t = ![t.val, 0] := by decide +kernel
theorem ixG1 : ∀ t : Fin grid0.N, win0_4.index t = ![t.val, 0] := by decide +kernel
theorem ixG2 : ∀ t : Fin grid0.N, win0_5.index t = ![t.val, 0] := by decide +kernel
theorem ixB0 : ∀ t : Fin grid0.N, win0_6.index t = ![0, 0] := by decide +kernel
theorem ixB1 : ∀ t : Fin grid0.N, win0_7.index t = ![0, 0] := by decide +kernel
theorem ixB2 : ∀ t : Fin grid0.N, win0_8.index t = ![0, 0] := by decide +kernel
theorem ixO0 : ∀ t : Fin grid0.N, win0_9.index t = ![t.val, 0] := by decide +kernel

abbrev argU0 (c : Dev nD) : S8192x2048.Idx → EReal := m ((c : Thread nD τ).loc main_arg0)
abbrev argU1 (c : Dev nD) : S8192x2048.Idx → EReal := m ((c : Thread nD τ).loc main_arg1)
abbrev argU2 (c : Dev nD) : S8192x2048.Idx → EReal := m ((c : Thread nD τ).loc main_arg2)
abbrev argG0 (c : Dev nD) : S8192x2048.Idx → EReal := m ((c : Thread nD τ).loc main_arg3)
abbrev argG1 (c : Dev nD) : S8192x2048.Idx → EReal := m ((c : Thread nD τ).loc main_arg4)
abbrev argG2 (c : Dev nD) : S8192x2048.Idx → EReal := m ((c : Thread nD τ).loc main_arg5)
abbrev argB (c : Dev nD) : S3x2048.Idx → EReal := m ((c : Thread nD τ).loc main_arg6)

abbrev blkU0 (c : Dev nD) (t : Fin cfg0.N) : S64x2048.Idx → EReal := iblk m c 0 t
abbrev blkU1 (c : Dev nD) (t : Fin cfg0.N) : S64x2048.Idx → EReal := iblk m c 1 t
abbrev blkU2 (c : Dev nD) (t : Fin cfg0.N) : S64x2048.Idx → EReal := iblk m c 2 t
abbrev blkG0 (c : Dev nD) (t : Fin cfg0.N) : S64x2048.Idx → EReal := iblk m c 3 t
abbrev blkG1 (c : Dev nD) (t : Fin cfg0.N) : S64x2048.Idx → EReal := iblk m c 4 t
abbrev blkG2 (c : Dev nD) (t : Fin cfg0.N) : S64x2048.Idx → EReal := iblk m c 5 t
abbrev blkB0 (c : Dev nD) (t : Fin cfg0.N) : S1x2048.Idx → EReal := iblk m c 6 t
abbrev blkB1 (c : Dev nD) (t : Fin cfg0.N) : S1x2048.Idx → EReal := iblk m c 7 t
abbrev blkB2 (c : Dev nD) (t : Fin cfg0.N) : S1x2048.Idx → EReal := iblk m c 8 t

/-- A point reads its rows of the arguments. -/
theorem atU0 (c : Dev nD) (t : Fin cfg0.N) (r : Fin 64) (k : Fin 2048) (R : Fin 8192) (e : R.val = t.val * 64 + r.val) :
    blkU0 m c t (ix2 r k) = argU0 m c (ix2 R k) := by
  obtain ⟨R, h⟩ := R
  obtain rfl : R = t.val * 64 + r.val := e
  blk_ext! [iblk, V, ixU0]

theorem atU1 (c : Dev nD) (t : Fin cfg0.N) (r : Fin 64) (k : Fin 2048) (R : Fin 8192) (e : R.val = t.val * 64 + r.val) :
    blkU1 m c t (ix2 r k) = argU1 m c (ix2 R k) := by
  obtain ⟨R, h⟩ := R
  obtain rfl : R = t.val * 64 + r.val := e
  blk_ext! [iblk, V, ixU1]

theorem atU2 (c : Dev nD) (t : Fin cfg0.N) (r : Fin 64) (k : Fin 2048) (R : Fin 8192) (e : R.val = t.val * 64 + r.val) :
    blkU2 m c t (ix2 r k) = argU2 m c (ix2 R k) := by
  obtain ⟨R, h⟩ := R
  obtain rfl : R = t.val * 64 + r.val := e
  blk_ext! [iblk, V, ixU2]

theorem atG0 (c : Dev nD) (t : Fin cfg0.N) (r : Fin 64) (k : Fin 2048) (R : Fin 8192) (e : R.val = t.val * 64 + r.val) :
    blkG0 m c t (ix2 r k) = argG0 m c (ix2 R k) := by
  obtain ⟨R, h⟩ := R
  obtain rfl : R = t.val * 64 + r.val := e
  blk_ext! [iblk, V, ixG0]

theorem atG1 (c : Dev nD) (t : Fin cfg0.N) (r : Fin 64) (k : Fin 2048) (R : Fin 8192) (e : R.val = t.val * 64 + r.val) :
    blkG1 m c t (ix2 r k) = argG1 m c (ix2 R k) := by
  obtain ⟨R, h⟩ := R
  obtain rfl : R = t.val * 64 + r.val := e
  blk_ext! [iblk, V, ixG1]

theorem atG2 (c : Dev nD) (t : Fin cfg0.N) (r : Fin 64) (k : Fin 2048) (R : Fin 8192) (e : R.val = t.val * 64 + r.val) :
    blkG2 m c t (ix2 r k) = argG2 m c (ix2 R k) := by
  obtain ⟨R, h⟩ := R
  obtain rfl : R = t.val * 64 + r.val := e
  blk_ext! [iblk, V, ixG2]

theorem atB0 (c : Dev nD) (t : Fin cfg0.N) (k : Fin 2048) : blkB0 m c t (ix2 0 k) = argB m c (ix2 0 k) := by
  have hb : blkB0 m c t (ix2 0 k) = (V m c main_v0 : S1x2048.Idx → EReal) (ix2 0 k) := by
    blk_ext! [iblk, ixB0]
  rw [hb]
  entry_read
  pointwise [argB]

theorem atB1 (c : Dev nD) (t : Fin cfg0.N) (k : Fin 2048) : blkB1 m c t (ix2 0 k) = argB m c (ix2 1 k) := by
  have hb : blkB1 m c t (ix2 0 k) = (V m c main_v1 : S1x2048.Idx → EReal) (ix2 0 k) := by
    blk_ext! [iblk, ixB1]
  rw [hb]
  entry_read
  pointwise [argB]

theorem atB2 (c : Dev nD) (t : Fin cfg0.N) (k : Fin 2048) : blkB2 m c t (ix2 0 k) = argB m c (ix2 2 k) := by
  have hb : blkB2 m c t (ix2 0 k) = (V m c main_v2 : S1x2048.Idx → EReal) (ix2 0 k) := by
    blk_ext! [iblk, ixB2]
  rw [hb]
  entry_read
  pointwise [argB]

/-- Three numbers through their gates, added. -/
abbrev mix (a b c x y z : EReal) : EReal := opening x * a + opening y * b + opening z * c

theorem pay (A B C X Y Z : S64x2048.Idx → EReal) (P Q R : S1x2048.Idx → EReal) (r : Fin 64) (k : Fin 2048) :
    (k0_pay1 (F := Ideal) A B C X Y Z P Q R (ix2 r k) : EReal)
      = mix (A (ix2 r k)) (B (ix2 r k)) (C (ix2 r k)) (X (ix2 r k) + P (ix2 0 k)) (Y (ix2 r k) + Q (ix2 0 k)) (Z (ix2 r k) + R (ix2 0 k)) := by
  pointwise [k0_pay1, mix]

theorem mixed (c : Dev nD) (t : Fin cfg0.N) (r : Fin 64) (k : Fin 2048) (R : Fin 8192) (e : R.val = t.val * 64 + r.val) :
    mix (blkU0 m c t (ix2 r k)) (blkU1 m c t (ix2 r k)) (blkU2 m c t (ix2 r k)) (blkG0 m c t (ix2 r k) + blkB0 m c t (ix2 0 k))
        (blkG1 m c t (ix2 r k) + blkB1 m c t (ix2 0 k)) (blkG2 m c t (ix2 r k) + blkB2 m c t (ix2 0 k))
      = mix (argU0 m c (ix2 R k)) (argU1 m c (ix2 R k)) (argU2 m c (ix2 R k)) (argG0 m c (ix2 R k) + argB m c (ix2 0 k))
        (argG1 m c (ix2 R k) + argB m c (ix2 1 k)) (argG2 m c (ix2 R k) + argB m c (ix2 2 k)) := by
  rw [atU0 m c t r k R e, atU1 m c t r k R e, atU2 m c t r k R e, atG0 m c t r k R e, atG1 m c t r k R e, atG2 m c t r k R e,
    atB0, atB1, atB2]

/-- The mixed branches. -/
abbrev total (c : Dev nD) : S8192x2048.Idx → EReal := fun i =>
  mix (argU0 m c i) (argU1 m c i) (argU2 m c i) (argG0 m c i + argB m c (ix2 0 (i 1))) (argG1 m c i + argB m c (ix2 1 (i 1)))
    (argG2 m c i + argB m c (ix2 2 (i 1)))

theorem arr (c : Dev nD) : (dats m 0 c).arrAt 9 cfg0.N = total m c := by
  refine (dats m 0 c).arrAt_eq_of_covers 9 _ (by decide +kernel) fun t hf y => ?_
  blk_simp
  rw [after0_9]
  frame_out
  obtain ⟨r, k, rfl⟩ : ∃ (r : Fin 64) (k : Fin 2048), (y : S64x2048.Idx) = ix2 r k := ⟨y 0, y 1, by funext j; fin_cases j <;> rfl⟩
  have hN : t.val < 128 := t.isLt
  have h : t.val * 64 + r.val < 8192 := by omega
  have e : (win0_9.blk t).view.emb (ix2 r k : S64x2048.Idx) = (ix2 ⟨t.val * 64 + r.val, h⟩ k : S8192x2048.Idx) := by
    blk_ext! [ixO0]
  rw [e]
  refine (pay _ _ _ _ _ _ _ _ _ r k).trans ?_
  exact mixed m c t r k ⟨_, h⟩ rfl

end Cert.MergeFwdIdeal.Rows

namespace Cert.MergeFwdIdeal.Claims

open Idealize.ShloMosaic Idealize.SL.Sem Idealize.ShloMosaic.Tactic

theorem frame_kernel : Cert.quiescent_MergeFwd (hMergeFwd := Cert.MergeFwd.Gen.facts) := fun m ρ _ => Cert.MergeFwd.Gen.frame m ρ
theorem frame_ideal : Cert.quiescent_MergeFwdIdeal (hMergeFwdIdeal := Cert.MergeFwdIdeal.Gen.facts) := fun m ρ _ => Cert.MergeFwdIdeal.Gen.frame m ρ
theorem frame_ref : Cert.quiescent_MergeFwdRefIdeal (hMergeFwdRefIdeal := Cert.MergeFwdRefIdeal.Gen.facts) := fun m ρ _ =>
  (θ_run Cert.MergeFwdRefIdeal.defs _ _).mono (fun r h => ⟨fun c => (h c).2, sem_eq_zero_of_no_sems (by decide) r.2⟩)
    (Cert.MergeFwdRefIdeal.Value.run (F := Ideal) m ρ)

theorem algebraic : Cert.algebraic_MergeFwdIdeal_MergeFwdRefIdeal (hMergeFwdIdeal := Cert.MergeFwdIdeal.Gen.facts) (hMergeFwdRefIdeal := Cert.MergeFwdRefIdeal.Gen.facts) := by
  intro m ρ m' ρ' _ hagree
  refine ⟨Cert.MergeFwdIdeal.Rows.total m, ?_, ?_⟩
  · refine (θ_run Cert.MergeFwdIdeal.defs _ _).mono (fun _ h c => ⟨?_, (h c).2⟩) (Cert.MergeFwdIdeal.Value.run_blocks (F := Ideal) m ρ)
    · exact (h c).1.trans (Cert.MergeFwdIdeal.Rows.arr m c)
  · refine (θ_run Cert.MergeFwdRefIdeal.defs _ _).mono (fun _ h c => ⟨?_, (h c).2⟩) (Cert.MergeFwdRefIdeal.Value.run (F := Ideal) m' ρ')
    · rw [(h c).1]
      simp only [hagree c]
      refine funext fun (i : Cert.MergeFwdIdeal.S8192x2048.Idx) => ?_
      idx_vars i
      pointwise [Cert.MergeFwdIdeal.Rows.total, Fin.sum_univ_three, Cert.MergeFwdIdeal.Rows.mix]
      simp only [hagree c]
      rfl

end Cert.MergeFwdIdeal.Claims

end
-- ==== Proof.Rows.MergeBwd.lean ====
/- MergeBwd: the gradients of the three gated branches over 8192 rows of 2048, in the branches, the gates and their biases. -/
module

public import proofs.«01_k».proof.Defs
public import proofs.«01_k».proof.Proof.Rows.Rule
public import proofs.«01_k».proof.Proof.Gen.MergeBwd.Frame
public import proofs.«01_k».proof.Proof.Gen.MergeBwdIdeal.Value
public import proofs.«01_k».proof.Proof.Gen.MergeBwdRefIdeal.Run
public import Idealize.ShloMosaic.Adequacy
public import Idealize.ShloMosaic.Init
public import Idealize.ShloMosaic.Lib.Quiescent
public import Idealize.ShloMosaic.Lib.Pipeline.ReadBack

@[expose] public section

set_option maxRecDepth 16384

noncomputable section

namespace Cert.MergeBwdIdeal.Rows

open Cert.MergeBwdIdeal Cert.MergeBwdIdeal.Gen Idealize.ShloMosaic Idealize.ShloMosaic.TcCoe Idealize.ShloMosaic.Tactic Idealize.SL.Sem
open Cert.RowRule

variable (m : (ℓ : Loc nD τ sig) → Buf (Elt Ideal) ℓ)

theorem ixU0 : ∀ t : Fin grid0.N, win0_0.index t = ![t.val, 0] := by decide +kernel
theorem ixU1 : ∀ t : Fin grid0.N, win0_1.index t = ![t.val, 0] := by decide +kernel
theorem ixU2 : ∀ t : Fin grid0.N, win0_2.index t = ![t.val, 0] := by decide +kernel
theorem ixG0 : ∀ t : Fin grid0.N, win0_3.index t = ![t.val, 0] := by decide +kernel
theorem ixG1 : ∀ t : Fin grid0.N, win0_4.index t = ![t.val, 0] := by decide +kernel
theorem ixG2 : ∀ t : Fin grid0.N, win0_5.index t = ![t.val, 0] := by decide +kernel
theorem ixB0 : ∀ t : Fin grid0.N, win0_6.index t = ![0, 0] := by decide +kernel
theorem ixB1 : ∀ t : Fin grid0.N, win0_7.index t = ![0, 0] := by decide +kernel
theorem ixB2 : ∀ t : Fin grid0.N, win0_8.index t = ![0, 0] := by decide +kernel
theorem ixD : ∀ t : Fin grid0.N, win0_9.index t = ![t.val, 0] := by decide +kernel
theorem ixO0 : ∀ t : Fin grid0.N, win0_10.index t = ![t.val, 0] := by decide +kernel
theorem ixO1 : ∀ t : Fin grid0.N, win0_11.index t = ![t.val, 0] := by decide +kernel
theorem ixO2 : ∀ t : Fin grid0.N, win0_12.index t = ![t.val, 0] := by decide +kernel
theorem ixO3 : ∀ t : Fin grid0.N, win0_13.index t = ![t.val, 0] := by decide +kernel
theorem ixO4 : ∀ t : Fin grid0.N, win0_14.index t = ![t.val, 0] := by decide +kernel
theorem ixO5 : ∀ t : Fin grid0.N, win0_15.index t = ![t.val, 0] := by decide +kernel
theorem ixS0 : ∀ t : Fin grid0.N, win0_16.index t = ![0, 0] := by decide +kernel
theorem ixS1 : ∀ t : Fin grid0.N, win0_17.index t = ![0, 0] := by decide +kernel
theorem ixS2 : ∀ t : Fin grid0.N, win0_18.index t = ![0, 0] := by decide +kernel

abbrev argU0 (c : Dev nD) : S8192x2048.Idx → EReal := m ((c : Thread nD τ).loc main_arg0)
abbrev argU1 (c : Dev nD) : S8192x2048.Idx → EReal := m ((c : Thread nD τ).loc main_arg1)
abbrev argU2 (c : Dev nD) : S8192x2048.Idx → EReal := m ((c : Thread nD τ).loc main_arg2)
abbrev argG0 (c : Dev nD) : S8192x2048.Idx → EReal := m ((c : Thread nD τ).loc main_arg3)
abbrev argG1 (c : Dev nD) : S8192x2048.Idx → EReal := m ((c : Thread nD τ).loc main_arg4)
abbrev argG2 (c : Dev nD) : S8192x2048.Idx → EReal := m ((c : Thread nD τ).loc main_arg5)
abbrev argB (c : Dev nD) : S3x2048.Idx → EReal := m ((c : Thread nD τ).loc main_arg6)
abbrev argD (c : Dev nD) : S8192x2048.Idx → EReal := m ((c : Thread nD τ).loc main_arg7)

abbrev blkU0 (c : Dev nD) (t : Fin cfg0.N) : S32x2048.Idx → EReal := iblk m c 0 t
abbrev blkU1 (c : Dev nD) (t : Fin cfg0.N) : S32x2048.Idx → EReal := iblk m c 1 t
abbrev blkU2 (c : Dev nD) (t : Fin cfg0.N) : S32x2048.Idx → EReal := iblk m c 2 t
abbrev blkG0 (c : Dev nD) (t : Fin cfg0.N) : S32x2048.Idx → EReal := iblk m c 3 t
abbrev blkG1 (c : Dev nD) (t : Fin cfg0.N) : S32x2048.Idx → EReal := iblk m c 4 t
abbrev blkG2 (c : Dev nD) (t : Fin cfg0.N) : S32x2048.Idx → EReal := iblk m c 5 t
abbrev blkB0 (c : Dev nD) (t : Fin cfg0.N) : S1x2048.Idx → EReal := iblk m c 6 t
abbrev blkB1 (c : Dev nD) (t : Fin cfg0.N) : S1x2048.Idx → EReal := iblk m c 7 t
abbrev blkB2 (c : Dev nD) (t : Fin cfg0.N) : S1x2048.Idx → EReal := iblk m c 8 t
abbrev blkD (c : Dev nD) (t : Fin cfg0.N) : S32x2048.Idx → EReal := iblk m c 9 t

/-- A point reads its rows of the arguments. -/
theorem atU0 (c : Dev nD) (t : Fin cfg0.N) (r : Fin 32) (k : Fin 2048) (R : Fin 8192) (e : R.val = t.val * 32 + r.val) :
    blkU0 m c t (ix2 r k) = argU0 m c (ix2 R k) := by
  obtain ⟨R, h⟩ := R
  obtain rfl : R = t.val * 32 + r.val := e
  blk_ext! [iblk, V, ixU0]

theorem atU1 (c : Dev nD) (t : Fin cfg0.N) (r : Fin 32) (k : Fin 2048) (R : Fin 8192) (e : R.val = t.val * 32 + r.val) :
    blkU1 m c t (ix2 r k) = argU1 m c (ix2 R k) := by
  obtain ⟨R, h⟩ := R
  obtain rfl : R = t.val * 32 + r.val := e
  blk_ext! [iblk, V, ixU1]

theorem atU2 (c : Dev nD) (t : Fin cfg0.N) (r : Fin 32) (k : Fin 2048) (R : Fin 8192) (e : R.val = t.val * 32 + r.val) :
    blkU2 m c t (ix2 r k) = argU2 m c (ix2 R k) := by
  obtain ⟨R, h⟩ := R
  obtain rfl : R = t.val * 32 + r.val := e
  blk_ext! [iblk, V, ixU2]

theorem atG0 (c : Dev nD) (t : Fin cfg0.N) (r : Fin 32) (k : Fin 2048) (R : Fin 8192) (e : R.val = t.val * 32 + r.val) :
    blkG0 m c t (ix2 r k) = argG0 m c (ix2 R k) := by
  obtain ⟨R, h⟩ := R
  obtain rfl : R = t.val * 32 + r.val := e
  blk_ext! [iblk, V, ixG0]

theorem atG1 (c : Dev nD) (t : Fin cfg0.N) (r : Fin 32) (k : Fin 2048) (R : Fin 8192) (e : R.val = t.val * 32 + r.val) :
    blkG1 m c t (ix2 r k) = argG1 m c (ix2 R k) := by
  obtain ⟨R, h⟩ := R
  obtain rfl : R = t.val * 32 + r.val := e
  blk_ext! [iblk, V, ixG1]

theorem atG2 (c : Dev nD) (t : Fin cfg0.N) (r : Fin 32) (k : Fin 2048) (R : Fin 8192) (e : R.val = t.val * 32 + r.val) :
    blkG2 m c t (ix2 r k) = argG2 m c (ix2 R k) := by
  obtain ⟨R, h⟩ := R
  obtain rfl : R = t.val * 32 + r.val := e
  blk_ext! [iblk, V, ixG2]

theorem atD (c : Dev nD) (t : Fin cfg0.N) (r : Fin 32) (k : Fin 2048) (R : Fin 8192) (e : R.val = t.val * 32 + r.val) :
    blkD m c t (ix2 r k) = argD m c (ix2 R k) := by
  obtain ⟨R, h⟩ := R
  obtain rfl : R = t.val * 32 + r.val := e
  blk_ext! [iblk, V, ixD]

theorem atB0 (c : Dev nD) (t : Fin cfg0.N) (k : Fin 2048) : blkB0 m c t (ix2 0 k) = argB m c (ix2 0 k) := by
  have hb : blkB0 m c t (ix2 0 k) = (V m c main_v0 : S1x2048.Idx → EReal) (ix2 0 k) := by
    blk_ext! [iblk, ixB0]
  rw [hb]
  entry_read
  pointwise [argB]

theorem atB1 (c : Dev nD) (t : Fin cfg0.N) (k : Fin 2048) : blkB1 m c t (ix2 0 k) = argB m c (ix2 1 k) := by
  have hb : blkB1 m c t (ix2 0 k) = (V m c main_v1 : S1x2048.Idx → EReal) (ix2 0 k) := by
    blk_ext! [iblk, ixB1]
  rw [hb]
  entry_read
  pointwise [argB]

theorem atB2 (c : Dev nD) (t : Fin cfg0.N) (k : Fin 2048) : blkB2 m c t (ix2 0 k) = argB m c (ix2 2 k) := by
  have hb : blkB2 m c t (ix2 0 k) = (V m c main_v2 : S1x2048.Idx → EReal) (ix2 0 k) := by
    blk_ext! [iblk, ixB2]
  rw [hb]
  entry_read
  pointwise [argB]

theorem payU0 (X D : S32x2048.Idx → EReal) (P : S1x2048.Idx → EReal) (j : S32x2048.Idx) :
    (k0_pay20 (F := Ideal) D (k0_pay6 X P) j : EReal) = branchGrad (X j + P (ix2 0 (j 1))) (D j) := by
  idx_vars j
  pointwise [k0_pay20, k0_pay12, k0_pay6]

theorem payG0 (A X D : S32x2048.Idx → EReal) (P : S1x2048.Idx → EReal) (j : S32x2048.Idx) :
    (k0_pay21 (F := Ideal) A D (k0_pay7 X P) j : EReal) = mergeGrad (X j + P (ix2 0 (j 1))) (A j) (D j) := by
  idx_vars j
  pointwise [k0_pay21, k0_pay12, k0_pay7, k0_pay6]

theorem payB0 (A X D : S32x2048.Idx → EReal) (P S : S1x2048.Idx → EReal) (j : S1x2048.Idx) :
    (k0_pay22 (F := Ideal) A D (k0_pay7 X P) S j : EReal)
      = S j + ∑ r : Fin 32, mergeGrad (X (ix2 r (j 1)) + P (ix2 0 (j 1))) (A (ix2 r (j 1))) (D (ix2 r (j 1))) := by
  idx_vars j
  pointwise [k0_pay22, k0_pay21, k0_pay12, k0_pay7, k0_pay6]

theorem payU1 (X D : S32x2048.Idx → EReal) (P : S1x2048.Idx → EReal) (j : S32x2048.Idx) :
    (k0_pay17 (F := Ideal) D (k0_pay8 X P) j : EReal) = branchGrad (X j + P (ix2 0 (j 1))) (D j) := by
  idx_vars j
  pointwise [k0_pay17, k0_pay12, k0_pay8]

theorem payG1 (A X D : S32x2048.Idx → EReal) (P : S1x2048.Idx → EReal) (j : S32x2048.Idx) :
    (k0_pay18 (F := Ideal) A D (k0_pay9 X P) j : EReal) = mergeGrad (X j + P (ix2 0 (j 1))) (A j) (D j) := by
  idx_vars j
  pointwise [k0_pay18, k0_pay12, k0_pay9, k0_pay8]

theorem payB1 (A X D : S32x2048.Idx → EReal) (P S : S1x2048.Idx → EReal) (j : S1x2048.Idx) :
    (k0_pay1 (F := Ideal) (k0_pay19 A D (k0_pay9 X P)) S j : EReal)
      = S j + ∑ r : Fin 32, mergeGrad (X (ix2 r (j 1)) + P (ix2 0 (j 1))) (A (ix2 r (j 1))) (D (ix2 r (j 1))) := by
  idx_vars j
  pointwise [k0_pay1, k0_pay19, k0_pay18, k0_pay12, k0_pay9, k0_pay8]

theorem payU2 (X D : S32x2048.Idx → EReal) (P : S1x2048.Idx → EReal) (j : S32x2048.Idx) :
    (k0_pay14 (F := Ideal) D (k0_pay10 X P) j : EReal) = branchGrad (X j + P (ix2 0 (j 1))) (D j) := by
  idx_vars j
  pointwise [k0_pay14, k0_pay13, k0_pay11, k0_pay10]

theorem payG2 (A X D : S32x2048.Idx → EReal) (P : S1x2048.Idx → EReal) (j : S32x2048.Idx) :
    (k0_pay15 (F := Ideal) A D (k0_pay10 X P) j : EReal) = mergeGrad (X j + P (ix2 0 (j 1))) (A j) (D j) := by
  idx_vars j
  pointwise [k0_pay15, k0_pay13, k0_pay11, k0_pay10]

theorem payB2 (A X D : S32x2048.Idx → EReal) (P S : S1x2048.Idx → EReal) (j : S1x2048.Idx) :
    (k0_pay2 (F := Ideal) (k0_pay16 A D (k0_pay10 X P)) S j : EReal)
      = S j + ∑ r : Fin 32, mergeGrad (X (ix2 r (j 1)) + P (ix2 0 (j 1))) (A (ix2 r (j 1))) (D (ix2 r (j 1))) := by
  idx_vars j
  pointwise [k0_pay2, k0_pay16, k0_pay15, k0_pay13, k0_pay11, k0_pay10]

theorem rowU0 (c : Dev nD) (t : Fin cfg0.N) (r : Fin 32) (k : Fin 2048) (R : Fin 8192) (e : R.val = t.val * 32 + r.val) :
    branchGrad (blkG0 m c t (ix2 r k) + blkB0 m c t (ix2 0 k)) (blkD m c t (ix2 r k))
      = branchGrad (argG0 m c (ix2 R k) + argB m c (ix2 0 k)) (argD m c (ix2 R k)) := by
  rw [atG0 m c t r k R e, atD m c t r k R e, atB0]

theorem outU0 (c : Dev nD) (t : Fin cfg0.N) (j : S32x2048.Idx) :
    ((outsAt0 m c t.val t.isLt).1 j : EReal) = branchGrad (blkG0 m c t j + blkB0 m c t (ix2 0 (j 1))) (blkD m c t j) := by
  by_cases h : t.val % 256 = 0
  · rw [outsAt0_A m c t h]
    frame_out
    exact payU0 _ _ _ j
  · rw [outsAt0_B m c t h]
    frame_out
    exact payU0 _ _ _ j

abbrev totalU0 (c : Dev nD) : S8192x2048.Idx → EReal := fun i => branchGrad (argG0 m c i + argB m c (ix2 0 (i 1))) (argD m c i)

theorem arrU0 (c : Dev nD) : (dats m 0 c).arrAt 10 cfg0.N = totalU0 m c := by
  refine (dats m 0 c).arrAt_eq_of_covers 10 _ (by decide +kernel) fun t hf y => ?_
  blk_simp
  rw [after0_10]
  obtain ⟨r, k, rfl⟩ : ∃ (r : Fin 32) (k : Fin 2048), (y : S32x2048.Idx) = ix2 r k := ⟨y 0, y 1, by funext j; fin_cases j <;> rfl⟩
  have hN : t.val < 256 := t.isLt
  have h : t.val * 32 + r.val < 8192 := by omega
  have e : (win0_10.blk t).view.emb (ix2 r k : S32x2048.Idx) = (ix2 ⟨t.val * 32 + r.val, h⟩ k : S8192x2048.Idx) := by
    blk_ext! [ixO0]
  rw [e]
  refine (outU0 m c t (ix2 r k)).trans ?_
  exact rowU0 m c t r k ⟨_, h⟩ rfl

theorem rowG0 (c : Dev nD) (t : Fin cfg0.N) (r : Fin 32) (k : Fin 2048) (R : Fin 8192) (e : R.val = t.val * 32 + r.val) :
    mergeGrad (blkG0 m c t (ix2 r k) + blkB0 m c t (ix2 0 k)) (blkU0 m c t (ix2 r k)) (blkD m c t (ix2 r k))
      = mergeGrad (argG0 m c (ix2 R k) + argB m c (ix2 0 k)) (argU0 m c (ix2 R k)) (argD m c (ix2 R k)) := by
  rw [atG0 m c t r k R e, atD m c t r k R e, atB0, atU0 m c t r k R e]

theorem outG0 (c : Dev nD) (t : Fin cfg0.N) (j : S32x2048.Idx) :
    ((outsAt0 m c t.val t.isLt).2.2.2.1 j : EReal) = mergeGrad (blkG0 m c t j + blkB0 m c t (ix2 0 (j 1))) (blkU0 m c t j) (blkD m c t j) := by
  by_cases h : t.val % 256 = 0
  · rw [outsAt0_A m c t h]
    frame_out
    exact payG0 _ _ _ _ j
  · rw [outsAt0_B m c t h]
    frame_out
    exact payG0 _ _ _ _ j

abbrev totalG0 (c : Dev nD) : S8192x2048.Idx → EReal := fun i => mergeGrad (argG0 m c i + argB m c (ix2 0 (i 1))) (argU0 m c i) (argD m c i)

theorem arrG0 (c : Dev nD) : (dats m 0 c).arrAt 13 cfg0.N = totalG0 m c := by
  refine (dats m 0 c).arrAt_eq_of_covers 13 _ (by decide +kernel) fun t hf y => ?_
  blk_simp
  rw [after0_13]
  obtain ⟨r, k, rfl⟩ : ∃ (r : Fin 32) (k : Fin 2048), (y : S32x2048.Idx) = ix2 r k := ⟨y 0, y 1, by funext j; fin_cases j <;> rfl⟩
  have hN : t.val < 256 := t.isLt
  have h : t.val * 32 + r.val < 8192 := by omega
  have e : (win0_13.blk t).view.emb (ix2 r k : S32x2048.Idx) = (ix2 ⟨t.val * 32 + r.val, h⟩ k : S8192x2048.Idx) := by
    blk_ext! [ixO3]
  rw [e]
  refine (outG0 m c t (ix2 r k)).trans ?_
  exact rowG0 m c t r k ⟨_, h⟩ rfl

theorem rowU1 (c : Dev nD) (t : Fin cfg0.N) (r : Fin 32) (k : Fin 2048) (R : Fin 8192) (e : R.val = t.val * 32 + r.val) :
    branchGrad (blkG1 m c t (ix2 r k) + blkB1 m c t (ix2 0 k)) (blkD m c t (ix2 r k))
      = branchGrad (argG1 m c (ix2 R k) + argB m c (ix2 1 k)) (argD m c (ix2 R k)) := by
  rw [atG1 m c t r k R e, atD m c t r k R e, atB1]

theorem outU1 (c : Dev nD) (t : Fin cfg0.N) (j : S32x2048.Idx) :
    ((outsAt0 m c t.val t.isLt).2.1 j : EReal) = branchGrad (blkG1 m c t j + blkB1 m c t (ix2 0 (j 1))) (blkD m c t j) := by
  by_cases h : t.val % 256 = 0
  · rw [outsAt0_A m c t h]
    frame_out
    exact payU1 _ _ _ j
  · rw [outsAt0_B m c t h]
    frame_out
    exact payU1 _ _ _ j

abbrev totalU1 (c : Dev nD) : S8192x2048.Idx → EReal := fun i => branchGrad (argG1 m c i + argB m c (ix2 1 (i 1))) (argD m c i)

theorem arrU1 (c : Dev nD) : (dats m 0 c).arrAt 11 cfg0.N = totalU1 m c := by
  refine (dats m 0 c).arrAt_eq_of_covers 11 _ (by decide +kernel) fun t hf y => ?_
  blk_simp
  rw [after0_11]
  obtain ⟨r, k, rfl⟩ : ∃ (r : Fin 32) (k : Fin 2048), (y : S32x2048.Idx) = ix2 r k := ⟨y 0, y 1, by funext j; fin_cases j <;> rfl⟩
  have hN : t.val < 256 := t.isLt
  have h : t.val * 32 + r.val < 8192 := by omega
  have e : (win0_11.blk t).view.emb (ix2 r k : S32x2048.Idx) = (ix2 ⟨t.val * 32 + r.val, h⟩ k : S8192x2048.Idx) := by
    blk_ext! [ixO1]
  rw [e]
  refine (outU1 m c t (ix2 r k)).trans ?_
  exact rowU1 m c t r k ⟨_, h⟩ rfl

theorem rowG1 (c : Dev nD) (t : Fin cfg0.N) (r : Fin 32) (k : Fin 2048) (R : Fin 8192) (e : R.val = t.val * 32 + r.val) :
    mergeGrad (blkG1 m c t (ix2 r k) + blkB1 m c t (ix2 0 k)) (blkU1 m c t (ix2 r k)) (blkD m c t (ix2 r k))
      = mergeGrad (argG1 m c (ix2 R k) + argB m c (ix2 1 k)) (argU1 m c (ix2 R k)) (argD m c (ix2 R k)) := by
  rw [atG1 m c t r k R e, atD m c t r k R e, atB1, atU1 m c t r k R e]

theorem outG1 (c : Dev nD) (t : Fin cfg0.N) (j : S32x2048.Idx) :
    ((outsAt0 m c t.val t.isLt).2.2.2.2.1 j : EReal) = mergeGrad (blkG1 m c t j + blkB1 m c t (ix2 0 (j 1))) (blkU1 m c t j) (blkD m c t j) := by
  by_cases h : t.val % 256 = 0
  · rw [outsAt0_A m c t h]
    frame_out
    exact payG1 _ _ _ _ j
  · rw [outsAt0_B m c t h]
    frame_out
    exact payG1 _ _ _ _ j

abbrev totalG1 (c : Dev nD) : S8192x2048.Idx → EReal := fun i => mergeGrad (argG1 m c i + argB m c (ix2 1 (i 1))) (argU1 m c i) (argD m c i)

theorem arrG1 (c : Dev nD) : (dats m 0 c).arrAt 14 cfg0.N = totalG1 m c := by
  refine (dats m 0 c).arrAt_eq_of_covers 14 _ (by decide +kernel) fun t hf y => ?_
  blk_simp
  rw [after0_14]
  obtain ⟨r, k, rfl⟩ : ∃ (r : Fin 32) (k : Fin 2048), (y : S32x2048.Idx) = ix2 r k := ⟨y 0, y 1, by funext j; fin_cases j <;> rfl⟩
  have hN : t.val < 256 := t.isLt
  have h : t.val * 32 + r.val < 8192 := by omega
  have e : (win0_14.blk t).view.emb (ix2 r k : S32x2048.Idx) = (ix2 ⟨t.val * 32 + r.val, h⟩ k : S8192x2048.Idx) := by
    blk_ext! [ixO4]
  rw [e]
  refine (outG1 m c t (ix2 r k)).trans ?_
  exact rowG1 m c t r k ⟨_, h⟩ rfl

theorem rowU2 (c : Dev nD) (t : Fin cfg0.N) (r : Fin 32) (k : Fin 2048) (R : Fin 8192) (e : R.val = t.val * 32 + r.val) :
    branchGrad (blkG2 m c t (ix2 r k) + blkB2 m c t (ix2 0 k)) (blkD m c t (ix2 r k))
      = branchGrad (argG2 m c (ix2 R k) + argB m c (ix2 2 k)) (argD m c (ix2 R k)) := by
  rw [atG2 m c t r k R e, atD m c t r k R e, atB2]

theorem outU2 (c : Dev nD) (t : Fin cfg0.N) (j : S32x2048.Idx) :
    ((outsAt0 m c t.val t.isLt).2.2.1 j : EReal) = branchGrad (blkG2 m c t j + blkB2 m c t (ix2 0 (j 1))) (blkD m c t j) := by
  by_cases h : t.val % 256 = 0
  · rw [outsAt0_A m c t h]
    frame_out
    exact payU2 _ _ _ j
  · rw [outsAt0_B m c t h]
    frame_out
    exact payU2 _ _ _ j

abbrev totalU2 (c : Dev nD) : S8192x2048.Idx → EReal := fun i => branchGrad (argG2 m c i + argB m c (ix2 2 (i 1))) (argD m c i)

theorem arrU2 (c : Dev nD) : (dats m 0 c).arrAt 12 cfg0.N = totalU2 m c := by
  refine (dats m 0 c).arrAt_eq_of_covers 12 _ (by decide +kernel) fun t hf y => ?_
  blk_simp
  rw [after0_12]
  obtain ⟨r, k, rfl⟩ : ∃ (r : Fin 32) (k : Fin 2048), (y : S32x2048.Idx) = ix2 r k := ⟨y 0, y 1, by funext j; fin_cases j <;> rfl⟩
  have hN : t.val < 256 := t.isLt
  have h : t.val * 32 + r.val < 8192 := by omega
  have e : (win0_12.blk t).view.emb (ix2 r k : S32x2048.Idx) = (ix2 ⟨t.val * 32 + r.val, h⟩ k : S8192x2048.Idx) := by
    blk_ext! [ixO2]
  rw [e]
  refine (outU2 m c t (ix2 r k)).trans ?_
  exact rowU2 m c t r k ⟨_, h⟩ rfl

theorem rowG2 (c : Dev nD) (t : Fin cfg0.N) (r : Fin 32) (k : Fin 2048) (R : Fin 8192) (e : R.val = t.val * 32 + r.val) :
    mergeGrad (blkG2 m c t (ix2 r k) + blkB2 m c t (ix2 0 k)) (blkU2 m c t (ix2 r k)) (blkD m c t (ix2 r k))
      = mergeGrad (argG2 m c (ix2 R k) + argB m c (ix2 2 k)) (argU2 m c (ix2 R k)) (argD m c (ix2 R k)) := by
  rw [atG2 m c t r k R e, atD m c t r k R e, atB2, atU2 m c t r k R e]

theorem outG2 (c : Dev nD) (t : Fin cfg0.N) (j : S32x2048.Idx) :
    ((outsAt0 m c t.val t.isLt).2.2.2.2.2.1 j : EReal) = mergeGrad (blkG2 m c t j + blkB2 m c t (ix2 0 (j 1))) (blkU2 m c t j) (blkD m c t j) := by
  by_cases h : t.val % 256 = 0
  · rw [outsAt0_A m c t h]
    frame_out
    exact payG2 _ _ _ _ j
  · rw [outsAt0_B m c t h]
    frame_out
    exact payG2 _ _ _ _ j

abbrev totalG2 (c : Dev nD) : S8192x2048.Idx → EReal := fun i => mergeGrad (argG2 m c i + argB m c (ix2 2 (i 1))) (argU2 m c i) (argD m c i)

theorem arrG2 (c : Dev nD) : (dats m 0 c).arrAt 15 cfg0.N = totalG2 m c := by
  refine (dats m 0 c).arrAt_eq_of_covers 15 _ (by decide +kernel) fun t hf y => ?_
  blk_simp
  rw [after0_15]
  obtain ⟨r, k, rfl⟩ : ∃ (r : Fin 32) (k : Fin 2048), (y : S32x2048.Idx) = ix2 r k := ⟨y 0, y 1, by funext j; fin_cases j <;> rfl⟩
  have hN : t.val < 256 := t.isLt
  have h : t.val * 32 + r.val < 8192 := by omega
  have e : (win0_15.blk t).view.emb (ix2 r k : S32x2048.Idx) = (ix2 ⟨t.val * 32 + r.val, h⟩ k : S8192x2048.Idx) := by
    blk_ext! [ixO5]
  rw [e]
  refine (outG2 m c t (ix2 r k)).trans ?_
  exact rowG2 m c t r k ⟨_, h⟩ rfl

/-- A point's part of the gradient in a bias. -/
abbrev term0 (c : Dev nD) (t : Fin cfg0.N) (j : S1x2048.Idx) : EReal :=
  ∑ r : Fin 32, mergeGrad (blkG0 m c t (ix2 r (j 1)) + blkB0 m c t (ix2 0 (j 1))) (blkU0 m c t (ix2 r (j 1))) (blkD m c t (ix2 r (j 1)))

theorem first0 (c : Dev nD) (t : Fin cfg0.N) (h : t.val % 256 = 0) (j : S1x2048.Idx) :
    (outsAt0 m c t.val t.isLt).2.2.2.2.2.2.1 j = (0 : EReal) + term0 m c t j := by
  rw [outsAt0_A m c t h]
  frame_out
  refine (payB0 _ _ _ _ _ j).trans ?_
  pointwise [k0_pay3]

theorem next0 (c : Dev nD) (t : Fin cfg0.N) (h : ¬t.val % 256 = 0) (j : S1x2048.Idx) :
    (outsAt0 m c t.val t.isLt).2.2.2.2.2.2.1 j
      = ((outsAt0 m c (t.val - 1) (Nat.lt_of_le_of_lt (Nat.sub_le _ _) t.isLt)).2.2.2.2.2.2.1 j : EReal) + term0 m c t j := by
  rw [outsAt0_B m c t h]
  frame_out [read_unread_whole]
  exact payB0 _ _ _ _ _ j

theorem sum0 (c : Dev nD) (t : Fin cfg0.N) (h : t.val % 256 = 255) (j : S1x2048.Idx) :
    ((outsAt0 m c t.val t.isLt).2.2.2.2.2.2.1 j : EReal)
      = ∑ s : Fin 256, term0 m c ⟨256 * (t.val / 256) + s.val, Pipeline.run_point_lt_of_flush t h s⟩ j := by
  rw [Pipeline.eq_sum_fin_of_reset_step_apply_of_flush (fun n h => (outsAt0 m c n h).2.2.2.2.2.2.1) 256 (fun _ => (0 : EReal)) (term0 m c)
    (first0 m c) (next0 m c) t h j, zero_add]

abbrev totalB0 (c : Dev nD) : S1x2048.Idx → EReal := fun i =>
  ∑ r : Fin 8192, mergeGrad (argG0 m c (ix2 r (i 1)) + argB m c (ix2 0 (i 1))) (argU0 m c (ix2 r (i 1))) (argD m c (ix2 r (i 1)))

theorem rows0 (c : Dev nD) (j : S1x2048.Idx) (u : Fin 256 → Fin cfg0.N) (hu : ∀ s, (u s).val = s.val) :
    ∑ s : Fin 256, term0 m c (u s) j = totalB0 m c j := by
  refine Fin.sum_mul_add_congr (n := 32) fun s r hl => ?_
  have hp : s.val * 32 + r.val = (u s).val * 32 + r.val := by rw [hu]
  exact rowG0 m c (u s) r (j 1) ⟨_, hl⟩ hp

theorem arrB0 (c : Dev nD) : (dats m 0 c).arrAt 16 cfg0.N = totalB0 m c := by
  refine (dats m 0 c).arrAt_eq_of_covers 16 _ (by decide +kernel) fun t hf y => ?_
  have ht := (flush0_16 t).mp hf
  have hN : t.val < 256 := t.isLt
  blk_simp
  rw [after0_16]
  refine (sum0 m c t ht _).trans ?_
  have e : (win0_16.blk t).view.emb y = (ix2 0 (y 1) : S1x2048.Idx) := by
    blk_ext! [ixS0]
  rw [e]
  exact rows0 m c _ _ fun s => by dsimp only; omega

/-- A point's part of the gradient in a bias. -/
abbrev term1 (c : Dev nD) (t : Fin cfg0.N) (j : S1x2048.Idx) : EReal :=
  ∑ r : Fin 32, mergeGrad (blkG1 m c t (ix2 r (j 1)) + blkB1 m c t (ix2 0 (j 1))) (blkU1 m c t (ix2 r (j 1))) (blkD m c t (ix2 r (j 1)))

theorem first1 (c : Dev nD) (t : Fin cfg0.N) (h : t.val % 256 = 0) (j : S1x2048.Idx) :
    (outsAt0 m c t.val t.isLt).2.2.2.2.2.2.2.1 j = (0 : EReal) + term1 m c t j := by
  rw [outsAt0_A m c t h]
  frame_out
  refine (payB1 _ _ _ _ _ j).trans ?_
  pointwise [k0_pay4]

theorem next1 (c : Dev nD) (t : Fin cfg0.N) (h : ¬t.val % 256 = 0) (j : S1x2048.Idx) :
    (outsAt0 m c t.val t.isLt).2.2.2.2.2.2.2.1 j
      = ((outsAt0 m c (t.val - 1) (Nat.lt_of_le_of_lt (Nat.sub_le _ _) t.isLt)).2.2.2.2.2.2.2.1 j : EReal) + term1 m c t j := by
  rw [outsAt0_B m c t h]
  frame_out [read_unread_whole]
  exact payB1 _ _ _ _ _ j

theorem sum1 (c : Dev nD) (t : Fin cfg0.N) (h : t.val % 256 = 255) (j : S1x2048.Idx) :
    ((outsAt0 m c t.val t.isLt).2.2.2.2.2.2.2.1 j : EReal)
      = ∑ s : Fin 256, term1 m c ⟨256 * (t.val / 256) + s.val, Pipeline.run_point_lt_of_flush t h s⟩ j := by
  rw [Pipeline.eq_sum_fin_of_reset_step_apply_of_flush (fun n h => (outsAt0 m c n h).2.2.2.2.2.2.2.1) 256 (fun _ => (0 : EReal)) (term1 m c)
    (first1 m c) (next1 m c) t h j, zero_add]

abbrev totalB1 (c : Dev nD) : S1x2048.Idx → EReal := fun i =>
  ∑ r : Fin 8192, mergeGrad (argG1 m c (ix2 r (i 1)) + argB m c (ix2 1 (i 1))) (argU1 m c (ix2 r (i 1))) (argD m c (ix2 r (i 1)))

theorem rows1 (c : Dev nD) (j : S1x2048.Idx) (u : Fin 256 → Fin cfg0.N) (hu : ∀ s, (u s).val = s.val) :
    ∑ s : Fin 256, term1 m c (u s) j = totalB1 m c j := by
  refine Fin.sum_mul_add_congr (n := 32) fun s r hl => ?_
  have hp : s.val * 32 + r.val = (u s).val * 32 + r.val := by rw [hu]
  exact rowG1 m c (u s) r (j 1) ⟨_, hl⟩ hp

theorem arrB1 (c : Dev nD) : (dats m 0 c).arrAt 17 cfg0.N = totalB1 m c := by
  refine (dats m 0 c).arrAt_eq_of_covers 17 _ (by decide +kernel) fun t hf y => ?_
  have ht := (flush0_17 t).mp hf
  have hN : t.val < 256 := t.isLt
  blk_simp
  rw [after0_17]
  refine (sum1 m c t ht _).trans ?_
  have e : (win0_17.blk t).view.emb y = (ix2 0 (y 1) : S1x2048.Idx) := by
    blk_ext! [ixS1]
  rw [e]
  exact rows1 m c _ _ fun s => by dsimp only; omega

/-- A point's part of the gradient in a bias. -/
abbrev term2 (c : Dev nD) (t : Fin cfg0.N) (j : S1x2048.Idx) : EReal :=
  ∑ r : Fin 32, mergeGrad (blkG2 m c t (ix2 r (j 1)) + blkB2 m c t (ix2 0 (j 1))) (blkU2 m c t (ix2 r (j 1))) (blkD m c t (ix2 r (j 1)))

theorem first2 (c : Dev nD) (t : Fin cfg0.N) (h : t.val % 256 = 0) (j : S1x2048.Idx) :
    (outsAt0 m c t.val t.isLt).2.2.2.2.2.2.2.2 j = (0 : EReal) + term2 m c t j := by
  rw [outsAt0_A m c t h]
  frame_out
  refine (payB2 _ _ _ _ _ j).trans ?_
  pointwise [k0_pay5]

theorem next2 (c : Dev nD) (t : Fin cfg0.N) (h : ¬t.val % 256 = 0) (j : S1x2048.Idx) :
    (outsAt0 m c t.val t.isLt).2.2.2.2.2.2.2.2 j
      = ((outsAt0 m c (t.val - 1) (Nat.lt_of_le_of_lt (Nat.sub_le _ _) t.isLt)).2.2.2.2.2.2.2.2 j : EReal) + term2 m c t j := by
  rw [outsAt0_B m c t h]
  frame_out [read_unread_whole]
  exact payB2 _ _ _ _ _ j

theorem sum2 (c : Dev nD) (t : Fin cfg0.N) (h : t.val % 256 = 255) (j : S1x2048.Idx) :
    ((outsAt0 m c t.val t.isLt).2.2.2.2.2.2.2.2 j : EReal)
      = ∑ s : Fin 256, term2 m c ⟨256 * (t.val / 256) + s.val, Pipeline.run_point_lt_of_flush t h s⟩ j := by
  rw [Pipeline.eq_sum_fin_of_reset_step_apply_of_flush (fun n h => (outsAt0 m c n h).2.2.2.2.2.2.2.2) 256 (fun _ => (0 : EReal)) (term2 m c)
    (first2 m c) (next2 m c) t h j, zero_add]

abbrev totalB2 (c : Dev nD) : S1x2048.Idx → EReal := fun i =>
  ∑ r : Fin 8192, mergeGrad (argG2 m c (ix2 r (i 1)) + argB m c (ix2 2 (i 1))) (argU2 m c (ix2 r (i 1))) (argD m c (ix2 r (i 1)))

theorem rows2 (c : Dev nD) (j : S1x2048.Idx) (u : Fin 256 → Fin cfg0.N) (hu : ∀ s, (u s).val = s.val) :
    ∑ s : Fin 256, term2 m c (u s) j = totalB2 m c j := by
  refine Fin.sum_mul_add_congr (n := 32) fun s r hl => ?_
  have hp : s.val * 32 + r.val = (u s).val * 32 + r.val := by rw [hu]
  exact rowG2 m c (u s) r (j 1) ⟨_, hl⟩ hp

theorem arrB2 (c : Dev nD) : (dats m 0 c).arrAt 18 cfg0.N = totalB2 m c := by
  refine (dats m 0 c).arrAt_eq_of_covers 18 _ (by decide +kernel) fun t hf y => ?_
  have ht := (flush0_18 t).mp hf
  have hN : t.val < 256 := t.isLt
  blk_simp
  rw [after0_18]
  refine (sum2 m c t ht _).trans ?_
  have e : (win0_18.blk t).view.emb y = (ix2 0 (y 1) : S1x2048.Idx) := by
    blk_ext! [ixS2]
  rw [e]
  exact rows2 m c _ _ fun s => by dsimp only; omega

end Cert.MergeBwdIdeal.Rows

namespace Cert.MergeBwdIdeal.Claims

open Idealize.ShloMosaic Idealize.SL.Sem Idealize.ShloMosaic.Tactic

theorem frame_kernel : Cert.quiescent_MergeBwd (hMergeBwd := Cert.MergeBwd.Gen.facts) := fun m ρ _ => Cert.MergeBwd.Gen.frame m ρ
theorem frame_ideal : Cert.quiescent_MergeBwdIdeal (hMergeBwdIdeal := Cert.MergeBwdIdeal.Gen.facts) := fun m ρ _ => Cert.MergeBwdIdeal.Gen.frame m ρ
theorem frame_ref : Cert.quiescent_MergeBwdRefIdeal (hMergeBwdRefIdeal := Cert.MergeBwdRefIdeal.Gen.facts) := fun m ρ _ =>
  (θ_run Cert.MergeBwdRefIdeal.defs _ _).mono (fun r h => ⟨fun c => (h c).2.2.2.2.2.2.2.2.2, sem_eq_zero_of_no_sems (by decide) r.2⟩)
    (Cert.MergeBwdRefIdeal.Value.run (F := Ideal) m ρ)

theorem algebraic : Cert.algebraic_MergeBwdIdeal_MergeBwdRefIdeal (hMergeBwdIdeal := Cert.MergeBwdIdeal.Gen.facts) (hMergeBwdRefIdeal := Cert.MergeBwdRefIdeal.Gen.facts) := by
  intro m ρ m' ρ' _ hagree
  refine ⟨Cert.MergeBwdIdeal.Rows.totalU0 m, Cert.MergeBwdIdeal.Rows.totalU1 m, Cert.MergeBwdIdeal.Rows.totalU2 m, Cert.MergeBwdIdeal.Rows.totalG0 m, Cert.MergeBwdIdeal.Rows.totalG1 m, Cert.MergeBwdIdeal.Rows.totalG2 m, Cert.MergeBwdIdeal.Rows.totalB0 m, Cert.MergeBwdIdeal.Rows.totalB1 m, Cert.MergeBwdIdeal.Rows.totalB2 m, ?_, ?_⟩
  · refine (θ_run Cert.MergeBwdIdeal.defs _ _).mono (fun _ h c => ⟨?_, ?_, ?_, ?_, ?_, ?_, ?_, ?_, ?_, (h c).2.2.2.2.2.2.2.2.2⟩) (Cert.MergeBwdIdeal.Value.run_blocks (F := Ideal) m ρ)
    · exact (h c).1.trans (Cert.MergeBwdIdeal.Rows.arrU0 m c)
    · exact (h c).2.1.trans (Cert.MergeBwdIdeal.Rows.arrU1 m c)
    · exact (h c).2.2.1.trans (Cert.MergeBwdIdeal.Rows.arrU2 m c)
    · exact (h c).2.2.2.1.trans (Cert.MergeBwdIdeal.Rows.arrG0 m c)
    · exact (h c).2.2.2.2.1.trans (Cert.MergeBwdIdeal.Rows.arrG1 m c)
    · exact (h c).2.2.2.2.2.1.trans (Cert.MergeBwdIdeal.Rows.arrG2 m c)
    · exact (h c).2.2.2.2.2.2.1.trans (Cert.MergeBwdIdeal.Rows.arrB0 m c)
    · exact (h c).2.2.2.2.2.2.2.1.trans (Cert.MergeBwdIdeal.Rows.arrB1 m c)
    · exact (h c).2.2.2.2.2.2.2.2.1.trans (Cert.MergeBwdIdeal.Rows.arrB2 m c)
  · refine (θ_run Cert.MergeBwdRefIdeal.defs _ _).mono (fun _ h c => ⟨?_, ?_, ?_, ?_, ?_, ?_, ?_, ?_, ?_, (h c).2.2.2.2.2.2.2.2.2⟩) (Cert.MergeBwdRefIdeal.Value.run (F := Ideal) m' ρ')
    · rw [(h c).1]
      simp only [hagree c]
      refine funext fun (i : Cert.MergeBwdIdeal.S8192x2048.Idx) => ?_
      idx_vars i
      pointwise [Cert.MergeBwdIdeal.Rows.totalU0]
      try simp only [hagree c]
      rfl
    · rw [(h c).2.1]
      simp only [hagree c]
      refine funext fun (i : Cert.MergeBwdIdeal.S8192x2048.Idx) => ?_
      idx_vars i
      pointwise [Cert.MergeBwdIdeal.Rows.totalU1]
      try simp only [hagree c]
      rfl
    · rw [(h c).2.2.1]
      simp only [hagree c]
      refine funext fun (i : Cert.MergeBwdIdeal.S8192x2048.Idx) => ?_
      idx_vars i
      pointwise [Cert.MergeBwdIdeal.Rows.totalU2]
      try simp only [hagree c]
      rfl
    · rw [(h c).2.2.2.1]
      simp only [hagree c]
      refine funext fun (i : Cert.MergeBwdIdeal.S8192x2048.Idx) => ?_
      idx_vars i
      pointwise [Cert.MergeBwdIdeal.Rows.totalG0]
      try simp only [hagree c]
      rfl
    · rw [(h c).2.2.2.2.1]
      simp only [hagree c]
      refine funext fun (i : Cert.MergeBwdIdeal.S8192x2048.Idx) => ?_
      idx_vars i
      pointwise [Cert.MergeBwdIdeal.Rows.totalG1]
      try simp only [hagree c]
      rfl
    · rw [(h c).2.2.2.2.2.1]
      simp only [hagree c]
      refine funext fun (i : Cert.MergeBwdIdeal.S8192x2048.Idx) => ?_
      idx_vars i
      pointwise [Cert.MergeBwdIdeal.Rows.totalG2]
      try simp only [hagree c]
      rfl
    · rw [(h c).2.2.2.2.2.2.1]
      simp only [hagree c]
      refine funext fun (i : Cert.MergeBwdIdeal.S1x2048.Idx) => ?_
      idx_vars i
      pointwise [Cert.MergeBwdIdeal.Rows.totalB0]
      simp only [hagree c]
      exact Fin.sum_univ_one _
    · rw [(h c).2.2.2.2.2.2.2.1]
      simp only [hagree c]
      refine funext fun (i : Cert.MergeBwdIdeal.S1x2048.Idx) => ?_
      idx_vars i
      pointwise [Cert.MergeBwdIdeal.Rows.totalB1]
      simp only [hagree c]
      exact Fin.sum_univ_one _
    · rw [(h c).2.2.2.2.2.2.2.2.1]
      simp only [hagree c]
      refine funext fun (i : Cert.MergeBwdIdeal.S1x2048.Idx) => ?_
      idx_vars i
      pointwise [Cert.MergeBwdIdeal.Rows.totalB2]
      simp only [hagree c]
      exact Fin.sum_univ_one _

end Cert.MergeBwdIdeal.Claims

end
-- ==== Proof.Rows.Branch.lean ====
/- The branches' row by row operations over the extended reals: the recurrence's output gate and the delta rule's inputs and output,
   with their gradients. -/
module

public import Idealize.ShloMosaic.Lib.Pipeline.ValueKit
public import Idealize.ShloMosaic.Lib.Pointwise
public import Idealize.ShloMosaic.Lib.IdealHost

@[expose] public section

noncomputable section

namespace Cert.BranchRule

open Idealize.ShloMosaic

/-- A printed number. -/
abbrev num (b : BitVec 32) : EReal := Ideal.ofBits .f32 b

section Wave

/-! The recurrence's output `h`, gated by `y`; `d` reaches the result. -/

variable (h y d : EReal)

theorem cube : y * y * y = y * (y * y) := mul_comm _ _

abbrev wave : EReal := Ideal.tanh (num 0x3F4C422A#32 * (y + num 0x3D372713#32 * (y * (y * y))))
abbrev share : EReal := num 0x3F000000#32 * (1 + wave y)
abbrev out : EReal := h * (y * share y)
abbrev outGrad : EReal := d * (y * share y)

/-- What reaches the wave's argument. -/
abbrev inner : EReal :=
  num 0x3F4C422A#32 * (num 0x3F000000#32 * (y * (h * d)) * ((1 + wave y) * (1 - wave y)))
abbrev gateGrad : EReal :=
  h * d * share y + inner h y d + num 0x3D372713#32 * inner h y d * (num 0x40400000#32 * (y * y))

end Wave

section Unit

/-! A head's row of 128: each entry through its own gate, then the row to length one. -/

abbrev opening (x : EReal) : EReal := Ideal.logistic x
abbrev gate (x : EReal) : EReal := x * opening x

variable (x d : Fin 128 → EReal)

abbrev square : EReal := (∑ k, gate (x k) * gate (x k)) + num 0x358637BD#32
abbrev unit (k : Fin 128) : EReal := gate (x k) * Ideal.rsqrt (square x)

/-- What reaches an entry through its gate, when `d` reaches the gate's result. -/
abbrev through (x d : EReal) : EReal := d * opening x + x * d * (opening x * (1 - opening x))

abbrev back : EReal := (∑ k, gate (x k) * d k) * (num 0xBF000000#32 * Ideal.div (Ideal.rsqrt (square x)) (square x))
abbrev gateIn (k : Fin 128) : EReal := d k * Ideal.rsqrt (square x) + gate (x k) * back x d + back x d * gate (x k)
abbrev unitGrad (k : Fin 128) : EReal := through (x k) (gateIn x d k)

end Unit

section Post

/-! A head's row of 128 of mean square one, scaled by `w` and gated by `z`; `d` reaches the result. -/

variable (w x z d : Fin 128 → EReal)

abbrev mean : EReal := Ideal.div (∑ k, x k * x k) (num 0x43000000#32) + num 0x358637BD#32
abbrev scaled (k : Fin 128) : EReal := x k * Ideal.rsqrt (mean x) * w k
abbrev gated (k : Fin 128) : EReal := scaled w x k * gate (z k)

abbrev passed (k : Fin 128) : EReal := d k * gate (z k)
abbrev postBack : EReal :=
  Ideal.div ((∑ k, x k * (passed z d k * w k)) * (num 0xBF000000#32 * Ideal.div (Ideal.rsqrt (mean x)) (mean x)))
    (num 0x43000000#32)
abbrev postGrad (k : Fin 128) : EReal :=
  passed z d k * w k * Ideal.rsqrt (mean x) + x k * postBack w x z d + postBack w x z d * x k
abbrev zGrad (k : Fin 128) : EReal := through (z k) (scaled w x k * d k)
abbrev wTerm (k : Fin 128) : EReal := x k * Ideal.rsqrt (mean x) * passed z d k

end Post

section Lanes

/-! A row of 1024 holds eight heads of 128. -/

abbrev lane (g : Fin 8) (k : Fin 128) : Fin 1024 := ⟨g.val * 128 + k.val, by omega⟩
abbrev headOf (i : Fin 1024) : Fin 8 := ⟨i.val / 128, by omega⟩
abbrev laneOf (i : Fin 1024) : Fin 128 := ⟨i.val % 128, by omega⟩

theorem headOf_lane (g : Fin 8) (k : Fin 128) : headOf (lane g k) = g := Fin.ext (by dsimp only; omega)
theorem laneOf_lane (g : Fin 8) (k : Fin 128) : laneOf (lane g k) = k := Fin.ext (by dsimp only; omega)
theorem lane_of (i : Fin 1024) : i = lane (headOf i) (laneOf i) := Fin.ext (by dsimp only; omega)

end Lanes

section Heads

/-! A sum over the first two of three axes. -/

variable {n0 n1 n2 : Nat} {t : Shape}

theorem rank_heads (h : (⟨3, ![n0, n1, n2]⟩ : Shape).ReducesTo [0, 1] t) : 0 < t.rank :=
  (show t.rank = 1 from h.1) ▸ (by decide)

theorem size_heads (h : (⟨3, ![n0, n1, n2]⟩ : Shape).ReducesTo [0, 1] t) : t.size ⟨0, rank_heads h⟩ = n2 := h.2 ⟨0, rank_heads h⟩

/-- The coordinate that stays. -/
abbrev kept (h : (⟨3, ![n0, n1, n2]⟩ : Shape).ReducesTo [0, 1] t) (j : t.Idx) : Fin n2 :=
  ⟨(j ⟨0, rank_heads h⟩).val, Shape.coordLt (j ⟨0, rank_heads h⟩) (size_heads h)⟩

theorem fiber_heads (h : (⟨3, ![n0, n1, n2]⟩ : Shape).ReducesTo [0, 1] t) (j : t.Idx) (i : (⟨3, ![n0, n1, n2]⟩ : Shape).Idx) :
    h.drop i = j ↔ ∃ k : Fin n0 × Fin n1, ix3 k.1 k.2 (kept h j) = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, rank_heads h⟩)).symm
  · rintro ⟨k, rfl⟩
    funext b
    apply Fin.ext
    match b with
    | ⟨0, _⟩ => rfl
    | ⟨_ + 1, hb⟩ => exact absurd hb (by have := show t.rank = 1 from h.1; omega)

theorem sum_heads (h : (⟨3, ![n0, n1, n2]⟩ : Shape).ReducesTo [0, 1] t) (v : (⟨3, ![n0, n1, n2]⟩ : Shape).Idx → EReal)
    (init : EReal) (j : t.Idx) :
    Ideal.hostReduceAdd h v init j = init + ∑ r : Fin n0, ∑ g : Fin n1, v (ix3 r g (kept h j)) := by
  refine congrArg (init + ·) ?_
  refine (Finset.sum_filter_eq_sum_of_fiber _ (fun k : Fin n0 × Fin n1 => ix3 k.1 k.2 (kept h j))
    (fun _ _ e => Prod.ext (congrFun e 0) (congrFun e 1)) (fiber_heads h j) v).trans ?_
  simp only [Fintype.sum_prod_type]

end Heads

end Cert.BranchRule

end
-- ==== Proof.Rows.LruOutFwd.lean ====
/- LruOutFwd: the output gate of the recurrence, 8192 rows of 1024. -/
module

public import proofs.«01_k».proof.Defs
public import proofs.«01_k».proof.Proof.Rows.Branch
public import proofs.«01_k».proof.Proof.Gen.LruOutFwd.Frame
public import proofs.«01_k».proof.Proof.Gen.LruOutFwdIdeal.Value
public import proofs.«01_k».proof.Proof.Gen.LruOutFwdRefIdeal.Run
public import Idealize.ShloMosaic.Adequacy
public import Idealize.ShloMosaic.Init
public import Idealize.ShloMosaic.Lib.Quiescent
public import Idealize.ShloMosaic.Lib.Pipeline.ReadBack

@[expose] public section

set_option maxRecDepth 16384

noncomputable section

namespace Cert.LruOutFwdIdeal.Rows

open Cert.LruOutFwdIdeal Cert.LruOutFwdIdeal.Gen Idealize.ShloMosaic Idealize.ShloMosaic.TcCoe Idealize.ShloMosaic.Tactic Idealize.SL.Sem
open Cert.BranchRule

variable (m : (ℓ : Loc nD τ sig) → Buf (Elt Ideal) ℓ)

abbrev argH (c : Dev nD) : S8192x1024.Idx → EReal := m ((c : Thread nD τ).loc main_arg0)
abbrev argY (c : Dev nD) : S8192x1024.Idx → EReal := m ((c : Thread nD τ).loc main_arg1)

abbrev total (c : Dev nD) : S8192x1024.Idx → EReal := fun i => out (argH m c i) (argY m c i)

theorem arr (c : Dev nD) : (dats m 0 c).arrAt 2 cfg0.N = total m c := by
  refine (dats m 0 c).arrAt_eq_of_covers 2 _ (by decide +kernel) fun t hf y => ?_
  blk_simp
  rw [after0_2]
  frame_out
  pointwise [k0_pay1]
  rfl

end Cert.LruOutFwdIdeal.Rows

namespace Cert.LruOutFwdIdeal.Claims

open Idealize.ShloMosaic Idealize.SL.Sem Idealize.ShloMosaic.Tactic

theorem frame_kernel : Cert.quiescent_LruOutFwd (hLruOutFwd := Cert.LruOutFwd.Gen.facts) := fun m ρ _ => Cert.LruOutFwd.Gen.frame m ρ
theorem frame_ideal : Cert.quiescent_LruOutFwdIdeal (hLruOutFwdIdeal := Cert.LruOutFwdIdeal.Gen.facts) := fun m ρ _ => Cert.LruOutFwdIdeal.Gen.frame m ρ
theorem frame_ref : Cert.quiescent_LruOutFwdRefIdeal (hLruOutFwdRefIdeal := Cert.LruOutFwdRefIdeal.Gen.facts) := fun m ρ _ =>
  (θ_run Cert.LruOutFwdRefIdeal.defs _ _).mono (fun r h => ⟨fun c => (h c).2, sem_eq_zero_of_no_sems (by decide) r.2⟩)
    (Cert.LruOutFwdRefIdeal.Value.run (F := Ideal) m ρ)

theorem algebraic : Cert.algebraic_LruOutFwdIdeal_LruOutFwdRefIdeal (hLruOutFwdIdeal := Cert.LruOutFwdIdeal.Gen.facts) (hLruOutFwdRefIdeal := Cert.LruOutFwdRefIdeal.Gen.facts) := by
  intro m ρ m' ρ' _ hagree
  refine ⟨Cert.LruOutFwdIdeal.Rows.total m, ?_, ?_⟩
  · refine (θ_run Cert.LruOutFwdIdeal.defs _ _).mono (fun _ h c => ⟨?_, (h c).2⟩) (Cert.LruOutFwdIdeal.Value.run_blocks (F := Ideal) m ρ)
    · exact (h c).1.trans (Cert.LruOutFwdIdeal.Rows.arr m c)
  · refine (θ_run Cert.LruOutFwdRefIdeal.defs _ _).mono (fun _ h c => ⟨?_, (h c).2⟩) (Cert.LruOutFwdRefIdeal.Value.run (F := Ideal) m' ρ')
    · rw [(h c).1]
      simp only [hagree c]
      refine funext fun (i : Cert.LruOutFwdIdeal.S8192x1024.Idx) => ?_
      idx_vars i
      pointwise [Cert.LruOutFwdIdeal.Rows.total, Cert.LruOutFwdIdeal.Rows.argH, Cert.LruOutFwdIdeal.Rows.argY]
      rw [Cert.BranchRule.cube]

end Cert.LruOutFwdIdeal.Claims

end
-- ==== Proof.Rows.LruOutBwd.lean ====
/- LruOutBwd: the gradients of the output gate of the recurrence. -/
module

public import proofs.«01_k».proof.Defs
public import proofs.«01_k».proof.Proof.Rows.Branch
public import proofs.«01_k».proof.Proof.Gen.LruOutBwd.Frame
public import proofs.«01_k».proof.Proof.Gen.LruOutBwdIdeal.Value
public import proofs.«01_k».proof.Proof.Gen.LruOutBwdRefIdeal.Run
public import Idealize.ShloMosaic.Adequacy
public import Idealize.ShloMosaic.Init
public import Idealize.ShloMosaic.Lib.Quiescent
public import Idealize.ShloMosaic.Lib.Pipeline.ReadBack

@[expose] public section

set_option maxRecDepth 16384

noncomputable section

namespace Cert.LruOutBwdIdeal.Rows

open Cert.LruOutBwdIdeal Cert.LruOutBwdIdeal.Gen Idealize.ShloMosaic Idealize.ShloMosaic.TcCoe Idealize.ShloMosaic.Tactic Idealize.SL.Sem
open Cert.BranchRule

variable (m : (ℓ : Loc nD τ sig) → Buf (Elt Ideal) ℓ)

abbrev argH (c : Dev nD) : S8192x1024.Idx → EReal := m ((c : Thread nD τ).loc main_arg0)
abbrev argY (c : Dev nD) : S8192x1024.Idx → EReal := m ((c : Thread nD τ).loc main_arg1)
abbrev argD (c : Dev nD) : S8192x1024.Idx → EReal := m ((c : Thread nD τ).loc main_arg2)

abbrev totalOut (c : Dev nD) : S8192x1024.Idx → EReal := fun i => outGrad (argY m c i) (argD m c i)

theorem arrOut (c : Dev nD) : (dats m 0 c).arrAt 3 cfg0.N = totalOut m c := by
  refine (dats m 0 c).arrAt_eq_of_covers 3 _ (by decide +kernel) fun t hf y => ?_
  blk_simp
  rw [after0_3]
  frame_out
  pointwise [k0_pay3, k0_pay2, k0_pay1]
  rfl

abbrev totalGate (c : Dev nD) : S8192x1024.Idx → EReal := fun i => gateGrad (argH m c i) (argY m c i) (argD m c i)

theorem arrGate (c : Dev nD) : (dats m 0 c).arrAt 4 cfg0.N = totalGate m c := by
  refine (dats m 0 c).arrAt_eq_of_covers 4 _ (by decide +kernel) fun t hf y => ?_
  blk_simp
  rw [after0_4]
  frame_out
  pointwise [k0_pay4, k0_pay2, k0_pay1]
  rfl

end Cert.LruOutBwdIdeal.Rows

namespace Cert.LruOutBwdIdeal.Claims

open Idealize.ShloMosaic Idealize.SL.Sem Idealize.ShloMosaic.Tactic

theorem frame_kernel : Cert.quiescent_LruOutBwd (hLruOutBwd := Cert.LruOutBwd.Gen.facts) := fun m ρ _ => Cert.LruOutBwd.Gen.frame m ρ
theorem frame_ideal : Cert.quiescent_LruOutBwdIdeal (hLruOutBwdIdeal := Cert.LruOutBwdIdeal.Gen.facts) := fun m ρ _ => Cert.LruOutBwdIdeal.Gen.frame m ρ
theorem frame_ref : Cert.quiescent_LruOutBwdRefIdeal (hLruOutBwdRefIdeal := Cert.LruOutBwdRefIdeal.Gen.facts) := fun m ρ _ =>
  (θ_run Cert.LruOutBwdRefIdeal.defs _ _).mono (fun r h => ⟨fun c => (h c).2.2, sem_eq_zero_of_no_sems (by decide) r.2⟩)
    (Cert.LruOutBwdRefIdeal.Value.run (F := Ideal) m ρ)

theorem algebraic : Cert.algebraic_LruOutBwdIdeal_LruOutBwdRefIdeal (hLruOutBwdIdeal := Cert.LruOutBwdIdeal.Gen.facts) (hLruOutBwdRefIdeal := Cert.LruOutBwdRefIdeal.Gen.facts) := by
  intro m ρ m' ρ' _ hagree
  refine ⟨Cert.LruOutBwdIdeal.Rows.totalOut m, Cert.LruOutBwdIdeal.Rows.totalGate m, ?_, ?_⟩
  · refine (θ_run Cert.LruOutBwdIdeal.defs _ _).mono (fun _ h c => ⟨?_, ?_, (h c).2.2⟩) (Cert.LruOutBwdIdeal.Value.run_blocks (F := Ideal) m ρ)
    · exact (h c).1.trans (Cert.LruOutBwdIdeal.Rows.arrOut m c)
    · exact (h c).2.1.trans (Cert.LruOutBwdIdeal.Rows.arrGate m c)
  · refine (θ_run Cert.LruOutBwdRefIdeal.defs _ _).mono (fun _ h c => ⟨?_, ?_, (h c).2.2⟩) (Cert.LruOutBwdRefIdeal.Value.run (F := Ideal) m' ρ')
    · rw [(h c).1]
      simp only [hagree c]
      refine funext fun (i : Cert.LruOutBwdIdeal.S8192x1024.Idx) => ?_
      idx_vars i
      pointwise [Cert.LruOutBwdIdeal.Rows.totalOut, Cert.LruOutBwdIdeal.Rows.argY, Cert.LruOutBwdIdeal.Rows.argD]
      rw [Cert.BranchRule.cube]
    · rw [(h c).2.1]
      simp only [hagree c]
      refine funext fun (i : Cert.LruOutBwdIdeal.S8192x1024.Idx) => ?_
      idx_vars i
      pointwise [Cert.LruOutBwdIdeal.Rows.totalGate, Cert.LruOutBwdIdeal.Rows.argH, Cert.LruOutBwdIdeal.Rows.argY, Cert.LruOutBwdIdeal.Rows.argD]
      rw [Cert.BranchRule.cube]

end Cert.LruOutBwdIdeal.Claims

end
-- ==== Proof.Rows.GdnPreFwd.lean ====
/- GdnPreFwd: the inputs of the delta rule: queries and keys gated and of length one in each head, values gated. -/
module

public import proofs.«01_k».proof.Defs
public import proofs.«01_k».proof.Proof.Rows.Branch
public import proofs.«01_k».proof.Proof.Gen.GdnPreFwd.Frame
public import proofs.«01_k».proof.Proof.Gen.GdnPreFwdIdeal.Value
public import proofs.«01_k».proof.Proof.Gen.GdnPreFwdRefIdeal.Run
public import Idealize.ShloMosaic.Adequacy
public import Idealize.ShloMosaic.Init
public import Idealize.ShloMosaic.Lib.Quiescent
public import Idealize.ShloMosaic.Lib.Pipeline.ReadBack

@[expose] public section

set_option maxRecDepth 16384

noncomputable section

namespace Cert.GdnPreFwdIdeal.Rows

open Cert.GdnPreFwdIdeal Cert.GdnPreFwdIdeal.Gen Idealize.ShloMosaic Idealize.ShloMosaic.TcCoe Idealize.ShloMosaic.Tactic Idealize.SL.Sem
open Cert.BranchRule

variable (m : (ℓ : Loc nD τ sig) → Buf (Elt Ideal) ℓ)

theorem ixQ : ∀ t : Fin grid0.N, win0_0.index t = ![t.val / 8, t.val % 8] := by decide +kernel
theorem ixK : ∀ t : Fin grid0.N, win0_1.index t = ![t.val / 8, t.val % 8] := by decide +kernel
theorem ixA : ∀ t : Fin grid0.N, win0_3.index t = ![t.val / 8, t.val % 8] := by decide +kernel
theorem ixB : ∀ t : Fin grid0.N, win0_4.index t = ![t.val / 8, t.val % 8] := by decide +kernel

abbrev argQ (c : Dev nD) : S8192x1024.Idx → EReal := m ((c : Thread nD τ).loc main_arg0)
abbrev argK (c : Dev nD) : S8192x1024.Idx → EReal := m ((c : Thread nD τ).loc main_arg1)
abbrev argV (c : Dev nD) : S8192x1024.Idx → EReal := m ((c : Thread nD τ).loc main_arg2)

abbrev blkQ (c : Dev nD) (t : Fin cfg0.N) : S512x128.Idx → EReal := iblk m c 0 t
abbrev blkK (c : Dev nD) (t : Fin cfg0.N) : S512x128.Idx → EReal := iblk m c 1 t

/-- One head's part of a row, and one row of a block. -/
abbrev head (X : S8192x1024.Idx → EReal) (r : Fin 8192) (g : Fin 8) : Fin 128 → EReal := fun k => X (ix2 r (lane g k))
abbrev row (X : S512x128.Idx → EReal) (r : Fin 512) : Fin 128 → EReal := fun k => X (ix2 r k)

abbrev rowAt (t : Fin cfg0.N) (r : Fin 512) : Fin 8192 := ⟨t.val / 8 * 512 + r.val, by have h : t.val < 128 := t.isLt; omega⟩
abbrev headAt (t : Fin cfg0.N) : Fin 8 := ⟨t.val % 8, by omega⟩

theorem rowQ (c : Dev nD) (t : Fin cfg0.N) (r : Fin 512) : row (blkQ m c t) r = head (argQ m c) (rowAt t r) (headAt t) := by
  refine funext fun k => ?_
  change blkQ m c t (ix2 r k) = argQ m c (ix2 (rowAt t r) (lane (headAt t) k))
  blk_ext! [iblk, V, ixQ]

theorem rowK (c : Dev nD) (t : Fin cfg0.N) (r : Fin 512) : row (blkK m c t) r = head (argK m c) (rowAt t r) (headAt t) := by
  refine funext fun k => ?_
  change blkK m c t (ix2 r k) = argK m c (ix2 (rowAt t r) (lane (headAt t) k))
  blk_ext! [iblk, V, ixK]

theorem embA (t : Fin cfg0.N) (y : S512x128.Idx) :
    (win0_3.blk t).view.emb y = (ix2 (rowAt t (y 0)) (lane (headAt t) (y 1)) : S8192x1024.Idx) := by
  blk_ext! [ixA]

theorem embB (t : Fin cfg0.N) (y : S512x128.Idx) :
    (win0_4.blk t).view.emb y = (ix2 (rowAt t (y 0)) (lane (headAt t) (y 1)) : S8192x1024.Idx) := by
  blk_ext! [ixB]

theorem payQ (X : S512x128.Idx → EReal) (j : S512x128.Idx) : (k0_pay1 (F := Ideal) X j : EReal) = unit (row X (j 0)) (j 1) := by
  idx_vars j
  pointwise [k0_pay1, row, unit, square, num]

theorem payK (X : S512x128.Idx → EReal) (j : S512x128.Idx) : (k0_pay2 (F := Ideal) X j : EReal) = unit (row X (j 0)) (j 1) := by
  idx_vars j
  pointwise [k0_pay2, row, unit, square, num]

abbrev totalQ (c : Dev nD) : S8192x1024.Idx → EReal := fun i =>
  unit (head (argQ m c) (i 0) (headOf (i 1))) (laneOf (i 1))

theorem totalQ_at (c : Dev nD) (r : Fin 8192) (g : Fin 8) (k : Fin 128) :
    totalQ m c (ix2 r (lane g k)) = unit (head (argQ m c) r g) k := by
  change unit (head (argQ m c) r (headOf (lane g k))) (laneOf (lane g k)) = _
  rw [headOf_lane, laneOf_lane]

abbrev totalK (c : Dev nD) : S8192x1024.Idx → EReal := fun i =>
  unit (head (argK m c) (i 0) (headOf (i 1))) (laneOf (i 1))

theorem totalK_at (c : Dev nD) (r : Fin 8192) (g : Fin 8) (k : Fin 128) :
    totalK m c (ix2 r (lane g k)) = unit (head (argK m c) r g) k := by
  change unit (head (argK m c) r (headOf (lane g k))) (laneOf (lane g k)) = _
  rw [headOf_lane, laneOf_lane]

theorem arrQ (c : Dev nD) : (dats m 0 c).arrAt 3 cfg0.N = totalQ m c := by
  refine (dats m 0 c).arrAt_eq_of_covers 3 _ (by decide +kernel) fun t hf y => ?_
  blk_simp
  rw [after0_3]
  frame_out
  refine (payQ _ y).trans ?_
  rw [embA]
  refine Eq.trans ?_ (totalQ_at m c _ _ _).symm
  exact congrArg (fun vQ => unit vQ (y 1)) (rowQ m c t (y 0))

theorem arrK (c : Dev nD) : (dats m 0 c).arrAt 4 cfg0.N = totalK m c := by
  refine (dats m 0 c).arrAt_eq_of_covers 4 _ (by decide +kernel) fun t hf y => ?_
  blk_simp
  rw [after0_4]
  frame_out
  refine (payK _ y).trans ?_
  rw [embB]
  refine Eq.trans ?_ (totalK_at m c _ _ _).symm
  exact congrArg (fun vK => unit vK (y 1)) (rowK m c t (y 0))

abbrev totalV (c : Dev nD) : S8192x1024.Idx → EReal := fun i => gate (argV m c i)

theorem arrV (c : Dev nD) : (dats m 0 c).arrAt 5 cfg0.N = totalV m c := by
  refine (dats m 0 c).arrAt_eq_of_covers 5 _ (by decide +kernel) fun t hf y => ?_
  blk_simp
  rw [after0_5]
  frame_out
  pointwise [k0_pay3]
  rfl

end Cert.GdnPreFwdIdeal.Rows

namespace Cert.GdnPreFwdIdeal.Claims

open Idealize.ShloMosaic Idealize.SL.Sem Idealize.ShloMosaic.Tactic

theorem frame_kernel : Cert.quiescent_GdnPreFwd (hGdnPreFwd := Cert.GdnPreFwd.Gen.facts) := fun m ρ _ => Cert.GdnPreFwd.Gen.frame m ρ
theorem frame_ideal : Cert.quiescent_GdnPreFwdIdeal (hGdnPreFwdIdeal := Cert.GdnPreFwdIdeal.Gen.facts) := fun m ρ _ => Cert.GdnPreFwdIdeal.Gen.frame m ρ
theorem frame_ref : Cert.quiescent_GdnPreFwdRefIdeal (hGdnPreFwdRefIdeal := Cert.GdnPreFwdRefIdeal.Gen.facts) := fun m ρ _ =>
  (θ_run Cert.GdnPreFwdRefIdeal.defs _ _).mono (fun r h => ⟨fun c => (h c).2.2.2, sem_eq_zero_of_no_sems (by decide) r.2⟩)
    (Cert.GdnPreFwdRefIdeal.Value.run (F := Ideal) m ρ)

theorem algebraic : Cert.algebraic_GdnPreFwdIdeal_GdnPreFwdRefIdeal (hGdnPreFwdIdeal := Cert.GdnPreFwdIdeal.Gen.facts) (hGdnPreFwdRefIdeal := Cert.GdnPreFwdRefIdeal.Gen.facts) := by
  intro m ρ m' ρ' _ hagree
  refine ⟨Cert.GdnPreFwdIdeal.Rows.totalQ m, Cert.GdnPreFwdIdeal.Rows.totalK m, Cert.GdnPreFwdIdeal.Rows.totalV m, ?_, ?_⟩
  · refine (θ_run Cert.GdnPreFwdIdeal.defs _ _).mono (fun _ h c => ⟨?_, ?_, ?_, (h c).2.2.2⟩) (Cert.GdnPreFwdIdeal.Value.run_blocks (F := Ideal) m ρ)
    · exact (h c).1.trans (Cert.GdnPreFwdIdeal.Rows.arrQ m c)
    · exact (h c).2.1.trans (Cert.GdnPreFwdIdeal.Rows.arrK m c)
    · exact (h c).2.2.1.trans (Cert.GdnPreFwdIdeal.Rows.arrV m c)
  · refine (θ_run Cert.GdnPreFwdRefIdeal.defs _ _).mono (fun _ h c => ⟨?_, ?_, ?_, (h c).2.2.2⟩) (Cert.GdnPreFwdRefIdeal.Value.run (F := Ideal) m' ρ')
    · rw [(h c).1]
      simp only [hagree c]
      refine funext fun (i : Cert.GdnPreFwdIdeal.S8192x1024.Idx) => ?_
      idx_vars i
      pointwise [Cert.GdnPreFwdIdeal.Rows.totalQ, Cert.GdnPreFwdIdeal.Rows.head, Cert.BranchRule.lane, Cert.BranchRule.headOf, Cert.BranchRule.laneOf, Cert.BranchRule.unit, Cert.BranchRule.gate, Cert.BranchRule.square, Cert.BranchRule.num, Cert.GdnPreFwdIdeal.Rows.argQ]
      simp only [Nat.div_add_mod', Fin.eta]
      rfl
    · rw [(h c).2.1]
      simp only [hagree c]
      refine funext fun (i : Cert.GdnPreFwdIdeal.S8192x1024.Idx) => ?_
      idx_vars i
      pointwise [Cert.GdnPreFwdIdeal.Rows.totalK, Cert.GdnPreFwdIdeal.Rows.head, Cert.BranchRule.lane, Cert.BranchRule.headOf, Cert.BranchRule.laneOf, Cert.BranchRule.unit, Cert.BranchRule.gate, Cert.BranchRule.square, Cert.BranchRule.num, Cert.GdnPreFwdIdeal.Rows.argK]
      simp only [Nat.div_add_mod', Fin.eta]
      rfl
    · rw [(h c).2.2.1]
      simp only [hagree c]
      refine funext fun (i : Cert.GdnPreFwdIdeal.S8192x1024.Idx) => ?_
      idx_vars i
      pointwise [Cert.GdnPreFwdIdeal.Rows.totalV, Cert.GdnPreFwdIdeal.Rows.argV]
      rfl

end Cert.GdnPreFwdIdeal.Claims

end
-- ==== Proof.Rows.GdnPreBwd.lean ====
/- GdnPreBwd: the gradients of the inputs of the delta rule. -/
module

public import proofs.«01_k».proof.Defs
public import proofs.«01_k».proof.Proof.Rows.Branch
public import proofs.«01_k».proof.Proof.Gen.GdnPreBwd.Frame
public import proofs.«01_k».proof.Proof.Gen.GdnPreBwdIdeal.Value
public import proofs.«01_k».proof.Proof.Gen.GdnPreBwdRefIdeal.Run
public import Idealize.ShloMosaic.Adequacy
public import Idealize.ShloMosaic.Init
public import Idealize.ShloMosaic.Lib.Quiescent
public import Idealize.ShloMosaic.Lib.Pipeline.ReadBack

@[expose] public section

set_option maxRecDepth 16384
set_option maxHeartbeats 800000

noncomputable section

namespace Cert.GdnPreBwdIdeal.Rows

open Cert.GdnPreBwdIdeal Cert.GdnPreBwdIdeal.Gen Idealize.ShloMosaic Idealize.ShloMosaic.TcCoe Idealize.ShloMosaic.Tactic Idealize.SL.Sem
open Cert.BranchRule

variable (m : (ℓ : Loc nD τ sig) → Buf (Elt Ideal) ℓ)

theorem ixQ : ∀ t : Fin grid0.N, win0_0.index t = ![t.val / 8, t.val % 8] := by decide +kernel
theorem ixK : ∀ t : Fin grid0.N, win0_1.index t = ![t.val / 8, t.val % 8] := by decide +kernel
theorem ixP : ∀ t : Fin grid0.N, win0_3.index t = ![t.val / 8, t.val % 8] := by decide +kernel
theorem ixL : ∀ t : Fin grid0.N, win0_4.index t = ![t.val / 8, t.val % 8] := by decide +kernel
theorem ixA : ∀ t : Fin grid0.N, win0_6.index t = ![t.val / 8, t.val % 8] := by decide +kernel
theorem ixB : ∀ t : Fin grid0.N, win0_7.index t = ![t.val / 8, t.val % 8] := by decide +kernel

abbrev argQ (c : Dev nD) : S8192x1024.Idx → EReal := m ((c : Thread nD τ).loc main_arg0)
abbrev argK (c : Dev nD) : S8192x1024.Idx → EReal := m ((c : Thread nD τ).loc main_arg1)
abbrev argV (c : Dev nD) : S8192x1024.Idx → EReal := m ((c : Thread nD τ).loc main_arg2)
abbrev argP (c : Dev nD) : S8192x1024.Idx → EReal := m ((c : Thread nD τ).loc main_arg3)
abbrev argL (c : Dev nD) : S8192x1024.Idx → EReal := m ((c : Thread nD τ).loc main_arg4)
abbrev argU (c : Dev nD) : S8192x1024.Idx → EReal := m ((c : Thread nD τ).loc main_arg5)

abbrev blkQ (c : Dev nD) (t : Fin cfg0.N) : S512x128.Idx → EReal := iblk m c 0 t
abbrev blkK (c : Dev nD) (t : Fin cfg0.N) : S512x128.Idx → EReal := iblk m c 1 t
abbrev blkP (c : Dev nD) (t : Fin cfg0.N) : S512x128.Idx → EReal := iblk m c 3 t
abbrev blkL (c : Dev nD) (t : Fin cfg0.N) : S512x128.Idx → EReal := iblk m c 4 t

/-- One head's part of a row, and one row of a block. -/
abbrev head (X : S8192x1024.Idx → EReal) (r : Fin 8192) (g : Fin 8) : Fin 128 → EReal := fun k => X (ix2 r (lane g k))
abbrev row (X : S512x128.Idx → EReal) (r : Fin 512) : Fin 128 → EReal := fun k => X (ix2 r k)

abbrev rowAt (t : Fin cfg0.N) (r : Fin 512) : Fin 8192 := ⟨t.val / 8 * 512 + r.val, by have h : t.val < 128 := t.isLt; omega⟩
abbrev headAt (t : Fin cfg0.N) : Fin 8 := ⟨t.val % 8, by omega⟩

theorem rowQ (c : Dev nD) (t : Fin cfg0.N) (r : Fin 512) : row (blkQ m c t) r = head (argQ m c) (rowAt t r) (headAt t) := by
  refine funext fun k => ?_
  change blkQ m c t (ix2 r k) = argQ m c (ix2 (rowAt t r) (lane (headAt t) k))
  blk_ext! [iblk, V, ixQ]

theorem rowK (c : Dev nD) (t : Fin cfg0.N) (r : Fin 512) : row (blkK m c t) r = head (argK m c) (rowAt t r) (headAt t) := by
  refine funext fun k => ?_
  change blkK m c t (ix2 r k) = argK m c (ix2 (rowAt t r) (lane (headAt t) k))
  blk_ext! [iblk, V, ixK]

theorem rowP (c : Dev nD) (t : Fin cfg0.N) (r : Fin 512) : row (blkP m c t) r = head (argP m c) (rowAt t r) (headAt t) := by
  refine funext fun k => ?_
  change blkP m c t (ix2 r k) = argP m c (ix2 (rowAt t r) (lane (headAt t) k))
  blk_ext! [iblk, V, ixP]

theorem rowL (c : Dev nD) (t : Fin cfg0.N) (r : Fin 512) : row (blkL m c t) r = head (argL m c) (rowAt t r) (headAt t) := by
  refine funext fun k => ?_
  change blkL m c t (ix2 r k) = argL m c (ix2 (rowAt t r) (lane (headAt t) k))
  blk_ext! [iblk, V, ixL]

theorem embA (t : Fin cfg0.N) (y : S512x128.Idx) :
    (win0_6.blk t).view.emb y = (ix2 (rowAt t (y 0)) (lane (headAt t) (y 1)) : S8192x1024.Idx) := by
  blk_ext! [ixA]

theorem embB (t : Fin cfg0.N) (y : S512x128.Idx) :
    (win0_7.blk t).view.emb y = (ix2 (rowAt t (y 0)) (lane (headAt t) (y 1)) : S8192x1024.Idx) := by
  blk_ext! [ixB]

theorem payQ (X D : S512x128.Idx → EReal) (j : S512x128.Idx) :
    (k0_pay3 (F := Ideal) X D (k0_pay4 X) (k0_pay5 X) (k0_pay6 X) (k0_pay8 X) (k0_pay9 X) j : EReal) = unitGrad (row X (j 0)) (row D (j 0)) (j 1) := by
  idx_vars j
  pointwise [k0_pay3, k0_pay9, k0_pay8, k0_pay7, k0_pay6, k0_pay5, k0_pay4, row, unitGrad, through, gateIn, back, square, num, Fin.sum_univ_one]

theorem payK (X D : S512x128.Idx → EReal) (j : S512x128.Idx) :
    (k0_pay2 (F := Ideal) X D (k0_pay10 X) (k0_pay11 X) (k0_pay12 X) (k0_pay14 X) (k0_pay15 X) j : EReal) = unitGrad (row X (j 0)) (row D (j 0)) (j 1) := by
  idx_vars j
  pointwise [k0_pay2, k0_pay15, k0_pay14, k0_pay13, k0_pay12, k0_pay11, k0_pay10, row, unitGrad, through, gateIn, back, square, num, Fin.sum_univ_one]

abbrev totalQ (c : Dev nD) : S8192x1024.Idx → EReal := fun i =>
  unitGrad (head (argQ m c) (i 0) (headOf (i 1))) (head (argP m c) (i 0) (headOf (i 1))) (laneOf (i 1))

theorem totalQ_at (c : Dev nD) (r : Fin 8192) (g : Fin 8) (k : Fin 128) :
    totalQ m c (ix2 r (lane g k)) = unitGrad (head (argQ m c) r g) (head (argP m c) r g) k := by
  change unitGrad (head (argQ m c) r (headOf (lane g k))) (head (argP m c) r (headOf (lane g k))) (laneOf (lane g k)) = _
  rw [headOf_lane, laneOf_lane]

abbrev totalK (c : Dev nD) : S8192x1024.Idx → EReal := fun i =>
  unitGrad (head (argK m c) (i 0) (headOf (i 1))) (head (argL m c) (i 0) (headOf (i 1))) (laneOf (i 1))

theorem totalK_at (c : Dev nD) (r : Fin 8192) (g : Fin 8) (k : Fin 128) :
    totalK m c (ix2 r (lane g k)) = unitGrad (head (argK m c) r g) (head (argL m c) r g) k := by
  change unitGrad (head (argK m c) r (headOf (lane g k))) (head (argL m c) r (headOf (lane g k))) (laneOf (lane g k)) = _
  rw [headOf_lane, laneOf_lane]

theorem arrQ (c : Dev nD) : (dats m 0 c).arrAt 6 cfg0.N = totalQ m c := by
  refine (dats m 0 c).arrAt_eq_of_covers 6 _ (by decide +kernel) fun t hf y => ?_
  blk_simp
  rw [after0_6]
  frame_out
  refine (payQ _ _ y).trans ?_
  rw [embA]
  refine Eq.trans ?_ (totalQ_at m c _ _ _).symm
  exact by
    have e : ∀ vQ vQ' vP vP' : Fin 128 → EReal, vQ = vQ' → vP = vP' → unitGrad vQ vP (y 1) = unitGrad vQ' vP' (y 1) := by
      intros; subst_vars; rfl
    exact e _ _ _ _ (rowQ m c t (y 0)) (rowP m c t (y 0))

theorem arrK (c : Dev nD) : (dats m 0 c).arrAt 7 cfg0.N = totalK m c := by
  refine (dats m 0 c).arrAt_eq_of_covers 7 _ (by decide +kernel) fun t hf y => ?_
  blk_simp
  rw [after0_7]
  frame_out
  refine (payK _ _ y).trans ?_
  rw [embB]
  refine Eq.trans ?_ (totalK_at m c _ _ _).symm
  exact by
    have e : ∀ vK vK' vL vL' : Fin 128 → EReal, vK = vK' → vL = vL' → unitGrad vK vL (y 1) = unitGrad vK' vL' (y 1) := by
      intros; subst_vars; rfl
    exact e _ _ _ _ (rowK m c t (y 0)) (rowL m c t (y 0))

abbrev totalV (c : Dev nD) : S8192x1024.Idx → EReal := fun i => through (argV m c i) (argU m c i)

theorem arrV (c : Dev nD) : (dats m 0 c).arrAt 8 cfg0.N = totalV m c := by
  refine (dats m 0 c).arrAt_eq_of_covers 8 _ (by decide +kernel) fun t hf y => ?_
  blk_simp
  rw [after0_8]
  frame_out
  pointwise [k0_pay1, k0_pay16, k0_pay17]
  rfl

end Cert.GdnPreBwdIdeal.Rows

namespace Cert.GdnPreBwdIdeal.Claims

open Idealize.ShloMosaic Idealize.SL.Sem Idealize.ShloMosaic.Tactic

theorem frame_kernel : Cert.quiescent_GdnPreBwd (hGdnPreBwd := Cert.GdnPreBwd.Gen.facts) := fun m ρ _ => Cert.GdnPreBwd.Gen.frame m ρ
theorem frame_ideal : Cert.quiescent_GdnPreBwdIdeal (hGdnPreBwdIdeal := Cert.GdnPreBwdIdeal.Gen.facts) := fun m ρ _ => Cert.GdnPreBwdIdeal.Gen.frame m ρ
theorem frame_ref : Cert.quiescent_GdnPreBwdRefIdeal (hGdnPreBwdRefIdeal := Cert.GdnPreBwdRefIdeal.Gen.facts) := fun m ρ _ =>
  (θ_run Cert.GdnPreBwdRefIdeal.defs _ _).mono (fun r h => ⟨fun c => (h c).2.2.2, sem_eq_zero_of_no_sems (by decide) r.2⟩)
    (Cert.GdnPreBwdRefIdeal.Value.run (F := Ideal) m ρ)

theorem algebraic : Cert.algebraic_GdnPreBwdIdeal_GdnPreBwdRefIdeal (hGdnPreBwdIdeal := Cert.GdnPreBwdIdeal.Gen.facts) (hGdnPreBwdRefIdeal := Cert.GdnPreBwdRefIdeal.Gen.facts) := by
  intro m ρ m' ρ' _ hagree
  refine ⟨Cert.GdnPreBwdIdeal.Rows.totalQ m, Cert.GdnPreBwdIdeal.Rows.totalK m, Cert.GdnPreBwdIdeal.Rows.totalV m, ?_, ?_⟩
  · refine (θ_run Cert.GdnPreBwdIdeal.defs _ _).mono (fun _ h c => ⟨?_, ?_, ?_, (h c).2.2.2⟩) (Cert.GdnPreBwdIdeal.Value.run_blocks (F := Ideal) m ρ)
    · exact (h c).1.trans (Cert.GdnPreBwdIdeal.Rows.arrQ m c)
    · exact (h c).2.1.trans (Cert.GdnPreBwdIdeal.Rows.arrK m c)
    · exact (h c).2.2.1.trans (Cert.GdnPreBwdIdeal.Rows.arrV m c)
  · refine (θ_run Cert.GdnPreBwdRefIdeal.defs _ _).mono (fun _ h c => ⟨?_, ?_, ?_, (h c).2.2.2⟩) (Cert.GdnPreBwdRefIdeal.Value.run (F := Ideal) m' ρ')
    · rw [(h c).1]
      unfold Cert.GdnPreBwdRefIdeal.Value.res_main_v59
      simp only [hagree c]
      refine funext fun (i : Cert.GdnPreBwdIdeal.S8192x1024.Idx) => ?_
      idx_vars i
      pointwise [Cert.GdnPreBwdIdeal.Rows.totalQ, Cert.GdnPreBwdIdeal.Rows.head, Cert.BranchRule.lane, Cert.BranchRule.headOf, Cert.BranchRule.laneOf, Cert.BranchRule.unitGrad, Cert.BranchRule.through, Cert.BranchRule.gateIn, Cert.BranchRule.back, Cert.BranchRule.gate, Cert.BranchRule.square, Cert.BranchRule.num, Fin.sum_univ_one, Cert.GdnPreBwdIdeal.Rows.argQ, Cert.GdnPreBwdIdeal.Rows.argP]
      simp only [Nat.div_add_mod', Fin.eta]
      rfl
    · rw [(h c).2.1]
      unfold Cert.GdnPreBwdRefIdeal.Value.res_main_v58
      simp only [hagree c]
      refine funext fun (i : Cert.GdnPreBwdIdeal.S8192x1024.Idx) => ?_
      idx_vars i
      pointwise [Cert.GdnPreBwdIdeal.Rows.totalK, Cert.GdnPreBwdIdeal.Rows.head, Cert.BranchRule.lane, Cert.BranchRule.headOf, Cert.BranchRule.laneOf, Cert.BranchRule.unitGrad, Cert.BranchRule.through, Cert.BranchRule.gateIn, Cert.BranchRule.back, Cert.BranchRule.gate, Cert.BranchRule.square, Cert.BranchRule.num, Fin.sum_univ_one, Cert.GdnPreBwdIdeal.Rows.argK, Cert.GdnPreBwdIdeal.Rows.argL]
      simp only [Nat.div_add_mod', Fin.eta]
      rfl
    · rw [(h c).2.2.1]
      simp only [hagree c]
      refine funext fun (i : Cert.GdnPreBwdIdeal.S8192x1024.Idx) => ?_
      idx_vars i
      pointwise [Cert.GdnPreBwdIdeal.Rows.totalV, Cert.GdnPreBwdIdeal.Rows.argV, Cert.GdnPreBwdIdeal.Rows.argU]
      rfl

end Cert.GdnPreBwdIdeal.Claims

end
-- ==== Proof.Rows.GdnPostFwd.lean ====
/- GdnPostFwd: the norm, scale and gate of the delta rule's output in each head. -/
module

public import proofs.«01_k».proof.Defs
public import proofs.«01_k».proof.Proof.Rows.Branch
public import proofs.«01_k».proof.Proof.Gen.GdnPostFwd.Frame
public import proofs.«01_k».proof.Proof.Gen.GdnPostFwdIdeal.Value
public import proofs.«01_k».proof.Proof.Gen.GdnPostFwdRefIdeal.Run
public import Idealize.ShloMosaic.Adequacy
public import Idealize.ShloMosaic.Init
public import Idealize.ShloMosaic.Lib.Quiescent
public import Idealize.ShloMosaic.Lib.Pipeline.ReadBack

@[expose] public section

set_option maxRecDepth 16384

noncomputable section

namespace Cert.GdnPostFwdIdeal.Rows

open Cert.GdnPostFwdIdeal Cert.GdnPostFwdIdeal.Gen Idealize.ShloMosaic Idealize.ShloMosaic.TcCoe Idealize.ShloMosaic.Tactic Idealize.SL.Sem
open Cert.BranchRule

variable (m : (ℓ : Loc nD τ sig) → Buf (Elt Ideal) ℓ)

theorem ixX : ∀ t : Fin grid0.N, win0_0.index t = ![t.val / 8, t.val % 8] := by decide +kernel
theorem ixZ : ∀ t : Fin grid0.N, win0_1.index t = ![t.val / 8, t.val % 8] := by decide +kernel
theorem ixW : ∀ t : Fin grid0.N, win0_2.index t = ![0, 0] := by decide +kernel
theorem ixA : ∀ t : Fin grid0.N, win0_3.index t = ![t.val / 8, t.val % 8] := by decide +kernel

abbrev argX (c : Dev nD) : S8192x1024.Idx → EReal := m ((c : Thread nD τ).loc main_arg0)
abbrev argZ (c : Dev nD) : S8192x1024.Idx → EReal := m ((c : Thread nD τ).loc main_arg1)
abbrev argW (c : Dev nD) : S128.Idx → EReal := m ((c : Thread nD τ).loc main_arg2)

abbrev blkX (c : Dev nD) (t : Fin cfg0.N) : S512x128.Idx → EReal := iblk m c 0 t
abbrev blkZ (c : Dev nD) (t : Fin cfg0.N) : S512x128.Idx → EReal := iblk m c 1 t
abbrev blkW (c : Dev nD) (t : Fin cfg0.N) : S1x128.Idx → EReal := iblk m c 2 t

/-- One head's part of a row, and one row of a block. -/
abbrev head (X : S8192x1024.Idx → EReal) (r : Fin 8192) (g : Fin 8) : Fin 128 → EReal := fun k => X (ix2 r (lane g k))
abbrev row (X : S512x128.Idx → EReal) (r : Fin 512) : Fin 128 → EReal := fun k => X (ix2 r k)

abbrev rowAt (t : Fin cfg0.N) (r : Fin 512) : Fin 8192 := ⟨t.val / 8 * 512 + r.val, by have h : t.val < 128 := t.isLt; omega⟩
abbrev headAt (t : Fin cfg0.N) : Fin 8 := ⟨t.val % 8, by omega⟩
abbrev one (W : S1x128.Idx → EReal) : Fin 128 → EReal := fun k => W (ix2 0 k)
abbrev scale (W : S128.Idx → EReal) : Fin 128 → EReal := fun k => W (ix1 k)

theorem rowX (c : Dev nD) (t : Fin cfg0.N) (r : Fin 512) : row (blkX m c t) r = head (argX m c) (rowAt t r) (headAt t) := by
  refine funext fun k => ?_
  change blkX m c t (ix2 r k) = argX m c (ix2 (rowAt t r) (lane (headAt t) k))
  blk_ext! [iblk, V, ixX]

theorem rowZ (c : Dev nD) (t : Fin cfg0.N) (r : Fin 512) : row (blkZ m c t) r = head (argZ m c) (rowAt t r) (headAt t) := by
  refine funext fun k => ?_
  change blkZ m c t (ix2 r k) = argZ m c (ix2 (rowAt t r) (lane (headAt t) k))
  blk_ext! [iblk, V, ixZ]

theorem rowW (c : Dev nD) (t : Fin cfg0.N) : one (blkW m c t) = scale (argW m c) := by
  refine funext fun k => ?_
  change blkW m c t (ix2 0 k) = argW m c (ix1 k)
  have hb : blkW m c t (ix2 0 k) = (V m c main_v0 : S1x128.Idx → EReal) (ix2 0 k) := by
    blk_ext! [iblk, ixW]
  rw [hb]
  entry_read
  pointwise [argW]

theorem embA (t : Fin cfg0.N) (y : S512x128.Idx) :
    (win0_3.blk t).view.emb y = (ix2 (rowAt t (y 0)) (lane (headAt t) (y 1)) : S8192x1024.Idx) := by
  blk_ext! [ixA]

theorem payX (X Z : S512x128.Idx → EReal) (W : S1x128.Idx → EReal) (j : S512x128.Idx) :
    (k0_pay1 (F := Ideal) X Z W j : EReal) = gated (one W) (row X (j 0)) (row Z (j 0)) (j 1) := by
  idx_vars j
  pointwise [k0_pay1, row, one, gated, scaled, mean, num, Fin.sum_univ_one]

abbrev total (c : Dev nD) : S8192x1024.Idx → EReal := fun i =>
  gated (scale (argW m c)) (head (argX m c) (i 0) (headOf (i 1))) (head (argZ m c) (i 0) (headOf (i 1))) (laneOf (i 1))

theorem total_at (c : Dev nD) (r : Fin 8192) (g : Fin 8) (k : Fin 128) :
    total m c (ix2 r (lane g k)) = gated (scale (argW m c)) (head (argX m c) r g) (head (argZ m c) r g) k := by
  change gated (scale (argW m c)) (head (argX m c) r (headOf (lane g k))) (head (argZ m c) r (headOf (lane g k))) (laneOf (lane g k)) = _
  rw [headOf_lane, laneOf_lane]

theorem arr (c : Dev nD) : (dats m 0 c).arrAt 3 cfg0.N = total m c := by
  refine (dats m 0 c).arrAt_eq_of_covers 3 _ (by decide +kernel) fun t hf y => ?_
  blk_simp
  rw [after0_3]
  frame_out
  refine (payX _ _ _ y).trans ?_
  rw [embA]
  refine Eq.trans ?_ (total_at m c _ _ _).symm
  exact by
    have e : ∀ vw vw' vX vX' vZ vZ' : Fin 128 → EReal, vw = vw' → vX = vX' → vZ = vZ' → gated vw vX vZ (y 1) = gated vw' vX' vZ' (y 1) := by
      intros; subst_vars; rfl
    exact e _ _ _ _ _ _ (rowW m c t) (rowX m c t (y 0)) (rowZ m c t (y 0))

end Cert.GdnPostFwdIdeal.Rows

namespace Cert.GdnPostFwdIdeal.Claims

open Idealize.ShloMosaic Idealize.SL.Sem Idealize.ShloMosaic.Tactic

theorem frame_kernel : Cert.quiescent_GdnPostFwd (hGdnPostFwd := Cert.GdnPostFwd.Gen.facts) := fun m ρ _ => Cert.GdnPostFwd.Gen.frame m ρ
theorem frame_ideal : Cert.quiescent_GdnPostFwdIdeal (hGdnPostFwdIdeal := Cert.GdnPostFwdIdeal.Gen.facts) := fun m ρ _ => Cert.GdnPostFwdIdeal.Gen.frame m ρ
theorem frame_ref : Cert.quiescent_GdnPostFwdRefIdeal (hGdnPostFwdRefIdeal := Cert.GdnPostFwdRefIdeal.Gen.facts) := fun m ρ _ =>
  (θ_run Cert.GdnPostFwdRefIdeal.defs _ _).mono (fun r h => ⟨fun c => (h c).2, sem_eq_zero_of_no_sems (by decide) r.2⟩)
    (Cert.GdnPostFwdRefIdeal.Value.run (F := Ideal) m ρ)

theorem algebraic : Cert.algebraic_GdnPostFwdIdeal_GdnPostFwdRefIdeal (hGdnPostFwdIdeal := Cert.GdnPostFwdIdeal.Gen.facts) (hGdnPostFwdRefIdeal := Cert.GdnPostFwdRefIdeal.Gen.facts) := by
  intro m ρ m' ρ' _ hagree
  refine ⟨Cert.GdnPostFwdIdeal.Rows.total m, ?_, ?_⟩
  · refine (θ_run Cert.GdnPostFwdIdeal.defs _ _).mono (fun _ h c => ⟨?_, (h c).2⟩) (Cert.GdnPostFwdIdeal.Value.run_blocks (F := Ideal) m ρ)
    · exact (h c).1.trans (Cert.GdnPostFwdIdeal.Rows.arr m c)
  · refine (θ_run Cert.GdnPostFwdRefIdeal.defs _ _).mono (fun _ h c => ⟨?_, (h c).2⟩) (Cert.GdnPostFwdRefIdeal.Value.run (F := Ideal) m' ρ')
    · rw [(h c).1]
      simp only [hagree c]
      refine funext fun (i : Cert.GdnPostFwdIdeal.S8192x1024.Idx) => ?_
      idx_vars i
      pointwise [Cert.GdnPostFwdIdeal.Rows.total, Cert.GdnPostFwdIdeal.Rows.head, Cert.BranchRule.lane, Cert.BranchRule.headOf, Cert.BranchRule.laneOf, Cert.BranchRule.gated, Cert.BranchRule.postGrad, Cert.BranchRule.postBack, Cert.BranchRule.passed, Cert.BranchRule.scaled, Cert.BranchRule.mean, Cert.BranchRule.zGrad, Cert.BranchRule.wTerm, Cert.BranchRule.through, Cert.BranchRule.gate, Cert.BranchRule.num, Cert.GdnPostFwdIdeal.Rows.scale, Cert.GdnPostFwdIdeal.Rows.argW, Cert.GdnPostFwdIdeal.Rows.argX, Cert.GdnPostFwdIdeal.Rows.argZ, Fin.sum_univ_one]
      simp only [Nat.div_add_mod', Fin.eta]
      rfl

end Cert.GdnPostFwdIdeal.Claims

end
-- ==== Proof.Rows.GdnPostBwd.lean ====
/- GdnPostBwd: the gradients of the norm, scale and gate of the delta rule's output. -/
module

public import proofs.«01_k».proof.Defs
public import proofs.«01_k».proof.Proof.Rows.Branch
public import proofs.«01_k».proof.Proof.Gen.GdnPostBwd.Frame
public import proofs.«01_k».proof.Proof.Gen.GdnPostBwdIdeal.Value
public import proofs.«01_k».proof.Proof.Gen.GdnPostBwdRefIdeal.Run
public import Idealize.ShloMosaic.Adequacy
public import Idealize.ShloMosaic.Init
public import Idealize.ShloMosaic.Lib.Quiescent
public import Idealize.ShloMosaic.Lib.Pipeline.ReadBack

@[expose] public section

set_option maxRecDepth 16384

noncomputable section

namespace Cert.GdnPostBwdIdeal.Rows

open Cert.GdnPostBwdIdeal Cert.GdnPostBwdIdeal.Gen Idealize.ShloMosaic Idealize.ShloMosaic.TcCoe Idealize.ShloMosaic.Tactic Idealize.SL.Sem
open Cert.BranchRule

variable (m : (ℓ : Loc nD τ sig) → Buf (Elt Ideal) ℓ)

theorem ixX : ∀ t : Fin grid0.N, win0_0.index t = ![t.val / 8, t.val % 8] := by decide +kernel
theorem ixZ : ∀ t : Fin grid0.N, win0_1.index t = ![t.val / 8, t.val % 8] := by decide +kernel
theorem ixW : ∀ t : Fin grid0.N, win0_2.index t = ![0, 0] := by decide +kernel
theorem ixD : ∀ t : Fin grid0.N, win0_3.index t = ![t.val / 8, t.val % 8] := by decide +kernel
theorem ixA : ∀ t : Fin grid0.N, win0_4.index t = ![t.val / 8, t.val % 8] := by decide +kernel
theorem ixB : ∀ t : Fin grid0.N, win0_5.index t = ![t.val / 8, t.val % 8] := by decide +kernel
theorem ixS : ∀ t : Fin grid0.N, win0_6.index t = ![0, 0] := by decide +kernel

abbrev argX (c : Dev nD) : S8192x1024.Idx → EReal := m ((c : Thread nD τ).loc main_arg0)
abbrev argZ (c : Dev nD) : S8192x1024.Idx → EReal := m ((c : Thread nD τ).loc main_arg1)
abbrev argW (c : Dev nD) : S128.Idx → EReal := m ((c : Thread nD τ).loc main_arg2)
abbrev argD (c : Dev nD) : S8192x1024.Idx → EReal := m ((c : Thread nD τ).loc main_arg3)

abbrev blkX (c : Dev nD) (t : Fin cfg0.N) : S512x128.Idx → EReal := iblk m c 0 t
abbrev blkZ (c : Dev nD) (t : Fin cfg0.N) : S512x128.Idx → EReal := iblk m c 1 t
abbrev blkW (c : Dev nD) (t : Fin cfg0.N) : S1x128.Idx → EReal := iblk m c 2 t
abbrev blkD (c : Dev nD) (t : Fin cfg0.N) : S512x128.Idx → EReal := iblk m c 3 t

/-- One head's part of a row, and one row of a block. -/
abbrev head (X : S8192x1024.Idx → EReal) (r : Fin 8192) (g : Fin 8) : Fin 128 → EReal := fun k => X (ix2 r (lane g k))
abbrev row (X : S512x128.Idx → EReal) (r : Fin 512) : Fin 128 → EReal := fun k => X (ix2 r k)

abbrev rowAt (t : Fin cfg0.N) (r : Fin 512) : Fin 8192 := ⟨t.val / 8 * 512 + r.val, by have h : t.val < 128 := t.isLt; omega⟩
abbrev headAt (t : Fin cfg0.N) : Fin 8 := ⟨t.val % 8, by omega⟩
abbrev one (W : S1x128.Idx → EReal) : Fin 128 → EReal := fun k => W (ix2 0 k)
abbrev scale (W : S128.Idx → EReal) : Fin 128 → EReal := fun k => W (ix1 k)

theorem rowX (c : Dev nD) (t : Fin cfg0.N) (r : Fin 512) : row (blkX m c t) r = head (argX m c) (rowAt t r) (headAt t) := by
  refine funext fun k => ?_
  change blkX m c t (ix2 r k) = argX m c (ix2 (rowAt t r) (lane (headAt t) k))
  blk_ext! [iblk, V, ixX]

theorem rowZ (c : Dev nD) (t : Fin cfg0.N) (r : Fin 512) : row (blkZ m c t) r = head (argZ m c) (rowAt t r) (headAt t) := by
  refine funext fun k => ?_
  change blkZ m c t (ix2 r k) = argZ m c (ix2 (rowAt t r) (lane (headAt t) k))
  blk_ext! [iblk, V, ixZ]

theorem rowD (c : Dev nD) (t : Fin cfg0.N) (r : Fin 512) : row (blkD m c t) r = head (argD m c) (rowAt t r) (headAt t) := by
  refine funext fun k => ?_
  change blkD m c t (ix2 r k) = argD m c (ix2 (rowAt t r) (lane (headAt t) k))
  blk_ext! [iblk, V, ixD]

theorem rowW (c : Dev nD) (t : Fin cfg0.N) : one (blkW m c t) = scale (argW m c) := by
  refine funext fun k => ?_
  change blkW m c t (ix2 0 k) = argW m c (ix1 k)
  have hb : blkW m c t (ix2 0 k) = (V m c main_v0 : S1x128.Idx → EReal) (ix2 0 k) := by
    blk_ext! [iblk, ixW]
  rw [hb]
  entry_read
  pointwise [argW]

theorem embA (t : Fin cfg0.N) (y : S512x128.Idx) :
    (win0_4.blk t).view.emb y = (ix2 (rowAt t (y 0)) (lane (headAt t) (y 1)) : S8192x1024.Idx) := by
  blk_ext! [ixA]

theorem embB (t : Fin cfg0.N) (y : S512x128.Idx) :
    (win0_5.blk t).view.emb y = (ix2 (rowAt t (y 0)) (lane (headAt t) (y 1)) : S8192x1024.Idx) := by
  blk_ext! [ixB]

theorem payX (X Z D : S512x128.Idx → EReal) (W : S1x128.Idx → EReal) (j : S512x128.Idx) :
    (k0_pay1 (F := Ideal) X (k0_pay6 X) (k0_pay7 X) (k0_pay10 Z D) (k0_pay13 W) j : EReal) = postGrad (one W) (row X (j 0)) (row Z (j 0)) (row D (j 0)) (j 1) := by
  idx_vars j
  pointwise [k0_pay1, k0_pay13, k0_pay12, k0_pay11, k0_pay10, k0_pay9, k0_pay8, k0_pay7, k0_pay6, k0_pay5, k0_pay3, row, one, postGrad, zGrad, wTerm, passed, postBack, scaled, mean, through, num, Fin.sum_univ_one]

theorem payZ (X Z D : S512x128.Idx → EReal) (W : S1x128.Idx → EReal) (j : S512x128.Idx) :
    (k0_pay11 (F := Ideal) X Z W D j : EReal) = zGrad (one W) (row X (j 0)) (row Z (j 0)) (row D (j 0)) (j 1) := by
  idx_vars j
  pointwise [k0_pay13, k0_pay12, k0_pay11, k0_pay10, k0_pay9, k0_pay8, k0_pay7, k0_pay6, k0_pay5, k0_pay3, row, one, postGrad, zGrad, wTerm, passed, postBack, scaled, mean, through, num, Fin.sum_univ_one]

theorem outX (c : Dev nD) (t : Fin cfg0.N) (j : S512x128.Idx) :
    ((outsAt0 m c t.val t.isLt).1 j : EReal)
      = postGrad (one (blkW m c t)) (row (blkX m c t) (j 0)) (row (blkZ m c t) (j 0)) (row (blkD m c t) (j 0)) (j 1) := by
  by_cases h : t.val % 128 = 0
  · rw [outsAt0_A m c t h]
    frame_out
    exact payX _ _ _ _ j
  · rw [outsAt0_B m c t h]
    frame_out
    exact payX _ _ _ _ j

theorem outZ (c : Dev nD) (t : Fin cfg0.N) (j : S512x128.Idx) :
    ((outsAt0 m c t.val t.isLt).2.1 j : EReal)
      = zGrad (one (blkW m c t)) (row (blkX m c t) (j 0)) (row (blkZ m c t) (j 0)) (row (blkD m c t) (j 0)) (j 1) := by
  by_cases h : t.val % 128 = 0
  · rw [outsAt0_A m c t h]
    frame_out
    exact payZ _ _ _ _ j
  · rw [outsAt0_B m c t h]
    frame_out
    exact payZ _ _ _ _ j

abbrev totalX (c : Dev nD) : S8192x1024.Idx → EReal := fun i =>
  postGrad (scale (argW m c)) (head (argX m c) (i 0) (headOf (i 1))) (head (argZ m c) (i 0) (headOf (i 1))) (head (argD m c) (i 0) (headOf (i 1))) (laneOf (i 1))

theorem totalX_at (c : Dev nD) (r : Fin 8192) (g : Fin 8) (k : Fin 128) :
    totalX m c (ix2 r (lane g k)) = postGrad (scale (argW m c)) (head (argX m c) r g) (head (argZ m c) r g) (head (argD m c) r g) k := by
  change postGrad (scale (argW m c)) (head (argX m c) r (headOf (lane g k))) (head (argZ m c) r (headOf (lane g k))) (head (argD m c) r (headOf (lane g k))) (laneOf (lane g k)) = _
  rw [headOf_lane, laneOf_lane]

abbrev totalZ (c : Dev nD) : S8192x1024.Idx → EReal := fun i =>
  zGrad (scale (argW m c)) (head (argX m c) (i 0) (headOf (i 1))) (head (argZ m c) (i 0) (headOf (i 1))) (head (argD m c) (i 0) (headOf (i 1))) (laneOf (i 1))

theorem totalZ_at (c : Dev nD) (r : Fin 8192) (g : Fin 8) (k : Fin 128) :
    totalZ m c (ix2 r (lane g k)) = zGrad (scale (argW m c)) (head (argX m c) r g) (head (argZ m c) r g) (head (argD m c) r g) k := by
  change zGrad (scale (argW m c)) (head (argX m c) r (headOf (lane g k))) (head (argZ m c) r (headOf (lane g k))) (head (argD m c) r (headOf (lane g k))) (laneOf (lane g k)) = _
  rw [headOf_lane, laneOf_lane]

theorem arrX (c : Dev nD) : (dats m 0 c).arrAt 4 cfg0.N = totalX m c := by
  refine (dats m 0 c).arrAt_eq_of_covers 4 _ (by decide +kernel) fun t hf y => ?_
  blk_simp
  rw [after0_4]
  refine (outX m c t y).trans ?_
  rw [embA]
  refine Eq.trans ?_ (totalX_at m c _ _ _).symm
  exact by
    have e : ∀ vw vw' vX vX' vZ vZ' vD vD' : Fin 128 → EReal, vw = vw' → vX = vX' → vZ = vZ' → vD = vD' → postGrad vw vX vZ vD (y 1) = postGrad vw' vX' vZ' vD' (y 1) := by
      intros; subst_vars; rfl
    exact e _ _ _ _ _ _ _ _ (rowW m c t) (rowX m c t (y 0)) (rowZ m c t (y 0)) (rowD m c t (y 0))

theorem arrZ (c : Dev nD) : (dats m 0 c).arrAt 5 cfg0.N = totalZ m c := by
  refine (dats m 0 c).arrAt_eq_of_covers 5 _ (by decide +kernel) fun t hf y => ?_
  blk_simp
  rw [after0_5]
  refine (outZ m c t y).trans ?_
  rw [embB]
  refine Eq.trans ?_ (totalZ_at m c _ _ _).symm
  exact by
    have e : ∀ vw vw' vX vX' vZ vZ' vD vD' : Fin 128 → EReal, vw = vw' → vX = vX' → vZ = vZ' → vD = vD' → zGrad vw vX vZ vD (y 1) = zGrad vw' vX' vZ' vD' (y 1) := by
      intros; subst_vars; rfl
    exact e _ _ _ _ _ _ _ _ (rowW m c t) (rowX m c t (y 0)) (rowZ m c t (y 0)) (rowD m c t (y 0))

theorem pay_scale (X Z D : S512x128.Idx → EReal) (S : S1x128.Idx → EReal) (j : S1x128.Idx) :
    (k0_pay2 (F := Ideal) (k0_pay12 X Z D) S j : EReal) = S j + ∑ r : Fin 512, wTerm (row X r) (row Z r) (row D r) (j 1) := by
  idx_vars j
  pointwise [k0_pay2, k0_pay13, k0_pay12, k0_pay11, k0_pay10, k0_pay9, k0_pay8, k0_pay7, k0_pay6, k0_pay5, k0_pay3, row, one, postGrad, zGrad, wTerm, passed, postBack, scaled, mean, through, num, Fin.sum_univ_one]

/-- A point's part of the gradient in the scale. -/
abbrev term (c : Dev nD) (t : Fin cfg0.N) (j : S1x128.Idx) : EReal :=
  ∑ r : Fin 512, wTerm (row (blkX m c t) r) (row (blkZ m c t) r) (row (blkD m c t) r) (j 1)

theorem scale_first (c : Dev nD) (t : Fin cfg0.N) (h : t.val % 128 = 0) (j : S1x128.Idx) :
    (outsAt0 m c t.val t.isLt).2.2 j = (0 : EReal) + term m c t j := by
  rw [outsAt0_A m c t h]
  frame_out
  refine (pay_scale _ _ _ _ j).trans ?_
  pointwise [k0_pay4]

theorem scale_next (c : Dev nD) (t : Fin cfg0.N) (h : ¬t.val % 128 = 0) (j : S1x128.Idx) :
    (outsAt0 m c t.val t.isLt).2.2 j
      = ((outsAt0 m c (t.val - 1) (Nat.lt_of_le_of_lt (Nat.sub_le _ _) t.isLt)).2.2 j : EReal) + term m c t j := by
  rw [outsAt0_B m c t h]
  frame_out [read_unread_whole]
  exact pay_scale _ _ _ _ j

theorem scaleSum (c : Dev nD) (t : Fin cfg0.N) (h : t.val % 128 = 127) (j : S1x128.Idx) :
    ((outsAt0 m c t.val t.isLt).2.2 j : EReal)
      = ∑ s : Fin 128, term m c ⟨128 * (t.val / 128) + s.val, Pipeline.run_point_lt_of_flush t h s⟩ j := by
  rw [Pipeline.eq_sum_fin_of_reset_step_apply_of_flush (fun n h => (outsAt0 m c n h).2.2) 128 (fun _ => (0 : EReal)) (term m c)
    (scale_first m c) (scale_next m c) t h j, zero_add]

abbrev part (c : Dev nD) (r : Fin 8192) (g : Fin 8) (k : Fin 128) : EReal :=
  wTerm (head (argX m c) r g) (head (argZ m c) r g) (head (argD m c) r g) k

abbrev totalScale (c : Dev nD) : S1x128.Idx → EReal := fun i => ∑ r : Fin 8192, ∑ g : Fin 8, part m c r g (i 1)

theorem term_eq (c : Dev nD) (t : Fin cfg0.N) (j : S1x128.Idx) :
    term m c t j = ∑ r : Fin 512, part m c (rowAt t r) (headAt t) (j 1) :=
  Finset.sum_congr rfl fun r _ => by rw [rowX, rowZ, rowD]

/-- The points' parts, eight heads of each 512 rows, are the rows'. -/
theorem scaleRows (c : Dev nD) (j : S1x128.Idx) (u : Fin 128 → Fin cfg0.N) (hu : ∀ s, (u s).val = s.val) :
    ∑ s : Fin 128, term m c (u s) j = ∑ r : Fin 8192, ∑ g : Fin 8, part m c r g (j 1) := by
  have hs : ∀ s : Fin 16, ∑ g : Fin 8, term m c (u ⟨s.val * 8 + g.val, by omega⟩) j
      = ∑ r : Fin 512, ∑ g : Fin 8, part m c ⟨s.val * 512 + r.val, by omega⟩ g (j 1) := fun s => by
    refine (Finset.sum_congr rfl fun (g : Fin 8) _ => (term_eq m c _ j).trans (Finset.sum_congr rfl fun (r : Fin 512) _ => ?_)).trans Finset.sum_comm
    have e₁ : rowAt (u ⟨s.val * 8 + g.val, by omega⟩) r = ⟨s.val * 512 + r.val, by omega⟩ :=
      Fin.ext (by dsimp only; rw [hu]; dsimp only; omega)
    have e₂ : headAt (u ⟨s.val * 8 + g.val, by omega⟩) = g := Fin.ext (by dsimp only; rw [hu]; dsimp only; omega)
    exact congrArg₂ (fun R G => part m c R G (j 1)) e₁ e₂
  calc ∑ s : Fin 128, term m c (u s) j
      = ∑ s : Fin 16, ∑ g : Fin 8, term m c (u ⟨s.val * 8 + g.val, by omega⟩) j :=
        (Fin.sum_mul_add_congr (n := 8) (f := fun s : Fin 128 => term m c (u s) j) fun s g hl => rfl).symm
    _ = ∑ s : Fin 16, ∑ r : Fin 512, ∑ g : Fin 8, part m c ⟨s.val * 512 + r.val, by omega⟩ g (j 1) :=
        Finset.sum_congr rfl fun s _ => hs s
    _ = _ := Fin.sum_mul_add_congr (n := 512) fun s r hl => rfl

theorem arrScale (c : Dev nD) : (dats m 0 c).arrAt 6 cfg0.N = totalScale m c := by
  refine (dats m 0 c).arrAt_eq_of_covers 6 _ (by decide +kernel) fun t hf y => ?_
  have ht := (flush0_6 t).mp hf
  have hN : t.val < 128 := t.isLt
  blk_simp
  rw [after0_6]
  refine (scaleSum m c t ht _).trans ?_
  have e : (win0_6.blk t).view.emb y = (ix2 0 (y 1) : S1x128.Idx) := by
    blk_ext! [ixS]
  rw [e]
  exact scaleRows m c _ _ fun s => by dsimp only; omega

end Cert.GdnPostBwdIdeal.Rows

namespace Cert.GdnPostBwdIdeal.Claims

open Idealize.ShloMosaic Idealize.SL.Sem Idealize.ShloMosaic.Tactic

theorem frame_kernel : Cert.quiescent_GdnPostBwd (hGdnPostBwd := Cert.GdnPostBwd.Gen.facts) := fun m ρ _ => Cert.GdnPostBwd.Gen.frame m ρ
theorem frame_ideal : Cert.quiescent_GdnPostBwdIdeal (hGdnPostBwdIdeal := Cert.GdnPostBwdIdeal.Gen.facts) := fun m ρ _ => Cert.GdnPostBwdIdeal.Gen.frame m ρ
theorem frame_ref : Cert.quiescent_GdnPostBwdRefIdeal (hGdnPostBwdRefIdeal := Cert.GdnPostBwdRefIdeal.Gen.facts) := fun m ρ _ =>
  (θ_run Cert.GdnPostBwdRefIdeal.defs _ _).mono (fun r h => ⟨fun c => (h c).2.2.2, sem_eq_zero_of_no_sems (by decide) r.2⟩)
    (Cert.GdnPostBwdRefIdeal.Value.run (F := Ideal) m ρ)

theorem algebraic : Cert.algebraic_GdnPostBwdIdeal_GdnPostBwdRefIdeal (hGdnPostBwdIdeal := Cert.GdnPostBwdIdeal.Gen.facts) (hGdnPostBwdRefIdeal := Cert.GdnPostBwdRefIdeal.Gen.facts) := by
  intro m ρ m' ρ' _ hagree
  refine ⟨Cert.GdnPostBwdIdeal.Rows.totalX m, Cert.GdnPostBwdIdeal.Rows.totalZ m, Cert.GdnPostBwdIdeal.Rows.totalScale m, ?_, ?_⟩
  · refine (θ_run Cert.GdnPostBwdIdeal.defs _ _).mono (fun _ h c => ⟨?_, ?_, ?_, (h c).2.2.2⟩) (Cert.GdnPostBwdIdeal.Value.run_blocks (F := Ideal) m ρ)
    · exact (h c).1.trans (Cert.GdnPostBwdIdeal.Rows.arrX m c)
    · exact (h c).2.1.trans (Cert.GdnPostBwdIdeal.Rows.arrZ m c)
    · exact (h c).2.2.1.trans (Cert.GdnPostBwdIdeal.Rows.arrScale m c)
  · refine (θ_run Cert.GdnPostBwdRefIdeal.defs _ _).mono (fun _ h c => ⟨?_, ?_, ?_, (h c).2.2.2⟩) (Cert.GdnPostBwdRefIdeal.Value.run (F := Ideal) m' ρ')
    · rw [(h c).1]
      unfold Cert.GdnPostBwdRefIdeal.Value.res_main_v46
      simp only [hagree c]
      refine funext fun (i : Cert.GdnPostBwdIdeal.S8192x1024.Idx) => ?_
      idx_vars i
      pointwise [Cert.GdnPostBwdIdeal.Rows.totalX, Cert.GdnPostBwdIdeal.Rows.head, Cert.BranchRule.lane, Cert.BranchRule.headOf, Cert.BranchRule.laneOf, Cert.BranchRule.gated, Cert.BranchRule.postGrad, Cert.BranchRule.postBack, Cert.BranchRule.passed, Cert.BranchRule.scaled, Cert.BranchRule.mean, Cert.BranchRule.zGrad, Cert.BranchRule.wTerm, Cert.BranchRule.through, Cert.BranchRule.gate, Cert.BranchRule.num, Cert.GdnPostBwdIdeal.Rows.scale, Cert.GdnPostBwdIdeal.Rows.argW, Cert.GdnPostBwdIdeal.Rows.argX, Cert.GdnPostBwdIdeal.Rows.argZ, Fin.sum_univ_one, Cert.GdnPostBwdIdeal.Rows.argD]
      simp only [Nat.div_add_mod', Fin.eta]
      rfl
    · rw [(h c).2.1]
      simp only [hagree c]
      refine funext fun (i : Cert.GdnPostBwdIdeal.S8192x1024.Idx) => ?_
      idx_vars i
      pointwise [Cert.GdnPostBwdIdeal.Rows.totalZ, Cert.GdnPostBwdIdeal.Rows.head, Cert.BranchRule.lane, Cert.BranchRule.headOf, Cert.BranchRule.laneOf, Cert.BranchRule.gated, Cert.BranchRule.postGrad, Cert.BranchRule.postBack, Cert.BranchRule.passed, Cert.BranchRule.scaled, Cert.BranchRule.mean, Cert.BranchRule.zGrad, Cert.BranchRule.wTerm, Cert.BranchRule.through, Cert.BranchRule.gate, Cert.BranchRule.num, Cert.GdnPostBwdIdeal.Rows.scale, Cert.GdnPostBwdIdeal.Rows.argW, Cert.GdnPostBwdIdeal.Rows.argX, Cert.GdnPostBwdIdeal.Rows.argZ, Fin.sum_univ_one, Cert.GdnPostBwdIdeal.Rows.argD]
      simp only [Nat.div_add_mod', Fin.eta]
      rfl
    · rw [(h c).2.2.1]
      simp only [hagree c]
      refine funext fun (i : Cert.GdnPostBwdIdeal.S1x128.Idx) => ?_
      idx_vars i
      pointwise [Cert.BranchRule.sum_heads, Cert.GdnPostBwdIdeal.Rows.totalScale, Cert.GdnPostBwdIdeal.Rows.part, Cert.GdnPostBwdIdeal.Rows.head, Cert.BranchRule.lane, Cert.BranchRule.gated, Cert.BranchRule.postGrad, Cert.BranchRule.postBack, Cert.BranchRule.passed, Cert.BranchRule.scaled, Cert.BranchRule.mean, Cert.BranchRule.zGrad, Cert.BranchRule.wTerm, Cert.BranchRule.through, Cert.BranchRule.gate, Cert.BranchRule.num, Cert.GdnPostBwdIdeal.Rows.scale, Cert.GdnPostBwdIdeal.Rows.argW, Cert.GdnPostBwdIdeal.Rows.argX, Cert.GdnPostBwdIdeal.Rows.argZ, Fin.sum_univ_one, Cert.GdnPostBwdIdeal.Rows.argD]
      rfl

end Cert.GdnPostBwdIdeal.Claims

end
-- ==== Proof.lean ====
/- The claim: the frames, the named constant, the attention call's two gradients against the reference's, the calls of each
   wide matrix product against the product and its gradients, the optimiser's step, the sum over the devices,
   the final norm with the loss, and the row operations inside a layer: the norms, the activation, the merge, the recurrence's
   output gate, the delta rule's inputs and output. -/
module

public import proofs.«01_k».proof.Defs
public import proofs.«01_k».proof.Proof.AttKV.Frames
public import proofs.«01_k».proof.Proof.AttKV.Value
public import proofs.«01_k».proof.Proof.Products.InFwd
public import proofs.«01_k».proof.Proof.Products.InDa
public import proofs.«01_k».proof.Proof.Products.InDw
public import proofs.«01_k».proof.Proof.Products.GateFwd
public import proofs.«01_k».proof.Proof.Products.GateDa
public import proofs.«01_k».proof.Proof.Products.GateDw
public import proofs.«01_k».proof.Proof.Products.DownFwd
public import proofs.«01_k».proof.Proof.Products.DownDa
public import proofs.«01_k».proof.Proof.Products.DownDw
public import proofs.«01_k».proof.Proof.Products.OutFwd
public import proofs.«01_k».proof.Proof.Products.OutDa
public import proofs.«01_k».proof.Proof.Products.OutDw
public import proofs.«01_k».proof.Proof.Products.BranchFwd
public import proofs.«01_k».proof.Proof.Products.BranchDa
public import proofs.«01_k».proof.Proof.Products.BranchDw
public import proofs.«01_k».proof.Proof.Products.UqFwd
public import proofs.«01_k».proof.Proof.Products.UqDa
public import proofs.«01_k».proof.Proof.Products.UqDw
public import proofs.«01_k».proof.Proof.Products.UkvFwd
public import proofs.«01_k».proof.Proof.Products.UkvDa
public import proofs.«01_k».proof.Proof.Products.UkvDw
public import proofs.«01_k».proof.Proof.Adam.AdamIn
public import proofs.«01_k».proof.Proof.Adam.AdamUq
public import proofs.«01_k».proof.Proof.Adam.AdamUkv
public import proofs.«01_k».proof.Proof.Adam.AdamLru
public import proofs.«01_k».proof.Proof.Adam.AdamGdn
public import proofs.«01_k».proof.Proof.Adam.AdamBranch
public import proofs.«01_k».proof.Proof.Adam.AdamBias
public import proofs.«01_k».proof.Proof.Adam.AdamOut
public import proofs.«01_k».proof.Proof.Adam.AdamGate
public import proofs.«01_k».proof.Proof.Adam.AdamDown
public import proofs.«01_k».proof.Proof.Adam.AdamRep
public import proofs.«01_k».proof.Proof.Adam.RepSum
public import proofs.«01_k».proof.Proof.Head.Loss
public import proofs.«01_k».proof.Proof.Rows.NormFwd
public import proofs.«01_k».proof.Proof.Rows.NormBwd
public import proofs.«01_k».proof.Proof.Rows.LoraFwd
public import proofs.«01_k».proof.Proof.Rows.LoraBwd
public import proofs.«01_k».proof.Proof.Rows.SwigluFwd
public import proofs.«01_k».proof.Proof.Rows.SwigluBwd
public import proofs.«01_k».proof.Proof.Rows.MergeFwd
public import proofs.«01_k».proof.Proof.Rows.MergeBwd
public import proofs.«01_k».proof.Proof.Rows.LruOutFwd
public import proofs.«01_k».proof.Proof.Rows.LruOutBwd
public import proofs.«01_k».proof.Proof.Rows.GdnPreFwd
public import proofs.«01_k».proof.Proof.Rows.GdnPreBwd
public import proofs.«01_k».proof.Proof.Rows.GdnPostFwd
public import proofs.«01_k».proof.Proof.Rows.GdnPostBwd
public import Idealize.ShloMosaic.Adequacy
public import Idealize.ShloMosaic.Init

@[expose] public section

noncomputable section

namespace Cert.Proof

open Idealize.ShloMosaic Idealize.SL.Sem Cert.Kernel

theorem claim : Cert.Claim := ⟨
  Cert.Kernel.Gen.facts, Cert.KernelIdeal.Gen.facts, Cert.ReferenceIdeal.Gen.facts, Cert.InFwd.Gen.facts,
  Cert.InFwdIdeal.Gen.facts, Cert.InFwdRefIdeal.Gen.facts, Cert.InDa.Gen.facts, Cert.InDaIdeal.Gen.facts,
  Cert.InDaRefIdeal.Gen.facts, Cert.InDw.Gen.facts, Cert.InDwIdeal.Gen.facts, Cert.InDwRefIdeal.Gen.facts,
  Cert.GateFwd.Gen.facts, Cert.GateFwdIdeal.Gen.facts, Cert.GateFwdRefIdeal.Gen.facts, Cert.GateDa.Gen.facts,
  Cert.GateDaIdeal.Gen.facts, Cert.GateDaRefIdeal.Gen.facts, Cert.GateDw.Gen.facts, Cert.GateDwIdeal.Gen.facts,
  Cert.GateDwRefIdeal.Gen.facts, Cert.DownFwd.Gen.facts, Cert.DownFwdIdeal.Gen.facts, Cert.DownFwdRefIdeal.Gen.facts,
  Cert.DownDa.Gen.facts, Cert.DownDaIdeal.Gen.facts, Cert.DownDaRefIdeal.Gen.facts, Cert.DownDw.Gen.facts,
  Cert.DownDwIdeal.Gen.facts, Cert.DownDwRefIdeal.Gen.facts, Cert.OutFwd.Gen.facts, Cert.OutFwdIdeal.Gen.facts,
  Cert.OutFwdRefIdeal.Gen.facts, Cert.OutDa.Gen.facts, Cert.OutDaIdeal.Gen.facts, Cert.OutDaRefIdeal.Gen.facts,
  Cert.OutDw.Gen.facts, Cert.OutDwIdeal.Gen.facts, Cert.OutDwRefIdeal.Gen.facts, Cert.BranchFwd.Gen.facts,
  Cert.BranchFwdIdeal.Gen.facts, Cert.BranchFwdRefIdeal.Gen.facts, Cert.BranchDa.Gen.facts, Cert.BranchDaIdeal.Gen.facts,
  Cert.BranchDaRefIdeal.Gen.facts, Cert.BranchDw.Gen.facts, Cert.BranchDwIdeal.Gen.facts, Cert.BranchDwRefIdeal.Gen.facts,
  Cert.UqFwd.Gen.facts, Cert.UqFwdIdeal.Gen.facts, Cert.UqFwdRefIdeal.Gen.facts, Cert.UqDa.Gen.facts,
  Cert.UqDaIdeal.Gen.facts, Cert.UqDaRefIdeal.Gen.facts, Cert.UqDw.Gen.facts, Cert.UqDwIdeal.Gen.facts,
  Cert.UqDwRefIdeal.Gen.facts, Cert.UkvFwd.Gen.facts, Cert.UkvFwdIdeal.Gen.facts, Cert.UkvFwdRefIdeal.Gen.facts,
  Cert.UkvDa.Gen.facts, Cert.UkvDaIdeal.Gen.facts, Cert.UkvDaRefIdeal.Gen.facts, Cert.UkvDw.Gen.facts,
  Cert.UkvDwIdeal.Gen.facts, Cert.UkvDwRefIdeal.Gen.facts, Cert.AdamIn.Gen.facts, Cert.AdamInIdeal.Gen.facts,
  Cert.AdamInRefIdeal.Gen.facts, Cert.AdamUq.Gen.facts, Cert.AdamUqIdeal.Gen.facts, Cert.AdamUqRefIdeal.Gen.facts,
  Cert.AdamUkv.Gen.facts, Cert.AdamUkvIdeal.Gen.facts, Cert.AdamUkvRefIdeal.Gen.facts, Cert.AdamLru.Gen.facts,
  Cert.AdamLruIdeal.Gen.facts, Cert.AdamLruRefIdeal.Gen.facts, Cert.AdamGdn.Gen.facts, Cert.AdamGdnIdeal.Gen.facts,
  Cert.AdamGdnRefIdeal.Gen.facts, Cert.AdamBranch.Gen.facts, Cert.AdamBranchIdeal.Gen.facts,
  Cert.AdamBranchRefIdeal.Gen.facts, Cert.AdamBias.Gen.facts, Cert.AdamBiasIdeal.Gen.facts, Cert.AdamBiasRefIdeal.Gen.facts,
  Cert.AdamOut.Gen.facts, Cert.AdamOutIdeal.Gen.facts, Cert.AdamOutRefIdeal.Gen.facts, Cert.AdamGate.Gen.facts,
  Cert.AdamGateIdeal.Gen.facts, Cert.AdamGateRefIdeal.Gen.facts, Cert.AdamDown.Gen.facts, Cert.AdamDownIdeal.Gen.facts,
  Cert.AdamDownRefIdeal.Gen.facts, Cert.AdamRep.Gen.facts, Cert.AdamRepIdeal.Gen.facts, Cert.AdamRepRefIdeal.Gen.facts,
  Cert.RepSum.Gen.facts, Cert.RepSumIdeal.Gen.facts, Cert.RepSumRefIdeal.Gen.facts, Cert.Loss.Gen.facts,
  Cert.LossIdeal.Gen.facts, Cert.LossRefIdeal.Gen.facts, Cert.NormFwd.Gen.facts, Cert.NormFwdIdeal.Gen.facts,
  Cert.NormFwdRefIdeal.Gen.facts, Cert.NormBwd.Gen.facts, Cert.NormBwdIdeal.Gen.facts, Cert.NormBwdRefIdeal.Gen.facts,
  Cert.LoraFwd.Gen.facts, Cert.LoraFwdIdeal.Gen.facts, Cert.LoraFwdRefIdeal.Gen.facts, Cert.LoraBwd.Gen.facts,
  Cert.LoraBwdIdeal.Gen.facts, Cert.LoraBwdRefIdeal.Gen.facts, Cert.SwigluFwd.Gen.facts, Cert.SwigluFwdIdeal.Gen.facts,
  Cert.SwigluFwdRefIdeal.Gen.facts, Cert.SwigluBwd.Gen.facts, Cert.SwigluBwdIdeal.Gen.facts,
  Cert.SwigluBwdRefIdeal.Gen.facts, Cert.MergeFwd.Gen.facts, Cert.MergeFwdIdeal.Gen.facts, Cert.MergeFwdRefIdeal.Gen.facts,
  Cert.MergeBwd.Gen.facts, Cert.MergeBwdIdeal.Gen.facts, Cert.MergeBwdRefIdeal.Gen.facts, Cert.LruOutFwd.Gen.facts,
  Cert.LruOutFwdIdeal.Gen.facts, Cert.LruOutFwdRefIdeal.Gen.facts, Cert.LruOutBwd.Gen.facts, Cert.LruOutBwdIdeal.Gen.facts,
  Cert.LruOutBwdRefIdeal.Gen.facts, Cert.GdnPreFwd.Gen.facts, Cert.GdnPreFwdIdeal.Gen.facts,
  Cert.GdnPreFwdRefIdeal.Gen.facts, Cert.GdnPreBwd.Gen.facts, Cert.GdnPreBwdIdeal.Gen.facts,
  Cert.GdnPreBwdRefIdeal.Gen.facts, Cert.GdnPostFwd.Gen.facts, Cert.GdnPostFwdIdeal.Gen.facts,
  Cert.GdnPostFwdRefIdeal.Gen.facts, Cert.GdnPostBwd.Gen.facts, Cert.GdnPostBwdIdeal.Gen.facts,
  Cert.GdnPostBwdRefIdeal.Gen.facts, Cert.Pre_finite.Gen.facts,
  AttKV.frame_Kernel, AttKV.frame_KernelIdeal, AttKV.frame_KernelIdeal_pre, AttKV.frame_ReferenceIdeal,
  AttKV.frame_ReferenceIdeal_pre, InFwdIdeal.Claims.frame_kernel, InFwdIdeal.Claims.frame_ideal,
  InFwdIdeal.Claims.frame_ref, InDaIdeal.Claims.frame_kernel, InDaIdeal.Claims.frame_ideal, InDaIdeal.Claims.frame_ref,
  InDwIdeal.Claims.frame_kernel, InDwIdeal.Claims.frame_ideal, InDwIdeal.Claims.frame_ref, GateFwdIdeal.Claims.frame_kernel,
  GateFwdIdeal.Claims.frame_ideal, GateFwdIdeal.Claims.frame_ref, GateDaIdeal.Claims.frame_kernel,
  GateDaIdeal.Claims.frame_ideal, GateDaIdeal.Claims.frame_ref, GateDwIdeal.Claims.frame_kernel,
  GateDwIdeal.Claims.frame_ideal, GateDwIdeal.Claims.frame_ref, DownFwdIdeal.Claims.frame_kernel,
  DownFwdIdeal.Claims.frame_ideal, DownFwdIdeal.Claims.frame_ref, DownDaIdeal.Claims.frame_kernel,
  DownDaIdeal.Claims.frame_ideal, DownDaIdeal.Claims.frame_ref, DownDwIdeal.Claims.frame_kernel,
  DownDwIdeal.Claims.frame_ideal, DownDwIdeal.Claims.frame_ref, OutFwdIdeal.Claims.frame_kernel,
  OutFwdIdeal.Claims.frame_ideal, OutFwdIdeal.Claims.frame_ref, OutDaIdeal.Claims.frame_kernel,
  OutDaIdeal.Claims.frame_ideal, OutDaIdeal.Claims.frame_ref, OutDwIdeal.Claims.frame_kernel, OutDwIdeal.Claims.frame_ideal,
  OutDwIdeal.Claims.frame_ref, BranchFwdIdeal.Claims.frame_kernel, BranchFwdIdeal.Claims.frame_ideal,
  BranchFwdIdeal.Claims.frame_ref, BranchDaIdeal.Claims.frame_kernel, BranchDaIdeal.Claims.frame_ideal,
  BranchDaIdeal.Claims.frame_ref, BranchDwIdeal.Claims.frame_kernel, BranchDwIdeal.Claims.frame_ideal,
  BranchDwIdeal.Claims.frame_ref, UqFwdIdeal.Claims.frame_kernel, UqFwdIdeal.Claims.frame_ideal,
  UqFwdIdeal.Claims.frame_ref, UqDaIdeal.Claims.frame_kernel, UqDaIdeal.Claims.frame_ideal, UqDaIdeal.Claims.frame_ref,
  UqDwIdeal.Claims.frame_kernel, UqDwIdeal.Claims.frame_ideal, UqDwIdeal.Claims.frame_ref, UkvFwdIdeal.Claims.frame_kernel,
  UkvFwdIdeal.Claims.frame_ideal, UkvFwdIdeal.Claims.frame_ref, UkvDaIdeal.Claims.frame_kernel,
  UkvDaIdeal.Claims.frame_ideal, UkvDaIdeal.Claims.frame_ref, UkvDwIdeal.Claims.frame_kernel, UkvDwIdeal.Claims.frame_ideal,
  UkvDwIdeal.Claims.frame_ref, AdamInIdeal.Claims.frame_kernel, AdamInIdeal.Claims.frame_ideal,
  AdamInIdeal.Claims.frame_ref, AdamUqIdeal.Claims.frame_kernel, AdamUqIdeal.Claims.frame_ideal,
  AdamUqIdeal.Claims.frame_ref, AdamUkvIdeal.Claims.frame_kernel, AdamUkvIdeal.Claims.frame_ideal,
  AdamUkvIdeal.Claims.frame_ref, AdamLruIdeal.Claims.frame_kernel, AdamLruIdeal.Claims.frame_ideal,
  AdamLruIdeal.Claims.frame_ref, AdamGdnIdeal.Claims.frame_kernel, AdamGdnIdeal.Claims.frame_ideal,
  AdamGdnIdeal.Claims.frame_ref, AdamBranchIdeal.Claims.frame_kernel, AdamBranchIdeal.Claims.frame_ideal,
  AdamBranchIdeal.Claims.frame_ref, AdamBiasIdeal.Claims.frame_kernel, AdamBiasIdeal.Claims.frame_ideal,
  AdamBiasIdeal.Claims.frame_ref, AdamOutIdeal.Claims.frame_kernel, AdamOutIdeal.Claims.frame_ideal,
  AdamOutIdeal.Claims.frame_ref, AdamGateIdeal.Claims.frame_kernel, AdamGateIdeal.Claims.frame_ideal,
  AdamGateIdeal.Claims.frame_ref, AdamDownIdeal.Claims.frame_kernel, AdamDownIdeal.Claims.frame_ideal,
  AdamDownIdeal.Claims.frame_ref, AdamRepIdeal.Claims.frame_kernel, AdamRepIdeal.Claims.frame_ideal,
  AdamRepIdeal.Claims.frame_ref, RepSumIdeal.Claims.frame_kernel, RepSumIdeal.Claims.frame_ideal,
  RepSumIdeal.Claims.frame_ref, LossIdeal.Claims.frame_kernel, LossIdeal.Claims.frame_ideal, LossIdeal.Claims.frame_ref,
  NormFwdIdeal.Claims.frame_kernel, NormFwdIdeal.Claims.frame_ideal, NormFwdIdeal.Claims.frame_ref,
  NormBwdIdeal.Claims.frame_kernel, NormBwdIdeal.Claims.frame_ideal, NormBwdIdeal.Claims.frame_ref,
  LoraFwdIdeal.Claims.frame_kernel, LoraFwdIdeal.Claims.frame_ideal, LoraFwdIdeal.Claims.frame_ref,
  LoraBwdIdeal.Claims.frame_kernel, LoraBwdIdeal.Claims.frame_ideal, LoraBwdIdeal.Claims.frame_ref,
  SwigluFwdIdeal.Claims.frame_kernel, SwigluFwdIdeal.Claims.frame_ideal, SwigluFwdIdeal.Claims.frame_ref,
  SwigluBwdIdeal.Claims.frame_kernel, SwigluBwdIdeal.Claims.frame_ideal, SwigluBwdIdeal.Claims.frame_ref,
  MergeFwdIdeal.Claims.frame_kernel, MergeFwdIdeal.Claims.frame_ideal, MergeFwdIdeal.Claims.frame_ref,
  MergeBwdIdeal.Claims.frame_kernel, MergeBwdIdeal.Claims.frame_ideal, MergeBwdIdeal.Claims.frame_ref,
  LruOutFwdIdeal.Claims.frame_kernel, LruOutFwdIdeal.Claims.frame_ideal, LruOutFwdIdeal.Claims.frame_ref,
  LruOutBwdIdeal.Claims.frame_kernel, LruOutBwdIdeal.Claims.frame_ideal, LruOutBwdIdeal.Claims.frame_ref,
  GdnPreFwdIdeal.Claims.frame_kernel, GdnPreFwdIdeal.Claims.frame_ideal, GdnPreFwdIdeal.Claims.frame_ref,
  GdnPreBwdIdeal.Claims.frame_kernel, GdnPreBwdIdeal.Claims.frame_ideal, GdnPreBwdIdeal.Claims.frame_ref,
  GdnPostFwdIdeal.Claims.frame_kernel, GdnPostFwdIdeal.Claims.frame_ideal, GdnPostFwdIdeal.Claims.frame_ref,
  GdnPostBwdIdeal.Claims.frame_kernel, GdnPostBwdIdeal.Claims.frame_ideal, GdnPostBwdIdeal.Claims.frame_ref,
  AttKV.preserves, AttKV.algebraic, InFwdIdeal.Claims.algebraic, InDaIdeal.Claims.algebraic, InDwIdeal.Claims.algebraic,
  GateFwdIdeal.Claims.algebraic, GateDaIdeal.Claims.algebraic, GateDwIdeal.Claims.algebraic, DownFwdIdeal.Claims.algebraic,
  DownDaIdeal.Claims.algebraic, DownDwIdeal.Claims.algebraic, OutFwdIdeal.Claims.algebraic, OutDaIdeal.Claims.algebraic,
  OutDwIdeal.Claims.algebraic, BranchFwdIdeal.Claims.algebraic, BranchDaIdeal.Claims.algebraic,
  BranchDwIdeal.Claims.algebraic, UqFwdIdeal.Claims.algebraic, UqDaIdeal.Claims.algebraic, UqDwIdeal.Claims.algebraic,
  UkvFwdIdeal.Claims.algebraic, UkvDaIdeal.Claims.algebraic, UkvDwIdeal.Claims.algebraic, AdamInIdeal.Claims.algebraic,
  AdamUqIdeal.Claims.algebraic, AdamUkvIdeal.Claims.algebraic, AdamLruIdeal.Claims.algebraic, AdamGdnIdeal.Claims.algebraic,
  AdamBranchIdeal.Claims.algebraic, AdamBiasIdeal.Claims.algebraic, AdamOutIdeal.Claims.algebraic,
  AdamGateIdeal.Claims.algebraic, AdamDownIdeal.Claims.algebraic, AdamRepIdeal.Claims.algebraic,
  RepSumIdeal.Claims.algebraic, LossIdeal.Claims.algebraic, NormFwdIdeal.Claims.algebraic, NormBwdIdeal.Claims.algebraic,
  LoraFwdIdeal.Claims.algebraic, LoraBwdIdeal.Claims.algebraic, SwigluFwdIdeal.Claims.algebraic,
  SwigluBwdIdeal.Claims.algebraic, MergeFwdIdeal.Claims.algebraic, MergeBwdIdeal.Claims.algebraic,
  LruOutFwdIdeal.Claims.algebraic, LruOutBwdIdeal.Claims.algebraic, GdnPreFwdIdeal.Claims.algebraic,
  GdnPreBwdIdeal.Claims.algebraic, GdnPostFwdIdeal.Claims.algebraic, GdnPostBwdIdeal.Claims.algebraic⟩

end Cert.Proof

end
